-- ==== Defs.lean ====
def Pre_Kernel [hPre_half : Cert.Pre_half.Facts] (m : (ℓ : Loc Cert.Kernel.nD Cert.Kernel.τ Cert.Kernel.sig) → Buf (Elt Bits) ℓ) : Prop :=
  ∀ c : Dev Cert.Kernel.nD,
    (Cert.Pre_half.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_half : Cert.Pre_half.Facts] (m : (ℓ : Loc Cert.KernelIdeal.nD Cert.KernelIdeal.τ Cert.KernelIdeal.sig) → Buf (Elt Ideal) ℓ) : Prop :=
  ∀ c : Dev Cert.KernelIdeal.nD,
    (Cert.Pre_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_half : Cert.Pre_half.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_half : Cert.Pre_half.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![4096]⟩ ⟨1, ![8192]⟩ (Layout.meshBlock [2, 2] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![4096, 1024]⟩ ⟨2, ![8192, 1024]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_half : Cert.Pre_half.Facts) (hPre_routed_KernelIdeal : Cert.Pre_routed_KernelIdeal.Facts) (hPre_routed_ReferenceIdeal : Cert.Pre_routed_ReferenceIdeal.Facts),
    quiescent_Kernel (hKernel := hKernel) (hPre_half := hPre_half)
    ∧ quiescent_KernelIdeal (hKernelIdeal := hKernelIdeal) (hPre_half := hPre_half)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_half.lean ====
abbrev S4096x1024 : Shape := ⟨2, ![4096, 1024]⟩
abbrev S4096 : Shape := ⟨1, ![4096]⟩
abbrev S_ : Shape := ⟨0, ![]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel

variable [Facts]

def fn {F : FTy → Type} [FloatOps F] (main_arg0 : FVec F S4096x1024 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .eq main_arg1 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_c_1 : IVec S_ 32 := constantI S_ 32 2048#32
  let main_v4 : IVec S_ 1 := cmpi .eq main_v3 main_c_1
  main_v4
-- ==== Pre_routed_KernelIdeal.lean ====
abbrev S4096x1024 : Shape := ⟨2, ![4096, 1024]⟩
abbrev S4096 : Shape := ⟨1, ![4096]⟩
abbrev S_ : Shape := ⟨0, ![]⟩

class Facts : Prop where
  bcast_S_S4096 : S_.BroadcastsInDim S4096 (![] : Fin 0 → Fin S4096.rank)
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  reducesTo_S4096_S_d0 : S4096.ReducesTo [0] S_

variable [Facts]

def fn_cumsum_0 {F : FTy → Type} [FloatOps F] (arg0 : IVec S4096 32) : IVec S4096 32 :=
  let c : IVec S_ 32 := constantI S_ 32 0#32
  let v0 : IVec S_ 32 := broadcastInDim S_ ![] bcast_S_S_ c
  let v1 : IVec S4096 32 := (fun x v => Host.reduceWindow IntOp.addi ![4096] ![1] ![4095] ![0] x v reduceWindows_S4096_S4096_w4096s1p4095_0 h_S_) arg0 v0
  v1

def fn_cumsum {F : FTy → Type} [FloatOps F] (arg0 : IVec S4096 32) : IVec S4096 32 :=
  let v0 : IVec S4096 32 := fn_cumsum_0 (F := F) arg0
  v0

def fn_where {F : FTy → Type} [FloatOps F] (arg0 : IVec S4096 1) (arg1 : IVec S4096 32) (arg2 : IVec S4096 32) : IVec S4096 32 :=
  let v0 : IVec S4096 32 := select arg0 arg1 arg2
  v0

def fn_where_1 {F : FTy → Type} [FloatOps F] (arg0 : IVec S4096 1) (arg1 : IVec S_ 32) (arg2 : IVec S_ 32) : IVec S4096 32 :=
  let v0 : IVec S4096 32 := broadcastInDim S4096 ![] bcast_S_S4096 arg1
  let v1 : IVec S4096 32 := broadcastInDim S4096 ![] bcast_S_S4096 arg2
  let v2 : IVec S4096 32 := select arg0 v0 v1
  v2

def fn_where_2 {F : FTy → Type} [FloatOps F] (arg0 : IVec S4096 1) (arg1 : IVec S_ 32) (arg2 : IVec S4096 32) : IVec S4096 32 :=
  let v0 : IVec S4096 32 := broadcastInDim S4096 ![] bcast_S_S4096 arg1
  let v1 : IVec S4096 32 := select arg0 v0 arg2
  v1

def fn_part2 {F : FTy → Type} [FloatOps F] (main_v5 : IVec S4096 32) (main_v30 : IVec S4096 1) (main_v33 : IVec S4096 32) : IVec S4096 1 :=
  let main_v34 : IVec S4096 1 := cmpi .slt main_v5 main_v33
  let main_v35 : IVec S4096 1 := andi main_v30 main_v34
  main_v35

def fn_part1 {F : FTy → Type} [FloatOps F] (main_arg1 : IVec S4096 32) (main_v2 : IVec S4096 32) (main_v5 : IVec S4096 32) (main_v11 : IVec S4096 1) (main_v13 : IVec S4096 1) (main_v16 : IVec S4096 32) : IVec S4096 1 :=
  let main_c_6 : IVec S_ 32 := constantI S_ 32 768#32
  let main_v17 : IVec S4096 32 := fn_where_2 (F := F) main_v13 main_c_6 main_v16
  let main_c_7 : IVec S_ 32 := constantI S_ 32 0#32
  let main_v18 : IVec S4096 32 := fn_where_2 (F := F) main_v11 main_c_7 main_v17
  let main_c_8 : IVec S_ 32 := constantI S_ 32 0#32
  let main_v19 : IVec S4096 32 := broadcastInDim S4096 ![] bcast_S_S4096 main_c_8
  let main_v20 : IVec S4096 1 := cmpi .eq main_arg1 main_v19
  let main_c_9 : IVec S_ 32 := constantI S_ 32 1#32
  let main_v21 : IVec S4096 32 := broadcastInDim S4096 ![] bcast_S_S4096 main_c_9
  let main_v22 : IVec S4096 1 := cmpi .eq main_arg1 main_v21
  let main_v23 : IVec S4096 1 := ori main_v20 main_v22
  let main_c_10 : IVec S_ 32 := constantI S_ 32 0#32
  let main_v24 : IVec S_ 32 := (fun x v => Host.reduce IntOp.addi x v reducesTo_S4096_S_d0 h_S_) main_v2 main_c_10
  let main_c_11 : IVec S_ 32 := constantI S_ 32 2048#32
  let main_v25 : IVec S_ 1 := cmpi .eq main_v24 main_c_11
  let main_v26 : IVec S4096 1 := broadcastInDim S4096 ![] bcast_S_S4096 main_v25
  let main_v27 : IVec S4096 1 := andi main_v23 main_v26
  let main_v28 : IVec S4096 32 := id main_v18
  let main_v29 : IVec S4096 1 := cmpi .sle main_v28 main_v5
  let main_v30 : IVec S4096 1 := andi main_v27 main_v29
  let main_c_12 : IVec S_ 32 := constantI S_ 32 1536#32
  let main_v31 : IVec S4096 32 := broadcastInDim S4096 ![] bcast_S_S4096 main_c_12
  let main_v32 : IVec S4096 32 := addi main_v18 main_v31
  let main_v33 : IVec S4096 32 := id main_v32
  fn_part2 (F := F) main_v5 main_v30 main_v33

def fn {F : FTy → Type} [FloatOps F] (main_arg0 : FVec F S4096x1024 .f32) (main_arg1 : IVec S4096 32) : IVec S4096 1 :=
  let main_c : IVec S_ 32 := constantI S_ 32 0#32
  let main_v0 : IVec S4096 32 := broadcastInDim S4096 ![] bcast_S_S4096 main_c
  let main_v1 : IVec S4096 1 := cmpi .eq main_arg1 main_v0
  let main_v2 : IVec S4096 32 := (extui 32 · natLt_1_32) main_v1
  let main_v3 : IVec S4096 32 := fn_cumsum (F := F) main_v2
  let main_v4 : IVec S4096 32 := subi main_v3 main_v2
  let main_v5 : IVec S4096 32 := iotaInDim S4096 32 0
  let main_c_0 : IVec S_ 32 := constantI S_ 32 0#32
  let main_v6 : IVec S4096 32 := broadcastInDim S4096 ![] bcast_S_S4096 main_c_0
  let main_v7 : IVec S4096 1 := cmpi .eq main_arg1 main_v6
  let main_v8 : IVec S4096 32 := subi main_v5 main_v4
  let main_v9 : IVec S4096 32 := fn_where (F := F) main_v7 main_v4 main_v8
  let main_c_1 : IVec S_ 32 := constantI S_ 32 512#32
  let main_v10 : IVec S4096 32 := broadcastInDim S4096 ![] bcast_S_S4096 main_c_1
  let main_v11 : IVec S4096 1 := cmpi .slt main_v9 main_v10
  let main_c_2 : IVec S_ 32 := constantI S_ 32 1024#32
  let main_v12 : IVec S4096 32 := broadcastInDim S4096 ![] bcast_S_S4096 main_c_2
  let main_v13 : IVec S4096 1 := cmpi .slt main_v9 main_v12
  let main_c_3 : IVec S_ 32 := constantI S_ 32 1536#32
  let main_v14 : IVec S4096 32 := broadcastInDim S4096 ![] bcast_S_S4096 main_c_3
  let main_v15 : IVec S4096 1 := cmpi .slt main_v9 main_v14
  let main_c_4 : IVec S_ 32 := constantI S_ 32 1792#32
  let main_c_5 : IVec S_ 32 := constantI S_ 32 2560#32
  let main_v16 : IVec S4096 32 := fn_where_1 (F := F) main_v15 main_c_4 main_c_5
  fn_part1 (F := F) main_arg1 main_v2 main_v5 main_v11 main_v13 main_v16
-- ==== Pre_routed_ReferenceIdeal.lean ====
abbrev S8192x1024 : Shape := ⟨2, ![8192, 1024]⟩
abbrev S8192 : Shape := ⟨1, ![8192]⟩
abbrev S_ : Shape := ⟨0, ![]⟩

class Facts : Prop where
  bcast_S_S8192 : S_.BroadcastsInDim S8192 (![] : Fin 0 → Fin S8192.rank)
  natLt_1_32 : 1 < 32
  bcast_S_S_ : S_.BroadcastsInDim S_ (![] : Fin 0 → Fin S_.rank)
  reduceWindows_S8192_S8192_w8192s1p8191_0 : S8192.ReduceWindows (![8192] : Fin 1 → Nat) ![1] ![8191] ![0] S8192
  h_S_ : 0 < S_.numel
  reducesTo_S8192_S_d0 : S8192.ReducesTo [0] S_

variable [Facts]

def fn_cumsum_0 {F : FTy → Type} [FloatOps F] (arg0 : IVec S8192 32) : IVec S8192 32 :=
  let c : IVec S_ 32 := constantI S_ 32 0#32
  let v0 : IVec S_ 32 := broadcastInDim S_ ![] bcast_S_S_ c
  let v1 : IVec S8192 32 := (fun x v => Host.reduceWindow IntOp.addi ![8192] ![1] ![8191] ![0] x v reduceWindows_S8192_S8192_w8192s1p8191_0 h_S_) arg0 v0
  v1

def fn_cumsum {F : FTy → Type} [FloatOps F] (arg0 : IVec S8192 32) : IVec S8192 32 :=
  let v0 : IVec S8192 32 := fn_cumsum_0 (F := F) arg0
  v0

def fn_where {F : FTy → Type} [FloatOps F] (arg0 : IVec S8192 1) (arg1 : IVec S8192 32) (arg2 : IVec S8192 32) : IVec S8192 32 :=
  let v0 : IVec S8192 32 := select arg0 arg1 arg2
  v0

def fn_where_1 {F : FTy → Type} [FloatOps F] (arg0 : IVec S8192 1) (arg1 : IVec S_ 32) (arg2 : IVec S_ 32) : IVec S8192 32 :=
  let v0 : IVec S8192 32 := broadcastInDim S8192 ![] bcast_S_S8192 arg1
  let v1 : IVec S8192 32 := broadcastInDim S8192 ![] bcast_S_S8192 arg2
  let v2 : IVec S8192 32 := select arg0 v0 v1
  v2

def fn_where_2 {F : FTy → Type} [FloatOps F] (arg0 : IVec S8192 1) (arg1 : IVec S_ 32) (arg2 : IVec S8192 32) : IVec S8192 32 :=
  let v0 : IVec S8192 32 := broadcastInDim S8192 ![] bcast_S_S8192 arg1
  let v1 : IVec S8192 32 := select arg0 v0 arg2
  v1

def fn_part2 {F : FTy → Type} [FloatOps F] (main_v5 : IVec S8192 32) (main_v30 : IVec S8192 1) (main_v33 : IVec S8192 32) : IVec S8192 1 :=
  let main_v34 : IVec S8192 1 := cmpi .slt main_v5 main_v33
  let main_v35 : IVec S8192 1 := andi main_v30 main_v34
  main_v35

def fn_part1 {F : FTy → Type} [FloatOps F] (main_arg1 : IVec S8192 32) (main_v2 : IVec S8192 32) (main_v5 : IVec S8192 32) (main_v11 : IVec S8192 1) (main_v13 : IVec S8192 1) (main_v16 : IVec S8192 32) : IVec S8192 1 :=
  let main_c_6 : IVec S_ 32 := constantI S_ 32 768#32
  let main_v17 : IVec S8192 32 := fn_where_2 (F := F) main_v13 main_c_6 main_v16
  let main_c_7 : IVec S_ 32 := constantI S_ 32 0#32
  let main_v18 : IVec S8192 32 := fn_where_2 (F := F) main_v11 main_c_7 main_v17
  let main_c_8 : IVec S_ 32 := constantI S_ 32 0#32
  let main_v19 : IVec S8192 32 := broadcastInDim S8192 ![] bcast_S_S8192 main_c_8
  let main_v20 : IVec S8192 1 := cmpi .eq main_arg1 main_v19
  let main_c_9 : IVec S_ 32 := constantI S_ 32 1#32
  let main_v21 : IVec S8192 32 := broadcastInDim S8192 ![] bcast_S_S8192 main_c_9
  let main_v22 : IVec S8192 1 := cmpi .eq main_arg1 main_v21
  let main_v23 : IVec S8192 1 := ori main_v20 main_v22
  let main_c_10 : IVec S_ 32 := constantI S_ 32 0#32
  let main_v24 : IVec S_ 32 := (fun x v => Host.reduce IntOp.addi x v reducesTo_S8192_S_d0 h_S_) main_v2 main_c_10
  let main_c_11 : IVec S_ 32 := constantI S_ 32 2048#32
  let main_v25 : IVec S_ 1 := cmpi .eq main_v24 main_c_11
  let main_v26 : IVec S8192 1 := broadcastInDim S8192 ![] bcast_S_S8192 main_v25
  let main_v27 : IVec S8192 1 := andi main_v23 main_v26
  let main_v28 : IVec S8192 32 := id main_v18
  let main_v29 : IVec S8192 1 := cmpi .sle main_v28 main_v5
  let main_v30 : IVec S8192 1 := andi main_v27 main_v29
  let main_c_12 : IVec S_ 32 := constantI S_ 32 1536#32
  let main_v31 : IVec S8192 32 := broadcastInDim S8192 ![] bcast_S_S8192 main_c_12
  let main_v32 : IVec S8192 32 := addi main_v18 main_v31
  let main_v33 : IVec S8192 32 := id main_v32
  fn_part2 (F := F) main_v5 main_v30 main_v33

def fn {F : FTy → Type} [FloatOps F] (main_arg0 : FVec F S8192x1024 .f32) (main_arg1 : IVec S8192 32) : IVec S8192 1 :=
  let main_c : IVec S_ 32 := constantI S_ 32 0#32
  let main_v0 : IVec S8192 32 := broadcastInDim S8192 ![] bcast_S_S8192 main_c
  let main_v1 : IVec S8192 1 := cmpi .eq main_arg1 main_v0
  let main_v2 : IVec S8192 32 := (extui 32 · natLt_1_32) main_v1
  let main_v3 : IVec S8192 32 := fn_cumsum (F := F) main_v2
  let main_v4 : IVec S8192 32 := subi main_v3 main_v2
  let main_v5 : IVec S8192 32 := iotaInDim S8192 32 0
  let main_c_0 : IVec S_ 32 := constantI S_ 32 0#32
  let main_v6 : IVec S8192 32 := broadcastInDim S8192 ![] bcast_S_S8192 main_c_0
  let main_v7 : IVec S8192 1 := cmpi .eq main_arg1 main_v6
  let main_v8 : IVec S8192 32 := subi main_v5 main_v4
  let main_v9 : IVec S8192 32 := fn_where (F := F) main_v7 main_v4 main_v8
  let main_c_1 : IVec S_ 32 := constantI S_ 32 512#32
  let main_v10 : IVec S8192 32 := broadcastInDim S8192 ![] bcast_S_S8192 main_c_1
  let main_v11 : IVec S8192 1 := cmpi .slt main_v9 main_v10
  let main_c_2 : IVec S_ 32 := constantI S_ 32 1024#32
  let main_v12 : IVec S8192 32 := broadcastInDim S8192 ![] bcast_S_S8192 main_c_2
  let main_v13 : IVec S8192 1 := cmpi .slt main_v9 main_v12
  let main_c_3 : IVec S_ 32 := constantI S_ 32 1536#32
  let main_v14 : IVec S8192 32 := broadcastInDim S8192 ![] bcast_S_S8192 main_c_3
  let main_v15 : IVec S8192 1 := cmpi .slt main_v9 main_v14
  let main_c_4 : IVec S_ 32 := constantI S_ 32 1792#32
  let main_c_5 : IVec S_ 32 := constantI S_ 32 2560#32
  let main_v16 : IVec S8192 32 := fn_where_1 (F := F) main_v15 main_c_4 main_c_5
  fn_part1 (F := F) main_arg1 main_v2 main_v5 main_v11 main_v13 main_v16
-- ==== Kernel.lean ====
abbrev S4096x1024 : Shape := ⟨2, ![4096, 1024]⟩
abbrev S4096 : Shape := ⟨1, ![4096]⟩
abbrev S_ : Shape := ⟨0, ![]⟩
abbrev S1 : Shape := ⟨1, ![1]⟩
abbrev S1x4096 : Shape := ⟨2, ![1, 4096]⟩
abbrev S4096x8x128 : Shape := ⟨3, ![4096, 8, 128]⟩
abbrev S2560x8x128 : Shape := ⟨3, ![2560, 8, 128]⟩
abbrev S10 : Shape := ⟨1, ![10]⟩
abbrev S8 : Shape := ⟨1, ![8]⟩
abbrev S12 : Shape := ⟨1, ![12]⟩
abbrev S1536x1024 : Shape := ⟨2, ![1536, 1024]⟩
abbrev S1x1536 : Shape := ⟨2, ![1, 1536]⟩
abbrev S512x1 : Shape := ⟨2, ![512, 1]⟩
abbrev S512x1536 : Shape := ⟨2, ![512, 1536]⟩
abbrev S512x1024 : Shape := ⟨2, ![512, 1024]⟩
abbrev S512x128 : Shape := ⟨2, ![512, 128]⟩
abbrev S512x1x128 : Shape := ⟨3, ![512, 1, 128]⟩
abbrev S256x8x128 : Shape := ⟨3, ![256, 8, 128]⟩
abbrev S128x8x128 : Shape := ⟨3, ![128, 8, 128]⟩
abbrev S64x8x128 : Shape := ⟨3, ![64, 8, 128]⟩
abbrev S32x8x128 : Shape := ⟨3, ![32, 8, 128]⟩
abbrev S16x8x128 : Shape := ⟨3, ![16, 8, 128]⟩
abbrev S8x8x128 : Shape := ⟨3, ![8, 8, 128]⟩
abbrev S4x8x128 : Shape := ⟨3, ![4, 8, 128]⟩
abbrev S2x8x128 : Shape := ⟨3, ![2, 8, 128]⟩
abbrev S1x8x128 : Shape := ⟨3, ![1, 8, 128]⟩
abbrev S2048x8x128 : Shape := ⟨3, ![2048, 8, 128]⟩
abbrev S1024x8x128 : Shape := ⟨3, ![1024, 8, 128]⟩
abbrev S512x8x128 : Shape := ⟨3, ![512, 8, 128]⟩

abbrev nBuf : Space → Nat
  | .hbm => 17
  | .vmem => 5
  | .smem => 1
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S1x4096, .i32⟩
  | .hbm, ⟨14, _⟩ => ⟨S1x4096, .i32⟩
  | .hbm, ⟨15, _⟩ => ⟨S4096x8x128, .f32⟩
  | .hbm, ⟨16, _⟩ => ⟨S4096x1024, .f32⟩
  | .local _ .vmem, ⟨0, _⟩ => ⟨S4096x1024, .f32⟩
  | .local _ .vmem, ⟨1, _⟩ => ⟨S1x4096, .i32⟩
  | .local _ .vmem, ⟨2, _⟩ => ⟨S1x4096, .i32⟩
  | .local _ .vmem, ⟨3, _⟩ => ⟨S2560x8x128, .f32⟩
  | .local _ .vmem, ⟨4, _⟩ => ⟨S2560x8x128, .f32⟩
  | .local _ .smem, ⟨0, _⟩ => ⟨S1, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  (ofTc nBuf bufTy 1 88 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_call0_call0_c : Ref sig .tc := ⟨.hbm, 9, rfl⟩
abbrev main_call0_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v48 : BitVec 32 := Scalar.muli v2 c2_i32_24
  let v49 : BitVec 32 := Scalar.addi c0_i32_25 v48
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_26 : BitVec 32 := 1#32
  let v50 : BitVec 32 := Scalar.muli v6 c1_i32_26
  let v51 : BitVec 32 := Scalar.addi v49 v50
  v51.toNat
def k0_dev2 (d0 : Dev nD) : Nat :=
  let c0_i32_29 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_28 : BitVec 32 := 2#32
  let v52 : BitVec 32 := Scalar.muli v7 c2_i32_28
  let v53 : BitVec 32 := Scalar.addi c0_i32_29 v52
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_30 : BitVec 32 := 1#32
  let v54 : BitVec 32 := Scalar.muli v5 c1_i32_30
  let v55 : BitVec 32 := Scalar.addi v53 v54
  v55.toNat
def k0_off1 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c0_i32_1541 : BitVec 32 := 0#32
  let v2700 : BitVec 32 := Scalar.addi v14 c0_i32_1541
  let c0_i32_1547 : BitVec 32 := 0#32
  let c0_i32_1548 : BitVec 32 := 0#32
  ![v2700.toNat, 0, 0]
def k0_cond1 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_41 : BitVec 1 := 1#1
  let v76 : BitVec 1 := Scalar.xori v9 true_41
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_62 : BitVec 32 := 0#32
  let v122 : BitVec 1 := Scalar.cmpi .eq v2 c0_i32_62
  let v123 : BitVec 1 := Scalar.andi v76 v122
  let c4096_i32 : BitVec 32 := 4096#32
  let v10 : BitVec 32 := Scalar.subi c4096_i32 v8
  let v11 : BitVec 32 := Scalar.select v9 v10 v8
  let c256_i32_63 : BitVec 32 := 256#32
  let v124 : BitVec 1 := Scalar.cmpi .sge v11 c256_i32_63
  let v125 : BitVec 1 := Scalar.andi v123 v124
  let v126 : BitVec 32 := Scalar.extui v125
  let c0_i32_64 : BitVec 32 := 0#32
  let v127 : BitVec 1 := Scalar.cmpi .ne v126 c0_i32_64
  v127

def k0_dev3 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off2 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_1541 : BitVec 32 := 256#32
  let v2700 : BitVec 32 := Scalar.addi v14 c256_i32_1541
  let c0_i32_1547 : BitVec 32 := 0#32
  let c0_i32_1548 : BitVec 32 := 0#32
  ![v2700.toNat, 0, 0]
def k0_cond2 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_41 : BitVec 1 := 1#1
  let v76 : BitVec 1 := Scalar.xori v9 true_41
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_65 : BitVec 32 := 1#32
  let v128 : BitVec 1 := Scalar.cmpi .eq v2 c1_i32_65
  let v129 : BitVec 1 := Scalar.andi v76 v128
  let c4096_i32 : BitVec 32 := 4096#32
  let v10 : BitVec 32 := Scalar.subi c4096_i32 v8
  let v11 : BitVec 32 := Scalar.select v9 v10 v8
  let c512_i32 : BitVec 32 := 512#32
  let v130 : BitVec 1 := Scalar.cmpi .sge v11 c512_i32
  let v131 : BitVec 1 := Scalar.andi v129 v130
  let v132 : BitVec 32 := Scalar.extui v131
  let c0_i32_66 : BitVec 32 := 0#32
  let v133 : BitVec 1 := Scalar.cmpi .ne v132 c0_i32_66
  v133

def k0_dev4 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off3 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v137 : BitVec 32 := Scalar.addi v14 v46
  let c0_i32_1544 : BitVec 32 := 0#32
  let c0_i32_1545 : BitVec 32 := 0#32
  ![v137.toNat, 0, 0]
def k0_cond3 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_41 : BitVec 1 := 1#1
  let v76 : BitVec 1 := Scalar.xori v9 true_41
  let c4096_i32 : BitVec 32 := 4096#32
  let v10 : BitVec 32 := Scalar.subi c4096_i32 v8
  let v11 : BitVec 32 := Scalar.select v9 v10 v8
  let c512_i32_67 : BitVec 32 := 512#32
  let v134 : BitVec 1 := Scalar.cmpi .sle v11 c512_i32_67
  let c0_i32_68 : BitVec 32 := 0#32
  let v135 : BitVec 1 := Scalar.cmpi .sgt v11 c0_i32_68
  let v136 : BitVec 1 := Scalar.andi v134 v135
  let v159 : BitVec 1 := Scalar.andi v76 v136
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v160 : BitVec 1 := Scalar.cmpi .eq v2 v35
  let v161 : BitVec 1 := Scalar.andi v159 v160
  let c128_i32_70 : BitVec 32 := 128#32
  let v162 : BitVec 32 := Scalar.andi v11 c128_i32_70
  let c0_i32_71 : BitVec 32 := 0#32
  let v163 : BitVec 1 := Scalar.cmpi .ne v162 c0_i32_71
  let v164 : BitVec 1 := Scalar.andi v161 v163
  let v165 : BitVec 32 := Scalar.extui v164
  let c0_i32_74 : BitVec 32 := 0#32
  let v166 : BitVec 1 := Scalar.cmpi .ne v165 c0_i32_74
  v166

def k0_off4 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c0_i32_1546 : BitVec 32 := 0#32
  let c0_i32_1547 : BitVec 32 := 0#32
  ![v46.toNat, 0, 0]
def k0_dev5 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off5 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let v140 : BitVec 32 := Scalar.addi v14 v139
  let c0_i32_1544 : BitVec 32 := 0#32
  let c0_i32_1545 : BitVec 32 := 0#32
  ![v140.toNat, 0, 0]
def k0_cond4 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_41 : BitVec 1 := 1#1
  let v76 : BitVec 1 := Scalar.xori v9 true_41
  let c4096_i32 : BitVec 32 := 4096#32
  let v10 : BitVec 32 := Scalar.subi c4096_i32 v8
  let v11 : BitVec 32 := Scalar.select v9 v10 v8
  let c512_i32_67 : BitVec 32 := 512#32
  let v134 : BitVec 1 := Scalar.cmpi .sle v11 c512_i32_67
  let c0_i32_68 : BitVec 32 := 0#32
  let v135 : BitVec 1 := Scalar.cmpi .sgt v11 c0_i32_68
  let v136 : BitVec 1 := Scalar.andi v134 v135
  let v167 : BitVec 1 := Scalar.andi v76 v136
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v168 : BitVec 1 := Scalar.cmpi .eq v2 v35
  let v169 : BitVec 1 := Scalar.andi v167 v168
  let c64_i32_75 : BitVec 32 := 64#32
  let v170 : BitVec 32 := Scalar.andi v11 c64_i32_75
  let c0_i32_76 : BitVec 32 := 0#32
  let v171 : BitVec 1 := Scalar.cmpi .ne v170 c0_i32_76
  let v172 : BitVec 1 := Scalar.andi v169 v171
  let v173 : BitVec 32 := Scalar.extui v172
  let c0_i32_79 : BitVec 32 := 0#32
  let v174 : BitVec 1 := Scalar.cmpi .ne v173 c0_i32_79
  v174

def k0_off6 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c0_i32_1546 : BitVec 32 := 0#32
  let c0_i32_1547 : BitVec 32 := 0#32
  ![v139.toNat, 0, 0]
def k0_dev6 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off7 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c64_i32 : BitVec 32 := 64#32
  let v141 : BitVec 32 := Scalar.andi v11 c64_i32
  let v142 : BitVec 32 := Scalar.addi v139 v141
  let v143 : BitVec 32 := Scalar.addi v14 v142
  let c0_i32_1544 : BitVec 32 := 0#32
  let c0_i32_1545 : BitVec 32 := 0#32
  ![v143.toNat, 0, 0]
def k0_cond5 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_41 : BitVec 1 := 1#1
  let v76 : BitVec 1 := Scalar.xori v9 true_41
  let c4096_i32 : BitVec 32 := 4096#32
  let v10 : BitVec 32 := Scalar.subi c4096_i32 v8
  let v11 : BitVec 32 := Scalar.select v9 v10 v8
  let c512_i32_67 : BitVec 32 := 512#32
  let v134 : BitVec 1 := Scalar.cmpi .sle v11 c512_i32_67
  let c0_i32_68 : BitVec 32 := 0#32
  let v135 : BitVec 1 := Scalar.cmpi .sgt v11 c0_i32_68
  let v136 : BitVec 1 := Scalar.andi v134 v135
  let v175 : BitVec 1 := Scalar.andi v76 v136
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v176 : BitVec 1 := Scalar.cmpi .eq v2 v35
  let v177 : BitVec 1 := Scalar.andi v175 v176
  let c32_i32_80 : BitVec 32 := 32#32
  let v178 : BitVec 32 := Scalar.andi v11 c32_i32_80
  let c0_i32_81 : BitVec 32 := 0#32
  let v179 : BitVec 1 := Scalar.cmpi .ne v178 c0_i32_81
  let v180 : BitVec 1 := Scalar.andi v177 v179
  let v181 : BitVec 32 := Scalar.extui v180
  let c0_i32_84 : BitVec 32 := 0#32
  let v182 : BitVec 1 := Scalar.cmpi .ne v181 c0_i32_84
  v182

def k0_off8 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c64_i32 : BitVec 32 := 64#32
  let v141 : BitVec 32 := Scalar.andi v11 c64_i32
  let v142 : BitVec 32 := Scalar.addi v139 v141
  let c0_i32_1546 : BitVec 32 := 0#32
  let c0_i32_1547 : BitVec 32 := 0#32
  ![v142.toNat, 0, 0]
def k0_dev7 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off9 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c64_i32 : BitVec 32 := 64#32
  let v141 : BitVec 32 := Scalar.andi v11 c64_i32
  let v142 : BitVec 32 := Scalar.addi v139 v141
  let c32_i32 : BitVec 32 := 32#32
  let v144 : BitVec 32 := Scalar.andi v11 c32_i32
  let v145 : BitVec 32 := Scalar.addi v142 v144
  let v146 : BitVec 32 := Scalar.addi v14 v145
  let c0_i32_1544 : BitVec 32 := 0#32
  let c0_i32_1545 : BitVec 32 := 0#32
  ![v146.toNat, 0, 0]
def k0_cond6 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_41 : BitVec 1 := 1#1
  let v76 : BitVec 1 := Scalar.xori v9 true_41
  let c4096_i32 : BitVec 32 := 4096#32
  let v10 : BitVec 32 := Scalar.subi c4096_i32 v8
  let v11 : BitVec 32 := Scalar.select v9 v10 v8
  let c512_i32_67 : BitVec 32 := 512#32
  let v134 : BitVec 1 := Scalar.cmpi .sle v11 c512_i32_67
  let c0_i32_68 : BitVec 32 := 0#32
  let v135 : BitVec 1 := Scalar.cmpi .sgt v11 c0_i32_68
  let v136 : BitVec 1 := Scalar.andi v134 v135
  let v183 : BitVec 1 := Scalar.andi v76 v136
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v184 : BitVec 1 := Scalar.cmpi .eq v2 v35
  let v185 : BitVec 1 := Scalar.andi v183 v184
  let c16_i32_85 : BitVec 32 := 16#32
  let v186 : BitVec 32 := Scalar.andi v11 c16_i32_85
  let c0_i32_86 : BitVec 32 := 0#32
  let v187 : BitVec 1 := Scalar.cmpi .ne v186 c0_i32_86
  let v188 : BitVec 1 := Scalar.andi v185 v187
  let v189 : BitVec 32 := Scalar.extui v188
  let c0_i32_88 : BitVec 32 := 0#32
  let v190 : BitVec 1 := Scalar.cmpi .ne v189 c0_i32_88
  v190

def k0_off10 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c64_i32 : BitVec 32 := 64#32
  let v141 : BitVec 32 := Scalar.andi v11 c64_i32
  let v142 : BitVec 32 := Scalar.addi v139 v141
  let c32_i32 : BitVec 32 := 32#32
  let v144 : BitVec 32 := Scalar.andi v11 c32_i32
  let v145 : BitVec 32 := Scalar.addi v142 v144
  let c0_i32_1546 : BitVec 32 := 0#32
  let c0_i32_1547 : BitVec 32 := 0#32
  ![v145.toNat, 0, 0]
def k0_dev8 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off11 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c64_i32 : BitVec 32 := 64#32
  let v141 : BitVec 32 := Scalar.andi v11 c64_i32
  let v142 : BitVec 32 := Scalar.addi v139 v141
  let c32_i32 : BitVec 32 := 32#32
  let v144 : BitVec 32 := Scalar.andi v11 c32_i32
  let v145 : BitVec 32 := Scalar.addi v142 v144
  let c16_i32 : BitVec 32 := 16#32
  let v147 : BitVec 32 := Scalar.andi v11 c16_i32
  let v148 : BitVec 32 := Scalar.addi v145 v147
  let v149 : BitVec 32 := Scalar.addi v14 v148
  let c0_i32_1544 : BitVec 32 := 0#32
  let c0_i32_1545 : BitVec 32 := 0#32
  ![v149.toNat, 0, 0]
def k0_cond7 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_41 : BitVec 1 := 1#1
  let v76 : BitVec 1 := Scalar.xori v9 true_41
  let c4096_i32 : BitVec 32 := 4096#32
  let v10 : BitVec 32 := Scalar.subi c4096_i32 v8
  let v11 : BitVec 32 := Scalar.select v9 v10 v8
  let c512_i32_67 : BitVec 32 := 512#32
  let v134 : BitVec 1 := Scalar.cmpi .sle v11 c512_i32_67
  let c0_i32_68 : BitVec 32 := 0#32
  let v135 : BitVec 1 := Scalar.cmpi .sgt v11 c0_i32_68
  let v136 : BitVec 1 := Scalar.andi v134 v135
  let v191 : BitVec 1 := Scalar.andi v76 v136
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v192 : BitVec 1 := Scalar.cmpi .eq v2 v35
  let v193 : BitVec 1 := Scalar.andi v191 v192
  let c8_i32_89 : BitVec 32 := 8#32
  let v194 : BitVec 32 := Scalar.andi v11 c8_i32_89
  let c0_i32_90 : BitVec 32 := 0#32
  let v195 : BitVec 1 := Scalar.cmpi .ne v194 c0_i32_90
  let v196 : BitVec 1 := Scalar.andi v193 v195
  let v197 : BitVec 32 := Scalar.extui v196
  let c0_i32_93 : BitVec 32 := 0#32
  let v198 : BitVec 1 := Scalar.cmpi .ne v197 c0_i32_93
  v198

def k0_off12 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c64_i32 : BitVec 32 := 64#32
  let v141 : BitVec 32 := Scalar.andi v11 c64_i32
  let v142 : BitVec 32 := Scalar.addi v139 v141
  let c32_i32 : BitVec 32 := 32#32
  let v144 : BitVec 32 := Scalar.andi v11 c32_i32
  let v145 : BitVec 32 := Scalar.addi v142 v144
  let c16_i32 : BitVec 32 := 16#32
  let v147 : BitVec 32 := Scalar.andi v11 c16_i32
  let v148 : BitVec 32 := Scalar.addi v145 v147
  let c0_i32_1546 : BitVec 32 := 0#32
  let c0_i32_1547 : BitVec 32 := 0#32
  ![v148.toNat, 0, 0]
def k0_dev9 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off13 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c64_i32 : BitVec 32 := 64#32
  let v141 : BitVec 32 := Scalar.andi v11 c64_i32
  let v142 : BitVec 32 := Scalar.addi v139 v141
  let c32_i32 : BitVec 32 := 32#32
  let v144 : BitVec 32 := Scalar.andi v11 c32_i32
  let v145 : BitVec 32 := Scalar.addi v142 v144
  let c16_i32 : BitVec 32 := 16#32
  let v147 : BitVec 32 := Scalar.andi v11 c16_i32
  let v148 : BitVec 32 := Scalar.addi v145 v147
  let c8_i32 : BitVec 32 := 8#32
  let v150 : BitVec 32 := Scalar.andi v11 c8_i32
  let v151 : BitVec 32 := Scalar.addi v148 v150
  let v152 : BitVec 32 := Scalar.addi v14 v151
  let c0_i32_1544 : BitVec 32 := 0#32
  let c0_i32_1545 : BitVec 32 := 0#32
  ![v152.toNat, 0, 0]
def k0_cond8 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_41 : BitVec 1 := 1#1
  let v76 : BitVec 1 := Scalar.xori v9 true_41
  let c4096_i32 : BitVec 32 := 4096#32
  let v10 : BitVec 32 := Scalar.subi c4096_i32 v8
  let v11 : BitVec 32 := Scalar.select v9 v10 v8
  let c512_i32_67 : BitVec 32 := 512#32
  let v134 : BitVec 1 := Scalar.cmpi .sle v11 c512_i32_67
  let c0_i32_68 : BitVec 32 := 0#32
  let v135 : BitVec 1 := Scalar.cmpi .sgt v11 c0_i32_68
  let v136 : BitVec 1 := Scalar.andi v134 v135
  let v199 : BitVec 1 := Scalar.andi v76 v136
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v200 : BitVec 1 := Scalar.cmpi .eq v2 v35
  let v201 : BitVec 1 := Scalar.andi v199 v200
  let c4_i32_94 : BitVec 32 := 4#32
  let v202 : BitVec 32 := Scalar.andi v11 c4_i32_94
  let c0_i32_95 : BitVec 32 := 0#32
  let v203 : BitVec 1 := Scalar.cmpi .ne v202 c0_i32_95
  let v204 : BitVec 1 := Scalar.andi v201 v203
  let v205 : BitVec 32 := Scalar.extui v204
  let c0_i32_97 : BitVec 32 := 0#32
  let v206 : BitVec 1 := Scalar.cmpi .ne v205 c0_i32_97
  v206

def k0_off14 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c64_i32 : BitVec 32 := 64#32
  let v141 : BitVec 32 := Scalar.andi v11 c64_i32
  let v142 : BitVec 32 := Scalar.addi v139 v141
  let c32_i32 : BitVec 32 := 32#32
  let v144 : BitVec 32 := Scalar.andi v11 c32_i32
  let v145 : BitVec 32 := Scalar.addi v142 v144
  let c16_i32 : BitVec 32 := 16#32
  let v147 : BitVec 32 := Scalar.andi v11 c16_i32
  let v148 : BitVec 32 := Scalar.addi v145 v147
  let c8_i32 : BitVec 32 := 8#32
  let v150 : BitVec 32 := Scalar.andi v11 c8_i32
  let v151 : BitVec 32 := Scalar.addi v148 v150
  let c0_i32_1546 : BitVec 32 := 0#32
  let c0_i32_1547 : BitVec 32 := 0#32
  ![v151.toNat, 0, 0]
def k0_dev10 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off15 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c64_i32 : BitVec 32 := 64#32
  let v141 : BitVec 32 := Scalar.andi v11 c64_i32
  let v142 : BitVec 32 := Scalar.addi v139 v141
  let c32_i32 : BitVec 32 := 32#32
  let v144 : BitVec 32 := Scalar.andi v11 c32_i32
  let v145 : BitVec 32 := Scalar.addi v142 v144
  let c16_i32 : BitVec 32 := 16#32
  let v147 : BitVec 32 := Scalar.andi v11 c16_i32
  let v148 : BitVec 32 := Scalar.addi v145 v147
  let c8_i32 : BitVec 32 := 8#32
  let v150 : BitVec 32 := Scalar.andi v11 c8_i32
  let v151 : BitVec 32 := Scalar.addi v148 v150
  let c4_i32 : BitVec 32 := 4#32
  let v153 : BitVec 32 := Scalar.andi v11 c4_i32
  let v154 : BitVec 32 := Scalar.addi v151 v153
  let v155 : BitVec 32 := Scalar.addi v14 v154
  let c0_i32_1544 : BitVec 32 := 0#32
  let c0_i32_1545 : BitVec 32 := 0#32
  ![v155.toNat, 0, 0]
def k0_cond9 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_41 : BitVec 1 := 1#1
  let v76 : BitVec 1 := Scalar.xori v9 true_41
  let c4096_i32 : BitVec 32 := 4096#32
  let v10 : BitVec 32 := Scalar.subi c4096_i32 v8
  let v11 : BitVec 32 := Scalar.select v9 v10 v8
  let c512_i32_67 : BitVec 32 := 512#32
  let v134 : BitVec 1 := Scalar.cmpi .sle v11 c512_i32_67
  let c0_i32_68 : BitVec 32 := 0#32
  let v135 : BitVec 1 := Scalar.cmpi .sgt v11 c0_i32_68
  let v136 : BitVec 1 := Scalar.andi v134 v135
  let v207 : BitVec 1 := Scalar.andi v76 v136
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v208 : BitVec 1 := Scalar.cmpi .eq v2 v35
  let v209 : BitVec 1 := Scalar.andi v207 v208
  let c2_i32_98 : BitVec 32 := 2#32
  let v210 : BitVec 32 := Scalar.andi v11 c2_i32_98
  let c0_i32_99 : BitVec 32 := 0#32
  let v211 : BitVec 1 := Scalar.cmpi .ne v210 c0_i32_99
  let v212 : BitVec 1 := Scalar.andi v209 v211
  let v213 : BitVec 32 := Scalar.extui v212
  let c0_i32_101 : BitVec 32 := 0#32
  let v214 : BitVec 1 := Scalar.cmpi .ne v213 c0_i32_101
  v214

def k0_off16 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c64_i32 : BitVec 32 := 64#32
  let v141 : BitVec 32 := Scalar.andi v11 c64_i32
  let v142 : BitVec 32 := Scalar.addi v139 v141
  let c32_i32 : BitVec 32 := 32#32
  let v144 : BitVec 32 := Scalar.andi v11 c32_i32
  let v145 : BitVec 32 := Scalar.addi v142 v144
  let c16_i32 : BitVec 32 := 16#32
  let v147 : BitVec 32 := Scalar.andi v11 c16_i32
  let v148 : BitVec 32 := Scalar.addi v145 v147
  let c8_i32 : BitVec 32 := 8#32
  let v150 : BitVec 32 := Scalar.andi v11 c8_i32
  let v151 : BitVec 32 := Scalar.addi v148 v150
  let c4_i32 : BitVec 32 := 4#32
  let v153 : BitVec 32 := Scalar.andi v11 c4_i32
  let v154 : BitVec 32 := Scalar.addi v151 v153
  let c0_i32_1546 : BitVec 32 := 0#32
  let c0_i32_1547 : BitVec 32 := 0#32
  ![v154.toNat, 0, 0]
def k0_dev11 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off17 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c64_i32 : BitVec 32 := 64#32
  let v141 : BitVec 32 := Scalar.andi v11 c64_i32
  let v142 : BitVec 32 := Scalar.addi v139 v141
  let c32_i32 : BitVec 32 := 32#32
  let v144 : BitVec 32 := Scalar.andi v11 c32_i32
  let v145 : BitVec 32 := Scalar.addi v142 v144
  let c16_i32 : BitVec 32 := 16#32
  let v147 : BitVec 32 := Scalar.andi v11 c16_i32
  let v148 : BitVec 32 := Scalar.addi v145 v147
  let c8_i32 : BitVec 32 := 8#32
  let v150 : BitVec 32 := Scalar.andi v11 c8_i32
  let v151 : BitVec 32 := Scalar.addi v148 v150
  let c4_i32 : BitVec 32 := 4#32
  let v153 : BitVec 32 := Scalar.andi v11 c4_i32
  let v154 : BitVec 32 := Scalar.addi v151 v153
  let c2_i32_69 : BitVec 32 := 2#32
  let v156 : BitVec 32 := Scalar.andi v11 c2_i32_69
  let v157 : BitVec 32 := Scalar.addi v154 v156
  let v158 : BitVec 32 := Scalar.addi v14 v157
  let c0_i32_1544 : BitVec 32 := 0#32
  let c0_i32_1545 : BitVec 32 := 0#32
  ![v158.toNat, 0, 0]
def k0_cond10 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_41 : BitVec 1 := 1#1
  let v76 : BitVec 1 := Scalar.xori v9 true_41
  let c4096_i32 : BitVec 32 := 4096#32
  let v10 : BitVec 32 := Scalar.subi c4096_i32 v8
  let v11 : BitVec 32 := Scalar.select v9 v10 v8
  let c512_i32_67 : BitVec 32 := 512#32
  let v134 : BitVec 1 := Scalar.cmpi .sle v11 c512_i32_67
  let c0_i32_68 : BitVec 32 := 0#32
  let v135 : BitVec 1 := Scalar.cmpi .sgt v11 c0_i32_68
  let v136 : BitVec 1 := Scalar.andi v134 v135
  let v215 : BitVec 1 := Scalar.andi v76 v136
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v216 : BitVec 1 := Scalar.cmpi .eq v2 v35
  let v217 : BitVec 1 := Scalar.andi v215 v216
  let c1_i32_102 : BitVec 32 := 1#32
  let v218 : BitVec 32 := Scalar.andi v11 c1_i32_102
  let c0_i32_103 : BitVec 32 := 0#32
  let v219 : BitVec 1 := Scalar.cmpi .ne v218 c0_i32_103
  let v220 : BitVec 1 := Scalar.andi v217 v219
  let v221 : BitVec 32 := Scalar.extui v220
  let c0_i32_105 : BitVec 32 := 0#32
  let v222 : BitVec 1 := Scalar.cmpi .ne v221 c0_i32_105
  v222

def k0_off18 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32 : BitVec 32 := 128#32
  let v138 : BitVec 32 := Scalar.andi v11 c128_i32
  let v139 : BitVec 32 := Scalar.addi v46 v138
  let c64_i32 : BitVec 32 := 64#32
  let v141 : BitVec 32 := Scalar.andi v11 c64_i32
  let v142 : BitVec 32 := Scalar.addi v139 v141
  let c32_i32 : BitVec 32 := 32#32
  let v144 : BitVec 32 := Scalar.andi v11 c32_i32
  let v145 : BitVec 32 := Scalar.addi v142 v144
  let c16_i32 : BitVec 32 := 16#32
  let v147 : BitVec 32 := Scalar.andi v11 c16_i32
  let v148 : BitVec 32 := Scalar.addi v145 v147
  let c8_i32 : BitVec 32 := 8#32
  let v150 : BitVec 32 := Scalar.andi v11 c8_i32
  let v151 : BitVec 32 := Scalar.addi v148 v150
  let c4_i32 : BitVec 32 := 4#32
  let v153 : BitVec 32 := Scalar.andi v11 c4_i32
  let v154 : BitVec 32 := Scalar.addi v151 v153
  let c2_i32_69 : BitVec 32 := 2#32
  let v156 : BitVec 32 := Scalar.andi v11 c2_i32_69
  let v157 : BitVec 32 := Scalar.addi v154 v156
  let c0_i32_1546 : BitVec 32 := 0#32
  let c0_i32_1547 : BitVec 32 := 0#32
  ![v157.toNat, 0, 0]
def k0_dev12 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off19 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c0_i32_1541 : BitVec 32 := 0#32
  let v2700 : BitVec 32 := Scalar.addi v14 c0_i32_1541
  let c0_i32_1547 : BitVec 32 := 0#32
  let c0_i32_1548 : BitVec 32 := 0#32
  ![v2700.toNat, 0, 0]
def k0_cond11 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_133 : BitVec 32 := 0#32
  let v260 : BitVec 1 := Scalar.cmpi .eq v2 c0_i32_133
  let v261 : BitVec 1 := Scalar.andi v9 v260
  let c4096_i32 : BitVec 32 := 4096#32
  let v10 : BitVec 32 := Scalar.subi c4096_i32 v8
  let v11 : BitVec 32 := Scalar.select v9 v10 v8
  let c256_i32_134 : BitVec 32 := 256#32
  let v262 : BitVec 1 := Scalar.cmpi .sge v11 c256_i32_134
  let v263 : BitVec 1 := Scalar.andi v261 v262
  let v264 : BitVec 32 := Scalar.extui v263
  let c0_i32_135 : BitVec 32 := 0#32
  let v265 : BitVec 1 := Scalar.cmpi .ne v264 c0_i32_135
  v265

def k0_dev13 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off20 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_1541 : BitVec 32 := 256#32
  let v2700 : BitVec 32 := Scalar.addi v14 c256_i32_1541
  let c0_i32_1547 : BitVec 32 := 0#32
  let c0_i32_1548 : BitVec 32 := 0#32
  ![v2700.toNat, 0, 0]
def k0_cond12 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_136 : BitVec 32 := 1#32
  let v266 : BitVec 1 := Scalar.cmpi .eq v2 c1_i32_136
  let v267 : BitVec 1 := Scalar.andi v9 v266
  let c4096_i32 : BitVec 32 := 4096#32
  let v10 : BitVec 32 := Scalar.subi c4096_i32 v8
  let v11 : BitVec 32 := Scalar.select v9 v10 v8
  let c512_i32_137 : BitVec 32 := 512#32
  let v268 : BitVec 1 := Scalar.cmpi .sge v11 c512_i32_137
  let v269 : BitVec 1 := Scalar.andi v267 v268
  let v270 : BitVec 32 := Scalar.extui v269
  let c0_i32_138 : BitVec 32 := 0#32
  let v271 : BitVec 1 := Scalar.cmpi .ne v270 c0_i32_138
  v271

def k0_dev14 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off21 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v275 : BitVec 32 := Scalar.addi v14 v46
  let c0_i32_1544 : BitVec 32 := 0#32
  let c0_i32_1545 : BitVec 32 := 0#32
  ![v275.toNat, 0, 0]
def k0_cond13 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c512_i32_139 : BitVec 32 := 512#32
  let v272 : BitVec 1 := Scalar.cmpi .sle v11 c512_i32_139
  let c0_i32_140 : BitVec 32 := 0#32
  let v273 : BitVec 1 := Scalar.cmpi .sgt v11 c0_i32_140
  let v274 : BitVec 1 := Scalar.andi v272 v273
  let v297 : BitVec 1 := Scalar.andi v9 v274
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v298 : BitVec 1 := Scalar.cmpi .eq v2 v35
  let v299 : BitVec 1 := Scalar.andi v297 v298
  let c128_i32_148 : BitVec 32 := 128#32
  let v300 : BitVec 32 := Scalar.andi v11 c128_i32_148
  let c0_i32_149 : BitVec 32 := 0#32
  let v301 : BitVec 1 := Scalar.cmpi .ne v300 c0_i32_149
  let v302 : BitVec 1 := Scalar.andi v299 v301
  let v303 : BitVec 32 := Scalar.extui v302
  let c0_i32_152 : BitVec 32 := 0#32
  let v304 : BitVec 1 := Scalar.cmpi .ne v303 c0_i32_152
  v304

def k0_off22 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c0_i32_1546 : BitVec 32 := 0#32
  let c0_i32_1547 : BitVec 32 := 0#32
  ![v46.toNat, 0, 0]
def k0_dev15 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off23 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let v278 : BitVec 32 := Scalar.addi v14 v277
  let c0_i32_1544 : BitVec 32 := 0#32
  let c0_i32_1545 : BitVec 32 := 0#32
  ![v278.toNat, 0, 0]
def k0_cond14 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c512_i32_139 : BitVec 32 := 512#32
  let v272 : BitVec 1 := Scalar.cmpi .sle v11 c512_i32_139
  let c0_i32_140 : BitVec 32 := 0#32
  let v273 : BitVec 1 := Scalar.cmpi .sgt v11 c0_i32_140
  let v274 : BitVec 1 := Scalar.andi v272 v273
  let v305 : BitVec 1 := Scalar.andi v9 v274
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v306 : BitVec 1 := Scalar.cmpi .eq v2 v35
  let v307 : BitVec 1 := Scalar.andi v305 v306
  let c64_i32_153 : BitVec 32 := 64#32
  let v308 : BitVec 32 := Scalar.andi v11 c64_i32_153
  let c0_i32_154 : BitVec 32 := 0#32
  let v309 : BitVec 1 := Scalar.cmpi .ne v308 c0_i32_154
  let v310 : BitVec 1 := Scalar.andi v307 v309
  let v311 : BitVec 32 := Scalar.extui v310
  let c0_i32_157 : BitVec 32 := 0#32
  let v312 : BitVec 1 := Scalar.cmpi .ne v311 c0_i32_157
  v312

def k0_off24 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c0_i32_1546 : BitVec 32 := 0#32
  let c0_i32_1547 : BitVec 32 := 0#32
  ![v277.toNat, 0, 0]
def k0_dev16 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off25 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c64_i32_142 : BitVec 32 := 64#32
  let v279 : BitVec 32 := Scalar.andi v11 c64_i32_142
  let v280 : BitVec 32 := Scalar.addi v277 v279
  let v281 : BitVec 32 := Scalar.addi v14 v280
  let c0_i32_1544 : BitVec 32 := 0#32
  let c0_i32_1545 : BitVec 32 := 0#32
  ![v281.toNat, 0, 0]
def k0_cond15 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c512_i32_139 : BitVec 32 := 512#32
  let v272 : BitVec 1 := Scalar.cmpi .sle v11 c512_i32_139
  let c0_i32_140 : BitVec 32 := 0#32
  let v273 : BitVec 1 := Scalar.cmpi .sgt v11 c0_i32_140
  let v274 : BitVec 1 := Scalar.andi v272 v273
  let v313 : BitVec 1 := Scalar.andi v9 v274
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v314 : BitVec 1 := Scalar.cmpi .eq v2 v35
  let v315 : BitVec 1 := Scalar.andi v313 v314
  let c32_i32_158 : BitVec 32 := 32#32
  let v316 : BitVec 32 := Scalar.andi v11 c32_i32_158
  let c0_i32_159 : BitVec 32 := 0#32
  let v317 : BitVec 1 := Scalar.cmpi .ne v316 c0_i32_159
  let v318 : BitVec 1 := Scalar.andi v315 v317
  let v319 : BitVec 32 := Scalar.extui v318
  let c0_i32_162 : BitVec 32 := 0#32
  let v320 : BitVec 1 := Scalar.cmpi .ne v319 c0_i32_162
  v320

def k0_off26 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c64_i32_142 : BitVec 32 := 64#32
  let v279 : BitVec 32 := Scalar.andi v11 c64_i32_142
  let v280 : BitVec 32 := Scalar.addi v277 v279
  let c0_i32_1546 : BitVec 32 := 0#32
  let c0_i32_1547 : BitVec 32 := 0#32
  ![v280.toNat, 0, 0]
def k0_dev17 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off27 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c64_i32_142 : BitVec 32 := 64#32
  let v279 : BitVec 32 := Scalar.andi v11 c64_i32_142
  let v280 : BitVec 32 := Scalar.addi v277 v279
  let c32_i32_143 : BitVec 32 := 32#32
  let v282 : BitVec 32 := Scalar.andi v11 c32_i32_143
  let v283 : BitVec 32 := Scalar.addi v280 v282
  let v284 : BitVec 32 := Scalar.addi v14 v283
  let c0_i32_1544 : BitVec 32 := 0#32
  let c0_i32_1545 : BitVec 32 := 0#32
  ![v284.toNat, 0, 0]
def k0_cond16 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c512_i32_139 : BitVec 32 := 512#32
  let v272 : BitVec 1 := Scalar.cmpi .sle v11 c512_i32_139
  let c0_i32_140 : BitVec 32 := 0#32
  let v273 : BitVec 1 := Scalar.cmpi .sgt v11 c0_i32_140
  let v274 : BitVec 1 := Scalar.andi v272 v273
  let v321 : BitVec 1 := Scalar.andi v9 v274
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v322 : BitVec 1 := Scalar.cmpi .eq v2 v35
  let v323 : BitVec 1 := Scalar.andi v321 v322
  let c16_i32_163 : BitVec 32 := 16#32
  let v324 : BitVec 32 := Scalar.andi v11 c16_i32_163
  let c0_i32_164 : BitVec 32 := 0#32
  let v325 : BitVec 1 := Scalar.cmpi .ne v324 c0_i32_164
  let v326 : BitVec 1 := Scalar.andi v323 v325
  let v327 : BitVec 32 := Scalar.extui v326
  let c0_i32_167 : BitVec 32 := 0#32
  let v328 : BitVec 1 := Scalar.cmpi .ne v327 c0_i32_167
  v328

def k0_off28 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c64_i32_142 : BitVec 32 := 64#32
  let v279 : BitVec 32 := Scalar.andi v11 c64_i32_142
  let v280 : BitVec 32 := Scalar.addi v277 v279
  let c32_i32_143 : BitVec 32 := 32#32
  let v282 : BitVec 32 := Scalar.andi v11 c32_i32_143
  let v283 : BitVec 32 := Scalar.addi v280 v282
  let c0_i32_1546 : BitVec 32 := 0#32
  let c0_i32_1547 : BitVec 32 := 0#32
  ![v283.toNat, 0, 0]
def k0_dev18 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off29 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c64_i32_142 : BitVec 32 := 64#32
  let v279 : BitVec 32 := Scalar.andi v11 c64_i32_142
  let v280 : BitVec 32 := Scalar.addi v277 v279
  let c32_i32_143 : BitVec 32 := 32#32
  let v282 : BitVec 32 := Scalar.andi v11 c32_i32_143
  let v283 : BitVec 32 := Scalar.addi v280 v282
  let c16_i32_144 : BitVec 32 := 16#32
  let v285 : BitVec 32 := Scalar.andi v11 c16_i32_144
  let v286 : BitVec 32 := Scalar.addi v283 v285
  let v287 : BitVec 32 := Scalar.addi v14 v286
  let c0_i32_1544 : BitVec 32 := 0#32
  let c0_i32_1545 : BitVec 32 := 0#32
  ![v287.toNat, 0, 0]
def k0_cond17 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c512_i32_139 : BitVec 32 := 512#32
  let v272 : BitVec 1 := Scalar.cmpi .sle v11 c512_i32_139
  let c0_i32_140 : BitVec 32 := 0#32
  let v273 : BitVec 1 := Scalar.cmpi .sgt v11 c0_i32_140
  let v274 : BitVec 1 := Scalar.andi v272 v273
  let v329 : BitVec 1 := Scalar.andi v9 v274
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v330 : BitVec 1 := Scalar.cmpi .eq v2 v35
  let v331 : BitVec 1 := Scalar.andi v329 v330
  let c8_i32_168 : BitVec 32 := 8#32
  let v332 : BitVec 32 := Scalar.andi v11 c8_i32_168
  let c0_i32_169 : BitVec 32 := 0#32
  let v333 : BitVec 1 := Scalar.cmpi .ne v332 c0_i32_169
  let v334 : BitVec 1 := Scalar.andi v331 v333
  let v335 : BitVec 32 := Scalar.extui v334
  let c0_i32_172 : BitVec 32 := 0#32
  let v336 : BitVec 1 := Scalar.cmpi .ne v335 c0_i32_172
  v336

def k0_off30 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c64_i32_142 : BitVec 32 := 64#32
  let v279 : BitVec 32 := Scalar.andi v11 c64_i32_142
  let v280 : BitVec 32 := Scalar.addi v277 v279
  let c32_i32_143 : BitVec 32 := 32#32
  let v282 : BitVec 32 := Scalar.andi v11 c32_i32_143
  let v283 : BitVec 32 := Scalar.addi v280 v282
  let c16_i32_144 : BitVec 32 := 16#32
  let v285 : BitVec 32 := Scalar.andi v11 c16_i32_144
  let v286 : BitVec 32 := Scalar.addi v283 v285
  let c0_i32_1546 : BitVec 32 := 0#32
  let c0_i32_1547 : BitVec 32 := 0#32
  ![v286.toNat, 0, 0]
def k0_dev19 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off31 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c64_i32_142 : BitVec 32 := 64#32
  let v279 : BitVec 32 := Scalar.andi v11 c64_i32_142
  let v280 : BitVec 32 := Scalar.addi v277 v279
  let c32_i32_143 : BitVec 32 := 32#32
  let v282 : BitVec 32 := Scalar.andi v11 c32_i32_143
  let v283 : BitVec 32 := Scalar.addi v280 v282
  let c16_i32_144 : BitVec 32 := 16#32
  let v285 : BitVec 32 := Scalar.andi v11 c16_i32_144
  let v286 : BitVec 32 := Scalar.addi v283 v285
  let c8_i32_145 : BitVec 32 := 8#32
  let v288 : BitVec 32 := Scalar.andi v11 c8_i32_145
  let v289 : BitVec 32 := Scalar.addi v286 v288
  let v290 : BitVec 32 := Scalar.addi v14 v289
  let c0_i32_1544 : BitVec 32 := 0#32
  let c0_i32_1545 : BitVec 32 := 0#32
  ![v290.toNat, 0, 0]
def k0_cond18 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c512_i32_139 : BitVec 32 := 512#32
  let v272 : BitVec 1 := Scalar.cmpi .sle v11 c512_i32_139
  let c0_i32_140 : BitVec 32 := 0#32
  let v273 : BitVec 1 := Scalar.cmpi .sgt v11 c0_i32_140
  let v274 : BitVec 1 := Scalar.andi v272 v273
  let v337 : BitVec 1 := Scalar.andi v9 v274
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v338 : BitVec 1 := Scalar.cmpi .eq v2 v35
  let v339 : BitVec 1 := Scalar.andi v337 v338
  let c4_i32_173 : BitVec 32 := 4#32
  let v340 : BitVec 32 := Scalar.andi v11 c4_i32_173
  let c0_i32_174 : BitVec 32 := 0#32
  let v341 : BitVec 1 := Scalar.cmpi .ne v340 c0_i32_174
  let v342 : BitVec 1 := Scalar.andi v339 v341
  let v343 : BitVec 32 := Scalar.extui v342
  let c0_i32_177 : BitVec 32 := 0#32
  let v344 : BitVec 1 := Scalar.cmpi .ne v343 c0_i32_177
  v344

def k0_off32 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c64_i32_142 : BitVec 32 := 64#32
  let v279 : BitVec 32 := Scalar.andi v11 c64_i32_142
  let v280 : BitVec 32 := Scalar.addi v277 v279
  let c32_i32_143 : BitVec 32 := 32#32
  let v282 : BitVec 32 := Scalar.andi v11 c32_i32_143
  let v283 : BitVec 32 := Scalar.addi v280 v282
  let c16_i32_144 : BitVec 32 := 16#32
  let v285 : BitVec 32 := Scalar.andi v11 c16_i32_144
  let v286 : BitVec 32 := Scalar.addi v283 v285
  let c8_i32_145 : BitVec 32 := 8#32
  let v288 : BitVec 32 := Scalar.andi v11 c8_i32_145
  let v289 : BitVec 32 := Scalar.addi v286 v288
  let c0_i32_1546 : BitVec 32 := 0#32
  let c0_i32_1547 : BitVec 32 := 0#32
  ![v289.toNat, 0, 0]
def k0_dev20 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off33 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c64_i32_142 : BitVec 32 := 64#32
  let v279 : BitVec 32 := Scalar.andi v11 c64_i32_142
  let v280 : BitVec 32 := Scalar.addi v277 v279
  let c32_i32_143 : BitVec 32 := 32#32
  let v282 : BitVec 32 := Scalar.andi v11 c32_i32_143
  let v283 : BitVec 32 := Scalar.addi v280 v282
  let c16_i32_144 : BitVec 32 := 16#32
  let v285 : BitVec 32 := Scalar.andi v11 c16_i32_144
  let v286 : BitVec 32 := Scalar.addi v283 v285
  let c8_i32_145 : BitVec 32 := 8#32
  let v288 : BitVec 32 := Scalar.andi v11 c8_i32_145
  let v289 : BitVec 32 := Scalar.addi v286 v288
  let c4_i32_146 : BitVec 32 := 4#32
  let v291 : BitVec 32 := Scalar.andi v11 c4_i32_146
  let v292 : BitVec 32 := Scalar.addi v289 v291
  let v293 : BitVec 32 := Scalar.addi v14 v292
  let c0_i32_1544 : BitVec 32 := 0#32
  let c0_i32_1545 : BitVec 32 := 0#32
  ![v293.toNat, 0, 0]
def k0_cond19 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c512_i32_139 : BitVec 32 := 512#32
  let v272 : BitVec 1 := Scalar.cmpi .sle v11 c512_i32_139
  let c0_i32_140 : BitVec 32 := 0#32
  let v273 : BitVec 1 := Scalar.cmpi .sgt v11 c0_i32_140
  let v274 : BitVec 1 := Scalar.andi v272 v273
  let v345 : BitVec 1 := Scalar.andi v9 v274
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v346 : BitVec 1 := Scalar.cmpi .eq v2 v35
  let v347 : BitVec 1 := Scalar.andi v345 v346
  let c2_i32_178 : BitVec 32 := 2#32
  let v348 : BitVec 32 := Scalar.andi v11 c2_i32_178
  let c0_i32_179 : BitVec 32 := 0#32
  let v349 : BitVec 1 := Scalar.cmpi .ne v348 c0_i32_179
  let v350 : BitVec 1 := Scalar.andi v347 v349
  let v351 : BitVec 32 := Scalar.extui v350
  let c0_i32_182 : BitVec 32 := 0#32
  let v352 : BitVec 1 := Scalar.cmpi .ne v351 c0_i32_182
  v352

def k0_off34 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c64_i32_142 : BitVec 32 := 64#32
  let v279 : BitVec 32 := Scalar.andi v11 c64_i32_142
  let v280 : BitVec 32 := Scalar.addi v277 v279
  let c32_i32_143 : BitVec 32 := 32#32
  let v282 : BitVec 32 := Scalar.andi v11 c32_i32_143
  let v283 : BitVec 32 := Scalar.addi v280 v282
  let c16_i32_144 : BitVec 32 := 16#32
  let v285 : BitVec 32 := Scalar.andi v11 c16_i32_144
  let v286 : BitVec 32 := Scalar.addi v283 v285
  let c8_i32_145 : BitVec 32 := 8#32
  let v288 : BitVec 32 := Scalar.andi v11 c8_i32_145
  let v289 : BitVec 32 := Scalar.addi v286 v288
  let c4_i32_146 : BitVec 32 := 4#32
  let v291 : BitVec 32 := Scalar.andi v11 c4_i32_146
  let v292 : BitVec 32 := Scalar.addi v289 v291
  let c0_i32_1546 : BitVec 32 := 0#32
  let c0_i32_1547 : BitVec 32 := 0#32
  ![v292.toNat, 0, 0]
def k0_dev21 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off35 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c64_i32_142 : BitVec 32 := 64#32
  let v279 : BitVec 32 := Scalar.andi v11 c64_i32_142
  let v280 : BitVec 32 := Scalar.addi v277 v279
  let c32_i32_143 : BitVec 32 := 32#32
  let v282 : BitVec 32 := Scalar.andi v11 c32_i32_143
  let v283 : BitVec 32 := Scalar.addi v280 v282
  let c16_i32_144 : BitVec 32 := 16#32
  let v285 : BitVec 32 := Scalar.andi v11 c16_i32_144
  let v286 : BitVec 32 := Scalar.addi v283 v285
  let c8_i32_145 : BitVec 32 := 8#32
  let v288 : BitVec 32 := Scalar.andi v11 c8_i32_145
  let v289 : BitVec 32 := Scalar.addi v286 v288
  let c4_i32_146 : BitVec 32 := 4#32
  let v291 : BitVec 32 := Scalar.andi v11 c4_i32_146
  let v292 : BitVec 32 := Scalar.addi v289 v291
  let c2_i32_147 : BitVec 32 := 2#32
  let v294 : BitVec 32 := Scalar.andi v11 c2_i32_147
  let v295 : BitVec 32 := Scalar.addi v292 v294
  let v296 : BitVec 32 := Scalar.addi v14 v295
  let c0_i32_1544 : BitVec 32 := 0#32
  let c0_i32_1545 : BitVec 32 := 0#32
  ![v296.toNat, 0, 0]
def k0_cond20 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c512_i32_139 : BitVec 32 := 512#32
  let v272 : BitVec 1 := Scalar.cmpi .sle v11 c512_i32_139
  let c0_i32_140 : BitVec 32 := 0#32
  let v273 : BitVec 1 := Scalar.cmpi .sgt v11 c0_i32_140
  let v274 : BitVec 1 := Scalar.andi v272 v273
  let v353 : BitVec 1 := Scalar.andi v9 v274
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v354 : BitVec 1 := Scalar.cmpi .eq v2 v35
  let v355 : BitVec 1 := Scalar.andi v353 v354
  let c1_i32_183 : BitVec 32 := 1#32
  let v356 : BitVec 32 := Scalar.andi v11 c1_i32_183
  let c0_i32_184 : BitVec 32 := 0#32
  let v357 : BitVec 1 := Scalar.cmpi .ne v356 c0_i32_184
  let v358 : BitVec 1 := Scalar.andi v355 v357
  let v359 : BitVec 32 := Scalar.extui v358
  let c0_i32_187 : BitVec 32 := 0#32
  let v360 : BitVec 1 := Scalar.cmpi .ne v359 c0_i32_187
  v360

def k0_off36 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_141 : BitVec 32 := 128#32
  let v276 : BitVec 32 := Scalar.andi v11 c128_i32_141
  let v277 : BitVec 32 := Scalar.addi v46 v276
  let c64_i32_142 : BitVec 32 := 64#32
  let v279 : BitVec 32 := Scalar.andi v11 c64_i32_142
  let v280 : BitVec 32 := Scalar.addi v277 v279
  let c32_i32_143 : BitVec 32 := 32#32
  let v282 : BitVec 32 := Scalar.andi v11 c32_i32_143
  let v283 : BitVec 32 := Scalar.addi v280 v282
  let c16_i32_144 : BitVec 32 := 16#32
  let v285 : BitVec 32 := Scalar.andi v11 c16_i32_144
  let v286 : BitVec 32 := Scalar.addi v283 v285
  let c8_i32_145 : BitVec 32 := 8#32
  let v288 : BitVec 32 := Scalar.andi v11 c8_i32_145
  let v289 : BitVec 32 := Scalar.addi v286 v288
  let c4_i32_146 : BitVec 32 := 4#32
  let v291 : BitVec 32 := Scalar.andi v11 c4_i32_146
  let v292 : BitVec 32 := Scalar.addi v289 v291
  let c2_i32_147 : BitVec 32 := 2#32
  let v294 : BitVec 32 := Scalar.andi v11 c2_i32_147
  let v295 : BitVec 32 := Scalar.addi v292 v294
  let c0_i32_1546 : BitVec 32 := 0#32
  let c0_i32_1547 : BitVec 32 := 0#32
  ![v295.toNat, 0, 0]
def k0_dev22 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off37 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c512_i32_1541 : BitVec 32 := 512#32
  let v2700 : BitVec 32 := Scalar.addi v14 c512_i32_1541
  let c0_i32_1547 : BitVec 32 := 0#32
  let c0_i32_1548 : BitVec 32 := 0#32
  ![v2700.toNat, 0, 0]
def k0_cond21 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_195 : BitVec 1 := 1#1
  let v381 : BitVec 1 := Scalar.xori v9 true_195
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_223 : BitVec 32 := 0#32
  let v427 : BitVec 1 := Scalar.cmpi .eq v2 c0_i32_223
  let v428 : BitVec 1 := Scalar.andi v381 v427
  let c4096_i32 : BitVec 32 := 4096#32
  let v10 : BitVec 32 := Scalar.subi c4096_i32 v8
  let v11 : BitVec 32 := Scalar.select v9 v10 v8
  let c768_i32_224 : BitVec 32 := 768#32
  let v429 : BitVec 1 := Scalar.cmpi .sge v11 c768_i32_224
  let v430 : BitVec 1 := Scalar.andi v428 v429
  let v431 : BitVec 32 := Scalar.extui v430
  let c0_i32_225 : BitVec 32 := 0#32
  let v432 : BitVec 1 := Scalar.cmpi .ne v431 c0_i32_225
  v432

def k0_dev23 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off38 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c768_i32_1541 : BitVec 32 := 768#32
  let v2700 : BitVec 32 := Scalar.addi v14 c768_i32_1541
  let c0_i32_1547 : BitVec 32 := 0#32
  let c0_i32_1548 : BitVec 32 := 0#32
  ![v2700.toNat, 0, 0]
def k0_cond22 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_195 : BitVec 1 := 1#1
  let v381 : BitVec 1 := Scalar.xori v9 true_195
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_226 : BitVec 32 := 1#32
  let v433 : BitVec 1 := Scalar.cmpi .eq v2 c1_i32_226
  let v434 : BitVec 1 := Scalar.andi v381 v433
  let c4096_i32 : BitVec 32 := 4096#32
  let v10 : BitVec 32 := Scalar.subi c4096_i32 v8
  let v11 : BitVec 32 := Scalar.select v9 v10 v8
  let c1024_i32 : BitVec 32 := 1024#32
  let v435 : BitVec 1 := Scalar.cmpi .sge v11 c1024_i32
  let v436 : BitVec 1 := Scalar.andi v434 v435
  let v437 : BitVec 32 := Scalar.extui v436
  let c0_i32_227 : BitVec 32 := 0#32
  let v438 : BitVec 1 := Scalar.cmpi .ne v437 c0_i32_227
  v438

def k0_dev24 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off39 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v442 : BitVec 32 := Scalar.addi v14 v46
  let c0_i32_1544 : BitVec 32 := 0#32
  let c0_i32_1545 : BitVec 32 := 0#32
  ![v442.toNat, 0, 0]
def k0_cond23 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_195 : BitVec 1 := 1#1
  let v381 : BitVec 1 := Scalar.xori v9 true_195
  let c4096_i32 : BitVec 32 := 4096#32
  let v10 : BitVec 32 := Scalar.subi c4096_i32 v8
  let v11 : BitVec 32 := Scalar.select v9 v10 v8
  let c1024_i32_228 : BitVec 32 := 1024#32
  let v439 : BitVec 1 := Scalar.cmpi .sle v11 c1024_i32_228
  let c512_i32_229 : BitVec 32 := 512#32
  let v440 : BitVec 1 := Scalar.cmpi .sgt v11 c512_i32_229
  let v441 : BitVec 1 := Scalar.andi v439 v440
  let v464 : BitVec 1 := Scalar.andi v381 v441
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v465 : BitVec 1 := Scalar.cmpi .eq v2 v35
  let v466 : BitVec 1 := Scalar.andi v464 v465
  let c128_i32_237 : BitVec 32 := 128#32
  let v467 : BitVec 32 := Scalar.andi v11 c128_i32_237
  let c0_i32_238 : BitVec 32 := 0#32
  let v468 : BitVec 1 := Scalar.cmpi .ne v467 c0_i32_238
  let v469 : BitVec 1 := Scalar.andi v466 v468
  let v470 : BitVec 32 := Scalar.extui v469
  let c0_i32_241 : BitVec 32 := 0#32
  let v471 : BitVec 1 := Scalar.cmpi .ne v470 c0_i32_241
  v471

def k0_off40 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c0_i32_1546 : BitVec 32 := 0#32
  let c0_i32_1547 : BitVec 32 := 0#32
  ![v46.toNat, 0, 0]
def k0_dev25 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off41 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let v445 : BitVec 32 := Scalar.addi v14 v444
  let c0_i32_1544 : BitVec 32 := 0#32
  let c0_i32_1545 : BitVec 32 := 0#32
  ![v445.toNat, 0, 0]
def k0_cond24 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_195 : BitVec 1 := 1#1
  let v381 : BitVec 1 := Scalar.xori v9 true_195
  let c4096_i32 : BitVec 32 := 4096#32
  let v10 : BitVec 32 := Scalar.subi c4096_i32 v8
  let v11 : BitVec 32 := Scalar.select v9 v10 v8
  let c1024_i32_228 : BitVec 32 := 1024#32
  let v439 : BitVec 1 := Scalar.cmpi .sle v11 c1024_i32_228
  let c512_i32_229 : BitVec 32 := 512#32
  let v440 : BitVec 1 := Scalar.cmpi .sgt v11 c512_i32_229
  let v441 : BitVec 1 := Scalar.andi v439 v440
  let v472 : BitVec 1 := Scalar.andi v381 v441
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v473 : BitVec 1 := Scalar.cmpi .eq v2 v35
  let v474 : BitVec 1 := Scalar.andi v472 v473
  let c64_i32_242 : BitVec 32 := 64#32
  let v475 : BitVec 32 := Scalar.andi v11 c64_i32_242
  let c0_i32_243 : BitVec 32 := 0#32
  let v476 : BitVec 1 := Scalar.cmpi .ne v475 c0_i32_243
  let v477 : BitVec 1 := Scalar.andi v474 v476
  let v478 : BitVec 32 := Scalar.extui v477
  let c0_i32_246 : BitVec 32 := 0#32
  let v479 : BitVec 1 := Scalar.cmpi .ne v478 c0_i32_246
  v479

def k0_off42 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c0_i32_1546 : BitVec 32 := 0#32
  let c0_i32_1547 : BitVec 32 := 0#32
  ![v444.toNat, 0, 0]
def k0_dev26 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off43 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c64_i32_231 : BitVec 32 := 64#32
  let v446 : BitVec 32 := Scalar.andi v11 c64_i32_231
  let v447 : BitVec 32 := Scalar.addi v444 v446
  let v448 : BitVec 32 := Scalar.addi v14 v447
  let c0_i32_1544 : BitVec 32 := 0#32
  let c0_i32_1545 : BitVec 32 := 0#32
  ![v448.toNat, 0, 0]
def k0_cond25 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_195 : BitVec 1 := 1#1
  let v381 : BitVec 1 := Scalar.xori v9 true_195
  let c4096_i32 : BitVec 32 := 4096#32
  let v10 : BitVec 32 := Scalar.subi c4096_i32 v8
  let v11 : BitVec 32 := Scalar.select v9 v10 v8
  let c1024_i32_228 : BitVec 32 := 1024#32
  let v439 : BitVec 1 := Scalar.cmpi .sle v11 c1024_i32_228
  let c512_i32_229 : BitVec 32 := 512#32
  let v440 : BitVec 1 := Scalar.cmpi .sgt v11 c512_i32_229
  let v441 : BitVec 1 := Scalar.andi v439 v440
  let v480 : BitVec 1 := Scalar.andi v381 v441
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v481 : BitVec 1 := Scalar.cmpi .eq v2 v35
  let v482 : BitVec 1 := Scalar.andi v480 v481
  let c32_i32_247 : BitVec 32 := 32#32
  let v483 : BitVec 32 := Scalar.andi v11 c32_i32_247
  let c0_i32_248 : BitVec 32 := 0#32
  let v484 : BitVec 1 := Scalar.cmpi .ne v483 c0_i32_248
  let v485 : BitVec 1 := Scalar.andi v482 v484
  let v486 : BitVec 32 := Scalar.extui v485
  let c0_i32_251 : BitVec 32 := 0#32
  let v487 : BitVec 1 := Scalar.cmpi .ne v486 c0_i32_251
  v487

def k0_off44 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c64_i32_231 : BitVec 32 := 64#32
  let v446 : BitVec 32 := Scalar.andi v11 c64_i32_231
  let v447 : BitVec 32 := Scalar.addi v444 v446
  let c0_i32_1546 : BitVec 32 := 0#32
  let c0_i32_1547 : BitVec 32 := 0#32
  ![v447.toNat, 0, 0]
def k0_dev27 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off45 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c64_i32_231 : BitVec 32 := 64#32
  let v446 : BitVec 32 := Scalar.andi v11 c64_i32_231
  let v447 : BitVec 32 := Scalar.addi v444 v446
  let c32_i32_232 : BitVec 32 := 32#32
  let v449 : BitVec 32 := Scalar.andi v11 c32_i32_232
  let v450 : BitVec 32 := Scalar.addi v447 v449
  let v451 : BitVec 32 := Scalar.addi v14 v450
  let c0_i32_1544 : BitVec 32 := 0#32
  let c0_i32_1545 : BitVec 32 := 0#32
  ![v451.toNat, 0, 0]
def k0_cond26 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_195 : BitVec 1 := 1#1
  let v381 : BitVec 1 := Scalar.xori v9 true_195
  let c4096_i32 : BitVec 32 := 4096#32
  let v10 : BitVec 32 := Scalar.subi c4096_i32 v8
  let v11 : BitVec 32 := Scalar.select v9 v10 v8
  let c1024_i32_228 : BitVec 32 := 1024#32
  let v439 : BitVec 1 := Scalar.cmpi .sle v11 c1024_i32_228
  let c512_i32_229 : BitVec 32 := 512#32
  let v440 : BitVec 1 := Scalar.cmpi .sgt v11 c512_i32_229
  let v441 : BitVec 1 := Scalar.andi v439 v440
  let v488 : BitVec 1 := Scalar.andi v381 v441
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v489 : BitVec 1 := Scalar.cmpi .eq v2 v35
  let v490 : BitVec 1 := Scalar.andi v488 v489
  let c16_i32_252 : BitVec 32 := 16#32
  let v491 : BitVec 32 := Scalar.andi v11 c16_i32_252
  let c0_i32_253 : BitVec 32 := 0#32
  let v492 : BitVec 1 := Scalar.cmpi .ne v491 c0_i32_253
  let v493 : BitVec 1 := Scalar.andi v490 v492
  let v494 : BitVec 32 := Scalar.extui v493
  let c0_i32_256 : BitVec 32 := 0#32
  let v495 : BitVec 1 := Scalar.cmpi .ne v494 c0_i32_256
  v495

def k0_off46 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c64_i32_231 : BitVec 32 := 64#32
  let v446 : BitVec 32 := Scalar.andi v11 c64_i32_231
  let v447 : BitVec 32 := Scalar.addi v444 v446
  let c32_i32_232 : BitVec 32 := 32#32
  let v449 : BitVec 32 := Scalar.andi v11 c32_i32_232
  let v450 : BitVec 32 := Scalar.addi v447 v449
  let c0_i32_1546 : BitVec 32 := 0#32
  let c0_i32_1547 : BitVec 32 := 0#32
  ![v450.toNat, 0, 0]
def k0_dev28 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off47 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c64_i32_231 : BitVec 32 := 64#32
  let v446 : BitVec 32 := Scalar.andi v11 c64_i32_231
  let v447 : BitVec 32 := Scalar.addi v444 v446
  let c32_i32_232 : BitVec 32 := 32#32
  let v449 : BitVec 32 := Scalar.andi v11 c32_i32_232
  let v450 : BitVec 32 := Scalar.addi v447 v449
  let c16_i32_233 : BitVec 32 := 16#32
  let v452 : BitVec 32 := Scalar.andi v11 c16_i32_233
  let v453 : BitVec 32 := Scalar.addi v450 v452
  let v454 : BitVec 32 := Scalar.addi v14 v453
  let c0_i32_1544 : BitVec 32 := 0#32
  let c0_i32_1545 : BitVec 32 := 0#32
  ![v454.toNat, 0, 0]
def k0_cond27 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_195 : BitVec 1 := 1#1
  let v381 : BitVec 1 := Scalar.xori v9 true_195
  let c4096_i32 : BitVec 32 := 4096#32
  let v10 : BitVec 32 := Scalar.subi c4096_i32 v8
  let v11 : BitVec 32 := Scalar.select v9 v10 v8
  let c1024_i32_228 : BitVec 32 := 1024#32
  let v439 : BitVec 1 := Scalar.cmpi .sle v11 c1024_i32_228
  let c512_i32_229 : BitVec 32 := 512#32
  let v440 : BitVec 1 := Scalar.cmpi .sgt v11 c512_i32_229
  let v441 : BitVec 1 := Scalar.andi v439 v440
  let v496 : BitVec 1 := Scalar.andi v381 v441
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v497 : BitVec 1 := Scalar.cmpi .eq v2 v35
  let v498 : BitVec 1 := Scalar.andi v496 v497
  let c8_i32_257 : BitVec 32 := 8#32
  let v499 : BitVec 32 := Scalar.andi v11 c8_i32_257
  let c0_i32_258 : BitVec 32 := 0#32
  let v500 : BitVec 1 := Scalar.cmpi .ne v499 c0_i32_258
  let v501 : BitVec 1 := Scalar.andi v498 v500
  let v502 : BitVec 32 := Scalar.extui v501
  let c0_i32_261 : BitVec 32 := 0#32
  let v503 : BitVec 1 := Scalar.cmpi .ne v502 c0_i32_261
  v503

def k0_off48 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c64_i32_231 : BitVec 32 := 64#32
  let v446 : BitVec 32 := Scalar.andi v11 c64_i32_231
  let v447 : BitVec 32 := Scalar.addi v444 v446
  let c32_i32_232 : BitVec 32 := 32#32
  let v449 : BitVec 32 := Scalar.andi v11 c32_i32_232
  let v450 : BitVec 32 := Scalar.addi v447 v449
  let c16_i32_233 : BitVec 32 := 16#32
  let v452 : BitVec 32 := Scalar.andi v11 c16_i32_233
  let v453 : BitVec 32 := Scalar.addi v450 v452
  let c0_i32_1546 : BitVec 32 := 0#32
  let c0_i32_1547 : BitVec 32 := 0#32
  ![v453.toNat, 0, 0]
def k0_dev29 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off49 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c64_i32_231 : BitVec 32 := 64#32
  let v446 : BitVec 32 := Scalar.andi v11 c64_i32_231
  let v447 : BitVec 32 := Scalar.addi v444 v446
  let c32_i32_232 : BitVec 32 := 32#32
  let v449 : BitVec 32 := Scalar.andi v11 c32_i32_232
  let v450 : BitVec 32 := Scalar.addi v447 v449
  let c16_i32_233 : BitVec 32 := 16#32
  let v452 : BitVec 32 := Scalar.andi v11 c16_i32_233
  let v453 : BitVec 32 := Scalar.addi v450 v452
  let c8_i32_234 : BitVec 32 := 8#32
  let v455 : BitVec 32 := Scalar.andi v11 c8_i32_234
  let v456 : BitVec 32 := Scalar.addi v453 v455
  let v457 : BitVec 32 := Scalar.addi v14 v456
  let c0_i32_1544 : BitVec 32 := 0#32
  let c0_i32_1545 : BitVec 32 := 0#32
  ![v457.toNat, 0, 0]
def k0_cond28 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_195 : BitVec 1 := 1#1
  let v381 : BitVec 1 := Scalar.xori v9 true_195
  let c4096_i32 : BitVec 32 := 4096#32
  let v10 : BitVec 32 := Scalar.subi c4096_i32 v8
  let v11 : BitVec 32 := Scalar.select v9 v10 v8
  let c1024_i32_228 : BitVec 32 := 1024#32
  let v439 : BitVec 1 := Scalar.cmpi .sle v11 c1024_i32_228
  let c512_i32_229 : BitVec 32 := 512#32
  let v440 : BitVec 1 := Scalar.cmpi .sgt v11 c512_i32_229
  let v441 : BitVec 1 := Scalar.andi v439 v440
  let v504 : BitVec 1 := Scalar.andi v381 v441
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v505 : BitVec 1 := Scalar.cmpi .eq v2 v35
  let v506 : BitVec 1 := Scalar.andi v504 v505
  let c4_i32_262 : BitVec 32 := 4#32
  let v507 : BitVec 32 := Scalar.andi v11 c4_i32_262
  let c0_i32_263 : BitVec 32 := 0#32
  let v508 : BitVec 1 := Scalar.cmpi .ne v507 c0_i32_263
  let v509 : BitVec 1 := Scalar.andi v506 v508
  let v510 : BitVec 32 := Scalar.extui v509
  let c0_i32_266 : BitVec 32 := 0#32
  let v511 : BitVec 1 := Scalar.cmpi .ne v510 c0_i32_266
  v511

def k0_off50 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c64_i32_231 : BitVec 32 := 64#32
  let v446 : BitVec 32 := Scalar.andi v11 c64_i32_231
  let v447 : BitVec 32 := Scalar.addi v444 v446
  let c32_i32_232 : BitVec 32 := 32#32
  let v449 : BitVec 32 := Scalar.andi v11 c32_i32_232
  let v450 : BitVec 32 := Scalar.addi v447 v449
  let c16_i32_233 : BitVec 32 := 16#32
  let v452 : BitVec 32 := Scalar.andi v11 c16_i32_233
  let v453 : BitVec 32 := Scalar.addi v450 v452
  let c8_i32_234 : BitVec 32 := 8#32
  let v455 : BitVec 32 := Scalar.andi v11 c8_i32_234
  let v456 : BitVec 32 := Scalar.addi v453 v455
  let c0_i32_1546 : BitVec 32 := 0#32
  let c0_i32_1547 : BitVec 32 := 0#32
  ![v456.toNat, 0, 0]
def k0_dev30 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off51 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c64_i32_231 : BitVec 32 := 64#32
  let v446 : BitVec 32 := Scalar.andi v11 c64_i32_231
  let v447 : BitVec 32 := Scalar.addi v444 v446
  let c32_i32_232 : BitVec 32 := 32#32
  let v449 : BitVec 32 := Scalar.andi v11 c32_i32_232
  let v450 : BitVec 32 := Scalar.addi v447 v449
  let c16_i32_233 : BitVec 32 := 16#32
  let v452 : BitVec 32 := Scalar.andi v11 c16_i32_233
  let v453 : BitVec 32 := Scalar.addi v450 v452
  let c8_i32_234 : BitVec 32 := 8#32
  let v455 : BitVec 32 := Scalar.andi v11 c8_i32_234
  let v456 : BitVec 32 := Scalar.addi v453 v455
  let c4_i32_235 : BitVec 32 := 4#32
  let v458 : BitVec 32 := Scalar.andi v11 c4_i32_235
  let v459 : BitVec 32 := Scalar.addi v456 v458
  let v460 : BitVec 32 := Scalar.addi v14 v459
  let c0_i32_1544 : BitVec 32 := 0#32
  let c0_i32_1545 : BitVec 32 := 0#32
  ![v460.toNat, 0, 0]
def k0_cond29 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_195 : BitVec 1 := 1#1
  let v381 : BitVec 1 := Scalar.xori v9 true_195
  let c4096_i32 : BitVec 32 := 4096#32
  let v10 : BitVec 32 := Scalar.subi c4096_i32 v8
  let v11 : BitVec 32 := Scalar.select v9 v10 v8
  let c1024_i32_228 : BitVec 32 := 1024#32
  let v439 : BitVec 1 := Scalar.cmpi .sle v11 c1024_i32_228
  let c512_i32_229 : BitVec 32 := 512#32
  let v440 : BitVec 1 := Scalar.cmpi .sgt v11 c512_i32_229
  let v441 : BitVec 1 := Scalar.andi v439 v440
  let v512 : BitVec 1 := Scalar.andi v381 v441
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v513 : BitVec 1 := Scalar.cmpi .eq v2 v35
  let v514 : BitVec 1 := Scalar.andi v512 v513
  let c2_i32_267 : BitVec 32 := 2#32
  let v515 : BitVec 32 := Scalar.andi v11 c2_i32_267
  let c0_i32_268 : BitVec 32 := 0#32
  let v516 : BitVec 1 := Scalar.cmpi .ne v515 c0_i32_268
  let v517 : BitVec 1 := Scalar.andi v514 v516
  let v518 : BitVec 32 := Scalar.extui v517
  let c0_i32_271 : BitVec 32 := 0#32
  let v519 : BitVec 1 := Scalar.cmpi .ne v518 c0_i32_271
  v519

def k0_off52 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c64_i32_231 : BitVec 32 := 64#32
  let v446 : BitVec 32 := Scalar.andi v11 c64_i32_231
  let v447 : BitVec 32 := Scalar.addi v444 v446
  let c32_i32_232 : BitVec 32 := 32#32
  let v449 : BitVec 32 := Scalar.andi v11 c32_i32_232
  let v450 : BitVec 32 := Scalar.addi v447 v449
  let c16_i32_233 : BitVec 32 := 16#32
  let v452 : BitVec 32 := Scalar.andi v11 c16_i32_233
  let v453 : BitVec 32 := Scalar.addi v450 v452
  let c8_i32_234 : BitVec 32 := 8#32
  let v455 : BitVec 32 := Scalar.andi v11 c8_i32_234
  let v456 : BitVec 32 := Scalar.addi v453 v455
  let c4_i32_235 : BitVec 32 := 4#32
  let v458 : BitVec 32 := Scalar.andi v11 c4_i32_235
  let v459 : BitVec 32 := Scalar.addi v456 v458
  let c0_i32_1546 : BitVec 32 := 0#32
  let c0_i32_1547 : BitVec 32 := 0#32
  ![v459.toNat, 0, 0]
def k0_dev31 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off53 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c64_i32_231 : BitVec 32 := 64#32
  let v446 : BitVec 32 := Scalar.andi v11 c64_i32_231
  let v447 : BitVec 32 := Scalar.addi v444 v446
  let c32_i32_232 : BitVec 32 := 32#32
  let v449 : BitVec 32 := Scalar.andi v11 c32_i32_232
  let v450 : BitVec 32 := Scalar.addi v447 v449
  let c16_i32_233 : BitVec 32 := 16#32
  let v452 : BitVec 32 := Scalar.andi v11 c16_i32_233
  let v453 : BitVec 32 := Scalar.addi v450 v452
  let c8_i32_234 : BitVec 32 := 8#32
  let v455 : BitVec 32 := Scalar.andi v11 c8_i32_234
  let v456 : BitVec 32 := Scalar.addi v453 v455
  let c4_i32_235 : BitVec 32 := 4#32
  let v458 : BitVec 32 := Scalar.andi v11 c4_i32_235
  let v459 : BitVec 32 := Scalar.addi v456 v458
  let c2_i32_236 : BitVec 32 := 2#32
  let v461 : BitVec 32 := Scalar.andi v11 c2_i32_236
  let v462 : BitVec 32 := Scalar.addi v459 v461
  let v463 : BitVec 32 := Scalar.addi v14 v462
  let c0_i32_1544 : BitVec 32 := 0#32
  let c0_i32_1545 : BitVec 32 := 0#32
  ![v463.toNat, 0, 0]
def k0_cond30 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_195 : BitVec 1 := 1#1
  let v381 : BitVec 1 := Scalar.xori v9 true_195
  let c4096_i32 : BitVec 32 := 4096#32
  let v10 : BitVec 32 := Scalar.subi c4096_i32 v8
  let v11 : BitVec 32 := Scalar.select v9 v10 v8
  let c1024_i32_228 : BitVec 32 := 1024#32
  let v439 : BitVec 1 := Scalar.cmpi .sle v11 c1024_i32_228
  let c512_i32_229 : BitVec 32 := 512#32
  let v440 : BitVec 1 := Scalar.cmpi .sgt v11 c512_i32_229
  let v441 : BitVec 1 := Scalar.andi v439 v440
  let v520 : BitVec 1 := Scalar.andi v381 v441
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v521 : BitVec 1 := Scalar.cmpi .eq v2 v35
  let v522 : BitVec 1 := Scalar.andi v520 v521
  let c1_i32_272 : BitVec 32 := 1#32
  let v523 : BitVec 32 := Scalar.andi v11 c1_i32_272
  let c0_i32_273 : BitVec 32 := 0#32
  let v524 : BitVec 1 := Scalar.cmpi .ne v523 c0_i32_273
  let v525 : BitVec 1 := Scalar.andi v522 v524
  let v526 : BitVec 32 := Scalar.extui v525
  let c0_i32_276 : BitVec 32 := 0#32
  let v527 : BitVec 1 := Scalar.cmpi .ne v526 c0_i32_276
  v527

def k0_off54 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_230 : BitVec 32 := 128#32
  let v443 : BitVec 32 := Scalar.andi v11 c128_i32_230
  let v444 : BitVec 32 := Scalar.addi v46 v443
  let c64_i32_231 : BitVec 32 := 64#32
  let v446 : BitVec 32 := Scalar.andi v11 c64_i32_231
  let v447 : BitVec 32 := Scalar.addi v444 v446
  let c32_i32_232 : BitVec 32 := 32#32
  let v449 : BitVec 32 := Scalar.andi v11 c32_i32_232
  let v450 : BitVec 32 := Scalar.addi v447 v449
  let c16_i32_233 : BitVec 32 := 16#32
  let v452 : BitVec 32 := Scalar.andi v11 c16_i32_233
  let v453 : BitVec 32 := Scalar.addi v450 v452
  let c8_i32_234 : BitVec 32 := 8#32
  let v455 : BitVec 32 := Scalar.andi v11 c8_i32_234
  let v456 : BitVec 32 := Scalar.addi v453 v455
  let c4_i32_235 : BitVec 32 := 4#32
  let v458 : BitVec 32 := Scalar.andi v11 c4_i32_235
  let v459 : BitVec 32 := Scalar.addi v456 v458
  let c2_i32_236 : BitVec 32 := 2#32
  let v461 : BitVec 32 := Scalar.andi v11 c2_i32_236
  let v462 : BitVec 32 := Scalar.addi v459 v461
  let c0_i32_1546 : BitVec 32 := 0#32
  let c0_i32_1547 : BitVec 32 := 0#32
  ![v462.toNat, 0, 0]
def k0_dev32 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off55 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c512_i32_1541 : BitVec 32 := 512#32
  let v2700 : BitVec 32 := Scalar.addi v14 c512_i32_1541
  let c0_i32_1547 : BitVec 32 := 0#32
  let c0_i32_1548 : BitVec 32 := 0#32
  ![v2700.toNat, 0, 0]
def k0_cond31 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_304 : BitVec 32 := 0#32
  let v565 : BitVec 1 := Scalar.cmpi .eq v2 c0_i32_304
  let v566 : BitVec 1 := Scalar.andi v9 v565
  let c4096_i32 : BitVec 32 := 4096#32
  let v10 : BitVec 32 := Scalar.subi c4096_i32 v8
  let v11 : BitVec 32 := Scalar.select v9 v10 v8
  let c768_i32_305 : BitVec 32 := 768#32
  let v567 : BitVec 1 := Scalar.cmpi .sge v11 c768_i32_305
  let v568 : BitVec 1 := Scalar.andi v566 v567
  let v569 : BitVec 32 := Scalar.extui v568
  let c0_i32_306 : BitVec 32 := 0#32
  let v570 : BitVec 1 := Scalar.cmpi .ne v569 c0_i32_306
  v570

def k0_dev33 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off56 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c768_i32_1541 : BitVec 32 := 768#32
  let v2700 : BitVec 32 := Scalar.addi v14 c768_i32_1541
  let c0_i32_1547 : BitVec 32 := 0#32
  let c0_i32_1548 : BitVec 32 := 0#32
  ![v2700.toNat, 0, 0]
def k0_cond32 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_307 : BitVec 32 := 1#32
  let v571 : BitVec 1 := Scalar.cmpi .eq v2 c1_i32_307
  let v572 : BitVec 1 := Scalar.andi v9 v571
  let c4096_i32 : BitVec 32 := 4096#32
  let v10 : BitVec 32 := Scalar.subi c4096_i32 v8
  let v11 : BitVec 32 := Scalar.select v9 v10 v8
  let c1024_i32_308 : BitVec 32 := 1024#32
  let v573 : BitVec 1 := Scalar.cmpi .sge v11 c1024_i32_308
  let v574 : BitVec 1 := Scalar.andi v572 v573
  let v575 : BitVec 32 := Scalar.extui v574
  let c0_i32_309 : BitVec 32 := 0#32
  let v576 : BitVec 1 := Scalar.cmpi .ne v575 c0_i32_309
  v576

def k0_dev34 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off57 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v580 : BitVec 32 := Scalar.addi v14 v46
  let c0_i32_1544 : BitVec 32 := 0#32
  let c0_i32_1545 : BitVec 32 := 0#32
  ![v580.toNat, 0, 0]
def k0_cond33 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1024_i32_310 : BitVec 32 := 1024#32
  let v577 : BitVec 1 := Scalar.cmpi .sle v11 c1024_i32_310
  let c512_i32_311 : BitVec 32 := 512#32
  let v578 : BitVec 1 := Scalar.cmpi .sgt v11 c512_i32_311
  let v579 : BitVec 1 := Scalar.andi v577 v578
  let v602 : BitVec 1 := Scalar.andi v9 v579
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v603 : BitVec 1 := Scalar.cmpi .eq v2 v35
  let v604 : BitVec 1 := Scalar.andi v602 v603
  let c128_i32_319 : BitVec 32 := 128#32
  let v605 : BitVec 32 := Scalar.andi v11 c128_i32_319
  let c0_i32_320 : BitVec 32 := 0#32
  let v606 : BitVec 1 := Scalar.cmpi .ne v605 c0_i32_320
  let v607 : BitVec 1 := Scalar.andi v604 v606
  let v608 : BitVec 32 := Scalar.extui v607
  let c0_i32_323 : BitVec 32 := 0#32
  let v609 : BitVec 1 := Scalar.cmpi .ne v608 c0_i32_323
  v609

def k0_off58 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c0_i32_1546 : BitVec 32 := 0#32
  let c0_i32_1547 : BitVec 32 := 0#32
  ![v46.toNat, 0, 0]
def k0_dev35 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off59 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let v583 : BitVec 32 := Scalar.addi v14 v582
  let c0_i32_1544 : BitVec 32 := 0#32
  let c0_i32_1545 : BitVec 32 := 0#32
  ![v583.toNat, 0, 0]
def k0_cond34 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1024_i32_310 : BitVec 32 := 1024#32
  let v577 : BitVec 1 := Scalar.cmpi .sle v11 c1024_i32_310
  let c512_i32_311 : BitVec 32 := 512#32
  let v578 : BitVec 1 := Scalar.cmpi .sgt v11 c512_i32_311
  let v579 : BitVec 1 := Scalar.andi v577 v578
  let v610 : BitVec 1 := Scalar.andi v9 v579
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v611 : BitVec 1 := Scalar.cmpi .eq v2 v35
  let v612 : BitVec 1 := Scalar.andi v610 v611
  let c64_i32_324 : BitVec 32 := 64#32
  let v613 : BitVec 32 := Scalar.andi v11 c64_i32_324
  let c0_i32_325 : BitVec 32 := 0#32
  let v614 : BitVec 1 := Scalar.cmpi .ne v613 c0_i32_325
  let v615 : BitVec 1 := Scalar.andi v612 v614
  let v616 : BitVec 32 := Scalar.extui v615
  let c0_i32_328 : BitVec 32 := 0#32
  let v617 : BitVec 1 := Scalar.cmpi .ne v616 c0_i32_328
  v617

def k0_off60 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c0_i32_1546 : BitVec 32 := 0#32
  let c0_i32_1547 : BitVec 32 := 0#32
  ![v582.toNat, 0, 0]
def k0_dev36 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off61 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c64_i32_313 : BitVec 32 := 64#32
  let v584 : BitVec 32 := Scalar.andi v11 c64_i32_313
  let v585 : BitVec 32 := Scalar.addi v582 v584
  let v586 : BitVec 32 := Scalar.addi v14 v585
  let c0_i32_1544 : BitVec 32 := 0#32
  let c0_i32_1545 : BitVec 32 := 0#32
  ![v586.toNat, 0, 0]
def k0_cond35 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1024_i32_310 : BitVec 32 := 1024#32
  let v577 : BitVec 1 := Scalar.cmpi .sle v11 c1024_i32_310
  let c512_i32_311 : BitVec 32 := 512#32
  let v578 : BitVec 1 := Scalar.cmpi .sgt v11 c512_i32_311
  let v579 : BitVec 1 := Scalar.andi v577 v578
  let v618 : BitVec 1 := Scalar.andi v9 v579
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v619 : BitVec 1 := Scalar.cmpi .eq v2 v35
  let v620 : BitVec 1 := Scalar.andi v618 v619
  let c32_i32_329 : BitVec 32 := 32#32
  let v621 : BitVec 32 := Scalar.andi v11 c32_i32_329
  let c0_i32_330 : BitVec 32 := 0#32
  let v622 : BitVec 1 := Scalar.cmpi .ne v621 c0_i32_330
  let v623 : BitVec 1 := Scalar.andi v620 v622
  let v624 : BitVec 32 := Scalar.extui v623
  let c0_i32_333 : BitVec 32 := 0#32
  let v625 : BitVec 1 := Scalar.cmpi .ne v624 c0_i32_333
  v625

def k0_off62 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c64_i32_313 : BitVec 32 := 64#32
  let v584 : BitVec 32 := Scalar.andi v11 c64_i32_313
  let v585 : BitVec 32 := Scalar.addi v582 v584
  let c0_i32_1546 : BitVec 32 := 0#32
  let c0_i32_1547 : BitVec 32 := 0#32
  ![v585.toNat, 0, 0]
def k0_dev37 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off63 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c64_i32_313 : BitVec 32 := 64#32
  let v584 : BitVec 32 := Scalar.andi v11 c64_i32_313
  let v585 : BitVec 32 := Scalar.addi v582 v584
  let c32_i32_314 : BitVec 32 := 32#32
  let v587 : BitVec 32 := Scalar.andi v11 c32_i32_314
  let v588 : BitVec 32 := Scalar.addi v585 v587
  let v589 : BitVec 32 := Scalar.addi v14 v588
  let c0_i32_1544 : BitVec 32 := 0#32
  let c0_i32_1545 : BitVec 32 := 0#32
  ![v589.toNat, 0, 0]
def k0_cond36 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1024_i32_310 : BitVec 32 := 1024#32
  let v577 : BitVec 1 := Scalar.cmpi .sle v11 c1024_i32_310
  let c512_i32_311 : BitVec 32 := 512#32
  let v578 : BitVec 1 := Scalar.cmpi .sgt v11 c512_i32_311
  let v579 : BitVec 1 := Scalar.andi v577 v578
  let v626 : BitVec 1 := Scalar.andi v9 v579
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v627 : BitVec 1 := Scalar.cmpi .eq v2 v35
  let v628 : BitVec 1 := Scalar.andi v626 v627
  let c16_i32_334 : BitVec 32 := 16#32
  let v629 : BitVec 32 := Scalar.andi v11 c16_i32_334
  let c0_i32_335 : BitVec 32 := 0#32
  let v630 : BitVec 1 := Scalar.cmpi .ne v629 c0_i32_335
  let v631 : BitVec 1 := Scalar.andi v628 v630
  let v632 : BitVec 32 := Scalar.extui v631
  let c0_i32_338 : BitVec 32 := 0#32
  let v633 : BitVec 1 := Scalar.cmpi .ne v632 c0_i32_338
  v633

def k0_off64 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c64_i32_313 : BitVec 32 := 64#32
  let v584 : BitVec 32 := Scalar.andi v11 c64_i32_313
  let v585 : BitVec 32 := Scalar.addi v582 v584
  let c32_i32_314 : BitVec 32 := 32#32
  let v587 : BitVec 32 := Scalar.andi v11 c32_i32_314
  let v588 : BitVec 32 := Scalar.addi v585 v587
  let c0_i32_1546 : BitVec 32 := 0#32
  let c0_i32_1547 : BitVec 32 := 0#32
  ![v588.toNat, 0, 0]
def k0_dev38 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off65 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c64_i32_313 : BitVec 32 := 64#32
  let v584 : BitVec 32 := Scalar.andi v11 c64_i32_313
  let v585 : BitVec 32 := Scalar.addi v582 v584
  let c32_i32_314 : BitVec 32 := 32#32
  let v587 : BitVec 32 := Scalar.andi v11 c32_i32_314
  let v588 : BitVec 32 := Scalar.addi v585 v587
  let c16_i32_315 : BitVec 32 := 16#32
  let v590 : BitVec 32 := Scalar.andi v11 c16_i32_315
  let v591 : BitVec 32 := Scalar.addi v588 v590
  let v592 : BitVec 32 := Scalar.addi v14 v591
  let c0_i32_1544 : BitVec 32 := 0#32
  let c0_i32_1545 : BitVec 32 := 0#32
  ![v592.toNat, 0, 0]
def k0_cond37 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1024_i32_310 : BitVec 32 := 1024#32
  let v577 : BitVec 1 := Scalar.cmpi .sle v11 c1024_i32_310
  let c512_i32_311 : BitVec 32 := 512#32
  let v578 : BitVec 1 := Scalar.cmpi .sgt v11 c512_i32_311
  let v579 : BitVec 1 := Scalar.andi v577 v578
  let v634 : BitVec 1 := Scalar.andi v9 v579
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v635 : BitVec 1 := Scalar.cmpi .eq v2 v35
  let v636 : BitVec 1 := Scalar.andi v634 v635
  let c8_i32_339 : BitVec 32 := 8#32
  let v637 : BitVec 32 := Scalar.andi v11 c8_i32_339
  let c0_i32_340 : BitVec 32 := 0#32
  let v638 : BitVec 1 := Scalar.cmpi .ne v637 c0_i32_340
  let v639 : BitVec 1 := Scalar.andi v636 v638
  let v640 : BitVec 32 := Scalar.extui v639
  let c0_i32_343 : BitVec 32 := 0#32
  let v641 : BitVec 1 := Scalar.cmpi .ne v640 c0_i32_343
  v641

def k0_off66 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c64_i32_313 : BitVec 32 := 64#32
  let v584 : BitVec 32 := Scalar.andi v11 c64_i32_313
  let v585 : BitVec 32 := Scalar.addi v582 v584
  let c32_i32_314 : BitVec 32 := 32#32
  let v587 : BitVec 32 := Scalar.andi v11 c32_i32_314
  let v588 : BitVec 32 := Scalar.addi v585 v587
  let c16_i32_315 : BitVec 32 := 16#32
  let v590 : BitVec 32 := Scalar.andi v11 c16_i32_315
  let v591 : BitVec 32 := Scalar.addi v588 v590
  let c0_i32_1546 : BitVec 32 := 0#32
  let c0_i32_1547 : BitVec 32 := 0#32
  ![v591.toNat, 0, 0]
def k0_dev39 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off67 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c64_i32_313 : BitVec 32 := 64#32
  let v584 : BitVec 32 := Scalar.andi v11 c64_i32_313
  let v585 : BitVec 32 := Scalar.addi v582 v584
  let c32_i32_314 : BitVec 32 := 32#32
  let v587 : BitVec 32 := Scalar.andi v11 c32_i32_314
  let v588 : BitVec 32 := Scalar.addi v585 v587
  let c16_i32_315 : BitVec 32 := 16#32
  let v590 : BitVec 32 := Scalar.andi v11 c16_i32_315
  let v591 : BitVec 32 := Scalar.addi v588 v590
  let c8_i32_316 : BitVec 32 := 8#32
  let v593 : BitVec 32 := Scalar.andi v11 c8_i32_316
  let v594 : BitVec 32 := Scalar.addi v591 v593
  let v595 : BitVec 32 := Scalar.addi v14 v594
  let c0_i32_1544 : BitVec 32 := 0#32
  let c0_i32_1545 : BitVec 32 := 0#32
  ![v595.toNat, 0, 0]
def k0_cond38 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1024_i32_310 : BitVec 32 := 1024#32
  let v577 : BitVec 1 := Scalar.cmpi .sle v11 c1024_i32_310
  let c512_i32_311 : BitVec 32 := 512#32
  let v578 : BitVec 1 := Scalar.cmpi .sgt v11 c512_i32_311
  let v579 : BitVec 1 := Scalar.andi v577 v578
  let v642 : BitVec 1 := Scalar.andi v9 v579
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v643 : BitVec 1 := Scalar.cmpi .eq v2 v35
  let v644 : BitVec 1 := Scalar.andi v642 v643
  let c4_i32_344 : BitVec 32 := 4#32
  let v645 : BitVec 32 := Scalar.andi v11 c4_i32_344
  let c0_i32_345 : BitVec 32 := 0#32
  let v646 : BitVec 1 := Scalar.cmpi .ne v645 c0_i32_345
  let v647 : BitVec 1 := Scalar.andi v644 v646
  let v648 : BitVec 32 := Scalar.extui v647
  let c0_i32_348 : BitVec 32 := 0#32
  let v649 : BitVec 1 := Scalar.cmpi .ne v648 c0_i32_348
  v649

def k0_off68 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c64_i32_313 : BitVec 32 := 64#32
  let v584 : BitVec 32 := Scalar.andi v11 c64_i32_313
  let v585 : BitVec 32 := Scalar.addi v582 v584
  let c32_i32_314 : BitVec 32 := 32#32
  let v587 : BitVec 32 := Scalar.andi v11 c32_i32_314
  let v588 : BitVec 32 := Scalar.addi v585 v587
  let c16_i32_315 : BitVec 32 := 16#32
  let v590 : BitVec 32 := Scalar.andi v11 c16_i32_315
  let v591 : BitVec 32 := Scalar.addi v588 v590
  let c8_i32_316 : BitVec 32 := 8#32
  let v593 : BitVec 32 := Scalar.andi v11 c8_i32_316
  let v594 : BitVec 32 := Scalar.addi v591 v593
  let c0_i32_1546 : BitVec 32 := 0#32
  let c0_i32_1547 : BitVec 32 := 0#32
  ![v594.toNat, 0, 0]
def k0_dev40 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off69 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c64_i32_313 : BitVec 32 := 64#32
  let v584 : BitVec 32 := Scalar.andi v11 c64_i32_313
  let v585 : BitVec 32 := Scalar.addi v582 v584
  let c32_i32_314 : BitVec 32 := 32#32
  let v587 : BitVec 32 := Scalar.andi v11 c32_i32_314
  let v588 : BitVec 32 := Scalar.addi v585 v587
  let c16_i32_315 : BitVec 32 := 16#32
  let v590 : BitVec 32 := Scalar.andi v11 c16_i32_315
  let v591 : BitVec 32 := Scalar.addi v588 v590
  let c8_i32_316 : BitVec 32 := 8#32
  let v593 : BitVec 32 := Scalar.andi v11 c8_i32_316
  let v594 : BitVec 32 := Scalar.addi v591 v593
  let c4_i32_317 : BitVec 32 := 4#32
  let v596 : BitVec 32 := Scalar.andi v11 c4_i32_317
  let v597 : BitVec 32 := Scalar.addi v594 v596
  let v598 : BitVec 32 := Scalar.addi v14 v597
  let c0_i32_1544 : BitVec 32 := 0#32
  let c0_i32_1545 : BitVec 32 := 0#32
  ![v598.toNat, 0, 0]
def k0_cond39 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1024_i32_310 : BitVec 32 := 1024#32
  let v577 : BitVec 1 := Scalar.cmpi .sle v11 c1024_i32_310
  let c512_i32_311 : BitVec 32 := 512#32
  let v578 : BitVec 1 := Scalar.cmpi .sgt v11 c512_i32_311
  let v579 : BitVec 1 := Scalar.andi v577 v578
  let v650 : BitVec 1 := Scalar.andi v9 v579
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v651 : BitVec 1 := Scalar.cmpi .eq v2 v35
  let v652 : BitVec 1 := Scalar.andi v650 v651
  let c2_i32_349 : BitVec 32 := 2#32
  let v653 : BitVec 32 := Scalar.andi v11 c2_i32_349
  let c0_i32_350 : BitVec 32 := 0#32
  let v654 : BitVec 1 := Scalar.cmpi .ne v653 c0_i32_350
  let v655 : BitVec 1 := Scalar.andi v652 v654
  let v656 : BitVec 32 := Scalar.extui v655
  let c0_i32_353 : BitVec 32 := 0#32
  let v657 : BitVec 1 := Scalar.cmpi .ne v656 c0_i32_353
  v657

def k0_off70 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c64_i32_313 : BitVec 32 := 64#32
  let v584 : BitVec 32 := Scalar.andi v11 c64_i32_313
  let v585 : BitVec 32 := Scalar.addi v582 v584
  let c32_i32_314 : BitVec 32 := 32#32
  let v587 : BitVec 32 := Scalar.andi v11 c32_i32_314
  let v588 : BitVec 32 := Scalar.addi v585 v587
  let c16_i32_315 : BitVec 32 := 16#32
  let v590 : BitVec 32 := Scalar.andi v11 c16_i32_315
  let v591 : BitVec 32 := Scalar.addi v588 v590
  let c8_i32_316 : BitVec 32 := 8#32
  let v593 : BitVec 32 := Scalar.andi v11 c8_i32_316
  let v594 : BitVec 32 := Scalar.addi v591 v593
  let c4_i32_317 : BitVec 32 := 4#32
  let v596 : BitVec 32 := Scalar.andi v11 c4_i32_317
  let v597 : BitVec 32 := Scalar.addi v594 v596
  let c0_i32_1546 : BitVec 32 := 0#32
  let c0_i32_1547 : BitVec 32 := 0#32
  ![v597.toNat, 0, 0]
def k0_dev41 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off71 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c64_i32_313 : BitVec 32 := 64#32
  let v584 : BitVec 32 := Scalar.andi v11 c64_i32_313
  let v585 : BitVec 32 := Scalar.addi v582 v584
  let c32_i32_314 : BitVec 32 := 32#32
  let v587 : BitVec 32 := Scalar.andi v11 c32_i32_314
  let v588 : BitVec 32 := Scalar.addi v585 v587
  let c16_i32_315 : BitVec 32 := 16#32
  let v590 : BitVec 32 := Scalar.andi v11 c16_i32_315
  let v591 : BitVec 32 := Scalar.addi v588 v590
  let c8_i32_316 : BitVec 32 := 8#32
  let v593 : BitVec 32 := Scalar.andi v11 c8_i32_316
  let v594 : BitVec 32 := Scalar.addi v591 v593
  let c4_i32_317 : BitVec 32 := 4#32
  let v596 : BitVec 32 := Scalar.andi v11 c4_i32_317
  let v597 : BitVec 32 := Scalar.addi v594 v596
  let c2_i32_318 : BitVec 32 := 2#32
  let v599 : BitVec 32 := Scalar.andi v11 c2_i32_318
  let v600 : BitVec 32 := Scalar.addi v597 v599
  let v601 : BitVec 32 := Scalar.addi v14 v600
  let c0_i32_1544 : BitVec 32 := 0#32
  let c0_i32_1545 : BitVec 32 := 0#32
  ![v601.toNat, 0, 0]
def k0_cond40 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1024_i32_310 : BitVec 32 := 1024#32
  let v577 : BitVec 1 := Scalar.cmpi .sle v11 c1024_i32_310
  let c512_i32_311 : BitVec 32 := 512#32
  let v578 : BitVec 1 := Scalar.cmpi .sgt v11 c512_i32_311
  let v579 : BitVec 1 := Scalar.andi v577 v578
  let v658 : BitVec 1 := Scalar.andi v9 v579
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v659 : BitVec 1 := Scalar.cmpi .eq v2 v35
  let v660 : BitVec 1 := Scalar.andi v658 v659
  let c1_i32_354 : BitVec 32 := 1#32
  let v661 : BitVec 32 := Scalar.andi v11 c1_i32_354
  let c0_i32_355 : BitVec 32 := 0#32
  let v662 : BitVec 1 := Scalar.cmpi .ne v661 c0_i32_355
  let v663 : BitVec 1 := Scalar.andi v660 v662
  let v664 : BitVec 32 := Scalar.extui v663
  let c0_i32_358 : BitVec 32 := 0#32
  let v665 : BitVec 1 := Scalar.cmpi .ne v664 c0_i32_358
  v665

def k0_off72 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_312 : BitVec 32 := 128#32
  let v581 : BitVec 32 := Scalar.andi v11 c128_i32_312
  let v582 : BitVec 32 := Scalar.addi v46 v581
  let c64_i32_313 : BitVec 32 := 64#32
  let v584 : BitVec 32 := Scalar.andi v11 c64_i32_313
  let v585 : BitVec 32 := Scalar.addi v582 v584
  let c32_i32_314 : BitVec 32 := 32#32
  let v587 : BitVec 32 := Scalar.andi v11 c32_i32_314
  let v588 : BitVec 32 := Scalar.addi v585 v587
  let c16_i32_315 : BitVec 32 := 16#32
  let v590 : BitVec 32 := Scalar.andi v11 c16_i32_315
  let v591 : BitVec 32 := Scalar.addi v588 v590
  let c8_i32_316 : BitVec 32 := 8#32
  let v593 : BitVec 32 := Scalar.andi v11 c8_i32_316
  let v594 : BitVec 32 := Scalar.addi v591 v593
  let c4_i32_317 : BitVec 32 := 4#32
  let v596 : BitVec 32 := Scalar.andi v11 c4_i32_317
  let v597 : BitVec 32 := Scalar.addi v594 v596
  let c2_i32_318 : BitVec 32 := 2#32
  let v599 : BitVec 32 := Scalar.andi v11 c2_i32_318
  let v600 : BitVec 32 := Scalar.addi v597 v599
  let c0_i32_1546 : BitVec 32 := 0#32
  let c0_i32_1547 : BitVec 32 := 0#32
  ![v600.toNat, 0, 0]
def k0_dev42 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off73 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1024_i32_1541 : BitVec 32 := 1024#32
  let v2700 : BitVec 32 := Scalar.addi v14 c1024_i32_1541
  let c0_i32_1547 : BitVec 32 := 0#32
  let c0_i32_1548 : BitVec 32 := 0#32
  ![v2700.toNat, 0, 0]
def k0_cond41 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_366 : BitVec 1 := 1#1
  let v686 : BitVec 1 := Scalar.xori v9 true_366
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_394 : BitVec 32 := 0#32
  let v732 : BitVec 1 := Scalar.cmpi .eq v2 c0_i32_394
  let v733 : BitVec 1 := Scalar.andi v686 v732
  let c4096_i32 : BitVec 32 := 4096#32
  let v10 : BitVec 32 := Scalar.subi c4096_i32 v8
  let v11 : BitVec 32 := Scalar.select v9 v10 v8
  let c1280_i32 : BitVec 32 := 1280#32
  let v734 : BitVec 1 := Scalar.cmpi .sge v11 c1280_i32
  let v735 : BitVec 1 := Scalar.andi v733 v734
  let v736 : BitVec 32 := Scalar.extui v735
  let c0_i32_395 : BitVec 32 := 0#32
  let v737 : BitVec 1 := Scalar.cmpi .ne v736 c0_i32_395
  v737

def k0_dev43 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off74 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1280_i32_1541 : BitVec 32 := 1280#32
  let v2700 : BitVec 32 := Scalar.addi v14 c1280_i32_1541
  let c0_i32_1547 : BitVec 32 := 0#32
  let c0_i32_1548 : BitVec 32 := 0#32
  ![v2700.toNat, 0, 0]
def k0_cond42 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_366 : BitVec 1 := 1#1
  let v686 : BitVec 1 := Scalar.xori v9 true_366
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_396 : BitVec 32 := 1#32
  let v738 : BitVec 1 := Scalar.cmpi .eq v2 c1_i32_396
  let v739 : BitVec 1 := Scalar.andi v686 v738
  let c4096_i32 : BitVec 32 := 4096#32
  let v10 : BitVec 32 := Scalar.subi c4096_i32 v8
  let v11 : BitVec 32 := Scalar.select v9 v10 v8
  let c1536_i32 : BitVec 32 := 1536#32
  let v740 : BitVec 1 := Scalar.cmpi .sge v11 c1536_i32
  let v741 : BitVec 1 := Scalar.andi v739 v740
  let v742 : BitVec 32 := Scalar.extui v741
  let c0_i32_397 : BitVec 32 := 0#32
  let v743 : BitVec 1 := Scalar.cmpi .ne v742 c0_i32_397
  v743

def k0_dev44 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off75 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v747 : BitVec 32 := Scalar.addi v14 v46
  let c0_i32_1544 : BitVec 32 := 0#32
  let c0_i32_1545 : BitVec 32 := 0#32
  ![v747.toNat, 0, 0]
def k0_cond43 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_366 : BitVec 1 := 1#1
  let v686 : BitVec 1 := Scalar.xori v9 true_366
  let c4096_i32 : BitVec 32 := 4096#32
  let v10 : BitVec 32 := Scalar.subi c4096_i32 v8
  let v11 : BitVec 32 := Scalar.select v9 v10 v8
  let c1536_i32_398 : BitVec 32 := 1536#32
  let v744 : BitVec 1 := Scalar.cmpi .sle v11 c1536_i32_398
  let c1024_i32_399 : BitVec 32 := 1024#32
  let v745 : BitVec 1 := Scalar.cmpi .sgt v11 c1024_i32_399
  let v746 : BitVec 1 := Scalar.andi v744 v745
  let v769 : BitVec 1 := Scalar.andi v686 v746
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v770 : BitVec 1 := Scalar.cmpi .eq v2 v35
  let v771 : BitVec 1 := Scalar.andi v769 v770
  let c128_i32_407 : BitVec 32 := 128#32
  let v772 : BitVec 32 := Scalar.andi v11 c128_i32_407
  let c0_i32_408 : BitVec 32 := 0#32
  let v773 : BitVec 1 := Scalar.cmpi .ne v772 c0_i32_408
  let v774 : BitVec 1 := Scalar.andi v771 v773
  let v775 : BitVec 32 := Scalar.extui v774
  let c0_i32_411 : BitVec 32 := 0#32
  let v776 : BitVec 1 := Scalar.cmpi .ne v775 c0_i32_411
  v776

def k0_off76 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c0_i32_1546 : BitVec 32 := 0#32
  let c0_i32_1547 : BitVec 32 := 0#32
  ![v46.toNat, 0, 0]
def k0_dev45 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off77 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let v750 : BitVec 32 := Scalar.addi v14 v749
  let c0_i32_1544 : BitVec 32 := 0#32
  let c0_i32_1545 : BitVec 32 := 0#32
  ![v750.toNat, 0, 0]
def k0_cond44 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_366 : BitVec 1 := 1#1
  let v686 : BitVec 1 := Scalar.xori v9 true_366
  let c4096_i32 : BitVec 32 := 4096#32
  let v10 : BitVec 32 := Scalar.subi c4096_i32 v8
  let v11 : BitVec 32 := Scalar.select v9 v10 v8
  let c1536_i32_398 : BitVec 32 := 1536#32
  let v744 : BitVec 1 := Scalar.cmpi .sle v11 c1536_i32_398
  let c1024_i32_399 : BitVec 32 := 1024#32
  let v745 : BitVec 1 := Scalar.cmpi .sgt v11 c1024_i32_399
  let v746 : BitVec 1 := Scalar.andi v744 v745
  let v777 : BitVec 1 := Scalar.andi v686 v746
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v778 : BitVec 1 := Scalar.cmpi .eq v2 v35
  let v779 : BitVec 1 := Scalar.andi v777 v778
  let c64_i32_412 : BitVec 32 := 64#32
  let v780 : BitVec 32 := Scalar.andi v11 c64_i32_412
  let c0_i32_413 : BitVec 32 := 0#32
  let v781 : BitVec 1 := Scalar.cmpi .ne v780 c0_i32_413
  let v782 : BitVec 1 := Scalar.andi v779 v781
  let v783 : BitVec 32 := Scalar.extui v782
  let c0_i32_416 : BitVec 32 := 0#32
  let v784 : BitVec 1 := Scalar.cmpi .ne v783 c0_i32_416
  v784

def k0_off78 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c0_i32_1546 : BitVec 32 := 0#32
  let c0_i32_1547 : BitVec 32 := 0#32
  ![v749.toNat, 0, 0]
def k0_dev46 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off79 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c64_i32_401 : BitVec 32 := 64#32
  let v751 : BitVec 32 := Scalar.andi v11 c64_i32_401
  let v752 : BitVec 32 := Scalar.addi v749 v751
  let v753 : BitVec 32 := Scalar.addi v14 v752
  let c0_i32_1544 : BitVec 32 := 0#32
  let c0_i32_1545 : BitVec 32 := 0#32
  ![v753.toNat, 0, 0]
def k0_cond45 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_366 : BitVec 1 := 1#1
  let v686 : BitVec 1 := Scalar.xori v9 true_366
  let c4096_i32 : BitVec 32 := 4096#32
  let v10 : BitVec 32 := Scalar.subi c4096_i32 v8
  let v11 : BitVec 32 := Scalar.select v9 v10 v8
  let c1536_i32_398 : BitVec 32 := 1536#32
  let v744 : BitVec 1 := Scalar.cmpi .sle v11 c1536_i32_398
  let c1024_i32_399 : BitVec 32 := 1024#32
  let v745 : BitVec 1 := Scalar.cmpi .sgt v11 c1024_i32_399
  let v746 : BitVec 1 := Scalar.andi v744 v745
  let v785 : BitVec 1 := Scalar.andi v686 v746
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v786 : BitVec 1 := Scalar.cmpi .eq v2 v35
  let v787 : BitVec 1 := Scalar.andi v785 v786
  let c32_i32_417 : BitVec 32 := 32#32
  let v788 : BitVec 32 := Scalar.andi v11 c32_i32_417
  let c0_i32_418 : BitVec 32 := 0#32
  let v789 : BitVec 1 := Scalar.cmpi .ne v788 c0_i32_418
  let v790 : BitVec 1 := Scalar.andi v787 v789
  let v791 : BitVec 32 := Scalar.extui v790
  let c0_i32_421 : BitVec 32 := 0#32
  let v792 : BitVec 1 := Scalar.cmpi .ne v791 c0_i32_421
  v792

def k0_off80 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c64_i32_401 : BitVec 32 := 64#32
  let v751 : BitVec 32 := Scalar.andi v11 c64_i32_401
  let v752 : BitVec 32 := Scalar.addi v749 v751
  let c0_i32_1546 : BitVec 32 := 0#32
  let c0_i32_1547 : BitVec 32 := 0#32
  ![v752.toNat, 0, 0]
def k0_dev47 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off81 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c64_i32_401 : BitVec 32 := 64#32
  let v751 : BitVec 32 := Scalar.andi v11 c64_i32_401
  let v752 : BitVec 32 := Scalar.addi v749 v751
  let c32_i32_402 : BitVec 32 := 32#32
  let v754 : BitVec 32 := Scalar.andi v11 c32_i32_402
  let v755 : BitVec 32 := Scalar.addi v752 v754
  let v756 : BitVec 32 := Scalar.addi v14 v755
  let c0_i32_1544 : BitVec 32 := 0#32
  let c0_i32_1545 : BitVec 32 := 0#32
  ![v756.toNat, 0, 0]
def k0_cond46 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_366 : BitVec 1 := 1#1
  let v686 : BitVec 1 := Scalar.xori v9 true_366
  let c4096_i32 : BitVec 32 := 4096#32
  let v10 : BitVec 32 := Scalar.subi c4096_i32 v8
  let v11 : BitVec 32 := Scalar.select v9 v10 v8
  let c1536_i32_398 : BitVec 32 := 1536#32
  let v744 : BitVec 1 := Scalar.cmpi .sle v11 c1536_i32_398
  let c1024_i32_399 : BitVec 32 := 1024#32
  let v745 : BitVec 1 := Scalar.cmpi .sgt v11 c1024_i32_399
  let v746 : BitVec 1 := Scalar.andi v744 v745
  let v793 : BitVec 1 := Scalar.andi v686 v746
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v794 : BitVec 1 := Scalar.cmpi .eq v2 v35
  let v795 : BitVec 1 := Scalar.andi v793 v794
  let c16_i32_422 : BitVec 32 := 16#32
  let v796 : BitVec 32 := Scalar.andi v11 c16_i32_422
  let c0_i32_423 : BitVec 32 := 0#32
  let v797 : BitVec 1 := Scalar.cmpi .ne v796 c0_i32_423
  let v798 : BitVec 1 := Scalar.andi v795 v797
  let v799 : BitVec 32 := Scalar.extui v798
  let c0_i32_426 : BitVec 32 := 0#32
  let v800 : BitVec 1 := Scalar.cmpi .ne v799 c0_i32_426
  v800

def k0_off82 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c64_i32_401 : BitVec 32 := 64#32
  let v751 : BitVec 32 := Scalar.andi v11 c64_i32_401
  let v752 : BitVec 32 := Scalar.addi v749 v751
  let c32_i32_402 : BitVec 32 := 32#32
  let v754 : BitVec 32 := Scalar.andi v11 c32_i32_402
  let v755 : BitVec 32 := Scalar.addi v752 v754
  let c0_i32_1546 : BitVec 32 := 0#32
  let c0_i32_1547 : BitVec 32 := 0#32
  ![v755.toNat, 0, 0]
def k0_dev48 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off83 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c64_i32_401 : BitVec 32 := 64#32
  let v751 : BitVec 32 := Scalar.andi v11 c64_i32_401
  let v752 : BitVec 32 := Scalar.addi v749 v751
  let c32_i32_402 : BitVec 32 := 32#32
  let v754 : BitVec 32 := Scalar.andi v11 c32_i32_402
  let v755 : BitVec 32 := Scalar.addi v752 v754
  let c16_i32_403 : BitVec 32 := 16#32
  let v757 : BitVec 32 := Scalar.andi v11 c16_i32_403
  let v758 : BitVec 32 := Scalar.addi v755 v757
  let v759 : BitVec 32 := Scalar.addi v14 v758
  let c0_i32_1544 : BitVec 32 := 0#32
  let c0_i32_1545 : BitVec 32 := 0#32
  ![v759.toNat, 0, 0]
def k0_cond47 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_366 : BitVec 1 := 1#1
  let v686 : BitVec 1 := Scalar.xori v9 true_366
  let c4096_i32 : BitVec 32 := 4096#32
  let v10 : BitVec 32 := Scalar.subi c4096_i32 v8
  let v11 : BitVec 32 := Scalar.select v9 v10 v8
  let c1536_i32_398 : BitVec 32 := 1536#32
  let v744 : BitVec 1 := Scalar.cmpi .sle v11 c1536_i32_398
  let c1024_i32_399 : BitVec 32 := 1024#32
  let v745 : BitVec 1 := Scalar.cmpi .sgt v11 c1024_i32_399
  let v746 : BitVec 1 := Scalar.andi v744 v745
  let v801 : BitVec 1 := Scalar.andi v686 v746
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v802 : BitVec 1 := Scalar.cmpi .eq v2 v35
  let v803 : BitVec 1 := Scalar.andi v801 v802
  let c8_i32_427 : BitVec 32 := 8#32
  let v804 : BitVec 32 := Scalar.andi v11 c8_i32_427
  let c0_i32_428 : BitVec 32 := 0#32
  let v805 : BitVec 1 := Scalar.cmpi .ne v804 c0_i32_428
  let v806 : BitVec 1 := Scalar.andi v803 v805
  let v807 : BitVec 32 := Scalar.extui v806
  let c0_i32_431 : BitVec 32 := 0#32
  let v808 : BitVec 1 := Scalar.cmpi .ne v807 c0_i32_431
  v808

def k0_off84 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c64_i32_401 : BitVec 32 := 64#32
  let v751 : BitVec 32 := Scalar.andi v11 c64_i32_401
  let v752 : BitVec 32 := Scalar.addi v749 v751
  let c32_i32_402 : BitVec 32 := 32#32
  let v754 : BitVec 32 := Scalar.andi v11 c32_i32_402
  let v755 : BitVec 32 := Scalar.addi v752 v754
  let c16_i32_403 : BitVec 32 := 16#32
  let v757 : BitVec 32 := Scalar.andi v11 c16_i32_403
  let v758 : BitVec 32 := Scalar.addi v755 v757
  let c0_i32_1546 : BitVec 32 := 0#32
  let c0_i32_1547 : BitVec 32 := 0#32
  ![v758.toNat, 0, 0]
def k0_dev49 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off85 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c64_i32_401 : BitVec 32 := 64#32
  let v751 : BitVec 32 := Scalar.andi v11 c64_i32_401
  let v752 : BitVec 32 := Scalar.addi v749 v751
  let c32_i32_402 : BitVec 32 := 32#32
  let v754 : BitVec 32 := Scalar.andi v11 c32_i32_402
  let v755 : BitVec 32 := Scalar.addi v752 v754
  let c16_i32_403 : BitVec 32 := 16#32
  let v757 : BitVec 32 := Scalar.andi v11 c16_i32_403
  let v758 : BitVec 32 := Scalar.addi v755 v757
  let c8_i32_404 : BitVec 32 := 8#32
  let v760 : BitVec 32 := Scalar.andi v11 c8_i32_404
  let v761 : BitVec 32 := Scalar.addi v758 v760
  let v762 : BitVec 32 := Scalar.addi v14 v761
  let c0_i32_1544 : BitVec 32 := 0#32
  let c0_i32_1545 : BitVec 32 := 0#32
  ![v762.toNat, 0, 0]
def k0_cond48 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_366 : BitVec 1 := 1#1
  let v686 : BitVec 1 := Scalar.xori v9 true_366
  let c4096_i32 : BitVec 32 := 4096#32
  let v10 : BitVec 32 := Scalar.subi c4096_i32 v8
  let v11 : BitVec 32 := Scalar.select v9 v10 v8
  let c1536_i32_398 : BitVec 32 := 1536#32
  let v744 : BitVec 1 := Scalar.cmpi .sle v11 c1536_i32_398
  let c1024_i32_399 : BitVec 32 := 1024#32
  let v745 : BitVec 1 := Scalar.cmpi .sgt v11 c1024_i32_399
  let v746 : BitVec 1 := Scalar.andi v744 v745
  let v809 : BitVec 1 := Scalar.andi v686 v746
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v810 : BitVec 1 := Scalar.cmpi .eq v2 v35
  let v811 : BitVec 1 := Scalar.andi v809 v810
  let c4_i32_432 : BitVec 32 := 4#32
  let v812 : BitVec 32 := Scalar.andi v11 c4_i32_432
  let c0_i32_433 : BitVec 32 := 0#32
  let v813 : BitVec 1 := Scalar.cmpi .ne v812 c0_i32_433
  let v814 : BitVec 1 := Scalar.andi v811 v813
  let v815 : BitVec 32 := Scalar.extui v814
  let c0_i32_436 : BitVec 32 := 0#32
  let v816 : BitVec 1 := Scalar.cmpi .ne v815 c0_i32_436
  v816

def k0_off86 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c64_i32_401 : BitVec 32 := 64#32
  let v751 : BitVec 32 := Scalar.andi v11 c64_i32_401
  let v752 : BitVec 32 := Scalar.addi v749 v751
  let c32_i32_402 : BitVec 32 := 32#32
  let v754 : BitVec 32 := Scalar.andi v11 c32_i32_402
  let v755 : BitVec 32 := Scalar.addi v752 v754
  let c16_i32_403 : BitVec 32 := 16#32
  let v757 : BitVec 32 := Scalar.andi v11 c16_i32_403
  let v758 : BitVec 32 := Scalar.addi v755 v757
  let c8_i32_404 : BitVec 32 := 8#32
  let v760 : BitVec 32 := Scalar.andi v11 c8_i32_404
  let v761 : BitVec 32 := Scalar.addi v758 v760
  let c0_i32_1546 : BitVec 32 := 0#32
  let c0_i32_1547 : BitVec 32 := 0#32
  ![v761.toNat, 0, 0]
def k0_dev50 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off87 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c64_i32_401 : BitVec 32 := 64#32
  let v751 : BitVec 32 := Scalar.andi v11 c64_i32_401
  let v752 : BitVec 32 := Scalar.addi v749 v751
  let c32_i32_402 : BitVec 32 := 32#32
  let v754 : BitVec 32 := Scalar.andi v11 c32_i32_402
  let v755 : BitVec 32 := Scalar.addi v752 v754
  let c16_i32_403 : BitVec 32 := 16#32
  let v757 : BitVec 32 := Scalar.andi v11 c16_i32_403
  let v758 : BitVec 32 := Scalar.addi v755 v757
  let c8_i32_404 : BitVec 32 := 8#32
  let v760 : BitVec 32 := Scalar.andi v11 c8_i32_404
  let v761 : BitVec 32 := Scalar.addi v758 v760
  let c4_i32_405 : BitVec 32 := 4#32
  let v763 : BitVec 32 := Scalar.andi v11 c4_i32_405
  let v764 : BitVec 32 := Scalar.addi v761 v763
  let v765 : BitVec 32 := Scalar.addi v14 v764
  let c0_i32_1544 : BitVec 32 := 0#32
  let c0_i32_1545 : BitVec 32 := 0#32
  ![v765.toNat, 0, 0]
def k0_cond49 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_366 : BitVec 1 := 1#1
  let v686 : BitVec 1 := Scalar.xori v9 true_366
  let c4096_i32 : BitVec 32 := 4096#32
  let v10 : BitVec 32 := Scalar.subi c4096_i32 v8
  let v11 : BitVec 32 := Scalar.select v9 v10 v8
  let c1536_i32_398 : BitVec 32 := 1536#32
  let v744 : BitVec 1 := Scalar.cmpi .sle v11 c1536_i32_398
  let c1024_i32_399 : BitVec 32 := 1024#32
  let v745 : BitVec 1 := Scalar.cmpi .sgt v11 c1024_i32_399
  let v746 : BitVec 1 := Scalar.andi v744 v745
  let v817 : BitVec 1 := Scalar.andi v686 v746
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v818 : BitVec 1 := Scalar.cmpi .eq v2 v35
  let v819 : BitVec 1 := Scalar.andi v817 v818
  let c2_i32_437 : BitVec 32 := 2#32
  let v820 : BitVec 32 := Scalar.andi v11 c2_i32_437
  let c0_i32_438 : BitVec 32 := 0#32
  let v821 : BitVec 1 := Scalar.cmpi .ne v820 c0_i32_438
  let v822 : BitVec 1 := Scalar.andi v819 v821
  let v823 : BitVec 32 := Scalar.extui v822
  let c0_i32_441 : BitVec 32 := 0#32
  let v824 : BitVec 1 := Scalar.cmpi .ne v823 c0_i32_441
  v824

def k0_off88 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c64_i32_401 : BitVec 32 := 64#32
  let v751 : BitVec 32 := Scalar.andi v11 c64_i32_401
  let v752 : BitVec 32 := Scalar.addi v749 v751
  let c32_i32_402 : BitVec 32 := 32#32
  let v754 : BitVec 32 := Scalar.andi v11 c32_i32_402
  let v755 : BitVec 32 := Scalar.addi v752 v754
  let c16_i32_403 : BitVec 32 := 16#32
  let v757 : BitVec 32 := Scalar.andi v11 c16_i32_403
  let v758 : BitVec 32 := Scalar.addi v755 v757
  let c8_i32_404 : BitVec 32 := 8#32
  let v760 : BitVec 32 := Scalar.andi v11 c8_i32_404
  let v761 : BitVec 32 := Scalar.addi v758 v760
  let c4_i32_405 : BitVec 32 := 4#32
  let v763 : BitVec 32 := Scalar.andi v11 c4_i32_405
  let v764 : BitVec 32 := Scalar.addi v761 v763
  let c0_i32_1546 : BitVec 32 := 0#32
  let c0_i32_1547 : BitVec 32 := 0#32
  ![v764.toNat, 0, 0]
def k0_dev51 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off89 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c64_i32_401 : BitVec 32 := 64#32
  let v751 : BitVec 32 := Scalar.andi v11 c64_i32_401
  let v752 : BitVec 32 := Scalar.addi v749 v751
  let c32_i32_402 : BitVec 32 := 32#32
  let v754 : BitVec 32 := Scalar.andi v11 c32_i32_402
  let v755 : BitVec 32 := Scalar.addi v752 v754
  let c16_i32_403 : BitVec 32 := 16#32
  let v757 : BitVec 32 := Scalar.andi v11 c16_i32_403
  let v758 : BitVec 32 := Scalar.addi v755 v757
  let c8_i32_404 : BitVec 32 := 8#32
  let v760 : BitVec 32 := Scalar.andi v11 c8_i32_404
  let v761 : BitVec 32 := Scalar.addi v758 v760
  let c4_i32_405 : BitVec 32 := 4#32
  let v763 : BitVec 32 := Scalar.andi v11 c4_i32_405
  let v764 : BitVec 32 := Scalar.addi v761 v763
  let c2_i32_406 : BitVec 32 := 2#32
  let v766 : BitVec 32 := Scalar.andi v11 c2_i32_406
  let v767 : BitVec 32 := Scalar.addi v764 v766
  let v768 : BitVec 32 := Scalar.addi v14 v767
  let c0_i32_1544 : BitVec 32 := 0#32
  let c0_i32_1545 : BitVec 32 := 0#32
  ![v768.toNat, 0, 0]
def k0_cond50 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_366 : BitVec 1 := 1#1
  let v686 : BitVec 1 := Scalar.xori v9 true_366
  let c4096_i32 : BitVec 32 := 4096#32
  let v10 : BitVec 32 := Scalar.subi c4096_i32 v8
  let v11 : BitVec 32 := Scalar.select v9 v10 v8
  let c1536_i32_398 : BitVec 32 := 1536#32
  let v744 : BitVec 1 := Scalar.cmpi .sle v11 c1536_i32_398
  let c1024_i32_399 : BitVec 32 := 1024#32
  let v745 : BitVec 1 := Scalar.cmpi .sgt v11 c1024_i32_399
  let v746 : BitVec 1 := Scalar.andi v744 v745
  let v825 : BitVec 1 := Scalar.andi v686 v746
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v826 : BitVec 1 := Scalar.cmpi .eq v2 v35
  let v827 : BitVec 1 := Scalar.andi v825 v826
  let c1_i32_442 : BitVec 32 := 1#32
  let v828 : BitVec 32 := Scalar.andi v11 c1_i32_442
  let c0_i32_443 : BitVec 32 := 0#32
  let v829 : BitVec 1 := Scalar.cmpi .ne v828 c0_i32_443
  let v830 : BitVec 1 := Scalar.andi v827 v829
  let v831 : BitVec 32 := Scalar.extui v830
  let c0_i32_446 : BitVec 32 := 0#32
  let v832 : BitVec 1 := Scalar.cmpi .ne v831 c0_i32_446
  v832

def k0_off90 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_400 : BitVec 32 := 128#32
  let v748 : BitVec 32 := Scalar.andi v11 c128_i32_400
  let v749 : BitVec 32 := Scalar.addi v46 v748
  let c64_i32_401 : BitVec 32 := 64#32
  let v751 : BitVec 32 := Scalar.andi v11 c64_i32_401
  let v752 : BitVec 32 := Scalar.addi v749 v751
  let c32_i32_402 : BitVec 32 := 32#32
  let v754 : BitVec 32 := Scalar.andi v11 c32_i32_402
  let v755 : BitVec 32 := Scalar.addi v752 v754
  let c16_i32_403 : BitVec 32 := 16#32
  let v757 : BitVec 32 := Scalar.andi v11 c16_i32_403
  let v758 : BitVec 32 := Scalar.addi v755 v757
  let c8_i32_404 : BitVec 32 := 8#32
  let v760 : BitVec 32 := Scalar.andi v11 c8_i32_404
  let v761 : BitVec 32 := Scalar.addi v758 v760
  let c4_i32_405 : BitVec 32 := 4#32
  let v763 : BitVec 32 := Scalar.andi v11 c4_i32_405
  let v764 : BitVec 32 := Scalar.addi v761 v763
  let c2_i32_406 : BitVec 32 := 2#32
  let v766 : BitVec 32 := Scalar.andi v11 c2_i32_406
  let v767 : BitVec 32 := Scalar.addi v764 v766
  let c0_i32_1546 : BitVec 32 := 0#32
  let c0_i32_1547 : BitVec 32 := 0#32
  ![v767.toNat, 0, 0]
def k0_dev52 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off91 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1024_i32_1541 : BitVec 32 := 1024#32
  let v2700 : BitVec 32 := Scalar.addi v14 c1024_i32_1541
  let c0_i32_1547 : BitVec 32 := 0#32
  let c0_i32_1548 : BitVec 32 := 0#32
  ![v2700.toNat, 0, 0]
def k0_cond51 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_474 : BitVec 32 := 0#32
  let v870 : BitVec 1 := Scalar.cmpi .eq v2 c0_i32_474
  let v871 : BitVec 1 := Scalar.andi v9 v870
  let c4096_i32 : BitVec 32 := 4096#32
  let v10 : BitVec 32 := Scalar.subi c4096_i32 v8
  let v11 : BitVec 32 := Scalar.select v9 v10 v8
  let c1280_i32_475 : BitVec 32 := 1280#32
  let v872 : BitVec 1 := Scalar.cmpi .sge v11 c1280_i32_475
  let v873 : BitVec 1 := Scalar.andi v871 v872
  let v874 : BitVec 32 := Scalar.extui v873
  let c0_i32_476 : BitVec 32 := 0#32
  let v875 : BitVec 1 := Scalar.cmpi .ne v874 c0_i32_476
  v875

def k0_dev53 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off92 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1280_i32_1541 : BitVec 32 := 1280#32
  let v2700 : BitVec 32 := Scalar.addi v14 c1280_i32_1541
  let c0_i32_1547 : BitVec 32 := 0#32
  let c0_i32_1548 : BitVec 32 := 0#32
  ![v2700.toNat, 0, 0]
def k0_cond52 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_477 : BitVec 32 := 1#32
  let v876 : BitVec 1 := Scalar.cmpi .eq v2 c1_i32_477
  let v877 : BitVec 1 := Scalar.andi v9 v876
  let c4096_i32 : BitVec 32 := 4096#32
  let v10 : BitVec 32 := Scalar.subi c4096_i32 v8
  let v11 : BitVec 32 := Scalar.select v9 v10 v8
  let c1536_i32_478 : BitVec 32 := 1536#32
  let v878 : BitVec 1 := Scalar.cmpi .sge v11 c1536_i32_478
  let v879 : BitVec 1 := Scalar.andi v877 v878
  let v880 : BitVec 32 := Scalar.extui v879
  let c0_i32_479 : BitVec 32 := 0#32
  let v881 : BitVec 1 := Scalar.cmpi .ne v880 c0_i32_479
  v881

def k0_dev54 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off93 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v885 : BitVec 32 := Scalar.addi v14 v46
  let c0_i32_1544 : BitVec 32 := 0#32
  let c0_i32_1545 : BitVec 32 := 0#32
  ![v885.toNat, 0, 0]
def k0_cond53 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1536_i32_480 : BitVec 32 := 1536#32
  let v882 : BitVec 1 := Scalar.cmpi .sle v11 c1536_i32_480
  let c1024_i32_481 : BitVec 32 := 1024#32
  let v883 : BitVec 1 := Scalar.cmpi .sgt v11 c1024_i32_481
  let v884 : BitVec 1 := Scalar.andi v882 v883
  let v907 : BitVec 1 := Scalar.andi v9 v884
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v908 : BitVec 1 := Scalar.cmpi .eq v2 v35
  let v909 : BitVec 1 := Scalar.andi v907 v908
  let c128_i32_489 : BitVec 32 := 128#32
  let v910 : BitVec 32 := Scalar.andi v11 c128_i32_489
  let c0_i32_490 : BitVec 32 := 0#32
  let v911 : BitVec 1 := Scalar.cmpi .ne v910 c0_i32_490
  let v912 : BitVec 1 := Scalar.andi v909 v911
  let v913 : BitVec 32 := Scalar.extui v912
  let c0_i32_493 : BitVec 32 := 0#32
  let v914 : BitVec 1 := Scalar.cmpi .ne v913 c0_i32_493
  v914

def k0_off94 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c0_i32_1546 : BitVec 32 := 0#32
  let c0_i32_1547 : BitVec 32 := 0#32
  ![v46.toNat, 0, 0]
def k0_dev55 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off95 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let v888 : BitVec 32 := Scalar.addi v14 v887
  let c0_i32_1544 : BitVec 32 := 0#32
  let c0_i32_1545 : BitVec 32 := 0#32
  ![v888.toNat, 0, 0]
def k0_cond54 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1536_i32_480 : BitVec 32 := 1536#32
  let v882 : BitVec 1 := Scalar.cmpi .sle v11 c1536_i32_480
  let c1024_i32_481 : BitVec 32 := 1024#32
  let v883 : BitVec 1 := Scalar.cmpi .sgt v11 c1024_i32_481
  let v884 : BitVec 1 := Scalar.andi v882 v883
  let v915 : BitVec 1 := Scalar.andi v9 v884
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v916 : BitVec 1 := Scalar.cmpi .eq v2 v35
  let v917 : BitVec 1 := Scalar.andi v915 v916
  let c64_i32_494 : BitVec 32 := 64#32
  let v918 : BitVec 32 := Scalar.andi v11 c64_i32_494
  let c0_i32_495 : BitVec 32 := 0#32
  let v919 : BitVec 1 := Scalar.cmpi .ne v918 c0_i32_495
  let v920 : BitVec 1 := Scalar.andi v917 v919
  let v921 : BitVec 32 := Scalar.extui v920
  let c0_i32_498 : BitVec 32 := 0#32
  let v922 : BitVec 1 := Scalar.cmpi .ne v921 c0_i32_498
  v922

def k0_off96 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c0_i32_1546 : BitVec 32 := 0#32
  let c0_i32_1547 : BitVec 32 := 0#32
  ![v887.toNat, 0, 0]
def k0_dev56 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off97 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c64_i32_483 : BitVec 32 := 64#32
  let v889 : BitVec 32 := Scalar.andi v11 c64_i32_483
  let v890 : BitVec 32 := Scalar.addi v887 v889
  let v891 : BitVec 32 := Scalar.addi v14 v890
  let c0_i32_1544 : BitVec 32 := 0#32
  let c0_i32_1545 : BitVec 32 := 0#32
  ![v891.toNat, 0, 0]
def k0_cond55 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1536_i32_480 : BitVec 32 := 1536#32
  let v882 : BitVec 1 := Scalar.cmpi .sle v11 c1536_i32_480
  let c1024_i32_481 : BitVec 32 := 1024#32
  let v883 : BitVec 1 := Scalar.cmpi .sgt v11 c1024_i32_481
  let v884 : BitVec 1 := Scalar.andi v882 v883
  let v923 : BitVec 1 := Scalar.andi v9 v884
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v924 : BitVec 1 := Scalar.cmpi .eq v2 v35
  let v925 : BitVec 1 := Scalar.andi v923 v924
  let c32_i32_499 : BitVec 32 := 32#32
  let v926 : BitVec 32 := Scalar.andi v11 c32_i32_499
  let c0_i32_500 : BitVec 32 := 0#32
  let v927 : BitVec 1 := Scalar.cmpi .ne v926 c0_i32_500
  let v928 : BitVec 1 := Scalar.andi v925 v927
  let v929 : BitVec 32 := Scalar.extui v928
  let c0_i32_503 : BitVec 32 := 0#32
  let v930 : BitVec 1 := Scalar.cmpi .ne v929 c0_i32_503
  v930

def k0_off98 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c64_i32_483 : BitVec 32 := 64#32
  let v889 : BitVec 32 := Scalar.andi v11 c64_i32_483
  let v890 : BitVec 32 := Scalar.addi v887 v889
  let c0_i32_1546 : BitVec 32 := 0#32
  let c0_i32_1547 : BitVec 32 := 0#32
  ![v890.toNat, 0, 0]
def k0_dev57 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off99 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c64_i32_483 : BitVec 32 := 64#32
  let v889 : BitVec 32 := Scalar.andi v11 c64_i32_483
  let v890 : BitVec 32 := Scalar.addi v887 v889
  let c32_i32_484 : BitVec 32 := 32#32
  let v892 : BitVec 32 := Scalar.andi v11 c32_i32_484
  let v893 : BitVec 32 := Scalar.addi v890 v892
  let v894 : BitVec 32 := Scalar.addi v14 v893
  let c0_i32_1544 : BitVec 32 := 0#32
  let c0_i32_1545 : BitVec 32 := 0#32
  ![v894.toNat, 0, 0]
def k0_cond56 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1536_i32_480 : BitVec 32 := 1536#32
  let v882 : BitVec 1 := Scalar.cmpi .sle v11 c1536_i32_480
  let c1024_i32_481 : BitVec 32 := 1024#32
  let v883 : BitVec 1 := Scalar.cmpi .sgt v11 c1024_i32_481
  let v884 : BitVec 1 := Scalar.andi v882 v883
  let v931 : BitVec 1 := Scalar.andi v9 v884
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v932 : BitVec 1 := Scalar.cmpi .eq v2 v35
  let v933 : BitVec 1 := Scalar.andi v931 v932
  let c16_i32_504 : BitVec 32 := 16#32
  let v934 : BitVec 32 := Scalar.andi v11 c16_i32_504
  let c0_i32_505 : BitVec 32 := 0#32
  let v935 : BitVec 1 := Scalar.cmpi .ne v934 c0_i32_505
  let v936 : BitVec 1 := Scalar.andi v933 v935
  let v937 : BitVec 32 := Scalar.extui v936
  let c0_i32_508 : BitVec 32 := 0#32
  let v938 : BitVec 1 := Scalar.cmpi .ne v937 c0_i32_508
  v938

def k0_off100 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c64_i32_483 : BitVec 32 := 64#32
  let v889 : BitVec 32 := Scalar.andi v11 c64_i32_483
  let v890 : BitVec 32 := Scalar.addi v887 v889
  let c32_i32_484 : BitVec 32 := 32#32
  let v892 : BitVec 32 := Scalar.andi v11 c32_i32_484
  let v893 : BitVec 32 := Scalar.addi v890 v892
  let c0_i32_1546 : BitVec 32 := 0#32
  let c0_i32_1547 : BitVec 32 := 0#32
  ![v893.toNat, 0, 0]
def k0_dev58 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off101 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c64_i32_483 : BitVec 32 := 64#32
  let v889 : BitVec 32 := Scalar.andi v11 c64_i32_483
  let v890 : BitVec 32 := Scalar.addi v887 v889
  let c32_i32_484 : BitVec 32 := 32#32
  let v892 : BitVec 32 := Scalar.andi v11 c32_i32_484
  let v893 : BitVec 32 := Scalar.addi v890 v892
  let c16_i32_485 : BitVec 32 := 16#32
  let v895 : BitVec 32 := Scalar.andi v11 c16_i32_485
  let v896 : BitVec 32 := Scalar.addi v893 v895
  let v897 : BitVec 32 := Scalar.addi v14 v896
  let c0_i32_1544 : BitVec 32 := 0#32
  let c0_i32_1545 : BitVec 32 := 0#32
  ![v897.toNat, 0, 0]
def k0_cond57 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1536_i32_480 : BitVec 32 := 1536#32
  let v882 : BitVec 1 := Scalar.cmpi .sle v11 c1536_i32_480
  let c1024_i32_481 : BitVec 32 := 1024#32
  let v883 : BitVec 1 := Scalar.cmpi .sgt v11 c1024_i32_481
  let v884 : BitVec 1 := Scalar.andi v882 v883
  let v939 : BitVec 1 := Scalar.andi v9 v884
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v940 : BitVec 1 := Scalar.cmpi .eq v2 v35
  let v941 : BitVec 1 := Scalar.andi v939 v940
  let c8_i32_509 : BitVec 32 := 8#32
  let v942 : BitVec 32 := Scalar.andi v11 c8_i32_509
  let c0_i32_510 : BitVec 32 := 0#32
  let v943 : BitVec 1 := Scalar.cmpi .ne v942 c0_i32_510
  let v944 : BitVec 1 := Scalar.andi v941 v943
  let v945 : BitVec 32 := Scalar.extui v944
  let c0_i32_513 : BitVec 32 := 0#32
  let v946 : BitVec 1 := Scalar.cmpi .ne v945 c0_i32_513
  v946

def k0_off102 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c64_i32_483 : BitVec 32 := 64#32
  let v889 : BitVec 32 := Scalar.andi v11 c64_i32_483
  let v890 : BitVec 32 := Scalar.addi v887 v889
  let c32_i32_484 : BitVec 32 := 32#32
  let v892 : BitVec 32 := Scalar.andi v11 c32_i32_484
  let v893 : BitVec 32 := Scalar.addi v890 v892
  let c16_i32_485 : BitVec 32 := 16#32
  let v895 : BitVec 32 := Scalar.andi v11 c16_i32_485
  let v896 : BitVec 32 := Scalar.addi v893 v895
  let c0_i32_1546 : BitVec 32 := 0#32
  let c0_i32_1547 : BitVec 32 := 0#32
  ![v896.toNat, 0, 0]
def k0_dev59 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off103 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c64_i32_483 : BitVec 32 := 64#32
  let v889 : BitVec 32 := Scalar.andi v11 c64_i32_483
  let v890 : BitVec 32 := Scalar.addi v887 v889
  let c32_i32_484 : BitVec 32 := 32#32
  let v892 : BitVec 32 := Scalar.andi v11 c32_i32_484
  let v893 : BitVec 32 := Scalar.addi v890 v892
  let c16_i32_485 : BitVec 32 := 16#32
  let v895 : BitVec 32 := Scalar.andi v11 c16_i32_485
  let v896 : BitVec 32 := Scalar.addi v893 v895
  let c8_i32_486 : BitVec 32 := 8#32
  let v898 : BitVec 32 := Scalar.andi v11 c8_i32_486
  let v899 : BitVec 32 := Scalar.addi v896 v898
  let v900 : BitVec 32 := Scalar.addi v14 v899
  let c0_i32_1544 : BitVec 32 := 0#32
  let c0_i32_1545 : BitVec 32 := 0#32
  ![v900.toNat, 0, 0]
def k0_cond58 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1536_i32_480 : BitVec 32 := 1536#32
  let v882 : BitVec 1 := Scalar.cmpi .sle v11 c1536_i32_480
  let c1024_i32_481 : BitVec 32 := 1024#32
  let v883 : BitVec 1 := Scalar.cmpi .sgt v11 c1024_i32_481
  let v884 : BitVec 1 := Scalar.andi v882 v883
  let v947 : BitVec 1 := Scalar.andi v9 v884
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v948 : BitVec 1 := Scalar.cmpi .eq v2 v35
  let v949 : BitVec 1 := Scalar.andi v947 v948
  let c4_i32_514 : BitVec 32 := 4#32
  let v950 : BitVec 32 := Scalar.andi v11 c4_i32_514
  let c0_i32_515 : BitVec 32 := 0#32
  let v951 : BitVec 1 := Scalar.cmpi .ne v950 c0_i32_515
  let v952 : BitVec 1 := Scalar.andi v949 v951
  let v953 : BitVec 32 := Scalar.extui v952
  let c0_i32_518 : BitVec 32 := 0#32
  let v954 : BitVec 1 := Scalar.cmpi .ne v953 c0_i32_518
  v954

def k0_off104 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c64_i32_483 : BitVec 32 := 64#32
  let v889 : BitVec 32 := Scalar.andi v11 c64_i32_483
  let v890 : BitVec 32 := Scalar.addi v887 v889
  let c32_i32_484 : BitVec 32 := 32#32
  let v892 : BitVec 32 := Scalar.andi v11 c32_i32_484
  let v893 : BitVec 32 := Scalar.addi v890 v892
  let c16_i32_485 : BitVec 32 := 16#32
  let v895 : BitVec 32 := Scalar.andi v11 c16_i32_485
  let v896 : BitVec 32 := Scalar.addi v893 v895
  let c8_i32_486 : BitVec 32 := 8#32
  let v898 : BitVec 32 := Scalar.andi v11 c8_i32_486
  let v899 : BitVec 32 := Scalar.addi v896 v898
  let c0_i32_1546 : BitVec 32 := 0#32
  let c0_i32_1547 : BitVec 32 := 0#32
  ![v899.toNat, 0, 0]
def k0_dev60 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off105 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c64_i32_483 : BitVec 32 := 64#32
  let v889 : BitVec 32 := Scalar.andi v11 c64_i32_483
  let v890 : BitVec 32 := Scalar.addi v887 v889
  let c32_i32_484 : BitVec 32 := 32#32
  let v892 : BitVec 32 := Scalar.andi v11 c32_i32_484
  let v893 : BitVec 32 := Scalar.addi v890 v892
  let c16_i32_485 : BitVec 32 := 16#32
  let v895 : BitVec 32 := Scalar.andi v11 c16_i32_485
  let v896 : BitVec 32 := Scalar.addi v893 v895
  let c8_i32_486 : BitVec 32 := 8#32
  let v898 : BitVec 32 := Scalar.andi v11 c8_i32_486
  let v899 : BitVec 32 := Scalar.addi v896 v898
  let c4_i32_487 : BitVec 32 := 4#32
  let v901 : BitVec 32 := Scalar.andi v11 c4_i32_487
  let v902 : BitVec 32 := Scalar.addi v899 v901
  let v903 : BitVec 32 := Scalar.addi v14 v902
  let c0_i32_1544 : BitVec 32 := 0#32
  let c0_i32_1545 : BitVec 32 := 0#32
  ![v903.toNat, 0, 0]
def k0_cond59 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1536_i32_480 : BitVec 32 := 1536#32
  let v882 : BitVec 1 := Scalar.cmpi .sle v11 c1536_i32_480
  let c1024_i32_481 : BitVec 32 := 1024#32
  let v883 : BitVec 1 := Scalar.cmpi .sgt v11 c1024_i32_481
  let v884 : BitVec 1 := Scalar.andi v882 v883
  let v955 : BitVec 1 := Scalar.andi v9 v884
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v956 : BitVec 1 := Scalar.cmpi .eq v2 v35
  let v957 : BitVec 1 := Scalar.andi v955 v956
  let c2_i32_519 : BitVec 32 := 2#32
  let v958 : BitVec 32 := Scalar.andi v11 c2_i32_519
  let c0_i32_520 : BitVec 32 := 0#32
  let v959 : BitVec 1 := Scalar.cmpi .ne v958 c0_i32_520
  let v960 : BitVec 1 := Scalar.andi v957 v959
  let v961 : BitVec 32 := Scalar.extui v960
  let c0_i32_523 : BitVec 32 := 0#32
  let v962 : BitVec 1 := Scalar.cmpi .ne v961 c0_i32_523
  v962

def k0_off106 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c64_i32_483 : BitVec 32 := 64#32
  let v889 : BitVec 32 := Scalar.andi v11 c64_i32_483
  let v890 : BitVec 32 := Scalar.addi v887 v889
  let c32_i32_484 : BitVec 32 := 32#32
  let v892 : BitVec 32 := Scalar.andi v11 c32_i32_484
  let v893 : BitVec 32 := Scalar.addi v890 v892
  let c16_i32_485 : BitVec 32 := 16#32
  let v895 : BitVec 32 := Scalar.andi v11 c16_i32_485
  let v896 : BitVec 32 := Scalar.addi v893 v895
  let c8_i32_486 : BitVec 32 := 8#32
  let v898 : BitVec 32 := Scalar.andi v11 c8_i32_486
  let v899 : BitVec 32 := Scalar.addi v896 v898
  let c4_i32_487 : BitVec 32 := 4#32
  let v901 : BitVec 32 := Scalar.andi v11 c4_i32_487
  let v902 : BitVec 32 := Scalar.addi v899 v901
  let c0_i32_1546 : BitVec 32 := 0#32
  let c0_i32_1547 : BitVec 32 := 0#32
  ![v902.toNat, 0, 0]
def k0_dev61 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off107 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c64_i32_483 : BitVec 32 := 64#32
  let v889 : BitVec 32 := Scalar.andi v11 c64_i32_483
  let v890 : BitVec 32 := Scalar.addi v887 v889
  let c32_i32_484 : BitVec 32 := 32#32
  let v892 : BitVec 32 := Scalar.andi v11 c32_i32_484
  let v893 : BitVec 32 := Scalar.addi v890 v892
  let c16_i32_485 : BitVec 32 := 16#32
  let v895 : BitVec 32 := Scalar.andi v11 c16_i32_485
  let v896 : BitVec 32 := Scalar.addi v893 v895
  let c8_i32_486 : BitVec 32 := 8#32
  let v898 : BitVec 32 := Scalar.andi v11 c8_i32_486
  let v899 : BitVec 32 := Scalar.addi v896 v898
  let c4_i32_487 : BitVec 32 := 4#32
  let v901 : BitVec 32 := Scalar.andi v11 c4_i32_487
  let v902 : BitVec 32 := Scalar.addi v899 v901
  let c2_i32_488 : BitVec 32 := 2#32
  let v904 : BitVec 32 := Scalar.andi v11 c2_i32_488
  let v905 : BitVec 32 := Scalar.addi v902 v904
  let v906 : BitVec 32 := Scalar.addi v14 v905
  let c0_i32_1544 : BitVec 32 := 0#32
  let c0_i32_1545 : BitVec 32 := 0#32
  ![v906.toNat, 0, 0]
def k0_cond60 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1536_i32_480 : BitVec 32 := 1536#32
  let v882 : BitVec 1 := Scalar.cmpi .sle v11 c1536_i32_480
  let c1024_i32_481 : BitVec 32 := 1024#32
  let v883 : BitVec 1 := Scalar.cmpi .sgt v11 c1024_i32_481
  let v884 : BitVec 1 := Scalar.andi v882 v883
  let v963 : BitVec 1 := Scalar.andi v9 v884
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v964 : BitVec 1 := Scalar.cmpi .eq v2 v35
  let v965 : BitVec 1 := Scalar.andi v963 v964
  let c1_i32_524 : BitVec 32 := 1#32
  let v966 : BitVec 32 := Scalar.andi v11 c1_i32_524
  let c0_i32_525 : BitVec 32 := 0#32
  let v967 : BitVec 1 := Scalar.cmpi .ne v966 c0_i32_525
  let v968 : BitVec 1 := Scalar.andi v965 v967
  let v969 : BitVec 32 := Scalar.extui v968
  let c0_i32_528 : BitVec 32 := 0#32
  let v970 : BitVec 1 := Scalar.cmpi .ne v969 c0_i32_528
  v970

def k0_off108 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_482 : BitVec 32 := 128#32
  let v886 : BitVec 32 := Scalar.andi v11 c128_i32_482
  let v887 : BitVec 32 := Scalar.addi v46 v886
  let c64_i32_483 : BitVec 32 := 64#32
  let v889 : BitVec 32 := Scalar.andi v11 c64_i32_483
  let v890 : BitVec 32 := Scalar.addi v887 v889
  let c32_i32_484 : BitVec 32 := 32#32
  let v892 : BitVec 32 := Scalar.andi v11 c32_i32_484
  let v893 : BitVec 32 := Scalar.addi v890 v892
  let c16_i32_485 : BitVec 32 := 16#32
  let v895 : BitVec 32 := Scalar.andi v11 c16_i32_485
  let v896 : BitVec 32 := Scalar.addi v893 v895
  let c8_i32_486 : BitVec 32 := 8#32
  let v898 : BitVec 32 := Scalar.andi v11 c8_i32_486
  let v899 : BitVec 32 := Scalar.addi v896 v898
  let c4_i32_487 : BitVec 32 := 4#32
  let v901 : BitVec 32 := Scalar.andi v11 c4_i32_487
  let v902 : BitVec 32 := Scalar.addi v899 v901
  let c2_i32_488 : BitVec 32 := 2#32
  let v904 : BitVec 32 := Scalar.andi v11 c2_i32_488
  let v905 : BitVec 32 := Scalar.addi v902 v904
  let c0_i32_1546 : BitVec 32 := 0#32
  let c0_i32_1547 : BitVec 32 := 0#32
  ![v905.toNat, 0, 0]
def k0_dev62 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off109 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1536_i32_1541 : BitVec 32 := 1536#32
  let v2700 : BitVec 32 := Scalar.addi v14 c1536_i32_1541
  let c0_i32_1547 : BitVec 32 := 0#32
  let c0_i32_1548 : BitVec 32 := 0#32
  ![v2700.toNat, 0, 0]
def k0_cond61 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_536 : BitVec 1 := 1#1
  let v991 : BitVec 1 := Scalar.xori v9 true_536
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_564 : BitVec 32 := 0#32
  let v1037 : BitVec 1 := Scalar.cmpi .eq v2 c0_i32_564
  let v1038 : BitVec 1 := Scalar.andi v991 v1037
  let c4096_i32 : BitVec 32 := 4096#32
  let v10 : BitVec 32 := Scalar.subi c4096_i32 v8
  let v11 : BitVec 32 := Scalar.select v9 v10 v8
  let c1792_i32_565 : BitVec 32 := 1792#32
  let v1039 : BitVec 1 := Scalar.cmpi .sge v11 c1792_i32_565
  let v1040 : BitVec 1 := Scalar.andi v1038 v1039
  let v1041 : BitVec 32 := Scalar.extui v1040
  let c0_i32_566 : BitVec 32 := 0#32
  let v1042 : BitVec 1 := Scalar.cmpi .ne v1041 c0_i32_566
  v1042

def k0_dev63 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off110 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1792_i32_1541 : BitVec 32 := 1792#32
  let v2700 : BitVec 32 := Scalar.addi v14 c1792_i32_1541
  let c0_i32_1547 : BitVec 32 := 0#32
  let c0_i32_1548 : BitVec 32 := 0#32
  ![v2700.toNat, 0, 0]
def k0_cond62 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_536 : BitVec 1 := 1#1
  let v991 : BitVec 1 := Scalar.xori v9 true_536
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_567 : BitVec 32 := 1#32
  let v1043 : BitVec 1 := Scalar.cmpi .eq v2 c1_i32_567
  let v1044 : BitVec 1 := Scalar.andi v991 v1043
  let c4096_i32 : BitVec 32 := 4096#32
  let v10 : BitVec 32 := Scalar.subi c4096_i32 v8
  let v11 : BitVec 32 := Scalar.select v9 v10 v8
  let c2048_i32 : BitVec 32 := 2048#32
  let v1045 : BitVec 1 := Scalar.cmpi .sge v11 c2048_i32
  let v1046 : BitVec 1 := Scalar.andi v1044 v1045
  let v1047 : BitVec 32 := Scalar.extui v1046
  let c0_i32_568 : BitVec 32 := 0#32
  let v1048 : BitVec 1 := Scalar.cmpi .ne v1047 c0_i32_568
  v1048

def k0_dev64 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off111 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v1052 : BitVec 32 := Scalar.addi v14 v46
  let c0_i32_1544 : BitVec 32 := 0#32
  let c0_i32_1545 : BitVec 32 := 0#32
  ![v1052.toNat, 0, 0]
def k0_cond63 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_536 : BitVec 1 := 1#1
  let v991 : BitVec 1 := Scalar.xori v9 true_536
  let c4096_i32 : BitVec 32 := 4096#32
  let v10 : BitVec 32 := Scalar.subi c4096_i32 v8
  let v11 : BitVec 32 := Scalar.select v9 v10 v8
  let c2048_i32_569 : BitVec 32 := 2048#32
  let v1049 : BitVec 1 := Scalar.cmpi .sle v11 c2048_i32_569
  let c1536_i32_570 : BitVec 32 := 1536#32
  let v1050 : BitVec 1 := Scalar.cmpi .sgt v11 c1536_i32_570
  let v1051 : BitVec 1 := Scalar.andi v1049 v1050
  let v1074 : BitVec 1 := Scalar.andi v991 v1051
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1075 : BitVec 1 := Scalar.cmpi .eq v2 v35
  let v1076 : BitVec 1 := Scalar.andi v1074 v1075
  let c128_i32_578 : BitVec 32 := 128#32
  let v1077 : BitVec 32 := Scalar.andi v11 c128_i32_578
  let c0_i32_579 : BitVec 32 := 0#32
  let v1078 : BitVec 1 := Scalar.cmpi .ne v1077 c0_i32_579
  let v1079 : BitVec 1 := Scalar.andi v1076 v1078
  let v1080 : BitVec 32 := Scalar.extui v1079
  let c0_i32_582 : BitVec 32 := 0#32
  let v1081 : BitVec 1 := Scalar.cmpi .ne v1080 c0_i32_582
  v1081

def k0_off112 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c0_i32_1546 : BitVec 32 := 0#32
  let c0_i32_1547 : BitVec 32 := 0#32
  ![v46.toNat, 0, 0]
def k0_dev65 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off113 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let v1055 : BitVec 32 := Scalar.addi v14 v1054
  let c0_i32_1544 : BitVec 32 := 0#32
  let c0_i32_1545 : BitVec 32 := 0#32
  ![v1055.toNat, 0, 0]
def k0_cond64 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_536 : BitVec 1 := 1#1
  let v991 : BitVec 1 := Scalar.xori v9 true_536
  let c4096_i32 : BitVec 32 := 4096#32
  let v10 : BitVec 32 := Scalar.subi c4096_i32 v8
  let v11 : BitVec 32 := Scalar.select v9 v10 v8
  let c2048_i32_569 : BitVec 32 := 2048#32
  let v1049 : BitVec 1 := Scalar.cmpi .sle v11 c2048_i32_569
  let c1536_i32_570 : BitVec 32 := 1536#32
  let v1050 : BitVec 1 := Scalar.cmpi .sgt v11 c1536_i32_570
  let v1051 : BitVec 1 := Scalar.andi v1049 v1050
  let v1082 : BitVec 1 := Scalar.andi v991 v1051
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1083 : BitVec 1 := Scalar.cmpi .eq v2 v35
  let v1084 : BitVec 1 := Scalar.andi v1082 v1083
  let c64_i32_583 : BitVec 32 := 64#32
  let v1085 : BitVec 32 := Scalar.andi v11 c64_i32_583
  let c0_i32_584 : BitVec 32 := 0#32
  let v1086 : BitVec 1 := Scalar.cmpi .ne v1085 c0_i32_584
  let v1087 : BitVec 1 := Scalar.andi v1084 v1086
  let v1088 : BitVec 32 := Scalar.extui v1087
  let c0_i32_587 : BitVec 32 := 0#32
  let v1089 : BitVec 1 := Scalar.cmpi .ne v1088 c0_i32_587
  v1089

def k0_off114 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c0_i32_1546 : BitVec 32 := 0#32
  let c0_i32_1547 : BitVec 32 := 0#32
  ![v1054.toNat, 0, 0]
def k0_dev66 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off115 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c64_i32_572 : BitVec 32 := 64#32
  let v1056 : BitVec 32 := Scalar.andi v11 c64_i32_572
  let v1057 : BitVec 32 := Scalar.addi v1054 v1056
  let v1058 : BitVec 32 := Scalar.addi v14 v1057
  let c0_i32_1544 : BitVec 32 := 0#32
  let c0_i32_1545 : BitVec 32 := 0#32
  ![v1058.toNat, 0, 0]
def k0_cond65 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_536 : BitVec 1 := 1#1
  let v991 : BitVec 1 := Scalar.xori v9 true_536
  let c4096_i32 : BitVec 32 := 4096#32
  let v10 : BitVec 32 := Scalar.subi c4096_i32 v8
  let v11 : BitVec 32 := Scalar.select v9 v10 v8
  let c2048_i32_569 : BitVec 32 := 2048#32
  let v1049 : BitVec 1 := Scalar.cmpi .sle v11 c2048_i32_569
  let c1536_i32_570 : BitVec 32 := 1536#32
  let v1050 : BitVec 1 := Scalar.cmpi .sgt v11 c1536_i32_570
  let v1051 : BitVec 1 := Scalar.andi v1049 v1050
  let v1090 : BitVec 1 := Scalar.andi v991 v1051
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1091 : BitVec 1 := Scalar.cmpi .eq v2 v35
  let v1092 : BitVec 1 := Scalar.andi v1090 v1091
  let c32_i32_588 : BitVec 32 := 32#32
  let v1093 : BitVec 32 := Scalar.andi v11 c32_i32_588
  let c0_i32_589 : BitVec 32 := 0#32
  let v1094 : BitVec 1 := Scalar.cmpi .ne v1093 c0_i32_589
  let v1095 : BitVec 1 := Scalar.andi v1092 v1094
  let v1096 : BitVec 32 := Scalar.extui v1095
  let c0_i32_592 : BitVec 32 := 0#32
  let v1097 : BitVec 1 := Scalar.cmpi .ne v1096 c0_i32_592
  v1097

def k0_off116 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c64_i32_572 : BitVec 32 := 64#32
  let v1056 : BitVec 32 := Scalar.andi v11 c64_i32_572
  let v1057 : BitVec 32 := Scalar.addi v1054 v1056
  let c0_i32_1546 : BitVec 32 := 0#32
  let c0_i32_1547 : BitVec 32 := 0#32
  ![v1057.toNat, 0, 0]
def k0_dev67 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off117 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c64_i32_572 : BitVec 32 := 64#32
  let v1056 : BitVec 32 := Scalar.andi v11 c64_i32_572
  let v1057 : BitVec 32 := Scalar.addi v1054 v1056
  let c32_i32_573 : BitVec 32 := 32#32
  let v1059 : BitVec 32 := Scalar.andi v11 c32_i32_573
  let v1060 : BitVec 32 := Scalar.addi v1057 v1059
  let v1061 : BitVec 32 := Scalar.addi v14 v1060
  let c0_i32_1544 : BitVec 32 := 0#32
  let c0_i32_1545 : BitVec 32 := 0#32
  ![v1061.toNat, 0, 0]
def k0_cond66 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_536 : BitVec 1 := 1#1
  let v991 : BitVec 1 := Scalar.xori v9 true_536
  let c4096_i32 : BitVec 32 := 4096#32
  let v10 : BitVec 32 := Scalar.subi c4096_i32 v8
  let v11 : BitVec 32 := Scalar.select v9 v10 v8
  let c2048_i32_569 : BitVec 32 := 2048#32
  let v1049 : BitVec 1 := Scalar.cmpi .sle v11 c2048_i32_569
  let c1536_i32_570 : BitVec 32 := 1536#32
  let v1050 : BitVec 1 := Scalar.cmpi .sgt v11 c1536_i32_570
  let v1051 : BitVec 1 := Scalar.andi v1049 v1050
  let v1098 : BitVec 1 := Scalar.andi v991 v1051
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1099 : BitVec 1 := Scalar.cmpi .eq v2 v35
  let v1100 : BitVec 1 := Scalar.andi v1098 v1099
  let c16_i32_593 : BitVec 32 := 16#32
  let v1101 : BitVec 32 := Scalar.andi v11 c16_i32_593
  let c0_i32_594 : BitVec 32 := 0#32
  let v1102 : BitVec 1 := Scalar.cmpi .ne v1101 c0_i32_594
  let v1103 : BitVec 1 := Scalar.andi v1100 v1102
  let v1104 : BitVec 32 := Scalar.extui v1103
  let c0_i32_597 : BitVec 32 := 0#32
  let v1105 : BitVec 1 := Scalar.cmpi .ne v1104 c0_i32_597
  v1105

def k0_off118 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c64_i32_572 : BitVec 32 := 64#32
  let v1056 : BitVec 32 := Scalar.andi v11 c64_i32_572
  let v1057 : BitVec 32 := Scalar.addi v1054 v1056
  let c32_i32_573 : BitVec 32 := 32#32
  let v1059 : BitVec 32 := Scalar.andi v11 c32_i32_573
  let v1060 : BitVec 32 := Scalar.addi v1057 v1059
  let c0_i32_1546 : BitVec 32 := 0#32
  let c0_i32_1547 : BitVec 32 := 0#32
  ![v1060.toNat, 0, 0]
def k0_dev68 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off119 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c64_i32_572 : BitVec 32 := 64#32
  let v1056 : BitVec 32 := Scalar.andi v11 c64_i32_572
  let v1057 : BitVec 32 := Scalar.addi v1054 v1056
  let c32_i32_573 : BitVec 32 := 32#32
  let v1059 : BitVec 32 := Scalar.andi v11 c32_i32_573
  let v1060 : BitVec 32 := Scalar.addi v1057 v1059
  let c16_i32_574 : BitVec 32 := 16#32
  let v1062 : BitVec 32 := Scalar.andi v11 c16_i32_574
  let v1063 : BitVec 32 := Scalar.addi v1060 v1062
  let v1064 : BitVec 32 := Scalar.addi v14 v1063
  let c0_i32_1544 : BitVec 32 := 0#32
  let c0_i32_1545 : BitVec 32 := 0#32
  ![v1064.toNat, 0, 0]
def k0_cond67 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_536 : BitVec 1 := 1#1
  let v991 : BitVec 1 := Scalar.xori v9 true_536
  let c4096_i32 : BitVec 32 := 4096#32
  let v10 : BitVec 32 := Scalar.subi c4096_i32 v8
  let v11 : BitVec 32 := Scalar.select v9 v10 v8
  let c2048_i32_569 : BitVec 32 := 2048#32
  let v1049 : BitVec 1 := Scalar.cmpi .sle v11 c2048_i32_569
  let c1536_i32_570 : BitVec 32 := 1536#32
  let v1050 : BitVec 1 := Scalar.cmpi .sgt v11 c1536_i32_570
  let v1051 : BitVec 1 := Scalar.andi v1049 v1050
  let v1106 : BitVec 1 := Scalar.andi v991 v1051
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1107 : BitVec 1 := Scalar.cmpi .eq v2 v35
  let v1108 : BitVec 1 := Scalar.andi v1106 v1107
  let c8_i32_598 : BitVec 32 := 8#32
  let v1109 : BitVec 32 := Scalar.andi v11 c8_i32_598
  let c0_i32_599 : BitVec 32 := 0#32
  let v1110 : BitVec 1 := Scalar.cmpi .ne v1109 c0_i32_599
  let v1111 : BitVec 1 := Scalar.andi v1108 v1110
  let v1112 : BitVec 32 := Scalar.extui v1111
  let c0_i32_602 : BitVec 32 := 0#32
  let v1113 : BitVec 1 := Scalar.cmpi .ne v1112 c0_i32_602
  v1113

def k0_off120 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c64_i32_572 : BitVec 32 := 64#32
  let v1056 : BitVec 32 := Scalar.andi v11 c64_i32_572
  let v1057 : BitVec 32 := Scalar.addi v1054 v1056
  let c32_i32_573 : BitVec 32 := 32#32
  let v1059 : BitVec 32 := Scalar.andi v11 c32_i32_573
  let v1060 : BitVec 32 := Scalar.addi v1057 v1059
  let c16_i32_574 : BitVec 32 := 16#32
  let v1062 : BitVec 32 := Scalar.andi v11 c16_i32_574
  let v1063 : BitVec 32 := Scalar.addi v1060 v1062
  let c0_i32_1546 : BitVec 32 := 0#32
  let c0_i32_1547 : BitVec 32 := 0#32
  ![v1063.toNat, 0, 0]
def k0_dev69 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off121 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c64_i32_572 : BitVec 32 := 64#32
  let v1056 : BitVec 32 := Scalar.andi v11 c64_i32_572
  let v1057 : BitVec 32 := Scalar.addi v1054 v1056
  let c32_i32_573 : BitVec 32 := 32#32
  let v1059 : BitVec 32 := Scalar.andi v11 c32_i32_573
  let v1060 : BitVec 32 := Scalar.addi v1057 v1059
  let c16_i32_574 : BitVec 32 := 16#32
  let v1062 : BitVec 32 := Scalar.andi v11 c16_i32_574
  let v1063 : BitVec 32 := Scalar.addi v1060 v1062
  let c8_i32_575 : BitVec 32 := 8#32
  let v1065 : BitVec 32 := Scalar.andi v11 c8_i32_575
  let v1066 : BitVec 32 := Scalar.addi v1063 v1065
  let v1067 : BitVec 32 := Scalar.addi v14 v1066
  let c0_i32_1544 : BitVec 32 := 0#32
  let c0_i32_1545 : BitVec 32 := 0#32
  ![v1067.toNat, 0, 0]
def k0_cond68 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_536 : BitVec 1 := 1#1
  let v991 : BitVec 1 := Scalar.xori v9 true_536
  let c4096_i32 : BitVec 32 := 4096#32
  let v10 : BitVec 32 := Scalar.subi c4096_i32 v8
  let v11 : BitVec 32 := Scalar.select v9 v10 v8
  let c2048_i32_569 : BitVec 32 := 2048#32
  let v1049 : BitVec 1 := Scalar.cmpi .sle v11 c2048_i32_569
  let c1536_i32_570 : BitVec 32 := 1536#32
  let v1050 : BitVec 1 := Scalar.cmpi .sgt v11 c1536_i32_570
  let v1051 : BitVec 1 := Scalar.andi v1049 v1050
  let v1114 : BitVec 1 := Scalar.andi v991 v1051
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1115 : BitVec 1 := Scalar.cmpi .eq v2 v35
  let v1116 : BitVec 1 := Scalar.andi v1114 v1115
  let c4_i32_603 : BitVec 32 := 4#32
  let v1117 : BitVec 32 := Scalar.andi v11 c4_i32_603
  let c0_i32_604 : BitVec 32 := 0#32
  let v1118 : BitVec 1 := Scalar.cmpi .ne v1117 c0_i32_604
  let v1119 : BitVec 1 := Scalar.andi v1116 v1118
  let v1120 : BitVec 32 := Scalar.extui v1119
  let c0_i32_607 : BitVec 32 := 0#32
  let v1121 : BitVec 1 := Scalar.cmpi .ne v1120 c0_i32_607
  v1121

def k0_off122 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c64_i32_572 : BitVec 32 := 64#32
  let v1056 : BitVec 32 := Scalar.andi v11 c64_i32_572
  let v1057 : BitVec 32 := Scalar.addi v1054 v1056
  let c32_i32_573 : BitVec 32 := 32#32
  let v1059 : BitVec 32 := Scalar.andi v11 c32_i32_573
  let v1060 : BitVec 32 := Scalar.addi v1057 v1059
  let c16_i32_574 : BitVec 32 := 16#32
  let v1062 : BitVec 32 := Scalar.andi v11 c16_i32_574
  let v1063 : BitVec 32 := Scalar.addi v1060 v1062
  let c8_i32_575 : BitVec 32 := 8#32
  let v1065 : BitVec 32 := Scalar.andi v11 c8_i32_575
  let v1066 : BitVec 32 := Scalar.addi v1063 v1065
  let c0_i32_1546 : BitVec 32 := 0#32
  let c0_i32_1547 : BitVec 32 := 0#32
  ![v1066.toNat, 0, 0]
def k0_dev70 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off123 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c64_i32_572 : BitVec 32 := 64#32
  let v1056 : BitVec 32 := Scalar.andi v11 c64_i32_572
  let v1057 : BitVec 32 := Scalar.addi v1054 v1056
  let c32_i32_573 : BitVec 32 := 32#32
  let v1059 : BitVec 32 := Scalar.andi v11 c32_i32_573
  let v1060 : BitVec 32 := Scalar.addi v1057 v1059
  let c16_i32_574 : BitVec 32 := 16#32
  let v1062 : BitVec 32 := Scalar.andi v11 c16_i32_574
  let v1063 : BitVec 32 := Scalar.addi v1060 v1062
  let c8_i32_575 : BitVec 32 := 8#32
  let v1065 : BitVec 32 := Scalar.andi v11 c8_i32_575
  let v1066 : BitVec 32 := Scalar.addi v1063 v1065
  let c4_i32_576 : BitVec 32 := 4#32
  let v1068 : BitVec 32 := Scalar.andi v11 c4_i32_576
  let v1069 : BitVec 32 := Scalar.addi v1066 v1068
  let v1070 : BitVec 32 := Scalar.addi v14 v1069
  let c0_i32_1544 : BitVec 32 := 0#32
  let c0_i32_1545 : BitVec 32 := 0#32
  ![v1070.toNat, 0, 0]
def k0_cond69 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_536 : BitVec 1 := 1#1
  let v991 : BitVec 1 := Scalar.xori v9 true_536
  let c4096_i32 : BitVec 32 := 4096#32
  let v10 : BitVec 32 := Scalar.subi c4096_i32 v8
  let v11 : BitVec 32 := Scalar.select v9 v10 v8
  let c2048_i32_569 : BitVec 32 := 2048#32
  let v1049 : BitVec 1 := Scalar.cmpi .sle v11 c2048_i32_569
  let c1536_i32_570 : BitVec 32 := 1536#32
  let v1050 : BitVec 1 := Scalar.cmpi .sgt v11 c1536_i32_570
  let v1051 : BitVec 1 := Scalar.andi v1049 v1050
  let v1122 : BitVec 1 := Scalar.andi v991 v1051
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1123 : BitVec 1 := Scalar.cmpi .eq v2 v35
  let v1124 : BitVec 1 := Scalar.andi v1122 v1123
  let c2_i32_608 : BitVec 32 := 2#32
  let v1125 : BitVec 32 := Scalar.andi v11 c2_i32_608
  let c0_i32_609 : BitVec 32 := 0#32
  let v1126 : BitVec 1 := Scalar.cmpi .ne v1125 c0_i32_609
  let v1127 : BitVec 1 := Scalar.andi v1124 v1126
  let v1128 : BitVec 32 := Scalar.extui v1127
  let c0_i32_612 : BitVec 32 := 0#32
  let v1129 : BitVec 1 := Scalar.cmpi .ne v1128 c0_i32_612
  v1129

def k0_off124 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c64_i32_572 : BitVec 32 := 64#32
  let v1056 : BitVec 32 := Scalar.andi v11 c64_i32_572
  let v1057 : BitVec 32 := Scalar.addi v1054 v1056
  let c32_i32_573 : BitVec 32 := 32#32
  let v1059 : BitVec 32 := Scalar.andi v11 c32_i32_573
  let v1060 : BitVec 32 := Scalar.addi v1057 v1059
  let c16_i32_574 : BitVec 32 := 16#32
  let v1062 : BitVec 32 := Scalar.andi v11 c16_i32_574
  let v1063 : BitVec 32 := Scalar.addi v1060 v1062
  let c8_i32_575 : BitVec 32 := 8#32
  let v1065 : BitVec 32 := Scalar.andi v11 c8_i32_575
  let v1066 : BitVec 32 := Scalar.addi v1063 v1065
  let c4_i32_576 : BitVec 32 := 4#32
  let v1068 : BitVec 32 := Scalar.andi v11 c4_i32_576
  let v1069 : BitVec 32 := Scalar.addi v1066 v1068
  let c0_i32_1546 : BitVec 32 := 0#32
  let c0_i32_1547 : BitVec 32 := 0#32
  ![v1069.toNat, 0, 0]
def k0_dev71 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off125 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c64_i32_572 : BitVec 32 := 64#32
  let v1056 : BitVec 32 := Scalar.andi v11 c64_i32_572
  let v1057 : BitVec 32 := Scalar.addi v1054 v1056
  let c32_i32_573 : BitVec 32 := 32#32
  let v1059 : BitVec 32 := Scalar.andi v11 c32_i32_573
  let v1060 : BitVec 32 := Scalar.addi v1057 v1059
  let c16_i32_574 : BitVec 32 := 16#32
  let v1062 : BitVec 32 := Scalar.andi v11 c16_i32_574
  let v1063 : BitVec 32 := Scalar.addi v1060 v1062
  let c8_i32_575 : BitVec 32 := 8#32
  let v1065 : BitVec 32 := Scalar.andi v11 c8_i32_575
  let v1066 : BitVec 32 := Scalar.addi v1063 v1065
  let c4_i32_576 : BitVec 32 := 4#32
  let v1068 : BitVec 32 := Scalar.andi v11 c4_i32_576
  let v1069 : BitVec 32 := Scalar.addi v1066 v1068
  let c2_i32_577 : BitVec 32 := 2#32
  let v1071 : BitVec 32 := Scalar.andi v11 c2_i32_577
  let v1072 : BitVec 32 := Scalar.addi v1069 v1071
  let v1073 : BitVec 32 := Scalar.addi v14 v1072
  let c0_i32_1544 : BitVec 32 := 0#32
  let c0_i32_1545 : BitVec 32 := 0#32
  ![v1073.toNat, 0, 0]
def k0_cond70 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_536 : BitVec 1 := 1#1
  let v991 : BitVec 1 := Scalar.xori v9 true_536
  let c4096_i32 : BitVec 32 := 4096#32
  let v10 : BitVec 32 := Scalar.subi c4096_i32 v8
  let v11 : BitVec 32 := Scalar.select v9 v10 v8
  let c2048_i32_569 : BitVec 32 := 2048#32
  let v1049 : BitVec 1 := Scalar.cmpi .sle v11 c2048_i32_569
  let c1536_i32_570 : BitVec 32 := 1536#32
  let v1050 : BitVec 1 := Scalar.cmpi .sgt v11 c1536_i32_570
  let v1051 : BitVec 1 := Scalar.andi v1049 v1050
  let v1130 : BitVec 1 := Scalar.andi v991 v1051
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1131 : BitVec 1 := Scalar.cmpi .eq v2 v35
  let v1132 : BitVec 1 := Scalar.andi v1130 v1131
  let c1_i32_613 : BitVec 32 := 1#32
  let v1133 : BitVec 32 := Scalar.andi v11 c1_i32_613
  let c0_i32_614 : BitVec 32 := 0#32
  let v1134 : BitVec 1 := Scalar.cmpi .ne v1133 c0_i32_614
  let v1135 : BitVec 1 := Scalar.andi v1132 v1134
  let v1136 : BitVec 32 := Scalar.extui v1135
  let c0_i32_617 : BitVec 32 := 0#32
  let v1137 : BitVec 1 := Scalar.cmpi .ne v1136 c0_i32_617
  v1137

def k0_off126 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_571 : BitVec 32 := 128#32
  let v1053 : BitVec 32 := Scalar.andi v11 c128_i32_571
  let v1054 : BitVec 32 := Scalar.addi v46 v1053
  let c64_i32_572 : BitVec 32 := 64#32
  let v1056 : BitVec 32 := Scalar.andi v11 c64_i32_572
  let v1057 : BitVec 32 := Scalar.addi v1054 v1056
  let c32_i32_573 : BitVec 32 := 32#32
  let v1059 : BitVec 32 := Scalar.andi v11 c32_i32_573
  let v1060 : BitVec 32 := Scalar.addi v1057 v1059
  let c16_i32_574 : BitVec 32 := 16#32
  let v1062 : BitVec 32 := Scalar.andi v11 c16_i32_574
  let v1063 : BitVec 32 := Scalar.addi v1060 v1062
  let c8_i32_575 : BitVec 32 := 8#32
  let v1065 : BitVec 32 := Scalar.andi v11 c8_i32_575
  let v1066 : BitVec 32 := Scalar.addi v1063 v1065
  let c4_i32_576 : BitVec 32 := 4#32
  let v1068 : BitVec 32 := Scalar.andi v11 c4_i32_576
  let v1069 : BitVec 32 := Scalar.addi v1066 v1068
  let c2_i32_577 : BitVec 32 := 2#32
  let v1071 : BitVec 32 := Scalar.andi v11 c2_i32_577
  let v1072 : BitVec 32 := Scalar.addi v1069 v1071
  let c0_i32_1546 : BitVec 32 := 0#32
  let c0_i32_1547 : BitVec 32 := 0#32
  ![v1072.toNat, 0, 0]
def k0_dev72 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off127 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1536_i32_1541 : BitVec 32 := 1536#32
  let v2700 : BitVec 32 := Scalar.addi v14 c1536_i32_1541
  let c0_i32_1547 : BitVec 32 := 0#32
  let c0_i32_1548 : BitVec 32 := 0#32
  ![v2700.toNat, 0, 0]
def k0_cond71 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_645 : BitVec 32 := 0#32
  let v1175 : BitVec 1 := Scalar.cmpi .eq v2 c0_i32_645
  let v1176 : BitVec 1 := Scalar.andi v9 v1175
  let c4096_i32 : BitVec 32 := 4096#32
  let v10 : BitVec 32 := Scalar.subi c4096_i32 v8
  let v11 : BitVec 32 := Scalar.select v9 v10 v8
  let c1792_i32_646 : BitVec 32 := 1792#32
  let v1177 : BitVec 1 := Scalar.cmpi .sge v11 c1792_i32_646
  let v1178 : BitVec 1 := Scalar.andi v1176 v1177
  let v1179 : BitVec 32 := Scalar.extui v1178
  let c0_i32_647 : BitVec 32 := 0#32
  let v1180 : BitVec 1 := Scalar.cmpi .ne v1179 c0_i32_647
  v1180

def k0_dev73 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off128 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1792_i32_1541 : BitVec 32 := 1792#32
  let v2700 : BitVec 32 := Scalar.addi v14 c1792_i32_1541
  let c0_i32_1547 : BitVec 32 := 0#32
  let c0_i32_1548 : BitVec 32 := 0#32
  ![v2700.toNat, 0, 0]
def k0_cond72 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_648 : BitVec 32 := 1#32
  let v1181 : BitVec 1 := Scalar.cmpi .eq v2 c1_i32_648
  let v1182 : BitVec 1 := Scalar.andi v9 v1181
  let c4096_i32 : BitVec 32 := 4096#32
  let v10 : BitVec 32 := Scalar.subi c4096_i32 v8
  let v11 : BitVec 32 := Scalar.select v9 v10 v8
  let c2048_i32_649 : BitVec 32 := 2048#32
  let v1183 : BitVec 1 := Scalar.cmpi .sge v11 c2048_i32_649
  let v1184 : BitVec 1 := Scalar.andi v1182 v1183
  let v1185 : BitVec 32 := Scalar.extui v1184
  let c0_i32_650 : BitVec 32 := 0#32
  let v1186 : BitVec 1 := Scalar.cmpi .ne v1185 c0_i32_650
  v1186

def k0_dev74 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off129 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v1190 : BitVec 32 := Scalar.addi v14 v46
  let c0_i32_1544 : BitVec 32 := 0#32
  let c0_i32_1545 : BitVec 32 := 0#32
  ![v1190.toNat, 0, 0]
def k0_cond73 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2048_i32_651 : BitVec 32 := 2048#32
  let v1187 : BitVec 1 := Scalar.cmpi .sle v11 c2048_i32_651
  let c1536_i32_652 : BitVec 32 := 1536#32
  let v1188 : BitVec 1 := Scalar.cmpi .sgt v11 c1536_i32_652
  let v1189 : BitVec 1 := Scalar.andi v1187 v1188
  let v1212 : BitVec 1 := Scalar.andi v9 v1189
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1213 : BitVec 1 := Scalar.cmpi .eq v2 v35
  let v1214 : BitVec 1 := Scalar.andi v1212 v1213
  let c128_i32_660 : BitVec 32 := 128#32
  let v1215 : BitVec 32 := Scalar.andi v11 c128_i32_660
  let c0_i32_661 : BitVec 32 := 0#32
  let v1216 : BitVec 1 := Scalar.cmpi .ne v1215 c0_i32_661
  let v1217 : BitVec 1 := Scalar.andi v1214 v1216
  let v1218 : BitVec 32 := Scalar.extui v1217
  let c0_i32_664 : BitVec 32 := 0#32
  let v1219 : BitVec 1 := Scalar.cmpi .ne v1218 c0_i32_664
  v1219

def k0_off130 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c0_i32_1546 : BitVec 32 := 0#32
  let c0_i32_1547 : BitVec 32 := 0#32
  ![v46.toNat, 0, 0]
def k0_dev75 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off131 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let v1193 : BitVec 32 := Scalar.addi v14 v1192
  let c0_i32_1544 : BitVec 32 := 0#32
  let c0_i32_1545 : BitVec 32 := 0#32
  ![v1193.toNat, 0, 0]
def k0_cond74 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2048_i32_651 : BitVec 32 := 2048#32
  let v1187 : BitVec 1 := Scalar.cmpi .sle v11 c2048_i32_651
  let c1536_i32_652 : BitVec 32 := 1536#32
  let v1188 : BitVec 1 := Scalar.cmpi .sgt v11 c1536_i32_652
  let v1189 : BitVec 1 := Scalar.andi v1187 v1188
  let v1220 : BitVec 1 := Scalar.andi v9 v1189
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1221 : BitVec 1 := Scalar.cmpi .eq v2 v35
  let v1222 : BitVec 1 := Scalar.andi v1220 v1221
  let c64_i32_665 : BitVec 32 := 64#32
  let v1223 : BitVec 32 := Scalar.andi v11 c64_i32_665
  let c0_i32_666 : BitVec 32 := 0#32
  let v1224 : BitVec 1 := Scalar.cmpi .ne v1223 c0_i32_666
  let v1225 : BitVec 1 := Scalar.andi v1222 v1224
  let v1226 : BitVec 32 := Scalar.extui v1225
  let c0_i32_669 : BitVec 32 := 0#32
  let v1227 : BitVec 1 := Scalar.cmpi .ne v1226 c0_i32_669
  v1227

def k0_off132 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c0_i32_1546 : BitVec 32 := 0#32
  let c0_i32_1547 : BitVec 32 := 0#32
  ![v1192.toNat, 0, 0]
def k0_dev76 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off133 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c64_i32_654 : BitVec 32 := 64#32
  let v1194 : BitVec 32 := Scalar.andi v11 c64_i32_654
  let v1195 : BitVec 32 := Scalar.addi v1192 v1194
  let v1196 : BitVec 32 := Scalar.addi v14 v1195
  let c0_i32_1544 : BitVec 32 := 0#32
  let c0_i32_1545 : BitVec 32 := 0#32
  ![v1196.toNat, 0, 0]
def k0_cond75 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2048_i32_651 : BitVec 32 := 2048#32
  let v1187 : BitVec 1 := Scalar.cmpi .sle v11 c2048_i32_651
  let c1536_i32_652 : BitVec 32 := 1536#32
  let v1188 : BitVec 1 := Scalar.cmpi .sgt v11 c1536_i32_652
  let v1189 : BitVec 1 := Scalar.andi v1187 v1188
  let v1228 : BitVec 1 := Scalar.andi v9 v1189
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1229 : BitVec 1 := Scalar.cmpi .eq v2 v35
  let v1230 : BitVec 1 := Scalar.andi v1228 v1229
  let c32_i32_670 : BitVec 32 := 32#32
  let v1231 : BitVec 32 := Scalar.andi v11 c32_i32_670
  let c0_i32_671 : BitVec 32 := 0#32
  let v1232 : BitVec 1 := Scalar.cmpi .ne v1231 c0_i32_671
  let v1233 : BitVec 1 := Scalar.andi v1230 v1232
  let v1234 : BitVec 32 := Scalar.extui v1233
  let c0_i32_674 : BitVec 32 := 0#32
  let v1235 : BitVec 1 := Scalar.cmpi .ne v1234 c0_i32_674
  v1235

def k0_off134 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c64_i32_654 : BitVec 32 := 64#32
  let v1194 : BitVec 32 := Scalar.andi v11 c64_i32_654
  let v1195 : BitVec 32 := Scalar.addi v1192 v1194
  let c0_i32_1546 : BitVec 32 := 0#32
  let c0_i32_1547 : BitVec 32 := 0#32
  ![v1195.toNat, 0, 0]
def k0_dev77 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off135 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c64_i32_654 : BitVec 32 := 64#32
  let v1194 : BitVec 32 := Scalar.andi v11 c64_i32_654
  let v1195 : BitVec 32 := Scalar.addi v1192 v1194
  let c32_i32_655 : BitVec 32 := 32#32
  let v1197 : BitVec 32 := Scalar.andi v11 c32_i32_655
  let v1198 : BitVec 32 := Scalar.addi v1195 v1197
  let v1199 : BitVec 32 := Scalar.addi v14 v1198
  let c0_i32_1544 : BitVec 32 := 0#32
  let c0_i32_1545 : BitVec 32 := 0#32
  ![v1199.toNat, 0, 0]
def k0_cond76 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2048_i32_651 : BitVec 32 := 2048#32
  let v1187 : BitVec 1 := Scalar.cmpi .sle v11 c2048_i32_651
  let c1536_i32_652 : BitVec 32 := 1536#32
  let v1188 : BitVec 1 := Scalar.cmpi .sgt v11 c1536_i32_652
  let v1189 : BitVec 1 := Scalar.andi v1187 v1188
  let v1236 : BitVec 1 := Scalar.andi v9 v1189
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1237 : BitVec 1 := Scalar.cmpi .eq v2 v35
  let v1238 : BitVec 1 := Scalar.andi v1236 v1237
  let c16_i32_675 : BitVec 32 := 16#32
  let v1239 : BitVec 32 := Scalar.andi v11 c16_i32_675
  let c0_i32_676 : BitVec 32 := 0#32
  let v1240 : BitVec 1 := Scalar.cmpi .ne v1239 c0_i32_676
  let v1241 : BitVec 1 := Scalar.andi v1238 v1240
  let v1242 : BitVec 32 := Scalar.extui v1241
  let c0_i32_679 : BitVec 32 := 0#32
  let v1243 : BitVec 1 := Scalar.cmpi .ne v1242 c0_i32_679
  v1243

def k0_off136 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c64_i32_654 : BitVec 32 := 64#32
  let v1194 : BitVec 32 := Scalar.andi v11 c64_i32_654
  let v1195 : BitVec 32 := Scalar.addi v1192 v1194
  let c32_i32_655 : BitVec 32 := 32#32
  let v1197 : BitVec 32 := Scalar.andi v11 c32_i32_655
  let v1198 : BitVec 32 := Scalar.addi v1195 v1197
  let c0_i32_1546 : BitVec 32 := 0#32
  let c0_i32_1547 : BitVec 32 := 0#32
  ![v1198.toNat, 0, 0]
def k0_dev78 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off137 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c64_i32_654 : BitVec 32 := 64#32
  let v1194 : BitVec 32 := Scalar.andi v11 c64_i32_654
  let v1195 : BitVec 32 := Scalar.addi v1192 v1194
  let c32_i32_655 : BitVec 32 := 32#32
  let v1197 : BitVec 32 := Scalar.andi v11 c32_i32_655
  let v1198 : BitVec 32 := Scalar.addi v1195 v1197
  let c16_i32_656 : BitVec 32 := 16#32
  let v1200 : BitVec 32 := Scalar.andi v11 c16_i32_656
  let v1201 : BitVec 32 := Scalar.addi v1198 v1200
  let v1202 : BitVec 32 := Scalar.addi v14 v1201
  let c0_i32_1544 : BitVec 32 := 0#32
  let c0_i32_1545 : BitVec 32 := 0#32
  ![v1202.toNat, 0, 0]
def k0_cond77 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2048_i32_651 : BitVec 32 := 2048#32
  let v1187 : BitVec 1 := Scalar.cmpi .sle v11 c2048_i32_651
  let c1536_i32_652 : BitVec 32 := 1536#32
  let v1188 : BitVec 1 := Scalar.cmpi .sgt v11 c1536_i32_652
  let v1189 : BitVec 1 := Scalar.andi v1187 v1188
  let v1244 : BitVec 1 := Scalar.andi v9 v1189
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1245 : BitVec 1 := Scalar.cmpi .eq v2 v35
  let v1246 : BitVec 1 := Scalar.andi v1244 v1245
  let c8_i32_680 : BitVec 32 := 8#32
  let v1247 : BitVec 32 := Scalar.andi v11 c8_i32_680
  let c0_i32_681 : BitVec 32 := 0#32
  let v1248 : BitVec 1 := Scalar.cmpi .ne v1247 c0_i32_681
  let v1249 : BitVec 1 := Scalar.andi v1246 v1248
  let v1250 : BitVec 32 := Scalar.extui v1249
  let c0_i32_684 : BitVec 32 := 0#32
  let v1251 : BitVec 1 := Scalar.cmpi .ne v1250 c0_i32_684
  v1251

def k0_off138 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c64_i32_654 : BitVec 32 := 64#32
  let v1194 : BitVec 32 := Scalar.andi v11 c64_i32_654
  let v1195 : BitVec 32 := Scalar.addi v1192 v1194
  let c32_i32_655 : BitVec 32 := 32#32
  let v1197 : BitVec 32 := Scalar.andi v11 c32_i32_655
  let v1198 : BitVec 32 := Scalar.addi v1195 v1197
  let c16_i32_656 : BitVec 32 := 16#32
  let v1200 : BitVec 32 := Scalar.andi v11 c16_i32_656
  let v1201 : BitVec 32 := Scalar.addi v1198 v1200
  let c0_i32_1546 : BitVec 32 := 0#32
  let c0_i32_1547 : BitVec 32 := 0#32
  ![v1201.toNat, 0, 0]
def k0_dev79 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off139 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c64_i32_654 : BitVec 32 := 64#32
  let v1194 : BitVec 32 := Scalar.andi v11 c64_i32_654
  let v1195 : BitVec 32 := Scalar.addi v1192 v1194
  let c32_i32_655 : BitVec 32 := 32#32
  let v1197 : BitVec 32 := Scalar.andi v11 c32_i32_655
  let v1198 : BitVec 32 := Scalar.addi v1195 v1197
  let c16_i32_656 : BitVec 32 := 16#32
  let v1200 : BitVec 32 := Scalar.andi v11 c16_i32_656
  let v1201 : BitVec 32 := Scalar.addi v1198 v1200
  let c8_i32_657 : BitVec 32 := 8#32
  let v1203 : BitVec 32 := Scalar.andi v11 c8_i32_657
  let v1204 : BitVec 32 := Scalar.addi v1201 v1203
  let v1205 : BitVec 32 := Scalar.addi v14 v1204
  let c0_i32_1544 : BitVec 32 := 0#32
  let c0_i32_1545 : BitVec 32 := 0#32
  ![v1205.toNat, 0, 0]
def k0_cond78 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2048_i32_651 : BitVec 32 := 2048#32
  let v1187 : BitVec 1 := Scalar.cmpi .sle v11 c2048_i32_651
  let c1536_i32_652 : BitVec 32 := 1536#32
  let v1188 : BitVec 1 := Scalar.cmpi .sgt v11 c1536_i32_652
  let v1189 : BitVec 1 := Scalar.andi v1187 v1188
  let v1252 : BitVec 1 := Scalar.andi v9 v1189
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1253 : BitVec 1 := Scalar.cmpi .eq v2 v35
  let v1254 : BitVec 1 := Scalar.andi v1252 v1253
  let c4_i32_685 : BitVec 32 := 4#32
  let v1255 : BitVec 32 := Scalar.andi v11 c4_i32_685
  let c0_i32_686 : BitVec 32 := 0#32
  let v1256 : BitVec 1 := Scalar.cmpi .ne v1255 c0_i32_686
  let v1257 : BitVec 1 := Scalar.andi v1254 v1256
  let v1258 : BitVec 32 := Scalar.extui v1257
  let c0_i32_689 : BitVec 32 := 0#32
  let v1259 : BitVec 1 := Scalar.cmpi .ne v1258 c0_i32_689
  v1259

def k0_off140 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c64_i32_654 : BitVec 32 := 64#32
  let v1194 : BitVec 32 := Scalar.andi v11 c64_i32_654
  let v1195 : BitVec 32 := Scalar.addi v1192 v1194
  let c32_i32_655 : BitVec 32 := 32#32
  let v1197 : BitVec 32 := Scalar.andi v11 c32_i32_655
  let v1198 : BitVec 32 := Scalar.addi v1195 v1197
  let c16_i32_656 : BitVec 32 := 16#32
  let v1200 : BitVec 32 := Scalar.andi v11 c16_i32_656
  let v1201 : BitVec 32 := Scalar.addi v1198 v1200
  let c8_i32_657 : BitVec 32 := 8#32
  let v1203 : BitVec 32 := Scalar.andi v11 c8_i32_657
  let v1204 : BitVec 32 := Scalar.addi v1201 v1203
  let c0_i32_1546 : BitVec 32 := 0#32
  let c0_i32_1547 : BitVec 32 := 0#32
  ![v1204.toNat, 0, 0]
def k0_dev80 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off141 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c64_i32_654 : BitVec 32 := 64#32
  let v1194 : BitVec 32 := Scalar.andi v11 c64_i32_654
  let v1195 : BitVec 32 := Scalar.addi v1192 v1194
  let c32_i32_655 : BitVec 32 := 32#32
  let v1197 : BitVec 32 := Scalar.andi v11 c32_i32_655
  let v1198 : BitVec 32 := Scalar.addi v1195 v1197
  let c16_i32_656 : BitVec 32 := 16#32
  let v1200 : BitVec 32 := Scalar.andi v11 c16_i32_656
  let v1201 : BitVec 32 := Scalar.addi v1198 v1200
  let c8_i32_657 : BitVec 32 := 8#32
  let v1203 : BitVec 32 := Scalar.andi v11 c8_i32_657
  let v1204 : BitVec 32 := Scalar.addi v1201 v1203
  let c4_i32_658 : BitVec 32 := 4#32
  let v1206 : BitVec 32 := Scalar.andi v11 c4_i32_658
  let v1207 : BitVec 32 := Scalar.addi v1204 v1206
  let v1208 : BitVec 32 := Scalar.addi v14 v1207
  let c0_i32_1544 : BitVec 32 := 0#32
  let c0_i32_1545 : BitVec 32 := 0#32
  ![v1208.toNat, 0, 0]
def k0_cond79 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2048_i32_651 : BitVec 32 := 2048#32
  let v1187 : BitVec 1 := Scalar.cmpi .sle v11 c2048_i32_651
  let c1536_i32_652 : BitVec 32 := 1536#32
  let v1188 : BitVec 1 := Scalar.cmpi .sgt v11 c1536_i32_652
  let v1189 : BitVec 1 := Scalar.andi v1187 v1188
  let v1260 : BitVec 1 := Scalar.andi v9 v1189
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1261 : BitVec 1 := Scalar.cmpi .eq v2 v35
  let v1262 : BitVec 1 := Scalar.andi v1260 v1261
  let c2_i32_690 : BitVec 32 := 2#32
  let v1263 : BitVec 32 := Scalar.andi v11 c2_i32_690
  let c0_i32_691 : BitVec 32 := 0#32
  let v1264 : BitVec 1 := Scalar.cmpi .ne v1263 c0_i32_691
  let v1265 : BitVec 1 := Scalar.andi v1262 v1264
  let v1266 : BitVec 32 := Scalar.extui v1265
  let c0_i32_694 : BitVec 32 := 0#32
  let v1267 : BitVec 1 := Scalar.cmpi .ne v1266 c0_i32_694
  v1267

def k0_off142 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c64_i32_654 : BitVec 32 := 64#32
  let v1194 : BitVec 32 := Scalar.andi v11 c64_i32_654
  let v1195 : BitVec 32 := Scalar.addi v1192 v1194
  let c32_i32_655 : BitVec 32 := 32#32
  let v1197 : BitVec 32 := Scalar.andi v11 c32_i32_655
  let v1198 : BitVec 32 := Scalar.addi v1195 v1197
  let c16_i32_656 : BitVec 32 := 16#32
  let v1200 : BitVec 32 := Scalar.andi v11 c16_i32_656
  let v1201 : BitVec 32 := Scalar.addi v1198 v1200
  let c8_i32_657 : BitVec 32 := 8#32
  let v1203 : BitVec 32 := Scalar.andi v11 c8_i32_657
  let v1204 : BitVec 32 := Scalar.addi v1201 v1203
  let c4_i32_658 : BitVec 32 := 4#32
  let v1206 : BitVec 32 := Scalar.andi v11 c4_i32_658
  let v1207 : BitVec 32 := Scalar.addi v1204 v1206
  let c0_i32_1546 : BitVec 32 := 0#32
  let c0_i32_1547 : BitVec 32 := 0#32
  ![v1207.toNat, 0, 0]
def k0_dev81 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off143 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c64_i32_654 : BitVec 32 := 64#32
  let v1194 : BitVec 32 := Scalar.andi v11 c64_i32_654
  let v1195 : BitVec 32 := Scalar.addi v1192 v1194
  let c32_i32_655 : BitVec 32 := 32#32
  let v1197 : BitVec 32 := Scalar.andi v11 c32_i32_655
  let v1198 : BitVec 32 := Scalar.addi v1195 v1197
  let c16_i32_656 : BitVec 32 := 16#32
  let v1200 : BitVec 32 := Scalar.andi v11 c16_i32_656
  let v1201 : BitVec 32 := Scalar.addi v1198 v1200
  let c8_i32_657 : BitVec 32 := 8#32
  let v1203 : BitVec 32 := Scalar.andi v11 c8_i32_657
  let v1204 : BitVec 32 := Scalar.addi v1201 v1203
  let c4_i32_658 : BitVec 32 := 4#32
  let v1206 : BitVec 32 := Scalar.andi v11 c4_i32_658
  let v1207 : BitVec 32 := Scalar.addi v1204 v1206
  let c2_i32_659 : BitVec 32 := 2#32
  let v1209 : BitVec 32 := Scalar.andi v11 c2_i32_659
  let v1210 : BitVec 32 := Scalar.addi v1207 v1209
  let v1211 : BitVec 32 := Scalar.addi v14 v1210
  let c0_i32_1544 : BitVec 32 := 0#32
  let c0_i32_1545 : BitVec 32 := 0#32
  ![v1211.toNat, 0, 0]
def k0_cond80 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2048_i32_651 : BitVec 32 := 2048#32
  let v1187 : BitVec 1 := Scalar.cmpi .sle v11 c2048_i32_651
  let c1536_i32_652 : BitVec 32 := 1536#32
  let v1188 : BitVec 1 := Scalar.cmpi .sgt v11 c1536_i32_652
  let v1189 : BitVec 1 := Scalar.andi v1187 v1188
  let v1268 : BitVec 1 := Scalar.andi v9 v1189
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1269 : BitVec 1 := Scalar.cmpi .eq v2 v35
  let v1270 : BitVec 1 := Scalar.andi v1268 v1269
  let c1_i32_695 : BitVec 32 := 1#32
  let v1271 : BitVec 32 := Scalar.andi v11 c1_i32_695
  let c0_i32_696 : BitVec 32 := 0#32
  let v1272 : BitVec 1 := Scalar.cmpi .ne v1271 c0_i32_696
  let v1273 : BitVec 1 := Scalar.andi v1270 v1272
  let v1274 : BitVec 32 := Scalar.extui v1273
  let c0_i32_699 : BitVec 32 := 0#32
  let v1275 : BitVec 1 := Scalar.cmpi .ne v1274 c0_i32_699
  v1275

def k0_off144 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_653 : BitVec 32 := 128#32
  let v1191 : BitVec 32 := Scalar.andi v11 c128_i32_653
  let v1192 : BitVec 32 := Scalar.addi v46 v1191
  let c64_i32_654 : BitVec 32 := 64#32
  let v1194 : BitVec 32 := Scalar.andi v11 c64_i32_654
  let v1195 : BitVec 32 := Scalar.addi v1192 v1194
  let c32_i32_655 : BitVec 32 := 32#32
  let v1197 : BitVec 32 := Scalar.andi v11 c32_i32_655
  let v1198 : BitVec 32 := Scalar.addi v1195 v1197
  let c16_i32_656 : BitVec 32 := 16#32
  let v1200 : BitVec 32 := Scalar.andi v11 c16_i32_656
  let v1201 : BitVec 32 := Scalar.addi v1198 v1200
  let c8_i32_657 : BitVec 32 := 8#32
  let v1203 : BitVec 32 := Scalar.andi v11 c8_i32_657
  let v1204 : BitVec 32 := Scalar.addi v1201 v1203
  let c4_i32_658 : BitVec 32 := 4#32
  let v1206 : BitVec 32 := Scalar.andi v11 c4_i32_658
  let v1207 : BitVec 32 := Scalar.addi v1204 v1206
  let c2_i32_659 : BitVec 32 := 2#32
  let v1209 : BitVec 32 := Scalar.andi v11 c2_i32_659
  let v1210 : BitVec 32 := Scalar.addi v1207 v1209
  let c0_i32_1546 : BitVec 32 := 0#32
  let c0_i32_1547 : BitVec 32 := 0#32
  ![v1210.toNat, 0, 0]
def k0_dev82 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off145 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c2048_i32_1541 : BitVec 32 := 2048#32
  let v2700 : BitVec 32 := Scalar.addi v14 c2048_i32_1541
  let c0_i32_1547 : BitVec 32 := 0#32
  let c0_i32_1548 : BitVec 32 := 0#32
  ![v2700.toNat, 0, 0]
def k0_cond81 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_709 : BitVec 1 := 1#1
  let v1296 : BitVec 1 := Scalar.xori v9 true_709
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_737 : BitVec 32 := 0#32
  let v1342 : BitVec 1 := Scalar.cmpi .eq v2 c0_i32_737
  let v1343 : BitVec 1 := Scalar.andi v1296 v1342
  let c4096_i32 : BitVec 32 := 4096#32
  let v10 : BitVec 32 := Scalar.subi c4096_i32 v8
  let v11 : BitVec 32 := Scalar.select v9 v10 v8
  let c2304_i32 : BitVec 32 := 2304#32
  let v1344 : BitVec 1 := Scalar.cmpi .sge v11 c2304_i32
  let v1345 : BitVec 1 := Scalar.andi v1343 v1344
  let v1346 : BitVec 32 := Scalar.extui v1345
  let c0_i32_738 : BitVec 32 := 0#32
  let v1347 : BitVec 1 := Scalar.cmpi .ne v1346 c0_i32_738
  v1347

def k0_dev83 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off146 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c2304_i32_1541 : BitVec 32 := 2304#32
  let v2700 : BitVec 32 := Scalar.addi v14 c2304_i32_1541
  let c0_i32_1546 : BitVec 32 := 0#32
  let c0_i32_1547 : BitVec 32 := 0#32
  ![v2700.toNat, 0, 0]
def k0_cond82 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_709 : BitVec 1 := 1#1
  let v1296 : BitVec 1 := Scalar.xori v9 true_709
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_739 : BitVec 32 := 1#32
  let v1348 : BitVec 1 := Scalar.cmpi .eq v2 c1_i32_739
  let v1349 : BitVec 1 := Scalar.andi v1296 v1348
  let c4096_i32 : BitVec 32 := 4096#32
  let v10 : BitVec 32 := Scalar.subi c4096_i32 v8
  let v11 : BitVec 32 := Scalar.select v9 v10 v8
  let c2560_i32_740 : BitVec 32 := 2560#32
  let v1350 : BitVec 1 := Scalar.cmpi .sge v11 c2560_i32_740
  let v1351 : BitVec 1 := Scalar.andi v1349 v1350
  let v1352 : BitVec 32 := Scalar.extui v1351
  let c0_i32_741 : BitVec 32 := 0#32
  let v1353 : BitVec 1 := Scalar.cmpi .ne v1352 c0_i32_741
  v1353

def k0_dev84 (d0 : Dev nD) : Nat :=
  let c0_i32_1544 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1543 : BitVec 32 := 2#32
  let v2701 : BitVec 32 := Scalar.muli v2 c2_i32_1543
  let v2702 : BitVec 32 := Scalar.addi c0_i32_1544 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1545 : BitVec 32 := 1#32
  let v2703 : BitVec 32 := Scalar.muli v6 c1_i32_1545
  let v2704 : BitVec 32 := Scalar.addi v2702 v2703
  v2704.toNat
def k0_off147 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v1357 : BitVec 32 := Scalar.addi v14 v46
  let c0_i32_1544 : BitVec 32 := 0#32
  let c0_i32_1545 : BitVec 32 := 0#32
  ![v1357.toNat, 0, 0]
def k0_cond83 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_709 : BitVec 1 := 1#1
  let v1296 : BitVec 1 := Scalar.xori v9 true_709
  let c4096_i32 : BitVec 32 := 4096#32
  let v10 : BitVec 32 := Scalar.subi c4096_i32 v8
  let v11 : BitVec 32 := Scalar.select v9 v10 v8
  let c2560_i32_742 : BitVec 32 := 2560#32
  let v1354 : BitVec 1 := Scalar.cmpi .sle v11 c2560_i32_742
  let c2048_i32_743 : BitVec 32 := 2048#32
  let v1355 : BitVec 1 := Scalar.cmpi .sgt v11 c2048_i32_743
  let v1356 : BitVec 1 := Scalar.andi v1354 v1355
  let v1379 : BitVec 1 := Scalar.andi v1296 v1356
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1380 : BitVec 1 := Scalar.cmpi .eq v2 v35
  let v1381 : BitVec 1 := Scalar.andi v1379 v1380
  let c128_i32_751 : BitVec 32 := 128#32
  let v1382 : BitVec 32 := Scalar.andi v11 c128_i32_751
  let c0_i32_752 : BitVec 32 := 0#32
  let v1383 : BitVec 1 := Scalar.cmpi .ne v1382 c0_i32_752
  let v1384 : BitVec 1 := Scalar.andi v1381 v1383
  let v1385 : BitVec 32 := Scalar.extui v1384
  let c0_i32_755 : BitVec 32 := 0#32
  let v1386 : BitVec 1 := Scalar.cmpi .ne v1385 c0_i32_755
  v1386

def k0_off148 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c0_i32_1546 : BitVec 32 := 0#32
  let c0_i32_1547 : BitVec 32 := 0#32
  ![v46.toNat, 0, 0]
def k0_dev85 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off149 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let v1360 : BitVec 32 := Scalar.addi v14 v1359
  let c0_i32_1544 : BitVec 32 := 0#32
  let c0_i32_1545 : BitVec 32 := 0#32
  ![v1360.toNat, 0, 0]
def k0_cond84 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_709 : BitVec 1 := 1#1
  let v1296 : BitVec 1 := Scalar.xori v9 true_709
  let c4096_i32 : BitVec 32 := 4096#32
  let v10 : BitVec 32 := Scalar.subi c4096_i32 v8
  let v11 : BitVec 32 := Scalar.select v9 v10 v8
  let c2560_i32_742 : BitVec 32 := 2560#32
  let v1354 : BitVec 1 := Scalar.cmpi .sle v11 c2560_i32_742
  let c2048_i32_743 : BitVec 32 := 2048#32
  let v1355 : BitVec 1 := Scalar.cmpi .sgt v11 c2048_i32_743
  let v1356 : BitVec 1 := Scalar.andi v1354 v1355
  let v1387 : BitVec 1 := Scalar.andi v1296 v1356
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1388 : BitVec 1 := Scalar.cmpi .eq v2 v35
  let v1389 : BitVec 1 := Scalar.andi v1387 v1388
  let c64_i32_756 : BitVec 32 := 64#32
  let v1390 : BitVec 32 := Scalar.andi v11 c64_i32_756
  let c0_i32_757 : BitVec 32 := 0#32
  let v1391 : BitVec 1 := Scalar.cmpi .ne v1390 c0_i32_757
  let v1392 : BitVec 1 := Scalar.andi v1389 v1391
  let v1393 : BitVec 32 := Scalar.extui v1392
  let c0_i32_760 : BitVec 32 := 0#32
  let v1394 : BitVec 1 := Scalar.cmpi .ne v1393 c0_i32_760
  v1394

def k0_off150 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c0_i32_1546 : BitVec 32 := 0#32
  let c0_i32_1547 : BitVec 32 := 0#32
  ![v1359.toNat, 0, 0]
def k0_dev86 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off151 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c64_i32_745 : BitVec 32 := 64#32
  let v1361 : BitVec 32 := Scalar.andi v11 c64_i32_745
  let v1362 : BitVec 32 := Scalar.addi v1359 v1361
  let v1363 : BitVec 32 := Scalar.addi v14 v1362
  let c0_i32_1544 : BitVec 32 := 0#32
  let c0_i32_1545 : BitVec 32 := 0#32
  ![v1363.toNat, 0, 0]
def k0_cond85 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_709 : BitVec 1 := 1#1
  let v1296 : BitVec 1 := Scalar.xori v9 true_709
  let c4096_i32 : BitVec 32 := 4096#32
  let v10 : BitVec 32 := Scalar.subi c4096_i32 v8
  let v11 : BitVec 32 := Scalar.select v9 v10 v8
  let c2560_i32_742 : BitVec 32 := 2560#32
  let v1354 : BitVec 1 := Scalar.cmpi .sle v11 c2560_i32_742
  let c2048_i32_743 : BitVec 32 := 2048#32
  let v1355 : BitVec 1 := Scalar.cmpi .sgt v11 c2048_i32_743
  let v1356 : BitVec 1 := Scalar.andi v1354 v1355
  let v1395 : BitVec 1 := Scalar.andi v1296 v1356
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1396 : BitVec 1 := Scalar.cmpi .eq v2 v35
  let v1397 : BitVec 1 := Scalar.andi v1395 v1396
  let c32_i32_761 : BitVec 32 := 32#32
  let v1398 : BitVec 32 := Scalar.andi v11 c32_i32_761
  let c0_i32_762 : BitVec 32 := 0#32
  let v1399 : BitVec 1 := Scalar.cmpi .ne v1398 c0_i32_762
  let v1400 : BitVec 1 := Scalar.andi v1397 v1399
  let v1401 : BitVec 32 := Scalar.extui v1400
  let c0_i32_765 : BitVec 32 := 0#32
  let v1402 : BitVec 1 := Scalar.cmpi .ne v1401 c0_i32_765
  v1402

def k0_off152 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c64_i32_745 : BitVec 32 := 64#32
  let v1361 : BitVec 32 := Scalar.andi v11 c64_i32_745
  let v1362 : BitVec 32 := Scalar.addi v1359 v1361
  let c0_i32_1546 : BitVec 32 := 0#32
  let c0_i32_1547 : BitVec 32 := 0#32
  ![v1362.toNat, 0, 0]
def k0_dev87 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off153 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c64_i32_745 : BitVec 32 := 64#32
  let v1361 : BitVec 32 := Scalar.andi v11 c64_i32_745
  let v1362 : BitVec 32 := Scalar.addi v1359 v1361
  let c32_i32_746 : BitVec 32 := 32#32
  let v1364 : BitVec 32 := Scalar.andi v11 c32_i32_746
  let v1365 : BitVec 32 := Scalar.addi v1362 v1364
  let v1366 : BitVec 32 := Scalar.addi v14 v1365
  let c0_i32_1544 : BitVec 32 := 0#32
  let c0_i32_1545 : BitVec 32 := 0#32
  ![v1366.toNat, 0, 0]
def k0_cond86 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_709 : BitVec 1 := 1#1
  let v1296 : BitVec 1 := Scalar.xori v9 true_709
  let c4096_i32 : BitVec 32 := 4096#32
  let v10 : BitVec 32 := Scalar.subi c4096_i32 v8
  let v11 : BitVec 32 := Scalar.select v9 v10 v8
  let c2560_i32_742 : BitVec 32 := 2560#32
  let v1354 : BitVec 1 := Scalar.cmpi .sle v11 c2560_i32_742
  let c2048_i32_743 : BitVec 32 := 2048#32
  let v1355 : BitVec 1 := Scalar.cmpi .sgt v11 c2048_i32_743
  let v1356 : BitVec 1 := Scalar.andi v1354 v1355
  let v1403 : BitVec 1 := Scalar.andi v1296 v1356
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1404 : BitVec 1 := Scalar.cmpi .eq v2 v35
  let v1405 : BitVec 1 := Scalar.andi v1403 v1404
  let c16_i32_766 : BitVec 32 := 16#32
  let v1406 : BitVec 32 := Scalar.andi v11 c16_i32_766
  let c0_i32_767 : BitVec 32 := 0#32
  let v1407 : BitVec 1 := Scalar.cmpi .ne v1406 c0_i32_767
  let v1408 : BitVec 1 := Scalar.andi v1405 v1407
  let v1409 : BitVec 32 := Scalar.extui v1408
  let c0_i32_770 : BitVec 32 := 0#32
  let v1410 : BitVec 1 := Scalar.cmpi .ne v1409 c0_i32_770
  v1410

def k0_off154 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c64_i32_745 : BitVec 32 := 64#32
  let v1361 : BitVec 32 := Scalar.andi v11 c64_i32_745
  let v1362 : BitVec 32 := Scalar.addi v1359 v1361
  let c32_i32_746 : BitVec 32 := 32#32
  let v1364 : BitVec 32 := Scalar.andi v11 c32_i32_746
  let v1365 : BitVec 32 := Scalar.addi v1362 v1364
  let c0_i32_1546 : BitVec 32 := 0#32
  let c0_i32_1547 : BitVec 32 := 0#32
  ![v1365.toNat, 0, 0]
def k0_dev88 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off155 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c64_i32_745 : BitVec 32 := 64#32
  let v1361 : BitVec 32 := Scalar.andi v11 c64_i32_745
  let v1362 : BitVec 32 := Scalar.addi v1359 v1361
  let c32_i32_746 : BitVec 32 := 32#32
  let v1364 : BitVec 32 := Scalar.andi v11 c32_i32_746
  let v1365 : BitVec 32 := Scalar.addi v1362 v1364
  let c16_i32_747 : BitVec 32 := 16#32
  let v1367 : BitVec 32 := Scalar.andi v11 c16_i32_747
  let v1368 : BitVec 32 := Scalar.addi v1365 v1367
  let v1369 : BitVec 32 := Scalar.addi v14 v1368
  let c0_i32_1544 : BitVec 32 := 0#32
  let c0_i32_1545 : BitVec 32 := 0#32
  ![v1369.toNat, 0, 0]
def k0_cond87 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_709 : BitVec 1 := 1#1
  let v1296 : BitVec 1 := Scalar.xori v9 true_709
  let c4096_i32 : BitVec 32 := 4096#32
  let v10 : BitVec 32 := Scalar.subi c4096_i32 v8
  let v11 : BitVec 32 := Scalar.select v9 v10 v8
  let c2560_i32_742 : BitVec 32 := 2560#32
  let v1354 : BitVec 1 := Scalar.cmpi .sle v11 c2560_i32_742
  let c2048_i32_743 : BitVec 32 := 2048#32
  let v1355 : BitVec 1 := Scalar.cmpi .sgt v11 c2048_i32_743
  let v1356 : BitVec 1 := Scalar.andi v1354 v1355
  let v1411 : BitVec 1 := Scalar.andi v1296 v1356
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1412 : BitVec 1 := Scalar.cmpi .eq v2 v35
  let v1413 : BitVec 1 := Scalar.andi v1411 v1412
  let c8_i32_771 : BitVec 32 := 8#32
  let v1414 : BitVec 32 := Scalar.andi v11 c8_i32_771
  let c0_i32_772 : BitVec 32 := 0#32
  let v1415 : BitVec 1 := Scalar.cmpi .ne v1414 c0_i32_772
  let v1416 : BitVec 1 := Scalar.andi v1413 v1415
  let v1417 : BitVec 32 := Scalar.extui v1416
  let c0_i32_775 : BitVec 32 := 0#32
  let v1418 : BitVec 1 := Scalar.cmpi .ne v1417 c0_i32_775
  v1418

def k0_off156 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c64_i32_745 : BitVec 32 := 64#32
  let v1361 : BitVec 32 := Scalar.andi v11 c64_i32_745
  let v1362 : BitVec 32 := Scalar.addi v1359 v1361
  let c32_i32_746 : BitVec 32 := 32#32
  let v1364 : BitVec 32 := Scalar.andi v11 c32_i32_746
  let v1365 : BitVec 32 := Scalar.addi v1362 v1364
  let c16_i32_747 : BitVec 32 := 16#32
  let v1367 : BitVec 32 := Scalar.andi v11 c16_i32_747
  let v1368 : BitVec 32 := Scalar.addi v1365 v1367
  let c0_i32_1546 : BitVec 32 := 0#32
  let c0_i32_1547 : BitVec 32 := 0#32
  ![v1368.toNat, 0, 0]
def k0_dev89 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off157 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c64_i32_745 : BitVec 32 := 64#32
  let v1361 : BitVec 32 := Scalar.andi v11 c64_i32_745
  let v1362 : BitVec 32 := Scalar.addi v1359 v1361
  let c32_i32_746 : BitVec 32 := 32#32
  let v1364 : BitVec 32 := Scalar.andi v11 c32_i32_746
  let v1365 : BitVec 32 := Scalar.addi v1362 v1364
  let c16_i32_747 : BitVec 32 := 16#32
  let v1367 : BitVec 32 := Scalar.andi v11 c16_i32_747
  let v1368 : BitVec 32 := Scalar.addi v1365 v1367
  let c8_i32_748 : BitVec 32 := 8#32
  let v1370 : BitVec 32 := Scalar.andi v11 c8_i32_748
  let v1371 : BitVec 32 := Scalar.addi v1368 v1370
  let v1372 : BitVec 32 := Scalar.addi v14 v1371
  let c0_i32_1544 : BitVec 32 := 0#32
  let c0_i32_1545 : BitVec 32 := 0#32
  ![v1372.toNat, 0, 0]
def k0_cond88 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_709 : BitVec 1 := 1#1
  let v1296 : BitVec 1 := Scalar.xori v9 true_709
  let c4096_i32 : BitVec 32 := 4096#32
  let v10 : BitVec 32 := Scalar.subi c4096_i32 v8
  let v11 : BitVec 32 := Scalar.select v9 v10 v8
  let c2560_i32_742 : BitVec 32 := 2560#32
  let v1354 : BitVec 1 := Scalar.cmpi .sle v11 c2560_i32_742
  let c2048_i32_743 : BitVec 32 := 2048#32
  let v1355 : BitVec 1 := Scalar.cmpi .sgt v11 c2048_i32_743
  let v1356 : BitVec 1 := Scalar.andi v1354 v1355
  let v1419 : BitVec 1 := Scalar.andi v1296 v1356
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1420 : BitVec 1 := Scalar.cmpi .eq v2 v35
  let v1421 : BitVec 1 := Scalar.andi v1419 v1420
  let c4_i32_776 : BitVec 32 := 4#32
  let v1422 : BitVec 32 := Scalar.andi v11 c4_i32_776
  let c0_i32_777 : BitVec 32 := 0#32
  let v1423 : BitVec 1 := Scalar.cmpi .ne v1422 c0_i32_777
  let v1424 : BitVec 1 := Scalar.andi v1421 v1423
  let v1425 : BitVec 32 := Scalar.extui v1424
  let c0_i32_780 : BitVec 32 := 0#32
  let v1426 : BitVec 1 := Scalar.cmpi .ne v1425 c0_i32_780
  v1426

def k0_off158 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c64_i32_745 : BitVec 32 := 64#32
  let v1361 : BitVec 32 := Scalar.andi v11 c64_i32_745
  let v1362 : BitVec 32 := Scalar.addi v1359 v1361
  let c32_i32_746 : BitVec 32 := 32#32
  let v1364 : BitVec 32 := Scalar.andi v11 c32_i32_746
  let v1365 : BitVec 32 := Scalar.addi v1362 v1364
  let c16_i32_747 : BitVec 32 := 16#32
  let v1367 : BitVec 32 := Scalar.andi v11 c16_i32_747
  let v1368 : BitVec 32 := Scalar.addi v1365 v1367
  let c8_i32_748 : BitVec 32 := 8#32
  let v1370 : BitVec 32 := Scalar.andi v11 c8_i32_748
  let v1371 : BitVec 32 := Scalar.addi v1368 v1370
  let c0_i32_1546 : BitVec 32 := 0#32
  let c0_i32_1547 : BitVec 32 := 0#32
  ![v1371.toNat, 0, 0]
def k0_dev90 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off159 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c64_i32_745 : BitVec 32 := 64#32
  let v1361 : BitVec 32 := Scalar.andi v11 c64_i32_745
  let v1362 : BitVec 32 := Scalar.addi v1359 v1361
  let c32_i32_746 : BitVec 32 := 32#32
  let v1364 : BitVec 32 := Scalar.andi v11 c32_i32_746
  let v1365 : BitVec 32 := Scalar.addi v1362 v1364
  let c16_i32_747 : BitVec 32 := 16#32
  let v1367 : BitVec 32 := Scalar.andi v11 c16_i32_747
  let v1368 : BitVec 32 := Scalar.addi v1365 v1367
  let c8_i32_748 : BitVec 32 := 8#32
  let v1370 : BitVec 32 := Scalar.andi v11 c8_i32_748
  let v1371 : BitVec 32 := Scalar.addi v1368 v1370
  let c4_i32_749 : BitVec 32 := 4#32
  let v1373 : BitVec 32 := Scalar.andi v11 c4_i32_749
  let v1374 : BitVec 32 := Scalar.addi v1371 v1373
  let v1375 : BitVec 32 := Scalar.addi v14 v1374
  let c0_i32_1544 : BitVec 32 := 0#32
  let c0_i32_1545 : BitVec 32 := 0#32
  ![v1375.toNat, 0, 0]
def k0_cond89 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_709 : BitVec 1 := 1#1
  let v1296 : BitVec 1 := Scalar.xori v9 true_709
  let c4096_i32 : BitVec 32 := 4096#32
  let v10 : BitVec 32 := Scalar.subi c4096_i32 v8
  let v11 : BitVec 32 := Scalar.select v9 v10 v8
  let c2560_i32_742 : BitVec 32 := 2560#32
  let v1354 : BitVec 1 := Scalar.cmpi .sle v11 c2560_i32_742
  let c2048_i32_743 : BitVec 32 := 2048#32
  let v1355 : BitVec 1 := Scalar.cmpi .sgt v11 c2048_i32_743
  let v1356 : BitVec 1 := Scalar.andi v1354 v1355
  let v1427 : BitVec 1 := Scalar.andi v1296 v1356
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1428 : BitVec 1 := Scalar.cmpi .eq v2 v35
  let v1429 : BitVec 1 := Scalar.andi v1427 v1428
  let c2_i32_781 : BitVec 32 := 2#32
  let v1430 : BitVec 32 := Scalar.andi v11 c2_i32_781
  let c0_i32_782 : BitVec 32 := 0#32
  let v1431 : BitVec 1 := Scalar.cmpi .ne v1430 c0_i32_782
  let v1432 : BitVec 1 := Scalar.andi v1429 v1431
  let v1433 : BitVec 32 := Scalar.extui v1432
  let c0_i32_785 : BitVec 32 := 0#32
  let v1434 : BitVec 1 := Scalar.cmpi .ne v1433 c0_i32_785
  v1434

def k0_off160 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c64_i32_745 : BitVec 32 := 64#32
  let v1361 : BitVec 32 := Scalar.andi v11 c64_i32_745
  let v1362 : BitVec 32 := Scalar.addi v1359 v1361
  let c32_i32_746 : BitVec 32 := 32#32
  let v1364 : BitVec 32 := Scalar.andi v11 c32_i32_746
  let v1365 : BitVec 32 := Scalar.addi v1362 v1364
  let c16_i32_747 : BitVec 32 := 16#32
  let v1367 : BitVec 32 := Scalar.andi v11 c16_i32_747
  let v1368 : BitVec 32 := Scalar.addi v1365 v1367
  let c8_i32_748 : BitVec 32 := 8#32
  let v1370 : BitVec 32 := Scalar.andi v11 c8_i32_748
  let v1371 : BitVec 32 := Scalar.addi v1368 v1370
  let c4_i32_749 : BitVec 32 := 4#32
  let v1373 : BitVec 32 := Scalar.andi v11 c4_i32_749
  let v1374 : BitVec 32 := Scalar.addi v1371 v1373
  let c0_i32_1546 : BitVec 32 := 0#32
  let c0_i32_1547 : BitVec 32 := 0#32
  ![v1374.toNat, 0, 0]
def k0_dev91 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off161 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c64_i32_745 : BitVec 32 := 64#32
  let v1361 : BitVec 32 := Scalar.andi v11 c64_i32_745
  let v1362 : BitVec 32 := Scalar.addi v1359 v1361
  let c32_i32_746 : BitVec 32 := 32#32
  let v1364 : BitVec 32 := Scalar.andi v11 c32_i32_746
  let v1365 : BitVec 32 := Scalar.addi v1362 v1364
  let c16_i32_747 : BitVec 32 := 16#32
  let v1367 : BitVec 32 := Scalar.andi v11 c16_i32_747
  let v1368 : BitVec 32 := Scalar.addi v1365 v1367
  let c8_i32_748 : BitVec 32 := 8#32
  let v1370 : BitVec 32 := Scalar.andi v11 c8_i32_748
  let v1371 : BitVec 32 := Scalar.addi v1368 v1370
  let c4_i32_749 : BitVec 32 := 4#32
  let v1373 : BitVec 32 := Scalar.andi v11 c4_i32_749
  let v1374 : BitVec 32 := Scalar.addi v1371 v1373
  let c2_i32_750 : BitVec 32 := 2#32
  let v1376 : BitVec 32 := Scalar.andi v11 c2_i32_750
  let v1377 : BitVec 32 := Scalar.addi v1374 v1376
  let v1378 : BitVec 32 := Scalar.addi v14 v1377
  let c0_i32_1544 : BitVec 32 := 0#32
  let c0_i32_1545 : BitVec 32 := 0#32
  ![v1378.toNat, 0, 0]
def k0_cond90 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_709 : BitVec 1 := 1#1
  let v1296 : BitVec 1 := Scalar.xori v9 true_709
  let c4096_i32 : BitVec 32 := 4096#32
  let v10 : BitVec 32 := Scalar.subi c4096_i32 v8
  let v11 : BitVec 32 := Scalar.select v9 v10 v8
  let c2560_i32_742 : BitVec 32 := 2560#32
  let v1354 : BitVec 1 := Scalar.cmpi .sle v11 c2560_i32_742
  let c2048_i32_743 : BitVec 32 := 2048#32
  let v1355 : BitVec 1 := Scalar.cmpi .sgt v11 c2048_i32_743
  let v1356 : BitVec 1 := Scalar.andi v1354 v1355
  let v1435 : BitVec 1 := Scalar.andi v1296 v1356
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1436 : BitVec 1 := Scalar.cmpi .eq v2 v35
  let v1437 : BitVec 1 := Scalar.andi v1435 v1436
  let c1_i32_786 : BitVec 32 := 1#32
  let v1438 : BitVec 32 := Scalar.andi v11 c1_i32_786
  let c0_i32_787 : BitVec 32 := 0#32
  let v1439 : BitVec 1 := Scalar.cmpi .ne v1438 c0_i32_787
  let v1440 : BitVec 1 := Scalar.andi v1437 v1439
  let v1441 : BitVec 32 := Scalar.extui v1440
  let c0_i32_790 : BitVec 32 := 0#32
  let v1442 : BitVec 1 := Scalar.cmpi .ne v1441 c0_i32_790
  v1442

def k0_off162 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_744 : BitVec 32 := 128#32
  let v1358 : BitVec 32 := Scalar.andi v11 c128_i32_744
  let v1359 : BitVec 32 := Scalar.addi v46 v1358
  let c64_i32_745 : BitVec 32 := 64#32
  let v1361 : BitVec 32 := Scalar.andi v11 c64_i32_745
  let v1362 : BitVec 32 := Scalar.addi v1359 v1361
  let c32_i32_746 : BitVec 32 := 32#32
  let v1364 : BitVec 32 := Scalar.andi v11 c32_i32_746
  let v1365 : BitVec 32 := Scalar.addi v1362 v1364
  let c16_i32_747 : BitVec 32 := 16#32
  let v1367 : BitVec 32 := Scalar.andi v11 c16_i32_747
  let v1368 : BitVec 32 := Scalar.addi v1365 v1367
  let c8_i32_748 : BitVec 32 := 8#32
  let v1370 : BitVec 32 := Scalar.andi v11 c8_i32_748
  let v1371 : BitVec 32 := Scalar.addi v1368 v1370
  let c4_i32_749 : BitVec 32 := 4#32
  let v1373 : BitVec 32 := Scalar.andi v11 c4_i32_749
  let v1374 : BitVec 32 := Scalar.addi v1371 v1373
  let c2_i32_750 : BitVec 32 := 2#32
  let v1376 : BitVec 32 := Scalar.andi v11 c2_i32_750
  let v1377 : BitVec 32 := Scalar.addi v1374 v1376
  let c0_i32_1546 : BitVec 32 := 0#32
  let c0_i32_1547 : BitVec 32 := 0#32
  ![v1377.toNat, 0, 0]
def k0_dev92 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off163 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c2048_i32_1541 : BitVec 32 := 2048#32
  let v2700 : BitVec 32 := Scalar.addi v14 c2048_i32_1541
  let c0_i32_1547 : BitVec 32 := 0#32
  let c0_i32_1548 : BitVec 32 := 0#32
  ![v2700.toNat, 0, 0]
def k0_cond91 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_818 : BitVec 32 := 0#32
  let v1480 : BitVec 1 := Scalar.cmpi .eq v2 c0_i32_818
  let v1481 : BitVec 1 := Scalar.andi v9 v1480
  let c4096_i32 : BitVec 32 := 4096#32
  let v10 : BitVec 32 := Scalar.subi c4096_i32 v8
  let v11 : BitVec 32 := Scalar.select v9 v10 v8
  let c2304_i32_819 : BitVec 32 := 2304#32
  let v1482 : BitVec 1 := Scalar.cmpi .sge v11 c2304_i32_819
  let v1483 : BitVec 1 := Scalar.andi v1481 v1482
  let v1484 : BitVec 32 := Scalar.extui v1483
  let c0_i32_820 : BitVec 32 := 0#32
  let v1485 : BitVec 1 := Scalar.cmpi .ne v1484 c0_i32_820
  v1485

def k0_dev93 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v2701 : BitVec 32 := Scalar.muli v2 c2_i32_1544
  let v2702 : BitVec 32 := Scalar.addi c0_i32_1545 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1546 : BitVec 32 := 1#32
  let v2703 : BitVec 32 := Scalar.muli v6 c1_i32_1546
  let v2704 : BitVec 32 := Scalar.addi v2702 v2703
  v2704.toNat
def k0_off164 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c2304_i32_1541 : BitVec 32 := 2304#32
  let v2700 : BitVec 32 := Scalar.addi v14 c2304_i32_1541
  let c0_i32_1546 : BitVec 32 := 0#32
  let c0_i32_1547 : BitVec 32 := 0#32
  ![v2700.toNat, 0, 0]
def k0_cond92 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_821 : BitVec 32 := 1#32
  let v1486 : BitVec 1 := Scalar.cmpi .eq v2 c1_i32_821
  let v1487 : BitVec 1 := Scalar.andi v9 v1486
  let c4096_i32 : BitVec 32 := 4096#32
  let v10 : BitVec 32 := Scalar.subi c4096_i32 v8
  let v11 : BitVec 32 := Scalar.select v9 v10 v8
  let c2560_i32_822 : BitVec 32 := 2560#32
  let v1488 : BitVec 1 := Scalar.cmpi .sge v11 c2560_i32_822
  let v1489 : BitVec 1 := Scalar.andi v1487 v1488
  let v1490 : BitVec 32 := Scalar.extui v1489
  let c0_i32_823 : BitVec 32 := 0#32
  let v1491 : BitVec 1 := Scalar.cmpi .ne v1490 c0_i32_823
  v1491

def k0_dev94 (d0 : Dev nD) : Nat :=
  let c0_i32_1544 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1543 : BitVec 32 := 2#32
  let v2701 : BitVec 32 := Scalar.muli v2 c2_i32_1543
  let v2702 : BitVec 32 := Scalar.addi c0_i32_1544 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1545 : BitVec 32 := 1#32
  let v2703 : BitVec 32 := Scalar.muli v6 c1_i32_1545
  let v2704 : BitVec 32 := Scalar.addi v2702 v2703
  v2704.toNat
def k0_off165 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v1495 : BitVec 32 := Scalar.addi v14 v46
  let c0_i32_1544 : BitVec 32 := 0#32
  let c0_i32_1545 : BitVec 32 := 0#32
  ![v1495.toNat, 0, 0]
def k0_cond93 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2560_i32_824 : BitVec 32 := 2560#32
  let v1492 : BitVec 1 := Scalar.cmpi .sle v11 c2560_i32_824
  let c2048_i32_825 : BitVec 32 := 2048#32
  let v1493 : BitVec 1 := Scalar.cmpi .sgt v11 c2048_i32_825
  let v1494 : BitVec 1 := Scalar.andi v1492 v1493
  let v1517 : BitVec 1 := Scalar.andi v9 v1494
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1518 : BitVec 1 := Scalar.cmpi .eq v2 v35
  let v1519 : BitVec 1 := Scalar.andi v1517 v1518
  let c128_i32_833 : BitVec 32 := 128#32
  let v1520 : BitVec 32 := Scalar.andi v11 c128_i32_833
  let c0_i32_834 : BitVec 32 := 0#32
  let v1521 : BitVec 1 := Scalar.cmpi .ne v1520 c0_i32_834
  let v1522 : BitVec 1 := Scalar.andi v1519 v1521
  let v1523 : BitVec 32 := Scalar.extui v1522
  let c0_i32_837 : BitVec 32 := 0#32
  let v1524 : BitVec 1 := Scalar.cmpi .ne v1523 c0_i32_837
  v1524

def k0_off166 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c0_i32_1546 : BitVec 32 := 0#32
  let c0_i32_1547 : BitVec 32 := 0#32
  ![v46.toNat, 0, 0]
def k0_dev95 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off167 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let v1498 : BitVec 32 := Scalar.addi v14 v1497
  let c0_i32_1544 : BitVec 32 := 0#32
  let c0_i32_1545 : BitVec 32 := 0#32
  ![v1498.toNat, 0, 0]
def k0_cond94 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2560_i32_824 : BitVec 32 := 2560#32
  let v1492 : BitVec 1 := Scalar.cmpi .sle v11 c2560_i32_824
  let c2048_i32_825 : BitVec 32 := 2048#32
  let v1493 : BitVec 1 := Scalar.cmpi .sgt v11 c2048_i32_825
  let v1494 : BitVec 1 := Scalar.andi v1492 v1493
  let v1525 : BitVec 1 := Scalar.andi v9 v1494
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1526 : BitVec 1 := Scalar.cmpi .eq v2 v35
  let v1527 : BitVec 1 := Scalar.andi v1525 v1526
  let c64_i32_838 : BitVec 32 := 64#32
  let v1528 : BitVec 32 := Scalar.andi v11 c64_i32_838
  let c0_i32_839 : BitVec 32 := 0#32
  let v1529 : BitVec 1 := Scalar.cmpi .ne v1528 c0_i32_839
  let v1530 : BitVec 1 := Scalar.andi v1527 v1529
  let v1531 : BitVec 32 := Scalar.extui v1530
  let c0_i32_842 : BitVec 32 := 0#32
  let v1532 : BitVec 1 := Scalar.cmpi .ne v1531 c0_i32_842
  v1532

def k0_off168 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c0_i32_1546 : BitVec 32 := 0#32
  let c0_i32_1547 : BitVec 32 := 0#32
  ![v1497.toNat, 0, 0]
def k0_dev96 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off169 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c64_i32_827 : BitVec 32 := 64#32
  let v1499 : BitVec 32 := Scalar.andi v11 c64_i32_827
  let v1500 : BitVec 32 := Scalar.addi v1497 v1499
  let v1501 : BitVec 32 := Scalar.addi v14 v1500
  let c0_i32_1544 : BitVec 32 := 0#32
  let c0_i32_1545 : BitVec 32 := 0#32
  ![v1501.toNat, 0, 0]
def k0_cond95 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2560_i32_824 : BitVec 32 := 2560#32
  let v1492 : BitVec 1 := Scalar.cmpi .sle v11 c2560_i32_824
  let c2048_i32_825 : BitVec 32 := 2048#32
  let v1493 : BitVec 1 := Scalar.cmpi .sgt v11 c2048_i32_825
  let v1494 : BitVec 1 := Scalar.andi v1492 v1493
  let v1533 : BitVec 1 := Scalar.andi v9 v1494
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1534 : BitVec 1 := Scalar.cmpi .eq v2 v35
  let v1535 : BitVec 1 := Scalar.andi v1533 v1534
  let c32_i32_843 : BitVec 32 := 32#32
  let v1536 : BitVec 32 := Scalar.andi v11 c32_i32_843
  let c0_i32_844 : BitVec 32 := 0#32
  let v1537 : BitVec 1 := Scalar.cmpi .ne v1536 c0_i32_844
  let v1538 : BitVec 1 := Scalar.andi v1535 v1537
  let v1539 : BitVec 32 := Scalar.extui v1538
  let c0_i32_847 : BitVec 32 := 0#32
  let v1540 : BitVec 1 := Scalar.cmpi .ne v1539 c0_i32_847
  v1540

def k0_off170 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c64_i32_827 : BitVec 32 := 64#32
  let v1499 : BitVec 32 := Scalar.andi v11 c64_i32_827
  let v1500 : BitVec 32 := Scalar.addi v1497 v1499
  let c0_i32_1546 : BitVec 32 := 0#32
  let c0_i32_1547 : BitVec 32 := 0#32
  ![v1500.toNat, 0, 0]
def k0_dev97 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off171 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c64_i32_827 : BitVec 32 := 64#32
  let v1499 : BitVec 32 := Scalar.andi v11 c64_i32_827
  let v1500 : BitVec 32 := Scalar.addi v1497 v1499
  let c32_i32_828 : BitVec 32 := 32#32
  let v1502 : BitVec 32 := Scalar.andi v11 c32_i32_828
  let v1503 : BitVec 32 := Scalar.addi v1500 v1502
  let v1504 : BitVec 32 := Scalar.addi v14 v1503
  let c0_i32_1544 : BitVec 32 := 0#32
  let c0_i32_1545 : BitVec 32 := 0#32
  ![v1504.toNat, 0, 0]
def k0_cond96 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2560_i32_824 : BitVec 32 := 2560#32
  let v1492 : BitVec 1 := Scalar.cmpi .sle v11 c2560_i32_824
  let c2048_i32_825 : BitVec 32 := 2048#32
  let v1493 : BitVec 1 := Scalar.cmpi .sgt v11 c2048_i32_825
  let v1494 : BitVec 1 := Scalar.andi v1492 v1493
  let v1541 : BitVec 1 := Scalar.andi v9 v1494
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1542 : BitVec 1 := Scalar.cmpi .eq v2 v35
  let v1543 : BitVec 1 := Scalar.andi v1541 v1542
  let c16_i32_848 : BitVec 32 := 16#32
  let v1544 : BitVec 32 := Scalar.andi v11 c16_i32_848
  let c0_i32_849 : BitVec 32 := 0#32
  let v1545 : BitVec 1 := Scalar.cmpi .ne v1544 c0_i32_849
  let v1546 : BitVec 1 := Scalar.andi v1543 v1545
  let v1547 : BitVec 32 := Scalar.extui v1546
  let c0_i32_852 : BitVec 32 := 0#32
  let v1548 : BitVec 1 := Scalar.cmpi .ne v1547 c0_i32_852
  v1548

def k0_off172 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c64_i32_827 : BitVec 32 := 64#32
  let v1499 : BitVec 32 := Scalar.andi v11 c64_i32_827
  let v1500 : BitVec 32 := Scalar.addi v1497 v1499
  let c32_i32_828 : BitVec 32 := 32#32
  let v1502 : BitVec 32 := Scalar.andi v11 c32_i32_828
  let v1503 : BitVec 32 := Scalar.addi v1500 v1502
  let c0_i32_1546 : BitVec 32 := 0#32
  let c0_i32_1547 : BitVec 32 := 0#32
  ![v1503.toNat, 0, 0]
def k0_dev98 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off173 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c64_i32_827 : BitVec 32 := 64#32
  let v1499 : BitVec 32 := Scalar.andi v11 c64_i32_827
  let v1500 : BitVec 32 := Scalar.addi v1497 v1499
  let c32_i32_828 : BitVec 32 := 32#32
  let v1502 : BitVec 32 := Scalar.andi v11 c32_i32_828
  let v1503 : BitVec 32 := Scalar.addi v1500 v1502
  let c16_i32_829 : BitVec 32 := 16#32
  let v1505 : BitVec 32 := Scalar.andi v11 c16_i32_829
  let v1506 : BitVec 32 := Scalar.addi v1503 v1505
  let v1507 : BitVec 32 := Scalar.addi v14 v1506
  let c0_i32_1544 : BitVec 32 := 0#32
  let c0_i32_1545 : BitVec 32 := 0#32
  ![v1507.toNat, 0, 0]
def k0_cond97 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2560_i32_824 : BitVec 32 := 2560#32
  let v1492 : BitVec 1 := Scalar.cmpi .sle v11 c2560_i32_824
  let c2048_i32_825 : BitVec 32 := 2048#32
  let v1493 : BitVec 1 := Scalar.cmpi .sgt v11 c2048_i32_825
  let v1494 : BitVec 1 := Scalar.andi v1492 v1493
  let v1549 : BitVec 1 := Scalar.andi v9 v1494
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1550 : BitVec 1 := Scalar.cmpi .eq v2 v35
  let v1551 : BitVec 1 := Scalar.andi v1549 v1550
  let c8_i32_853 : BitVec 32 := 8#32
  let v1552 : BitVec 32 := Scalar.andi v11 c8_i32_853
  let c0_i32_854 : BitVec 32 := 0#32
  let v1553 : BitVec 1 := Scalar.cmpi .ne v1552 c0_i32_854
  let v1554 : BitVec 1 := Scalar.andi v1551 v1553
  let v1555 : BitVec 32 := Scalar.extui v1554
  let c0_i32_857 : BitVec 32 := 0#32
  let v1556 : BitVec 1 := Scalar.cmpi .ne v1555 c0_i32_857
  v1556

def k0_off174 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c64_i32_827 : BitVec 32 := 64#32
  let v1499 : BitVec 32 := Scalar.andi v11 c64_i32_827
  let v1500 : BitVec 32 := Scalar.addi v1497 v1499
  let c32_i32_828 : BitVec 32 := 32#32
  let v1502 : BitVec 32 := Scalar.andi v11 c32_i32_828
  let v1503 : BitVec 32 := Scalar.addi v1500 v1502
  let c16_i32_829 : BitVec 32 := 16#32
  let v1505 : BitVec 32 := Scalar.andi v11 c16_i32_829
  let v1506 : BitVec 32 := Scalar.addi v1503 v1505
  let c0_i32_1546 : BitVec 32 := 0#32
  let c0_i32_1547 : BitVec 32 := 0#32
  ![v1506.toNat, 0, 0]
def k0_dev99 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off175 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c64_i32_827 : BitVec 32 := 64#32
  let v1499 : BitVec 32 := Scalar.andi v11 c64_i32_827
  let v1500 : BitVec 32 := Scalar.addi v1497 v1499
  let c32_i32_828 : BitVec 32 := 32#32
  let v1502 : BitVec 32 := Scalar.andi v11 c32_i32_828
  let v1503 : BitVec 32 := Scalar.addi v1500 v1502
  let c16_i32_829 : BitVec 32 := 16#32
  let v1505 : BitVec 32 := Scalar.andi v11 c16_i32_829
  let v1506 : BitVec 32 := Scalar.addi v1503 v1505
  let c8_i32_830 : BitVec 32 := 8#32
  let v1508 : BitVec 32 := Scalar.andi v11 c8_i32_830
  let v1509 : BitVec 32 := Scalar.addi v1506 v1508
  let v1510 : BitVec 32 := Scalar.addi v14 v1509
  let c0_i32_1544 : BitVec 32 := 0#32
  let c0_i32_1545 : BitVec 32 := 0#32
  ![v1510.toNat, 0, 0]
def k0_cond98 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2560_i32_824 : BitVec 32 := 2560#32
  let v1492 : BitVec 1 := Scalar.cmpi .sle v11 c2560_i32_824
  let c2048_i32_825 : BitVec 32 := 2048#32
  let v1493 : BitVec 1 := Scalar.cmpi .sgt v11 c2048_i32_825
  let v1494 : BitVec 1 := Scalar.andi v1492 v1493
  let v1557 : BitVec 1 := Scalar.andi v9 v1494
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1558 : BitVec 1 := Scalar.cmpi .eq v2 v35
  let v1559 : BitVec 1 := Scalar.andi v1557 v1558
  let c4_i32_858 : BitVec 32 := 4#32
  let v1560 : BitVec 32 := Scalar.andi v11 c4_i32_858
  let c0_i32_859 : BitVec 32 := 0#32
  let v1561 : BitVec 1 := Scalar.cmpi .ne v1560 c0_i32_859
  let v1562 : BitVec 1 := Scalar.andi v1559 v1561
  let v1563 : BitVec 32 := Scalar.extui v1562
  let c0_i32_862 : BitVec 32 := 0#32
  let v1564 : BitVec 1 := Scalar.cmpi .ne v1563 c0_i32_862
  v1564

def k0_off176 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c64_i32_827 : BitVec 32 := 64#32
  let v1499 : BitVec 32 := Scalar.andi v11 c64_i32_827
  let v1500 : BitVec 32 := Scalar.addi v1497 v1499
  let c32_i32_828 : BitVec 32 := 32#32
  let v1502 : BitVec 32 := Scalar.andi v11 c32_i32_828
  let v1503 : BitVec 32 := Scalar.addi v1500 v1502
  let c16_i32_829 : BitVec 32 := 16#32
  let v1505 : BitVec 32 := Scalar.andi v11 c16_i32_829
  let v1506 : BitVec 32 := Scalar.addi v1503 v1505
  let c8_i32_830 : BitVec 32 := 8#32
  let v1508 : BitVec 32 := Scalar.andi v11 c8_i32_830
  let v1509 : BitVec 32 := Scalar.addi v1506 v1508
  let c0_i32_1546 : BitVec 32 := 0#32
  let c0_i32_1547 : BitVec 32 := 0#32
  ![v1509.toNat, 0, 0]
def k0_dev100 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off177 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c64_i32_827 : BitVec 32 := 64#32
  let v1499 : BitVec 32 := Scalar.andi v11 c64_i32_827
  let v1500 : BitVec 32 := Scalar.addi v1497 v1499
  let c32_i32_828 : BitVec 32 := 32#32
  let v1502 : BitVec 32 := Scalar.andi v11 c32_i32_828
  let v1503 : BitVec 32 := Scalar.addi v1500 v1502
  let c16_i32_829 : BitVec 32 := 16#32
  let v1505 : BitVec 32 := Scalar.andi v11 c16_i32_829
  let v1506 : BitVec 32 := Scalar.addi v1503 v1505
  let c8_i32_830 : BitVec 32 := 8#32
  let v1508 : BitVec 32 := Scalar.andi v11 c8_i32_830
  let v1509 : BitVec 32 := Scalar.addi v1506 v1508
  let c4_i32_831 : BitVec 32 := 4#32
  let v1511 : BitVec 32 := Scalar.andi v11 c4_i32_831
  let v1512 : BitVec 32 := Scalar.addi v1509 v1511
  let v1513 : BitVec 32 := Scalar.addi v14 v1512
  let c0_i32_1544 : BitVec 32 := 0#32
  let c0_i32_1545 : BitVec 32 := 0#32
  ![v1513.toNat, 0, 0]
def k0_cond99 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2560_i32_824 : BitVec 32 := 2560#32
  let v1492 : BitVec 1 := Scalar.cmpi .sle v11 c2560_i32_824
  let c2048_i32_825 : BitVec 32 := 2048#32
  let v1493 : BitVec 1 := Scalar.cmpi .sgt v11 c2048_i32_825
  let v1494 : BitVec 1 := Scalar.andi v1492 v1493
  let v1565 : BitVec 1 := Scalar.andi v9 v1494
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1566 : BitVec 1 := Scalar.cmpi .eq v2 v35
  let v1567 : BitVec 1 := Scalar.andi v1565 v1566
  let c2_i32_863 : BitVec 32 := 2#32
  let v1568 : BitVec 32 := Scalar.andi v11 c2_i32_863
  let c0_i32_864 : BitVec 32 := 0#32
  let v1569 : BitVec 1 := Scalar.cmpi .ne v1568 c0_i32_864
  let v1570 : BitVec 1 := Scalar.andi v1567 v1569
  let v1571 : BitVec 32 := Scalar.extui v1570
  let c0_i32_867 : BitVec 32 := 0#32
  let v1572 : BitVec 1 := Scalar.cmpi .ne v1571 c0_i32_867
  v1572

def k0_off178 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c64_i32_827 : BitVec 32 := 64#32
  let v1499 : BitVec 32 := Scalar.andi v11 c64_i32_827
  let v1500 : BitVec 32 := Scalar.addi v1497 v1499
  let c32_i32_828 : BitVec 32 := 32#32
  let v1502 : BitVec 32 := Scalar.andi v11 c32_i32_828
  let v1503 : BitVec 32 := Scalar.addi v1500 v1502
  let c16_i32_829 : BitVec 32 := 16#32
  let v1505 : BitVec 32 := Scalar.andi v11 c16_i32_829
  let v1506 : BitVec 32 := Scalar.addi v1503 v1505
  let c8_i32_830 : BitVec 32 := 8#32
  let v1508 : BitVec 32 := Scalar.andi v11 c8_i32_830
  let v1509 : BitVec 32 := Scalar.addi v1506 v1508
  let c4_i32_831 : BitVec 32 := 4#32
  let v1511 : BitVec 32 := Scalar.andi v11 c4_i32_831
  let v1512 : BitVec 32 := Scalar.addi v1509 v1511
  let c0_i32_1546 : BitVec 32 := 0#32
  let c0_i32_1547 : BitVec 32 := 0#32
  ![v1512.toNat, 0, 0]
def k0_dev101 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off179 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c64_i32_827 : BitVec 32 := 64#32
  let v1499 : BitVec 32 := Scalar.andi v11 c64_i32_827
  let v1500 : BitVec 32 := Scalar.addi v1497 v1499
  let c32_i32_828 : BitVec 32 := 32#32
  let v1502 : BitVec 32 := Scalar.andi v11 c32_i32_828
  let v1503 : BitVec 32 := Scalar.addi v1500 v1502
  let c16_i32_829 : BitVec 32 := 16#32
  let v1505 : BitVec 32 := Scalar.andi v11 c16_i32_829
  let v1506 : BitVec 32 := Scalar.addi v1503 v1505
  let c8_i32_830 : BitVec 32 := 8#32
  let v1508 : BitVec 32 := Scalar.andi v11 c8_i32_830
  let v1509 : BitVec 32 := Scalar.addi v1506 v1508
  let c4_i32_831 : BitVec 32 := 4#32
  let v1511 : BitVec 32 := Scalar.andi v11 c4_i32_831
  let v1512 : BitVec 32 := Scalar.addi v1509 v1511
  let c2_i32_832 : BitVec 32 := 2#32
  let v1514 : BitVec 32 := Scalar.andi v11 c2_i32_832
  let v1515 : BitVec 32 := Scalar.addi v1512 v1514
  let v1516 : BitVec 32 := Scalar.addi v14 v1515
  let c0_i32_1544 : BitVec 32 := 0#32
  let c0_i32_1545 : BitVec 32 := 0#32
  ![v1516.toNat, 0, 0]
def k0_cond100 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2560_i32_824 : BitVec 32 := 2560#32
  let v1492 : BitVec 1 := Scalar.cmpi .sle v11 c2560_i32_824
  let c2048_i32_825 : BitVec 32 := 2048#32
  let v1493 : BitVec 1 := Scalar.cmpi .sgt v11 c2048_i32_825
  let v1494 : BitVec 1 := Scalar.andi v1492 v1493
  let v1573 : BitVec 1 := Scalar.andi v9 v1494
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1574 : BitVec 1 := Scalar.cmpi .eq v2 v35
  let v1575 : BitVec 1 := Scalar.andi v1573 v1574
  let c1_i32_868 : BitVec 32 := 1#32
  let v1576 : BitVec 32 := Scalar.andi v11 c1_i32_868
  let c0_i32_869 : BitVec 32 := 0#32
  let v1577 : BitVec 1 := Scalar.cmpi .ne v1576 c0_i32_869
  let v1578 : BitVec 1 := Scalar.andi v1575 v1577
  let v1579 : BitVec 32 := Scalar.extui v1578
  let c0_i32_872 : BitVec 32 := 0#32
  let v1580 : BitVec 1 := Scalar.cmpi .ne v1579 c0_i32_872
  v1580

def k0_off180 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_826 : BitVec 32 := 128#32
  let v1496 : BitVec 32 := Scalar.andi v11 c128_i32_826
  let v1497 : BitVec 32 := Scalar.addi v46 v1496
  let c64_i32_827 : BitVec 32 := 64#32
  let v1499 : BitVec 32 := Scalar.andi v11 c64_i32_827
  let v1500 : BitVec 32 := Scalar.addi v1497 v1499
  let c32_i32_828 : BitVec 32 := 32#32
  let v1502 : BitVec 32 := Scalar.andi v11 c32_i32_828
  let v1503 : BitVec 32 := Scalar.addi v1500 v1502
  let c16_i32_829 : BitVec 32 := 16#32
  let v1505 : BitVec 32 := Scalar.andi v11 c16_i32_829
  let v1506 : BitVec 32 := Scalar.addi v1503 v1505
  let c8_i32_830 : BitVec 32 := 8#32
  let v1508 : BitVec 32 := Scalar.andi v11 c8_i32_830
  let v1509 : BitVec 32 := Scalar.addi v1506 v1508
  let c4_i32_831 : BitVec 32 := 4#32
  let v1511 : BitVec 32 := Scalar.andi v11 c4_i32_831
  let v1512 : BitVec 32 := Scalar.addi v1509 v1511
  let c2_i32_832 : BitVec 32 := 2#32
  let v1514 : BitVec 32 := Scalar.andi v11 c2_i32_832
  let v1515 : BitVec 32 := Scalar.addi v1512 v1514
  let c0_i32_1546 : BitVec 32 := 0#32
  let c0_i32_1547 : BitVec 32 := 0#32
  ![v1515.toNat, 0, 0]
def k0_dev102 (d0 : Dev nD) : Nat :=
  let c0_i32_1542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1541 : BitVec 32 := 2#32
  let v2700 : BitVec 32 := Scalar.muli v2 c2_i32_1541
  let v2701 : BitVec 32 := Scalar.addi c0_i32_1542 v2700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1543 : BitVec 32 := 1#32
  let v2702 : BitVec 32 := Scalar.muli v6 c1_i32_1543
  let v2703 : BitVec 32 := Scalar.addi v2701 v2702
  v2703.toNat
def k0_off181 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c0_i32_1542 : BitVec 32 := 0#32
  let c0_i32_1543 : BitVec 32 := 0#32
  ![v17.toNat, 0, 0]
def k0_cond101 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_874 : BitVec 32 := 2048#32
  let v1582 : BitVec 32 := Scalar.andi v12 c2048_i32_874
  let c0_i32_875 : BitVec 32 := 0#32
  let v1583 : BitVec 1 := Scalar.cmpi .ne v1582 c0_i32_875
  let v1584 : BitVec 1 := Scalar.andi v9 v1583
  let v1585 : BitVec 32 := Scalar.extui v1584
  let c0_i32_877 : BitVec 32 := 0#32
  let v1586 : BitVec 1 := Scalar.cmpi .ne v1585 c0_i32_877
  v1586

def k0_off182 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_880 : BitVec 32 := 2048#32
  let v1589 : BitVec 32 := Scalar.andi v12 c2048_i32_880
  let v1590 : BitVec 32 := Scalar.addi v17 v1589
  let c0_i32_1542 : BitVec 32 := 0#32
  let c0_i32_1543 : BitVec 32 := 0#32
  ![v1590.toNat, 0, 0]
def k0_cond102 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c1024_i32_881 : BitVec 32 := 1024#32
  let v1591 : BitVec 32 := Scalar.andi v12 c1024_i32_881
  let c0_i32_882 : BitVec 32 := 0#32
  let v1592 : BitVec 1 := Scalar.cmpi .ne v1591 c0_i32_882
  let v1593 : BitVec 1 := Scalar.andi v9 v1592
  let v1594 : BitVec 32 := Scalar.extui v1593
  let c0_i32_883 : BitVec 32 := 0#32
  let v1595 : BitVec 1 := Scalar.cmpi .ne v1594 c0_i32_883
  v1595

def k0_off183 (d0 : Dev nD) (v8 : BitVec 32) : Fin 3 → Nat :=
  let c0_i32_879 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_878 : BitVec 32 := 2048#32
  let v1587 : BitVec 32 := Scalar.andi v12 c2048_i32_878
  let v1588 : BitVec 32 := Scalar.addi c0_i32_879 v1587
  let c0_i32_1544 : BitVec 32 := 0#32
  let c0_i32_1545 : BitVec 32 := 0#32
  ![v1588.toNat, 0, 0]
def k0_off184 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_880 : BitVec 32 := 2048#32
  let v1589 : BitVec 32 := Scalar.andi v12 c2048_i32_880
  let v1590 : BitVec 32 := Scalar.addi v17 v1589
  let c1024_i32_885 : BitVec 32 := 1024#32
  let v1598 : BitVec 32 := Scalar.andi v12 c1024_i32_885
  let v1599 : BitVec 32 := Scalar.addi v1590 v1598
  let c0_i32_1542 : BitVec 32 := 0#32
  let c0_i32_1543 : BitVec 32 := 0#32
  ![v1599.toNat, 0, 0]
def k0_cond103 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c512_i32_886 : BitVec 32 := 512#32
  let v1600 : BitVec 32 := Scalar.andi v12 c512_i32_886
  let c0_i32_887 : BitVec 32 := 0#32
  let v1601 : BitVec 1 := Scalar.cmpi .ne v1600 c0_i32_887
  let v1602 : BitVec 1 := Scalar.andi v9 v1601
  let v1603 : BitVec 32 := Scalar.extui v1602
  let c0_i32_888 : BitVec 32 := 0#32
  let v1604 : BitVec 1 := Scalar.cmpi .ne v1603 c0_i32_888
  v1604

def k0_off185 (d0 : Dev nD) (v8 : BitVec 32) : Fin 3 → Nat :=
  let c0_i32_879 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_878 : BitVec 32 := 2048#32
  let v1587 : BitVec 32 := Scalar.andi v12 c2048_i32_878
  let v1588 : BitVec 32 := Scalar.addi c0_i32_879 v1587
  let c1024_i32_884 : BitVec 32 := 1024#32
  let v1596 : BitVec 32 := Scalar.andi v12 c1024_i32_884
  let v1597 : BitVec 32 := Scalar.addi v1588 v1596
  let c0_i32_1544 : BitVec 32 := 0#32
  let c0_i32_1545 : BitVec 32 := 0#32
  ![v1597.toNat, 0, 0]
def k0_off186 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_880 : BitVec 32 := 2048#32
  let v1589 : BitVec 32 := Scalar.andi v12 c2048_i32_880
  let v1590 : BitVec 32 := Scalar.addi v17 v1589
  let c1024_i32_885 : BitVec 32 := 1024#32
  let v1598 : BitVec 32 := Scalar.andi v12 c1024_i32_885
  let v1599 : BitVec 32 := Scalar.addi v1590 v1598
  let c512_i32_890 : BitVec 32 := 512#32
  let v1607 : BitVec 32 := Scalar.andi v12 c512_i32_890
  let v1608 : BitVec 32 := Scalar.addi v1599 v1607
  let c0_i32_1542 : BitVec 32 := 0#32
  let c0_i32_1543 : BitVec 32 := 0#32
  ![v1608.toNat, 0, 0]
def k0_cond104 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c256_i32_891 : BitVec 32 := 256#32
  let v1609 : BitVec 32 := Scalar.andi v12 c256_i32_891
  let c0_i32_892 : BitVec 32 := 0#32
  let v1610 : BitVec 1 := Scalar.cmpi .ne v1609 c0_i32_892
  let v1611 : BitVec 1 := Scalar.andi v9 v1610
  let v1612 : BitVec 32 := Scalar.extui v1611
  let c0_i32_893 : BitVec 32 := 0#32
  let v1613 : BitVec 1 := Scalar.cmpi .ne v1612 c0_i32_893
  v1613

def k0_off187 (d0 : Dev nD) (v8 : BitVec 32) : Fin 3 → Nat :=
  let c0_i32_879 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_878 : BitVec 32 := 2048#32
  let v1587 : BitVec 32 := Scalar.andi v12 c2048_i32_878
  let v1588 : BitVec 32 := Scalar.addi c0_i32_879 v1587
  let c1024_i32_884 : BitVec 32 := 1024#32
  let v1596 : BitVec 32 := Scalar.andi v12 c1024_i32_884
  let v1597 : BitVec 32 := Scalar.addi v1588 v1596
  let c512_i32_889 : BitVec 32 := 512#32
  let v1605 : BitVec 32 := Scalar.andi v12 c512_i32_889
  let v1606 : BitVec 32 := Scalar.addi v1597 v1605
  let c0_i32_1544 : BitVec 32 := 0#32
  let c0_i32_1545 : BitVec 32 := 0#32
  ![v1606.toNat, 0, 0]
def k0_off188 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_880 : BitVec 32 := 2048#32
  let v1589 : BitVec 32 := Scalar.andi v12 c2048_i32_880
  let v1590 : BitVec 32 := Scalar.addi v17 v1589
  let c1024_i32_885 : BitVec 32 := 1024#32
  let v1598 : BitVec 32 := Scalar.andi v12 c1024_i32_885
  let v1599 : BitVec 32 := Scalar.addi v1590 v1598
  let c512_i32_890 : BitVec 32 := 512#32
  let v1607 : BitVec 32 := Scalar.andi v12 c512_i32_890
  let v1608 : BitVec 32 := Scalar.addi v1599 v1607
  let c256_i32_895 : BitVec 32 := 256#32
  let v1616 : BitVec 32 := Scalar.andi v12 c256_i32_895
  let v1617 : BitVec 32 := Scalar.addi v1608 v1616
  let c0_i32_1542 : BitVec 32 := 0#32
  let c0_i32_1543 : BitVec 32 := 0#32
  ![v1617.toNat, 0, 0]
def k0_cond105 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c128_i32_896 : BitVec 32 := 128#32
  let v1618 : BitVec 32 := Scalar.andi v12 c128_i32_896
  let c0_i32_897 : BitVec 32 := 0#32
  let v1619 : BitVec 1 := Scalar.cmpi .ne v1618 c0_i32_897
  let v1620 : BitVec 1 := Scalar.andi v9 v1619
  let v1621 : BitVec 32 := Scalar.extui v1620
  let c0_i32_898 : BitVec 32 := 0#32
  let v1622 : BitVec 1 := Scalar.cmpi .ne v1621 c0_i32_898
  v1622

def k0_off189 (d0 : Dev nD) (v8 : BitVec 32) : Fin 3 → Nat :=
  let c0_i32_879 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_878 : BitVec 32 := 2048#32
  let v1587 : BitVec 32 := Scalar.andi v12 c2048_i32_878
  let v1588 : BitVec 32 := Scalar.addi c0_i32_879 v1587
  let c1024_i32_884 : BitVec 32 := 1024#32
  let v1596 : BitVec 32 := Scalar.andi v12 c1024_i32_884
  let v1597 : BitVec 32 := Scalar.addi v1588 v1596
  let c512_i32_889 : BitVec 32 := 512#32
  let v1605 : BitVec 32 := Scalar.andi v12 c512_i32_889
  let v1606 : BitVec 32 := Scalar.addi v1597 v1605
  let c256_i32_894 : BitVec 32 := 256#32
  let v1614 : BitVec 32 := Scalar.andi v12 c256_i32_894
  let v1615 : BitVec 32 := Scalar.addi v1606 v1614
  let c0_i32_1544 : BitVec 32 := 0#32
  let c0_i32_1545 : BitVec 32 := 0#32
  ![v1615.toNat, 0, 0]
def k0_off190 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_880 : BitVec 32 := 2048#32
  let v1589 : BitVec 32 := Scalar.andi v12 c2048_i32_880
  let v1590 : BitVec 32 := Scalar.addi v17 v1589
  let c1024_i32_885 : BitVec 32 := 1024#32
  let v1598 : BitVec 32 := Scalar.andi v12 c1024_i32_885
  let v1599 : BitVec 32 := Scalar.addi v1590 v1598
  let c512_i32_890 : BitVec 32 := 512#32
  let v1607 : BitVec 32 := Scalar.andi v12 c512_i32_890
  let v1608 : BitVec 32 := Scalar.addi v1599 v1607
  let c256_i32_895 : BitVec 32 := 256#32
  let v1616 : BitVec 32 := Scalar.andi v12 c256_i32_895
  let v1617 : BitVec 32 := Scalar.addi v1608 v1616
  let c128_i32_900 : BitVec 32 := 128#32
  let v1625 : BitVec 32 := Scalar.andi v12 c128_i32_900
  let v1626 : BitVec 32 := Scalar.addi v1617 v1625
  let c0_i32_1542 : BitVec 32 := 0#32
  let c0_i32_1543 : BitVec 32 := 0#32
  ![v1626.toNat, 0, 0]
def k0_cond106 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c64_i32_901 : BitVec 32 := 64#32
  let v1627 : BitVec 32 := Scalar.andi v12 c64_i32_901
  let c0_i32_902 : BitVec 32 := 0#32
  let v1628 : BitVec 1 := Scalar.cmpi .ne v1627 c0_i32_902
  let v1629 : BitVec 1 := Scalar.andi v9 v1628
  let v1630 : BitVec 32 := Scalar.extui v1629
  let c0_i32_903 : BitVec 32 := 0#32
  let v1631 : BitVec 1 := Scalar.cmpi .ne v1630 c0_i32_903
  v1631

def k0_off191 (d0 : Dev nD) (v8 : BitVec 32) : Fin 3 → Nat :=
  let c0_i32_879 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_878 : BitVec 32 := 2048#32
  let v1587 : BitVec 32 := Scalar.andi v12 c2048_i32_878
  let v1588 : BitVec 32 := Scalar.addi c0_i32_879 v1587
  let c1024_i32_884 : BitVec 32 := 1024#32
  let v1596 : BitVec 32 := Scalar.andi v12 c1024_i32_884
  let v1597 : BitVec 32 := Scalar.addi v1588 v1596
  let c512_i32_889 : BitVec 32 := 512#32
  let v1605 : BitVec 32 := Scalar.andi v12 c512_i32_889
  let v1606 : BitVec 32 := Scalar.addi v1597 v1605
  let c256_i32_894 : BitVec 32 := 256#32
  let v1614 : BitVec 32 := Scalar.andi v12 c256_i32_894
  let v1615 : BitVec 32 := Scalar.addi v1606 v1614
  let c128_i32_899 : BitVec 32 := 128#32
  let v1623 : BitVec 32 := Scalar.andi v12 c128_i32_899
  let v1624 : BitVec 32 := Scalar.addi v1615 v1623
  let c0_i32_1544 : BitVec 32 := 0#32
  let c0_i32_1545 : BitVec 32 := 0#32
  ![v1624.toNat, 0, 0]
def k0_off192 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_880 : BitVec 32 := 2048#32
  let v1589 : BitVec 32 := Scalar.andi v12 c2048_i32_880
  let v1590 : BitVec 32 := Scalar.addi v17 v1589
  let c1024_i32_885 : BitVec 32 := 1024#32
  let v1598 : BitVec 32 := Scalar.andi v12 c1024_i32_885
  let v1599 : BitVec 32 := Scalar.addi v1590 v1598
  let c512_i32_890 : BitVec 32 := 512#32
  let v1607 : BitVec 32 := Scalar.andi v12 c512_i32_890
  let v1608 : BitVec 32 := Scalar.addi v1599 v1607
  let c256_i32_895 : BitVec 32 := 256#32
  let v1616 : BitVec 32 := Scalar.andi v12 c256_i32_895
  let v1617 : BitVec 32 := Scalar.addi v1608 v1616
  let c128_i32_900 : BitVec 32 := 128#32
  let v1625 : BitVec 32 := Scalar.andi v12 c128_i32_900
  let v1626 : BitVec 32 := Scalar.addi v1617 v1625
  let c64_i32_905 : BitVec 32 := 64#32
  let v1634 : BitVec 32 := Scalar.andi v12 c64_i32_905
  let v1635 : BitVec 32 := Scalar.addi v1626 v1634
  let c0_i32_1542 : BitVec 32 := 0#32
  let c0_i32_1543 : BitVec 32 := 0#32
  ![v1635.toNat, 0, 0]
def k0_cond107 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c32_i32_906 : BitVec 32 := 32#32
  let v1636 : BitVec 32 := Scalar.andi v12 c32_i32_906
  let c0_i32_907 : BitVec 32 := 0#32
  let v1637 : BitVec 1 := Scalar.cmpi .ne v1636 c0_i32_907
  let v1638 : BitVec 1 := Scalar.andi v9 v1637
  let v1639 : BitVec 32 := Scalar.extui v1638
  let c0_i32_908 : BitVec 32 := 0#32
  let v1640 : BitVec 1 := Scalar.cmpi .ne v1639 c0_i32_908
  v1640

def k0_off193 (d0 : Dev nD) (v8 : BitVec 32) : Fin 3 → Nat :=
  let c0_i32_879 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_878 : BitVec 32 := 2048#32
  let v1587 : BitVec 32 := Scalar.andi v12 c2048_i32_878
  let v1588 : BitVec 32 := Scalar.addi c0_i32_879 v1587
  let c1024_i32_884 : BitVec 32 := 1024#32
  let v1596 : BitVec 32 := Scalar.andi v12 c1024_i32_884
  let v1597 : BitVec 32 := Scalar.addi v1588 v1596
  let c512_i32_889 : BitVec 32 := 512#32
  let v1605 : BitVec 32 := Scalar.andi v12 c512_i32_889
  let v1606 : BitVec 32 := Scalar.addi v1597 v1605
  let c256_i32_894 : BitVec 32 := 256#32
  let v1614 : BitVec 32 := Scalar.andi v12 c256_i32_894
  let v1615 : BitVec 32 := Scalar.addi v1606 v1614
  let c128_i32_899 : BitVec 32 := 128#32
  let v1623 : BitVec 32 := Scalar.andi v12 c128_i32_899
  let v1624 : BitVec 32 := Scalar.addi v1615 v1623
  let c64_i32_904 : BitVec 32 := 64#32
  let v1632 : BitVec 32 := Scalar.andi v12 c64_i32_904
  let v1633 : BitVec 32 := Scalar.addi v1624 v1632
  let c0_i32_1544 : BitVec 32 := 0#32
  let c0_i32_1545 : BitVec 32 := 0#32
  ![v1633.toNat, 0, 0]
def k0_off194 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_880 : BitVec 32 := 2048#32
  let v1589 : BitVec 32 := Scalar.andi v12 c2048_i32_880
  let v1590 : BitVec 32 := Scalar.addi v17 v1589
  let c1024_i32_885 : BitVec 32 := 1024#32
  let v1598 : BitVec 32 := Scalar.andi v12 c1024_i32_885
  let v1599 : BitVec 32 := Scalar.addi v1590 v1598
  let c512_i32_890 : BitVec 32 := 512#32
  let v1607 : BitVec 32 := Scalar.andi v12 c512_i32_890
  let v1608 : BitVec 32 := Scalar.addi v1599 v1607
  let c256_i32_895 : BitVec 32 := 256#32
  let v1616 : BitVec 32 := Scalar.andi v12 c256_i32_895
  let v1617 : BitVec 32 := Scalar.addi v1608 v1616
  let c128_i32_900 : BitVec 32 := 128#32
  let v1625 : BitVec 32 := Scalar.andi v12 c128_i32_900
  let v1626 : BitVec 32 := Scalar.addi v1617 v1625
  let c64_i32_905 : BitVec 32 := 64#32
  let v1634 : BitVec 32 := Scalar.andi v12 c64_i32_905
  let v1635 : BitVec 32 := Scalar.addi v1626 v1634
  let c32_i32_910 : BitVec 32 := 32#32
  let v1643 : BitVec 32 := Scalar.andi v12 c32_i32_910
  let v1644 : BitVec 32 := Scalar.addi v1635 v1643
  let c0_i32_1542 : BitVec 32 := 0#32
  let c0_i32_1543 : BitVec 32 := 0#32
  ![v1644.toNat, 0, 0]
def k0_cond108 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c16_i32_911 : BitVec 32 := 16#32
  let v1645 : BitVec 32 := Scalar.andi v12 c16_i32_911
  let c0_i32_912 : BitVec 32 := 0#32
  let v1646 : BitVec 1 := Scalar.cmpi .ne v1645 c0_i32_912
  let v1647 : BitVec 1 := Scalar.andi v9 v1646
  let v1648 : BitVec 32 := Scalar.extui v1647
  let c0_i32_913 : BitVec 32 := 0#32
  let v1649 : BitVec 1 := Scalar.cmpi .ne v1648 c0_i32_913
  v1649

def k0_off195 (d0 : Dev nD) (v8 : BitVec 32) : Fin 3 → Nat :=
  let c0_i32_879 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_878 : BitVec 32 := 2048#32
  let v1587 : BitVec 32 := Scalar.andi v12 c2048_i32_878
  let v1588 : BitVec 32 := Scalar.addi c0_i32_879 v1587
  let c1024_i32_884 : BitVec 32 := 1024#32
  let v1596 : BitVec 32 := Scalar.andi v12 c1024_i32_884
  let v1597 : BitVec 32 := Scalar.addi v1588 v1596
  let c512_i32_889 : BitVec 32 := 512#32
  let v1605 : BitVec 32 := Scalar.andi v12 c512_i32_889
  let v1606 : BitVec 32 := Scalar.addi v1597 v1605
  let c256_i32_894 : BitVec 32 := 256#32
  let v1614 : BitVec 32 := Scalar.andi v12 c256_i32_894
  let v1615 : BitVec 32 := Scalar.addi v1606 v1614
  let c128_i32_899 : BitVec 32 := 128#32
  let v1623 : BitVec 32 := Scalar.andi v12 c128_i32_899
  let v1624 : BitVec 32 := Scalar.addi v1615 v1623
  let c64_i32_904 : BitVec 32 := 64#32
  let v1632 : BitVec 32 := Scalar.andi v12 c64_i32_904
  let v1633 : BitVec 32 := Scalar.addi v1624 v1632
  let c32_i32_909 : BitVec 32 := 32#32
  let v1641 : BitVec 32 := Scalar.andi v12 c32_i32_909
  let v1642 : BitVec 32 := Scalar.addi v1633 v1641
  let c0_i32_1544 : BitVec 32 := 0#32
  let c0_i32_1545 : BitVec 32 := 0#32
  ![v1642.toNat, 0, 0]
def k0_off196 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_880 : BitVec 32 := 2048#32
  let v1589 : BitVec 32 := Scalar.andi v12 c2048_i32_880
  let v1590 : BitVec 32 := Scalar.addi v17 v1589
  let c1024_i32_885 : BitVec 32 := 1024#32
  let v1598 : BitVec 32 := Scalar.andi v12 c1024_i32_885
  let v1599 : BitVec 32 := Scalar.addi v1590 v1598
  let c512_i32_890 : BitVec 32 := 512#32
  let v1607 : BitVec 32 := Scalar.andi v12 c512_i32_890
  let v1608 : BitVec 32 := Scalar.addi v1599 v1607
  let c256_i32_895 : BitVec 32 := 256#32
  let v1616 : BitVec 32 := Scalar.andi v12 c256_i32_895
  let v1617 : BitVec 32 := Scalar.addi v1608 v1616
  let c128_i32_900 : BitVec 32 := 128#32
  let v1625 : BitVec 32 := Scalar.andi v12 c128_i32_900
  let v1626 : BitVec 32 := Scalar.addi v1617 v1625
  let c64_i32_905 : BitVec 32 := 64#32
  let v1634 : BitVec 32 := Scalar.andi v12 c64_i32_905
  let v1635 : BitVec 32 := Scalar.addi v1626 v1634
  let c32_i32_910 : BitVec 32 := 32#32
  let v1643 : BitVec 32 := Scalar.andi v12 c32_i32_910
  let v1644 : BitVec 32 := Scalar.addi v1635 v1643
  let c16_i32_915 : BitVec 32 := 16#32
  let v1652 : BitVec 32 := Scalar.andi v12 c16_i32_915
  let v1653 : BitVec 32 := Scalar.addi v1644 v1652
  let c0_i32_1542 : BitVec 32 := 0#32
  let c0_i32_1543 : BitVec 32 := 0#32
  ![v1653.toNat, 0, 0]
def k0_cond109 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c8_i32_916 : BitVec 32 := 8#32
  let v1654 : BitVec 32 := Scalar.andi v12 c8_i32_916
  let c0_i32_917 : BitVec 32 := 0#32
  let v1655 : BitVec 1 := Scalar.cmpi .ne v1654 c0_i32_917
  let v1656 : BitVec 1 := Scalar.andi v9 v1655
  let v1657 : BitVec 32 := Scalar.extui v1656
  let c0_i32_918 : BitVec 32 := 0#32
  let v1658 : BitVec 1 := Scalar.cmpi .ne v1657 c0_i32_918
  v1658

def k0_off197 (d0 : Dev nD) (v8 : BitVec 32) : Fin 3 → Nat :=
  let c0_i32_879 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_878 : BitVec 32 := 2048#32
  let v1587 : BitVec 32 := Scalar.andi v12 c2048_i32_878
  let v1588 : BitVec 32 := Scalar.addi c0_i32_879 v1587
  let c1024_i32_884 : BitVec 32 := 1024#32
  let v1596 : BitVec 32 := Scalar.andi v12 c1024_i32_884
  let v1597 : BitVec 32 := Scalar.addi v1588 v1596
  let c512_i32_889 : BitVec 32 := 512#32
  let v1605 : BitVec 32 := Scalar.andi v12 c512_i32_889
  let v1606 : BitVec 32 := Scalar.addi v1597 v1605
  let c256_i32_894 : BitVec 32 := 256#32
  let v1614 : BitVec 32 := Scalar.andi v12 c256_i32_894
  let v1615 : BitVec 32 := Scalar.addi v1606 v1614
  let c128_i32_899 : BitVec 32 := 128#32
  let v1623 : BitVec 32 := Scalar.andi v12 c128_i32_899
  let v1624 : BitVec 32 := Scalar.addi v1615 v1623
  let c64_i32_904 : BitVec 32 := 64#32
  let v1632 : BitVec 32 := Scalar.andi v12 c64_i32_904
  let v1633 : BitVec 32 := Scalar.addi v1624 v1632
  let c32_i32_909 : BitVec 32 := 32#32
  let v1641 : BitVec 32 := Scalar.andi v12 c32_i32_909
  let v1642 : BitVec 32 := Scalar.addi v1633 v1641
  let c16_i32_914 : BitVec 32 := 16#32
  let v1650 : BitVec 32 := Scalar.andi v12 c16_i32_914
  let v1651 : BitVec 32 := Scalar.addi v1642 v1650
  let c0_i32_1544 : BitVec 32 := 0#32
  let c0_i32_1545 : BitVec 32 := 0#32
  ![v1651.toNat, 0, 0]
def k0_off198 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_880 : BitVec 32 := 2048#32
  let v1589 : BitVec 32 := Scalar.andi v12 c2048_i32_880
  let v1590 : BitVec 32 := Scalar.addi v17 v1589
  let c1024_i32_885 : BitVec 32 := 1024#32
  let v1598 : BitVec 32 := Scalar.andi v12 c1024_i32_885
  let v1599 : BitVec 32 := Scalar.addi v1590 v1598
  let c512_i32_890 : BitVec 32 := 512#32
  let v1607 : BitVec 32 := Scalar.andi v12 c512_i32_890
  let v1608 : BitVec 32 := Scalar.addi v1599 v1607
  let c256_i32_895 : BitVec 32 := 256#32
  let v1616 : BitVec 32 := Scalar.andi v12 c256_i32_895
  let v1617 : BitVec 32 := Scalar.addi v1608 v1616
  let c128_i32_900 : BitVec 32 := 128#32
  let v1625 : BitVec 32 := Scalar.andi v12 c128_i32_900
  let v1626 : BitVec 32 := Scalar.addi v1617 v1625
  let c64_i32_905 : BitVec 32 := 64#32
  let v1634 : BitVec 32 := Scalar.andi v12 c64_i32_905
  let v1635 : BitVec 32 := Scalar.addi v1626 v1634
  let c32_i32_910 : BitVec 32 := 32#32
  let v1643 : BitVec 32 := Scalar.andi v12 c32_i32_910
  let v1644 : BitVec 32 := Scalar.addi v1635 v1643
  let c16_i32_915 : BitVec 32 := 16#32
  let v1652 : BitVec 32 := Scalar.andi v12 c16_i32_915
  let v1653 : BitVec 32 := Scalar.addi v1644 v1652
  let c8_i32_920 : BitVec 32 := 8#32
  let v1661 : BitVec 32 := Scalar.andi v12 c8_i32_920
  let v1662 : BitVec 32 := Scalar.addi v1653 v1661
  let c0_i32_1541 : BitVec 32 := 0#32
  let c0_i32_1542 : BitVec 32 := 0#32
  ![v1662.toNat, 0, 0]
def k0_cond110 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c4_i32_921 : BitVec 32 := 4#32
  let v1663 : BitVec 32 := Scalar.andi v12 c4_i32_921
  let c0_i32_922 : BitVec 32 := 0#32
  let v1664 : BitVec 1 := Scalar.cmpi .ne v1663 c0_i32_922
  let v1665 : BitVec 1 := Scalar.andi v9 v1664
  let v1666 : BitVec 32 := Scalar.extui v1665
  let c0_i32_923 : BitVec 32 := 0#32
  let v1667 : BitVec 1 := Scalar.cmpi .ne v1666 c0_i32_923
  v1667

def k0_off199 (d0 : Dev nD) (v8 : BitVec 32) : Fin 3 → Nat :=
  let c0_i32_879 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_878 : BitVec 32 := 2048#32
  let v1587 : BitVec 32 := Scalar.andi v12 c2048_i32_878
  let v1588 : BitVec 32 := Scalar.addi c0_i32_879 v1587
  let c1024_i32_884 : BitVec 32 := 1024#32
  let v1596 : BitVec 32 := Scalar.andi v12 c1024_i32_884
  let v1597 : BitVec 32 := Scalar.addi v1588 v1596
  let c512_i32_889 : BitVec 32 := 512#32
  let v1605 : BitVec 32 := Scalar.andi v12 c512_i32_889
  let v1606 : BitVec 32 := Scalar.addi v1597 v1605
  let c256_i32_894 : BitVec 32 := 256#32
  let v1614 : BitVec 32 := Scalar.andi v12 c256_i32_894
  let v1615 : BitVec 32 := Scalar.addi v1606 v1614
  let c128_i32_899 : BitVec 32 := 128#32
  let v1623 : BitVec 32 := Scalar.andi v12 c128_i32_899
  let v1624 : BitVec 32 := Scalar.addi v1615 v1623
  let c64_i32_904 : BitVec 32 := 64#32
  let v1632 : BitVec 32 := Scalar.andi v12 c64_i32_904
  let v1633 : BitVec 32 := Scalar.addi v1624 v1632
  let c32_i32_909 : BitVec 32 := 32#32
  let v1641 : BitVec 32 := Scalar.andi v12 c32_i32_909
  let v1642 : BitVec 32 := Scalar.addi v1633 v1641
  let c16_i32_914 : BitVec 32 := 16#32
  let v1650 : BitVec 32 := Scalar.andi v12 c16_i32_914
  let v1651 : BitVec 32 := Scalar.addi v1642 v1650
  let c8_i32_919 : BitVec 32 := 8#32
  let v1659 : BitVec 32 := Scalar.andi v12 c8_i32_919
  let v1660 : BitVec 32 := Scalar.addi v1651 v1659
  let c0_i32_1543 : BitVec 32 := 0#32
  let c0_i32_1544 : BitVec 32 := 0#32
  ![v1660.toNat, 0, 0]
def k0_off200 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_880 : BitVec 32 := 2048#32
  let v1589 : BitVec 32 := Scalar.andi v12 c2048_i32_880
  let v1590 : BitVec 32 := Scalar.addi v17 v1589
  let c1024_i32_885 : BitVec 32 := 1024#32
  let v1598 : BitVec 32 := Scalar.andi v12 c1024_i32_885
  let v1599 : BitVec 32 := Scalar.addi v1590 v1598
  let c512_i32_890 : BitVec 32 := 512#32
  let v1607 : BitVec 32 := Scalar.andi v12 c512_i32_890
  let v1608 : BitVec 32 := Scalar.addi v1599 v1607
  let c256_i32_895 : BitVec 32 := 256#32
  let v1616 : BitVec 32 := Scalar.andi v12 c256_i32_895
  let v1617 : BitVec 32 := Scalar.addi v1608 v1616
  let c128_i32_900 : BitVec 32 := 128#32
  let v1625 : BitVec 32 := Scalar.andi v12 c128_i32_900
  let v1626 : BitVec 32 := Scalar.addi v1617 v1625
  let c64_i32_905 : BitVec 32 := 64#32
  let v1634 : BitVec 32 := Scalar.andi v12 c64_i32_905
  let v1635 : BitVec 32 := Scalar.addi v1626 v1634
  let c32_i32_910 : BitVec 32 := 32#32
  let v1643 : BitVec 32 := Scalar.andi v12 c32_i32_910
  let v1644 : BitVec 32 := Scalar.addi v1635 v1643
  let c16_i32_915 : BitVec 32 := 16#32
  let v1652 : BitVec 32 := Scalar.andi v12 c16_i32_915
  let v1653 : BitVec 32 := Scalar.addi v1644 v1652
  let c8_i32_920 : BitVec 32 := 8#32
  let v1661 : BitVec 32 := Scalar.andi v12 c8_i32_920
  let v1662 : BitVec 32 := Scalar.addi v1653 v1661
  let c4_i32_925 : BitVec 32 := 4#32
  let v1670 : BitVec 32 := Scalar.andi v12 c4_i32_925
  let v1671 : BitVec 32 := Scalar.addi v1662 v1670
  let c0_i32_1541 : BitVec 32 := 0#32
  let c0_i32_1542 : BitVec 32 := 0#32
  ![v1671.toNat, 0, 0]
def k0_cond111 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c2_i32_926 : BitVec 32 := 2#32
  let v1672 : BitVec 32 := Scalar.andi v12 c2_i32_926
  let c0_i32_927 : BitVec 32 := 0#32
  let v1673 : BitVec 1 := Scalar.cmpi .ne v1672 c0_i32_927
  let v1674 : BitVec 1 := Scalar.andi v9 v1673
  let v1675 : BitVec 32 := Scalar.extui v1674
  let c0_i32_928 : BitVec 32 := 0#32
  let v1676 : BitVec 1 := Scalar.cmpi .ne v1675 c0_i32_928
  v1676

def k0_off201 (d0 : Dev nD) (v8 : BitVec 32) : Fin 3 → Nat :=
  let c0_i32_879 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_878 : BitVec 32 := 2048#32
  let v1587 : BitVec 32 := Scalar.andi v12 c2048_i32_878
  let v1588 : BitVec 32 := Scalar.addi c0_i32_879 v1587
  let c1024_i32_884 : BitVec 32 := 1024#32
  let v1596 : BitVec 32 := Scalar.andi v12 c1024_i32_884
  let v1597 : BitVec 32 := Scalar.addi v1588 v1596
  let c512_i32_889 : BitVec 32 := 512#32
  let v1605 : BitVec 32 := Scalar.andi v12 c512_i32_889
  let v1606 : BitVec 32 := Scalar.addi v1597 v1605
  let c256_i32_894 : BitVec 32 := 256#32
  let v1614 : BitVec 32 := Scalar.andi v12 c256_i32_894
  let v1615 : BitVec 32 := Scalar.addi v1606 v1614
  let c128_i32_899 : BitVec 32 := 128#32
  let v1623 : BitVec 32 := Scalar.andi v12 c128_i32_899
  let v1624 : BitVec 32 := Scalar.addi v1615 v1623
  let c64_i32_904 : BitVec 32 := 64#32
  let v1632 : BitVec 32 := Scalar.andi v12 c64_i32_904
  let v1633 : BitVec 32 := Scalar.addi v1624 v1632
  let c32_i32_909 : BitVec 32 := 32#32
  let v1641 : BitVec 32 := Scalar.andi v12 c32_i32_909
  let v1642 : BitVec 32 := Scalar.addi v1633 v1641
  let c16_i32_914 : BitVec 32 := 16#32
  let v1650 : BitVec 32 := Scalar.andi v12 c16_i32_914
  let v1651 : BitVec 32 := Scalar.addi v1642 v1650
  let c8_i32_919 : BitVec 32 := 8#32
  let v1659 : BitVec 32 := Scalar.andi v12 c8_i32_919
  let v1660 : BitVec 32 := Scalar.addi v1651 v1659
  let c4_i32_924 : BitVec 32 := 4#32
  let v1668 : BitVec 32 := Scalar.andi v12 c4_i32_924
  let v1669 : BitVec 32 := Scalar.addi v1660 v1668
  let c0_i32_1543 : BitVec 32 := 0#32
  let c0_i32_1544 : BitVec 32 := 0#32
  ![v1669.toNat, 0, 0]
def k0_off202 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_880 : BitVec 32 := 2048#32
  let v1589 : BitVec 32 := Scalar.andi v12 c2048_i32_880
  let v1590 : BitVec 32 := Scalar.addi v17 v1589
  let c1024_i32_885 : BitVec 32 := 1024#32
  let v1598 : BitVec 32 := Scalar.andi v12 c1024_i32_885
  let v1599 : BitVec 32 := Scalar.addi v1590 v1598
  let c512_i32_890 : BitVec 32 := 512#32
  let v1607 : BitVec 32 := Scalar.andi v12 c512_i32_890
  let v1608 : BitVec 32 := Scalar.addi v1599 v1607
  let c256_i32_895 : BitVec 32 := 256#32
  let v1616 : BitVec 32 := Scalar.andi v12 c256_i32_895
  let v1617 : BitVec 32 := Scalar.addi v1608 v1616
  let c128_i32_900 : BitVec 32 := 128#32
  let v1625 : BitVec 32 := Scalar.andi v12 c128_i32_900
  let v1626 : BitVec 32 := Scalar.addi v1617 v1625
  let c64_i32_905 : BitVec 32 := 64#32
  let v1634 : BitVec 32 := Scalar.andi v12 c64_i32_905
  let v1635 : BitVec 32 := Scalar.addi v1626 v1634
  let c32_i32_910 : BitVec 32 := 32#32
  let v1643 : BitVec 32 := Scalar.andi v12 c32_i32_910
  let v1644 : BitVec 32 := Scalar.addi v1635 v1643
  let c16_i32_915 : BitVec 32 := 16#32
  let v1652 : BitVec 32 := Scalar.andi v12 c16_i32_915
  let v1653 : BitVec 32 := Scalar.addi v1644 v1652
  let c8_i32_920 : BitVec 32 := 8#32
  let v1661 : BitVec 32 := Scalar.andi v12 c8_i32_920
  let v1662 : BitVec 32 := Scalar.addi v1653 v1661
  let c4_i32_925 : BitVec 32 := 4#32
  let v1670 : BitVec 32 := Scalar.andi v12 c4_i32_925
  let v1671 : BitVec 32 := Scalar.addi v1662 v1670
  let c2_i32_930 : BitVec 32 := 2#32
  let v1679 : BitVec 32 := Scalar.andi v12 c2_i32_930
  let v1680 : BitVec 32 := Scalar.addi v1671 v1679
  let c0_i32_1541 : BitVec 32 := 0#32
  let c0_i32_1542 : BitVec 32 := 0#32
  ![v1680.toNat, 0, 0]
def k0_cond112 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c1_i32_931 : BitVec 32 := 1#32
  let v1681 : BitVec 32 := Scalar.andi v12 c1_i32_931
  let c0_i32_932 : BitVec 32 := 0#32
  let v1682 : BitVec 1 := Scalar.cmpi .ne v1681 c0_i32_932
  let v1683 : BitVec 1 := Scalar.andi v9 v1682
  let v1684 : BitVec 32 := Scalar.extui v1683
  let c0_i32_933 : BitVec 32 := 0#32
  let v1685 : BitVec 1 := Scalar.cmpi .ne v1684 c0_i32_933
  v1685

def k0_off203 (d0 : Dev nD) (v8 : BitVec 32) : Fin 3 → Nat :=
  let c0_i32_879 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_878 : BitVec 32 := 2048#32
  let v1587 : BitVec 32 := Scalar.andi v12 c2048_i32_878
  let v1588 : BitVec 32 := Scalar.addi c0_i32_879 v1587
  let c1024_i32_884 : BitVec 32 := 1024#32
  let v1596 : BitVec 32 := Scalar.andi v12 c1024_i32_884
  let v1597 : BitVec 32 := Scalar.addi v1588 v1596
  let c512_i32_889 : BitVec 32 := 512#32
  let v1605 : BitVec 32 := Scalar.andi v12 c512_i32_889
  let v1606 : BitVec 32 := Scalar.addi v1597 v1605
  let c256_i32_894 : BitVec 32 := 256#32
  let v1614 : BitVec 32 := Scalar.andi v12 c256_i32_894
  let v1615 : BitVec 32 := Scalar.addi v1606 v1614
  let c128_i32_899 : BitVec 32 := 128#32
  let v1623 : BitVec 32 := Scalar.andi v12 c128_i32_899
  let v1624 : BitVec 32 := Scalar.addi v1615 v1623
  let c64_i32_904 : BitVec 32 := 64#32
  let v1632 : BitVec 32 := Scalar.andi v12 c64_i32_904
  let v1633 : BitVec 32 := Scalar.addi v1624 v1632
  let c32_i32_909 : BitVec 32 := 32#32
  let v1641 : BitVec 32 := Scalar.andi v12 c32_i32_909
  let v1642 : BitVec 32 := Scalar.addi v1633 v1641
  let c16_i32_914 : BitVec 32 := 16#32
  let v1650 : BitVec 32 := Scalar.andi v12 c16_i32_914
  let v1651 : BitVec 32 := Scalar.addi v1642 v1650
  let c8_i32_919 : BitVec 32 := 8#32
  let v1659 : BitVec 32 := Scalar.andi v12 c8_i32_919
  let v1660 : BitVec 32 := Scalar.addi v1651 v1659
  let c4_i32_924 : BitVec 32 := 4#32
  let v1668 : BitVec 32 := Scalar.andi v12 c4_i32_924
  let v1669 : BitVec 32 := Scalar.addi v1660 v1668
  let c2_i32_929 : BitVec 32 := 2#32
  let v1677 : BitVec 32 := Scalar.andi v12 c2_i32_929
  let v1678 : BitVec 32 := Scalar.addi v1669 v1677
  let c0_i32_1543 : BitVec 32 := 0#32
  let c0_i32_1544 : BitVec 32 := 0#32
  ![v1678.toNat, 0, 0]
def k0_off204 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c0_i32_1542 : BitVec 32 := 0#32
  let c0_i32_1543 : BitVec 32 := 0#32
  ![v17.toNat, 0, 0]
def k0_cond113 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_873 : BitVec 1 := 1#1
  let v1581 : BitVec 1 := Scalar.xori v9 true_873
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_934 : BitVec 32 := 2048#32
  let v1686 : BitVec 32 := Scalar.andi v12 c2048_i32_934
  let c0_i32_935 : BitVec 32 := 0#32
  let v1687 : BitVec 1 := Scalar.cmpi .ne v1686 c0_i32_935
  let v1688 : BitVec 1 := Scalar.andi v1581 v1687
  let v1689 : BitVec 32 := Scalar.extui v1688
  let c0_i32_937 : BitVec 32 := 0#32
  let v1690 : BitVec 1 := Scalar.cmpi .ne v1689 c0_i32_937
  v1690

def k0_off205 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_940 : BitVec 32 := 2048#32
  let v1693 : BitVec 32 := Scalar.andi v12 c2048_i32_940
  let v1694 : BitVec 32 := Scalar.addi v17 v1693
  let c0_i32_1542 : BitVec 32 := 0#32
  let c0_i32_1543 : BitVec 32 := 0#32
  ![v1694.toNat, 0, 0]
def k0_cond114 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_873 : BitVec 1 := 1#1
  let v1581 : BitVec 1 := Scalar.xori v9 true_873
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c1024_i32_941 : BitVec 32 := 1024#32
  let v1695 : BitVec 32 := Scalar.andi v12 c1024_i32_941
  let c0_i32_942 : BitVec 32 := 0#32
  let v1696 : BitVec 1 := Scalar.cmpi .ne v1695 c0_i32_942
  let v1697 : BitVec 1 := Scalar.andi v1581 v1696
  let v1698 : BitVec 32 := Scalar.extui v1697
  let c0_i32_943 : BitVec 32 := 0#32
  let v1699 : BitVec 1 := Scalar.cmpi .ne v1698 c0_i32_943
  v1699

def k0_off206 (d0 : Dev nD) (v8 : BitVec 32) : Fin 3 → Nat :=
  let c0_i32_939 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_938 : BitVec 32 := 2048#32
  let v1691 : BitVec 32 := Scalar.andi v12 c2048_i32_938
  let v1692 : BitVec 32 := Scalar.addi c0_i32_939 v1691
  let c0_i32_1544 : BitVec 32 := 0#32
  let c0_i32_1545 : BitVec 32 := 0#32
  ![v1692.toNat, 0, 0]
def k0_off207 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_940 : BitVec 32 := 2048#32
  let v1693 : BitVec 32 := Scalar.andi v12 c2048_i32_940
  let v1694 : BitVec 32 := Scalar.addi v17 v1693
  let c1024_i32_945 : BitVec 32 := 1024#32
  let v1702 : BitVec 32 := Scalar.andi v12 c1024_i32_945
  let v1703 : BitVec 32 := Scalar.addi v1694 v1702
  let c0_i32_1542 : BitVec 32 := 0#32
  let c0_i32_1543 : BitVec 32 := 0#32
  ![v1703.toNat, 0, 0]
def k0_cond115 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_873 : BitVec 1 := 1#1
  let v1581 : BitVec 1 := Scalar.xori v9 true_873
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c512_i32_946 : BitVec 32 := 512#32
  let v1704 : BitVec 32 := Scalar.andi v12 c512_i32_946
  let c0_i32_947 : BitVec 32 := 0#32
  let v1705 : BitVec 1 := Scalar.cmpi .ne v1704 c0_i32_947
  let v1706 : BitVec 1 := Scalar.andi v1581 v1705
  let v1707 : BitVec 32 := Scalar.extui v1706
  let c0_i32_948 : BitVec 32 := 0#32
  let v1708 : BitVec 1 := Scalar.cmpi .ne v1707 c0_i32_948
  v1708

def k0_off208 (d0 : Dev nD) (v8 : BitVec 32) : Fin 3 → Nat :=
  let c0_i32_939 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_938 : BitVec 32 := 2048#32
  let v1691 : BitVec 32 := Scalar.andi v12 c2048_i32_938
  let v1692 : BitVec 32 := Scalar.addi c0_i32_939 v1691
  let c1024_i32_944 : BitVec 32 := 1024#32
  let v1700 : BitVec 32 := Scalar.andi v12 c1024_i32_944
  let v1701 : BitVec 32 := Scalar.addi v1692 v1700
  let c0_i32_1544 : BitVec 32 := 0#32
  let c0_i32_1545 : BitVec 32 := 0#32
  ![v1701.toNat, 0, 0]
def k0_off209 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_940 : BitVec 32 := 2048#32
  let v1693 : BitVec 32 := Scalar.andi v12 c2048_i32_940
  let v1694 : BitVec 32 := Scalar.addi v17 v1693
  let c1024_i32_945 : BitVec 32 := 1024#32
  let v1702 : BitVec 32 := Scalar.andi v12 c1024_i32_945
  let v1703 : BitVec 32 := Scalar.addi v1694 v1702
  let c512_i32_950 : BitVec 32 := 512#32
  let v1711 : BitVec 32 := Scalar.andi v12 c512_i32_950
  let v1712 : BitVec 32 := Scalar.addi v1703 v1711
  let c0_i32_1542 : BitVec 32 := 0#32
  let c0_i32_1543 : BitVec 32 := 0#32
  ![v1712.toNat, 0, 0]
def k0_cond116 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_873 : BitVec 1 := 1#1
  let v1581 : BitVec 1 := Scalar.xori v9 true_873
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c256_i32_951 : BitVec 32 := 256#32
  let v1713 : BitVec 32 := Scalar.andi v12 c256_i32_951
  let c0_i32_952 : BitVec 32 := 0#32
  let v1714 : BitVec 1 := Scalar.cmpi .ne v1713 c0_i32_952
  let v1715 : BitVec 1 := Scalar.andi v1581 v1714
  let v1716 : BitVec 32 := Scalar.extui v1715
  let c0_i32_953 : BitVec 32 := 0#32
  let v1717 : BitVec 1 := Scalar.cmpi .ne v1716 c0_i32_953
  v1717

def k0_off210 (d0 : Dev nD) (v8 : BitVec 32) : Fin 3 → Nat :=
  let c0_i32_939 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_938 : BitVec 32 := 2048#32
  let v1691 : BitVec 32 := Scalar.andi v12 c2048_i32_938
  let v1692 : BitVec 32 := Scalar.addi c0_i32_939 v1691
  let c1024_i32_944 : BitVec 32 := 1024#32
  let v1700 : BitVec 32 := Scalar.andi v12 c1024_i32_944
  let v1701 : BitVec 32 := Scalar.addi v1692 v1700
  let c512_i32_949 : BitVec 32 := 512#32
  let v1709 : BitVec 32 := Scalar.andi v12 c512_i32_949
  let v1710 : BitVec 32 := Scalar.addi v1701 v1709
  let c0_i32_1544 : BitVec 32 := 0#32
  let c0_i32_1545 : BitVec 32 := 0#32
  ![v1710.toNat, 0, 0]
def k0_off211 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_940 : BitVec 32 := 2048#32
  let v1693 : BitVec 32 := Scalar.andi v12 c2048_i32_940
  let v1694 : BitVec 32 := Scalar.addi v17 v1693
  let c1024_i32_945 : BitVec 32 := 1024#32
  let v1702 : BitVec 32 := Scalar.andi v12 c1024_i32_945
  let v1703 : BitVec 32 := Scalar.addi v1694 v1702
  let c512_i32_950 : BitVec 32 := 512#32
  let v1711 : BitVec 32 := Scalar.andi v12 c512_i32_950
  let v1712 : BitVec 32 := Scalar.addi v1703 v1711
  let c256_i32_955 : BitVec 32 := 256#32
  let v1720 : BitVec 32 := Scalar.andi v12 c256_i32_955
  let v1721 : BitVec 32 := Scalar.addi v1712 v1720
  let c0_i32_1542 : BitVec 32 := 0#32
  let c0_i32_1543 : BitVec 32 := 0#32
  ![v1721.toNat, 0, 0]
def k0_cond117 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_873 : BitVec 1 := 1#1
  let v1581 : BitVec 1 := Scalar.xori v9 true_873
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c128_i32_956 : BitVec 32 := 128#32
  let v1722 : BitVec 32 := Scalar.andi v12 c128_i32_956
  let c0_i32_957 : BitVec 32 := 0#32
  let v1723 : BitVec 1 := Scalar.cmpi .ne v1722 c0_i32_957
  let v1724 : BitVec 1 := Scalar.andi v1581 v1723
  let v1725 : BitVec 32 := Scalar.extui v1724
  let c0_i32_958 : BitVec 32 := 0#32
  let v1726 : BitVec 1 := Scalar.cmpi .ne v1725 c0_i32_958
  v1726

def k0_off212 (d0 : Dev nD) (v8 : BitVec 32) : Fin 3 → Nat :=
  let c0_i32_939 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_938 : BitVec 32 := 2048#32
  let v1691 : BitVec 32 := Scalar.andi v12 c2048_i32_938
  let v1692 : BitVec 32 := Scalar.addi c0_i32_939 v1691
  let c1024_i32_944 : BitVec 32 := 1024#32
  let v1700 : BitVec 32 := Scalar.andi v12 c1024_i32_944
  let v1701 : BitVec 32 := Scalar.addi v1692 v1700
  let c512_i32_949 : BitVec 32 := 512#32
  let v1709 : BitVec 32 := Scalar.andi v12 c512_i32_949
  let v1710 : BitVec 32 := Scalar.addi v1701 v1709
  let c256_i32_954 : BitVec 32 := 256#32
  let v1718 : BitVec 32 := Scalar.andi v12 c256_i32_954
  let v1719 : BitVec 32 := Scalar.addi v1710 v1718
  let c0_i32_1544 : BitVec 32 := 0#32
  let c0_i32_1545 : BitVec 32 := 0#32
  ![v1719.toNat, 0, 0]
def k0_off213 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_940 : BitVec 32 := 2048#32
  let v1693 : BitVec 32 := Scalar.andi v12 c2048_i32_940
  let v1694 : BitVec 32 := Scalar.addi v17 v1693
  let c1024_i32_945 : BitVec 32 := 1024#32
  let v1702 : BitVec 32 := Scalar.andi v12 c1024_i32_945
  let v1703 : BitVec 32 := Scalar.addi v1694 v1702
  let c512_i32_950 : BitVec 32 := 512#32
  let v1711 : BitVec 32 := Scalar.andi v12 c512_i32_950
  let v1712 : BitVec 32 := Scalar.addi v1703 v1711
  let c256_i32_955 : BitVec 32 := 256#32
  let v1720 : BitVec 32 := Scalar.andi v12 c256_i32_955
  let v1721 : BitVec 32 := Scalar.addi v1712 v1720
  let c128_i32_960 : BitVec 32 := 128#32
  let v1729 : BitVec 32 := Scalar.andi v12 c128_i32_960
  let v1730 : BitVec 32 := Scalar.addi v1721 v1729
  let c0_i32_1542 : BitVec 32 := 0#32
  let c0_i32_1543 : BitVec 32 := 0#32
  ![v1730.toNat, 0, 0]
def k0_cond118 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_873 : BitVec 1 := 1#1
  let v1581 : BitVec 1 := Scalar.xori v9 true_873
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c64_i32_961 : BitVec 32 := 64#32
  let v1731 : BitVec 32 := Scalar.andi v12 c64_i32_961
  let c0_i32_962 : BitVec 32 := 0#32
  let v1732 : BitVec 1 := Scalar.cmpi .ne v1731 c0_i32_962
  let v1733 : BitVec 1 := Scalar.andi v1581 v1732
  let v1734 : BitVec 32 := Scalar.extui v1733
  let c0_i32_963 : BitVec 32 := 0#32
  let v1735 : BitVec 1 := Scalar.cmpi .ne v1734 c0_i32_963
  v1735

def k0_off214 (d0 : Dev nD) (v8 : BitVec 32) : Fin 3 → Nat :=
  let c0_i32_939 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_938 : BitVec 32 := 2048#32
  let v1691 : BitVec 32 := Scalar.andi v12 c2048_i32_938
  let v1692 : BitVec 32 := Scalar.addi c0_i32_939 v1691
  let c1024_i32_944 : BitVec 32 := 1024#32
  let v1700 : BitVec 32 := Scalar.andi v12 c1024_i32_944
  let v1701 : BitVec 32 := Scalar.addi v1692 v1700
  let c512_i32_949 : BitVec 32 := 512#32
  let v1709 : BitVec 32 := Scalar.andi v12 c512_i32_949
  let v1710 : BitVec 32 := Scalar.addi v1701 v1709
  let c256_i32_954 : BitVec 32 := 256#32
  let v1718 : BitVec 32 := Scalar.andi v12 c256_i32_954
  let v1719 : BitVec 32 := Scalar.addi v1710 v1718
  let c128_i32_959 : BitVec 32 := 128#32
  let v1727 : BitVec 32 := Scalar.andi v12 c128_i32_959
  let v1728 : BitVec 32 := Scalar.addi v1719 v1727
  let c0_i32_1544 : BitVec 32 := 0#32
  let c0_i32_1545 : BitVec 32 := 0#32
  ![v1728.toNat, 0, 0]
def k0_off215 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_940 : BitVec 32 := 2048#32
  let v1693 : BitVec 32 := Scalar.andi v12 c2048_i32_940
  let v1694 : BitVec 32 := Scalar.addi v17 v1693
  let c1024_i32_945 : BitVec 32 := 1024#32
  let v1702 : BitVec 32 := Scalar.andi v12 c1024_i32_945
  let v1703 : BitVec 32 := Scalar.addi v1694 v1702
  let c512_i32_950 : BitVec 32 := 512#32
  let v1711 : BitVec 32 := Scalar.andi v12 c512_i32_950
  let v1712 : BitVec 32 := Scalar.addi v1703 v1711
  let c256_i32_955 : BitVec 32 := 256#32
  let v1720 : BitVec 32 := Scalar.andi v12 c256_i32_955
  let v1721 : BitVec 32 := Scalar.addi v1712 v1720
  let c128_i32_960 : BitVec 32 := 128#32
  let v1729 : BitVec 32 := Scalar.andi v12 c128_i32_960
  let v1730 : BitVec 32 := Scalar.addi v1721 v1729
  let c64_i32_965 : BitVec 32 := 64#32
  let v1738 : BitVec 32 := Scalar.andi v12 c64_i32_965
  let v1739 : BitVec 32 := Scalar.addi v1730 v1738
  let c0_i32_1542 : BitVec 32 := 0#32
  let c0_i32_1543 : BitVec 32 := 0#32
  ![v1739.toNat, 0, 0]
def k0_cond119 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_873 : BitVec 1 := 1#1
  let v1581 : BitVec 1 := Scalar.xori v9 true_873
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c32_i32_966 : BitVec 32 := 32#32
  let v1740 : BitVec 32 := Scalar.andi v12 c32_i32_966
  let c0_i32_967 : BitVec 32 := 0#32
  let v1741 : BitVec 1 := Scalar.cmpi .ne v1740 c0_i32_967
  let v1742 : BitVec 1 := Scalar.andi v1581 v1741
  let v1743 : BitVec 32 := Scalar.extui v1742
  let c0_i32_968 : BitVec 32 := 0#32
  let v1744 : BitVec 1 := Scalar.cmpi .ne v1743 c0_i32_968
  v1744

def k0_off216 (d0 : Dev nD) (v8 : BitVec 32) : Fin 3 → Nat :=
  let c0_i32_939 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_938 : BitVec 32 := 2048#32
  let v1691 : BitVec 32 := Scalar.andi v12 c2048_i32_938
  let v1692 : BitVec 32 := Scalar.addi c0_i32_939 v1691
  let c1024_i32_944 : BitVec 32 := 1024#32
  let v1700 : BitVec 32 := Scalar.andi v12 c1024_i32_944
  let v1701 : BitVec 32 := Scalar.addi v1692 v1700
  let c512_i32_949 : BitVec 32 := 512#32
  let v1709 : BitVec 32 := Scalar.andi v12 c512_i32_949
  let v1710 : BitVec 32 := Scalar.addi v1701 v1709
  let c256_i32_954 : BitVec 32 := 256#32
  let v1718 : BitVec 32 := Scalar.andi v12 c256_i32_954
  let v1719 : BitVec 32 := Scalar.addi v1710 v1718
  let c128_i32_959 : BitVec 32 := 128#32
  let v1727 : BitVec 32 := Scalar.andi v12 c128_i32_959
  let v1728 : BitVec 32 := Scalar.addi v1719 v1727
  let c64_i32_964 : BitVec 32 := 64#32
  let v1736 : BitVec 32 := Scalar.andi v12 c64_i32_964
  let v1737 : BitVec 32 := Scalar.addi v1728 v1736
  let c0_i32_1544 : BitVec 32 := 0#32
  let c0_i32_1545 : BitVec 32 := 0#32
  ![v1737.toNat, 0, 0]
def k0_off217 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_940 : BitVec 32 := 2048#32
  let v1693 : BitVec 32 := Scalar.andi v12 c2048_i32_940
  let v1694 : BitVec 32 := Scalar.addi v17 v1693
  let c1024_i32_945 : BitVec 32 := 1024#32
  let v1702 : BitVec 32 := Scalar.andi v12 c1024_i32_945
  let v1703 : BitVec 32 := Scalar.addi v1694 v1702
  let c512_i32_950 : BitVec 32 := 512#32
  let v1711 : BitVec 32 := Scalar.andi v12 c512_i32_950
  let v1712 : BitVec 32 := Scalar.addi v1703 v1711
  let c256_i32_955 : BitVec 32 := 256#32
  let v1720 : BitVec 32 := Scalar.andi v12 c256_i32_955
  let v1721 : BitVec 32 := Scalar.addi v1712 v1720
  let c128_i32_960 : BitVec 32 := 128#32
  let v1729 : BitVec 32 := Scalar.andi v12 c128_i32_960
  let v1730 : BitVec 32 := Scalar.addi v1721 v1729
  let c64_i32_965 : BitVec 32 := 64#32
  let v1738 : BitVec 32 := Scalar.andi v12 c64_i32_965
  let v1739 : BitVec 32 := Scalar.addi v1730 v1738
  let c32_i32_970 : BitVec 32 := 32#32
  let v1747 : BitVec 32 := Scalar.andi v12 c32_i32_970
  let v1748 : BitVec 32 := Scalar.addi v1739 v1747
  let c0_i32_1542 : BitVec 32 := 0#32
  let c0_i32_1543 : BitVec 32 := 0#32
  ![v1748.toNat, 0, 0]
def k0_cond120 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_873 : BitVec 1 := 1#1
  let v1581 : BitVec 1 := Scalar.xori v9 true_873
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c16_i32_971 : BitVec 32 := 16#32
  let v1749 : BitVec 32 := Scalar.andi v12 c16_i32_971
  let c0_i32_972 : BitVec 32 := 0#32
  let v1750 : BitVec 1 := Scalar.cmpi .ne v1749 c0_i32_972
  let v1751 : BitVec 1 := Scalar.andi v1581 v1750
  let v1752 : BitVec 32 := Scalar.extui v1751
  let c0_i32_973 : BitVec 32 := 0#32
  let v1753 : BitVec 1 := Scalar.cmpi .ne v1752 c0_i32_973
  v1753

def k0_off218 (d0 : Dev nD) (v8 : BitVec 32) : Fin 3 → Nat :=
  let c0_i32_939 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_938 : BitVec 32 := 2048#32
  let v1691 : BitVec 32 := Scalar.andi v12 c2048_i32_938
  let v1692 : BitVec 32 := Scalar.addi c0_i32_939 v1691
  let c1024_i32_944 : BitVec 32 := 1024#32
  let v1700 : BitVec 32 := Scalar.andi v12 c1024_i32_944
  let v1701 : BitVec 32 := Scalar.addi v1692 v1700
  let c512_i32_949 : BitVec 32 := 512#32
  let v1709 : BitVec 32 := Scalar.andi v12 c512_i32_949
  let v1710 : BitVec 32 := Scalar.addi v1701 v1709
  let c256_i32_954 : BitVec 32 := 256#32
  let v1718 : BitVec 32 := Scalar.andi v12 c256_i32_954
  let v1719 : BitVec 32 := Scalar.addi v1710 v1718
  let c128_i32_959 : BitVec 32 := 128#32
  let v1727 : BitVec 32 := Scalar.andi v12 c128_i32_959
  let v1728 : BitVec 32 := Scalar.addi v1719 v1727
  let c64_i32_964 : BitVec 32 := 64#32
  let v1736 : BitVec 32 := Scalar.andi v12 c64_i32_964
  let v1737 : BitVec 32 := Scalar.addi v1728 v1736
  let c32_i32_969 : BitVec 32 := 32#32
  let v1745 : BitVec 32 := Scalar.andi v12 c32_i32_969
  let v1746 : BitVec 32 := Scalar.addi v1737 v1745
  let c0_i32_1544 : BitVec 32 := 0#32
  let c0_i32_1545 : BitVec 32 := 0#32
  ![v1746.toNat, 0, 0]
def k0_off219 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_940 : BitVec 32 := 2048#32
  let v1693 : BitVec 32 := Scalar.andi v12 c2048_i32_940
  let v1694 : BitVec 32 := Scalar.addi v17 v1693
  let c1024_i32_945 : BitVec 32 := 1024#32
  let v1702 : BitVec 32 := Scalar.andi v12 c1024_i32_945
  let v1703 : BitVec 32 := Scalar.addi v1694 v1702
  let c512_i32_950 : BitVec 32 := 512#32
  let v1711 : BitVec 32 := Scalar.andi v12 c512_i32_950
  let v1712 : BitVec 32 := Scalar.addi v1703 v1711
  let c256_i32_955 : BitVec 32 := 256#32
  let v1720 : BitVec 32 := Scalar.andi v12 c256_i32_955
  let v1721 : BitVec 32 := Scalar.addi v1712 v1720
  let c128_i32_960 : BitVec 32 := 128#32
  let v1729 : BitVec 32 := Scalar.andi v12 c128_i32_960
  let v1730 : BitVec 32 := Scalar.addi v1721 v1729
  let c64_i32_965 : BitVec 32 := 64#32
  let v1738 : BitVec 32 := Scalar.andi v12 c64_i32_965
  let v1739 : BitVec 32 := Scalar.addi v1730 v1738
  let c32_i32_970 : BitVec 32 := 32#32
  let v1747 : BitVec 32 := Scalar.andi v12 c32_i32_970
  let v1748 : BitVec 32 := Scalar.addi v1739 v1747
  let c16_i32_975 : BitVec 32 := 16#32
  let v1756 : BitVec 32 := Scalar.andi v12 c16_i32_975
  let v1757 : BitVec 32 := Scalar.addi v1748 v1756
  let c0_i32_1542 : BitVec 32 := 0#32
  let c0_i32_1543 : BitVec 32 := 0#32
  ![v1757.toNat, 0, 0]
def k0_cond121 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_873 : BitVec 1 := 1#1
  let v1581 : BitVec 1 := Scalar.xori v9 true_873
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c8_i32_976 : BitVec 32 := 8#32
  let v1758 : BitVec 32 := Scalar.andi v12 c8_i32_976
  let c0_i32_977 : BitVec 32 := 0#32
  let v1759 : BitVec 1 := Scalar.cmpi .ne v1758 c0_i32_977
  let v1760 : BitVec 1 := Scalar.andi v1581 v1759
  let v1761 : BitVec 32 := Scalar.extui v1760
  let c0_i32_978 : BitVec 32 := 0#32
  let v1762 : BitVec 1 := Scalar.cmpi .ne v1761 c0_i32_978
  v1762

def k0_off220 (d0 : Dev nD) (v8 : BitVec 32) : Fin 3 → Nat :=
  let c0_i32_939 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_938 : BitVec 32 := 2048#32
  let v1691 : BitVec 32 := Scalar.andi v12 c2048_i32_938
  let v1692 : BitVec 32 := Scalar.addi c0_i32_939 v1691
  let c1024_i32_944 : BitVec 32 := 1024#32
  let v1700 : BitVec 32 := Scalar.andi v12 c1024_i32_944
  let v1701 : BitVec 32 := Scalar.addi v1692 v1700
  let c512_i32_949 : BitVec 32 := 512#32
  let v1709 : BitVec 32 := Scalar.andi v12 c512_i32_949
  let v1710 : BitVec 32 := Scalar.addi v1701 v1709
  let c256_i32_954 : BitVec 32 := 256#32
  let v1718 : BitVec 32 := Scalar.andi v12 c256_i32_954
  let v1719 : BitVec 32 := Scalar.addi v1710 v1718
  let c128_i32_959 : BitVec 32 := 128#32
  let v1727 : BitVec 32 := Scalar.andi v12 c128_i32_959
  let v1728 : BitVec 32 := Scalar.addi v1719 v1727
  let c64_i32_964 : BitVec 32 := 64#32
  let v1736 : BitVec 32 := Scalar.andi v12 c64_i32_964
  let v1737 : BitVec 32 := Scalar.addi v1728 v1736
  let c32_i32_969 : BitVec 32 := 32#32
  let v1745 : BitVec 32 := Scalar.andi v12 c32_i32_969
  let v1746 : BitVec 32 := Scalar.addi v1737 v1745
  let c16_i32_974 : BitVec 32 := 16#32
  let v1754 : BitVec 32 := Scalar.andi v12 c16_i32_974
  let v1755 : BitVec 32 := Scalar.addi v1746 v1754
  let c0_i32_1544 : BitVec 32 := 0#32
  let c0_i32_1545 : BitVec 32 := 0#32
  ![v1755.toNat, 0, 0]
def k0_off221 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_940 : BitVec 32 := 2048#32
  let v1693 : BitVec 32 := Scalar.andi v12 c2048_i32_940
  let v1694 : BitVec 32 := Scalar.addi v17 v1693
  let c1024_i32_945 : BitVec 32 := 1024#32
  let v1702 : BitVec 32 := Scalar.andi v12 c1024_i32_945
  let v1703 : BitVec 32 := Scalar.addi v1694 v1702
  let c512_i32_950 : BitVec 32 := 512#32
  let v1711 : BitVec 32 := Scalar.andi v12 c512_i32_950
  let v1712 : BitVec 32 := Scalar.addi v1703 v1711
  let c256_i32_955 : BitVec 32 := 256#32
  let v1720 : BitVec 32 := Scalar.andi v12 c256_i32_955
  let v1721 : BitVec 32 := Scalar.addi v1712 v1720
  let c128_i32_960 : BitVec 32 := 128#32
  let v1729 : BitVec 32 := Scalar.andi v12 c128_i32_960
  let v1730 : BitVec 32 := Scalar.addi v1721 v1729
  let c64_i32_965 : BitVec 32 := 64#32
  let v1738 : BitVec 32 := Scalar.andi v12 c64_i32_965
  let v1739 : BitVec 32 := Scalar.addi v1730 v1738
  let c32_i32_970 : BitVec 32 := 32#32
  let v1747 : BitVec 32 := Scalar.andi v12 c32_i32_970
  let v1748 : BitVec 32 := Scalar.addi v1739 v1747
  let c16_i32_975 : BitVec 32 := 16#32
  let v1756 : BitVec 32 := Scalar.andi v12 c16_i32_975
  let v1757 : BitVec 32 := Scalar.addi v1748 v1756
  let c8_i32_980 : BitVec 32 := 8#32
  let v1765 : BitVec 32 := Scalar.andi v12 c8_i32_980
  let v1766 : BitVec 32 := Scalar.addi v1757 v1765
  let c0_i32_1541 : BitVec 32 := 0#32
  let c0_i32_1542 : BitVec 32 := 0#32
  ![v1766.toNat, 0, 0]
def k0_cond122 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_873 : BitVec 1 := 1#1
  let v1581 : BitVec 1 := Scalar.xori v9 true_873
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c4_i32_981 : BitVec 32 := 4#32
  let v1767 : BitVec 32 := Scalar.andi v12 c4_i32_981
  let c0_i32_982 : BitVec 32 := 0#32
  let v1768 : BitVec 1 := Scalar.cmpi .ne v1767 c0_i32_982
  let v1769 : BitVec 1 := Scalar.andi v1581 v1768
  let v1770 : BitVec 32 := Scalar.extui v1769
  let c0_i32_983 : BitVec 32 := 0#32
  let v1771 : BitVec 1 := Scalar.cmpi .ne v1770 c0_i32_983
  v1771

def k0_off222 (d0 : Dev nD) (v8 : BitVec 32) : Fin 3 → Nat :=
  let c0_i32_939 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_938 : BitVec 32 := 2048#32
  let v1691 : BitVec 32 := Scalar.andi v12 c2048_i32_938
  let v1692 : BitVec 32 := Scalar.addi c0_i32_939 v1691
  let c1024_i32_944 : BitVec 32 := 1024#32
  let v1700 : BitVec 32 := Scalar.andi v12 c1024_i32_944
  let v1701 : BitVec 32 := Scalar.addi v1692 v1700
  let c512_i32_949 : BitVec 32 := 512#32
  let v1709 : BitVec 32 := Scalar.andi v12 c512_i32_949
  let v1710 : BitVec 32 := Scalar.addi v1701 v1709
  let c256_i32_954 : BitVec 32 := 256#32
  let v1718 : BitVec 32 := Scalar.andi v12 c256_i32_954
  let v1719 : BitVec 32 := Scalar.addi v1710 v1718
  let c128_i32_959 : BitVec 32 := 128#32
  let v1727 : BitVec 32 := Scalar.andi v12 c128_i32_959
  let v1728 : BitVec 32 := Scalar.addi v1719 v1727
  let c64_i32_964 : BitVec 32 := 64#32
  let v1736 : BitVec 32 := Scalar.andi v12 c64_i32_964
  let v1737 : BitVec 32 := Scalar.addi v1728 v1736
  let c32_i32_969 : BitVec 32 := 32#32
  let v1745 : BitVec 32 := Scalar.andi v12 c32_i32_969
  let v1746 : BitVec 32 := Scalar.addi v1737 v1745
  let c16_i32_974 : BitVec 32 := 16#32
  let v1754 : BitVec 32 := Scalar.andi v12 c16_i32_974
  let v1755 : BitVec 32 := Scalar.addi v1746 v1754
  let c8_i32_979 : BitVec 32 := 8#32
  let v1763 : BitVec 32 := Scalar.andi v12 c8_i32_979
  let v1764 : BitVec 32 := Scalar.addi v1755 v1763
  let c0_i32_1543 : BitVec 32 := 0#32
  let c0_i32_1544 : BitVec 32 := 0#32
  ![v1764.toNat, 0, 0]
def k0_off223 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_940 : BitVec 32 := 2048#32
  let v1693 : BitVec 32 := Scalar.andi v12 c2048_i32_940
  let v1694 : BitVec 32 := Scalar.addi v17 v1693
  let c1024_i32_945 : BitVec 32 := 1024#32
  let v1702 : BitVec 32 := Scalar.andi v12 c1024_i32_945
  let v1703 : BitVec 32 := Scalar.addi v1694 v1702
  let c512_i32_950 : BitVec 32 := 512#32
  let v1711 : BitVec 32 := Scalar.andi v12 c512_i32_950
  let v1712 : BitVec 32 := Scalar.addi v1703 v1711
  let c256_i32_955 : BitVec 32 := 256#32
  let v1720 : BitVec 32 := Scalar.andi v12 c256_i32_955
  let v1721 : BitVec 32 := Scalar.addi v1712 v1720
  let c128_i32_960 : BitVec 32 := 128#32
  let v1729 : BitVec 32 := Scalar.andi v12 c128_i32_960
  let v1730 : BitVec 32 := Scalar.addi v1721 v1729
  let c64_i32_965 : BitVec 32 := 64#32
  let v1738 : BitVec 32 := Scalar.andi v12 c64_i32_965
  let v1739 : BitVec 32 := Scalar.addi v1730 v1738
  let c32_i32_970 : BitVec 32 := 32#32
  let v1747 : BitVec 32 := Scalar.andi v12 c32_i32_970
  let v1748 : BitVec 32 := Scalar.addi v1739 v1747
  let c16_i32_975 : BitVec 32 := 16#32
  let v1756 : BitVec 32 := Scalar.andi v12 c16_i32_975
  let v1757 : BitVec 32 := Scalar.addi v1748 v1756
  let c8_i32_980 : BitVec 32 := 8#32
  let v1765 : BitVec 32 := Scalar.andi v12 c8_i32_980
  let v1766 : BitVec 32 := Scalar.addi v1757 v1765
  let c4_i32_985 : BitVec 32 := 4#32
  let v1774 : BitVec 32 := Scalar.andi v12 c4_i32_985
  let v1775 : BitVec 32 := Scalar.addi v1766 v1774
  let c0_i32_1541 : BitVec 32 := 0#32
  let c0_i32_1542 : BitVec 32 := 0#32
  ![v1775.toNat, 0, 0]
def k0_cond123 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_873 : BitVec 1 := 1#1
  let v1581 : BitVec 1 := Scalar.xori v9 true_873
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c2_i32_986 : BitVec 32 := 2#32
  let v1776 : BitVec 32 := Scalar.andi v12 c2_i32_986
  let c0_i32_987 : BitVec 32 := 0#32
  let v1777 : BitVec 1 := Scalar.cmpi .ne v1776 c0_i32_987
  let v1778 : BitVec 1 := Scalar.andi v1581 v1777
  let v1779 : BitVec 32 := Scalar.extui v1778
  let c0_i32_988 : BitVec 32 := 0#32
  let v1780 : BitVec 1 := Scalar.cmpi .ne v1779 c0_i32_988
  v1780

def k0_off224 (d0 : Dev nD) (v8 : BitVec 32) : Fin 3 → Nat :=
  let c0_i32_939 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_938 : BitVec 32 := 2048#32
  let v1691 : BitVec 32 := Scalar.andi v12 c2048_i32_938
  let v1692 : BitVec 32 := Scalar.addi c0_i32_939 v1691
  let c1024_i32_944 : BitVec 32 := 1024#32
  let v1700 : BitVec 32 := Scalar.andi v12 c1024_i32_944
  let v1701 : BitVec 32 := Scalar.addi v1692 v1700
  let c512_i32_949 : BitVec 32 := 512#32
  let v1709 : BitVec 32 := Scalar.andi v12 c512_i32_949
  let v1710 : BitVec 32 := Scalar.addi v1701 v1709
  let c256_i32_954 : BitVec 32 := 256#32
  let v1718 : BitVec 32 := Scalar.andi v12 c256_i32_954
  let v1719 : BitVec 32 := Scalar.addi v1710 v1718
  let c128_i32_959 : BitVec 32 := 128#32
  let v1727 : BitVec 32 := Scalar.andi v12 c128_i32_959
  let v1728 : BitVec 32 := Scalar.addi v1719 v1727
  let c64_i32_964 : BitVec 32 := 64#32
  let v1736 : BitVec 32 := Scalar.andi v12 c64_i32_964
  let v1737 : BitVec 32 := Scalar.addi v1728 v1736
  let c32_i32_969 : BitVec 32 := 32#32
  let v1745 : BitVec 32 := Scalar.andi v12 c32_i32_969
  let v1746 : BitVec 32 := Scalar.addi v1737 v1745
  let c16_i32_974 : BitVec 32 := 16#32
  let v1754 : BitVec 32 := Scalar.andi v12 c16_i32_974
  let v1755 : BitVec 32 := Scalar.addi v1746 v1754
  let c8_i32_979 : BitVec 32 := 8#32
  let v1763 : BitVec 32 := Scalar.andi v12 c8_i32_979
  let v1764 : BitVec 32 := Scalar.addi v1755 v1763
  let c4_i32_984 : BitVec 32 := 4#32
  let v1772 : BitVec 32 := Scalar.andi v12 c4_i32_984
  let v1773 : BitVec 32 := Scalar.addi v1764 v1772
  let c0_i32_1543 : BitVec 32 := 0#32
  let c0_i32_1544 : BitVec 32 := 0#32
  ![v1773.toNat, 0, 0]
def k0_off225 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_940 : BitVec 32 := 2048#32
  let v1693 : BitVec 32 := Scalar.andi v12 c2048_i32_940
  let v1694 : BitVec 32 := Scalar.addi v17 v1693
  let c1024_i32_945 : BitVec 32 := 1024#32
  let v1702 : BitVec 32 := Scalar.andi v12 c1024_i32_945
  let v1703 : BitVec 32 := Scalar.addi v1694 v1702
  let c512_i32_950 : BitVec 32 := 512#32
  let v1711 : BitVec 32 := Scalar.andi v12 c512_i32_950
  let v1712 : BitVec 32 := Scalar.addi v1703 v1711
  let c256_i32_955 : BitVec 32 := 256#32
  let v1720 : BitVec 32 := Scalar.andi v12 c256_i32_955
  let v1721 : BitVec 32 := Scalar.addi v1712 v1720
  let c128_i32_960 : BitVec 32 := 128#32
  let v1729 : BitVec 32 := Scalar.andi v12 c128_i32_960
  let v1730 : BitVec 32 := Scalar.addi v1721 v1729
  let c64_i32_965 : BitVec 32 := 64#32
  let v1738 : BitVec 32 := Scalar.andi v12 c64_i32_965
  let v1739 : BitVec 32 := Scalar.addi v1730 v1738
  let c32_i32_970 : BitVec 32 := 32#32
  let v1747 : BitVec 32 := Scalar.andi v12 c32_i32_970
  let v1748 : BitVec 32 := Scalar.addi v1739 v1747
  let c16_i32_975 : BitVec 32 := 16#32
  let v1756 : BitVec 32 := Scalar.andi v12 c16_i32_975
  let v1757 : BitVec 32 := Scalar.addi v1748 v1756
  let c8_i32_980 : BitVec 32 := 8#32
  let v1765 : BitVec 32 := Scalar.andi v12 c8_i32_980
  let v1766 : BitVec 32 := Scalar.addi v1757 v1765
  let c4_i32_985 : BitVec 32 := 4#32
  let v1774 : BitVec 32 := Scalar.andi v12 c4_i32_985
  let v1775 : BitVec 32 := Scalar.addi v1766 v1774
  let c2_i32_990 : BitVec 32 := 2#32
  let v1783 : BitVec 32 := Scalar.andi v12 c2_i32_990
  let v1784 : BitVec 32 := Scalar.addi v1775 v1783
  let c0_i32_1541 : BitVec 32 := 0#32
  let c0_i32_1542 : BitVec 32 := 0#32
  ![v1784.toNat, 0, 0]
def k0_cond124 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_873 : BitVec 1 := 1#1
  let v1581 : BitVec 1 := Scalar.xori v9 true_873
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c1_i32_991 : BitVec 32 := 1#32
  let v1785 : BitVec 32 := Scalar.andi v12 c1_i32_991
  let c0_i32_992 : BitVec 32 := 0#32
  let v1786 : BitVec 1 := Scalar.cmpi .ne v1785 c0_i32_992
  let v1787 : BitVec 1 := Scalar.andi v1581 v1786
  let v1788 : BitVec 32 := Scalar.extui v1787
  let c0_i32_993 : BitVec 32 := 0#32
  let v1789 : BitVec 1 := Scalar.cmpi .ne v1788 c0_i32_993
  v1789

def k0_off226 (d0 : Dev nD) (v8 : BitVec 32) : Fin 3 → Nat :=
  let c0_i32_939 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_938 : BitVec 32 := 2048#32
  let v1691 : BitVec 32 := Scalar.andi v12 c2048_i32_938
  let v1692 : BitVec 32 := Scalar.addi c0_i32_939 v1691
  let c1024_i32_944 : BitVec 32 := 1024#32
  let v1700 : BitVec 32 := Scalar.andi v12 c1024_i32_944
  let v1701 : BitVec 32 := Scalar.addi v1692 v1700
  let c512_i32_949 : BitVec 32 := 512#32
  let v1709 : BitVec 32 := Scalar.andi v12 c512_i32_949
  let v1710 : BitVec 32 := Scalar.addi v1701 v1709
  let c256_i32_954 : BitVec 32 := 256#32
  let v1718 : BitVec 32 := Scalar.andi v12 c256_i32_954
  let v1719 : BitVec 32 := Scalar.addi v1710 v1718
  let c128_i32_959 : BitVec 32 := 128#32
  let v1727 : BitVec 32 := Scalar.andi v12 c128_i32_959
  let v1728 : BitVec 32 := Scalar.addi v1719 v1727
  let c64_i32_964 : BitVec 32 := 64#32
  let v1736 : BitVec 32 := Scalar.andi v12 c64_i32_964
  let v1737 : BitVec 32 := Scalar.addi v1728 v1736
  let c32_i32_969 : BitVec 32 := 32#32
  let v1745 : BitVec 32 := Scalar.andi v12 c32_i32_969
  let v1746 : BitVec 32 := Scalar.addi v1737 v1745
  let c16_i32_974 : BitVec 32 := 16#32
  let v1754 : BitVec 32 := Scalar.andi v12 c16_i32_974
  let v1755 : BitVec 32 := Scalar.addi v1746 v1754
  let c8_i32_979 : BitVec 32 := 8#32
  let v1763 : BitVec 32 := Scalar.andi v12 c8_i32_979
  let v1764 : BitVec 32 := Scalar.addi v1755 v1763
  let c4_i32_984 : BitVec 32 := 4#32
  let v1772 : BitVec 32 := Scalar.andi v12 c4_i32_984
  let v1773 : BitVec 32 := Scalar.addi v1764 v1772
  let c2_i32_989 : BitVec 32 := 2#32
  let v1781 : BitVec 32 := Scalar.andi v12 c2_i32_989
  let v1782 : BitVec 32 := Scalar.addi v1773 v1781
  let c0_i32_1543 : BitVec 32 := 0#32
  let c0_i32_1544 : BitVec 32 := 0#32
  ![v1782.toNat, 0, 0]
def k0_off227 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c0_i32_1541 : BitVec 32 := 0#32
  let v2700 : BitVec 32 := Scalar.addi v16 c0_i32_1541
  let c0_i32_1547 : BitVec 32 := 0#32
  let c0_i32_1548 : BitVec 32 := 0#32
  ![v2700.toNat, 0, 0]
def k0_cond125 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_994 : BitVec 32 := 0#32
  let v1790 : BitVec 1 := Scalar.cmpi .eq v2 c0_i32_994
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_995 : BitVec 32 := 256#32
  let v1791 : BitVec 1 := Scalar.cmpi .sge v11 c256_i32_995
  let v1792 : BitVec 1 := Scalar.andi v1790 v1791
  let v1793 : BitVec 32 := Scalar.extui v1792
  let c0_i32_996 : BitVec 32 := 0#32
  let v1794 : BitVec 1 := Scalar.cmpi .ne v1793 c0_i32_996
  v1794

def k0_dev103 (d0 : Dev nD) : Nat :=
  let c0_i32_1557 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1556 : BitVec 32 := 2#32
  let v2711 : BitVec 32 := Scalar.muli v7 c2_i32_1556
  let v2712 : BitVec 32 := Scalar.addi c0_i32_1557 v2711
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1558 : BitVec 32 := 1#32
  let v2713 : BitVec 32 := Scalar.muli v5 c1_i32_1558
  let v2714 : BitVec 32 := Scalar.addi v2712 v2713
  v2714.toNat
def k0_off228 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_1541 : BitVec 32 := 256#32
  let v2700 : BitVec 32 := Scalar.addi v16 c256_i32_1541
  let c0_i32_1547 : BitVec 32 := 0#32
  let c0_i32_1548 : BitVec 32 := 0#32
  ![v2700.toNat, 0, 0]
def k0_cond126 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_997 : BitVec 32 := 1#32
  let v1795 : BitVec 1 := Scalar.cmpi .eq v2 c1_i32_997
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c512_i32_998 : BitVec 32 := 512#32
  let v1796 : BitVec 1 := Scalar.cmpi .sge v11 c512_i32_998
  let v1797 : BitVec 1 := Scalar.andi v1795 v1796
  let v1798 : BitVec 32 := Scalar.extui v1797
  let c0_i32_999 : BitVec 32 := 0#32
  let v1799 : BitVec 1 := Scalar.cmpi .ne v1798 c0_i32_999
  v1799

def k0_dev104 (d0 : Dev nD) : Nat :=
  let c0_i32_1557 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1556 : BitVec 32 := 2#32
  let v2711 : BitVec 32 := Scalar.muli v7 c2_i32_1556
  let v2712 : BitVec 32 := Scalar.addi c0_i32_1557 v2711
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1558 : BitVec 32 := 1#32
  let v2713 : BitVec 32 := Scalar.muli v5 c1_i32_1558
  let v2714 : BitVec 32 := Scalar.addi v2712 v2713
  v2714.toNat
def k0_off229 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c512_i32_1541 : BitVec 32 := 512#32
  let v2700 : BitVec 32 := Scalar.addi v16 c512_i32_1541
  let c0_i32_1547 : BitVec 32 := 0#32
  let c0_i32_1548 : BitVec 32 := 0#32
  ![v2700.toNat, 0, 0]
def k0_cond127 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1000 : BitVec 32 := 0#32
  let v1800 : BitVec 1 := Scalar.cmpi .eq v2 c0_i32_1000
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c768_i32_1001 : BitVec 32 := 768#32
  let v1801 : BitVec 1 := Scalar.cmpi .sge v11 c768_i32_1001
  let v1802 : BitVec 1 := Scalar.andi v1800 v1801
  let v1803 : BitVec 32 := Scalar.extui v1802
  let c0_i32_1002 : BitVec 32 := 0#32
  let v1804 : BitVec 1 := Scalar.cmpi .ne v1803 c0_i32_1002
  v1804

def k0_dev105 (d0 : Dev nD) : Nat :=
  let c0_i32_1557 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1556 : BitVec 32 := 2#32
  let v2711 : BitVec 32 := Scalar.muli v7 c2_i32_1556
  let v2712 : BitVec 32 := Scalar.addi c0_i32_1557 v2711
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1558 : BitVec 32 := 1#32
  let v2713 : BitVec 32 := Scalar.muli v5 c1_i32_1558
  let v2714 : BitVec 32 := Scalar.addi v2712 v2713
  v2714.toNat
def k0_off230 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c768_i32_1541 : BitVec 32 := 768#32
  let v2700 : BitVec 32 := Scalar.addi v16 c768_i32_1541
  let c0_i32_1547 : BitVec 32 := 0#32
  let c0_i32_1548 : BitVec 32 := 0#32
  ![v2700.toNat, 0, 0]
def k0_cond128 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1003 : BitVec 32 := 1#32
  let v1805 : BitVec 1 := Scalar.cmpi .eq v2 c1_i32_1003
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1024_i32_1004 : BitVec 32 := 1024#32
  let v1806 : BitVec 1 := Scalar.cmpi .sge v11 c1024_i32_1004
  let v1807 : BitVec 1 := Scalar.andi v1805 v1806
  let v1808 : BitVec 32 := Scalar.extui v1807
  let c0_i32_1005 : BitVec 32 := 0#32
  let v1809 : BitVec 1 := Scalar.cmpi .ne v1808 c0_i32_1005
  v1809

def k0_dev106 (d0 : Dev nD) : Nat :=
  let c0_i32_1557 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1556 : BitVec 32 := 2#32
  let v2711 : BitVec 32 := Scalar.muli v7 c2_i32_1556
  let v2712 : BitVec 32 := Scalar.addi c0_i32_1557 v2711
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1558 : BitVec 32 := 1#32
  let v2713 : BitVec 32 := Scalar.muli v5 c1_i32_1558
  let v2714 : BitVec 32 := Scalar.addi v2712 v2713
  v2714.toNat
def k0_off231 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c1024_i32_1541 : BitVec 32 := 1024#32
  let v2700 : BitVec 32 := Scalar.addi v16 c1024_i32_1541
  let c0_i32_1547 : BitVec 32 := 0#32
  let c0_i32_1548 : BitVec 32 := 0#32
  ![v2700.toNat, 0, 0]
def k0_cond129 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1006 : BitVec 32 := 0#32
  let v1810 : BitVec 1 := Scalar.cmpi .eq v2 c0_i32_1006
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1280_i32_1007 : BitVec 32 := 1280#32
  let v1811 : BitVec 1 := Scalar.cmpi .sge v11 c1280_i32_1007
  let v1812 : BitVec 1 := Scalar.andi v1810 v1811
  let v1813 : BitVec 32 := Scalar.extui v1812
  let c0_i32_1008 : BitVec 32 := 0#32
  let v1814 : BitVec 1 := Scalar.cmpi .ne v1813 c0_i32_1008
  v1814

def k0_dev107 (d0 : Dev nD) : Nat :=
  let c0_i32_1557 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1556 : BitVec 32 := 2#32
  let v2711 : BitVec 32 := Scalar.muli v7 c2_i32_1556
  let v2712 : BitVec 32 := Scalar.addi c0_i32_1557 v2711
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1558 : BitVec 32 := 1#32
  let v2713 : BitVec 32 := Scalar.muli v5 c1_i32_1558
  let v2714 : BitVec 32 := Scalar.addi v2712 v2713
  v2714.toNat
def k0_off232 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c1280_i32_1541 : BitVec 32 := 1280#32
  let v2700 : BitVec 32 := Scalar.addi v16 c1280_i32_1541
  let c0_i32_1547 : BitVec 32 := 0#32
  let c0_i32_1548 : BitVec 32 := 0#32
  ![v2700.toNat, 0, 0]
def k0_cond130 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1009 : BitVec 32 := 1#32
  let v1815 : BitVec 1 := Scalar.cmpi .eq v2 c1_i32_1009
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1536_i32_1010 : BitVec 32 := 1536#32
  let v1816 : BitVec 1 := Scalar.cmpi .sge v11 c1536_i32_1010
  let v1817 : BitVec 1 := Scalar.andi v1815 v1816
  let v1818 : BitVec 32 := Scalar.extui v1817
  let c0_i32_1011 : BitVec 32 := 0#32
  let v1819 : BitVec 1 := Scalar.cmpi .ne v1818 c0_i32_1011
  v1819

def k0_dev108 (d0 : Dev nD) : Nat :=
  let c0_i32_1557 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1556 : BitVec 32 := 2#32
  let v2711 : BitVec 32 := Scalar.muli v7 c2_i32_1556
  let v2712 : BitVec 32 := Scalar.addi c0_i32_1557 v2711
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1558 : BitVec 32 := 1#32
  let v2713 : BitVec 32 := Scalar.muli v5 c1_i32_1558
  let v2714 : BitVec 32 := Scalar.addi v2712 v2713
  v2714.toNat
def k0_off233 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c1536_i32_1541 : BitVec 32 := 1536#32
  let v2700 : BitVec 32 := Scalar.addi v16 c1536_i32_1541
  let c0_i32_1547 : BitVec 32 := 0#32
  let c0_i32_1548 : BitVec 32 := 0#32
  ![v2700.toNat, 0, 0]
def k0_cond131 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1012 : BitVec 32 := 0#32
  let v1820 : BitVec 1 := Scalar.cmpi .eq v2 c0_i32_1012
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1792_i32_1013 : BitVec 32 := 1792#32
  let v1821 : BitVec 1 := Scalar.cmpi .sge v11 c1792_i32_1013
  let v1822 : BitVec 1 := Scalar.andi v1820 v1821
  let v1823 : BitVec 32 := Scalar.extui v1822
  let c0_i32_1014 : BitVec 32 := 0#32
  let v1824 : BitVec 1 := Scalar.cmpi .ne v1823 c0_i32_1014
  v1824

def k0_dev109 (d0 : Dev nD) : Nat :=
  let c0_i32_1557 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1556 : BitVec 32 := 2#32
  let v2711 : BitVec 32 := Scalar.muli v7 c2_i32_1556
  let v2712 : BitVec 32 := Scalar.addi c0_i32_1557 v2711
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1558 : BitVec 32 := 1#32
  let v2713 : BitVec 32 := Scalar.muli v5 c1_i32_1558
  let v2714 : BitVec 32 := Scalar.addi v2712 v2713
  v2714.toNat
def k0_off234 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c1792_i32_1541 : BitVec 32 := 1792#32
  let v2700 : BitVec 32 := Scalar.addi v16 c1792_i32_1541
  let c0_i32_1547 : BitVec 32 := 0#32
  let c0_i32_1548 : BitVec 32 := 0#32
  ![v2700.toNat, 0, 0]
def k0_cond132 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1015 : BitVec 32 := 1#32
  let v1825 : BitVec 1 := Scalar.cmpi .eq v2 c1_i32_1015
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2048_i32_1016 : BitVec 32 := 2048#32
  let v1826 : BitVec 1 := Scalar.cmpi .sge v11 c2048_i32_1016
  let v1827 : BitVec 1 := Scalar.andi v1825 v1826
  let v1828 : BitVec 32 := Scalar.extui v1827
  let c0_i32_1017 : BitVec 32 := 0#32
  let v1829 : BitVec 1 := Scalar.cmpi .ne v1828 c0_i32_1017
  v1829

def k0_dev110 (d0 : Dev nD) : Nat :=
  let c0_i32_1557 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1556 : BitVec 32 := 2#32
  let v2711 : BitVec 32 := Scalar.muli v7 c2_i32_1556
  let v2712 : BitVec 32 := Scalar.addi c0_i32_1557 v2711
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1558 : BitVec 32 := 1#32
  let v2713 : BitVec 32 := Scalar.muli v5 c1_i32_1558
  let v2714 : BitVec 32 := Scalar.addi v2712 v2713
  v2714.toNat
def k0_off235 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c2048_i32_1541 : BitVec 32 := 2048#32
  let v2700 : BitVec 32 := Scalar.addi v16 c2048_i32_1541
  let c0_i32_1547 : BitVec 32 := 0#32
  let c0_i32_1548 : BitVec 32 := 0#32
  ![v2700.toNat, 0, 0]
def k0_cond133 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1018 : BitVec 32 := 0#32
  let v1830 : BitVec 1 := Scalar.cmpi .eq v2 c0_i32_1018
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2304_i32_1019 : BitVec 32 := 2304#32
  let v1831 : BitVec 1 := Scalar.cmpi .sge v11 c2304_i32_1019
  let v1832 : BitVec 1 := Scalar.andi v1830 v1831
  let v1833 : BitVec 32 := Scalar.extui v1832
  let c0_i32_1020 : BitVec 32 := 0#32
  let v1834 : BitVec 1 := Scalar.cmpi .ne v1833 c0_i32_1020
  v1834

def k0_dev111 (d0 : Dev nD) : Nat :=
  let c0_i32_1557 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1556 : BitVec 32 := 2#32
  let v2711 : BitVec 32 := Scalar.muli v7 c2_i32_1556
  let v2712 : BitVec 32 := Scalar.addi c0_i32_1557 v2711
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1558 : BitVec 32 := 1#32
  let v2713 : BitVec 32 := Scalar.muli v5 c1_i32_1558
  let v2714 : BitVec 32 := Scalar.addi v2712 v2713
  v2714.toNat
def k0_off236 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c2304_i32_1541 : BitVec 32 := 2304#32
  let v2700 : BitVec 32 := Scalar.addi v16 c2304_i32_1541
  let c0_i32_1546 : BitVec 32 := 0#32
  let c0_i32_1547 : BitVec 32 := 0#32
  ![v2700.toNat, 0, 0]
def k0_cond134 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1021 : BitVec 32 := 1#32
  let v1835 : BitVec 1 := Scalar.cmpi .eq v2 c1_i32_1021
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2560_i32_1022 : BitVec 32 := 2560#32
  let v1836 : BitVec 1 := Scalar.cmpi .sge v11 c2560_i32_1022
  let v1837 : BitVec 1 := Scalar.andi v1835 v1836
  let v1838 : BitVec 32 := Scalar.extui v1837
  let c0_i32_1023 : BitVec 32 := 0#32
  let v1839 : BitVec 1 := Scalar.cmpi .ne v1838 c0_i32_1023
  v1839

def k0_dev112 (d0 : Dev nD) : Nat :=
  let c0_i32_1556 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1555 : BitVec 32 := 2#32
  let v2711 : BitVec 32 := Scalar.muli v7 c2_i32_1555
  let v2712 : BitVec 32 := Scalar.addi c0_i32_1556 v2711
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1557 : BitVec 32 := 1#32
  let v2713 : BitVec 32 := Scalar.muli v5 c1_i32_1557
  let v2714 : BitVec 32 := Scalar.addi v2712 v2713
  v2714.toNat
def k0_off237 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v1840 : BitVec 32 := Scalar.addi v16 v46
  let c0_i32_1544 : BitVec 32 := 0#32
  let c0_i32_1545 : BitVec 32 := 0#32
  ![v1840.toNat, 0, 0]
def k0_cond135 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1862 : BitVec 1 := Scalar.cmpi .eq v2 v35
  let c128_i32_1031 : BitVec 32 := 128#32
  let v1863 : BitVec 32 := Scalar.andi v11 c128_i32_1031
  let c0_i32_1032 : BitVec 32 := 0#32
  let v1864 : BitVec 1 := Scalar.cmpi .ne v1863 c0_i32_1032
  let v1865 : BitVec 1 := Scalar.andi v1862 v1864
  let v1866 : BitVec 32 := Scalar.extui v1865
  let c0_i32_1035 : BitVec 32 := 0#32
  let v1867 : BitVec 1 := Scalar.cmpi .ne v1866 c0_i32_1035
  v1867

def k0_off238 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1024 : BitVec 32 := 128#32
  let v1841 : BitVec 32 := Scalar.andi v11 c128_i32_1024
  let v1842 : BitVec 32 := Scalar.addi v46 v1841
  let v1843 : BitVec 32 := Scalar.addi v16 v1842
  let c0_i32_1544 : BitVec 32 := 0#32
  let c0_i32_1545 : BitVec 32 := 0#32
  ![v1843.toNat, 0, 0]
def k0_cond136 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1868 : BitVec 1 := Scalar.cmpi .eq v2 v35
  let c64_i32_1036 : BitVec 32 := 64#32
  let v1869 : BitVec 32 := Scalar.andi v11 c64_i32_1036
  let c0_i32_1037 : BitVec 32 := 0#32
  let v1870 : BitVec 1 := Scalar.cmpi .ne v1869 c0_i32_1037
  let v1871 : BitVec 1 := Scalar.andi v1868 v1870
  let v1872 : BitVec 32 := Scalar.extui v1871
  let c0_i32_1040 : BitVec 32 := 0#32
  let v1873 : BitVec 1 := Scalar.cmpi .ne v1872 c0_i32_1040
  v1873

def k0_off239 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1024 : BitVec 32 := 128#32
  let v1841 : BitVec 32 := Scalar.andi v11 c128_i32_1024
  let v1842 : BitVec 32 := Scalar.addi v46 v1841
  let c64_i32_1025 : BitVec 32 := 64#32
  let v1844 : BitVec 32 := Scalar.andi v11 c64_i32_1025
  let v1845 : BitVec 32 := Scalar.addi v1842 v1844
  let v1846 : BitVec 32 := Scalar.addi v16 v1845
  let c0_i32_1544 : BitVec 32 := 0#32
  let c0_i32_1545 : BitVec 32 := 0#32
  ![v1846.toNat, 0, 0]
def k0_cond137 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1874 : BitVec 1 := Scalar.cmpi .eq v2 v35
  let c32_i32_1041 : BitVec 32 := 32#32
  let v1875 : BitVec 32 := Scalar.andi v11 c32_i32_1041
  let c0_i32_1042 : BitVec 32 := 0#32
  let v1876 : BitVec 1 := Scalar.cmpi .ne v1875 c0_i32_1042
  let v1877 : BitVec 1 := Scalar.andi v1874 v1876
  let v1878 : BitVec 32 := Scalar.extui v1877
  let c0_i32_1045 : BitVec 32 := 0#32
  let v1879 : BitVec 1 := Scalar.cmpi .ne v1878 c0_i32_1045
  v1879

def k0_off240 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1024 : BitVec 32 := 128#32
  let v1841 : BitVec 32 := Scalar.andi v11 c128_i32_1024
  let v1842 : BitVec 32 := Scalar.addi v46 v1841
  let c64_i32_1025 : BitVec 32 := 64#32
  let v1844 : BitVec 32 := Scalar.andi v11 c64_i32_1025
  let v1845 : BitVec 32 := Scalar.addi v1842 v1844
  let c32_i32_1026 : BitVec 32 := 32#32
  let v1847 : BitVec 32 := Scalar.andi v11 c32_i32_1026
  let v1848 : BitVec 32 := Scalar.addi v1845 v1847
  let v1849 : BitVec 32 := Scalar.addi v16 v1848
  let c0_i32_1544 : BitVec 32 := 0#32
  let c0_i32_1545 : BitVec 32 := 0#32
  ![v1849.toNat, 0, 0]
def k0_cond138 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1880 : BitVec 1 := Scalar.cmpi .eq v2 v35
  let c16_i32_1046 : BitVec 32 := 16#32
  let v1881 : BitVec 32 := Scalar.andi v11 c16_i32_1046
  let c0_i32_1047 : BitVec 32 := 0#32
  let v1882 : BitVec 1 := Scalar.cmpi .ne v1881 c0_i32_1047
  let v1883 : BitVec 1 := Scalar.andi v1880 v1882
  let v1884 : BitVec 32 := Scalar.extui v1883
  let c0_i32_1050 : BitVec 32 := 0#32
  let v1885 : BitVec 1 := Scalar.cmpi .ne v1884 c0_i32_1050
  v1885

def k0_off241 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1024 : BitVec 32 := 128#32
  let v1841 : BitVec 32 := Scalar.andi v11 c128_i32_1024
  let v1842 : BitVec 32 := Scalar.addi v46 v1841
  let c64_i32_1025 : BitVec 32 := 64#32
  let v1844 : BitVec 32 := Scalar.andi v11 c64_i32_1025
  let v1845 : BitVec 32 := Scalar.addi v1842 v1844
  let c32_i32_1026 : BitVec 32 := 32#32
  let v1847 : BitVec 32 := Scalar.andi v11 c32_i32_1026
  let v1848 : BitVec 32 := Scalar.addi v1845 v1847
  let c16_i32_1027 : BitVec 32 := 16#32
  let v1850 : BitVec 32 := Scalar.andi v11 c16_i32_1027
  let v1851 : BitVec 32 := Scalar.addi v1848 v1850
  let v1852 : BitVec 32 := Scalar.addi v16 v1851
  let c0_i32_1544 : BitVec 32 := 0#32
  let c0_i32_1545 : BitVec 32 := 0#32
  ![v1852.toNat, 0, 0]
def k0_cond139 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1886 : BitVec 1 := Scalar.cmpi .eq v2 v35
  let c8_i32_1051 : BitVec 32 := 8#32
  let v1887 : BitVec 32 := Scalar.andi v11 c8_i32_1051
  let c0_i32_1052 : BitVec 32 := 0#32
  let v1888 : BitVec 1 := Scalar.cmpi .ne v1887 c0_i32_1052
  let v1889 : BitVec 1 := Scalar.andi v1886 v1888
  let v1890 : BitVec 32 := Scalar.extui v1889
  let c0_i32_1055 : BitVec 32 := 0#32
  let v1891 : BitVec 1 := Scalar.cmpi .ne v1890 c0_i32_1055
  v1891

def k0_off242 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1024 : BitVec 32 := 128#32
  let v1841 : BitVec 32 := Scalar.andi v11 c128_i32_1024
  let v1842 : BitVec 32 := Scalar.addi v46 v1841
  let c64_i32_1025 : BitVec 32 := 64#32
  let v1844 : BitVec 32 := Scalar.andi v11 c64_i32_1025
  let v1845 : BitVec 32 := Scalar.addi v1842 v1844
  let c32_i32_1026 : BitVec 32 := 32#32
  let v1847 : BitVec 32 := Scalar.andi v11 c32_i32_1026
  let v1848 : BitVec 32 := Scalar.addi v1845 v1847
  let c16_i32_1027 : BitVec 32 := 16#32
  let v1850 : BitVec 32 := Scalar.andi v11 c16_i32_1027
  let v1851 : BitVec 32 := Scalar.addi v1848 v1850
  let c8_i32_1028 : BitVec 32 := 8#32
  let v1853 : BitVec 32 := Scalar.andi v11 c8_i32_1028
  let v1854 : BitVec 32 := Scalar.addi v1851 v1853
  let v1855 : BitVec 32 := Scalar.addi v16 v1854
  let c0_i32_1544 : BitVec 32 := 0#32
  let c0_i32_1545 : BitVec 32 := 0#32
  ![v1855.toNat, 0, 0]
def k0_cond140 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1892 : BitVec 1 := Scalar.cmpi .eq v2 v35
  let c4_i32_1056 : BitVec 32 := 4#32
  let v1893 : BitVec 32 := Scalar.andi v11 c4_i32_1056
  let c0_i32_1057 : BitVec 32 := 0#32
  let v1894 : BitVec 1 := Scalar.cmpi .ne v1893 c0_i32_1057
  let v1895 : BitVec 1 := Scalar.andi v1892 v1894
  let v1896 : BitVec 32 := Scalar.extui v1895
  let c0_i32_1060 : BitVec 32 := 0#32
  let v1897 : BitVec 1 := Scalar.cmpi .ne v1896 c0_i32_1060
  v1897

def k0_off243 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1024 : BitVec 32 := 128#32
  let v1841 : BitVec 32 := Scalar.andi v11 c128_i32_1024
  let v1842 : BitVec 32 := Scalar.addi v46 v1841
  let c64_i32_1025 : BitVec 32 := 64#32
  let v1844 : BitVec 32 := Scalar.andi v11 c64_i32_1025
  let v1845 : BitVec 32 := Scalar.addi v1842 v1844
  let c32_i32_1026 : BitVec 32 := 32#32
  let v1847 : BitVec 32 := Scalar.andi v11 c32_i32_1026
  let v1848 : BitVec 32 := Scalar.addi v1845 v1847
  let c16_i32_1027 : BitVec 32 := 16#32
  let v1850 : BitVec 32 := Scalar.andi v11 c16_i32_1027
  let v1851 : BitVec 32 := Scalar.addi v1848 v1850
  let c8_i32_1028 : BitVec 32 := 8#32
  let v1853 : BitVec 32 := Scalar.andi v11 c8_i32_1028
  let v1854 : BitVec 32 := Scalar.addi v1851 v1853
  let c4_i32_1029 : BitVec 32 := 4#32
  let v1856 : BitVec 32 := Scalar.andi v11 c4_i32_1029
  let v1857 : BitVec 32 := Scalar.addi v1854 v1856
  let v1858 : BitVec 32 := Scalar.addi v16 v1857
  let c0_i32_1544 : BitVec 32 := 0#32
  let c0_i32_1545 : BitVec 32 := 0#32
  ![v1858.toNat, 0, 0]
def k0_cond141 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1898 : BitVec 1 := Scalar.cmpi .eq v2 v35
  let c2_i32_1061 : BitVec 32 := 2#32
  let v1899 : BitVec 32 := Scalar.andi v11 c2_i32_1061
  let c0_i32_1062 : BitVec 32 := 0#32
  let v1900 : BitVec 1 := Scalar.cmpi .ne v1899 c0_i32_1062
  let v1901 : BitVec 1 := Scalar.andi v1898 v1900
  let v1902 : BitVec 32 := Scalar.extui v1901
  let c0_i32_1065 : BitVec 32 := 0#32
  let v1903 : BitVec 1 := Scalar.cmpi .ne v1902 c0_i32_1065
  v1903

def k0_off244 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1024 : BitVec 32 := 128#32
  let v1841 : BitVec 32 := Scalar.andi v11 c128_i32_1024
  let v1842 : BitVec 32 := Scalar.addi v46 v1841
  let c64_i32_1025 : BitVec 32 := 64#32
  let v1844 : BitVec 32 := Scalar.andi v11 c64_i32_1025
  let v1845 : BitVec 32 := Scalar.addi v1842 v1844
  let c32_i32_1026 : BitVec 32 := 32#32
  let v1847 : BitVec 32 := Scalar.andi v11 c32_i32_1026
  let v1848 : BitVec 32 := Scalar.addi v1845 v1847
  let c16_i32_1027 : BitVec 32 := 16#32
  let v1850 : BitVec 32 := Scalar.andi v11 c16_i32_1027
  let v1851 : BitVec 32 := Scalar.addi v1848 v1850
  let c8_i32_1028 : BitVec 32 := 8#32
  let v1853 : BitVec 32 := Scalar.andi v11 c8_i32_1028
  let v1854 : BitVec 32 := Scalar.addi v1851 v1853
  let c4_i32_1029 : BitVec 32 := 4#32
  let v1856 : BitVec 32 := Scalar.andi v11 c4_i32_1029
  let v1857 : BitVec 32 := Scalar.addi v1854 v1856
  let c2_i32_1030 : BitVec 32 := 2#32
  let v1859 : BitVec 32 := Scalar.andi v11 c2_i32_1030
  let v1860 : BitVec 32 := Scalar.addi v1857 v1859
  let v1861 : BitVec 32 := Scalar.addi v16 v1860
  let c0_i32_1544 : BitVec 32 := 0#32
  let c0_i32_1545 : BitVec 32 := 0#32
  ![v1861.toNat, 0, 0]
def k0_cond142 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1904 : BitVec 1 := Scalar.cmpi .eq v2 v35
  let c1_i32_1066 : BitVec 32 := 1#32
  let v1905 : BitVec 32 := Scalar.andi v11 c1_i32_1066
  let c0_i32_1067 : BitVec 32 := 0#32
  let v1906 : BitVec 1 := Scalar.cmpi .ne v1905 c0_i32_1067
  let v1907 : BitVec 1 := Scalar.andi v1904 v1906
  let v1908 : BitVec 32 := Scalar.extui v1907
  let c0_i32_1070 : BitVec 32 := 0#32
  let v1909 : BitVec 1 := Scalar.cmpi .ne v1908 c0_i32_1070
  v1909

def k0_off245 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v1911 : BitVec 32 := Scalar.addi v16 v46
  let c0_i32_1544 : BitVec 32 := 0#32
  let c0_i32_1545 : BitVec 32 := 0#32
  ![v1911.toNat, 0, 0]
def k0_cond143 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1940 : BitVec 1 := Scalar.cmpi .eq v2 v35
  let c128_i32_1078 : BitVec 32 := 128#32
  let v1941 : BitVec 32 := Scalar.andi v11 c128_i32_1078
  let c0_i32_1079 : BitVec 32 := 0#32
  let v1942 : BitVec 1 := Scalar.cmpi .ne v1941 c0_i32_1079
  let v1943 : BitVec 1 := Scalar.andi v1940 v1942
  let v1944 : BitVec 32 := Scalar.extui v1943
  let c0_i32_1082 : BitVec 32 := 0#32
  let v1945 : BitVec 1 := Scalar.cmpi .ne v1944 c0_i32_1082
  v1945

def k0_dev113 (d0 : Dev nD) : Nat :=
  let c0_i32_1542 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1541 : BitVec 32 := 2#32
  let v2700 : BitVec 32 := Scalar.muli v7 c2_i32_1541
  let v2701 : BitVec 32 := Scalar.addi c0_i32_1542 v2700
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1543 : BitVec 32 := 1#32
  let v2702 : BitVec 32 := Scalar.muli v5 c1_i32_1543
  let v2703 : BitVec 32 := Scalar.addi v2701 v2702
  v2703.toNat
def k0_off246 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1071 : BitVec 32 := 128#32
  let v1912 : BitVec 32 := Scalar.andi v11 c128_i32_1071
  let v1913 : BitVec 32 := Scalar.addi v46 v1912
  let v1915 : BitVec 32 := Scalar.addi v16 v1913
  let c0_i32_1544 : BitVec 32 := 0#32
  let c0_i32_1545 : BitVec 32 := 0#32
  ![v1915.toNat, 0, 0]
def k0_cond144 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1946 : BitVec 1 := Scalar.cmpi .eq v2 v35
  let c64_i32_1083 : BitVec 32 := 64#32
  let v1947 : BitVec 32 := Scalar.andi v11 c64_i32_1083
  let c0_i32_1084 : BitVec 32 := 0#32
  let v1948 : BitVec 1 := Scalar.cmpi .ne v1947 c0_i32_1084
  let v1949 : BitVec 1 := Scalar.andi v1946 v1948
  let v1950 : BitVec 32 := Scalar.extui v1949
  let c0_i32_1087 : BitVec 32 := 0#32
  let v1951 : BitVec 1 := Scalar.cmpi .ne v1950 c0_i32_1087
  v1951

def k0_dev114 (d0 : Dev nD) : Nat :=
  let c0_i32_1542 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1541 : BitVec 32 := 2#32
  let v2700 : BitVec 32 := Scalar.muli v7 c2_i32_1541
  let v2701 : BitVec 32 := Scalar.addi c0_i32_1542 v2700
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1543 : BitVec 32 := 1#32
  let v2702 : BitVec 32 := Scalar.muli v5 c1_i32_1543
  let v2703 : BitVec 32 := Scalar.addi v2701 v2702
  v2703.toNat
def k0_off247 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1071 : BitVec 32 := 128#32
  let v1912 : BitVec 32 := Scalar.andi v11 c128_i32_1071
  let v1913 : BitVec 32 := Scalar.addi v46 v1912
  let c64_i32_1072 : BitVec 32 := 64#32
  let v1916 : BitVec 32 := Scalar.andi v11 c64_i32_1072
  let v1917 : BitVec 32 := Scalar.addi v1913 v1916
  let v1919 : BitVec 32 := Scalar.addi v16 v1917
  let c0_i32_1544 : BitVec 32 := 0#32
  let c0_i32_1545 : BitVec 32 := 0#32
  ![v1919.toNat, 0, 0]
def k0_cond145 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1952 : BitVec 1 := Scalar.cmpi .eq v2 v35
  let c32_i32_1088 : BitVec 32 := 32#32
  let v1953 : BitVec 32 := Scalar.andi v11 c32_i32_1088
  let c0_i32_1089 : BitVec 32 := 0#32
  let v1954 : BitVec 1 := Scalar.cmpi .ne v1953 c0_i32_1089
  let v1955 : BitVec 1 := Scalar.andi v1952 v1954
  let v1956 : BitVec 32 := Scalar.extui v1955
  let c0_i32_1092 : BitVec 32 := 0#32
  let v1957 : BitVec 1 := Scalar.cmpi .ne v1956 c0_i32_1092
  v1957

def k0_dev115 (d0 : Dev nD) : Nat :=
  let c0_i32_1542 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1541 : BitVec 32 := 2#32
  let v2700 : BitVec 32 := Scalar.muli v7 c2_i32_1541
  let v2701 : BitVec 32 := Scalar.addi c0_i32_1542 v2700
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1543 : BitVec 32 := 1#32
  let v2702 : BitVec 32 := Scalar.muli v5 c1_i32_1543
  let v2703 : BitVec 32 := Scalar.addi v2701 v2702
  v2703.toNat
def k0_off248 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1071 : BitVec 32 := 128#32
  let v1912 : BitVec 32 := Scalar.andi v11 c128_i32_1071
  let v1913 : BitVec 32 := Scalar.addi v46 v1912
  let c64_i32_1072 : BitVec 32 := 64#32
  let v1916 : BitVec 32 := Scalar.andi v11 c64_i32_1072
  let v1917 : BitVec 32 := Scalar.addi v1913 v1916
  let c32_i32_1073 : BitVec 32 := 32#32
  let v1920 : BitVec 32 := Scalar.andi v11 c32_i32_1073
  let v1921 : BitVec 32 := Scalar.addi v1917 v1920
  let v1923 : BitVec 32 := Scalar.addi v16 v1921
  let c0_i32_1544 : BitVec 32 := 0#32
  let c0_i32_1545 : BitVec 32 := 0#32
  ![v1923.toNat, 0, 0]
def k0_cond146 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1958 : BitVec 1 := Scalar.cmpi .eq v2 v35
  let c16_i32_1093 : BitVec 32 := 16#32
  let v1959 : BitVec 32 := Scalar.andi v11 c16_i32_1093
  let c0_i32_1094 : BitVec 32 := 0#32
  let v1960 : BitVec 1 := Scalar.cmpi .ne v1959 c0_i32_1094
  let v1961 : BitVec 1 := Scalar.andi v1958 v1960
  let v1962 : BitVec 32 := Scalar.extui v1961
  let c0_i32_1097 : BitVec 32 := 0#32
  let v1963 : BitVec 1 := Scalar.cmpi .ne v1962 c0_i32_1097
  v1963

def k0_dev116 (d0 : Dev nD) : Nat :=
  let c0_i32_1542 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1541 : BitVec 32 := 2#32
  let v2700 : BitVec 32 := Scalar.muli v7 c2_i32_1541
  let v2701 : BitVec 32 := Scalar.addi c0_i32_1542 v2700
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1543 : BitVec 32 := 1#32
  let v2702 : BitVec 32 := Scalar.muli v5 c1_i32_1543
  let v2703 : BitVec 32 := Scalar.addi v2701 v2702
  v2703.toNat
def k0_off249 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1071 : BitVec 32 := 128#32
  let v1912 : BitVec 32 := Scalar.andi v11 c128_i32_1071
  let v1913 : BitVec 32 := Scalar.addi v46 v1912
  let c64_i32_1072 : BitVec 32 := 64#32
  let v1916 : BitVec 32 := Scalar.andi v11 c64_i32_1072
  let v1917 : BitVec 32 := Scalar.addi v1913 v1916
  let c32_i32_1073 : BitVec 32 := 32#32
  let v1920 : BitVec 32 := Scalar.andi v11 c32_i32_1073
  let v1921 : BitVec 32 := Scalar.addi v1917 v1920
  let c16_i32_1074 : BitVec 32 := 16#32
  let v1924 : BitVec 32 := Scalar.andi v11 c16_i32_1074
  let v1925 : BitVec 32 := Scalar.addi v1921 v1924
  let v1927 : BitVec 32 := Scalar.addi v16 v1925
  let c0_i32_1544 : BitVec 32 := 0#32
  let c0_i32_1545 : BitVec 32 := 0#32
  ![v1927.toNat, 0, 0]
def k0_cond147 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1964 : BitVec 1 := Scalar.cmpi .eq v2 v35
  let c8_i32_1098 : BitVec 32 := 8#32
  let v1965 : BitVec 32 := Scalar.andi v11 c8_i32_1098
  let c0_i32_1099 : BitVec 32 := 0#32
  let v1966 : BitVec 1 := Scalar.cmpi .ne v1965 c0_i32_1099
  let v1967 : BitVec 1 := Scalar.andi v1964 v1966
  let v1968 : BitVec 32 := Scalar.extui v1967
  let c0_i32_1102 : BitVec 32 := 0#32
  let v1969 : BitVec 1 := Scalar.cmpi .ne v1968 c0_i32_1102
  v1969

def k0_dev117 (d0 : Dev nD) : Nat :=
  let c0_i32_1542 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1541 : BitVec 32 := 2#32
  let v2700 : BitVec 32 := Scalar.muli v7 c2_i32_1541
  let v2701 : BitVec 32 := Scalar.addi c0_i32_1542 v2700
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1543 : BitVec 32 := 1#32
  let v2702 : BitVec 32 := Scalar.muli v5 c1_i32_1543
  let v2703 : BitVec 32 := Scalar.addi v2701 v2702
  v2703.toNat
def k0_off250 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1071 : BitVec 32 := 128#32
  let v1912 : BitVec 32 := Scalar.andi v11 c128_i32_1071
  let v1913 : BitVec 32 := Scalar.addi v46 v1912
  let c64_i32_1072 : BitVec 32 := 64#32
  let v1916 : BitVec 32 := Scalar.andi v11 c64_i32_1072
  let v1917 : BitVec 32 := Scalar.addi v1913 v1916
  let c32_i32_1073 : BitVec 32 := 32#32
  let v1920 : BitVec 32 := Scalar.andi v11 c32_i32_1073
  let v1921 : BitVec 32 := Scalar.addi v1917 v1920
  let c16_i32_1074 : BitVec 32 := 16#32
  let v1924 : BitVec 32 := Scalar.andi v11 c16_i32_1074
  let v1925 : BitVec 32 := Scalar.addi v1921 v1924
  let c8_i32_1075 : BitVec 32 := 8#32
  let v1928 : BitVec 32 := Scalar.andi v11 c8_i32_1075
  let v1929 : BitVec 32 := Scalar.addi v1925 v1928
  let v1931 : BitVec 32 := Scalar.addi v16 v1929
  let c0_i32_1544 : BitVec 32 := 0#32
  let c0_i32_1545 : BitVec 32 := 0#32
  ![v1931.toNat, 0, 0]
def k0_cond148 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1970 : BitVec 1 := Scalar.cmpi .eq v2 v35
  let c4_i32_1103 : BitVec 32 := 4#32
  let v1971 : BitVec 32 := Scalar.andi v11 c4_i32_1103
  let c0_i32_1104 : BitVec 32 := 0#32
  let v1972 : BitVec 1 := Scalar.cmpi .ne v1971 c0_i32_1104
  let v1973 : BitVec 1 := Scalar.andi v1970 v1972
  let v1974 : BitVec 32 := Scalar.extui v1973
  let c0_i32_1107 : BitVec 32 := 0#32
  let v1975 : BitVec 1 := Scalar.cmpi .ne v1974 c0_i32_1107
  v1975

def k0_dev118 (d0 : Dev nD) : Nat :=
  let c0_i32_1542 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1541 : BitVec 32 := 2#32
  let v2700 : BitVec 32 := Scalar.muli v7 c2_i32_1541
  let v2701 : BitVec 32 := Scalar.addi c0_i32_1542 v2700
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1543 : BitVec 32 := 1#32
  let v2702 : BitVec 32 := Scalar.muli v5 c1_i32_1543
  let v2703 : BitVec 32 := Scalar.addi v2701 v2702
  v2703.toNat
def k0_off251 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1071 : BitVec 32 := 128#32
  let v1912 : BitVec 32 := Scalar.andi v11 c128_i32_1071
  let v1913 : BitVec 32 := Scalar.addi v46 v1912
  let c64_i32_1072 : BitVec 32 := 64#32
  let v1916 : BitVec 32 := Scalar.andi v11 c64_i32_1072
  let v1917 : BitVec 32 := Scalar.addi v1913 v1916
  let c32_i32_1073 : BitVec 32 := 32#32
  let v1920 : BitVec 32 := Scalar.andi v11 c32_i32_1073
  let v1921 : BitVec 32 := Scalar.addi v1917 v1920
  let c16_i32_1074 : BitVec 32 := 16#32
  let v1924 : BitVec 32 := Scalar.andi v11 c16_i32_1074
  let v1925 : BitVec 32 := Scalar.addi v1921 v1924
  let c8_i32_1075 : BitVec 32 := 8#32
  let v1928 : BitVec 32 := Scalar.andi v11 c8_i32_1075
  let v1929 : BitVec 32 := Scalar.addi v1925 v1928
  let c4_i32_1076 : BitVec 32 := 4#32
  let v1932 : BitVec 32 := Scalar.andi v11 c4_i32_1076
  let v1933 : BitVec 32 := Scalar.addi v1929 v1932
  let v1935 : BitVec 32 := Scalar.addi v16 v1933
  let c0_i32_1544 : BitVec 32 := 0#32
  let c0_i32_1545 : BitVec 32 := 0#32
  ![v1935.toNat, 0, 0]
def k0_cond149 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1976 : BitVec 1 := Scalar.cmpi .eq v2 v35
  let c2_i32_1108 : BitVec 32 := 2#32
  let v1977 : BitVec 32 := Scalar.andi v11 c2_i32_1108
  let c0_i32_1109 : BitVec 32 := 0#32
  let v1978 : BitVec 1 := Scalar.cmpi .ne v1977 c0_i32_1109
  let v1979 : BitVec 1 := Scalar.andi v1976 v1978
  let v1980 : BitVec 32 := Scalar.extui v1979
  let c0_i32_1112 : BitVec 32 := 0#32
  let v1981 : BitVec 1 := Scalar.cmpi .ne v1980 c0_i32_1112
  v1981

def k0_dev119 (d0 : Dev nD) : Nat :=
  let c0_i32_1542 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1541 : BitVec 32 := 2#32
  let v2700 : BitVec 32 := Scalar.muli v7 c2_i32_1541
  let v2701 : BitVec 32 := Scalar.addi c0_i32_1542 v2700
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1543 : BitVec 32 := 1#32
  let v2702 : BitVec 32 := Scalar.muli v5 c1_i32_1543
  let v2703 : BitVec 32 := Scalar.addi v2701 v2702
  v2703.toNat
def k0_off252 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1071 : BitVec 32 := 128#32
  let v1912 : BitVec 32 := Scalar.andi v11 c128_i32_1071
  let v1913 : BitVec 32 := Scalar.addi v46 v1912
  let c64_i32_1072 : BitVec 32 := 64#32
  let v1916 : BitVec 32 := Scalar.andi v11 c64_i32_1072
  let v1917 : BitVec 32 := Scalar.addi v1913 v1916
  let c32_i32_1073 : BitVec 32 := 32#32
  let v1920 : BitVec 32 := Scalar.andi v11 c32_i32_1073
  let v1921 : BitVec 32 := Scalar.addi v1917 v1920
  let c16_i32_1074 : BitVec 32 := 16#32
  let v1924 : BitVec 32 := Scalar.andi v11 c16_i32_1074
  let v1925 : BitVec 32 := Scalar.addi v1921 v1924
  let c8_i32_1075 : BitVec 32 := 8#32
  let v1928 : BitVec 32 := Scalar.andi v11 c8_i32_1075
  let v1929 : BitVec 32 := Scalar.addi v1925 v1928
  let c4_i32_1076 : BitVec 32 := 4#32
  let v1932 : BitVec 32 := Scalar.andi v11 c4_i32_1076
  let v1933 : BitVec 32 := Scalar.addi v1929 v1932
  let c2_i32_1077 : BitVec 32 := 2#32
  let v1936 : BitVec 32 := Scalar.andi v11 c2_i32_1077
  let v1937 : BitVec 32 := Scalar.addi v1933 v1936
  let v1939 : BitVec 32 := Scalar.addi v16 v1937
  let c0_i32_1544 : BitVec 32 := 0#32
  let c0_i32_1545 : BitVec 32 := 0#32
  ![v1939.toNat, 0, 0]
def k0_cond150 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v1982 : BitVec 1 := Scalar.cmpi .eq v2 v35
  let c1_i32_1113 : BitVec 32 := 1#32
  let v1983 : BitVec 32 := Scalar.andi v11 c1_i32_1113
  let c0_i32_1114 : BitVec 32 := 0#32
  let v1984 : BitVec 1 := Scalar.cmpi .ne v1983 c0_i32_1114
  let v1985 : BitVec 1 := Scalar.andi v1982 v1984
  let v1986 : BitVec 32 := Scalar.extui v1985
  let c0_i32_1117 : BitVec 32 := 0#32
  let v1987 : BitVec 1 := Scalar.cmpi .ne v1986 c0_i32_1117
  v1987

def k0_dev120 (d0 : Dev nD) : Nat :=
  let c0_i32_1542 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1541 : BitVec 32 := 2#32
  let v2700 : BitVec 32 := Scalar.muli v7 c2_i32_1541
  let v2701 : BitVec 32 := Scalar.addi c0_i32_1542 v2700
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1543 : BitVec 32 := 1#32
  let v2702 : BitVec 32 := Scalar.muli v5 c1_i32_1543
  let v2703 : BitVec 32 := Scalar.addi v2701 v2702
  v2703.toNat
def k0_off253 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c0_i32_1542 : BitVec 32 := 0#32
  let c0_i32_1543 : BitVec 32 := 0#32
  ![v17.toNat, 0, 0]
def k0_cond151 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1119 : BitVec 32 := 2048#32
  let v1989 : BitVec 32 := Scalar.andi v12 c2048_i32_1119
  let c0_i32_1120 : BitVec 32 := 0#32
  let v1990 : BitVec 1 := Scalar.cmpi .ne v1989 c0_i32_1120
  let v1991 : BitVec 1 := Scalar.andi v9 v1990
  let v1992 : BitVec 32 := Scalar.extui v1991
  let c0_i32_1122 : BitVec 32 := 0#32
  let v1993 : BitVec 1 := Scalar.cmpi .ne v1992 c0_i32_1122
  v1993

def k0_off254 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1125 : BitVec 32 := 2048#32
  let v1996 : BitVec 32 := Scalar.andi v12 c2048_i32_1125
  let v1997 : BitVec 32 := Scalar.addi v17 v1996
  let c0_i32_1542 : BitVec 32 := 0#32
  let c0_i32_1543 : BitVec 32 := 0#32
  ![v1997.toNat, 0, 0]
def k0_cond152 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c1024_i32_1126 : BitVec 32 := 1024#32
  let v1998 : BitVec 32 := Scalar.andi v12 c1024_i32_1126
  let c0_i32_1127 : BitVec 32 := 0#32
  let v1999 : BitVec 1 := Scalar.cmpi .ne v1998 c0_i32_1127
  let v2000 : BitVec 1 := Scalar.andi v9 v1999
  let v2001 : BitVec 32 := Scalar.extui v2000
  let c0_i32_1128 : BitVec 32 := 0#32
  let v2002 : BitVec 1 := Scalar.cmpi .ne v2001 c0_i32_1128
  v2002

def k0_off255 (d0 : Dev nD) (v8 : BitVec 32) : Fin 3 → Nat :=
  let c0_i32_1124 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1123 : BitVec 32 := 2048#32
  let v1994 : BitVec 32 := Scalar.andi v12 c2048_i32_1123
  let v1995 : BitVec 32 := Scalar.addi c0_i32_1124 v1994
  let c0_i32_1544 : BitVec 32 := 0#32
  let c0_i32_1545 : BitVec 32 := 0#32
  ![v1995.toNat, 0, 0]
def k0_off256 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1125 : BitVec 32 := 2048#32
  let v1996 : BitVec 32 := Scalar.andi v12 c2048_i32_1125
  let v1997 : BitVec 32 := Scalar.addi v17 v1996
  let c1024_i32_1130 : BitVec 32 := 1024#32
  let v2005 : BitVec 32 := Scalar.andi v12 c1024_i32_1130
  let v2006 : BitVec 32 := Scalar.addi v1997 v2005
  let c0_i32_1542 : BitVec 32 := 0#32
  let c0_i32_1543 : BitVec 32 := 0#32
  ![v2006.toNat, 0, 0]
def k0_cond153 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c512_i32_1131 : BitVec 32 := 512#32
  let v2007 : BitVec 32 := Scalar.andi v12 c512_i32_1131
  let c0_i32_1132 : BitVec 32 := 0#32
  let v2008 : BitVec 1 := Scalar.cmpi .ne v2007 c0_i32_1132
  let v2009 : BitVec 1 := Scalar.andi v9 v2008
  let v2010 : BitVec 32 := Scalar.extui v2009
  let c0_i32_1133 : BitVec 32 := 0#32
  let v2011 : BitVec 1 := Scalar.cmpi .ne v2010 c0_i32_1133
  v2011

def k0_off257 (d0 : Dev nD) (v8 : BitVec 32) : Fin 3 → Nat :=
  let c0_i32_1124 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1123 : BitVec 32 := 2048#32
  let v1994 : BitVec 32 := Scalar.andi v12 c2048_i32_1123
  let v1995 : BitVec 32 := Scalar.addi c0_i32_1124 v1994
  let c1024_i32_1129 : BitVec 32 := 1024#32
  let v2003 : BitVec 32 := Scalar.andi v12 c1024_i32_1129
  let v2004 : BitVec 32 := Scalar.addi v1995 v2003
  let c0_i32_1544 : BitVec 32 := 0#32
  let c0_i32_1545 : BitVec 32 := 0#32
  ![v2004.toNat, 0, 0]
def k0_off258 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1125 : BitVec 32 := 2048#32
  let v1996 : BitVec 32 := Scalar.andi v12 c2048_i32_1125
  let v1997 : BitVec 32 := Scalar.addi v17 v1996
  let c1024_i32_1130 : BitVec 32 := 1024#32
  let v2005 : BitVec 32 := Scalar.andi v12 c1024_i32_1130
  let v2006 : BitVec 32 := Scalar.addi v1997 v2005
  let c512_i32_1135 : BitVec 32 := 512#32
  let v2014 : BitVec 32 := Scalar.andi v12 c512_i32_1135
  let v2015 : BitVec 32 := Scalar.addi v2006 v2014
  let c0_i32_1542 : BitVec 32 := 0#32
  let c0_i32_1543 : BitVec 32 := 0#32
  ![v2015.toNat, 0, 0]
def k0_cond154 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c256_i32_1136 : BitVec 32 := 256#32
  let v2016 : BitVec 32 := Scalar.andi v12 c256_i32_1136
  let c0_i32_1137 : BitVec 32 := 0#32
  let v2017 : BitVec 1 := Scalar.cmpi .ne v2016 c0_i32_1137
  let v2018 : BitVec 1 := Scalar.andi v9 v2017
  let v2019 : BitVec 32 := Scalar.extui v2018
  let c0_i32_1138 : BitVec 32 := 0#32
  let v2020 : BitVec 1 := Scalar.cmpi .ne v2019 c0_i32_1138
  v2020

def k0_off259 (d0 : Dev nD) (v8 : BitVec 32) : Fin 3 → Nat :=
  let c0_i32_1124 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1123 : BitVec 32 := 2048#32
  let v1994 : BitVec 32 := Scalar.andi v12 c2048_i32_1123
  let v1995 : BitVec 32 := Scalar.addi c0_i32_1124 v1994
  let c1024_i32_1129 : BitVec 32 := 1024#32
  let v2003 : BitVec 32 := Scalar.andi v12 c1024_i32_1129
  let v2004 : BitVec 32 := Scalar.addi v1995 v2003
  let c512_i32_1134 : BitVec 32 := 512#32
  let v2012 : BitVec 32 := Scalar.andi v12 c512_i32_1134
  let v2013 : BitVec 32 := Scalar.addi v2004 v2012
  let c0_i32_1544 : BitVec 32 := 0#32
  let c0_i32_1545 : BitVec 32 := 0#32
  ![v2013.toNat, 0, 0]
def k0_off260 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1125 : BitVec 32 := 2048#32
  let v1996 : BitVec 32 := Scalar.andi v12 c2048_i32_1125
  let v1997 : BitVec 32 := Scalar.addi v17 v1996
  let c1024_i32_1130 : BitVec 32 := 1024#32
  let v2005 : BitVec 32 := Scalar.andi v12 c1024_i32_1130
  let v2006 : BitVec 32 := Scalar.addi v1997 v2005
  let c512_i32_1135 : BitVec 32 := 512#32
  let v2014 : BitVec 32 := Scalar.andi v12 c512_i32_1135
  let v2015 : BitVec 32 := Scalar.addi v2006 v2014
  let c256_i32_1140 : BitVec 32 := 256#32
  let v2023 : BitVec 32 := Scalar.andi v12 c256_i32_1140
  let v2024 : BitVec 32 := Scalar.addi v2015 v2023
  let c0_i32_1542 : BitVec 32 := 0#32
  let c0_i32_1543 : BitVec 32 := 0#32
  ![v2024.toNat, 0, 0]
def k0_cond155 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c128_i32_1141 : BitVec 32 := 128#32
  let v2025 : BitVec 32 := Scalar.andi v12 c128_i32_1141
  let c0_i32_1142 : BitVec 32 := 0#32
  let v2026 : BitVec 1 := Scalar.cmpi .ne v2025 c0_i32_1142
  let v2027 : BitVec 1 := Scalar.andi v9 v2026
  let v2028 : BitVec 32 := Scalar.extui v2027
  let c0_i32_1143 : BitVec 32 := 0#32
  let v2029 : BitVec 1 := Scalar.cmpi .ne v2028 c0_i32_1143
  v2029

def k0_off261 (d0 : Dev nD) (v8 : BitVec 32) : Fin 3 → Nat :=
  let c0_i32_1124 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1123 : BitVec 32 := 2048#32
  let v1994 : BitVec 32 := Scalar.andi v12 c2048_i32_1123
  let v1995 : BitVec 32 := Scalar.addi c0_i32_1124 v1994
  let c1024_i32_1129 : BitVec 32 := 1024#32
  let v2003 : BitVec 32 := Scalar.andi v12 c1024_i32_1129
  let v2004 : BitVec 32 := Scalar.addi v1995 v2003
  let c512_i32_1134 : BitVec 32 := 512#32
  let v2012 : BitVec 32 := Scalar.andi v12 c512_i32_1134
  let v2013 : BitVec 32 := Scalar.addi v2004 v2012
  let c256_i32_1139 : BitVec 32 := 256#32
  let v2021 : BitVec 32 := Scalar.andi v12 c256_i32_1139
  let v2022 : BitVec 32 := Scalar.addi v2013 v2021
  let c0_i32_1544 : BitVec 32 := 0#32
  let c0_i32_1545 : BitVec 32 := 0#32
  ![v2022.toNat, 0, 0]
def k0_off262 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1125 : BitVec 32 := 2048#32
  let v1996 : BitVec 32 := Scalar.andi v12 c2048_i32_1125
  let v1997 : BitVec 32 := Scalar.addi v17 v1996
  let c1024_i32_1130 : BitVec 32 := 1024#32
  let v2005 : BitVec 32 := Scalar.andi v12 c1024_i32_1130
  let v2006 : BitVec 32 := Scalar.addi v1997 v2005
  let c512_i32_1135 : BitVec 32 := 512#32
  let v2014 : BitVec 32 := Scalar.andi v12 c512_i32_1135
  let v2015 : BitVec 32 := Scalar.addi v2006 v2014
  let c256_i32_1140 : BitVec 32 := 256#32
  let v2023 : BitVec 32 := Scalar.andi v12 c256_i32_1140
  let v2024 : BitVec 32 := Scalar.addi v2015 v2023
  let c128_i32_1145 : BitVec 32 := 128#32
  let v2032 : BitVec 32 := Scalar.andi v12 c128_i32_1145
  let v2033 : BitVec 32 := Scalar.addi v2024 v2032
  let c0_i32_1542 : BitVec 32 := 0#32
  let c0_i32_1543 : BitVec 32 := 0#32
  ![v2033.toNat, 0, 0]
def k0_cond156 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c64_i32_1146 : BitVec 32 := 64#32
  let v2034 : BitVec 32 := Scalar.andi v12 c64_i32_1146
  let c0_i32_1147 : BitVec 32 := 0#32
  let v2035 : BitVec 1 := Scalar.cmpi .ne v2034 c0_i32_1147
  let v2036 : BitVec 1 := Scalar.andi v9 v2035
  let v2037 : BitVec 32 := Scalar.extui v2036
  let c0_i32_1148 : BitVec 32 := 0#32
  let v2038 : BitVec 1 := Scalar.cmpi .ne v2037 c0_i32_1148
  v2038

def k0_off263 (d0 : Dev nD) (v8 : BitVec 32) : Fin 3 → Nat :=
  let c0_i32_1124 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1123 : BitVec 32 := 2048#32
  let v1994 : BitVec 32 := Scalar.andi v12 c2048_i32_1123
  let v1995 : BitVec 32 := Scalar.addi c0_i32_1124 v1994
  let c1024_i32_1129 : BitVec 32 := 1024#32
  let v2003 : BitVec 32 := Scalar.andi v12 c1024_i32_1129
  let v2004 : BitVec 32 := Scalar.addi v1995 v2003
  let c512_i32_1134 : BitVec 32 := 512#32
  let v2012 : BitVec 32 := Scalar.andi v12 c512_i32_1134
  let v2013 : BitVec 32 := Scalar.addi v2004 v2012
  let c256_i32_1139 : BitVec 32 := 256#32
  let v2021 : BitVec 32 := Scalar.andi v12 c256_i32_1139
  let v2022 : BitVec 32 := Scalar.addi v2013 v2021
  let c128_i32_1144 : BitVec 32 := 128#32
  let v2030 : BitVec 32 := Scalar.andi v12 c128_i32_1144
  let v2031 : BitVec 32 := Scalar.addi v2022 v2030
  let c0_i32_1544 : BitVec 32 := 0#32
  let c0_i32_1545 : BitVec 32 := 0#32
  ![v2031.toNat, 0, 0]
def k0_off264 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1125 : BitVec 32 := 2048#32
  let v1996 : BitVec 32 := Scalar.andi v12 c2048_i32_1125
  let v1997 : BitVec 32 := Scalar.addi v17 v1996
  let c1024_i32_1130 : BitVec 32 := 1024#32
  let v2005 : BitVec 32 := Scalar.andi v12 c1024_i32_1130
  let v2006 : BitVec 32 := Scalar.addi v1997 v2005
  let c512_i32_1135 : BitVec 32 := 512#32
  let v2014 : BitVec 32 := Scalar.andi v12 c512_i32_1135
  let v2015 : BitVec 32 := Scalar.addi v2006 v2014
  let c256_i32_1140 : BitVec 32 := 256#32
  let v2023 : BitVec 32 := Scalar.andi v12 c256_i32_1140
  let v2024 : BitVec 32 := Scalar.addi v2015 v2023
  let c128_i32_1145 : BitVec 32 := 128#32
  let v2032 : BitVec 32 := Scalar.andi v12 c128_i32_1145
  let v2033 : BitVec 32 := Scalar.addi v2024 v2032
  let c64_i32_1150 : BitVec 32 := 64#32
  let v2041 : BitVec 32 := Scalar.andi v12 c64_i32_1150
  let v2042 : BitVec 32 := Scalar.addi v2033 v2041
  let c0_i32_1542 : BitVec 32 := 0#32
  let c0_i32_1543 : BitVec 32 := 0#32
  ![v2042.toNat, 0, 0]
def k0_cond157 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c32_i32_1151 : BitVec 32 := 32#32
  let v2043 : BitVec 32 := Scalar.andi v12 c32_i32_1151
  let c0_i32_1152 : BitVec 32 := 0#32
  let v2044 : BitVec 1 := Scalar.cmpi .ne v2043 c0_i32_1152
  let v2045 : BitVec 1 := Scalar.andi v9 v2044
  let v2046 : BitVec 32 := Scalar.extui v2045
  let c0_i32_1153 : BitVec 32 := 0#32
  let v2047 : BitVec 1 := Scalar.cmpi .ne v2046 c0_i32_1153
  v2047

def k0_off265 (d0 : Dev nD) (v8 : BitVec 32) : Fin 3 → Nat :=
  let c0_i32_1124 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1123 : BitVec 32 := 2048#32
  let v1994 : BitVec 32 := Scalar.andi v12 c2048_i32_1123
  let v1995 : BitVec 32 := Scalar.addi c0_i32_1124 v1994
  let c1024_i32_1129 : BitVec 32 := 1024#32
  let v2003 : BitVec 32 := Scalar.andi v12 c1024_i32_1129
  let v2004 : BitVec 32 := Scalar.addi v1995 v2003
  let c512_i32_1134 : BitVec 32 := 512#32
  let v2012 : BitVec 32 := Scalar.andi v12 c512_i32_1134
  let v2013 : BitVec 32 := Scalar.addi v2004 v2012
  let c256_i32_1139 : BitVec 32 := 256#32
  let v2021 : BitVec 32 := Scalar.andi v12 c256_i32_1139
  let v2022 : BitVec 32 := Scalar.addi v2013 v2021
  let c128_i32_1144 : BitVec 32 := 128#32
  let v2030 : BitVec 32 := Scalar.andi v12 c128_i32_1144
  let v2031 : BitVec 32 := Scalar.addi v2022 v2030
  let c64_i32_1149 : BitVec 32 := 64#32
  let v2039 : BitVec 32 := Scalar.andi v12 c64_i32_1149
  let v2040 : BitVec 32 := Scalar.addi v2031 v2039
  let c0_i32_1544 : BitVec 32 := 0#32
  let c0_i32_1545 : BitVec 32 := 0#32
  ![v2040.toNat, 0, 0]
def k0_off266 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1125 : BitVec 32 := 2048#32
  let v1996 : BitVec 32 := Scalar.andi v12 c2048_i32_1125
  let v1997 : BitVec 32 := Scalar.addi v17 v1996
  let c1024_i32_1130 : BitVec 32 := 1024#32
  let v2005 : BitVec 32 := Scalar.andi v12 c1024_i32_1130
  let v2006 : BitVec 32 := Scalar.addi v1997 v2005
  let c512_i32_1135 : BitVec 32 := 512#32
  let v2014 : BitVec 32 := Scalar.andi v12 c512_i32_1135
  let v2015 : BitVec 32 := Scalar.addi v2006 v2014
  let c256_i32_1140 : BitVec 32 := 256#32
  let v2023 : BitVec 32 := Scalar.andi v12 c256_i32_1140
  let v2024 : BitVec 32 := Scalar.addi v2015 v2023
  let c128_i32_1145 : BitVec 32 := 128#32
  let v2032 : BitVec 32 := Scalar.andi v12 c128_i32_1145
  let v2033 : BitVec 32 := Scalar.addi v2024 v2032
  let c64_i32_1150 : BitVec 32 := 64#32
  let v2041 : BitVec 32 := Scalar.andi v12 c64_i32_1150
  let v2042 : BitVec 32 := Scalar.addi v2033 v2041
  let c32_i32_1155 : BitVec 32 := 32#32
  let v2050 : BitVec 32 := Scalar.andi v12 c32_i32_1155
  let v2051 : BitVec 32 := Scalar.addi v2042 v2050
  let c0_i32_1542 : BitVec 32 := 0#32
  let c0_i32_1543 : BitVec 32 := 0#32
  ![v2051.toNat, 0, 0]
def k0_cond158 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c16_i32_1156 : BitVec 32 := 16#32
  let v2052 : BitVec 32 := Scalar.andi v12 c16_i32_1156
  let c0_i32_1157 : BitVec 32 := 0#32
  let v2053 : BitVec 1 := Scalar.cmpi .ne v2052 c0_i32_1157
  let v2054 : BitVec 1 := Scalar.andi v9 v2053
  let v2055 : BitVec 32 := Scalar.extui v2054
  let c0_i32_1158 : BitVec 32 := 0#32
  let v2056 : BitVec 1 := Scalar.cmpi .ne v2055 c0_i32_1158
  v2056

def k0_off267 (d0 : Dev nD) (v8 : BitVec 32) : Fin 3 → Nat :=
  let c0_i32_1124 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1123 : BitVec 32 := 2048#32
  let v1994 : BitVec 32 := Scalar.andi v12 c2048_i32_1123
  let v1995 : BitVec 32 := Scalar.addi c0_i32_1124 v1994
  let c1024_i32_1129 : BitVec 32 := 1024#32
  let v2003 : BitVec 32 := Scalar.andi v12 c1024_i32_1129
  let v2004 : BitVec 32 := Scalar.addi v1995 v2003
  let c512_i32_1134 : BitVec 32 := 512#32
  let v2012 : BitVec 32 := Scalar.andi v12 c512_i32_1134
  let v2013 : BitVec 32 := Scalar.addi v2004 v2012
  let c256_i32_1139 : BitVec 32 := 256#32
  let v2021 : BitVec 32 := Scalar.andi v12 c256_i32_1139
  let v2022 : BitVec 32 := Scalar.addi v2013 v2021
  let c128_i32_1144 : BitVec 32 := 128#32
  let v2030 : BitVec 32 := Scalar.andi v12 c128_i32_1144
  let v2031 : BitVec 32 := Scalar.addi v2022 v2030
  let c64_i32_1149 : BitVec 32 := 64#32
  let v2039 : BitVec 32 := Scalar.andi v12 c64_i32_1149
  let v2040 : BitVec 32 := Scalar.addi v2031 v2039
  let c32_i32_1154 : BitVec 32 := 32#32
  let v2048 : BitVec 32 := Scalar.andi v12 c32_i32_1154
  let v2049 : BitVec 32 := Scalar.addi v2040 v2048
  let c0_i32_1544 : BitVec 32 := 0#32
  let c0_i32_1545 : BitVec 32 := 0#32
  ![v2049.toNat, 0, 0]
def k0_off268 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1125 : BitVec 32 := 2048#32
  let v1996 : BitVec 32 := Scalar.andi v12 c2048_i32_1125
  let v1997 : BitVec 32 := Scalar.addi v17 v1996
  let c1024_i32_1130 : BitVec 32 := 1024#32
  let v2005 : BitVec 32 := Scalar.andi v12 c1024_i32_1130
  let v2006 : BitVec 32 := Scalar.addi v1997 v2005
  let c512_i32_1135 : BitVec 32 := 512#32
  let v2014 : BitVec 32 := Scalar.andi v12 c512_i32_1135
  let v2015 : BitVec 32 := Scalar.addi v2006 v2014
  let c256_i32_1140 : BitVec 32 := 256#32
  let v2023 : BitVec 32 := Scalar.andi v12 c256_i32_1140
  let v2024 : BitVec 32 := Scalar.addi v2015 v2023
  let c128_i32_1145 : BitVec 32 := 128#32
  let v2032 : BitVec 32 := Scalar.andi v12 c128_i32_1145
  let v2033 : BitVec 32 := Scalar.addi v2024 v2032
  let c64_i32_1150 : BitVec 32 := 64#32
  let v2041 : BitVec 32 := Scalar.andi v12 c64_i32_1150
  let v2042 : BitVec 32 := Scalar.addi v2033 v2041
  let c32_i32_1155 : BitVec 32 := 32#32
  let v2050 : BitVec 32 := Scalar.andi v12 c32_i32_1155
  let v2051 : BitVec 32 := Scalar.addi v2042 v2050
  let c16_i32_1160 : BitVec 32 := 16#32
  let v2059 : BitVec 32 := Scalar.andi v12 c16_i32_1160
  let v2060 : BitVec 32 := Scalar.addi v2051 v2059
  let c0_i32_1542 : BitVec 32 := 0#32
  let c0_i32_1543 : BitVec 32 := 0#32
  ![v2060.toNat, 0, 0]
def k0_cond159 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c8_i32_1161 : BitVec 32 := 8#32
  let v2061 : BitVec 32 := Scalar.andi v12 c8_i32_1161
  let c0_i32_1162 : BitVec 32 := 0#32
  let v2062 : BitVec 1 := Scalar.cmpi .ne v2061 c0_i32_1162
  let v2063 : BitVec 1 := Scalar.andi v9 v2062
  let v2064 : BitVec 32 := Scalar.extui v2063
  let c0_i32_1163 : BitVec 32 := 0#32
  let v2065 : BitVec 1 := Scalar.cmpi .ne v2064 c0_i32_1163
  v2065

def k0_off269 (d0 : Dev nD) (v8 : BitVec 32) : Fin 3 → Nat :=
  let c0_i32_1124 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1123 : BitVec 32 := 2048#32
  let v1994 : BitVec 32 := Scalar.andi v12 c2048_i32_1123
  let v1995 : BitVec 32 := Scalar.addi c0_i32_1124 v1994
  let c1024_i32_1129 : BitVec 32 := 1024#32
  let v2003 : BitVec 32 := Scalar.andi v12 c1024_i32_1129
  let v2004 : BitVec 32 := Scalar.addi v1995 v2003
  let c512_i32_1134 : BitVec 32 := 512#32
  let v2012 : BitVec 32 := Scalar.andi v12 c512_i32_1134
  let v2013 : BitVec 32 := Scalar.addi v2004 v2012
  let c256_i32_1139 : BitVec 32 := 256#32
  let v2021 : BitVec 32 := Scalar.andi v12 c256_i32_1139
  let v2022 : BitVec 32 := Scalar.addi v2013 v2021
  let c128_i32_1144 : BitVec 32 := 128#32
  let v2030 : BitVec 32 := Scalar.andi v12 c128_i32_1144
  let v2031 : BitVec 32 := Scalar.addi v2022 v2030
  let c64_i32_1149 : BitVec 32 := 64#32
  let v2039 : BitVec 32 := Scalar.andi v12 c64_i32_1149
  let v2040 : BitVec 32 := Scalar.addi v2031 v2039
  let c32_i32_1154 : BitVec 32 := 32#32
  let v2048 : BitVec 32 := Scalar.andi v12 c32_i32_1154
  let v2049 : BitVec 32 := Scalar.addi v2040 v2048
  let c16_i32_1159 : BitVec 32 := 16#32
  let v2057 : BitVec 32 := Scalar.andi v12 c16_i32_1159
  let v2058 : BitVec 32 := Scalar.addi v2049 v2057
  let c0_i32_1544 : BitVec 32 := 0#32
  let c0_i32_1545 : BitVec 32 := 0#32
  ![v2058.toNat, 0, 0]
def k0_off270 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1125 : BitVec 32 := 2048#32
  let v1996 : BitVec 32 := Scalar.andi v12 c2048_i32_1125
  let v1997 : BitVec 32 := Scalar.addi v17 v1996
  let c1024_i32_1130 : BitVec 32 := 1024#32
  let v2005 : BitVec 32 := Scalar.andi v12 c1024_i32_1130
  let v2006 : BitVec 32 := Scalar.addi v1997 v2005
  let c512_i32_1135 : BitVec 32 := 512#32
  let v2014 : BitVec 32 := Scalar.andi v12 c512_i32_1135
  let v2015 : BitVec 32 := Scalar.addi v2006 v2014
  let c256_i32_1140 : BitVec 32 := 256#32
  let v2023 : BitVec 32 := Scalar.andi v12 c256_i32_1140
  let v2024 : BitVec 32 := Scalar.addi v2015 v2023
  let c128_i32_1145 : BitVec 32 := 128#32
  let v2032 : BitVec 32 := Scalar.andi v12 c128_i32_1145
  let v2033 : BitVec 32 := Scalar.addi v2024 v2032
  let c64_i32_1150 : BitVec 32 := 64#32
  let v2041 : BitVec 32 := Scalar.andi v12 c64_i32_1150
  let v2042 : BitVec 32 := Scalar.addi v2033 v2041
  let c32_i32_1155 : BitVec 32 := 32#32
  let v2050 : BitVec 32 := Scalar.andi v12 c32_i32_1155
  let v2051 : BitVec 32 := Scalar.addi v2042 v2050
  let c16_i32_1160 : BitVec 32 := 16#32
  let v2059 : BitVec 32 := Scalar.andi v12 c16_i32_1160
  let v2060 : BitVec 32 := Scalar.addi v2051 v2059
  let c8_i32_1165 : BitVec 32 := 8#32
  let v2068 : BitVec 32 := Scalar.andi v12 c8_i32_1165
  let v2069 : BitVec 32 := Scalar.addi v2060 v2068
  let c0_i32_1541 : BitVec 32 := 0#32
  let c0_i32_1542 : BitVec 32 := 0#32
  ![v2069.toNat, 0, 0]
def k0_cond160 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c4_i32_1166 : BitVec 32 := 4#32
  let v2070 : BitVec 32 := Scalar.andi v12 c4_i32_1166
  let c0_i32_1167 : BitVec 32 := 0#32
  let v2071 : BitVec 1 := Scalar.cmpi .ne v2070 c0_i32_1167
  let v2072 : BitVec 1 := Scalar.andi v9 v2071
  let v2073 : BitVec 32 := Scalar.extui v2072
  let c0_i32_1168 : BitVec 32 := 0#32
  let v2074 : BitVec 1 := Scalar.cmpi .ne v2073 c0_i32_1168
  v2074

def k0_off271 (d0 : Dev nD) (v8 : BitVec 32) : Fin 3 → Nat :=
  let c0_i32_1124 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1123 : BitVec 32 := 2048#32
  let v1994 : BitVec 32 := Scalar.andi v12 c2048_i32_1123
  let v1995 : BitVec 32 := Scalar.addi c0_i32_1124 v1994
  let c1024_i32_1129 : BitVec 32 := 1024#32
  let v2003 : BitVec 32 := Scalar.andi v12 c1024_i32_1129
  let v2004 : BitVec 32 := Scalar.addi v1995 v2003
  let c512_i32_1134 : BitVec 32 := 512#32
  let v2012 : BitVec 32 := Scalar.andi v12 c512_i32_1134
  let v2013 : BitVec 32 := Scalar.addi v2004 v2012
  let c256_i32_1139 : BitVec 32 := 256#32
  let v2021 : BitVec 32 := Scalar.andi v12 c256_i32_1139
  let v2022 : BitVec 32 := Scalar.addi v2013 v2021
  let c128_i32_1144 : BitVec 32 := 128#32
  let v2030 : BitVec 32 := Scalar.andi v12 c128_i32_1144
  let v2031 : BitVec 32 := Scalar.addi v2022 v2030
  let c64_i32_1149 : BitVec 32 := 64#32
  let v2039 : BitVec 32 := Scalar.andi v12 c64_i32_1149
  let v2040 : BitVec 32 := Scalar.addi v2031 v2039
  let c32_i32_1154 : BitVec 32 := 32#32
  let v2048 : BitVec 32 := Scalar.andi v12 c32_i32_1154
  let v2049 : BitVec 32 := Scalar.addi v2040 v2048
  let c16_i32_1159 : BitVec 32 := 16#32
  let v2057 : BitVec 32 := Scalar.andi v12 c16_i32_1159
  let v2058 : BitVec 32 := Scalar.addi v2049 v2057
  let c8_i32_1164 : BitVec 32 := 8#32
  let v2066 : BitVec 32 := Scalar.andi v12 c8_i32_1164
  let v2067 : BitVec 32 := Scalar.addi v2058 v2066
  let c0_i32_1543 : BitVec 32 := 0#32
  let c0_i32_1544 : BitVec 32 := 0#32
  ![v2067.toNat, 0, 0]
def k0_off272 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1125 : BitVec 32 := 2048#32
  let v1996 : BitVec 32 := Scalar.andi v12 c2048_i32_1125
  let v1997 : BitVec 32 := Scalar.addi v17 v1996
  let c1024_i32_1130 : BitVec 32 := 1024#32
  let v2005 : BitVec 32 := Scalar.andi v12 c1024_i32_1130
  let v2006 : BitVec 32 := Scalar.addi v1997 v2005
  let c512_i32_1135 : BitVec 32 := 512#32
  let v2014 : BitVec 32 := Scalar.andi v12 c512_i32_1135
  let v2015 : BitVec 32 := Scalar.addi v2006 v2014
  let c256_i32_1140 : BitVec 32 := 256#32
  let v2023 : BitVec 32 := Scalar.andi v12 c256_i32_1140
  let v2024 : BitVec 32 := Scalar.addi v2015 v2023
  let c128_i32_1145 : BitVec 32 := 128#32
  let v2032 : BitVec 32 := Scalar.andi v12 c128_i32_1145
  let v2033 : BitVec 32 := Scalar.addi v2024 v2032
  let c64_i32_1150 : BitVec 32 := 64#32
  let v2041 : BitVec 32 := Scalar.andi v12 c64_i32_1150
  let v2042 : BitVec 32 := Scalar.addi v2033 v2041
  let c32_i32_1155 : BitVec 32 := 32#32
  let v2050 : BitVec 32 := Scalar.andi v12 c32_i32_1155
  let v2051 : BitVec 32 := Scalar.addi v2042 v2050
  let c16_i32_1160 : BitVec 32 := 16#32
  let v2059 : BitVec 32 := Scalar.andi v12 c16_i32_1160
  let v2060 : BitVec 32 := Scalar.addi v2051 v2059
  let c8_i32_1165 : BitVec 32 := 8#32
  let v2068 : BitVec 32 := Scalar.andi v12 c8_i32_1165
  let v2069 : BitVec 32 := Scalar.addi v2060 v2068
  let c4_i32_1170 : BitVec 32 := 4#32
  let v2077 : BitVec 32 := Scalar.andi v12 c4_i32_1170
  let v2078 : BitVec 32 := Scalar.addi v2069 v2077
  let c0_i32_1541 : BitVec 32 := 0#32
  let c0_i32_1542 : BitVec 32 := 0#32
  ![v2078.toNat, 0, 0]
def k0_cond161 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c2_i32_1171 : BitVec 32 := 2#32
  let v2079 : BitVec 32 := Scalar.andi v12 c2_i32_1171
  let c0_i32_1172 : BitVec 32 := 0#32
  let v2080 : BitVec 1 := Scalar.cmpi .ne v2079 c0_i32_1172
  let v2081 : BitVec 1 := Scalar.andi v9 v2080
  let v2082 : BitVec 32 := Scalar.extui v2081
  let c0_i32_1173 : BitVec 32 := 0#32
  let v2083 : BitVec 1 := Scalar.cmpi .ne v2082 c0_i32_1173
  v2083

def k0_off273 (d0 : Dev nD) (v8 : BitVec 32) : Fin 3 → Nat :=
  let c0_i32_1124 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1123 : BitVec 32 := 2048#32
  let v1994 : BitVec 32 := Scalar.andi v12 c2048_i32_1123
  let v1995 : BitVec 32 := Scalar.addi c0_i32_1124 v1994
  let c1024_i32_1129 : BitVec 32 := 1024#32
  let v2003 : BitVec 32 := Scalar.andi v12 c1024_i32_1129
  let v2004 : BitVec 32 := Scalar.addi v1995 v2003
  let c512_i32_1134 : BitVec 32 := 512#32
  let v2012 : BitVec 32 := Scalar.andi v12 c512_i32_1134
  let v2013 : BitVec 32 := Scalar.addi v2004 v2012
  let c256_i32_1139 : BitVec 32 := 256#32
  let v2021 : BitVec 32 := Scalar.andi v12 c256_i32_1139
  let v2022 : BitVec 32 := Scalar.addi v2013 v2021
  let c128_i32_1144 : BitVec 32 := 128#32
  let v2030 : BitVec 32 := Scalar.andi v12 c128_i32_1144
  let v2031 : BitVec 32 := Scalar.addi v2022 v2030
  let c64_i32_1149 : BitVec 32 := 64#32
  let v2039 : BitVec 32 := Scalar.andi v12 c64_i32_1149
  let v2040 : BitVec 32 := Scalar.addi v2031 v2039
  let c32_i32_1154 : BitVec 32 := 32#32
  let v2048 : BitVec 32 := Scalar.andi v12 c32_i32_1154
  let v2049 : BitVec 32 := Scalar.addi v2040 v2048
  let c16_i32_1159 : BitVec 32 := 16#32
  let v2057 : BitVec 32 := Scalar.andi v12 c16_i32_1159
  let v2058 : BitVec 32 := Scalar.addi v2049 v2057
  let c8_i32_1164 : BitVec 32 := 8#32
  let v2066 : BitVec 32 := Scalar.andi v12 c8_i32_1164
  let v2067 : BitVec 32 := Scalar.addi v2058 v2066
  let c4_i32_1169 : BitVec 32 := 4#32
  let v2075 : BitVec 32 := Scalar.andi v12 c4_i32_1169
  let v2076 : BitVec 32 := Scalar.addi v2067 v2075
  let c0_i32_1543 : BitVec 32 := 0#32
  let c0_i32_1544 : BitVec 32 := 0#32
  ![v2076.toNat, 0, 0]
def k0_off274 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1125 : BitVec 32 := 2048#32
  let v1996 : BitVec 32 := Scalar.andi v12 c2048_i32_1125
  let v1997 : BitVec 32 := Scalar.addi v17 v1996
  let c1024_i32_1130 : BitVec 32 := 1024#32
  let v2005 : BitVec 32 := Scalar.andi v12 c1024_i32_1130
  let v2006 : BitVec 32 := Scalar.addi v1997 v2005
  let c512_i32_1135 : BitVec 32 := 512#32
  let v2014 : BitVec 32 := Scalar.andi v12 c512_i32_1135
  let v2015 : BitVec 32 := Scalar.addi v2006 v2014
  let c256_i32_1140 : BitVec 32 := 256#32
  let v2023 : BitVec 32 := Scalar.andi v12 c256_i32_1140
  let v2024 : BitVec 32 := Scalar.addi v2015 v2023
  let c128_i32_1145 : BitVec 32 := 128#32
  let v2032 : BitVec 32 := Scalar.andi v12 c128_i32_1145
  let v2033 : BitVec 32 := Scalar.addi v2024 v2032
  let c64_i32_1150 : BitVec 32 := 64#32
  let v2041 : BitVec 32 := Scalar.andi v12 c64_i32_1150
  let v2042 : BitVec 32 := Scalar.addi v2033 v2041
  let c32_i32_1155 : BitVec 32 := 32#32
  let v2050 : BitVec 32 := Scalar.andi v12 c32_i32_1155
  let v2051 : BitVec 32 := Scalar.addi v2042 v2050
  let c16_i32_1160 : BitVec 32 := 16#32
  let v2059 : BitVec 32 := Scalar.andi v12 c16_i32_1160
  let v2060 : BitVec 32 := Scalar.addi v2051 v2059
  let c8_i32_1165 : BitVec 32 := 8#32
  let v2068 : BitVec 32 := Scalar.andi v12 c8_i32_1165
  let v2069 : BitVec 32 := Scalar.addi v2060 v2068
  let c4_i32_1170 : BitVec 32 := 4#32
  let v2077 : BitVec 32 := Scalar.andi v12 c4_i32_1170
  let v2078 : BitVec 32 := Scalar.addi v2069 v2077
  let c2_i32_1175 : BitVec 32 := 2#32
  let v2086 : BitVec 32 := Scalar.andi v12 c2_i32_1175
  let v2087 : BitVec 32 := Scalar.addi v2078 v2086
  let c0_i32_1541 : BitVec 32 := 0#32
  let c0_i32_1542 : BitVec 32 := 0#32
  ![v2087.toNat, 0, 0]
def k0_cond162 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c1_i32_1176 : BitVec 32 := 1#32
  let v2088 : BitVec 32 := Scalar.andi v12 c1_i32_1176
  let c0_i32_1177 : BitVec 32 := 0#32
  let v2089 : BitVec 1 := Scalar.cmpi .ne v2088 c0_i32_1177
  let v2090 : BitVec 1 := Scalar.andi v9 v2089
  let v2091 : BitVec 32 := Scalar.extui v2090
  let c0_i32_1178 : BitVec 32 := 0#32
  let v2092 : BitVec 1 := Scalar.cmpi .ne v2091 c0_i32_1178
  v2092

def k0_off275 (d0 : Dev nD) (v8 : BitVec 32) : Fin 3 → Nat :=
  let c0_i32_1124 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1123 : BitVec 32 := 2048#32
  let v1994 : BitVec 32 := Scalar.andi v12 c2048_i32_1123
  let v1995 : BitVec 32 := Scalar.addi c0_i32_1124 v1994
  let c1024_i32_1129 : BitVec 32 := 1024#32
  let v2003 : BitVec 32 := Scalar.andi v12 c1024_i32_1129
  let v2004 : BitVec 32 := Scalar.addi v1995 v2003
  let c512_i32_1134 : BitVec 32 := 512#32
  let v2012 : BitVec 32 := Scalar.andi v12 c512_i32_1134
  let v2013 : BitVec 32 := Scalar.addi v2004 v2012
  let c256_i32_1139 : BitVec 32 := 256#32
  let v2021 : BitVec 32 := Scalar.andi v12 c256_i32_1139
  let v2022 : BitVec 32 := Scalar.addi v2013 v2021
  let c128_i32_1144 : BitVec 32 := 128#32
  let v2030 : BitVec 32 := Scalar.andi v12 c128_i32_1144
  let v2031 : BitVec 32 := Scalar.addi v2022 v2030
  let c64_i32_1149 : BitVec 32 := 64#32
  let v2039 : BitVec 32 := Scalar.andi v12 c64_i32_1149
  let v2040 : BitVec 32 := Scalar.addi v2031 v2039
  let c32_i32_1154 : BitVec 32 := 32#32
  let v2048 : BitVec 32 := Scalar.andi v12 c32_i32_1154
  let v2049 : BitVec 32 := Scalar.addi v2040 v2048
  let c16_i32_1159 : BitVec 32 := 16#32
  let v2057 : BitVec 32 := Scalar.andi v12 c16_i32_1159
  let v2058 : BitVec 32 := Scalar.addi v2049 v2057
  let c8_i32_1164 : BitVec 32 := 8#32
  let v2066 : BitVec 32 := Scalar.andi v12 c8_i32_1164
  let v2067 : BitVec 32 := Scalar.addi v2058 v2066
  let c4_i32_1169 : BitVec 32 := 4#32
  let v2075 : BitVec 32 := Scalar.andi v12 c4_i32_1169
  let v2076 : BitVec 32 := Scalar.addi v2067 v2075
  let c2_i32_1174 : BitVec 32 := 2#32
  let v2084 : BitVec 32 := Scalar.andi v12 c2_i32_1174
  let v2085 : BitVec 32 := Scalar.addi v2076 v2084
  let c0_i32_1543 : BitVec 32 := 0#32
  let c0_i32_1544 : BitVec 32 := 0#32
  ![v2085.toNat, 0, 0]
def k0_off276 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c0_i32_1542 : BitVec 32 := 0#32
  let c0_i32_1543 : BitVec 32 := 0#32
  ![v17.toNat, 0, 0]
def k0_cond163 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1118 : BitVec 1 := 1#1
  let v1988 : BitVec 1 := Scalar.xori v9 true_1118
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1179 : BitVec 32 := 2048#32
  let v2093 : BitVec 32 := Scalar.andi v12 c2048_i32_1179
  let c0_i32_1180 : BitVec 32 := 0#32
  let v2094 : BitVec 1 := Scalar.cmpi .ne v2093 c0_i32_1180
  let v2095 : BitVec 1 := Scalar.andi v1988 v2094
  let v2096 : BitVec 32 := Scalar.extui v2095
  let c0_i32_1182 : BitVec 32 := 0#32
  let v2097 : BitVec 1 := Scalar.cmpi .ne v2096 c0_i32_1182
  v2097

def k0_off277 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1185 : BitVec 32 := 2048#32
  let v2100 : BitVec 32 := Scalar.andi v12 c2048_i32_1185
  let v2101 : BitVec 32 := Scalar.addi v17 v2100
  let c0_i32_1542 : BitVec 32 := 0#32
  let c0_i32_1543 : BitVec 32 := 0#32
  ![v2101.toNat, 0, 0]
def k0_cond164 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1118 : BitVec 1 := 1#1
  let v1988 : BitVec 1 := Scalar.xori v9 true_1118
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c1024_i32_1186 : BitVec 32 := 1024#32
  let v2102 : BitVec 32 := Scalar.andi v12 c1024_i32_1186
  let c0_i32_1187 : BitVec 32 := 0#32
  let v2103 : BitVec 1 := Scalar.cmpi .ne v2102 c0_i32_1187
  let v2104 : BitVec 1 := Scalar.andi v1988 v2103
  let v2105 : BitVec 32 := Scalar.extui v2104
  let c0_i32_1188 : BitVec 32 := 0#32
  let v2106 : BitVec 1 := Scalar.cmpi .ne v2105 c0_i32_1188
  v2106

def k0_off278 (d0 : Dev nD) (v8 : BitVec 32) : Fin 3 → Nat :=
  let c0_i32_1184 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1183 : BitVec 32 := 2048#32
  let v2098 : BitVec 32 := Scalar.andi v12 c2048_i32_1183
  let v2099 : BitVec 32 := Scalar.addi c0_i32_1184 v2098
  let c0_i32_1544 : BitVec 32 := 0#32
  let c0_i32_1545 : BitVec 32 := 0#32
  ![v2099.toNat, 0, 0]
def k0_off279 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1185 : BitVec 32 := 2048#32
  let v2100 : BitVec 32 := Scalar.andi v12 c2048_i32_1185
  let v2101 : BitVec 32 := Scalar.addi v17 v2100
  let c1024_i32_1190 : BitVec 32 := 1024#32
  let v2109 : BitVec 32 := Scalar.andi v12 c1024_i32_1190
  let v2110 : BitVec 32 := Scalar.addi v2101 v2109
  let c0_i32_1542 : BitVec 32 := 0#32
  let c0_i32_1543 : BitVec 32 := 0#32
  ![v2110.toNat, 0, 0]
def k0_cond165 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1118 : BitVec 1 := 1#1
  let v1988 : BitVec 1 := Scalar.xori v9 true_1118
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c512_i32_1191 : BitVec 32 := 512#32
  let v2111 : BitVec 32 := Scalar.andi v12 c512_i32_1191
  let c0_i32_1192 : BitVec 32 := 0#32
  let v2112 : BitVec 1 := Scalar.cmpi .ne v2111 c0_i32_1192
  let v2113 : BitVec 1 := Scalar.andi v1988 v2112
  let v2114 : BitVec 32 := Scalar.extui v2113
  let c0_i32_1193 : BitVec 32 := 0#32
  let v2115 : BitVec 1 := Scalar.cmpi .ne v2114 c0_i32_1193
  v2115

def k0_off280 (d0 : Dev nD) (v8 : BitVec 32) : Fin 3 → Nat :=
  let c0_i32_1184 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1183 : BitVec 32 := 2048#32
  let v2098 : BitVec 32 := Scalar.andi v12 c2048_i32_1183
  let v2099 : BitVec 32 := Scalar.addi c0_i32_1184 v2098
  let c1024_i32_1189 : BitVec 32 := 1024#32
  let v2107 : BitVec 32 := Scalar.andi v12 c1024_i32_1189
  let v2108 : BitVec 32 := Scalar.addi v2099 v2107
  let c0_i32_1544 : BitVec 32 := 0#32
  let c0_i32_1545 : BitVec 32 := 0#32
  ![v2108.toNat, 0, 0]
def k0_off281 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1185 : BitVec 32 := 2048#32
  let v2100 : BitVec 32 := Scalar.andi v12 c2048_i32_1185
  let v2101 : BitVec 32 := Scalar.addi v17 v2100
  let c1024_i32_1190 : BitVec 32 := 1024#32
  let v2109 : BitVec 32 := Scalar.andi v12 c1024_i32_1190
  let v2110 : BitVec 32 := Scalar.addi v2101 v2109
  let c512_i32_1195 : BitVec 32 := 512#32
  let v2118 : BitVec 32 := Scalar.andi v12 c512_i32_1195
  let v2119 : BitVec 32 := Scalar.addi v2110 v2118
  let c0_i32_1542 : BitVec 32 := 0#32
  let c0_i32_1543 : BitVec 32 := 0#32
  ![v2119.toNat, 0, 0]
def k0_cond166 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1118 : BitVec 1 := 1#1
  let v1988 : BitVec 1 := Scalar.xori v9 true_1118
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c256_i32_1196 : BitVec 32 := 256#32
  let v2120 : BitVec 32 := Scalar.andi v12 c256_i32_1196
  let c0_i32_1197 : BitVec 32 := 0#32
  let v2121 : BitVec 1 := Scalar.cmpi .ne v2120 c0_i32_1197
  let v2122 : BitVec 1 := Scalar.andi v1988 v2121
  let v2123 : BitVec 32 := Scalar.extui v2122
  let c0_i32_1198 : BitVec 32 := 0#32
  let v2124 : BitVec 1 := Scalar.cmpi .ne v2123 c0_i32_1198
  v2124

def k0_off282 (d0 : Dev nD) (v8 : BitVec 32) : Fin 3 → Nat :=
  let c0_i32_1184 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1183 : BitVec 32 := 2048#32
  let v2098 : BitVec 32 := Scalar.andi v12 c2048_i32_1183
  let v2099 : BitVec 32 := Scalar.addi c0_i32_1184 v2098
  let c1024_i32_1189 : BitVec 32 := 1024#32
  let v2107 : BitVec 32 := Scalar.andi v12 c1024_i32_1189
  let v2108 : BitVec 32 := Scalar.addi v2099 v2107
  let c512_i32_1194 : BitVec 32 := 512#32
  let v2116 : BitVec 32 := Scalar.andi v12 c512_i32_1194
  let v2117 : BitVec 32 := Scalar.addi v2108 v2116
  let c0_i32_1544 : BitVec 32 := 0#32
  let c0_i32_1545 : BitVec 32 := 0#32
  ![v2117.toNat, 0, 0]
def k0_off283 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1185 : BitVec 32 := 2048#32
  let v2100 : BitVec 32 := Scalar.andi v12 c2048_i32_1185
  let v2101 : BitVec 32 := Scalar.addi v17 v2100
  let c1024_i32_1190 : BitVec 32 := 1024#32
  let v2109 : BitVec 32 := Scalar.andi v12 c1024_i32_1190
  let v2110 : BitVec 32 := Scalar.addi v2101 v2109
  let c512_i32_1195 : BitVec 32 := 512#32
  let v2118 : BitVec 32 := Scalar.andi v12 c512_i32_1195
  let v2119 : BitVec 32 := Scalar.addi v2110 v2118
  let c256_i32_1200 : BitVec 32 := 256#32
  let v2127 : BitVec 32 := Scalar.andi v12 c256_i32_1200
  let v2128 : BitVec 32 := Scalar.addi v2119 v2127
  let c0_i32_1542 : BitVec 32 := 0#32
  let c0_i32_1543 : BitVec 32 := 0#32
  ![v2128.toNat, 0, 0]
def k0_cond167 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1118 : BitVec 1 := 1#1
  let v1988 : BitVec 1 := Scalar.xori v9 true_1118
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c128_i32_1201 : BitVec 32 := 128#32
  let v2129 : BitVec 32 := Scalar.andi v12 c128_i32_1201
  let c0_i32_1202 : BitVec 32 := 0#32
  let v2130 : BitVec 1 := Scalar.cmpi .ne v2129 c0_i32_1202
  let v2131 : BitVec 1 := Scalar.andi v1988 v2130
  let v2132 : BitVec 32 := Scalar.extui v2131
  let c0_i32_1203 : BitVec 32 := 0#32
  let v2133 : BitVec 1 := Scalar.cmpi .ne v2132 c0_i32_1203
  v2133

def k0_off284 (d0 : Dev nD) (v8 : BitVec 32) : Fin 3 → Nat :=
  let c0_i32_1184 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1183 : BitVec 32 := 2048#32
  let v2098 : BitVec 32 := Scalar.andi v12 c2048_i32_1183
  let v2099 : BitVec 32 := Scalar.addi c0_i32_1184 v2098
  let c1024_i32_1189 : BitVec 32 := 1024#32
  let v2107 : BitVec 32 := Scalar.andi v12 c1024_i32_1189
  let v2108 : BitVec 32 := Scalar.addi v2099 v2107
  let c512_i32_1194 : BitVec 32 := 512#32
  let v2116 : BitVec 32 := Scalar.andi v12 c512_i32_1194
  let v2117 : BitVec 32 := Scalar.addi v2108 v2116
  let c256_i32_1199 : BitVec 32 := 256#32
  let v2125 : BitVec 32 := Scalar.andi v12 c256_i32_1199
  let v2126 : BitVec 32 := Scalar.addi v2117 v2125
  let c0_i32_1544 : BitVec 32 := 0#32
  let c0_i32_1545 : BitVec 32 := 0#32
  ![v2126.toNat, 0, 0]
def k0_off285 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1185 : BitVec 32 := 2048#32
  let v2100 : BitVec 32 := Scalar.andi v12 c2048_i32_1185
  let v2101 : BitVec 32 := Scalar.addi v17 v2100
  let c1024_i32_1190 : BitVec 32 := 1024#32
  let v2109 : BitVec 32 := Scalar.andi v12 c1024_i32_1190
  let v2110 : BitVec 32 := Scalar.addi v2101 v2109
  let c512_i32_1195 : BitVec 32 := 512#32
  let v2118 : BitVec 32 := Scalar.andi v12 c512_i32_1195
  let v2119 : BitVec 32 := Scalar.addi v2110 v2118
  let c256_i32_1200 : BitVec 32 := 256#32
  let v2127 : BitVec 32 := Scalar.andi v12 c256_i32_1200
  let v2128 : BitVec 32 := Scalar.addi v2119 v2127
  let c128_i32_1205 : BitVec 32 := 128#32
  let v2136 : BitVec 32 := Scalar.andi v12 c128_i32_1205
  let v2137 : BitVec 32 := Scalar.addi v2128 v2136
  let c0_i32_1542 : BitVec 32 := 0#32
  let c0_i32_1543 : BitVec 32 := 0#32
  ![v2137.toNat, 0, 0]
def k0_cond168 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1118 : BitVec 1 := 1#1
  let v1988 : BitVec 1 := Scalar.xori v9 true_1118
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c64_i32_1206 : BitVec 32 := 64#32
  let v2138 : BitVec 32 := Scalar.andi v12 c64_i32_1206
  let c0_i32_1207 : BitVec 32 := 0#32
  let v2139 : BitVec 1 := Scalar.cmpi .ne v2138 c0_i32_1207
  let v2140 : BitVec 1 := Scalar.andi v1988 v2139
  let v2141 : BitVec 32 := Scalar.extui v2140
  let c0_i32_1208 : BitVec 32 := 0#32
  let v2142 : BitVec 1 := Scalar.cmpi .ne v2141 c0_i32_1208
  v2142

def k0_off286 (d0 : Dev nD) (v8 : BitVec 32) : Fin 3 → Nat :=
  let c0_i32_1184 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1183 : BitVec 32 := 2048#32
  let v2098 : BitVec 32 := Scalar.andi v12 c2048_i32_1183
  let v2099 : BitVec 32 := Scalar.addi c0_i32_1184 v2098
  let c1024_i32_1189 : BitVec 32 := 1024#32
  let v2107 : BitVec 32 := Scalar.andi v12 c1024_i32_1189
  let v2108 : BitVec 32 := Scalar.addi v2099 v2107
  let c512_i32_1194 : BitVec 32 := 512#32
  let v2116 : BitVec 32 := Scalar.andi v12 c512_i32_1194
  let v2117 : BitVec 32 := Scalar.addi v2108 v2116
  let c256_i32_1199 : BitVec 32 := 256#32
  let v2125 : BitVec 32 := Scalar.andi v12 c256_i32_1199
  let v2126 : BitVec 32 := Scalar.addi v2117 v2125
  let c128_i32_1204 : BitVec 32 := 128#32
  let v2134 : BitVec 32 := Scalar.andi v12 c128_i32_1204
  let v2135 : BitVec 32 := Scalar.addi v2126 v2134
  let c0_i32_1544 : BitVec 32 := 0#32
  let c0_i32_1545 : BitVec 32 := 0#32
  ![v2135.toNat, 0, 0]
def k0_off287 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1185 : BitVec 32 := 2048#32
  let v2100 : BitVec 32 := Scalar.andi v12 c2048_i32_1185
  let v2101 : BitVec 32 := Scalar.addi v17 v2100
  let c1024_i32_1190 : BitVec 32 := 1024#32
  let v2109 : BitVec 32 := Scalar.andi v12 c1024_i32_1190
  let v2110 : BitVec 32 := Scalar.addi v2101 v2109
  let c512_i32_1195 : BitVec 32 := 512#32
  let v2118 : BitVec 32 := Scalar.andi v12 c512_i32_1195
  let v2119 : BitVec 32 := Scalar.addi v2110 v2118
  let c256_i32_1200 : BitVec 32 := 256#32
  let v2127 : BitVec 32 := Scalar.andi v12 c256_i32_1200
  let v2128 : BitVec 32 := Scalar.addi v2119 v2127
  let c128_i32_1205 : BitVec 32 := 128#32
  let v2136 : BitVec 32 := Scalar.andi v12 c128_i32_1205
  let v2137 : BitVec 32 := Scalar.addi v2128 v2136
  let c64_i32_1210 : BitVec 32 := 64#32
  let v2145 : BitVec 32 := Scalar.andi v12 c64_i32_1210
  let v2146 : BitVec 32 := Scalar.addi v2137 v2145
  let c0_i32_1542 : BitVec 32 := 0#32
  let c0_i32_1543 : BitVec 32 := 0#32
  ![v2146.toNat, 0, 0]
def k0_cond169 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1118 : BitVec 1 := 1#1
  let v1988 : BitVec 1 := Scalar.xori v9 true_1118
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c32_i32_1211 : BitVec 32 := 32#32
  let v2147 : BitVec 32 := Scalar.andi v12 c32_i32_1211
  let c0_i32_1212 : BitVec 32 := 0#32
  let v2148 : BitVec 1 := Scalar.cmpi .ne v2147 c0_i32_1212
  let v2149 : BitVec 1 := Scalar.andi v1988 v2148
  let v2150 : BitVec 32 := Scalar.extui v2149
  let c0_i32_1213 : BitVec 32 := 0#32
  let v2151 : BitVec 1 := Scalar.cmpi .ne v2150 c0_i32_1213
  v2151

def k0_off288 (d0 : Dev nD) (v8 : BitVec 32) : Fin 3 → Nat :=
  let c0_i32_1184 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1183 : BitVec 32 := 2048#32
  let v2098 : BitVec 32 := Scalar.andi v12 c2048_i32_1183
  let v2099 : BitVec 32 := Scalar.addi c0_i32_1184 v2098
  let c1024_i32_1189 : BitVec 32 := 1024#32
  let v2107 : BitVec 32 := Scalar.andi v12 c1024_i32_1189
  let v2108 : BitVec 32 := Scalar.addi v2099 v2107
  let c512_i32_1194 : BitVec 32 := 512#32
  let v2116 : BitVec 32 := Scalar.andi v12 c512_i32_1194
  let v2117 : BitVec 32 := Scalar.addi v2108 v2116
  let c256_i32_1199 : BitVec 32 := 256#32
  let v2125 : BitVec 32 := Scalar.andi v12 c256_i32_1199
  let v2126 : BitVec 32 := Scalar.addi v2117 v2125
  let c128_i32_1204 : BitVec 32 := 128#32
  let v2134 : BitVec 32 := Scalar.andi v12 c128_i32_1204
  let v2135 : BitVec 32 := Scalar.addi v2126 v2134
  let c64_i32_1209 : BitVec 32 := 64#32
  let v2143 : BitVec 32 := Scalar.andi v12 c64_i32_1209
  let v2144 : BitVec 32 := Scalar.addi v2135 v2143
  let c0_i32_1544 : BitVec 32 := 0#32
  let c0_i32_1545 : BitVec 32 := 0#32
  ![v2144.toNat, 0, 0]
def k0_off289 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1185 : BitVec 32 := 2048#32
  let v2100 : BitVec 32 := Scalar.andi v12 c2048_i32_1185
  let v2101 : BitVec 32 := Scalar.addi v17 v2100
  let c1024_i32_1190 : BitVec 32 := 1024#32
  let v2109 : BitVec 32 := Scalar.andi v12 c1024_i32_1190
  let v2110 : BitVec 32 := Scalar.addi v2101 v2109
  let c512_i32_1195 : BitVec 32 := 512#32
  let v2118 : BitVec 32 := Scalar.andi v12 c512_i32_1195
  let v2119 : BitVec 32 := Scalar.addi v2110 v2118
  let c256_i32_1200 : BitVec 32 := 256#32
  let v2127 : BitVec 32 := Scalar.andi v12 c256_i32_1200
  let v2128 : BitVec 32 := Scalar.addi v2119 v2127
  let c128_i32_1205 : BitVec 32 := 128#32
  let v2136 : BitVec 32 := Scalar.andi v12 c128_i32_1205
  let v2137 : BitVec 32 := Scalar.addi v2128 v2136
  let c64_i32_1210 : BitVec 32 := 64#32
  let v2145 : BitVec 32 := Scalar.andi v12 c64_i32_1210
  let v2146 : BitVec 32 := Scalar.addi v2137 v2145
  let c32_i32_1215 : BitVec 32 := 32#32
  let v2154 : BitVec 32 := Scalar.andi v12 c32_i32_1215
  let v2155 : BitVec 32 := Scalar.addi v2146 v2154
  let c0_i32_1542 : BitVec 32 := 0#32
  let c0_i32_1543 : BitVec 32 := 0#32
  ![v2155.toNat, 0, 0]
def k0_cond170 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1118 : BitVec 1 := 1#1
  let v1988 : BitVec 1 := Scalar.xori v9 true_1118
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c16_i32_1216 : BitVec 32 := 16#32
  let v2156 : BitVec 32 := Scalar.andi v12 c16_i32_1216
  let c0_i32_1217 : BitVec 32 := 0#32
  let v2157 : BitVec 1 := Scalar.cmpi .ne v2156 c0_i32_1217
  let v2158 : BitVec 1 := Scalar.andi v1988 v2157
  let v2159 : BitVec 32 := Scalar.extui v2158
  let c0_i32_1218 : BitVec 32 := 0#32
  let v2160 : BitVec 1 := Scalar.cmpi .ne v2159 c0_i32_1218
  v2160

def k0_off290 (d0 : Dev nD) (v8 : BitVec 32) : Fin 3 → Nat :=
  let c0_i32_1184 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1183 : BitVec 32 := 2048#32
  let v2098 : BitVec 32 := Scalar.andi v12 c2048_i32_1183
  let v2099 : BitVec 32 := Scalar.addi c0_i32_1184 v2098
  let c1024_i32_1189 : BitVec 32 := 1024#32
  let v2107 : BitVec 32 := Scalar.andi v12 c1024_i32_1189
  let v2108 : BitVec 32 := Scalar.addi v2099 v2107
  let c512_i32_1194 : BitVec 32 := 512#32
  let v2116 : BitVec 32 := Scalar.andi v12 c512_i32_1194
  let v2117 : BitVec 32 := Scalar.addi v2108 v2116
  let c256_i32_1199 : BitVec 32 := 256#32
  let v2125 : BitVec 32 := Scalar.andi v12 c256_i32_1199
  let v2126 : BitVec 32 := Scalar.addi v2117 v2125
  let c128_i32_1204 : BitVec 32 := 128#32
  let v2134 : BitVec 32 := Scalar.andi v12 c128_i32_1204
  let v2135 : BitVec 32 := Scalar.addi v2126 v2134
  let c64_i32_1209 : BitVec 32 := 64#32
  let v2143 : BitVec 32 := Scalar.andi v12 c64_i32_1209
  let v2144 : BitVec 32 := Scalar.addi v2135 v2143
  let c32_i32_1214 : BitVec 32 := 32#32
  let v2152 : BitVec 32 := Scalar.andi v12 c32_i32_1214
  let v2153 : BitVec 32 := Scalar.addi v2144 v2152
  let c0_i32_1544 : BitVec 32 := 0#32
  let c0_i32_1545 : BitVec 32 := 0#32
  ![v2153.toNat, 0, 0]
def k0_off291 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1185 : BitVec 32 := 2048#32
  let v2100 : BitVec 32 := Scalar.andi v12 c2048_i32_1185
  let v2101 : BitVec 32 := Scalar.addi v17 v2100
  let c1024_i32_1190 : BitVec 32 := 1024#32
  let v2109 : BitVec 32 := Scalar.andi v12 c1024_i32_1190
  let v2110 : BitVec 32 := Scalar.addi v2101 v2109
  let c512_i32_1195 : BitVec 32 := 512#32
  let v2118 : BitVec 32 := Scalar.andi v12 c512_i32_1195
  let v2119 : BitVec 32 := Scalar.addi v2110 v2118
  let c256_i32_1200 : BitVec 32 := 256#32
  let v2127 : BitVec 32 := Scalar.andi v12 c256_i32_1200
  let v2128 : BitVec 32 := Scalar.addi v2119 v2127
  let c128_i32_1205 : BitVec 32 := 128#32
  let v2136 : BitVec 32 := Scalar.andi v12 c128_i32_1205
  let v2137 : BitVec 32 := Scalar.addi v2128 v2136
  let c64_i32_1210 : BitVec 32 := 64#32
  let v2145 : BitVec 32 := Scalar.andi v12 c64_i32_1210
  let v2146 : BitVec 32 := Scalar.addi v2137 v2145
  let c32_i32_1215 : BitVec 32 := 32#32
  let v2154 : BitVec 32 := Scalar.andi v12 c32_i32_1215
  let v2155 : BitVec 32 := Scalar.addi v2146 v2154
  let c16_i32_1220 : BitVec 32 := 16#32
  let v2163 : BitVec 32 := Scalar.andi v12 c16_i32_1220
  let v2164 : BitVec 32 := Scalar.addi v2155 v2163
  let c0_i32_1542 : BitVec 32 := 0#32
  let c0_i32_1543 : BitVec 32 := 0#32
  ![v2164.toNat, 0, 0]
def k0_cond171 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1118 : BitVec 1 := 1#1
  let v1988 : BitVec 1 := Scalar.xori v9 true_1118
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c8_i32_1221 : BitVec 32 := 8#32
  let v2165 : BitVec 32 := Scalar.andi v12 c8_i32_1221
  let c0_i32_1222 : BitVec 32 := 0#32
  let v2166 : BitVec 1 := Scalar.cmpi .ne v2165 c0_i32_1222
  let v2167 : BitVec 1 := Scalar.andi v1988 v2166
  let v2168 : BitVec 32 := Scalar.extui v2167
  let c0_i32_1223 : BitVec 32 := 0#32
  let v2169 : BitVec 1 := Scalar.cmpi .ne v2168 c0_i32_1223
  v2169

def k0_off292 (d0 : Dev nD) (v8 : BitVec 32) : Fin 3 → Nat :=
  let c0_i32_1184 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1183 : BitVec 32 := 2048#32
  let v2098 : BitVec 32 := Scalar.andi v12 c2048_i32_1183
  let v2099 : BitVec 32 := Scalar.addi c0_i32_1184 v2098
  let c1024_i32_1189 : BitVec 32 := 1024#32
  let v2107 : BitVec 32 := Scalar.andi v12 c1024_i32_1189
  let v2108 : BitVec 32 := Scalar.addi v2099 v2107
  let c512_i32_1194 : BitVec 32 := 512#32
  let v2116 : BitVec 32 := Scalar.andi v12 c512_i32_1194
  let v2117 : BitVec 32 := Scalar.addi v2108 v2116
  let c256_i32_1199 : BitVec 32 := 256#32
  let v2125 : BitVec 32 := Scalar.andi v12 c256_i32_1199
  let v2126 : BitVec 32 := Scalar.addi v2117 v2125
  let c128_i32_1204 : BitVec 32 := 128#32
  let v2134 : BitVec 32 := Scalar.andi v12 c128_i32_1204
  let v2135 : BitVec 32 := Scalar.addi v2126 v2134
  let c64_i32_1209 : BitVec 32 := 64#32
  let v2143 : BitVec 32 := Scalar.andi v12 c64_i32_1209
  let v2144 : BitVec 32 := Scalar.addi v2135 v2143
  let c32_i32_1214 : BitVec 32 := 32#32
  let v2152 : BitVec 32 := Scalar.andi v12 c32_i32_1214
  let v2153 : BitVec 32 := Scalar.addi v2144 v2152
  let c16_i32_1219 : BitVec 32 := 16#32
  let v2161 : BitVec 32 := Scalar.andi v12 c16_i32_1219
  let v2162 : BitVec 32 := Scalar.addi v2153 v2161
  let c0_i32_1544 : BitVec 32 := 0#32
  let c0_i32_1545 : BitVec 32 := 0#32
  ![v2162.toNat, 0, 0]
def k0_off293 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1185 : BitVec 32 := 2048#32
  let v2100 : BitVec 32 := Scalar.andi v12 c2048_i32_1185
  let v2101 : BitVec 32 := Scalar.addi v17 v2100
  let c1024_i32_1190 : BitVec 32 := 1024#32
  let v2109 : BitVec 32 := Scalar.andi v12 c1024_i32_1190
  let v2110 : BitVec 32 := Scalar.addi v2101 v2109
  let c512_i32_1195 : BitVec 32 := 512#32
  let v2118 : BitVec 32 := Scalar.andi v12 c512_i32_1195
  let v2119 : BitVec 32 := Scalar.addi v2110 v2118
  let c256_i32_1200 : BitVec 32 := 256#32
  let v2127 : BitVec 32 := Scalar.andi v12 c256_i32_1200
  let v2128 : BitVec 32 := Scalar.addi v2119 v2127
  let c128_i32_1205 : BitVec 32 := 128#32
  let v2136 : BitVec 32 := Scalar.andi v12 c128_i32_1205
  let v2137 : BitVec 32 := Scalar.addi v2128 v2136
  let c64_i32_1210 : BitVec 32 := 64#32
  let v2145 : BitVec 32 := Scalar.andi v12 c64_i32_1210
  let v2146 : BitVec 32 := Scalar.addi v2137 v2145
  let c32_i32_1215 : BitVec 32 := 32#32
  let v2154 : BitVec 32 := Scalar.andi v12 c32_i32_1215
  let v2155 : BitVec 32 := Scalar.addi v2146 v2154
  let c16_i32_1220 : BitVec 32 := 16#32
  let v2163 : BitVec 32 := Scalar.andi v12 c16_i32_1220
  let v2164 : BitVec 32 := Scalar.addi v2155 v2163
  let c8_i32_1225 : BitVec 32 := 8#32
  let v2172 : BitVec 32 := Scalar.andi v12 c8_i32_1225
  let v2173 : BitVec 32 := Scalar.addi v2164 v2172
  let c0_i32_1541 : BitVec 32 := 0#32
  let c0_i32_1542 : BitVec 32 := 0#32
  ![v2173.toNat, 0, 0]
def k0_cond172 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1118 : BitVec 1 := 1#1
  let v1988 : BitVec 1 := Scalar.xori v9 true_1118
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c4_i32_1226 : BitVec 32 := 4#32
  let v2174 : BitVec 32 := Scalar.andi v12 c4_i32_1226
  let c0_i32_1227 : BitVec 32 := 0#32
  let v2175 : BitVec 1 := Scalar.cmpi .ne v2174 c0_i32_1227
  let v2176 : BitVec 1 := Scalar.andi v1988 v2175
  let v2177 : BitVec 32 := Scalar.extui v2176
  let c0_i32_1228 : BitVec 32 := 0#32
  let v2178 : BitVec 1 := Scalar.cmpi .ne v2177 c0_i32_1228
  v2178

def k0_off294 (d0 : Dev nD) (v8 : BitVec 32) : Fin 3 → Nat :=
  let c0_i32_1184 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1183 : BitVec 32 := 2048#32
  let v2098 : BitVec 32 := Scalar.andi v12 c2048_i32_1183
  let v2099 : BitVec 32 := Scalar.addi c0_i32_1184 v2098
  let c1024_i32_1189 : BitVec 32 := 1024#32
  let v2107 : BitVec 32 := Scalar.andi v12 c1024_i32_1189
  let v2108 : BitVec 32 := Scalar.addi v2099 v2107
  let c512_i32_1194 : BitVec 32 := 512#32
  let v2116 : BitVec 32 := Scalar.andi v12 c512_i32_1194
  let v2117 : BitVec 32 := Scalar.addi v2108 v2116
  let c256_i32_1199 : BitVec 32 := 256#32
  let v2125 : BitVec 32 := Scalar.andi v12 c256_i32_1199
  let v2126 : BitVec 32 := Scalar.addi v2117 v2125
  let c128_i32_1204 : BitVec 32 := 128#32
  let v2134 : BitVec 32 := Scalar.andi v12 c128_i32_1204
  let v2135 : BitVec 32 := Scalar.addi v2126 v2134
  let c64_i32_1209 : BitVec 32 := 64#32
  let v2143 : BitVec 32 := Scalar.andi v12 c64_i32_1209
  let v2144 : BitVec 32 := Scalar.addi v2135 v2143
  let c32_i32_1214 : BitVec 32 := 32#32
  let v2152 : BitVec 32 := Scalar.andi v12 c32_i32_1214
  let v2153 : BitVec 32 := Scalar.addi v2144 v2152
  let c16_i32_1219 : BitVec 32 := 16#32
  let v2161 : BitVec 32 := Scalar.andi v12 c16_i32_1219
  let v2162 : BitVec 32 := Scalar.addi v2153 v2161
  let c8_i32_1224 : BitVec 32 := 8#32
  let v2170 : BitVec 32 := Scalar.andi v12 c8_i32_1224
  let v2171 : BitVec 32 := Scalar.addi v2162 v2170
  let c0_i32_1543 : BitVec 32 := 0#32
  let c0_i32_1544 : BitVec 32 := 0#32
  ![v2171.toNat, 0, 0]
def k0_off295 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1185 : BitVec 32 := 2048#32
  let v2100 : BitVec 32 := Scalar.andi v12 c2048_i32_1185
  let v2101 : BitVec 32 := Scalar.addi v17 v2100
  let c1024_i32_1190 : BitVec 32 := 1024#32
  let v2109 : BitVec 32 := Scalar.andi v12 c1024_i32_1190
  let v2110 : BitVec 32 := Scalar.addi v2101 v2109
  let c512_i32_1195 : BitVec 32 := 512#32
  let v2118 : BitVec 32 := Scalar.andi v12 c512_i32_1195
  let v2119 : BitVec 32 := Scalar.addi v2110 v2118
  let c256_i32_1200 : BitVec 32 := 256#32
  let v2127 : BitVec 32 := Scalar.andi v12 c256_i32_1200
  let v2128 : BitVec 32 := Scalar.addi v2119 v2127
  let c128_i32_1205 : BitVec 32 := 128#32
  let v2136 : BitVec 32 := Scalar.andi v12 c128_i32_1205
  let v2137 : BitVec 32 := Scalar.addi v2128 v2136
  let c64_i32_1210 : BitVec 32 := 64#32
  let v2145 : BitVec 32 := Scalar.andi v12 c64_i32_1210
  let v2146 : BitVec 32 := Scalar.addi v2137 v2145
  let c32_i32_1215 : BitVec 32 := 32#32
  let v2154 : BitVec 32 := Scalar.andi v12 c32_i32_1215
  let v2155 : BitVec 32 := Scalar.addi v2146 v2154
  let c16_i32_1220 : BitVec 32 := 16#32
  let v2163 : BitVec 32 := Scalar.andi v12 c16_i32_1220
  let v2164 : BitVec 32 := Scalar.addi v2155 v2163
  let c8_i32_1225 : BitVec 32 := 8#32
  let v2172 : BitVec 32 := Scalar.andi v12 c8_i32_1225
  let v2173 : BitVec 32 := Scalar.addi v2164 v2172
  let c4_i32_1230 : BitVec 32 := 4#32
  let v2181 : BitVec 32 := Scalar.andi v12 c4_i32_1230
  let v2182 : BitVec 32 := Scalar.addi v2173 v2181
  let c0_i32_1541 : BitVec 32 := 0#32
  let c0_i32_1542 : BitVec 32 := 0#32
  ![v2182.toNat, 0, 0]
def k0_cond173 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1118 : BitVec 1 := 1#1
  let v1988 : BitVec 1 := Scalar.xori v9 true_1118
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c2_i32_1231 : BitVec 32 := 2#32
  let v2183 : BitVec 32 := Scalar.andi v12 c2_i32_1231
  let c0_i32_1232 : BitVec 32 := 0#32
  let v2184 : BitVec 1 := Scalar.cmpi .ne v2183 c0_i32_1232
  let v2185 : BitVec 1 := Scalar.andi v1988 v2184
  let v2186 : BitVec 32 := Scalar.extui v2185
  let c0_i32_1233 : BitVec 32 := 0#32
  let v2187 : BitVec 1 := Scalar.cmpi .ne v2186 c0_i32_1233
  v2187

def k0_off296 (d0 : Dev nD) (v8 : BitVec 32) : Fin 3 → Nat :=
  let c0_i32_1184 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1183 : BitVec 32 := 2048#32
  let v2098 : BitVec 32 := Scalar.andi v12 c2048_i32_1183
  let v2099 : BitVec 32 := Scalar.addi c0_i32_1184 v2098
  let c1024_i32_1189 : BitVec 32 := 1024#32
  let v2107 : BitVec 32 := Scalar.andi v12 c1024_i32_1189
  let v2108 : BitVec 32 := Scalar.addi v2099 v2107
  let c512_i32_1194 : BitVec 32 := 512#32
  let v2116 : BitVec 32 := Scalar.andi v12 c512_i32_1194
  let v2117 : BitVec 32 := Scalar.addi v2108 v2116
  let c256_i32_1199 : BitVec 32 := 256#32
  let v2125 : BitVec 32 := Scalar.andi v12 c256_i32_1199
  let v2126 : BitVec 32 := Scalar.addi v2117 v2125
  let c128_i32_1204 : BitVec 32 := 128#32
  let v2134 : BitVec 32 := Scalar.andi v12 c128_i32_1204
  let v2135 : BitVec 32 := Scalar.addi v2126 v2134
  let c64_i32_1209 : BitVec 32 := 64#32
  let v2143 : BitVec 32 := Scalar.andi v12 c64_i32_1209
  let v2144 : BitVec 32 := Scalar.addi v2135 v2143
  let c32_i32_1214 : BitVec 32 := 32#32
  let v2152 : BitVec 32 := Scalar.andi v12 c32_i32_1214
  let v2153 : BitVec 32 := Scalar.addi v2144 v2152
  let c16_i32_1219 : BitVec 32 := 16#32
  let v2161 : BitVec 32 := Scalar.andi v12 c16_i32_1219
  let v2162 : BitVec 32 := Scalar.addi v2153 v2161
  let c8_i32_1224 : BitVec 32 := 8#32
  let v2170 : BitVec 32 := Scalar.andi v12 c8_i32_1224
  let v2171 : BitVec 32 := Scalar.addi v2162 v2170
  let c4_i32_1229 : BitVec 32 := 4#32
  let v2179 : BitVec 32 := Scalar.andi v12 c4_i32_1229
  let v2180 : BitVec 32 := Scalar.addi v2171 v2179
  let c0_i32_1543 : BitVec 32 := 0#32
  let c0_i32_1544 : BitVec 32 := 0#32
  ![v2180.toNat, 0, 0]
def k0_off297 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_9 : BitVec 32 := 0#32
  let c4096_i32 : BitVec 32 := 4096#32
  let v10 : BitVec 32 := Scalar.subi c4096_i32 v8
  let v11 : BitVec 32 := Scalar.select v9 v10 v8
  let v17 : BitVec 32 := Scalar.select v9 c0_i32_9 v11
  let c4096_i32_4 : BitVec 32 := 4096#32
  let v12 : BitVec 32 := Scalar.subi c4096_i32_4 v11
  let c2048_i32_1185 : BitVec 32 := 2048#32
  let v2100 : BitVec 32 := Scalar.andi v12 c2048_i32_1185
  let v2101 : BitVec 32 := Scalar.addi v17 v2100
  let c1024_i32_1190 : BitVec 32 := 1024#32
  let v2109 : BitVec 32 := Scalar.andi v12 c1024_i32_1190
  let v2110 : BitVec 32 := Scalar.addi v2101 v2109
  let c512_i32_1195 : BitVec 32 := 512#32
  let v2118 : BitVec 32 := Scalar.andi v12 c512_i32_1195
  let v2119 : BitVec 32 := Scalar.addi v2110 v2118
  let c256_i32_1200 : BitVec 32 := 256#32
  let v2127 : BitVec 32 := Scalar.andi v12 c256_i32_1200
  let v2128 : BitVec 32 := Scalar.addi v2119 v2127
  let c128_i32_1205 : BitVec 32 := 128#32
  let v2136 : BitVec 32 := Scalar.andi v12 c128_i32_1205
  let v2137 : BitVec 32 := Scalar.addi v2128 v2136
  let c64_i32_1210 : BitVec 32 := 64#32
  let v2145 : BitVec 32 := Scalar.andi v12 c64_i32_1210
  let v2146 : BitVec 32 := Scalar.addi v2137 v2145
  let c32_i32_1215 : BitVec 32 := 32#32
  let v2154 : BitVec 32 := Scalar.andi v12 c32_i32_1215
  let v2155 : BitVec 32 := Scalar.addi v2146 v2154
  let c16_i32_1220 : BitVec 32 := 16#32
  let v2163 : BitVec 32 := Scalar.andi v12 c16_i32_1220
  let v2164 : BitVec 32 := Scalar.addi v2155 v2163
  let c8_i32_1225 : BitVec 32 := 8#32
  let v2172 : BitVec 32 := Scalar.andi v12 c8_i32_1225
  let v2173 : BitVec 32 := Scalar.addi v2164 v2172
  let c4_i32_1230 : BitVec 32 := 4#32
  let v2181 : BitVec 32 := Scalar.andi v12 c4_i32_1230
  let v2182 : BitVec 32 := Scalar.addi v2173 v2181
  let c2_i32_1235 : BitVec 32 := 2#32
  let v2190 : BitVec 32 := Scalar.andi v12 c2_i32_1235
  let v2191 : BitVec 32 := Scalar.addi v2182 v2190
  let c0_i32_1541 : BitVec 32 := 0#32
  let c0_i32_1542 : BitVec 32 := 0#32
  ![v2191.toNat, 0, 0]
def k0_cond174 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1118 : BitVec 1 := 1#1
  let v1988 : BitVec 1 := Scalar.xori v9 true_1118
  let c4096_i32_4 : BitVec 32 := 4096#32
  let c4096_i32 : BitVec 32 := 4096#32
  let v10 : BitVec 32 := Scalar.subi c4096_i32 v8
  let v11 : BitVec 32 := Scalar.select v9 v10 v8
  let v12 : BitVec 32 := Scalar.subi c4096_i32_4 v11
  let c1_i32_1236 : BitVec 32 := 1#32
  let v2192 : BitVec 32 := Scalar.andi v12 c1_i32_1236
  let c0_i32_1237 : BitVec 32 := 0#32
  let v2193 : BitVec 1 := Scalar.cmpi .ne v2192 c0_i32_1237
  let v2194 : BitVec 1 := Scalar.andi v1988 v2193
  let v2195 : BitVec 32 := Scalar.extui v2194
  let c0_i32_1238 : BitVec 32 := 0#32
  let v2196 : BitVec 1 := Scalar.cmpi .ne v2195 c0_i32_1238
  v2196

def k0_off298 (d0 : Dev nD) (v8 : BitVec 32) : Fin 3 → Nat :=
  let c0_i32_1184 : BitVec 32 := 0#32
  let c4096_i32_4 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let v12 : BitVec 32 := Scalar.subi c4096_i32_4 v11
  let c2048_i32_1183 : BitVec 32 := 2048#32
  let v2098 : BitVec 32 := Scalar.andi v12 c2048_i32_1183
  let v2099 : BitVec 32 := Scalar.addi c0_i32_1184 v2098
  let c1024_i32_1189 : BitVec 32 := 1024#32
  let v2107 : BitVec 32 := Scalar.andi v12 c1024_i32_1189
  let v2108 : BitVec 32 := Scalar.addi v2099 v2107
  let c512_i32_1194 : BitVec 32 := 512#32
  let v2116 : BitVec 32 := Scalar.andi v12 c512_i32_1194
  let v2117 : BitVec 32 := Scalar.addi v2108 v2116
  let c256_i32_1199 : BitVec 32 := 256#32
  let v2125 : BitVec 32 := Scalar.andi v12 c256_i32_1199
  let v2126 : BitVec 32 := Scalar.addi v2117 v2125
  let c128_i32_1204 : BitVec 32 := 128#32
  let v2134 : BitVec 32 := Scalar.andi v12 c128_i32_1204
  let v2135 : BitVec 32 := Scalar.addi v2126 v2134
  let c64_i32_1209 : BitVec 32 := 64#32
  let v2143 : BitVec 32 := Scalar.andi v12 c64_i32_1209
  let v2144 : BitVec 32 := Scalar.addi v2135 v2143
  let c32_i32_1214 : BitVec 32 := 32#32
  let v2152 : BitVec 32 := Scalar.andi v12 c32_i32_1214
  let v2153 : BitVec 32 := Scalar.addi v2144 v2152
  let c16_i32_1219 : BitVec 32 := 16#32
  let v2161 : BitVec 32 := Scalar.andi v12 c16_i32_1219
  let v2162 : BitVec 32 := Scalar.addi v2153 v2161
  let c8_i32_1224 : BitVec 32 := 8#32
  let v2170 : BitVec 32 := Scalar.andi v12 c8_i32_1224
  let v2171 : BitVec 32 := Scalar.addi v2162 v2170
  let c4_i32_1229 : BitVec 32 := 4#32
  let v2179 : BitVec 32 := Scalar.andi v12 c4_i32_1229
  let v2180 : BitVec 32 := Scalar.addi v2171 v2179
  let c2_i32_1234 : BitVec 32 := 2#32
  let v2188 : BitVec 32 := Scalar.andi v12 c2_i32_1234
  let v2189 : BitVec 32 := Scalar.addi v2180 v2188
  let c0_i32_1543 : BitVec 32 := 0#32
  let c0_i32_1544 : BitVec 32 := 0#32
  ![v2189.toNat, 0, 0]
def k0_off299 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c0_i32_1541 : BitVec 32 := 0#32
  let v2700 : BitVec 32 := Scalar.addi v14 c0_i32_1541
  let c0_i32_1548 : BitVec 32 := 0#32
  let c0_i32_1549 : BitVec 32 := 0#32
  ![v2700.toNat, 0, 0]
def k0_cond175 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1240 : BitVec 32 := 0#32
  let v2198 : BitVec 1 := Scalar.cmpi .eq v2 c0_i32_1240
  let v2199 : BitVec 1 := Scalar.andi v9 v2198
  let c4096_i32 : BitVec 32 := 4096#32
  let v10 : BitVec 32 := Scalar.subi c4096_i32 v8
  let v11 : BitVec 32 := Scalar.select v9 v10 v8
  let c256_i32_1241 : BitVec 32 := 256#32
  let v2200 : BitVec 1 := Scalar.cmpi .sge v11 c256_i32_1241
  let v2201 : BitVec 1 := Scalar.andi v2199 v2200
  let v2202 : BitVec 32 := Scalar.extui v2201
  let c0_i32_1242 : BitVec 32 := 0#32
  let v2203 : BitVec 1 := Scalar.cmpi .ne v2202 c0_i32_1242
  v2203

def k0_off300 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_1541 : BitVec 32 := 256#32
  let v2700 : BitVec 32 := Scalar.addi v14 c256_i32_1541
  let c0_i32_1548 : BitVec 32 := 0#32
  let c0_i32_1549 : BitVec 32 := 0#32
  ![v2700.toNat, 0, 0]
def k0_cond176 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1243 : BitVec 32 := 1#32
  let v2204 : BitVec 1 := Scalar.cmpi .eq v2 c1_i32_1243
  let v2205 : BitVec 1 := Scalar.andi v9 v2204
  let c4096_i32 : BitVec 32 := 4096#32
  let v10 : BitVec 32 := Scalar.subi c4096_i32 v8
  let v11 : BitVec 32 := Scalar.select v9 v10 v8
  let c512_i32_1244 : BitVec 32 := 512#32
  let v2206 : BitVec 1 := Scalar.cmpi .sge v11 c512_i32_1244
  let v2207 : BitVec 1 := Scalar.andi v2205 v2206
  let v2208 : BitVec 32 := Scalar.extui v2207
  let c0_i32_1245 : BitVec 32 := 0#32
  let v2209 : BitVec 1 := Scalar.cmpi .ne v2208 c0_i32_1245
  v2209

def k0_off301 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c512_i32_1541 : BitVec 32 := 512#32
  let v2700 : BitVec 32 := Scalar.addi v14 c512_i32_1541
  let c0_i32_1548 : BitVec 32 := 0#32
  let c0_i32_1549 : BitVec 32 := 0#32
  ![v2700.toNat, 0, 0]
def k0_cond177 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1246 : BitVec 32 := 0#32
  let v2210 : BitVec 1 := Scalar.cmpi .eq v2 c0_i32_1246
  let v2211 : BitVec 1 := Scalar.andi v9 v2210
  let c4096_i32 : BitVec 32 := 4096#32
  let v10 : BitVec 32 := Scalar.subi c4096_i32 v8
  let v11 : BitVec 32 := Scalar.select v9 v10 v8
  let c768_i32_1247 : BitVec 32 := 768#32
  let v2212 : BitVec 1 := Scalar.cmpi .sge v11 c768_i32_1247
  let v2213 : BitVec 1 := Scalar.andi v2211 v2212
  let v2214 : BitVec 32 := Scalar.extui v2213
  let c0_i32_1248 : BitVec 32 := 0#32
  let v2215 : BitVec 1 := Scalar.cmpi .ne v2214 c0_i32_1248
  v2215

def k0_off302 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c768_i32_1541 : BitVec 32 := 768#32
  let v2700 : BitVec 32 := Scalar.addi v14 c768_i32_1541
  let c0_i32_1548 : BitVec 32 := 0#32
  let c0_i32_1549 : BitVec 32 := 0#32
  ![v2700.toNat, 0, 0]
def k0_cond178 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1249 : BitVec 32 := 1#32
  let v2216 : BitVec 1 := Scalar.cmpi .eq v2 c1_i32_1249
  let v2217 : BitVec 1 := Scalar.andi v9 v2216
  let c4096_i32 : BitVec 32 := 4096#32
  let v10 : BitVec 32 := Scalar.subi c4096_i32 v8
  let v11 : BitVec 32 := Scalar.select v9 v10 v8
  let c1024_i32_1250 : BitVec 32 := 1024#32
  let v2218 : BitVec 1 := Scalar.cmpi .sge v11 c1024_i32_1250
  let v2219 : BitVec 1 := Scalar.andi v2217 v2218
  let v2220 : BitVec 32 := Scalar.extui v2219
  let c0_i32_1251 : BitVec 32 := 0#32
  let v2221 : BitVec 1 := Scalar.cmpi .ne v2220 c0_i32_1251
  v2221

def k0_off303 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1024_i32_1541 : BitVec 32 := 1024#32
  let v2700 : BitVec 32 := Scalar.addi v14 c1024_i32_1541
  let c0_i32_1548 : BitVec 32 := 0#32
  let c0_i32_1549 : BitVec 32 := 0#32
  ![v2700.toNat, 0, 0]
def k0_cond179 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1252 : BitVec 32 := 0#32
  let v2222 : BitVec 1 := Scalar.cmpi .eq v2 c0_i32_1252
  let v2223 : BitVec 1 := Scalar.andi v9 v2222
  let c4096_i32 : BitVec 32 := 4096#32
  let v10 : BitVec 32 := Scalar.subi c4096_i32 v8
  let v11 : BitVec 32 := Scalar.select v9 v10 v8
  let c1280_i32_1253 : BitVec 32 := 1280#32
  let v2224 : BitVec 1 := Scalar.cmpi .sge v11 c1280_i32_1253
  let v2225 : BitVec 1 := Scalar.andi v2223 v2224
  let v2226 : BitVec 32 := Scalar.extui v2225
  let c0_i32_1254 : BitVec 32 := 0#32
  let v2227 : BitVec 1 := Scalar.cmpi .ne v2226 c0_i32_1254
  v2227

def k0_off304 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1280_i32_1541 : BitVec 32 := 1280#32
  let v2700 : BitVec 32 := Scalar.addi v14 c1280_i32_1541
  let c0_i32_1548 : BitVec 32 := 0#32
  let c0_i32_1549 : BitVec 32 := 0#32
  ![v2700.toNat, 0, 0]
def k0_cond180 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1255 : BitVec 32 := 1#32
  let v2228 : BitVec 1 := Scalar.cmpi .eq v2 c1_i32_1255
  let v2229 : BitVec 1 := Scalar.andi v9 v2228
  let c4096_i32 : BitVec 32 := 4096#32
  let v10 : BitVec 32 := Scalar.subi c4096_i32 v8
  let v11 : BitVec 32 := Scalar.select v9 v10 v8
  let c1536_i32_1256 : BitVec 32 := 1536#32
  let v2230 : BitVec 1 := Scalar.cmpi .sge v11 c1536_i32_1256
  let v2231 : BitVec 1 := Scalar.andi v2229 v2230
  let v2232 : BitVec 32 := Scalar.extui v2231
  let c0_i32_1257 : BitVec 32 := 0#32
  let v2233 : BitVec 1 := Scalar.cmpi .ne v2232 c0_i32_1257
  v2233

def k0_off305 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1536_i32_1541 : BitVec 32 := 1536#32
  let v2700 : BitVec 32 := Scalar.addi v14 c1536_i32_1541
  let c0_i32_1548 : BitVec 32 := 0#32
  let c0_i32_1549 : BitVec 32 := 0#32
  ![v2700.toNat, 0, 0]
def k0_cond181 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1258 : BitVec 32 := 0#32
  let v2234 : BitVec 1 := Scalar.cmpi .eq v2 c0_i32_1258
  let v2235 : BitVec 1 := Scalar.andi v9 v2234
  let c4096_i32 : BitVec 32 := 4096#32
  let v10 : BitVec 32 := Scalar.subi c4096_i32 v8
  let v11 : BitVec 32 := Scalar.select v9 v10 v8
  let c1792_i32_1259 : BitVec 32 := 1792#32
  let v2236 : BitVec 1 := Scalar.cmpi .sge v11 c1792_i32_1259
  let v2237 : BitVec 1 := Scalar.andi v2235 v2236
  let v2238 : BitVec 32 := Scalar.extui v2237
  let c0_i32_1260 : BitVec 32 := 0#32
  let v2239 : BitVec 1 := Scalar.cmpi .ne v2238 c0_i32_1260
  v2239

def k0_off306 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1792_i32_1541 : BitVec 32 := 1792#32
  let v2700 : BitVec 32 := Scalar.addi v14 c1792_i32_1541
  let c0_i32_1548 : BitVec 32 := 0#32
  let c0_i32_1549 : BitVec 32 := 0#32
  ![v2700.toNat, 0, 0]
def k0_cond182 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1261 : BitVec 32 := 1#32
  let v2240 : BitVec 1 := Scalar.cmpi .eq v2 c1_i32_1261
  let v2241 : BitVec 1 := Scalar.andi v9 v2240
  let c4096_i32 : BitVec 32 := 4096#32
  let v10 : BitVec 32 := Scalar.subi c4096_i32 v8
  let v11 : BitVec 32 := Scalar.select v9 v10 v8
  let c2048_i32_1262 : BitVec 32 := 2048#32
  let v2242 : BitVec 1 := Scalar.cmpi .sge v11 c2048_i32_1262
  let v2243 : BitVec 1 := Scalar.andi v2241 v2242
  let v2244 : BitVec 32 := Scalar.extui v2243
  let c0_i32_1263 : BitVec 32 := 0#32
  let v2245 : BitVec 1 := Scalar.cmpi .ne v2244 c0_i32_1263
  v2245

def k0_off307 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c2048_i32_1541 : BitVec 32 := 2048#32
  let v2700 : BitVec 32 := Scalar.addi v14 c2048_i32_1541
  let c0_i32_1548 : BitVec 32 := 0#32
  let c0_i32_1549 : BitVec 32 := 0#32
  ![v2700.toNat, 0, 0]
def k0_cond183 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1264 : BitVec 32 := 0#32
  let v2246 : BitVec 1 := Scalar.cmpi .eq v2 c0_i32_1264
  let v2247 : BitVec 1 := Scalar.andi v9 v2246
  let c4096_i32 : BitVec 32 := 4096#32
  let v10 : BitVec 32 := Scalar.subi c4096_i32 v8
  let v11 : BitVec 32 := Scalar.select v9 v10 v8
  let c2304_i32_1265 : BitVec 32 := 2304#32
  let v2248 : BitVec 1 := Scalar.cmpi .sge v11 c2304_i32_1265
  let v2249 : BitVec 1 := Scalar.andi v2247 v2248
  let v2250 : BitVec 32 := Scalar.extui v2249
  let c0_i32_1266 : BitVec 32 := 0#32
  let v2251 : BitVec 1 := Scalar.cmpi .ne v2250 c0_i32_1266
  v2251

def k0_off308 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c2304_i32_1541 : BitVec 32 := 2304#32
  let v2700 : BitVec 32 := Scalar.addi v14 c2304_i32_1541
  let c0_i32_1547 : BitVec 32 := 0#32
  let c0_i32_1548 : BitVec 32 := 0#32
  ![v2700.toNat, 0, 0]
def k0_cond184 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1267 : BitVec 32 := 1#32
  let v2252 : BitVec 1 := Scalar.cmpi .eq v2 c1_i32_1267
  let v2253 : BitVec 1 := Scalar.andi v9 v2252
  let c4096_i32 : BitVec 32 := 4096#32
  let v10 : BitVec 32 := Scalar.subi c4096_i32 v8
  let v11 : BitVec 32 := Scalar.select v9 v10 v8
  let c2560_i32_1268 : BitVec 32 := 2560#32
  let v2254 : BitVec 1 := Scalar.cmpi .sge v11 c2560_i32_1268
  let v2255 : BitVec 1 := Scalar.andi v2253 v2254
  let v2256 : BitVec 32 := Scalar.extui v2255
  let c0_i32_1269 : BitVec 32 := 0#32
  let v2257 : BitVec 1 := Scalar.cmpi .ne v2256 c0_i32_1269
  v2257

def k0_off309 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c0_i32_1542 : BitVec 32 := 0#32
  let c0_i32_1543 : BitVec 32 := 0#32
  ![v46.toNat, 0, 0]
def k0_cond185 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2280 : BitVec 1 := Scalar.cmpi .eq v2 v35
  let v2281 : BitVec 1 := Scalar.andi v9 v2280
  let c128_i32_1277 : BitVec 32 := 128#32
  let v2282 : BitVec 32 := Scalar.andi v11 c128_i32_1277
  let c0_i32_1278 : BitVec 32 := 0#32
  let v2283 : BitVec 1 := Scalar.cmpi .ne v2282 c0_i32_1278
  let v2284 : BitVec 1 := Scalar.andi v2281 v2283
  let v2285 : BitVec 32 := Scalar.extui v2284
  let c0_i32_1281 : BitVec 32 := 0#32
  let v2286 : BitVec 1 := Scalar.cmpi .ne v2285 c0_i32_1281
  v2286

def k0_off310 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v2258 : BitVec 32 := Scalar.addi v14 v46
  let c0_i32_1544 : BitVec 32 := 0#32
  let c0_i32_1545 : BitVec 32 := 0#32
  ![v2258.toNat, 0, 0]
def k0_off311 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c0_i32_1542 : BitVec 32 := 0#32
  let c0_i32_1543 : BitVec 32 := 0#32
  ![v2260.toNat, 0, 0]
def k0_cond186 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2287 : BitVec 1 := Scalar.cmpi .eq v2 v35
  let v2288 : BitVec 1 := Scalar.andi v9 v2287
  let c64_i32_1282 : BitVec 32 := 64#32
  let v2289 : BitVec 32 := Scalar.andi v11 c64_i32_1282
  let c0_i32_1283 : BitVec 32 := 0#32
  let v2290 : BitVec 1 := Scalar.cmpi .ne v2289 c0_i32_1283
  let v2291 : BitVec 1 := Scalar.andi v2288 v2290
  let v2292 : BitVec 32 := Scalar.extui v2291
  let c0_i32_1286 : BitVec 32 := 0#32
  let v2293 : BitVec 1 := Scalar.cmpi .ne v2292 c0_i32_1286
  v2293

def k0_off312 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let v2261 : BitVec 32 := Scalar.addi v14 v2260
  let c0_i32_1544 : BitVec 32 := 0#32
  let c0_i32_1545 : BitVec 32 := 0#32
  ![v2261.toNat, 0, 0]
def k0_off313 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c64_i32_1271 : BitVec 32 := 64#32
  let v2262 : BitVec 32 := Scalar.andi v11 c64_i32_1271
  let v2263 : BitVec 32 := Scalar.addi v2260 v2262
  let c0_i32_1542 : BitVec 32 := 0#32
  let c0_i32_1543 : BitVec 32 := 0#32
  ![v2263.toNat, 0, 0]
def k0_cond187 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2294 : BitVec 1 := Scalar.cmpi .eq v2 v35
  let v2295 : BitVec 1 := Scalar.andi v9 v2294
  let c32_i32_1287 : BitVec 32 := 32#32
  let v2296 : BitVec 32 := Scalar.andi v11 c32_i32_1287
  let c0_i32_1288 : BitVec 32 := 0#32
  let v2297 : BitVec 1 := Scalar.cmpi .ne v2296 c0_i32_1288
  let v2298 : BitVec 1 := Scalar.andi v2295 v2297
  let v2299 : BitVec 32 := Scalar.extui v2298
  let c0_i32_1291 : BitVec 32 := 0#32
  let v2300 : BitVec 1 := Scalar.cmpi .ne v2299 c0_i32_1291
  v2300

def k0_off314 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c64_i32_1271 : BitVec 32 := 64#32
  let v2262 : BitVec 32 := Scalar.andi v11 c64_i32_1271
  let v2263 : BitVec 32 := Scalar.addi v2260 v2262
  let v2264 : BitVec 32 := Scalar.addi v14 v2263
  let c0_i32_1544 : BitVec 32 := 0#32
  let c0_i32_1545 : BitVec 32 := 0#32
  ![v2264.toNat, 0, 0]
def k0_off315 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c64_i32_1271 : BitVec 32 := 64#32
  let v2262 : BitVec 32 := Scalar.andi v11 c64_i32_1271
  let v2263 : BitVec 32 := Scalar.addi v2260 v2262
  let c32_i32_1272 : BitVec 32 := 32#32
  let v2265 : BitVec 32 := Scalar.andi v11 c32_i32_1272
  let v2266 : BitVec 32 := Scalar.addi v2263 v2265
  let c0_i32_1542 : BitVec 32 := 0#32
  let c0_i32_1543 : BitVec 32 := 0#32
  ![v2266.toNat, 0, 0]
def k0_cond188 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2301 : BitVec 1 := Scalar.cmpi .eq v2 v35
  let v2302 : BitVec 1 := Scalar.andi v9 v2301
  let c16_i32_1292 : BitVec 32 := 16#32
  let v2303 : BitVec 32 := Scalar.andi v11 c16_i32_1292
  let c0_i32_1293 : BitVec 32 := 0#32
  let v2304 : BitVec 1 := Scalar.cmpi .ne v2303 c0_i32_1293
  let v2305 : BitVec 1 := Scalar.andi v2302 v2304
  let v2306 : BitVec 32 := Scalar.extui v2305
  let c0_i32_1296 : BitVec 32 := 0#32
  let v2307 : BitVec 1 := Scalar.cmpi .ne v2306 c0_i32_1296
  v2307

def k0_off316 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c64_i32_1271 : BitVec 32 := 64#32
  let v2262 : BitVec 32 := Scalar.andi v11 c64_i32_1271
  let v2263 : BitVec 32 := Scalar.addi v2260 v2262
  let c32_i32_1272 : BitVec 32 := 32#32
  let v2265 : BitVec 32 := Scalar.andi v11 c32_i32_1272
  let v2266 : BitVec 32 := Scalar.addi v2263 v2265
  let v2267 : BitVec 32 := Scalar.addi v14 v2266
  let c0_i32_1544 : BitVec 32 := 0#32
  let c0_i32_1545 : BitVec 32 := 0#32
  ![v2267.toNat, 0, 0]
def k0_off317 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c64_i32_1271 : BitVec 32 := 64#32
  let v2262 : BitVec 32 := Scalar.andi v11 c64_i32_1271
  let v2263 : BitVec 32 := Scalar.addi v2260 v2262
  let c32_i32_1272 : BitVec 32 := 32#32
  let v2265 : BitVec 32 := Scalar.andi v11 c32_i32_1272
  let v2266 : BitVec 32 := Scalar.addi v2263 v2265
  let c16_i32_1273 : BitVec 32 := 16#32
  let v2268 : BitVec 32 := Scalar.andi v11 c16_i32_1273
  let v2269 : BitVec 32 := Scalar.addi v2266 v2268
  let c0_i32_1542 : BitVec 32 := 0#32
  let c0_i32_1543 : BitVec 32 := 0#32
  ![v2269.toNat, 0, 0]
def k0_cond189 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2308 : BitVec 1 := Scalar.cmpi .eq v2 v35
  let v2309 : BitVec 1 := Scalar.andi v9 v2308
  let c8_i32_1297 : BitVec 32 := 8#32
  let v2310 : BitVec 32 := Scalar.andi v11 c8_i32_1297
  let c0_i32_1298 : BitVec 32 := 0#32
  let v2311 : BitVec 1 := Scalar.cmpi .ne v2310 c0_i32_1298
  let v2312 : BitVec 1 := Scalar.andi v2309 v2311
  let v2313 : BitVec 32 := Scalar.extui v2312
  let c0_i32_1301 : BitVec 32 := 0#32
  let v2314 : BitVec 1 := Scalar.cmpi .ne v2313 c0_i32_1301
  v2314

def k0_off318 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c64_i32_1271 : BitVec 32 := 64#32
  let v2262 : BitVec 32 := Scalar.andi v11 c64_i32_1271
  let v2263 : BitVec 32 := Scalar.addi v2260 v2262
  let c32_i32_1272 : BitVec 32 := 32#32
  let v2265 : BitVec 32 := Scalar.andi v11 c32_i32_1272
  let v2266 : BitVec 32 := Scalar.addi v2263 v2265
  let c16_i32_1273 : BitVec 32 := 16#32
  let v2268 : BitVec 32 := Scalar.andi v11 c16_i32_1273
  let v2269 : BitVec 32 := Scalar.addi v2266 v2268
  let v2270 : BitVec 32 := Scalar.addi v14 v2269
  let c0_i32_1544 : BitVec 32 := 0#32
  let c0_i32_1545 : BitVec 32 := 0#32
  ![v2270.toNat, 0, 0]
def k0_off319 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c64_i32_1271 : BitVec 32 := 64#32
  let v2262 : BitVec 32 := Scalar.andi v11 c64_i32_1271
  let v2263 : BitVec 32 := Scalar.addi v2260 v2262
  let c32_i32_1272 : BitVec 32 := 32#32
  let v2265 : BitVec 32 := Scalar.andi v11 c32_i32_1272
  let v2266 : BitVec 32 := Scalar.addi v2263 v2265
  let c16_i32_1273 : BitVec 32 := 16#32
  let v2268 : BitVec 32 := Scalar.andi v11 c16_i32_1273
  let v2269 : BitVec 32 := Scalar.addi v2266 v2268
  let c8_i32_1274 : BitVec 32 := 8#32
  let v2271 : BitVec 32 := Scalar.andi v11 c8_i32_1274
  let v2272 : BitVec 32 := Scalar.addi v2269 v2271
  let c0_i32_1542 : BitVec 32 := 0#32
  let c0_i32_1543 : BitVec 32 := 0#32
  ![v2272.toNat, 0, 0]
def k0_cond190 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2315 : BitVec 1 := Scalar.cmpi .eq v2 v35
  let v2316 : BitVec 1 := Scalar.andi v9 v2315
  let c4_i32_1302 : BitVec 32 := 4#32
  let v2317 : BitVec 32 := Scalar.andi v11 c4_i32_1302
  let c0_i32_1303 : BitVec 32 := 0#32
  let v2318 : BitVec 1 := Scalar.cmpi .ne v2317 c0_i32_1303
  let v2319 : BitVec 1 := Scalar.andi v2316 v2318
  let v2320 : BitVec 32 := Scalar.extui v2319
  let c0_i32_1306 : BitVec 32 := 0#32
  let v2321 : BitVec 1 := Scalar.cmpi .ne v2320 c0_i32_1306
  v2321

def k0_off320 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c64_i32_1271 : BitVec 32 := 64#32
  let v2262 : BitVec 32 := Scalar.andi v11 c64_i32_1271
  let v2263 : BitVec 32 := Scalar.addi v2260 v2262
  let c32_i32_1272 : BitVec 32 := 32#32
  let v2265 : BitVec 32 := Scalar.andi v11 c32_i32_1272
  let v2266 : BitVec 32 := Scalar.addi v2263 v2265
  let c16_i32_1273 : BitVec 32 := 16#32
  let v2268 : BitVec 32 := Scalar.andi v11 c16_i32_1273
  let v2269 : BitVec 32 := Scalar.addi v2266 v2268
  let c8_i32_1274 : BitVec 32 := 8#32
  let v2271 : BitVec 32 := Scalar.andi v11 c8_i32_1274
  let v2272 : BitVec 32 := Scalar.addi v2269 v2271
  let v2273 : BitVec 32 := Scalar.addi v14 v2272
  let c0_i32_1544 : BitVec 32 := 0#32
  let c0_i32_1545 : BitVec 32 := 0#32
  ![v2273.toNat, 0, 0]
def k0_off321 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c64_i32_1271 : BitVec 32 := 64#32
  let v2262 : BitVec 32 := Scalar.andi v11 c64_i32_1271
  let v2263 : BitVec 32 := Scalar.addi v2260 v2262
  let c32_i32_1272 : BitVec 32 := 32#32
  let v2265 : BitVec 32 := Scalar.andi v11 c32_i32_1272
  let v2266 : BitVec 32 := Scalar.addi v2263 v2265
  let c16_i32_1273 : BitVec 32 := 16#32
  let v2268 : BitVec 32 := Scalar.andi v11 c16_i32_1273
  let v2269 : BitVec 32 := Scalar.addi v2266 v2268
  let c8_i32_1274 : BitVec 32 := 8#32
  let v2271 : BitVec 32 := Scalar.andi v11 c8_i32_1274
  let v2272 : BitVec 32 := Scalar.addi v2269 v2271
  let c4_i32_1275 : BitVec 32 := 4#32
  let v2274 : BitVec 32 := Scalar.andi v11 c4_i32_1275
  let v2275 : BitVec 32 := Scalar.addi v2272 v2274
  let c0_i32_1542 : BitVec 32 := 0#32
  let c0_i32_1543 : BitVec 32 := 0#32
  ![v2275.toNat, 0, 0]
def k0_cond191 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2322 : BitVec 1 := Scalar.cmpi .eq v2 v35
  let v2323 : BitVec 1 := Scalar.andi v9 v2322
  let c2_i32_1307 : BitVec 32 := 2#32
  let v2324 : BitVec 32 := Scalar.andi v11 c2_i32_1307
  let c0_i32_1308 : BitVec 32 := 0#32
  let v2325 : BitVec 1 := Scalar.cmpi .ne v2324 c0_i32_1308
  let v2326 : BitVec 1 := Scalar.andi v2323 v2325
  let v2327 : BitVec 32 := Scalar.extui v2326
  let c0_i32_1311 : BitVec 32 := 0#32
  let v2328 : BitVec 1 := Scalar.cmpi .ne v2327 c0_i32_1311
  v2328

def k0_off322 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c64_i32_1271 : BitVec 32 := 64#32
  let v2262 : BitVec 32 := Scalar.andi v11 c64_i32_1271
  let v2263 : BitVec 32 := Scalar.addi v2260 v2262
  let c32_i32_1272 : BitVec 32 := 32#32
  let v2265 : BitVec 32 := Scalar.andi v11 c32_i32_1272
  let v2266 : BitVec 32 := Scalar.addi v2263 v2265
  let c16_i32_1273 : BitVec 32 := 16#32
  let v2268 : BitVec 32 := Scalar.andi v11 c16_i32_1273
  let v2269 : BitVec 32 := Scalar.addi v2266 v2268
  let c8_i32_1274 : BitVec 32 := 8#32
  let v2271 : BitVec 32 := Scalar.andi v11 c8_i32_1274
  let v2272 : BitVec 32 := Scalar.addi v2269 v2271
  let c4_i32_1275 : BitVec 32 := 4#32
  let v2274 : BitVec 32 := Scalar.andi v11 c4_i32_1275
  let v2275 : BitVec 32 := Scalar.addi v2272 v2274
  let v2276 : BitVec 32 := Scalar.addi v14 v2275
  let c0_i32_1544 : BitVec 32 := 0#32
  let c0_i32_1545 : BitVec 32 := 0#32
  ![v2276.toNat, 0, 0]
def k0_off323 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c64_i32_1271 : BitVec 32 := 64#32
  let v2262 : BitVec 32 := Scalar.andi v11 c64_i32_1271
  let v2263 : BitVec 32 := Scalar.addi v2260 v2262
  let c32_i32_1272 : BitVec 32 := 32#32
  let v2265 : BitVec 32 := Scalar.andi v11 c32_i32_1272
  let v2266 : BitVec 32 := Scalar.addi v2263 v2265
  let c16_i32_1273 : BitVec 32 := 16#32
  let v2268 : BitVec 32 := Scalar.andi v11 c16_i32_1273
  let v2269 : BitVec 32 := Scalar.addi v2266 v2268
  let c8_i32_1274 : BitVec 32 := 8#32
  let v2271 : BitVec 32 := Scalar.andi v11 c8_i32_1274
  let v2272 : BitVec 32 := Scalar.addi v2269 v2271
  let c4_i32_1275 : BitVec 32 := 4#32
  let v2274 : BitVec 32 := Scalar.andi v11 c4_i32_1275
  let v2275 : BitVec 32 := Scalar.addi v2272 v2274
  let c2_i32_1276 : BitVec 32 := 2#32
  let v2277 : BitVec 32 := Scalar.andi v11 c2_i32_1276
  let v2278 : BitVec 32 := Scalar.addi v2275 v2277
  let c0_i32_1542 : BitVec 32 := 0#32
  let c0_i32_1543 : BitVec 32 := 0#32
  ![v2278.toNat, 0, 0]
def k0_cond192 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2329 : BitVec 1 := Scalar.cmpi .eq v2 v35
  let v2330 : BitVec 1 := Scalar.andi v9 v2329
  let c1_i32_1312 : BitVec 32 := 1#32
  let v2331 : BitVec 32 := Scalar.andi v11 c1_i32_1312
  let c0_i32_1313 : BitVec 32 := 0#32
  let v2332 : BitVec 1 := Scalar.cmpi .ne v2331 c0_i32_1313
  let v2333 : BitVec 1 := Scalar.andi v2330 v2332
  let v2334 : BitVec 32 := Scalar.extui v2333
  let c0_i32_1316 : BitVec 32 := 0#32
  let v2335 : BitVec 1 := Scalar.cmpi .ne v2334 c0_i32_1316
  v2335

def k0_off324 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1270 : BitVec 32 := 128#32
  let v2259 : BitVec 32 := Scalar.andi v11 c128_i32_1270
  let v2260 : BitVec 32 := Scalar.addi v46 v2259
  let c64_i32_1271 : BitVec 32 := 64#32
  let v2262 : BitVec 32 := Scalar.andi v11 c64_i32_1271
  let v2263 : BitVec 32 := Scalar.addi v2260 v2262
  let c32_i32_1272 : BitVec 32 := 32#32
  let v2265 : BitVec 32 := Scalar.andi v11 c32_i32_1272
  let v2266 : BitVec 32 := Scalar.addi v2263 v2265
  let c16_i32_1273 : BitVec 32 := 16#32
  let v2268 : BitVec 32 := Scalar.andi v11 c16_i32_1273
  let v2269 : BitVec 32 := Scalar.addi v2266 v2268
  let c8_i32_1274 : BitVec 32 := 8#32
  let v2271 : BitVec 32 := Scalar.andi v11 c8_i32_1274
  let v2272 : BitVec 32 := Scalar.addi v2269 v2271
  let c4_i32_1275 : BitVec 32 := 4#32
  let v2274 : BitVec 32 := Scalar.andi v11 c4_i32_1275
  let v2275 : BitVec 32 := Scalar.addi v2272 v2274
  let c2_i32_1276 : BitVec 32 := 2#32
  let v2277 : BitVec 32 := Scalar.andi v11 c2_i32_1276
  let v2278 : BitVec 32 := Scalar.addi v2275 v2277
  let v2279 : BitVec 32 := Scalar.addi v14 v2278
  let c0_i32_1544 : BitVec 32 := 0#32
  let c0_i32_1545 : BitVec 32 := 0#32
  ![v2279.toNat, 0, 0]
def k0_off325 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c0_i32_1541 : BitVec 32 := 0#32
  let v2700 : BitVec 32 := Scalar.addi v14 c0_i32_1541
  let c0_i32_1548 : BitVec 32 := 0#32
  let c0_i32_1549 : BitVec 32 := 0#32
  ![v2700.toNat, 0, 0]
def k0_cond193 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1317 : BitVec 32 := 0#32
  let v2336 : BitVec 1 := Scalar.cmpi .eq v2 c0_i32_1317
  let v2337 : BitVec 1 := Scalar.andi v2197 v2336
  let c4096_i32 : BitVec 32 := 4096#32
  let v10 : BitVec 32 := Scalar.subi c4096_i32 v8
  let v11 : BitVec 32 := Scalar.select v9 v10 v8
  let c256_i32_1318 : BitVec 32 := 256#32
  let v2338 : BitVec 1 := Scalar.cmpi .sge v11 c256_i32_1318
  let v2339 : BitVec 1 := Scalar.andi v2337 v2338
  let v2340 : BitVec 32 := Scalar.extui v2339
  let c0_i32_1319 : BitVec 32 := 0#32
  let v2341 : BitVec 1 := Scalar.cmpi .ne v2340 c0_i32_1319
  v2341

def k0_off326 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_1541 : BitVec 32 := 256#32
  let v2700 : BitVec 32 := Scalar.addi v14 c256_i32_1541
  let c0_i32_1548 : BitVec 32 := 0#32
  let c0_i32_1549 : BitVec 32 := 0#32
  ![v2700.toNat, 0, 0]
def k0_cond194 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1320 : BitVec 32 := 1#32
  let v2342 : BitVec 1 := Scalar.cmpi .eq v2 c1_i32_1320
  let v2343 : BitVec 1 := Scalar.andi v2197 v2342
  let c4096_i32 : BitVec 32 := 4096#32
  let v10 : BitVec 32 := Scalar.subi c4096_i32 v8
  let v11 : BitVec 32 := Scalar.select v9 v10 v8
  let c512_i32_1321 : BitVec 32 := 512#32
  let v2344 : BitVec 1 := Scalar.cmpi .sge v11 c512_i32_1321
  let v2345 : BitVec 1 := Scalar.andi v2343 v2344
  let v2346 : BitVec 32 := Scalar.extui v2345
  let c0_i32_1322 : BitVec 32 := 0#32
  let v2347 : BitVec 1 := Scalar.cmpi .ne v2346 c0_i32_1322
  v2347

def k0_off327 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c512_i32_1541 : BitVec 32 := 512#32
  let v2700 : BitVec 32 := Scalar.addi v14 c512_i32_1541
  let c0_i32_1548 : BitVec 32 := 0#32
  let c0_i32_1549 : BitVec 32 := 0#32
  ![v2700.toNat, 0, 0]
def k0_cond195 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1323 : BitVec 32 := 0#32
  let v2348 : BitVec 1 := Scalar.cmpi .eq v2 c0_i32_1323
  let v2349 : BitVec 1 := Scalar.andi v2197 v2348
  let c4096_i32 : BitVec 32 := 4096#32
  let v10 : BitVec 32 := Scalar.subi c4096_i32 v8
  let v11 : BitVec 32 := Scalar.select v9 v10 v8
  let c768_i32_1324 : BitVec 32 := 768#32
  let v2350 : BitVec 1 := Scalar.cmpi .sge v11 c768_i32_1324
  let v2351 : BitVec 1 := Scalar.andi v2349 v2350
  let v2352 : BitVec 32 := Scalar.extui v2351
  let c0_i32_1325 : BitVec 32 := 0#32
  let v2353 : BitVec 1 := Scalar.cmpi .ne v2352 c0_i32_1325
  v2353

def k0_off328 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c768_i32_1541 : BitVec 32 := 768#32
  let v2700 : BitVec 32 := Scalar.addi v14 c768_i32_1541
  let c0_i32_1548 : BitVec 32 := 0#32
  let c0_i32_1549 : BitVec 32 := 0#32
  ![v2700.toNat, 0, 0]
def k0_cond196 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1326 : BitVec 32 := 1#32
  let v2354 : BitVec 1 := Scalar.cmpi .eq v2 c1_i32_1326
  let v2355 : BitVec 1 := Scalar.andi v2197 v2354
  let c4096_i32 : BitVec 32 := 4096#32
  let v10 : BitVec 32 := Scalar.subi c4096_i32 v8
  let v11 : BitVec 32 := Scalar.select v9 v10 v8
  let c1024_i32_1327 : BitVec 32 := 1024#32
  let v2356 : BitVec 1 := Scalar.cmpi .sge v11 c1024_i32_1327
  let v2357 : BitVec 1 := Scalar.andi v2355 v2356
  let v2358 : BitVec 32 := Scalar.extui v2357
  let c0_i32_1328 : BitVec 32 := 0#32
  let v2359 : BitVec 1 := Scalar.cmpi .ne v2358 c0_i32_1328
  v2359

def k0_off329 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1024_i32_1541 : BitVec 32 := 1024#32
  let v2700 : BitVec 32 := Scalar.addi v14 c1024_i32_1541
  let c0_i32_1548 : BitVec 32 := 0#32
  let c0_i32_1549 : BitVec 32 := 0#32
  ![v2700.toNat, 0, 0]
def k0_cond197 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1329 : BitVec 32 := 0#32
  let v2360 : BitVec 1 := Scalar.cmpi .eq v2 c0_i32_1329
  let v2361 : BitVec 1 := Scalar.andi v2197 v2360
  let c4096_i32 : BitVec 32 := 4096#32
  let v10 : BitVec 32 := Scalar.subi c4096_i32 v8
  let v11 : BitVec 32 := Scalar.select v9 v10 v8
  let c1280_i32_1330 : BitVec 32 := 1280#32
  let v2362 : BitVec 1 := Scalar.cmpi .sge v11 c1280_i32_1330
  let v2363 : BitVec 1 := Scalar.andi v2361 v2362
  let v2364 : BitVec 32 := Scalar.extui v2363
  let c0_i32_1331 : BitVec 32 := 0#32
  let v2365 : BitVec 1 := Scalar.cmpi .ne v2364 c0_i32_1331
  v2365

def k0_off330 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1280_i32_1541 : BitVec 32 := 1280#32
  let v2700 : BitVec 32 := Scalar.addi v14 c1280_i32_1541
  let c0_i32_1548 : BitVec 32 := 0#32
  let c0_i32_1549 : BitVec 32 := 0#32
  ![v2700.toNat, 0, 0]
def k0_cond198 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1332 : BitVec 32 := 1#32
  let v2366 : BitVec 1 := Scalar.cmpi .eq v2 c1_i32_1332
  let v2367 : BitVec 1 := Scalar.andi v2197 v2366
  let c4096_i32 : BitVec 32 := 4096#32
  let v10 : BitVec 32 := Scalar.subi c4096_i32 v8
  let v11 : BitVec 32 := Scalar.select v9 v10 v8
  let c1536_i32_1333 : BitVec 32 := 1536#32
  let v2368 : BitVec 1 := Scalar.cmpi .sge v11 c1536_i32_1333
  let v2369 : BitVec 1 := Scalar.andi v2367 v2368
  let v2370 : BitVec 32 := Scalar.extui v2369
  let c0_i32_1334 : BitVec 32 := 0#32
  let v2371 : BitVec 1 := Scalar.cmpi .ne v2370 c0_i32_1334
  v2371

def k0_off331 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1536_i32_1541 : BitVec 32 := 1536#32
  let v2700 : BitVec 32 := Scalar.addi v14 c1536_i32_1541
  let c0_i32_1548 : BitVec 32 := 0#32
  let c0_i32_1549 : BitVec 32 := 0#32
  ![v2700.toNat, 0, 0]
def k0_cond199 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1335 : BitVec 32 := 0#32
  let v2372 : BitVec 1 := Scalar.cmpi .eq v2 c0_i32_1335
  let v2373 : BitVec 1 := Scalar.andi v2197 v2372
  let c4096_i32 : BitVec 32 := 4096#32
  let v10 : BitVec 32 := Scalar.subi c4096_i32 v8
  let v11 : BitVec 32 := Scalar.select v9 v10 v8
  let c1792_i32_1336 : BitVec 32 := 1792#32
  let v2374 : BitVec 1 := Scalar.cmpi .sge v11 c1792_i32_1336
  let v2375 : BitVec 1 := Scalar.andi v2373 v2374
  let v2376 : BitVec 32 := Scalar.extui v2375
  let c0_i32_1337 : BitVec 32 := 0#32
  let v2377 : BitVec 1 := Scalar.cmpi .ne v2376 c0_i32_1337
  v2377

def k0_off332 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c1792_i32_1541 : BitVec 32 := 1792#32
  let v2700 : BitVec 32 := Scalar.addi v14 c1792_i32_1541
  let c0_i32_1548 : BitVec 32 := 0#32
  let c0_i32_1549 : BitVec 32 := 0#32
  ![v2700.toNat, 0, 0]
def k0_cond200 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1338 : BitVec 32 := 1#32
  let v2378 : BitVec 1 := Scalar.cmpi .eq v2 c1_i32_1338
  let v2379 : BitVec 1 := Scalar.andi v2197 v2378
  let c4096_i32 : BitVec 32 := 4096#32
  let v10 : BitVec 32 := Scalar.subi c4096_i32 v8
  let v11 : BitVec 32 := Scalar.select v9 v10 v8
  let c2048_i32_1339 : BitVec 32 := 2048#32
  let v2380 : BitVec 1 := Scalar.cmpi .sge v11 c2048_i32_1339
  let v2381 : BitVec 1 := Scalar.andi v2379 v2380
  let v2382 : BitVec 32 := Scalar.extui v2381
  let c0_i32_1340 : BitVec 32 := 0#32
  let v2383 : BitVec 1 := Scalar.cmpi .ne v2382 c0_i32_1340
  v2383

def k0_off333 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c2048_i32_1541 : BitVec 32 := 2048#32
  let v2700 : BitVec 32 := Scalar.addi v14 c2048_i32_1541
  let c0_i32_1548 : BitVec 32 := 0#32
  let c0_i32_1549 : BitVec 32 := 0#32
  ![v2700.toNat, 0, 0]
def k0_cond201 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1341 : BitVec 32 := 0#32
  let v2384 : BitVec 1 := Scalar.cmpi .eq v2 c0_i32_1341
  let v2385 : BitVec 1 := Scalar.andi v2197 v2384
  let c4096_i32 : BitVec 32 := 4096#32
  let v10 : BitVec 32 := Scalar.subi c4096_i32 v8
  let v11 : BitVec 32 := Scalar.select v9 v10 v8
  let c2304_i32_1342 : BitVec 32 := 2304#32
  let v2386 : BitVec 1 := Scalar.cmpi .sge v11 c2304_i32_1342
  let v2387 : BitVec 1 := Scalar.andi v2385 v2386
  let v2388 : BitVec 32 := Scalar.extui v2387
  let c0_i32_1343 : BitVec 32 := 0#32
  let v2389 : BitVec 1 := Scalar.cmpi .ne v2388 c0_i32_1343
  v2389

def k0_off334 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c2304_i32_1541 : BitVec 32 := 2304#32
  let v2700 : BitVec 32 := Scalar.addi v14 c2304_i32_1541
  let c0_i32_1547 : BitVec 32 := 0#32
  let c0_i32_1548 : BitVec 32 := 0#32
  ![v2700.toNat, 0, 0]
def k0_cond202 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1344 : BitVec 32 := 1#32
  let v2390 : BitVec 1 := Scalar.cmpi .eq v2 c1_i32_1344
  let v2391 : BitVec 1 := Scalar.andi v2197 v2390
  let c4096_i32 : BitVec 32 := 4096#32
  let v10 : BitVec 32 := Scalar.subi c4096_i32 v8
  let v11 : BitVec 32 := Scalar.select v9 v10 v8
  let c2560_i32_1345 : BitVec 32 := 2560#32
  let v2392 : BitVec 1 := Scalar.cmpi .sge v11 c2560_i32_1345
  let v2393 : BitVec 1 := Scalar.andi v2391 v2392
  let v2394 : BitVec 32 := Scalar.extui v2393
  let c0_i32_1346 : BitVec 32 := 0#32
  let v2395 : BitVec 1 := Scalar.cmpi .ne v2394 c0_i32_1346
  v2395

def k0_off335 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c0_i32_1542 : BitVec 32 := 0#32
  let c0_i32_1543 : BitVec 32 := 0#32
  ![v46.toNat, 0, 0]
def k0_cond203 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2418 : BitVec 1 := Scalar.cmpi .eq v2 v35
  let v2419 : BitVec 1 := Scalar.andi v2197 v2418
  let c128_i32_1354 : BitVec 32 := 128#32
  let v2420 : BitVec 32 := Scalar.andi v11 c128_i32_1354
  let c0_i32_1355 : BitVec 32 := 0#32
  let v2421 : BitVec 1 := Scalar.cmpi .ne v2420 c0_i32_1355
  let v2422 : BitVec 1 := Scalar.andi v2419 v2421
  let v2423 : BitVec 32 := Scalar.extui v2422
  let c0_i32_1358 : BitVec 32 := 0#32
  let v2424 : BitVec 1 := Scalar.cmpi .ne v2423 c0_i32_1358
  v2424

def k0_off336 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v2396 : BitVec 32 := Scalar.addi v14 v46
  let c0_i32_1544 : BitVec 32 := 0#32
  let c0_i32_1545 : BitVec 32 := 0#32
  ![v2396.toNat, 0, 0]
def k0_off337 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c0_i32_1542 : BitVec 32 := 0#32
  let c0_i32_1543 : BitVec 32 := 0#32
  ![v2398.toNat, 0, 0]
def k0_cond204 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2425 : BitVec 1 := Scalar.cmpi .eq v2 v35
  let v2426 : BitVec 1 := Scalar.andi v2197 v2425
  let c64_i32_1359 : BitVec 32 := 64#32
  let v2427 : BitVec 32 := Scalar.andi v11 c64_i32_1359
  let c0_i32_1360 : BitVec 32 := 0#32
  let v2428 : BitVec 1 := Scalar.cmpi .ne v2427 c0_i32_1360
  let v2429 : BitVec 1 := Scalar.andi v2426 v2428
  let v2430 : BitVec 32 := Scalar.extui v2429
  let c0_i32_1363 : BitVec 32 := 0#32
  let v2431 : BitVec 1 := Scalar.cmpi .ne v2430 c0_i32_1363
  v2431

def k0_off338 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let v2399 : BitVec 32 := Scalar.addi v14 v2398
  let c0_i32_1544 : BitVec 32 := 0#32
  let c0_i32_1545 : BitVec 32 := 0#32
  ![v2399.toNat, 0, 0]
def k0_off339 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c64_i32_1348 : BitVec 32 := 64#32
  let v2400 : BitVec 32 := Scalar.andi v11 c64_i32_1348
  let v2401 : BitVec 32 := Scalar.addi v2398 v2400
  let c0_i32_1542 : BitVec 32 := 0#32
  let c0_i32_1543 : BitVec 32 := 0#32
  ![v2401.toNat, 0, 0]
def k0_cond205 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2432 : BitVec 1 := Scalar.cmpi .eq v2 v35
  let v2433 : BitVec 1 := Scalar.andi v2197 v2432
  let c32_i32_1364 : BitVec 32 := 32#32
  let v2434 : BitVec 32 := Scalar.andi v11 c32_i32_1364
  let c0_i32_1365 : BitVec 32 := 0#32
  let v2435 : BitVec 1 := Scalar.cmpi .ne v2434 c0_i32_1365
  let v2436 : BitVec 1 := Scalar.andi v2433 v2435
  let v2437 : BitVec 32 := Scalar.extui v2436
  let c0_i32_1368 : BitVec 32 := 0#32
  let v2438 : BitVec 1 := Scalar.cmpi .ne v2437 c0_i32_1368
  v2438

def k0_off340 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c64_i32_1348 : BitVec 32 := 64#32
  let v2400 : BitVec 32 := Scalar.andi v11 c64_i32_1348
  let v2401 : BitVec 32 := Scalar.addi v2398 v2400
  let v2402 : BitVec 32 := Scalar.addi v14 v2401
  let c0_i32_1544 : BitVec 32 := 0#32
  let c0_i32_1545 : BitVec 32 := 0#32
  ![v2402.toNat, 0, 0]
def k0_off341 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c64_i32_1348 : BitVec 32 := 64#32
  let v2400 : BitVec 32 := Scalar.andi v11 c64_i32_1348
  let v2401 : BitVec 32 := Scalar.addi v2398 v2400
  let c32_i32_1349 : BitVec 32 := 32#32
  let v2403 : BitVec 32 := Scalar.andi v11 c32_i32_1349
  let v2404 : BitVec 32 := Scalar.addi v2401 v2403
  let c0_i32_1542 : BitVec 32 := 0#32
  let c0_i32_1543 : BitVec 32 := 0#32
  ![v2404.toNat, 0, 0]
def k0_cond206 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2439 : BitVec 1 := Scalar.cmpi .eq v2 v35
  let v2440 : BitVec 1 := Scalar.andi v2197 v2439
  let c16_i32_1369 : BitVec 32 := 16#32
  let v2441 : BitVec 32 := Scalar.andi v11 c16_i32_1369
  let c0_i32_1370 : BitVec 32 := 0#32
  let v2442 : BitVec 1 := Scalar.cmpi .ne v2441 c0_i32_1370
  let v2443 : BitVec 1 := Scalar.andi v2440 v2442
  let v2444 : BitVec 32 := Scalar.extui v2443
  let c0_i32_1373 : BitVec 32 := 0#32
  let v2445 : BitVec 1 := Scalar.cmpi .ne v2444 c0_i32_1373
  v2445

def k0_off342 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c64_i32_1348 : BitVec 32 := 64#32
  let v2400 : BitVec 32 := Scalar.andi v11 c64_i32_1348
  let v2401 : BitVec 32 := Scalar.addi v2398 v2400
  let c32_i32_1349 : BitVec 32 := 32#32
  let v2403 : BitVec 32 := Scalar.andi v11 c32_i32_1349
  let v2404 : BitVec 32 := Scalar.addi v2401 v2403
  let v2405 : BitVec 32 := Scalar.addi v14 v2404
  let c0_i32_1544 : BitVec 32 := 0#32
  let c0_i32_1545 : BitVec 32 := 0#32
  ![v2405.toNat, 0, 0]
def k0_off343 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c64_i32_1348 : BitVec 32 := 64#32
  let v2400 : BitVec 32 := Scalar.andi v11 c64_i32_1348
  let v2401 : BitVec 32 := Scalar.addi v2398 v2400
  let c32_i32_1349 : BitVec 32 := 32#32
  let v2403 : BitVec 32 := Scalar.andi v11 c32_i32_1349
  let v2404 : BitVec 32 := Scalar.addi v2401 v2403
  let c16_i32_1350 : BitVec 32 := 16#32
  let v2406 : BitVec 32 := Scalar.andi v11 c16_i32_1350
  let v2407 : BitVec 32 := Scalar.addi v2404 v2406
  let c0_i32_1542 : BitVec 32 := 0#32
  let c0_i32_1543 : BitVec 32 := 0#32
  ![v2407.toNat, 0, 0]
def k0_cond207 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2446 : BitVec 1 := Scalar.cmpi .eq v2 v35
  let v2447 : BitVec 1 := Scalar.andi v2197 v2446
  let c8_i32_1374 : BitVec 32 := 8#32
  let v2448 : BitVec 32 := Scalar.andi v11 c8_i32_1374
  let c0_i32_1375 : BitVec 32 := 0#32
  let v2449 : BitVec 1 := Scalar.cmpi .ne v2448 c0_i32_1375
  let v2450 : BitVec 1 := Scalar.andi v2447 v2449
  let v2451 : BitVec 32 := Scalar.extui v2450
  let c0_i32_1378 : BitVec 32 := 0#32
  let v2452 : BitVec 1 := Scalar.cmpi .ne v2451 c0_i32_1378
  v2452

def k0_off344 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c64_i32_1348 : BitVec 32 := 64#32
  let v2400 : BitVec 32 := Scalar.andi v11 c64_i32_1348
  let v2401 : BitVec 32 := Scalar.addi v2398 v2400
  let c32_i32_1349 : BitVec 32 := 32#32
  let v2403 : BitVec 32 := Scalar.andi v11 c32_i32_1349
  let v2404 : BitVec 32 := Scalar.addi v2401 v2403
  let c16_i32_1350 : BitVec 32 := 16#32
  let v2406 : BitVec 32 := Scalar.andi v11 c16_i32_1350
  let v2407 : BitVec 32 := Scalar.addi v2404 v2406
  let v2408 : BitVec 32 := Scalar.addi v14 v2407
  let c0_i32_1544 : BitVec 32 := 0#32
  let c0_i32_1545 : BitVec 32 := 0#32
  ![v2408.toNat, 0, 0]
def k0_off345 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c64_i32_1348 : BitVec 32 := 64#32
  let v2400 : BitVec 32 := Scalar.andi v11 c64_i32_1348
  let v2401 : BitVec 32 := Scalar.addi v2398 v2400
  let c32_i32_1349 : BitVec 32 := 32#32
  let v2403 : BitVec 32 := Scalar.andi v11 c32_i32_1349
  let v2404 : BitVec 32 := Scalar.addi v2401 v2403
  let c16_i32_1350 : BitVec 32 := 16#32
  let v2406 : BitVec 32 := Scalar.andi v11 c16_i32_1350
  let v2407 : BitVec 32 := Scalar.addi v2404 v2406
  let c8_i32_1351 : BitVec 32 := 8#32
  let v2409 : BitVec 32 := Scalar.andi v11 c8_i32_1351
  let v2410 : BitVec 32 := Scalar.addi v2407 v2409
  let c0_i32_1542 : BitVec 32 := 0#32
  let c0_i32_1543 : BitVec 32 := 0#32
  ![v2410.toNat, 0, 0]
def k0_cond208 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2453 : BitVec 1 := Scalar.cmpi .eq v2 v35
  let v2454 : BitVec 1 := Scalar.andi v2197 v2453
  let c4_i32_1379 : BitVec 32 := 4#32
  let v2455 : BitVec 32 := Scalar.andi v11 c4_i32_1379
  let c0_i32_1380 : BitVec 32 := 0#32
  let v2456 : BitVec 1 := Scalar.cmpi .ne v2455 c0_i32_1380
  let v2457 : BitVec 1 := Scalar.andi v2454 v2456
  let v2458 : BitVec 32 := Scalar.extui v2457
  let c0_i32_1383 : BitVec 32 := 0#32
  let v2459 : BitVec 1 := Scalar.cmpi .ne v2458 c0_i32_1383
  v2459

def k0_off346 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c64_i32_1348 : BitVec 32 := 64#32
  let v2400 : BitVec 32 := Scalar.andi v11 c64_i32_1348
  let v2401 : BitVec 32 := Scalar.addi v2398 v2400
  let c32_i32_1349 : BitVec 32 := 32#32
  let v2403 : BitVec 32 := Scalar.andi v11 c32_i32_1349
  let v2404 : BitVec 32 := Scalar.addi v2401 v2403
  let c16_i32_1350 : BitVec 32 := 16#32
  let v2406 : BitVec 32 := Scalar.andi v11 c16_i32_1350
  let v2407 : BitVec 32 := Scalar.addi v2404 v2406
  let c8_i32_1351 : BitVec 32 := 8#32
  let v2409 : BitVec 32 := Scalar.andi v11 c8_i32_1351
  let v2410 : BitVec 32 := Scalar.addi v2407 v2409
  let v2411 : BitVec 32 := Scalar.addi v14 v2410
  let c0_i32_1544 : BitVec 32 := 0#32
  let c0_i32_1545 : BitVec 32 := 0#32
  ![v2411.toNat, 0, 0]
def k0_off347 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c64_i32_1348 : BitVec 32 := 64#32
  let v2400 : BitVec 32 := Scalar.andi v11 c64_i32_1348
  let v2401 : BitVec 32 := Scalar.addi v2398 v2400
  let c32_i32_1349 : BitVec 32 := 32#32
  let v2403 : BitVec 32 := Scalar.andi v11 c32_i32_1349
  let v2404 : BitVec 32 := Scalar.addi v2401 v2403
  let c16_i32_1350 : BitVec 32 := 16#32
  let v2406 : BitVec 32 := Scalar.andi v11 c16_i32_1350
  let v2407 : BitVec 32 := Scalar.addi v2404 v2406
  let c8_i32_1351 : BitVec 32 := 8#32
  let v2409 : BitVec 32 := Scalar.andi v11 c8_i32_1351
  let v2410 : BitVec 32 := Scalar.addi v2407 v2409
  let c4_i32_1352 : BitVec 32 := 4#32
  let v2412 : BitVec 32 := Scalar.andi v11 c4_i32_1352
  let v2413 : BitVec 32 := Scalar.addi v2410 v2412
  let c0_i32_1542 : BitVec 32 := 0#32
  let c0_i32_1543 : BitVec 32 := 0#32
  ![v2413.toNat, 0, 0]
def k0_cond209 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2460 : BitVec 1 := Scalar.cmpi .eq v2 v35
  let v2461 : BitVec 1 := Scalar.andi v2197 v2460
  let c2_i32_1384 : BitVec 32 := 2#32
  let v2462 : BitVec 32 := Scalar.andi v11 c2_i32_1384
  let c0_i32_1385 : BitVec 32 := 0#32
  let v2463 : BitVec 1 := Scalar.cmpi .ne v2462 c0_i32_1385
  let v2464 : BitVec 1 := Scalar.andi v2461 v2463
  let v2465 : BitVec 32 := Scalar.extui v2464
  let c0_i32_1388 : BitVec 32 := 0#32
  let v2466 : BitVec 1 := Scalar.cmpi .ne v2465 c0_i32_1388
  v2466

def k0_off348 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c64_i32_1348 : BitVec 32 := 64#32
  let v2400 : BitVec 32 := Scalar.andi v11 c64_i32_1348
  let v2401 : BitVec 32 := Scalar.addi v2398 v2400
  let c32_i32_1349 : BitVec 32 := 32#32
  let v2403 : BitVec 32 := Scalar.andi v11 c32_i32_1349
  let v2404 : BitVec 32 := Scalar.addi v2401 v2403
  let c16_i32_1350 : BitVec 32 := 16#32
  let v2406 : BitVec 32 := Scalar.andi v11 c16_i32_1350
  let v2407 : BitVec 32 := Scalar.addi v2404 v2406
  let c8_i32_1351 : BitVec 32 := 8#32
  let v2409 : BitVec 32 := Scalar.andi v11 c8_i32_1351
  let v2410 : BitVec 32 := Scalar.addi v2407 v2409
  let c4_i32_1352 : BitVec 32 := 4#32
  let v2412 : BitVec 32 := Scalar.andi v11 c4_i32_1352
  let v2413 : BitVec 32 := Scalar.addi v2410 v2412
  let v2414 : BitVec 32 := Scalar.addi v14 v2413
  let c0_i32_1544 : BitVec 32 := 0#32
  let c0_i32_1545 : BitVec 32 := 0#32
  ![v2414.toNat, 0, 0]
def k0_off349 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c64_i32_1348 : BitVec 32 := 64#32
  let v2400 : BitVec 32 := Scalar.andi v11 c64_i32_1348
  let v2401 : BitVec 32 := Scalar.addi v2398 v2400
  let c32_i32_1349 : BitVec 32 := 32#32
  let v2403 : BitVec 32 := Scalar.andi v11 c32_i32_1349
  let v2404 : BitVec 32 := Scalar.addi v2401 v2403
  let c16_i32_1350 : BitVec 32 := 16#32
  let v2406 : BitVec 32 := Scalar.andi v11 c16_i32_1350
  let v2407 : BitVec 32 := Scalar.addi v2404 v2406
  let c8_i32_1351 : BitVec 32 := 8#32
  let v2409 : BitVec 32 := Scalar.andi v11 c8_i32_1351
  let v2410 : BitVec 32 := Scalar.addi v2407 v2409
  let c4_i32_1352 : BitVec 32 := 4#32
  let v2412 : BitVec 32 := Scalar.andi v11 c4_i32_1352
  let v2413 : BitVec 32 := Scalar.addi v2410 v2412
  let c2_i32_1353 : BitVec 32 := 2#32
  let v2415 : BitVec 32 := Scalar.andi v11 c2_i32_1353
  let v2416 : BitVec 32 := Scalar.addi v2413 v2415
  let c0_i32_1542 : BitVec 32 := 0#32
  let c0_i32_1543 : BitVec 32 := 0#32
  ![v2416.toNat, 0, 0]
def k0_cond210 (d0 : Dev nD) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let true_1239 : BitVec 1 := 1#1
  let v2197 : BitVec 1 := Scalar.xori v9 true_1239
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2467 : BitVec 1 := Scalar.cmpi .eq v2 v35
  let v2468 : BitVec 1 := Scalar.andi v2197 v2467
  let c1_i32_1389 : BitVec 32 := 1#32
  let v2469 : BitVec 32 := Scalar.andi v11 c1_i32_1389
  let c0_i32_1390 : BitVec 32 := 0#32
  let v2470 : BitVec 1 := Scalar.cmpi .ne v2469 c0_i32_1390
  let v2471 : BitVec 1 := Scalar.andi v2468 v2470
  let v2472 : BitVec 32 := Scalar.extui v2471
  let c0_i32_1393 : BitVec 32 := 0#32
  let v2473 : BitVec 1 := Scalar.cmpi .ne v2472 c0_i32_1393
  v2473

def k0_off350 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c0_i32_6 : BitVec 32 := 0#32
  let c4096_i32_5 : BitVec 32 := 4096#32
  let c4096_i32 : BitVec 32 := 4096#32
  let v10 : BitVec 32 := Scalar.subi c4096_i32 v8
  let v11 : BitVec 32 := Scalar.select v9 v10 v8
  let v13 : BitVec 32 := Scalar.subi c4096_i32_5 v11
  let v14 : BitVec 32 := Scalar.select v9 c0_i32_6 v13
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1347 : BitVec 32 := 128#32
  let v2397 : BitVec 32 := Scalar.andi v11 c128_i32_1347
  let v2398 : BitVec 32 := Scalar.addi v46 v2397
  let c64_i32_1348 : BitVec 32 := 64#32
  let v2400 : BitVec 32 := Scalar.andi v11 c64_i32_1348
  let v2401 : BitVec 32 := Scalar.addi v2398 v2400
  let c32_i32_1349 : BitVec 32 := 32#32
  let v2403 : BitVec 32 := Scalar.andi v11 c32_i32_1349
  let v2404 : BitVec 32 := Scalar.addi v2401 v2403
  let c16_i32_1350 : BitVec 32 := 16#32
  let v2406 : BitVec 32 := Scalar.andi v11 c16_i32_1350
  let v2407 : BitVec 32 := Scalar.addi v2404 v2406
  let c8_i32_1351 : BitVec 32 := 8#32
  let v2409 : BitVec 32 := Scalar.andi v11 c8_i32_1351
  let v2410 : BitVec 32 := Scalar.addi v2407 v2409
  let c4_i32_1352 : BitVec 32 := 4#32
  let v2412 : BitVec 32 := Scalar.andi v11 c4_i32_1352
  let v2413 : BitVec 32 := Scalar.addi v2410 v2412
  let c2_i32_1353 : BitVec 32 := 2#32
  let v2415 : BitVec 32 := Scalar.andi v11 c2_i32_1353
  let v2416 : BitVec 32 := Scalar.addi v2413 v2415
  let v2417 : BitVec 32 := Scalar.addi v14 v2416
  let c0_i32_1544 : BitVec 32 := 0#32
  let c0_i32_1545 : BitVec 32 := 0#32
  ![v2417.toNat, 0, 0]
def k0_off351 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c0_i32_1541 : BitVec 32 := 0#32
  let v2700 : BitVec 32 := Scalar.addi v16 c0_i32_1541
  let c0_i32_1546 : BitVec 32 := 0#32
  let c0_i32_1547 : BitVec 32 := 0#32
  ![v2700.toNat, 0, 0]
def k0_cond211 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1394 : BitVec 32 := 0#32
  let v2474 : BitVec 1 := Scalar.cmpi .eq v2 c0_i32_1394
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_1395 : BitVec 32 := 256#32
  let v2475 : BitVec 1 := Scalar.cmpi .sge v11 c256_i32_1395
  let v2476 : BitVec 1 := Scalar.andi v2474 v2475
  let v2477 : BitVec 32 := Scalar.extui v2476
  let c0_i32_1396 : BitVec 32 := 0#32
  let v2478 : BitVec 1 := Scalar.cmpi .ne v2477 c0_i32_1396
  v2478

def k0_off352 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c0_i32_1542 : BitVec 32 := 0#32
  let v2701 : BitVec 32 := Scalar.addi v16 c0_i32_1542
  let c0_i32_1548 : BitVec 32 := 0#32
  let c0_i32_1549 : BitVec 32 := 0#32
  ![v2701.toNat, 0, 0]
def k0_cond212 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1397 : BitVec 32 := 0#32
  let v2479 : BitVec 1 := Scalar.cmpi .ne v2 c0_i32_1397
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c256_i32_1398 : BitVec 32 := 256#32
  let v2480 : BitVec 1 := Scalar.cmpi .sge v11 c256_i32_1398
  let v2481 : BitVec 1 := Scalar.andi v2479 v2480
  let v2482 : BitVec 32 := Scalar.extui v2481
  let c0_i32_1399 : BitVec 32 := 0#32
  let v2483 : BitVec 1 := Scalar.cmpi .ne v2482 c0_i32_1399
  v2483

def k0_off353 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_1541 : BitVec 32 := 256#32
  let v2700 : BitVec 32 := Scalar.addi v16 c256_i32_1541
  let c0_i32_1546 : BitVec 32 := 0#32
  let c0_i32_1547 : BitVec 32 := 0#32
  ![v2700.toNat, 0, 0]
def k0_cond213 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1400 : BitVec 32 := 1#32
  let v2484 : BitVec 1 := Scalar.cmpi .eq v2 c1_i32_1400
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c512_i32_1401 : BitVec 32 := 512#32
  let v2485 : BitVec 1 := Scalar.cmpi .sge v11 c512_i32_1401
  let v2486 : BitVec 1 := Scalar.andi v2484 v2485
  let v2487 : BitVec 32 := Scalar.extui v2486
  let c0_i32_1402 : BitVec 32 := 0#32
  let v2488 : BitVec 1 := Scalar.cmpi .ne v2487 c0_i32_1402
  v2488

def k0_off354 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_1542 : BitVec 32 := 256#32
  let v2701 : BitVec 32 := Scalar.addi v16 c256_i32_1542
  let c0_i32_1548 : BitVec 32 := 0#32
  let c0_i32_1549 : BitVec 32 := 0#32
  ![v2701.toNat, 0, 0]
def k0_cond214 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1403 : BitVec 32 := 1#32
  let v2489 : BitVec 1 := Scalar.cmpi .ne v2 c1_i32_1403
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c512_i32_1404 : BitVec 32 := 512#32
  let v2490 : BitVec 1 := Scalar.cmpi .sge v11 c512_i32_1404
  let v2491 : BitVec 1 := Scalar.andi v2489 v2490
  let v2492 : BitVec 32 := Scalar.extui v2491
  let c0_i32_1405 : BitVec 32 := 0#32
  let v2493 : BitVec 1 := Scalar.cmpi .ne v2492 c0_i32_1405
  v2493

def k0_off355 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c512_i32_1541 : BitVec 32 := 512#32
  let v2700 : BitVec 32 := Scalar.addi v16 c512_i32_1541
  let c0_i32_1546 : BitVec 32 := 0#32
  let c0_i32_1547 : BitVec 32 := 0#32
  ![v2700.toNat, 0, 0]
def k0_cond215 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1406 : BitVec 32 := 0#32
  let v2494 : BitVec 1 := Scalar.cmpi .eq v2 c0_i32_1406
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c768_i32_1407 : BitVec 32 := 768#32
  let v2495 : BitVec 1 := Scalar.cmpi .sge v11 c768_i32_1407
  let v2496 : BitVec 1 := Scalar.andi v2494 v2495
  let v2497 : BitVec 32 := Scalar.extui v2496
  let c0_i32_1408 : BitVec 32 := 0#32
  let v2498 : BitVec 1 := Scalar.cmpi .ne v2497 c0_i32_1408
  v2498

def k0_off356 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c512_i32_1542 : BitVec 32 := 512#32
  let v2701 : BitVec 32 := Scalar.addi v16 c512_i32_1542
  let c0_i32_1548 : BitVec 32 := 0#32
  let c0_i32_1549 : BitVec 32 := 0#32
  ![v2701.toNat, 0, 0]
def k0_cond216 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1409 : BitVec 32 := 0#32
  let v2499 : BitVec 1 := Scalar.cmpi .ne v2 c0_i32_1409
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c768_i32_1410 : BitVec 32 := 768#32
  let v2500 : BitVec 1 := Scalar.cmpi .sge v11 c768_i32_1410
  let v2501 : BitVec 1 := Scalar.andi v2499 v2500
  let v2502 : BitVec 32 := Scalar.extui v2501
  let c0_i32_1411 : BitVec 32 := 0#32
  let v2503 : BitVec 1 := Scalar.cmpi .ne v2502 c0_i32_1411
  v2503

def k0_off357 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c768_i32_1541 : BitVec 32 := 768#32
  let v2700 : BitVec 32 := Scalar.addi v16 c768_i32_1541
  let c0_i32_1546 : BitVec 32 := 0#32
  let c0_i32_1547 : BitVec 32 := 0#32
  ![v2700.toNat, 0, 0]
def k0_cond217 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1412 : BitVec 32 := 1#32
  let v2504 : BitVec 1 := Scalar.cmpi .eq v2 c1_i32_1412
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1024_i32_1413 : BitVec 32 := 1024#32
  let v2505 : BitVec 1 := Scalar.cmpi .sge v11 c1024_i32_1413
  let v2506 : BitVec 1 := Scalar.andi v2504 v2505
  let v2507 : BitVec 32 := Scalar.extui v2506
  let c0_i32_1414 : BitVec 32 := 0#32
  let v2508 : BitVec 1 := Scalar.cmpi .ne v2507 c0_i32_1414
  v2508

def k0_off358 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c768_i32_1542 : BitVec 32 := 768#32
  let v2701 : BitVec 32 := Scalar.addi v16 c768_i32_1542
  let c0_i32_1548 : BitVec 32 := 0#32
  let c0_i32_1549 : BitVec 32 := 0#32
  ![v2701.toNat, 0, 0]
def k0_cond218 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1415 : BitVec 32 := 1#32
  let v2509 : BitVec 1 := Scalar.cmpi .ne v2 c1_i32_1415
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1024_i32_1416 : BitVec 32 := 1024#32
  let v2510 : BitVec 1 := Scalar.cmpi .sge v11 c1024_i32_1416
  let v2511 : BitVec 1 := Scalar.andi v2509 v2510
  let v2512 : BitVec 32 := Scalar.extui v2511
  let c0_i32_1417 : BitVec 32 := 0#32
  let v2513 : BitVec 1 := Scalar.cmpi .ne v2512 c0_i32_1417
  v2513

def k0_off359 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c1024_i32_1541 : BitVec 32 := 1024#32
  let v2700 : BitVec 32 := Scalar.addi v16 c1024_i32_1541
  let c0_i32_1546 : BitVec 32 := 0#32
  let c0_i32_1547 : BitVec 32 := 0#32
  ![v2700.toNat, 0, 0]
def k0_cond219 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1418 : BitVec 32 := 0#32
  let v2514 : BitVec 1 := Scalar.cmpi .eq v2 c0_i32_1418
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1280_i32_1419 : BitVec 32 := 1280#32
  let v2515 : BitVec 1 := Scalar.cmpi .sge v11 c1280_i32_1419
  let v2516 : BitVec 1 := Scalar.andi v2514 v2515
  let v2517 : BitVec 32 := Scalar.extui v2516
  let c0_i32_1420 : BitVec 32 := 0#32
  let v2518 : BitVec 1 := Scalar.cmpi .ne v2517 c0_i32_1420
  v2518

def k0_off360 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c1024_i32_1542 : BitVec 32 := 1024#32
  let v2701 : BitVec 32 := Scalar.addi v16 c1024_i32_1542
  let c0_i32_1548 : BitVec 32 := 0#32
  let c0_i32_1549 : BitVec 32 := 0#32
  ![v2701.toNat, 0, 0]
def k0_cond220 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1421 : BitVec 32 := 0#32
  let v2519 : BitVec 1 := Scalar.cmpi .ne v2 c0_i32_1421
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1280_i32_1422 : BitVec 32 := 1280#32
  let v2520 : BitVec 1 := Scalar.cmpi .sge v11 c1280_i32_1422
  let v2521 : BitVec 1 := Scalar.andi v2519 v2520
  let v2522 : BitVec 32 := Scalar.extui v2521
  let c0_i32_1423 : BitVec 32 := 0#32
  let v2523 : BitVec 1 := Scalar.cmpi .ne v2522 c0_i32_1423
  v2523

def k0_off361 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c1280_i32_1541 : BitVec 32 := 1280#32
  let v2700 : BitVec 32 := Scalar.addi v16 c1280_i32_1541
  let c0_i32_1546 : BitVec 32 := 0#32
  let c0_i32_1547 : BitVec 32 := 0#32
  ![v2700.toNat, 0, 0]
def k0_cond221 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1424 : BitVec 32 := 1#32
  let v2524 : BitVec 1 := Scalar.cmpi .eq v2 c1_i32_1424
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1536_i32_1425 : BitVec 32 := 1536#32
  let v2525 : BitVec 1 := Scalar.cmpi .sge v11 c1536_i32_1425
  let v2526 : BitVec 1 := Scalar.andi v2524 v2525
  let v2527 : BitVec 32 := Scalar.extui v2526
  let c0_i32_1426 : BitVec 32 := 0#32
  let v2528 : BitVec 1 := Scalar.cmpi .ne v2527 c0_i32_1426
  v2528

def k0_off362 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c1280_i32_1542 : BitVec 32 := 1280#32
  let v2701 : BitVec 32 := Scalar.addi v16 c1280_i32_1542
  let c0_i32_1548 : BitVec 32 := 0#32
  let c0_i32_1549 : BitVec 32 := 0#32
  ![v2701.toNat, 0, 0]
def k0_cond222 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1427 : BitVec 32 := 1#32
  let v2529 : BitVec 1 := Scalar.cmpi .ne v2 c1_i32_1427
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1536_i32_1428 : BitVec 32 := 1536#32
  let v2530 : BitVec 1 := Scalar.cmpi .sge v11 c1536_i32_1428
  let v2531 : BitVec 1 := Scalar.andi v2529 v2530
  let v2532 : BitVec 32 := Scalar.extui v2531
  let c0_i32_1429 : BitVec 32 := 0#32
  let v2533 : BitVec 1 := Scalar.cmpi .ne v2532 c0_i32_1429
  v2533

def k0_off363 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c1536_i32_1541 : BitVec 32 := 1536#32
  let v2700 : BitVec 32 := Scalar.addi v16 c1536_i32_1541
  let c0_i32_1546 : BitVec 32 := 0#32
  let c0_i32_1547 : BitVec 32 := 0#32
  ![v2700.toNat, 0, 0]
def k0_cond223 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1430 : BitVec 32 := 0#32
  let v2534 : BitVec 1 := Scalar.cmpi .eq v2 c0_i32_1430
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1792_i32_1431 : BitVec 32 := 1792#32
  let v2535 : BitVec 1 := Scalar.cmpi .sge v11 c1792_i32_1431
  let v2536 : BitVec 1 := Scalar.andi v2534 v2535
  let v2537 : BitVec 32 := Scalar.extui v2536
  let c0_i32_1432 : BitVec 32 := 0#32
  let v2538 : BitVec 1 := Scalar.cmpi .ne v2537 c0_i32_1432
  v2538

def k0_off364 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c1536_i32_1542 : BitVec 32 := 1536#32
  let v2701 : BitVec 32 := Scalar.addi v16 c1536_i32_1542
  let c0_i32_1548 : BitVec 32 := 0#32
  let c0_i32_1549 : BitVec 32 := 0#32
  ![v2701.toNat, 0, 0]
def k0_cond224 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1433 : BitVec 32 := 0#32
  let v2539 : BitVec 1 := Scalar.cmpi .ne v2 c0_i32_1433
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c1792_i32_1434 : BitVec 32 := 1792#32
  let v2540 : BitVec 1 := Scalar.cmpi .sge v11 c1792_i32_1434
  let v2541 : BitVec 1 := Scalar.andi v2539 v2540
  let v2542 : BitVec 32 := Scalar.extui v2541
  let c0_i32_1435 : BitVec 32 := 0#32
  let v2543 : BitVec 1 := Scalar.cmpi .ne v2542 c0_i32_1435
  v2543

def k0_off365 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c1792_i32_1541 : BitVec 32 := 1792#32
  let v2700 : BitVec 32 := Scalar.addi v16 c1792_i32_1541
  let c0_i32_1546 : BitVec 32 := 0#32
  let c0_i32_1547 : BitVec 32 := 0#32
  ![v2700.toNat, 0, 0]
def k0_cond225 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1436 : BitVec 32 := 1#32
  let v2544 : BitVec 1 := Scalar.cmpi .eq v2 c1_i32_1436
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2048_i32_1437 : BitVec 32 := 2048#32
  let v2545 : BitVec 1 := Scalar.cmpi .sge v11 c2048_i32_1437
  let v2546 : BitVec 1 := Scalar.andi v2544 v2545
  let v2547 : BitVec 32 := Scalar.extui v2546
  let c0_i32_1438 : BitVec 32 := 0#32
  let v2548 : BitVec 1 := Scalar.cmpi .ne v2547 c0_i32_1438
  v2548

def k0_off366 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c1792_i32_1542 : BitVec 32 := 1792#32
  let v2701 : BitVec 32 := Scalar.addi v16 c1792_i32_1542
  let c0_i32_1548 : BitVec 32 := 0#32
  let c0_i32_1549 : BitVec 32 := 0#32
  ![v2701.toNat, 0, 0]
def k0_cond226 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1439 : BitVec 32 := 1#32
  let v2549 : BitVec 1 := Scalar.cmpi .ne v2 c1_i32_1439
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2048_i32_1440 : BitVec 32 := 2048#32
  let v2550 : BitVec 1 := Scalar.cmpi .sge v11 c2048_i32_1440
  let v2551 : BitVec 1 := Scalar.andi v2549 v2550
  let v2552 : BitVec 32 := Scalar.extui v2551
  let c0_i32_1441 : BitVec 32 := 0#32
  let v2553 : BitVec 1 := Scalar.cmpi .ne v2552 c0_i32_1441
  v2553

def k0_off367 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c2048_i32_1541 : BitVec 32 := 2048#32
  let v2700 : BitVec 32 := Scalar.addi v16 c2048_i32_1541
  let c0_i32_1546 : BitVec 32 := 0#32
  let c0_i32_1547 : BitVec 32 := 0#32
  ![v2700.toNat, 0, 0]
def k0_cond227 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1442 : BitVec 32 := 0#32
  let v2554 : BitVec 1 := Scalar.cmpi .eq v2 c0_i32_1442
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2304_i32_1443 : BitVec 32 := 2304#32
  let v2555 : BitVec 1 := Scalar.cmpi .sge v11 c2304_i32_1443
  let v2556 : BitVec 1 := Scalar.andi v2554 v2555
  let v2557 : BitVec 32 := Scalar.extui v2556
  let c0_i32_1444 : BitVec 32 := 0#32
  let v2558 : BitVec 1 := Scalar.cmpi .ne v2557 c0_i32_1444
  v2558

def k0_off368 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c2048_i32_1542 : BitVec 32 := 2048#32
  let v2701 : BitVec 32 := Scalar.addi v16 c2048_i32_1542
  let c0_i32_1548 : BitVec 32 := 0#32
  let c0_i32_1549 : BitVec 32 := 0#32
  ![v2701.toNat, 0, 0]
def k0_cond228 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_1445 : BitVec 32 := 0#32
  let v2559 : BitVec 1 := Scalar.cmpi .ne v2 c0_i32_1445
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2304_i32_1446 : BitVec 32 := 2304#32
  let v2560 : BitVec 1 := Scalar.cmpi .sge v11 c2304_i32_1446
  let v2561 : BitVec 1 := Scalar.andi v2559 v2560
  let v2562 : BitVec 32 := Scalar.extui v2561
  let c0_i32_1447 : BitVec 32 := 0#32
  let v2563 : BitVec 1 := Scalar.cmpi .ne v2562 c0_i32_1447
  v2563

def k0_off369 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c2304_i32_1541 : BitVec 32 := 2304#32
  let v2700 : BitVec 32 := Scalar.addi v16 c2304_i32_1541
  let c0_i32_1545 : BitVec 32 := 0#32
  let c0_i32_1546 : BitVec 32 := 0#32
  ![v2700.toNat, 0, 0]
def k0_cond229 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1448 : BitVec 32 := 1#32
  let v2564 : BitVec 1 := Scalar.cmpi .eq v2 c1_i32_1448
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2560_i32_1449 : BitVec 32 := 2560#32
  let v2565 : BitVec 1 := Scalar.cmpi .sge v11 c2560_i32_1449
  let v2566 : BitVec 1 := Scalar.andi v2564 v2565
  let v2567 : BitVec 32 := Scalar.extui v2566
  let c0_i32_1450 : BitVec 32 := 0#32
  let v2568 : BitVec 1 := Scalar.cmpi .ne v2567 c0_i32_1450
  v2568

def k0_off370 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c2304_i32_1542 : BitVec 32 := 2304#32
  let v2701 : BitVec 32 := Scalar.addi v16 c2304_i32_1542
  let c0_i32_1547 : BitVec 32 := 0#32
  let c0_i32_1548 : BitVec 32 := 0#32
  ![v2701.toNat, 0, 0]
def k0_cond230 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_1451 : BitVec 32 := 1#32
  let v2569 : BitVec 1 := Scalar.cmpi .ne v2 c1_i32_1451
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c2560_i32_1452 : BitVec 32 := 2560#32
  let v2570 : BitVec 1 := Scalar.cmpi .sge v11 c2560_i32_1452
  let v2571 : BitVec 1 := Scalar.andi v2569 v2570
  let v2572 : BitVec 32 := Scalar.extui v2571
  let c0_i32_1453 : BitVec 32 := 0#32
  let v2573 : BitVec 1 := Scalar.cmpi .ne v2572 c0_i32_1453
  v2573

def k0_off371 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v2574 : BitVec 32 := Scalar.addi v16 v46
  let c0_i32_1542 : BitVec 32 := 0#32
  let c0_i32_1543 : BitVec 32 := 0#32
  ![v2574.toNat, 0, 0]
def k0_cond231 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2604 : BitVec 1 := Scalar.cmpi .eq v2 v35
  let c128_i32_1461 : BitVec 32 := 128#32
  let v2605 : BitVec 32 := Scalar.andi v11 c128_i32_1461
  let c0_i32_1462 : BitVec 32 := 0#32
  let v2606 : BitVec 1 := Scalar.cmpi .ne v2605 c0_i32_1462
  let v2607 : BitVec 1 := Scalar.andi v2604 v2606
  let v2608 : BitVec 32 := Scalar.extui v2607
  let c0_i32_1465 : BitVec 32 := 0#32
  let v2609 : BitVec 1 := Scalar.cmpi .ne v2608 c0_i32_1465
  v2609

def k0_off372 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let v2575 : BitVec 32 := Scalar.addi v16 v46
  let c0_i32_1544 : BitVec 32 := 0#32
  let c0_i32_1545 : BitVec 32 := 0#32
  ![v2575.toNat, 0, 0]
def k0_cond232 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2610 : BitVec 1 := Scalar.cmpi .ne v2 v35
  let c128_i32_1466 : BitVec 32 := 128#32
  let v2611 : BitVec 32 := Scalar.andi v11 c128_i32_1466
  let c0_i32_1467 : BitVec 32 := 0#32
  let v2612 : BitVec 1 := Scalar.cmpi .ne v2611 c0_i32_1467
  let v2613 : BitVec 1 := Scalar.andi v2610 v2612
  let v2614 : BitVec 32 := Scalar.extui v2613
  let c0_i32_1470 : BitVec 32 := 0#32
  let v2615 : BitVec 1 := Scalar.cmpi .ne v2614 c0_i32_1470
  v2615

def k0_off373 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let v2578 : BitVec 32 := Scalar.addi v16 v2577
  let c0_i32_1542 : BitVec 32 := 0#32
  let c0_i32_1543 : BitVec 32 := 0#32
  ![v2578.toNat, 0, 0]
def k0_cond233 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2616 : BitVec 1 := Scalar.cmpi .eq v2 v35
  let c64_i32_1471 : BitVec 32 := 64#32
  let v2617 : BitVec 32 := Scalar.andi v11 c64_i32_1471
  let c0_i32_1472 : BitVec 32 := 0#32
  let v2618 : BitVec 1 := Scalar.cmpi .ne v2617 c0_i32_1472
  let v2619 : BitVec 1 := Scalar.andi v2616 v2618
  let v2620 : BitVec 32 := Scalar.extui v2619
  let c0_i32_1475 : BitVec 32 := 0#32
  let v2621 : BitVec 1 := Scalar.cmpi .ne v2620 c0_i32_1475
  v2621

def k0_off374 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let v2579 : BitVec 32 := Scalar.addi v16 v2577
  let c0_i32_1544 : BitVec 32 := 0#32
  let c0_i32_1545 : BitVec 32 := 0#32
  ![v2579.toNat, 0, 0]
def k0_cond234 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2622 : BitVec 1 := Scalar.cmpi .ne v2 v35
  let c64_i32_1476 : BitVec 32 := 64#32
  let v2623 : BitVec 32 := Scalar.andi v11 c64_i32_1476
  let c0_i32_1477 : BitVec 32 := 0#32
  let v2624 : BitVec 1 := Scalar.cmpi .ne v2623 c0_i32_1477
  let v2625 : BitVec 1 := Scalar.andi v2622 v2624
  let v2626 : BitVec 32 := Scalar.extui v2625
  let c0_i32_1480 : BitVec 32 := 0#32
  let v2627 : BitVec 1 := Scalar.cmpi .ne v2626 c0_i32_1480
  v2627

def k0_off375 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let c64_i32_1455 : BitVec 32 := 64#32
  let v2580 : BitVec 32 := Scalar.andi v11 c64_i32_1455
  let v2581 : BitVec 32 := Scalar.addi v2577 v2580
  let v2582 : BitVec 32 := Scalar.addi v16 v2581
  let c0_i32_1542 : BitVec 32 := 0#32
  let c0_i32_1543 : BitVec 32 := 0#32
  ![v2582.toNat, 0, 0]
def k0_cond235 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2628 : BitVec 1 := Scalar.cmpi .eq v2 v35
  let c32_i32_1481 : BitVec 32 := 32#32
  let v2629 : BitVec 32 := Scalar.andi v11 c32_i32_1481
  let c0_i32_1482 : BitVec 32 := 0#32
  let v2630 : BitVec 1 := Scalar.cmpi .ne v2629 c0_i32_1482
  let v2631 : BitVec 1 := Scalar.andi v2628 v2630
  let v2632 : BitVec 32 := Scalar.extui v2631
  let c0_i32_1485 : BitVec 32 := 0#32
  let v2633 : BitVec 1 := Scalar.cmpi .ne v2632 c0_i32_1485
  v2633

def k0_off376 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let c64_i32_1455 : BitVec 32 := 64#32
  let v2580 : BitVec 32 := Scalar.andi v11 c64_i32_1455
  let v2581 : BitVec 32 := Scalar.addi v2577 v2580
  let v2583 : BitVec 32 := Scalar.addi v16 v2581
  let c0_i32_1544 : BitVec 32 := 0#32
  let c0_i32_1545 : BitVec 32 := 0#32
  ![v2583.toNat, 0, 0]
def k0_cond236 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2634 : BitVec 1 := Scalar.cmpi .ne v2 v35
  let c32_i32_1486 : BitVec 32 := 32#32
  let v2635 : BitVec 32 := Scalar.andi v11 c32_i32_1486
  let c0_i32_1487 : BitVec 32 := 0#32
  let v2636 : BitVec 1 := Scalar.cmpi .ne v2635 c0_i32_1487
  let v2637 : BitVec 1 := Scalar.andi v2634 v2636
  let v2638 : BitVec 32 := Scalar.extui v2637
  let c0_i32_1490 : BitVec 32 := 0#32
  let v2639 : BitVec 1 := Scalar.cmpi .ne v2638 c0_i32_1490
  v2639

def k0_off377 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let c64_i32_1455 : BitVec 32 := 64#32
  let v2580 : BitVec 32 := Scalar.andi v11 c64_i32_1455
  let v2581 : BitVec 32 := Scalar.addi v2577 v2580
  let c32_i32_1456 : BitVec 32 := 32#32
  let v2584 : BitVec 32 := Scalar.andi v11 c32_i32_1456
  let v2585 : BitVec 32 := Scalar.addi v2581 v2584
  let v2586 : BitVec 32 := Scalar.addi v16 v2585
  let c0_i32_1542 : BitVec 32 := 0#32
  let c0_i32_1543 : BitVec 32 := 0#32
  ![v2586.toNat, 0, 0]
def k0_cond237 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2640 : BitVec 1 := Scalar.cmpi .eq v2 v35
  let c16_i32_1491 : BitVec 32 := 16#32
  let v2641 : BitVec 32 := Scalar.andi v11 c16_i32_1491
  let c0_i32_1492 : BitVec 32 := 0#32
  let v2642 : BitVec 1 := Scalar.cmpi .ne v2641 c0_i32_1492
  let v2643 : BitVec 1 := Scalar.andi v2640 v2642
  let v2644 : BitVec 32 := Scalar.extui v2643
  let c0_i32_1495 : BitVec 32 := 0#32
  let v2645 : BitVec 1 := Scalar.cmpi .ne v2644 c0_i32_1495
  v2645

def k0_off378 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let c64_i32_1455 : BitVec 32 := 64#32
  let v2580 : BitVec 32 := Scalar.andi v11 c64_i32_1455
  let v2581 : BitVec 32 := Scalar.addi v2577 v2580
  let c32_i32_1456 : BitVec 32 := 32#32
  let v2584 : BitVec 32 := Scalar.andi v11 c32_i32_1456
  let v2585 : BitVec 32 := Scalar.addi v2581 v2584
  let v2587 : BitVec 32 := Scalar.addi v16 v2585
  let c0_i32_1544 : BitVec 32 := 0#32
  let c0_i32_1545 : BitVec 32 := 0#32
  ![v2587.toNat, 0, 0]
def k0_cond238 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2646 : BitVec 1 := Scalar.cmpi .ne v2 v35
  let c16_i32_1496 : BitVec 32 := 16#32
  let v2647 : BitVec 32 := Scalar.andi v11 c16_i32_1496
  let c0_i32_1497 : BitVec 32 := 0#32
  let v2648 : BitVec 1 := Scalar.cmpi .ne v2647 c0_i32_1497
  let v2649 : BitVec 1 := Scalar.andi v2646 v2648
  let v2650 : BitVec 32 := Scalar.extui v2649
  let c0_i32_1500 : BitVec 32 := 0#32
  let v2651 : BitVec 1 := Scalar.cmpi .ne v2650 c0_i32_1500
  v2651

def k0_off379 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let c64_i32_1455 : BitVec 32 := 64#32
  let v2580 : BitVec 32 := Scalar.andi v11 c64_i32_1455
  let v2581 : BitVec 32 := Scalar.addi v2577 v2580
  let c32_i32_1456 : BitVec 32 := 32#32
  let v2584 : BitVec 32 := Scalar.andi v11 c32_i32_1456
  let v2585 : BitVec 32 := Scalar.addi v2581 v2584
  let c16_i32_1457 : BitVec 32 := 16#32
  let v2588 : BitVec 32 := Scalar.andi v11 c16_i32_1457
  let v2589 : BitVec 32 := Scalar.addi v2585 v2588
  let v2590 : BitVec 32 := Scalar.addi v16 v2589
  let c0_i32_1542 : BitVec 32 := 0#32
  let c0_i32_1543 : BitVec 32 := 0#32
  ![v2590.toNat, 0, 0]
def k0_cond239 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2652 : BitVec 1 := Scalar.cmpi .eq v2 v35
  let c8_i32_1501 : BitVec 32 := 8#32
  let v2653 : BitVec 32 := Scalar.andi v11 c8_i32_1501
  let c0_i32_1502 : BitVec 32 := 0#32
  let v2654 : BitVec 1 := Scalar.cmpi .ne v2653 c0_i32_1502
  let v2655 : BitVec 1 := Scalar.andi v2652 v2654
  let v2656 : BitVec 32 := Scalar.extui v2655
  let c0_i32_1505 : BitVec 32 := 0#32
  let v2657 : BitVec 1 := Scalar.cmpi .ne v2656 c0_i32_1505
  v2657

def k0_off380 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let c64_i32_1455 : BitVec 32 := 64#32
  let v2580 : BitVec 32 := Scalar.andi v11 c64_i32_1455
  let v2581 : BitVec 32 := Scalar.addi v2577 v2580
  let c32_i32_1456 : BitVec 32 := 32#32
  let v2584 : BitVec 32 := Scalar.andi v11 c32_i32_1456
  let v2585 : BitVec 32 := Scalar.addi v2581 v2584
  let c16_i32_1457 : BitVec 32 := 16#32
  let v2588 : BitVec 32 := Scalar.andi v11 c16_i32_1457
  let v2589 : BitVec 32 := Scalar.addi v2585 v2588
  let v2591 : BitVec 32 := Scalar.addi v16 v2589
  let c0_i32_1544 : BitVec 32 := 0#32
  let c0_i32_1545 : BitVec 32 := 0#32
  ![v2591.toNat, 0, 0]
def k0_cond240 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2658 : BitVec 1 := Scalar.cmpi .ne v2 v35
  let c8_i32_1506 : BitVec 32 := 8#32
  let v2659 : BitVec 32 := Scalar.andi v11 c8_i32_1506
  let c0_i32_1507 : BitVec 32 := 0#32
  let v2660 : BitVec 1 := Scalar.cmpi .ne v2659 c0_i32_1507
  let v2661 : BitVec 1 := Scalar.andi v2658 v2660
  let v2662 : BitVec 32 := Scalar.extui v2661
  let c0_i32_1510 : BitVec 32 := 0#32
  let v2663 : BitVec 1 := Scalar.cmpi .ne v2662 c0_i32_1510
  v2663

def k0_off381 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let c64_i32_1455 : BitVec 32 := 64#32
  let v2580 : BitVec 32 := Scalar.andi v11 c64_i32_1455
  let v2581 : BitVec 32 := Scalar.addi v2577 v2580
  let c32_i32_1456 : BitVec 32 := 32#32
  let v2584 : BitVec 32 := Scalar.andi v11 c32_i32_1456
  let v2585 : BitVec 32 := Scalar.addi v2581 v2584
  let c16_i32_1457 : BitVec 32 := 16#32
  let v2588 : BitVec 32 := Scalar.andi v11 c16_i32_1457
  let v2589 : BitVec 32 := Scalar.addi v2585 v2588
  let c8_i32_1458 : BitVec 32 := 8#32
  let v2592 : BitVec 32 := Scalar.andi v11 c8_i32_1458
  let v2593 : BitVec 32 := Scalar.addi v2589 v2592
  let v2594 : BitVec 32 := Scalar.addi v16 v2593
  let c0_i32_1542 : BitVec 32 := 0#32
  let c0_i32_1543 : BitVec 32 := 0#32
  ![v2594.toNat, 0, 0]
def k0_cond241 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2664 : BitVec 1 := Scalar.cmpi .eq v2 v35
  let c4_i32_1511 : BitVec 32 := 4#32
  let v2665 : BitVec 32 := Scalar.andi v11 c4_i32_1511
  let c0_i32_1512 : BitVec 32 := 0#32
  let v2666 : BitVec 1 := Scalar.cmpi .ne v2665 c0_i32_1512
  let v2667 : BitVec 1 := Scalar.andi v2664 v2666
  let v2668 : BitVec 32 := Scalar.extui v2667
  let c0_i32_1515 : BitVec 32 := 0#32
  let v2669 : BitVec 1 := Scalar.cmpi .ne v2668 c0_i32_1515
  v2669

def k0_off382 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let c64_i32_1455 : BitVec 32 := 64#32
  let v2580 : BitVec 32 := Scalar.andi v11 c64_i32_1455
  let v2581 : BitVec 32 := Scalar.addi v2577 v2580
  let c32_i32_1456 : BitVec 32 := 32#32
  let v2584 : BitVec 32 := Scalar.andi v11 c32_i32_1456
  let v2585 : BitVec 32 := Scalar.addi v2581 v2584
  let c16_i32_1457 : BitVec 32 := 16#32
  let v2588 : BitVec 32 := Scalar.andi v11 c16_i32_1457
  let v2589 : BitVec 32 := Scalar.addi v2585 v2588
  let c8_i32_1458 : BitVec 32 := 8#32
  let v2592 : BitVec 32 := Scalar.andi v11 c8_i32_1458
  let v2593 : BitVec 32 := Scalar.addi v2589 v2592
  let v2595 : BitVec 32 := Scalar.addi v16 v2593
  let c0_i32_1544 : BitVec 32 := 0#32
  let c0_i32_1545 : BitVec 32 := 0#32
  ![v2595.toNat, 0, 0]
def k0_cond242 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2670 : BitVec 1 := Scalar.cmpi .ne v2 v35
  let c4_i32_1516 : BitVec 32 := 4#32
  let v2671 : BitVec 32 := Scalar.andi v11 c4_i32_1516
  let c0_i32_1517 : BitVec 32 := 0#32
  let v2672 : BitVec 1 := Scalar.cmpi .ne v2671 c0_i32_1517
  let v2673 : BitVec 1 := Scalar.andi v2670 v2672
  let v2674 : BitVec 32 := Scalar.extui v2673
  let c0_i32_1520 : BitVec 32 := 0#32
  let v2675 : BitVec 1 := Scalar.cmpi .ne v2674 c0_i32_1520
  v2675

def k0_off383 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let c64_i32_1455 : BitVec 32 := 64#32
  let v2580 : BitVec 32 := Scalar.andi v11 c64_i32_1455
  let v2581 : BitVec 32 := Scalar.addi v2577 v2580
  let c32_i32_1456 : BitVec 32 := 32#32
  let v2584 : BitVec 32 := Scalar.andi v11 c32_i32_1456
  let v2585 : BitVec 32 := Scalar.addi v2581 v2584
  let c16_i32_1457 : BitVec 32 := 16#32
  let v2588 : BitVec 32 := Scalar.andi v11 c16_i32_1457
  let v2589 : BitVec 32 := Scalar.addi v2585 v2588
  let c8_i32_1458 : BitVec 32 := 8#32
  let v2592 : BitVec 32 := Scalar.andi v11 c8_i32_1458
  let v2593 : BitVec 32 := Scalar.addi v2589 v2592
  let c4_i32_1459 : BitVec 32 := 4#32
  let v2596 : BitVec 32 := Scalar.andi v11 c4_i32_1459
  let v2597 : BitVec 32 := Scalar.addi v2593 v2596
  let v2598 : BitVec 32 := Scalar.addi v16 v2597
  let c0_i32_1542 : BitVec 32 := 0#32
  let c0_i32_1543 : BitVec 32 := 0#32
  ![v2598.toNat, 0, 0]
def k0_cond243 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2676 : BitVec 1 := Scalar.cmpi .eq v2 v35
  let c2_i32_1521 : BitVec 32 := 2#32
  let v2677 : BitVec 32 := Scalar.andi v11 c2_i32_1521
  let c0_i32_1522 : BitVec 32 := 0#32
  let v2678 : BitVec 1 := Scalar.cmpi .ne v2677 c0_i32_1522
  let v2679 : BitVec 1 := Scalar.andi v2676 v2678
  let v2680 : BitVec 32 := Scalar.extui v2679
  let c0_i32_1525 : BitVec 32 := 0#32
  let v2681 : BitVec 1 := Scalar.cmpi .ne v2680 c0_i32_1525
  v2681

def k0_off384 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let c64_i32_1455 : BitVec 32 := 64#32
  let v2580 : BitVec 32 := Scalar.andi v11 c64_i32_1455
  let v2581 : BitVec 32 := Scalar.addi v2577 v2580
  let c32_i32_1456 : BitVec 32 := 32#32
  let v2584 : BitVec 32 := Scalar.andi v11 c32_i32_1456
  let v2585 : BitVec 32 := Scalar.addi v2581 v2584
  let c16_i32_1457 : BitVec 32 := 16#32
  let v2588 : BitVec 32 := Scalar.andi v11 c16_i32_1457
  let v2589 : BitVec 32 := Scalar.addi v2585 v2588
  let c8_i32_1458 : BitVec 32 := 8#32
  let v2592 : BitVec 32 := Scalar.andi v11 c8_i32_1458
  let v2593 : BitVec 32 := Scalar.addi v2589 v2592
  let c4_i32_1459 : BitVec 32 := 4#32
  let v2596 : BitVec 32 := Scalar.andi v11 c4_i32_1459
  let v2597 : BitVec 32 := Scalar.addi v2593 v2596
  let v2599 : BitVec 32 := Scalar.addi v16 v2597
  let c0_i32_1544 : BitVec 32 := 0#32
  let c0_i32_1545 : BitVec 32 := 0#32
  ![v2599.toNat, 0, 0]
def k0_cond244 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2682 : BitVec 1 := Scalar.cmpi .ne v2 v35
  let c2_i32_1526 : BitVec 32 := 2#32
  let v2683 : BitVec 32 := Scalar.andi v11 c2_i32_1526
  let c0_i32_1527 : BitVec 32 := 0#32
  let v2684 : BitVec 1 := Scalar.cmpi .ne v2683 c0_i32_1527
  let v2685 : BitVec 1 := Scalar.andi v2682 v2684
  let v2686 : BitVec 32 := Scalar.extui v2685
  let c0_i32_1530 : BitVec 32 := 0#32
  let v2687 : BitVec 1 := Scalar.cmpi .ne v2686 c0_i32_1530
  v2687

def k0_off385 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let c64_i32_1455 : BitVec 32 := 64#32
  let v2580 : BitVec 32 := Scalar.andi v11 c64_i32_1455
  let v2581 : BitVec 32 := Scalar.addi v2577 v2580
  let c32_i32_1456 : BitVec 32 := 32#32
  let v2584 : BitVec 32 := Scalar.andi v11 c32_i32_1456
  let v2585 : BitVec 32 := Scalar.addi v2581 v2584
  let c16_i32_1457 : BitVec 32 := 16#32
  let v2588 : BitVec 32 := Scalar.andi v11 c16_i32_1457
  let v2589 : BitVec 32 := Scalar.addi v2585 v2588
  let c8_i32_1458 : BitVec 32 := 8#32
  let v2592 : BitVec 32 := Scalar.andi v11 c8_i32_1458
  let v2593 : BitVec 32 := Scalar.addi v2589 v2592
  let c4_i32_1459 : BitVec 32 := 4#32
  let v2596 : BitVec 32 := Scalar.andi v11 c4_i32_1459
  let v2597 : BitVec 32 := Scalar.addi v2593 v2596
  let c2_i32_1460 : BitVec 32 := 2#32
  let v2600 : BitVec 32 := Scalar.andi v11 c2_i32_1460
  let v2601 : BitVec 32 := Scalar.addi v2597 v2600
  let v2602 : BitVec 32 := Scalar.addi v16 v2601
  let c0_i32_1542 : BitVec 32 := 0#32
  let c0_i32_1543 : BitVec 32 := 0#32
  ![v2602.toNat, 0, 0]
def k0_cond245 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2688 : BitVec 1 := Scalar.cmpi .eq v2 v35
  let c1_i32_1531 : BitVec 32 := 1#32
  let v2689 : BitVec 32 := Scalar.andi v11 c1_i32_1531
  let c0_i32_1532 : BitVec 32 := 0#32
  let v2690 : BitVec 1 := Scalar.cmpi .ne v2689 c0_i32_1532
  let v2691 : BitVec 1 := Scalar.andi v2688 v2690
  let v2692 : BitVec 32 := Scalar.extui v2691
  let c0_i32_1535 : BitVec 32 := 0#32
  let v2693 : BitVec 1 := Scalar.cmpi .ne v2692 c0_i32_1535
  v2693

def k0_off386 (d0 : Dev nD) (v8 : BitVec 32) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32_7 : BitVec 32 := 4096#32
  let c4096_i32 : BitVec 32 := 4096#32
  let v10 : BitVec 32 := Scalar.subi c4096_i32 v8
  let v11 : BitVec 32 := Scalar.select v9 v10 v8
  let v15 : BitVec 32 := Scalar.subi c4096_i32_7 v11
  let c0_i32_8 : BitVec 32 := 0#32
  let v16 : BitVec 32 := Scalar.select v9 v15 c0_i32_8
  let c256_i32_17 : BitVec 32 := 256#32
  let c0_i32_18 : BitVec 32 := 0#32
  let v36 : BitVec 1 := Scalar.cmpi .eq c256_i32_17 c0_i32_18
  let c1_i32_19 : BitVec 32 := 1#32
  let v37 : BitVec 32 := Scalar.select v36 c1_i32_19 c256_i32_17
  let v38 : BitVec 32 := Scalar.remsi v11 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let v46 : BitVec 32 := Scalar.subi v11 v45
  let c128_i32_1454 : BitVec 32 := 128#32
  let v2576 : BitVec 32 := Scalar.andi v11 c128_i32_1454
  let v2577 : BitVec 32 := Scalar.addi v46 v2576
  let c64_i32_1455 : BitVec 32 := 64#32
  let v2580 : BitVec 32 := Scalar.andi v11 c64_i32_1455
  let v2581 : BitVec 32 := Scalar.addi v2577 v2580
  let c32_i32_1456 : BitVec 32 := 32#32
  let v2584 : BitVec 32 := Scalar.andi v11 c32_i32_1456
  let v2585 : BitVec 32 := Scalar.addi v2581 v2584
  let c16_i32_1457 : BitVec 32 := 16#32
  let v2588 : BitVec 32 := Scalar.andi v11 c16_i32_1457
  let v2589 : BitVec 32 := Scalar.addi v2585 v2588
  let c8_i32_1458 : BitVec 32 := 8#32
  let v2592 : BitVec 32 := Scalar.andi v11 c8_i32_1458
  let v2593 : BitVec 32 := Scalar.addi v2589 v2592
  let c4_i32_1459 : BitVec 32 := 4#32
  let v2596 : BitVec 32 := Scalar.andi v11 c4_i32_1459
  let v2597 : BitVec 32 := Scalar.addi v2593 v2596
  let c2_i32_1460 : BitVec 32 := 2#32
  let v2600 : BitVec 32 := Scalar.andi v11 c2_i32_1460
  let v2601 : BitVec 32 := Scalar.addi v2597 v2600
  let v2603 : BitVec 32 := Scalar.addi v16 v2601
  let c0_i32_1544 : BitVec 32 := 0#32
  let c0_i32_1545 : BitVec 32 := 0#32
  ![v2603.toNat, 0, 0]
def k0_cond246 (d0 : Dev nD) (v8 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v9 : BitVec 1 := Scalar.cmpi .eq v5 c0_i32
  let c4096_i32 : BitVec 32 := 4096#32
  let v10 : BitVec 32 := Scalar.subi c4096_i32 v8
  let v11 : BitVec 32 := Scalar.select v9 v10 v8
  let c0_i32_10 : BitVec 32 := 0#32
  let v19 : BitVec 1 := Scalar.cmpi .sgt v11 c0_i32_10
  let v20 : BitVec 32 := Scalar.extui v19
  let c0_i32_11 : BitVec 32 := 0#32
  let v21 : BitVec 1 := Scalar.cmpi .slt v11 c0_i32_11
  let v22 : BitVec 32 := Scalar.extui v21
  let v23 : BitVec 32 := Scalar.subi v20 v22
  let c256_i32 : BitVec 32 := 256#32
  let c0_i32_12 : BitVec 32 := 0#32
  let v24 : BitVec 1 := Scalar.cmpi .sgt c256_i32 c0_i32_12
  let v25 : BitVec 32 := Scalar.extui v24
  let c0_i32_13 : BitVec 32 := 0#32
  let v26 : BitVec 1 := Scalar.cmpi .slt c256_i32 c0_i32_13
  let v27 : BitVec 32 := Scalar.extui v26
  let v28 : BitVec 32 := Scalar.subi v25 v27
  let v29 : BitVec 1 := Scalar.cmpi .ne v23 v28
  let v30 : BitVec 32 := Scalar.remsi v11 c256_i32
  let c0_i32_14 : BitVec 32 := 0#32
  let v31 : BitVec 1 := Scalar.cmpi .ne v30 c0_i32_14
  let v32 : BitVec 1 := Scalar.andi v29 v31
  let v18 : BitVec 32 := Scalar.divsi v11 c256_i32
  let c1_i32_15 : BitVec 32 := 1#32
  let v33 : BitVec 32 := Scalar.subi v18 c1_i32_15
  let v34 : BitVec 32 := Scalar.select v32 v33 v18
  let c1_i32_16 : BitVec 32 := 1#32
  let v35 : BitVec 32 := Scalar.andi v34 c1_i32_16
  let v2694 : BitVec 1 := Scalar.cmpi .ne v2 v35
  let c1_i32_1536 : BitVec 32 := 1#32
  let v2695 : BitVec 32 := Scalar.andi v11 c1_i32_1536
  let c0_i32_1537 : BitVec 32 := 0#32
  let v2696 : BitVec 1 := Scalar.cmpi .ne v2695 c0_i32_1537
  let v2697 : BitVec 1 := Scalar.andi v2694 v2696
  let v2698 : BitVec 32 := Scalar.extui v2697
  let c0_i32_1540 : BitVec 32 := 0#32
  let v2699 : BitVec 1 := Scalar.cmpi .ne v2698 c0_i32_1540
  v2699

def k0_chk1_0 (d0 : Dev nD) (v8 : BitVec 32) : Prop :=
  (∀ (k0_h1 : k0_cond1 d0 v8 = 1#1), ∀ a, (k0_off1 d0 v8) a + S256x8x128.size a ≤ S4096x8x128.size a) ∧
  (∀ (k0_h2 : k0_cond2 d0 v8 = 1#1), ∀ a, (k0_off2 d0 v8) a + S256x8x128.size a ≤ S4096x8x128.size a) ∧
  (∀ (k0_h3 : k0_cond3 d0 v8 = 1#1), ∀ a, (k0_off3 d0 v8) a + S128x8x128.size a ≤ S4096x8x128.size a) ∧
  (∀ (k0_h3 : k0_cond3 d0 v8 = 1#1), ∀ a, (k0_off4 d0 v8) a + S128x8x128.size a ≤ S2560x8x128.size a) ∧
  (∀ (k0_h4 : k0_cond4 d0 v8 = 1#1), ∀ a, (k0_off5 d0 v8) a + S64x8x128.size a ≤ S4096x8x128.size a) ∧
  (∀ (k0_h4 : k0_cond4 d0 v8 = 1#1), ∀ a, (k0_off6 d0 v8) a + S64x8x128.size a ≤ S2560x8x128.size a) ∧
  (∀ (k0_h5 : k0_cond5 d0 v8 = 1#1), ∀ a, (k0_off7 d0 v8) a + S32x8x128.size a ≤ S4096x8x128.size a) ∧
  (∀ (k0_h5 : k0_cond5 d0 v8 = 1#1), ∀ a, (k0_off8 d0 v8) a + S32x8x128.size a ≤ S2560x8x128.size a) ∧
  (∀ (k0_h6 : k0_cond6 d0 v8 = 1#1), ∀ a, (k0_off9 d0 v8) a + S16x8x128.size a ≤ S4096x8x128.size a) ∧
  (∀ (k0_h6 : k0_cond6 d0 v8 = 1#1), ∀ a, (k0_off10 d0 v8) a + S16x8x128.size a ≤ S2560x8x128.size a) ∧
  (∀ (k0_h7 : k0_cond7 d0 v8 = 1#1), ∀ a, (k0_off11 d0 v8) a + S8x8x128.size a ≤ S4096x8x128.size a) ∧
  (∀ (k0_h7 : k0_cond7 d0 v8 = 1#1), ∀ a, (k0_off12 d0 v8) a + S8x8x128.size a ≤ S2560x8x128.size a) ∧
  (∀ (k0_h8 : k0_cond8 d0 v8 = 1#1), ∀ a, (k0_off13 d0 v8) a + S4x8x128.size a ≤ S4096x8x128.size a) ∧
  (∀ (k0_h8 : k0_cond8 d0 v8 = 1#1), ∀ a, (k0_off14 d0 v8) a + S4x8x128.size a ≤ S2560x8x128.size a) ∧
  (∀ (k0_h9 : k0_cond9 d0 v8 = 1#1), ∀ a, (k0_off15 d0 v8) a + S2x8x128.size a ≤ S4096x8x128.size a) ∧
  (∀ (k0_h9 : k0_cond9 d0 v8 = 1#1), ∀ a, (k0_off16 d0 v8) a + S2x8x128.size a ≤ S2560x8x128.size a) ∧
  (∀ (k0_h10 : k0_cond10 d0 v8 = 1#1), ∀ a, (k0_off17 d0 v8) a + S1x8x128.size a ≤ S4096x8x128.size a) ∧
  (∀ (k0_h10 : k0_cond10 d0 v8 = 1#1), ∀ a, (k0_off18 d0 v8) a + S1x8x128.size a ≤ S2560x8x128.size a) ∧
  (∀ (k0_h11 : k0_cond11 d0 v8 = 1#1), ∀ a, (k0_off19 d0 v8) a + S256x8x128.size a ≤ S4096x8x128.size a) ∧
  (∀ (k0_h12 : k0_cond12 d0 v8 = 1#1), ∀ a, (k0_off20 d0 v8) a + S256x8x128.size a ≤ S4096x8x128.size a) ∧
  (∀ (k0_h13 : k0_cond13 d0 v8 = 1#1), ∀ a, (k0_off21 d0 v8) a + S128x8x128.size a ≤ S4096x8x128.size a) ∧
  (∀ (k0_h13 : k0_cond13 d0 v8 = 1#1), ∀ a, (k0_off22 d0 v8) a + S128x8x128.size a ≤ S2560x8x128.size a) ∧
  (∀ (k0_h14 : k0_cond14 d0 v8 = 1#1), ∀ a, (k0_off23 d0 v8) a + S64x8x128.size a ≤ S4096x8x128.size a) ∧
  (∀ (k0_h14 : k0_cond14 d0 v8 = 1#1), ∀ a, (k0_off24 d0 v8) a + S64x8x128.size a ≤ S2560x8x128.size a) ∧
  (∀ (k0_h15 : k0_cond15 d0 v8 = 1#1), ∀ a, (k0_off25 d0 v8) a + S32x8x128.size a ≤ S4096x8x128.size a) ∧
  (∀ (k0_h15 : k0_cond15 d0 v8 = 1#1), ∀ a, (k0_off26 d0 v8) a + S32x8x128.size a ≤ S2560x8x128.size a) ∧
  (∀ (k0_h16 : k0_cond16 d0 v8 = 1#1), ∀ a, (k0_off27 d0 v8) a + S16x8x128.size a ≤ S4096x8x128.size a) ∧
  (∀ (k0_h16 : k0_cond16 d0 v8 = 1#1), ∀ a, (k0_off28 d0 v8) a + S16x8x128.size a ≤ S2560x8x128.size a) ∧
  (∀ (k0_h17 : k0_cond17 d0 v8 = 1#1), ∀ a, (k0_off29 d0 v8) a + S8x8x128.size a ≤ S4096x8x128.size a) ∧
  (∀ (k0_h17 : k0_cond17 d0 v8 = 1#1), ∀ a, (k0_off30 d0 v8) a + S8x8x128.size a ≤ S2560x8x128.size a) ∧
  (∀ (k0_h18 : k0_cond18 d0 v8 = 1#1), ∀ a, (k0_off31 d0 v8) a + S4x8x128.size a ≤ S4096x8x128.size a) ∧
  (∀ (k0_h18 : k0_cond18 d0 v8 = 1#1), ∀ a, (k0_off32 d0 v8) a + S4x8x128.size a ≤ S2560x8x128.size a)
def k0_chk1_1 (d0 : Dev nD) (v8 : BitVec 32) : Prop :=
  (∀ (k0_h19 : k0_cond19 d0 v8 = 1#1), ∀ a, (k0_off33 d0 v8) a + S2x8x128.size a ≤ S4096x8x128.size a) ∧
  (∀ (k0_h19 : k0_cond19 d0 v8 = 1#1), ∀ a, (k0_off34 d0 v8) a + S2x8x128.size a ≤ S2560x8x128.size a) ∧
  (∀ (k0_h20 : k0_cond20 d0 v8 = 1#1), ∀ a, (k0_off35 d0 v8) a + S1x8x128.size a ≤ S4096x8x128.size a) ∧
  (∀ (k0_h20 : k0_cond20 d0 v8 = 1#1), ∀ a, (k0_off36 d0 v8) a + S1x8x128.size a ≤ S2560x8x128.size a) ∧
  (∀ (k0_h21 : k0_cond21 d0 v8 = 1#1), ∀ a, (k0_off37 d0 v8) a + S256x8x128.size a ≤ S4096x8x128.size a) ∧
  (∀ (k0_h22 : k0_cond22 d0 v8 = 1#1), ∀ a, (k0_off38 d0 v8) a + S256x8x128.size a ≤ S4096x8x128.size a) ∧
  (∀ (k0_h23 : k0_cond23 d0 v8 = 1#1), ∀ a, (k0_off39 d0 v8) a + S128x8x128.size a ≤ S4096x8x128.size a) ∧
  (∀ (k0_h23 : k0_cond23 d0 v8 = 1#1), ∀ a, (k0_off40 d0 v8) a + S128x8x128.size a ≤ S2560x8x128.size a) ∧
  (∀ (k0_h24 : k0_cond24 d0 v8 = 1#1), ∀ a, (k0_off41 d0 v8) a + S64x8x128.size a ≤ S4096x8x128.size a) ∧
  (∀ (k0_h24 : k0_cond24 d0 v8 = 1#1), ∀ a, (k0_off42 d0 v8) a + S64x8x128.size a ≤ S2560x8x128.size a) ∧
  (∀ (k0_h25 : k0_cond25 d0 v8 = 1#1), ∀ a, (k0_off43 d0 v8) a + S32x8x128.size a ≤ S4096x8x128.size a) ∧
  (∀ (k0_h25 : k0_cond25 d0 v8 = 1#1), ∀ a, (k0_off44 d0 v8) a + S32x8x128.size a ≤ S2560x8x128.size a) ∧
  (∀ (k0_h26 : k0_cond26 d0 v8 = 1#1), ∀ a, (k0_off45 d0 v8) a + S16x8x128.size a ≤ S4096x8x128.size a) ∧
  (∀ (k0_h26 : k0_cond26 d0 v8 = 1#1), ∀ a, (k0_off46 d0 v8) a + S16x8x128.size a ≤ S2560x8x128.size a) ∧
  (∀ (k0_h27 : k0_cond27 d0 v8 = 1#1), ∀ a, (k0_off47 d0 v8) a + S8x8x128.size a ≤ S4096x8x128.size a) ∧
  (∀ (k0_h27 : k0_cond27 d0 v8 = 1#1), ∀ a, (k0_off48 d0 v8) a + S8x8x128.size a ≤ S2560x8x128.size a) ∧
  (∀ (k0_h28 : k0_cond28 d0 v8 = 1#1), ∀ a, (k0_off49 d0 v8) a + S4x8x128.size a ≤ S4096x8x128.size a) ∧
  (∀ (k0_h28 : k0_cond28 d0 v8 = 1#1), ∀ a, (k0_off50 d0 v8) a + S4x8x128.size a ≤ S2560x8x128.size a) ∧
  (∀ (k0_h29 : k0_cond29 d0 v8 = 1#1), ∀ a, (k0_off51 d0 v8) a + S2x8x128.size a ≤ S4096x8x128.size a) ∧
  (∀ (k0_h29 : k0_cond29 d0 v8 = 1#1), ∀ a, (k0_off52 d0 v8) a + S2x8x128.size a ≤ S2560x8x128.size a) ∧
  (∀ (k0_h30 : k0_cond30 d0 v8 = 1#1), ∀ a, (k0_off53 d0 v8) a + S1x8x128.size a ≤ S4096x8x128.size a) ∧
  (∀ (k0_h30 : k0_cond30 d0 v8 = 1#1), ∀ a, (k0_off54 d0 v8) a + S1x8x128.size a ≤ S2560x8x128.size a) ∧
  (∀ (k0_h31 : k0_cond31 d0 v8 = 1#1), ∀ a, (k0_off55 d0 v8) a + S256x8x128.size a ≤ S4096x8x128.size a) ∧
  (∀ (k0_h32 : k0_cond32 d0 v8 = 1#1), ∀ a, (k0_off56 d0 v8) a + S256x8x128.size a ≤ S4096x8x128.size a) ∧
  (∀ (k0_h33 : k0_cond33 d0 v8 = 1#1), ∀ a, (k0_off57 d0 v8) a + S128x8x128.size a ≤ S4096x8x128.size a) ∧
  (∀ (k0_h33 : k0_cond33 d0 v8 = 1#1), ∀ a, (k0_off58 d0 v8) a + S128x8x128.size a ≤ S2560x8x128.size a) ∧
  (∀ (k0_h34 : k0_cond34 d0 v8 = 1#1), ∀ a, (k0_off59 d0 v8) a + S64x8x128.size a ≤ S4096x8x128.size a) ∧
  (∀ (k0_h34 : k0_cond34 d0 v8 = 1#1), ∀ a, (k0_off60 d0 v8) a + S64x8x128.size a ≤ S2560x8x128.size a) ∧
  (∀ (k0_h35 : k0_cond35 d0 v8 = 1#1), ∀ a, (k0_off61 d0 v8) a + S32x8x128.size a ≤ S4096x8x128.size a) ∧
  (∀ (k0_h35 : k0_cond35 d0 v8 = 1#1), ∀ a, (k0_off62 d0 v8) a + S32x8x128.size a ≤ S2560x8x128.size a) ∧
  (∀ (k0_h36 : k0_cond36 d0 v8 = 1#1), ∀ a, (k0_off63 d0 v8) a + S16x8x128.size a ≤ S4096x8x128.size a) ∧
  (∀ (k0_h36 : k0_cond36 d0 v8 = 1#1), ∀ a, (k0_off64 d0 v8) a + S16x8x128.size a ≤ S2560x8x128.size a)
def k0_chk1_2 (d0 : Dev nD) (v8 : BitVec 32) : Prop :=
  (∀ (k0_h37 : k0_cond37 d0 v8 = 1#1), ∀ a, (k0_off65 d0 v8) a + S8x8x128.size a ≤ S4096x8x128.size a) ∧
  (∀ (k0_h37 : k0_cond37 d0 v8 = 1#1), ∀ a, (k0_off66 d0 v8) a + S8x8x128.size a ≤ S2560x8x128.size a) ∧
  (∀ (k0_h38 : k0_cond38 d0 v8 = 1#1), ∀ a, (k0_off67 d0 v8) a + S4x8x128.size a ≤ S4096x8x128.size a) ∧
  (∀ (k0_h38 : k0_cond38 d0 v8 = 1#1), ∀ a, (k0_off68 d0 v8) a + S4x8x128.size a ≤ S2560x8x128.size a) ∧
  (∀ (k0_h39 : k0_cond39 d0 v8 = 1#1), ∀ a, (k0_off69 d0 v8) a + S2x8x128.size a ≤ S4096x8x128.size a) ∧
  (∀ (k0_h39 : k0_cond39 d0 v8 = 1#1), ∀ a, (k0_off70 d0 v8) a + S2x8x128.size a ≤ S2560x8x128.size a) ∧
  (∀ (k0_h40 : k0_cond40 d0 v8 = 1#1), ∀ a, (k0_off71 d0 v8) a + S1x8x128.size a ≤ S4096x8x128.size a) ∧
  (∀ (k0_h40 : k0_cond40 d0 v8 = 1#1), ∀ a, (k0_off72 d0 v8) a + S1x8x128.size a ≤ S2560x8x128.size a) ∧
  (∀ (k0_h41 : k0_cond41 d0 v8 = 1#1), ∀ a, (k0_off73 d0 v8) a + S256x8x128.size a ≤ S4096x8x128.size a) ∧
  (∀ (k0_h42 : k0_cond42 d0 v8 = 1#1), ∀ a, (k0_off74 d0 v8) a + S256x8x128.size a ≤ S4096x8x128.size a) ∧
  (∀ (k0_h43 : k0_cond43 d0 v8 = 1#1), ∀ a, (k0_off75 d0 v8) a + S128x8x128.size a ≤ S4096x8x128.size a) ∧
  (∀ (k0_h43 : k0_cond43 d0 v8 = 1#1), ∀ a, (k0_off76 d0 v8) a + S128x8x128.size a ≤ S2560x8x128.size a) ∧
  (∀ (k0_h44 : k0_cond44 d0 v8 = 1#1), ∀ a, (k0_off77 d0 v8) a + S64x8x128.size a ≤ S4096x8x128.size a) ∧
  (∀ (k0_h44 : k0_cond44 d0 v8 = 1#1), ∀ a, (k0_off78 d0 v8) a + S64x8x128.size a ≤ S2560x8x128.size a) ∧
  (∀ (k0_h45 : k0_cond45 d0 v8 = 1#1), ∀ a, (k0_off79 d0 v8) a + S32x8x128.size a ≤ S4096x8x128.size a) ∧
  (∀ (k0_h45 : k0_cond45 d0 v8 = 1#1), ∀ a, (k0_off80 d0 v8) a + S32x8x128.size a ≤ S2560x8x128.size a) ∧
  (∀ (k0_h46 : k0_cond46 d0 v8 = 1#1), ∀ a, (k0_off81 d0 v8) a + S16x8x128.size a ≤ S4096x8x128.size a) ∧
  (∀ (k0_h46 : k0_cond46 d0 v8 = 1#1), ∀ a, (k0_off82 d0 v8) a + S16x8x128.size a ≤ S2560x8x128.size a) ∧
  (∀ (k0_h47 : k0_cond47 d0 v8 = 1#1), ∀ a, (k0_off83 d0 v8) a + S8x8x128.size a ≤ S4096x8x128.size a) ∧
  (∀ (k0_h47 : k0_cond47 d0 v8 = 1#1), ∀ a, (k0_off84 d0 v8) a + S8x8x128.size a ≤ S2560x8x128.size a) ∧
  (∀ (k0_h48 : k0_cond48 d0 v8 = 1#1), ∀ a, (k0_off85 d0 v8) a + S4x8x128.size a ≤ S4096x8x128.size a) ∧
  (∀ (k0_h48 : k0_cond48 d0 v8 = 1#1), ∀ a, (k0_off86 d0 v8) a + S4x8x128.size a ≤ S2560x8x128.size a) ∧
  (∀ (k0_h49 : k0_cond49 d0 v8 = 1#1), ∀ a, (k0_off87 d0 v8) a + S2x8x128.size a ≤ S4096x8x128.size a) ∧
  (∀ (k0_h49 : k0_cond49 d0 v8 = 1#1), ∀ a, (k0_off88 d0 v8) a + S2x8x128.size a ≤ S2560x8x128.size a) ∧
  (∀ (k0_h50 : k0_cond50 d0 v8 = 1#1), ∀ a, (k0_off89 d0 v8) a + S1x8x128.size a ≤ S4096x8x128.size a) ∧
  (∀ (k0_h50 : k0_cond50 d0 v8 = 1#1), ∀ a, (k0_off90 d0 v8) a + S1x8x128.size a ≤ S2560x8x128.size a) ∧
  (∀ (k0_h51 : k0_cond51 d0 v8 = 1#1), ∀ a, (k0_off91 d0 v8) a + S256x8x128.size a ≤ S4096x8x128.size a) ∧
  (∀ (k0_h52 : k0_cond52 d0 v8 = 1#1), ∀ a, (k0_off92 d0 v8) a + S256x8x128.size a ≤ S4096x8x128.size a) ∧
  (∀ (k0_h53 : k0_cond53 d0 v8 = 1#1), ∀ a, (k0_off93 d0 v8) a + S128x8x128.size a ≤ S4096x8x128.size a) ∧
  (∀ (k0_h53 : k0_cond53 d0 v8 = 1#1), ∀ a, (k0_off94 d0 v8) a + S128x8x128.size a ≤ S2560x8x128.size a) ∧
  (∀ (k0_h54 : k0_cond54 d0 v8 = 1#1), ∀ a, (k0_off95 d0 v8) a + S64x8x128.size a ≤ S4096x8x128.size a) ∧
  (∀ (k0_h54 : k0_cond54 d0 v8 = 1#1), ∀ a, (k0_off96 d0 v8) a + S64x8x128.size a ≤ S2560x8x128.size a)
def k0_chk1_3 (d0 : Dev nD) (v8 : BitVec 32) : Prop :=
  (∀ (k0_h55 : k0_cond55 d0 v8 = 1#1), ∀ a, (k0_off97 d0 v8) a + S32x8x128.size a ≤ S4096x8x128.size a) ∧
  (∀ (k0_h55 : k0_cond55 d0 v8 = 1#1), ∀ a, (k0_off98 d0 v8) a + S32x8x128.size a ≤ S2560x8x128.size a) ∧
  (∀ (k0_h56 : k0_cond56 d0 v8 = 1#1), ∀ a, (k0_off99 d0 v8) a + S16x8x128.size a ≤ S4096x8x128.size a) ∧
  (∀ (k0_h56 : k0_cond56 d0 v8 = 1#1), ∀ a, (k0_off100 d0 v8) a + S16x8x128.size a ≤ S2560x8x128.size a) ∧
  (∀ (k0_h57 : k0_cond57 d0 v8 = 1#1), ∀ a, (k0_off101 d0 v8) a + S8x8x128.size a ≤ S4096x8x128.size a) ∧
  (∀ (k0_h57 : k0_cond57 d0 v8 = 1#1), ∀ a, (k0_off102 d0 v8) a + S8x8x128.size a ≤ S2560x8x128.size a) ∧
  (∀ (k0_h58 : k0_cond58 d0 v8 = 1#1), ∀ a, (k0_off103 d0 v8) a + S4x8x128.size a ≤ S4096x8x128.size a) ∧
  (∀ (k0_h58 : k0_cond58 d0 v8 = 1#1), ∀ a, (k0_off104 d0 v8) a + S4x8x128.size a ≤ S2560x8x128.size a) ∧
  (∀ (k0_h59 : k0_cond59 d0 v8 = 1#1), ∀ a, (k0_off105 d0 v8) a + S2x8x128.size a ≤ S4096x8x128.size a) ∧
  (∀ (k0_h59 : k0_cond59 d0 v8 = 1#1), ∀ a, (k0_off106 d0 v8) a + S2x8x128.size a ≤ S2560x8x128.size a) ∧
  (∀ (k0_h60 : k0_cond60 d0 v8 = 1#1), ∀ a, (k0_off107 d0 v8) a + S1x8x128.size a ≤ S4096x8x128.size a) ∧
  (∀ (k0_h60 : k0_cond60 d0 v8 = 1#1), ∀ a, (k0_off108 d0 v8) a + S1x8x128.size a ≤ S2560x8x128.size a) ∧
  (∀ (k0_h61 : k0_cond61 d0 v8 = 1#1), ∀ a, (k0_off109 d0 v8) a + S256x8x128.size a ≤ S4096x8x128.size a) ∧
  (∀ (k0_h62 : k0_cond62 d0 v8 = 1#1), ∀ a, (k0_off110 d0 v8) a + S256x8x128.size a ≤ S4096x8x128.size a) ∧
  (∀ (k0_h63 : k0_cond63 d0 v8 = 1#1), ∀ a, (k0_off111 d0 v8) a + S128x8x128.size a ≤ S4096x8x128.size a) ∧
  (∀ (k0_h63 : k0_cond63 d0 v8 = 1#1), ∀ a, (k0_off112 d0 v8) a + S128x8x128.size a ≤ S2560x8x128.size a) ∧
  (∀ (k0_h64 : k0_cond64 d0 v8 = 1#1), ∀ a, (k0_off113 d0 v8) a + S64x8x128.size a ≤ S4096x8x128.size a) ∧
  (∀ (k0_h64 : k0_cond64 d0 v8 = 1#1), ∀ a, (k0_off114 d0 v8) a + S64x8x128.size a ≤ S2560x8x128.size a) ∧
  (∀ (k0_h65 : k0_cond65 d0 v8 = 1#1), ∀ a, (k0_off115 d0 v8) a + S32x8x128.size a ≤ S4096x8x128.size a) ∧
  (∀ (k0_h65 : k0_cond65 d0 v8 = 1#1), ∀ a, (k0_off116 d0 v8) a + S32x8x128.size a ≤ S2560x8x128.size a) ∧
  (∀ (k0_h66 : k0_cond66 d0 v8 = 1#1), ∀ a, (k0_off117 d0 v8) a + S16x8x128.size a ≤ S4096x8x128.size a) ∧
  (∀ (k0_h66 : k0_cond66 d0 v8 = 1#1), ∀ a, (k0_off118 d0 v8) a + S16x8x128.size a ≤ S2560x8x128.size a) ∧
  (∀ (k0_h67 : k0_cond67 d0 v8 = 1#1), ∀ a, (k0_off119 d0 v8) a + S8x8x128.size a ≤ S4096x8x128.size a) ∧
  (∀ (k0_h67 : k0_cond67 d0 v8 = 1#1), ∀ a, (k0_off120 d0 v8) a + S8x8x128.size a ≤ S2560x8x128.size a) ∧
  (∀ (k0_h68 : k0_cond68 d0 v8 = 1#1), ∀ a, (k0_off121 d0 v8) a + S4x8x128.size a ≤ S4096x8x128.size a) ∧
  (∀ (k0_h68 : k0_cond68 d0 v8 = 1#1), ∀ a, (k0_off122 d0 v8) a + S4x8x128.size a ≤ S2560x8x128.size a) ∧
  (∀ (k0_h69 : k0_cond69 d0 v8 = 1#1), ∀ a, (k0_off123 d0 v8) a + S2x8x128.size a ≤ S4096x8x128.size a) ∧
  (∀ (k0_h69 : k0_cond69 d0 v8 = 1#1), ∀ a, (k0_off124 d0 v8) a + S2x8x128.size a ≤ S2560x8x128.size a) ∧
  (∀ (k0_h70 : k0_cond70 d0 v8 = 1#1), ∀ a, (k0_off125 d0 v8) a + S1x8x128.size a ≤ S4096x8x128.size a) ∧
  (∀ (k0_h70 : k0_cond70 d0 v8 = 1#1), ∀ a, (k0_off126 d0 v8) a + S1x8x128.size a ≤ S2560x8x128.size a) ∧
  (∀ (k0_h71 : k0_cond71 d0 v8 = 1#1), ∀ a, (k0_off127 d0 v8) a + S256x8x128.size a ≤ S4096x8x128.size a) ∧
  (∀ (k0_h72 : k0_cond72 d0 v8 = 1#1), ∀ a, (k0_off128 d0 v8) a + S256x8x128.size a ≤ S4096x8x128.size a)
def k0_chk1_4 (d0 : Dev nD) (v8 : BitVec 32) : Prop :=
  (∀ (k0_h73 : k0_cond73 d0 v8 = 1#1), ∀ a, (k0_off129 d0 v8) a + S128x8x128.size a ≤ S4096x8x128.size a) ∧
  (∀ (k0_h73 : k0_cond73 d0 v8 = 1#1), ∀ a, (k0_off130 d0 v8) a + S128x8x128.size a ≤ S2560x8x128.size a) ∧
  (∀ (k0_h74 : k0_cond74 d0 v8 = 1#1), ∀ a, (k0_off131 d0 v8) a + S64x8x128.size a ≤ S4096x8x128.size a) ∧
  (∀ (k0_h74 : k0_cond74 d0 v8 = 1#1), ∀ a, (k0_off132 d0 v8) a + S64x8x128.size a ≤ S2560x8x128.size a) ∧
  (∀ (k0_h75 : k0_cond75 d0 v8 = 1#1), ∀ a, (k0_off133 d0 v8) a + S32x8x128.size a ≤ S4096x8x128.size a) ∧
  (∀ (k0_h75 : k0_cond75 d0 v8 = 1#1), ∀ a, (k0_off134 d0 v8) a + S32x8x128.size a ≤ S2560x8x128.size a) ∧
  (∀ (k0_h76 : k0_cond76 d0 v8 = 1#1), ∀ a, (k0_off135 d0 v8) a + S16x8x128.size a ≤ S4096x8x128.size a) ∧
  (∀ (k0_h76 : k0_cond76 d0 v8 = 1#1), ∀ a, (k0_off136 d0 v8) a + S16x8x128.size a ≤ S2560x8x128.size a) ∧
  (∀ (k0_h77 : k0_cond77 d0 v8 = 1#1), ∀ a, (k0_off137 d0 v8) a + S8x8x128.size a ≤ S4096x8x128.size a) ∧
  (∀ (k0_h77 : k0_cond77 d0 v8 = 1#1), ∀ a, (k0_off138 d0 v8) a + S8x8x128.size a ≤ S2560x8x128.size a) ∧
  (∀ (k0_h78 : k0_cond78 d0 v8 = 1#1), ∀ a, (k0_off139 d0 v8) a + S4x8x128.size a ≤ S4096x8x128.size a) ∧
  (∀ (k0_h78 : k0_cond78 d0 v8 = 1#1), ∀ a, (k0_off140 d0 v8) a + S4x8x128.size a ≤ S2560x8x128.size a) ∧
  (∀ (k0_h79 : k0_cond79 d0 v8 = 1#1), ∀ a, (k0_off141 d0 v8) a + S2x8x128.size a ≤ S4096x8x128.size a) ∧
  (∀ (k0_h79 : k0_cond79 d0 v8 = 1#1), ∀ a, (k0_off142 d0 v8) a + S2x8x128.size a ≤ S2560x8x128.size a) ∧
  (∀ (k0_h80 : k0_cond80 d0 v8 = 1#1), ∀ a, (k0_off143 d0 v8) a + S1x8x128.size a ≤ S4096x8x128.size a) ∧
  (∀ (k0_h80 : k0_cond80 d0 v8 = 1#1), ∀ a, (k0_off144 d0 v8) a + S1x8x128.size a ≤ S2560x8x128.size a) ∧
  (∀ (k0_h81 : k0_cond81 d0 v8 = 1#1), ∀ a, (k0_off145 d0 v8) a + S256x8x128.size a ≤ S4096x8x128.size a) ∧
  (∀ (k0_h82 : k0_cond82 d0 v8 = 1#1), ∀ a, (k0_off146 d0 v8) a + S256x8x128.size a ≤ S4096x8x128.size a) ∧
  (∀ (k0_h83 : k0_cond83 d0 v8 = 1#1), ∀ a, (k0_off147 d0 v8) a + S128x8x128.size a ≤ S4096x8x128.size a) ∧
  (∀ (k0_h83 : k0_cond83 d0 v8 = 1#1), ∀ a, (k0_off148 d0 v8) a + S128x8x128.size a ≤ S2560x8x128.size a) ∧
  (∀ (k0_h84 : k0_cond84 d0 v8 = 1#1), ∀ a, (k0_off149 d0 v8) a + S64x8x128.size a ≤ S4096x8x128.size a) ∧
  (∀ (k0_h84 : k0_cond84 d0 v8 = 1#1), ∀ a, (k0_off150 d0 v8) a + S64x8x128.size a ≤ S2560x8x128.size a) ∧
  (∀ (k0_h85 : k0_cond85 d0 v8 = 1#1), ∀ a, (k0_off151 d0 v8) a + S32x8x128.size a ≤ S4096x8x128.size a) ∧
  (∀ (k0_h85 : k0_cond85 d0 v8 = 1#1), ∀ a, (k0_off152 d0 v8) a + S32x8x128.size a ≤ S2560x8x128.size a) ∧
  (∀ (k0_h86 : k0_cond86 d0 v8 = 1#1), ∀ a, (k0_off153 d0 v8) a + S16x8x128.size a ≤ S4096x8x128.size a) ∧
  (∀ (k0_h86 : k0_cond86 d0 v8 = 1#1), ∀ a, (k0_off154 d0 v8) a + S16x8x128.size a ≤ S2560x8x128.size a) ∧
  (∀ (k0_h87 : k0_cond87 d0 v8 = 1#1), ∀ a, (k0_off155 d0 v8) a + S8x8x128.size a ≤ S4096x8x128.size a) ∧
  (∀ (k0_h87 : k0_cond87 d0 v8 = 1#1), ∀ a, (k0_off156 d0 v8) a + S8x8x128.size a ≤ S2560x8x128.size a) ∧
  (∀ (k0_h88 : k0_cond88 d0 v8 = 1#1), ∀ a, (k0_off157 d0 v8) a + S4x8x128.size a ≤ S4096x8x128.size a) ∧
  (∀ (k0_h88 : k0_cond88 d0 v8 = 1#1), ∀ a, (k0_off158 d0 v8) a + S4x8x128.size a ≤ S2560x8x128.size a) ∧
  (∀ (k0_h89 : k0_cond89 d0 v8 = 1#1), ∀ a, (k0_off159 d0 v8) a + S2x8x128.size a ≤ S4096x8x128.size a) ∧
  (∀ (k0_h89 : k0_cond89 d0 v8 = 1#1), ∀ a, (k0_off160 d0 v8) a + S2x8x128.size a ≤ S2560x8x128.size a)
def k0_chk1_5 (d0 : Dev nD) (v8 : BitVec 32) : Prop :=
  (∀ (k0_h90 : k0_cond90 d0 v8 = 1#1), ∀ a, (k0_off161 d0 v8) a + S1x8x128.size a ≤ S4096x8x128.size a) ∧
  (∀ (k0_h90 : k0_cond90 d0 v8 = 1#1), ∀ a, (k0_off162 d0 v8) a + S1x8x128.size a ≤ S2560x8x128.size a) ∧
  (∀ (k0_h91 : k0_cond91 d0 v8 = 1#1), ∀ a, (k0_off163 d0 v8) a + S256x8x128.size a ≤ S4096x8x128.size a) ∧
  (∀ (k0_h92 : k0_cond92 d0 v8 = 1#1), ∀ a, (k0_off164 d0 v8) a + S256x8x128.size a ≤ S4096x8x128.size a) ∧
  (∀ (k0_h93 : k0_cond93 d0 v8 = 1#1), ∀ a, (k0_off165 d0 v8) a + S128x8x128.size a ≤ S4096x8x128.size a) ∧
  (∀ (k0_h93 : k0_cond93 d0 v8 = 1#1), ∀ a, (k0_off166 d0 v8) a + S128x8x128.size a ≤ S2560x8x128.size a) ∧
  (∀ (k0_h94 : k0_cond94 d0 v8 = 1#1), ∀ a, (k0_off167 d0 v8) a + S64x8x128.size a ≤ S4096x8x128.size a) ∧
  (∀ (k0_h94 : k0_cond94 d0 v8 = 1#1), ∀ a, (k0_off168 d0 v8) a + S64x8x128.size a ≤ S2560x8x128.size a) ∧
  (∀ (k0_h95 : k0_cond95 d0 v8 = 1#1), ∀ a, (k0_off169 d0 v8) a + S32x8x128.size a ≤ S4096x8x128.size a) ∧
  (∀ (k0_h95 : k0_cond95 d0 v8 = 1#1), ∀ a, (k0_off170 d0 v8) a + S32x8x128.size a ≤ S2560x8x128.size a) ∧
  (∀ (k0_h96 : k0_cond96 d0 v8 = 1#1), ∀ a, (k0_off171 d0 v8) a + S16x8x128.size a ≤ S4096x8x128.size a) ∧
  (∀ (k0_h96 : k0_cond96 d0 v8 = 1#1), ∀ a, (k0_off172 d0 v8) a + S16x8x128.size a ≤ S2560x8x128.size a) ∧
  (∀ (k0_h97 : k0_cond97 d0 v8 = 1#1), ∀ a, (k0_off173 d0 v8) a + S8x8x128.size a ≤ S4096x8x128.size a) ∧
  (∀ (k0_h97 : k0_cond97 d0 v8 = 1#1), ∀ a, (k0_off174 d0 v8) a + S8x8x128.size a ≤ S2560x8x128.size a) ∧
  (∀ (k0_h98 : k0_cond98 d0 v8 = 1#1), ∀ a, (k0_off175 d0 v8) a + S4x8x128.size a ≤ S4096x8x128.size a) ∧
  (∀ (k0_h98 : k0_cond98 d0 v8 = 1#1), ∀ a, (k0_off176 d0 v8) a + S4x8x128.size a ≤ S2560x8x128.size a) ∧
  (∀ (k0_h99 : k0_cond99 d0 v8 = 1#1), ∀ a, (k0_off177 d0 v8) a + S2x8x128.size a ≤ S4096x8x128.size a) ∧
  (∀ (k0_h99 : k0_cond99 d0 v8 = 1#1), ∀ a, (k0_off178 d0 v8) a + S2x8x128.size a ≤ S2560x8x128.size a) ∧
  (∀ (k0_h100 : k0_cond100 d0 v8 = 1#1), ∀ a, (k0_off179 d0 v8) a + S1x8x128.size a ≤ S4096x8x128.size a) ∧
  (∀ (k0_h100 : k0_cond100 d0 v8 = 1#1), ∀ a, (k0_off180 d0 v8) a + S1x8x128.size a ≤ S2560x8x128.size a) ∧
  (∀ (k0_h101 : k0_cond101 d0 v8 = 1#1), ∀ a, (k0_off181 d0 v8) a + S2048x8x128.size a ≤ S4096x8x128.size a) ∧
  (∀ (k0_h102 : k0_cond102 d0 v8 = 1#1), ∀ a, (k0_off182 d0 v8) a + S1024x8x128.size a ≤ S4096x8x128.size a) ∧
  (∀ (k0_h102 : k0_cond102 d0 v8 = 1#1), ∀ a, (k0_off183 d0 v8) a + S1024x8x128.size a ≤ S2560x8x128.size a) ∧
  (∀ (k0_h103 : k0_cond103 d0 v8 = 1#1), ∀ a, (k0_off184 d0 v8) a + S512x8x128.size a ≤ S4096x8x128.size a) ∧
  (∀ (k0_h103 : k0_cond103 d0 v8 = 1#1), ∀ a, (k0_off185 d0 v8) a + S512x8x128.size a ≤ S2560x8x128.size a) ∧
  (∀ (k0_h104 : k0_cond104 d0 v8 = 1#1), ∀ a, (k0_off186 d0 v8) a + S256x8x128.size a ≤ S4096x8x128.size a) ∧
  (∀ (k0_h104 : k0_cond104 d0 v8 = 1#1), ∀ a, (k0_off187 d0 v8) a + S256x8x128.size a ≤ S2560x8x128.size a) ∧
  (∀ (k0_h105 : k0_cond105 d0 v8 = 1#1), ∀ a, (k0_off188 d0 v8) a + S128x8x128.size a ≤ S4096x8x128.size a) ∧
  (∀ (k0_h105 : k0_cond105 d0 v8 = 1#1), ∀ a, (k0_off189 d0 v8) a + S128x8x128.size a ≤ S2560x8x128.size a) ∧
  (∀ (k0_h106 : k0_cond106 d0 v8 = 1#1), ∀ a, (k0_off190 d0 v8) a + S64x8x128.size a ≤ S4096x8x128.size a) ∧
  (∀ (k0_h106 : k0_cond106 d0 v8 = 1#1), ∀ a, (k0_off191 d0 v8) a + S64x8x128.size a ≤ S2560x8x128.size a) ∧
  (∀ (k0_h107 : k0_cond107 d0 v8 = 1#1), ∀ a, (k0_off192 d0 v8) a + S32x8x128.size a ≤ S4096x8x128.size a)
def k0_chk1_6 (d0 : Dev nD) (v8 : BitVec 32) : Prop :=
  (∀ (k0_h107 : k0_cond107 d0 v8 = 1#1), ∀ a, (k0_off193 d0 v8) a + S32x8x128.size a ≤ S2560x8x128.size a) ∧
  (∀ (k0_h108 : k0_cond108 d0 v8 = 1#1), ∀ a, (k0_off194 d0 v8) a + S16x8x128.size a ≤ S4096x8x128.size a) ∧
  (∀ (k0_h108 : k0_cond108 d0 v8 = 1#1), ∀ a, (k0_off195 d0 v8) a + S16x8x128.size a ≤ S2560x8x128.size a) ∧
  (∀ (k0_h109 : k0_cond109 d0 v8 = 1#1), ∀ a, (k0_off196 d0 v8) a + S8x8x128.size a ≤ S4096x8x128.size a) ∧
  (∀ (k0_h109 : k0_cond109 d0 v8 = 1#1), ∀ a, (k0_off197 d0 v8) a + S8x8x128.size a ≤ S2560x8x128.size a) ∧
  (∀ (k0_h110 : k0_cond110 d0 v8 = 1#1), ∀ a, (k0_off198 d0 v8) a + S4x8x128.size a ≤ S4096x8x128.size a) ∧
  (∀ (k0_h110 : k0_cond110 d0 v8 = 1#1), ∀ a, (k0_off199 d0 v8) a + S4x8x128.size a ≤ S2560x8x128.size a) ∧
  (∀ (k0_h111 : k0_cond111 d0 v8 = 1#1), ∀ a, (k0_off200 d0 v8) a + S2x8x128.size a ≤ S4096x8x128.size a) ∧
  (∀ (k0_h111 : k0_cond111 d0 v8 = 1#1), ∀ a, (k0_off201 d0 v8) a + S2x8x128.size a ≤ S2560x8x128.size a) ∧
  (∀ (k0_h112 : k0_cond112 d0 v8 = 1#1), ∀ a, (k0_off202 d0 v8) a + S1x8x128.size a ≤ S4096x8x128.size a) ∧
  (∀ (k0_h112 : k0_cond112 d0 v8 = 1#1), ∀ a, (k0_off203 d0 v8) a + S1x8x128.size a ≤ S2560x8x128.size a) ∧
  (∀ (k0_h113 : k0_cond113 d0 v8 = 1#1), ∀ a, (k0_off204 d0 v8) a + S2048x8x128.size a ≤ S4096x8x128.size a) ∧
  (∀ (k0_h114 : k0_cond114 d0 v8 = 1#1), ∀ a, (k0_off205 d0 v8) a + S1024x8x128.size a ≤ S4096x8x128.size a) ∧
  (∀ (k0_h114 : k0_cond114 d0 v8 = 1#1), ∀ a, (k0_off206 d0 v8) a + S1024x8x128.size a ≤ S2560x8x128.size a) ∧
  (∀ (k0_h115 : k0_cond115 d0 v8 = 1#1), ∀ a, (k0_off207 d0 v8) a + S512x8x128.size a ≤ S4096x8x128.size a) ∧
  (∀ (k0_h115 : k0_cond115 d0 v8 = 1#1), ∀ a, (k0_off208 d0 v8) a + S512x8x128.size a ≤ S2560x8x128.size a) ∧
  (∀ (k0_h116 : k0_cond116 d0 v8 = 1#1), ∀ a, (k0_off209 d0 v8) a + S256x8x128.size a ≤ S4096x8x128.size a) ∧
  (∀ (k0_h116 : k0_cond116 d0 v8 = 1#1), ∀ a, (k0_off210 d0 v8) a + S256x8x128.size a ≤ S2560x8x128.size a) ∧
  (∀ (k0_h117 : k0_cond117 d0 v8 = 1#1), ∀ a, (k0_off211 d0 v8) a + S128x8x128.size a ≤ S4096x8x128.size a) ∧
  (∀ (k0_h117 : k0_cond117 d0 v8 = 1#1), ∀ a, (k0_off212 d0 v8) a + S128x8x128.size a ≤ S2560x8x128.size a) ∧
  (∀ (k0_h118 : k0_cond118 d0 v8 = 1#1), ∀ a, (k0_off213 d0 v8) a + S64x8x128.size a ≤ S4096x8x128.size a) ∧
  (∀ (k0_h118 : k0_cond118 d0 v8 = 1#1), ∀ a, (k0_off214 d0 v8) a + S64x8x128.size a ≤ S2560x8x128.size a) ∧
  (∀ (k0_h119 : k0_cond119 d0 v8 = 1#1), ∀ a, (k0_off215 d0 v8) a + S32x8x128.size a ≤ S4096x8x128.size a) ∧
  (∀ (k0_h119 : k0_cond119 d0 v8 = 1#1), ∀ a, (k0_off216 d0 v8) a + S32x8x128.size a ≤ S2560x8x128.size a) ∧
  (∀ (k0_h120 : k0_cond120 d0 v8 = 1#1), ∀ a, (k0_off217 d0 v8) a + S16x8x128.size a ≤ S4096x8x128.size a) ∧
  (∀ (k0_h120 : k0_cond120 d0 v8 = 1#1), ∀ a, (k0_off218 d0 v8) a + S16x8x128.size a ≤ S2560x8x128.size a) ∧
  (∀ (k0_h121 : k0_cond121 d0 v8 = 1#1), ∀ a, (k0_off219 d0 v8) a + S8x8x128.size a ≤ S4096x8x128.size a) ∧
  (∀ (k0_h121 : k0_cond121 d0 v8 = 1#1), ∀ a, (k0_off220 d0 v8) a + S8x8x128.size a ≤ S2560x8x128.size a) ∧
  (∀ (k0_h122 : k0_cond122 d0 v8 = 1#1), ∀ a, (k0_off221 d0 v8) a + S4x8x128.size a ≤ S4096x8x128.size a) ∧
  (∀ (k0_h122 : k0_cond122 d0 v8 = 1#1), ∀ a, (k0_off222 d0 v8) a + S4x8x128.size a ≤ S2560x8x128.size a) ∧
  (∀ (k0_h123 : k0_cond123 d0 v8 = 1#1), ∀ a, (k0_off223 d0 v8) a + S2x8x128.size a ≤ S4096x8x128.size a) ∧
  (∀ (k0_h123 : k0_cond123 d0 v8 = 1#1), ∀ a, (k0_off224 d0 v8) a + S2x8x128.size a ≤ S2560x8x128.size a)
def k0_chk1_7 (d0 : Dev nD) (v8 : BitVec 32) : Prop :=
  (∀ (k0_h124 : k0_cond124 d0 v8 = 1#1), ∀ a, (k0_off225 d0 v8) a + S1x8x128.size a ≤ S4096x8x128.size a) ∧
  (∀ (k0_h124 : k0_cond124 d0 v8 = 1#1), ∀ a, (k0_off226 d0 v8) a + S1x8x128.size a ≤ S2560x8x128.size a) ∧
  (∀ (k0_h125 : k0_cond125 d0 v8 = 1#1), ∀ a, (k0_off227 d0 v8) a + S256x8x128.size a ≤ S4096x8x128.size a) ∧
  (∀ (k0_h126 : k0_cond126 d0 v8 = 1#1), ∀ a, (k0_off228 d0 v8) a + S256x8x128.size a ≤ S4096x8x128.size a) ∧
  (∀ (k0_h127 : k0_cond127 d0 v8 = 1#1), ∀ a, (k0_off229 d0 v8) a + S256x8x128.size a ≤ S4096x8x128.size a) ∧
  (∀ (k0_h128 : k0_cond128 d0 v8 = 1#1), ∀ a, (k0_off230 d0 v8) a + S256x8x128.size a ≤ S4096x8x128.size a) ∧
  (∀ (k0_h129 : k0_cond129 d0 v8 = 1#1), ∀ a, (k0_off231 d0 v8) a + S256x8x128.size a ≤ S4096x8x128.size a) ∧
  (∀ (k0_h130 : k0_cond130 d0 v8 = 1#1), ∀ a, (k0_off232 d0 v8) a + S256x8x128.size a ≤ S4096x8x128.size a) ∧
  (∀ (k0_h131 : k0_cond131 d0 v8 = 1#1), ∀ a, (k0_off233 d0 v8) a + S256x8x128.size a ≤ S4096x8x128.size a) ∧
  (∀ (k0_h132 : k0_cond132 d0 v8 = 1#1), ∀ a, (k0_off234 d0 v8) a + S256x8x128.size a ≤ S4096x8x128.size a) ∧
  (∀ (k0_h133 : k0_cond133 d0 v8 = 1#1), ∀ a, (k0_off235 d0 v8) a + S256x8x128.size a ≤ S4096x8x128.size a) ∧
  (∀ (k0_h134 : k0_cond134 d0 v8 = 1#1), ∀ a, (k0_off236 d0 v8) a + S256x8x128.size a ≤ S4096x8x128.size a) ∧
  (∀ (k0_h135 : k0_cond135 d0 v8 = 1#1), ∀ a, (k0_off237 d0 v8) a + S128x8x128.size a ≤ S4096x8x128.size a) ∧
  (∀ (k0_h136 : k0_cond136 d0 v8 = 1#1), ∀ a, (k0_off238 d0 v8) a + S64x8x128.size a ≤ S4096x8x128.size a) ∧
  (∀ (k0_h137 : k0_cond137 d0 v8 = 1#1), ∀ a, (k0_off239 d0 v8) a + S32x8x128.size a ≤ S4096x8x128.size a) ∧
  (∀ (k0_h138 : k0_cond138 d0 v8 = 1#1), ∀ a, (k0_off240 d0 v8) a + S16x8x128.size a ≤ S4096x8x128.size a) ∧
  (∀ (k0_h139 : k0_cond139 d0 v8 = 1#1), ∀ a, (k0_off241 d0 v8) a + S8x8x128.size a ≤ S4096x8x128.size a) ∧
  (∀ (k0_h140 : k0_cond140 d0 v8 = 1#1), ∀ a, (k0_off242 d0 v8) a + S4x8x128.size a ≤ S4096x8x128.size a) ∧
  (∀ (k0_h141 : k0_cond141 d0 v8 = 1#1), ∀ a, (k0_off243 d0 v8) a + S2x8x128.size a ≤ S4096x8x128.size a) ∧
  (∀ (k0_h142 : k0_cond142 d0 v8 = 1#1), ∀ a, (k0_off244 d0 v8) a + S1x8x128.size a ≤ S4096x8x128.size a) ∧
  (∀ (k0_h143 : k0_cond143 d0 v8 = 1#1), ∀ a, (k0_off245 d0 v8) a + S128x8x128.size a ≤ S4096x8x128.size a) ∧
  (∀ (k0_h144 : k0_cond144 d0 v8 = 1#1), ∀ a, (k0_off246 d0 v8) a + S64x8x128.size a ≤ S4096x8x128.size a) ∧
  (∀ (k0_h145 : k0_cond145 d0 v8 = 1#1), ∀ a, (k0_off247 d0 v8) a + S32x8x128.size a ≤ S4096x8x128.size a) ∧
  (∀ (k0_h146 : k0_cond146 d0 v8 = 1#1), ∀ a, (k0_off248 d0 v8) a + S16x8x128.size a ≤ S4096x8x128.size a) ∧
  (∀ (k0_h147 : k0_cond147 d0 v8 = 1#1), ∀ a, (k0_off249 d0 v8) a + S8x8x128.size a ≤ S4096x8x128.size a) ∧
  (∀ (k0_h148 : k0_cond148 d0 v8 = 1#1), ∀ a, (k0_off250 d0 v8) a + S4x8x128.size a ≤ S4096x8x128.size a) ∧
  (∀ (k0_h149 : k0_cond149 d0 v8 = 1#1), ∀ a, (k0_off251 d0 v8) a + S2x8x128.size a ≤ S4096x8x128.size a) ∧
  (∀ (k0_h150 : k0_cond150 d0 v8 = 1#1), ∀ a, (k0_off252 d0 v8) a + S1x8x128.size a ≤ S4096x8x128.size a) ∧
  (∀ (k0_h151 : k0_cond151 d0 v8 = 1#1), ∀ a, (k0_off253 d0 v8) a + S2048x8x128.size a ≤ S4096x8x128.size a) ∧
  (∀ (k0_h152 : k0_cond152 d0 v8 = 1#1), ∀ a, (k0_off254 d0 v8) a + S1024x8x128.size a ≤ S4096x8x128.size a) ∧
  (∀ (k0_h152 : k0_cond152 d0 v8 = 1#1), ∀ a, (k0_off255 d0 v8) a + S1024x8x128.size a ≤ S2560x8x128.size a) ∧
  (∀ (k0_h153 : k0_cond153 d0 v8 = 1#1), ∀ a, (k0_off256 d0 v8) a + S512x8x128.size a ≤ S4096x8x128.size a)
def k0_chk1_8 (d0 : Dev nD) (v8 : BitVec 32) : Prop :=
  (∀ (k0_h153 : k0_cond153 d0 v8 = 1#1), ∀ a, (k0_off257 d0 v8) a + S512x8x128.size a ≤ S2560x8x128.size a) ∧
  (∀ (k0_h154 : k0_cond154 d0 v8 = 1#1), ∀ a, (k0_off258 d0 v8) a + S256x8x128.size a ≤ S4096x8x128.size a) ∧
  (∀ (k0_h154 : k0_cond154 d0 v8 = 1#1), ∀ a, (k0_off259 d0 v8) a + S256x8x128.size a ≤ S2560x8x128.size a) ∧
  (∀ (k0_h155 : k0_cond155 d0 v8 = 1#1), ∀ a, (k0_off260 d0 v8) a + S128x8x128.size a ≤ S4096x8x128.size a) ∧
  (∀ (k0_h155 : k0_cond155 d0 v8 = 1#1), ∀ a, (k0_off261 d0 v8) a + S128x8x128.size a ≤ S2560x8x128.size a) ∧
  (∀ (k0_h156 : k0_cond156 d0 v8 = 1#1), ∀ a, (k0_off262 d0 v8) a + S64x8x128.size a ≤ S4096x8x128.size a) ∧
  (∀ (k0_h156 : k0_cond156 d0 v8 = 1#1), ∀ a, (k0_off263 d0 v8) a + S64x8x128.size a ≤ S2560x8x128.size a) ∧
  (∀ (k0_h157 : k0_cond157 d0 v8 = 1#1), ∀ a, (k0_off264 d0 v8) a + S32x8x128.size a ≤ S4096x8x128.size a) ∧
  (∀ (k0_h157 : k0_cond157 d0 v8 = 1#1), ∀ a, (k0_off265 d0 v8) a + S32x8x128.size a ≤ S2560x8x128.size a) ∧
  (∀ (k0_h158 : k0_cond158 d0 v8 = 1#1), ∀ a, (k0_off266 d0 v8) a + S16x8x128.size a ≤ S4096x8x128.size a) ∧
  (∀ (k0_h158 : k0_cond158 d0 v8 = 1#1), ∀ a, (k0_off267 d0 v8) a + S16x8x128.size a ≤ S2560x8x128.size a) ∧
  (∀ (k0_h159 : k0_cond159 d0 v8 = 1#1), ∀ a, (k0_off268 d0 v8) a + S8x8x128.size a ≤ S4096x8x128.size a) ∧
  (∀ (k0_h159 : k0_cond159 d0 v8 = 1#1), ∀ a, (k0_off269 d0 v8) a + S8x8x128.size a ≤ S2560x8x128.size a) ∧
  (∀ (k0_h160 : k0_cond160 d0 v8 = 1#1), ∀ a, (k0_off270 d0 v8) a + S4x8x128.size a ≤ S4096x8x128.size a) ∧
  (∀ (k0_h160 : k0_cond160 d0 v8 = 1#1), ∀ a, (k0_off271 d0 v8) a + S4x8x128.size a ≤ S2560x8x128.size a) ∧
  (∀ (k0_h161 : k0_cond161 d0 v8 = 1#1), ∀ a, (k0_off272 d0 v8) a + S2x8x128.size a ≤ S4096x8x128.size a) ∧
  (∀ (k0_h161 : k0_cond161 d0 v8 = 1#1), ∀ a, (k0_off273 d0 v8) a + S2x8x128.size a ≤ S2560x8x128.size a) ∧
  (∀ (k0_h162 : k0_cond162 d0 v8 = 1#1), ∀ a, (k0_off274 d0 v8) a + S1x8x128.size a ≤ S4096x8x128.size a) ∧
  (∀ (k0_h162 : k0_cond162 d0 v8 = 1#1), ∀ a, (k0_off275 d0 v8) a + S1x8x128.size a ≤ S2560x8x128.size a) ∧
  (∀ (k0_h163 : k0_cond163 d0 v8 = 1#1), ∀ a, (k0_off276 d0 v8) a + S2048x8x128.size a ≤ S4096x8x128.size a) ∧
  (∀ (k0_h164 : k0_cond164 d0 v8 = 1#1), ∀ a, (k0_off277 d0 v8) a + S1024x8x128.size a ≤ S4096x8x128.size a) ∧
  (∀ (k0_h164 : k0_cond164 d0 v8 = 1#1), ∀ a, (k0_off278 d0 v8) a + S1024x8x128.size a ≤ S2560x8x128.size a) ∧
  (∀ (k0_h165 : k0_cond165 d0 v8 = 1#1), ∀ a, (k0_off279 d0 v8) a + S512x8x128.size a ≤ S4096x8x128.size a) ∧
  (∀ (k0_h165 : k0_cond165 d0 v8 = 1#1), ∀ a, (k0_off280 d0 v8) a + S512x8x128.size a ≤ S2560x8x128.size a) ∧
  (∀ (k0_h166 : k0_cond166 d0 v8 = 1#1), ∀ a, (k0_off281 d0 v8) a + S256x8x128.size a ≤ S4096x8x128.size a) ∧
  (∀ (k0_h166 : k0_cond166 d0 v8 = 1#1), ∀ a, (k0_off282 d0 v8) a + S256x8x128.size a ≤ S2560x8x128.size a) ∧
  (∀ (k0_h167 : k0_cond167 d0 v8 = 1#1), ∀ a, (k0_off283 d0 v8) a + S128x8x128.size a ≤ S4096x8x128.size a) ∧
  (∀ (k0_h167 : k0_cond167 d0 v8 = 1#1), ∀ a, (k0_off284 d0 v8) a + S128x8x128.size a ≤ S2560x8x128.size a) ∧
  (∀ (k0_h168 : k0_cond168 d0 v8 = 1#1), ∀ a, (k0_off285 d0 v8) a + S64x8x128.size a ≤ S4096x8x128.size a) ∧
  (∀ (k0_h168 : k0_cond168 d0 v8 = 1#1), ∀ a, (k0_off286 d0 v8) a + S64x8x128.size a ≤ S2560x8x128.size a) ∧
  (∀ (k0_h169 : k0_cond169 d0 v8 = 1#1), ∀ a, (k0_off287 d0 v8) a + S32x8x128.size a ≤ S4096x8x128.size a) ∧
  (∀ (k0_h169 : k0_cond169 d0 v8 = 1#1), ∀ a, (k0_off288 d0 v8) a + S32x8x128.size a ≤ S2560x8x128.size a)
def k0_chk1_9 (d0 : Dev nD) (v8 : BitVec 32) : Prop :=
  (∀ (k0_h170 : k0_cond170 d0 v8 = 1#1), ∀ a, (k0_off289 d0 v8) a + S16x8x128.size a ≤ S4096x8x128.size a) ∧
  (∀ (k0_h170 : k0_cond170 d0 v8 = 1#1), ∀ a, (k0_off290 d0 v8) a + S16x8x128.size a ≤ S2560x8x128.size a) ∧
  (∀ (k0_h171 : k0_cond171 d0 v8 = 1#1), ∀ a, (k0_off291 d0 v8) a + S8x8x128.size a ≤ S4096x8x128.size a) ∧
  (∀ (k0_h171 : k0_cond171 d0 v8 = 1#1), ∀ a, (k0_off292 d0 v8) a + S8x8x128.size a ≤ S2560x8x128.size a) ∧
  (∀ (k0_h172 : k0_cond172 d0 v8 = 1#1), ∀ a, (k0_off293 d0 v8) a + S4x8x128.size a ≤ S4096x8x128.size a) ∧
  (∀ (k0_h172 : k0_cond172 d0 v8 = 1#1), ∀ a, (k0_off294 d0 v8) a + S4x8x128.size a ≤ S2560x8x128.size a) ∧
  (∀ (k0_h173 : k0_cond173 d0 v8 = 1#1), ∀ a, (k0_off295 d0 v8) a + S2x8x128.size a ≤ S4096x8x128.size a) ∧
  (∀ (k0_h173 : k0_cond173 d0 v8 = 1#1), ∀ a, (k0_off296 d0 v8) a + S2x8x128.size a ≤ S2560x8x128.size a) ∧
  (∀ (k0_h174 : k0_cond174 d0 v8 = 1#1), ∀ a, (k0_off297 d0 v8) a + S1x8x128.size a ≤ S4096x8x128.size a) ∧
  (∀ (k0_h174 : k0_cond174 d0 v8 = 1#1), ∀ a, (k0_off298 d0 v8) a + S1x8x128.size a ≤ S2560x8x128.size a) ∧
  (∀ (k0_h175 : k0_cond175 d0 v8 = 1#1), ∀ a, (k0_off299 d0 v8) a + S256x8x128.size a ≤ S4096x8x128.size a) ∧
  (∀ (k0_h176 : k0_cond176 d0 v8 = 1#1), ∀ a, (k0_off300 d0 v8) a + S256x8x128.size a ≤ S4096x8x128.size a) ∧
  (∀ (k0_h177 : k0_cond177 d0 v8 = 1#1), ∀ a, (k0_off301 d0 v8) a + S256x8x128.size a ≤ S4096x8x128.size a) ∧
  (∀ (k0_h178 : k0_cond178 d0 v8 = 1#1), ∀ a, (k0_off302 d0 v8) a + S256x8x128.size a ≤ S4096x8x128.size a) ∧
  (∀ (k0_h179 : k0_cond179 d0 v8 = 1#1), ∀ a, (k0_off303 d0 v8) a + S256x8x128.size a ≤ S4096x8x128.size a) ∧
  (∀ (k0_h180 : k0_cond180 d0 v8 = 1#1), ∀ a, (k0_off304 d0 v8) a + S256x8x128.size a ≤ S4096x8x128.size a) ∧
  (∀ (k0_h181 : k0_cond181 d0 v8 = 1#1), ∀ a, (k0_off305 d0 v8) a + S256x8x128.size a ≤ S4096x8x128.size a) ∧
  (∀ (k0_h182 : k0_cond182 d0 v8 = 1#1), ∀ a, (k0_off306 d0 v8) a + S256x8x128.size a ≤ S4096x8x128.size a) ∧
  (∀ (k0_h183 : k0_cond183 d0 v8 = 1#1), ∀ a, (k0_off307 d0 v8) a + S256x8x128.size a ≤ S4096x8x128.size a) ∧
  (∀ (k0_h184 : k0_cond184 d0 v8 = 1#1), ∀ a, (k0_off308 d0 v8) a + S256x8x128.size a ≤ S4096x8x128.size a) ∧
  (∀ (k0_h185 : k0_cond185 d0 v8 = 1#1), ∀ a, (k0_off309 d0 v8) a + S128x8x128.size a ≤ S2560x8x128.size a) ∧
  (∀ (k0_h185 : k0_cond185 d0 v8 = 1#1), ∀ a, (k0_off310 d0 v8) a + S128x8x128.size a ≤ S4096x8x128.size a) ∧
  (∀ (k0_h186 : k0_cond186 d0 v8 = 1#1), ∀ a, (k0_off311 d0 v8) a + S64x8x128.size a ≤ S2560x8x128.size a) ∧
  (∀ (k0_h186 : k0_cond186 d0 v8 = 1#1), ∀ a, (k0_off312 d0 v8) a + S64x8x128.size a ≤ S4096x8x128.size a) ∧
  (∀ (k0_h187 : k0_cond187 d0 v8 = 1#1), ∀ a, (k0_off313 d0 v8) a + S32x8x128.size a ≤ S2560x8x128.size a) ∧
  (∀ (k0_h187 : k0_cond187 d0 v8 = 1#1), ∀ a, (k0_off314 d0 v8) a + S32x8x128.size a ≤ S4096x8x128.size a) ∧
  (∀ (k0_h188 : k0_cond188 d0 v8 = 1#1), ∀ a, (k0_off315 d0 v8) a + S16x8x128.size a ≤ S2560x8x128.size a) ∧
  (∀ (k0_h188 : k0_cond188 d0 v8 = 1#1), ∀ a, (k0_off316 d0 v8) a + S16x8x128.size a ≤ S4096x8x128.size a) ∧
  (∀ (k0_h189 : k0_cond189 d0 v8 = 1#1), ∀ a, (k0_off317 d0 v8) a + S8x8x128.size a ≤ S2560x8x128.size a) ∧
  (∀ (k0_h189 : k0_cond189 d0 v8 = 1#1), ∀ a, (k0_off318 d0 v8) a + S8x8x128.size a ≤ S4096x8x128.size a) ∧
  (∀ (k0_h190 : k0_cond190 d0 v8 = 1#1), ∀ a, (k0_off319 d0 v8) a + S4x8x128.size a ≤ S2560x8x128.size a) ∧
  (∀ (k0_h190 : k0_cond190 d0 v8 = 1#1), ∀ a, (k0_off320 d0 v8) a + S4x8x128.size a ≤ S4096x8x128.size a)
def k0_chk1_10 (d0 : Dev nD) (v8 : BitVec 32) : Prop :=
  (∀ (k0_h191 : k0_cond191 d0 v8 = 1#1), ∀ a, (k0_off321 d0 v8) a + S2x8x128.size a ≤ S2560x8x128.size a) ∧
  (∀ (k0_h191 : k0_cond191 d0 v8 = 1#1), ∀ a, (k0_off322 d0 v8) a + S2x8x128.size a ≤ S4096x8x128.size a) ∧
  (∀ (k0_h192 : k0_cond192 d0 v8 = 1#1), ∀ a, (k0_off323 d0 v8) a + S1x8x128.size a ≤ S2560x8x128.size a) ∧
  (∀ (k0_h192 : k0_cond192 d0 v8 = 1#1), ∀ a, (k0_off324 d0 v8) a + S1x8x128.size a ≤ S4096x8x128.size a) ∧
  (∀ (k0_h193 : k0_cond193 d0 v8 = 1#1), ∀ a, (k0_off325 d0 v8) a + S256x8x128.size a ≤ S4096x8x128.size a) ∧
  (∀ (k0_h194 : k0_cond194 d0 v8 = 1#1), ∀ a, (k0_off326 d0 v8) a + S256x8x128.size a ≤ S4096x8x128.size a) ∧
  (∀ (k0_h195 : k0_cond195 d0 v8 = 1#1), ∀ a, (k0_off327 d0 v8) a + S256x8x128.size a ≤ S4096x8x128.size a) ∧
  (∀ (k0_h196 : k0_cond196 d0 v8 = 1#1), ∀ a, (k0_off328 d0 v8) a + S256x8x128.size a ≤ S4096x8x128.size a) ∧
  (∀ (k0_h197 : k0_cond197 d0 v8 = 1#1), ∀ a, (k0_off329 d0 v8) a + S256x8x128.size a ≤ S4096x8x128.size a) ∧
  (∀ (k0_h198 : k0_cond198 d0 v8 = 1#1), ∀ a, (k0_off330 d0 v8) a + S256x8x128.size a ≤ S4096x8x128.size a) ∧
  (∀ (k0_h199 : k0_cond199 d0 v8 = 1#1), ∀ a, (k0_off331 d0 v8) a + S256x8x128.size a ≤ S4096x8x128.size a) ∧
  (∀ (k0_h200 : k0_cond200 d0 v8 = 1#1), ∀ a, (k0_off332 d0 v8) a + S256x8x128.size a ≤ S4096x8x128.size a) ∧
  (∀ (k0_h201 : k0_cond201 d0 v8 = 1#1), ∀ a, (k0_off333 d0 v8) a + S256x8x128.size a ≤ S4096x8x128.size a) ∧
  (∀ (k0_h202 : k0_cond202 d0 v8 = 1#1), ∀ a, (k0_off334 d0 v8) a + S256x8x128.size a ≤ S4096x8x128.size a) ∧
  (∀ (k0_h203 : k0_cond203 d0 v8 = 1#1), ∀ a, (k0_off335 d0 v8) a + S128x8x128.size a ≤ S2560x8x128.size a) ∧
  (∀ (k0_h203 : k0_cond203 d0 v8 = 1#1), ∀ a, (k0_off336 d0 v8) a + S128x8x128.size a ≤ S4096x8x128.size a) ∧
  (∀ (k0_h204 : k0_cond204 d0 v8 = 1#1), ∀ a, (k0_off337 d0 v8) a + S64x8x128.size a ≤ S2560x8x128.size a) ∧
  (∀ (k0_h204 : k0_cond204 d0 v8 = 1#1), ∀ a, (k0_off338 d0 v8) a + S64x8x128.size a ≤ S4096x8x128.size a) ∧
  (∀ (k0_h205 : k0_cond205 d0 v8 = 1#1), ∀ a, (k0_off339 d0 v8) a + S32x8x128.size a ≤ S2560x8x128.size a) ∧
  (∀ (k0_h205 : k0_cond205 d0 v8 = 1#1), ∀ a, (k0_off340 d0 v8) a + S32x8x128.size a ≤ S4096x8x128.size a) ∧
  (∀ (k0_h206 : k0_cond206 d0 v8 = 1#1), ∀ a, (k0_off341 d0 v8) a + S16x8x128.size a ≤ S2560x8x128.size a) ∧
  (∀ (k0_h206 : k0_cond206 d0 v8 = 1#1), ∀ a, (k0_off342 d0 v8) a + S16x8x128.size a ≤ S4096x8x128.size a) ∧
  (∀ (k0_h207 : k0_cond207 d0 v8 = 1#1), ∀ a, (k0_off343 d0 v8) a + S8x8x128.size a ≤ S2560x8x128.size a) ∧
  (∀ (k0_h207 : k0_cond207 d0 v8 = 1#1), ∀ a, (k0_off344 d0 v8) a + S8x8x128.size a ≤ S4096x8x128.size a) ∧
  (∀ (k0_h208 : k0_cond208 d0 v8 = 1#1), ∀ a, (k0_off345 d0 v8) a + S4x8x128.size a ≤ S2560x8x128.size a) ∧
  (∀ (k0_h208 : k0_cond208 d0 v8 = 1#1), ∀ a, (k0_off346 d0 v8) a + S4x8x128.size a ≤ S4096x8x128.size a) ∧
  (∀ (k0_h209 : k0_cond209 d0 v8 = 1#1), ∀ a, (k0_off347 d0 v8) a + S2x8x128.size a ≤ S2560x8x128.size a) ∧
  (∀ (k0_h209 : k0_cond209 d0 v8 = 1#1), ∀ a, (k0_off348 d0 v8) a + S2x8x128.size a ≤ S4096x8x128.size a) ∧
  (∀ (k0_h210 : k0_cond210 d0 v8 = 1#1), ∀ a, (k0_off349 d0 v8) a + S1x8x128.size a ≤ S2560x8x128.size a) ∧
  (∀ (k0_h210 : k0_cond210 d0 v8 = 1#1), ∀ a, (k0_off350 d0 v8) a + S1x8x128.size a ≤ S4096x8x128.size a) ∧
  (∀ (k0_h211 : k0_cond211 d0 v8 = 1#1), ∀ a, (k0_off351 d0 v8) a + S256x8x128.size a ≤ S4096x8x128.size a) ∧
  (∀ (k0_h212 : k0_cond212 d0 v8 = 1#1), ∀ a, (k0_off352 d0 v8) a + S256x8x128.size a ≤ S4096x8x128.size a)
def k0_chk1_11 (d0 : Dev nD) (v8 : BitVec 32) : Prop :=
  (∀ (k0_h213 : k0_cond213 d0 v8 = 1#1), ∀ a, (k0_off353 d0 v8) a + S256x8x128.size a ≤ S4096x8x128.size a) ∧
  (∀ (k0_h214 : k0_cond214 d0 v8 = 1#1), ∀ a, (k0_off354 d0 v8) a + S256x8x128.size a ≤ S4096x8x128.size a) ∧
  (∀ (k0_h215 : k0_cond215 d0 v8 = 1#1), ∀ a, (k0_off355 d0 v8) a + S256x8x128.size a ≤ S4096x8x128.size a) ∧
  (∀ (k0_h216 : k0_cond216 d0 v8 = 1#1), ∀ a, (k0_off356 d0 v8) a + S256x8x128.size a ≤ S4096x8x128.size a) ∧
  (∀ (k0_h217 : k0_cond217 d0 v8 = 1#1), ∀ a, (k0_off357 d0 v8) a + S256x8x128.size a ≤ S4096x8x128.size a) ∧
  (∀ (k0_h218 : k0_cond218 d0 v8 = 1#1), ∀ a, (k0_off358 d0 v8) a + S256x8x128.size a ≤ S4096x8x128.size a) ∧
  (∀ (k0_h219 : k0_cond219 d0 v8 = 1#1), ∀ a, (k0_off359 d0 v8) a + S256x8x128.size a ≤ S4096x8x128.size a) ∧
  (∀ (k0_h220 : k0_cond220 d0 v8 = 1#1), ∀ a, (k0_off360 d0 v8) a + S256x8x128.size a ≤ S4096x8x128.size a) ∧
  (∀ (k0_h221 : k0_cond221 d0 v8 = 1#1), ∀ a, (k0_off361 d0 v8) a + S256x8x128.size a ≤ S4096x8x128.size a) ∧
  (∀ (k0_h222 : k0_cond222 d0 v8 = 1#1), ∀ a, (k0_off362 d0 v8) a + S256x8x128.size a ≤ S4096x8x128.size a) ∧
  (∀ (k0_h223 : k0_cond223 d0 v8 = 1#1), ∀ a, (k0_off363 d0 v8) a + S256x8x128.size a ≤ S4096x8x128.size a) ∧
  (∀ (k0_h224 : k0_cond224 d0 v8 = 1#1), ∀ a, (k0_off364 d0 v8) a + S256x8x128.size a ≤ S4096x8x128.size a) ∧
  (∀ (k0_h225 : k0_cond225 d0 v8 = 1#1), ∀ a, (k0_off365 d0 v8) a + S256x8x128.size a ≤ S4096x8x128.size a) ∧
  (∀ (k0_h226 : k0_cond226 d0 v8 = 1#1), ∀ a, (k0_off366 d0 v8) a + S256x8x128.size a ≤ S4096x8x128.size a) ∧
  (∀ (k0_h227 : k0_cond227 d0 v8 = 1#1), ∀ a, (k0_off367 d0 v8) a + S256x8x128.size a ≤ S4096x8x128.size a) ∧
  (∀ (k0_h228 : k0_cond228 d0 v8 = 1#1), ∀ a, (k0_off368 d0 v8) a + S256x8x128.size a ≤ S4096x8x128.size a) ∧
  (∀ (k0_h229 : k0_cond229 d0 v8 = 1#1), ∀ a, (k0_off369 d0 v8) a + S256x8x128.size a ≤ S4096x8x128.size a) ∧
  (∀ (k0_h230 : k0_cond230 d0 v8 = 1#1), ∀ a, (k0_off370 d0 v8) a + S256x8x128.size a ≤ S4096x8x128.size a) ∧
  (∀ (k0_h231 : k0_cond231 d0 v8 = 1#1), ∀ a, (k0_off371 d0 v8) a + S128x8x128.size a ≤ S4096x8x128.size a) ∧
  (∀ (k0_h232 : k0_cond232 d0 v8 = 1#1), ∀ a, (k0_off372 d0 v8) a + S128x8x128.size a ≤ S4096x8x128.size a) ∧
  (∀ (k0_h233 : k0_cond233 d0 v8 = 1#1), ∀ a, (k0_off373 d0 v8) a + S64x8x128.size a ≤ S4096x8x128.size a) ∧
  (∀ (k0_h234 : k0_cond234 d0 v8 = 1#1), ∀ a, (k0_off374 d0 v8) a + S64x8x128.size a ≤ S4096x8x128.size a) ∧
  (∀ (k0_h235 : k0_cond235 d0 v8 = 1#1), ∀ a, (k0_off375 d0 v8) a + S32x8x128.size a ≤ S4096x8x128.size a) ∧
  (∀ (k0_h236 : k0_cond236 d0 v8 = 1#1), ∀ a, (k0_off376 d0 v8) a + S32x8x128.size a ≤ S4096x8x128.size a) ∧
  (∀ (k0_h237 : k0_cond237 d0 v8 = 1#1), ∀ a, (k0_off377 d0 v8) a + S16x8x128.size a ≤ S4096x8x128.size a) ∧
  (∀ (k0_h238 : k0_cond238 d0 v8 = 1#1), ∀ a, (k0_off378 d0 v8) a + S16x8x128.size a ≤ S4096x8x128.size a) ∧
  (∀ (k0_h239 : k0_cond239 d0 v8 = 1#1), ∀ a, (k0_off379 d0 v8) a + S8x8x128.size a ≤ S4096x8x128.size a) ∧
  (∀ (k0_h240 : k0_cond240 d0 v8 = 1#1), ∀ a, (k0_off380 d0 v8) a + S8x8x128.size a ≤ S4096x8x128.size a) ∧
  (∀ (k0_h241 : k0_cond241 d0 v8 = 1#1), ∀ a, (k0_off381 d0 v8) a + S4x8x128.size a ≤ S4096x8x128.size a) ∧
  (∀ (k0_h242 : k0_cond242 d0 v8 = 1#1), ∀ a, (k0_off382 d0 v8) a + S4x8x128.size a ≤ S4096x8x128.size a) ∧
  (∀ (k0_h243 : k0_cond243 d0 v8 = 1#1), ∀ a, (k0_off383 d0 v8) a + S2x8x128.size a ≤ S4096x8x128.size a) ∧
  (∀ (k0_h244 : k0_cond244 d0 v8 = 1#1), ∀ a, (k0_off384 d0 v8) a + S2x8x128.size a ≤ S4096x8x128.size a)
def k0_chk1_12 (d0 : Dev nD) (v8 : BitVec 32) : Prop :=
  (∀ (k0_h245 : k0_cond245 d0 v8 = 1#1), ∀ a, (k0_off385 d0 v8) a + S1x8x128.size a ≤ S4096x8x128.size a) ∧
  (∀ (k0_h246 : k0_cond246 d0 v8 = 1#1), ∀ a, (k0_off386 d0 v8) a + S1x8x128.size a ≤ S4096x8x128.size a)
def k0_chk1 (d0 : Dev nD) (v8 : BitVec 32) : Prop :=
  k0_chk1_0 d0 v8 ∧
  k0_chk1_1 d0 v8 ∧
  k0_chk1_2 d0 v8 ∧
  k0_chk1_3 d0 v8 ∧
  k0_chk1_4 d0 v8 ∧
  k0_chk1_5 d0 v8 ∧
  k0_chk1_6 d0 v8 ∧
  k0_chk1_7 d0 v8 ∧
  k0_chk1_8 d0 v8 ∧
  k0_chk1_9 d0 v8 ∧
  k0_chk1_10 d0 v8 ∧
  k0_chk1_11 d0 v8 ∧
  k0_chk1_12 d0 v8
theorem k0_off1_inb : ∀ (d0 : Dev nD) (v8 : BitVec 32) (k0_hw1 : k0_chk1 d0 v8), ∀ (k0_h1 : k0_cond1 d0 v8 = 1#1), ∀ a, (k0_off1 d0 v8) a + S256x8x128.size a ≤ S4096x8x128.size a := fun d0 v8 k0_hw1 k0_h1 => k0_hw1.1.1 k0_h1
theorem k0_off2_inb : ∀ (d0 : Dev nD) (v8 : BitVec 32) (k0_hw1 : k0_chk1 d0 v8), ∀ (k0_h2 : k0_cond2 d0 v8 = 1#1), ∀ a, (k0_off2 d0 v8) a + S256x8x128.size a ≤ S4096x8x128.size a := fun d0 v8 k0_hw1 k0_h2 => k0_hw1.1.2.1 k0_h2
theorem k0_off3_inb : ∀ (d0 : Dev nD) (v8 : BitVec 32) (k0_hw1 : k0_chk1 d0 v8), ∀ (k0_h3 : k0_cond3 d0 v8 = 1#1), ∀ a, (k0_off3 d0 v8) a + S128x8x128.size a ≤ S4096x8x128.size a := fun d0 v8 k0_hw1 k0_h3 => k0_hw1.1.2.2.1 k0_h3
theorem k0_off4_inb : ∀ (d0 : Dev nD) (v8 : BitVec 32) (k0_hw1 : k0_chk1 d0 v8), ∀ (k0_h3 : k0_cond3 d0 v8 = 1#1), ∀ a, (k0_off4 d0 v8) a + S128x8x128.size a ≤ S2560x8x128.size a := fun d0 v8 k0_hw1 k0_h3 => k0_hw1.1.2.2.2.1 k0_h3
theorem k0_off5_inb : ∀ (d0 : Dev nD) (v8 : BitVec 32) (k0_hw1 : k0_chk1 d0 v8), ∀ (k0_h4 : k0_cond4 d0 v8 = 1#1), ∀ a, (k0_off5 d0 v8) a + S64x8x128.size a ≤ S4096x8x128.size a := fun d0 v8 k0_hw1 k0_h4 => k0_hw1.1.2.2.2.2.1 k0_h4
theorem k0_off6_inb : ∀ (d0 : Dev nD) (v8 : BitVec 32) (k0_hw1 : k0_chk1 d0 v8), ∀ (k0_h4 : k0_cond4 d0 v8 = 1#1), ∀ a, (k0_off6 d0 v8) a + S64x8x128.size a ≤ S2560x8x128.size a := fun d0 v8 k0_hw1 k0_h4 => k0_hw1.1.2.2.2.2.2.1 k0_h4
theorem k0_off7_inb : ∀ (d0 : Dev nD) (v8 : BitVec 32) (k0_hw1 : k0_chk1 d0 v8), ∀ (k0_h5 : k0_cond5 d0 v8 = 1#1), ∀ a, (k0_off7 d0 v8) a + S32x8x128.size a ≤ S4096x8x128.size a := fun d0 v8 k0_hw1 k0_h5 => k0_hw1.1.2.2.2.2.2.2.1 k0_h5
theorem k0_off8_inb : ∀ (d0 : Dev nD) (v8 : BitVec 32) (k0_hw1 : k0_chk1 d0 v8), ∀ (k0_h5 : k0_cond5 d0 v8 = 1#1), ∀ a, (k0_off8 d0 v8) a + S32x8x128.size a ≤ S2560x8x128.size a := fun d0 v8 k0_hw1 k0_h5 => k0_hw1.1.2.2.2.2.2.2.2.1 k0_h5
theorem k0_off9_inb : ∀ (d0 : Dev nD) (v8 : BitVec 32) (k0_hw1 : k0_chk1 d0 v8), ∀ (k0_h6 : k0_cond6 d0 v8 = 1#1), ∀ a, (k0_off9 d0 v8) a + S16x8x128.size a ≤ S4096x8x128.size a := fun d0 v8 k0_hw1 k0_h6 => k0_hw1.1.2.2.2.2.2.2.2.2.1 k0_h6
theorem k0_off10_inb : ∀ (d0 : Dev nD) (v8 : BitVec 32) (k0_hw1 : k0_chk1 d0 v8), ∀ (k0_h6 : k0_cond6 d0 v8 = 1#1), ∀ a, (k0_off10 d0 v8) a + S16x8x128.size a ≤ S2560x8x128.size a := fun d0 v8 k0_hw1 k0_h6 => k0_hw1.1.2.2.2.2.2.2.2.2.2.1 k0_h6
theorem k0_off11_inb : ∀ (d0 : Dev nD) (v8 : BitVec 32) (k0_hw1 : k0_chk1 d0 v8), ∀ (k0_h7 : k0_cond7 d0 v8 = 1#1), ∀ a, (k0_off11 d0 v8) a + S8x8x128.size a ≤ S4096x8x128.size a := fun d0 v8 k0_hw1 k0_h7 => k0_hw1.1.2.2.2.2.2.2.2.2.2.2.1 k0_h7
theorem k0_off12_inb : ∀ (d0 : Dev nD) (v8 : BitVec 32) (k0_hw1 : k0_chk1 d0 v8), ∀ (k0_h7 : k0_cond7 d0 v8 = 1#1), ∀ a, (k0_off12 d0 v8) a + S8x8x128.size a ≤ S2560x8x128.size a := fun d0 v8 k0_hw1 k0_h7 => k0_hw1.1.2.2.2.2.2.2.2.2.2.2.2.1 k0_h7
theorem k0_off13_inb : ∀ (d0 : Dev nD) (v8 : BitVec 32) (k0_hw1 : k0_chk1 d0 v8), ∀ (k0_h8 : k0_cond8 d0 v8 = 1#1), ∀ a, (k0_off13 d0 v8) a + S4x8x128.size a ≤ S4096x8x128.size a := fun d0 v8 k0_hw1 k0_h8 => k0_hw1.1.2.2.2.2.2.2.2.2.2.2.2.2.1 k0_h8
theorem k0_off14_inb : ∀ (d0 : Dev nD) (v8 : BitVec 32) (k0_hw1 : k0_chk1 d0 v8), ∀ (k0_h8 : k0_cond8 d0 v8 = 1#1), ∀ a, (k0_off14 d0 v8) a + S4x8x128.size a ≤ S2560x8x128.size a := fun d0 v8 k0_hw1 k0_h8 => k0_hw1.1.2.2.2.2.2.2.2.2.2.2.2.2.2.1 k0_h8
theorem k0_off15_inb : ∀ (d0 : Dev nD) (v8 : BitVec 32) (k0_hw1 : k0_chk1 d0 v8), ∀ (k0_h9 : k0_cond9 d0 v8 = 1#1), ∀ a, (k0_off15 d0 v8) a + S2x8x128.size a ≤ S4096x8x128.size a := fun d0 v8 k0_hw1 k0_h9 => k0_hw1.1.2.2.2.2.2.2.2.2.2.2.2.2.2.2.1 k0_h9
theorem k0_off16_inb : ∀ (d0 : Dev nD) (v8 : BitVec 32) (k0_hw1 : k0_chk1 d0 v8), ∀ (k0_h9 : k0_cond9 d0 v8 = 1#1), ∀ a, (k0_off16 d0 v8) a + S2x8x128.size a ≤ S2560x8x128.size a := fun d0 v8 k0_hw1 k0_h9 => k0_hw1.1.2.2.2.2.2.2.2.2.2.2.2.2.2.2.2.1 k0_h9
theorem k0_off17_inb : ∀ (d0 : Dev nD) (v8 : BitVec 32) (k0_hw1 : k0_chk1 d0 v8), ∀ (k0_h10 : k0_cond10 d0 v8 = 1#1), ∀ a, (k0_off17 d0 v8) a + S1x8x128.size a ≤ S4096x8x128.size a := fun d0 v8 k0_hw1 k0_h10 => k0_hw1.1.2.2.2.2.2.2.2.2.2.2.2.2.2.2.2.2.1 k0_h10
theorem k0_off18_inb : ∀ (d0 : Dev nD) (v8 : BitVec 32) (k0_hw1 : k0_chk1 d0 v8), ∀ (k0_h10 : k0_cond10 d0 v8 = 1#1), ∀ a, (k0_off18 d0 v8) a + S1x8x128.size a ≤ S2560x8x128.size a := fun d0 v8 k0_hw1 k0_h10 => k0_hw1.1.2.2.2.2.2.2.2.2.2.2.2.2.2.2.2.2.2.1 k0_h10
theorem k0_off19_inb : ∀ (d0 : Dev nD) (v8 : BitVec 32) (k0_hw1 : k0_chk1 d0 v8), ∀ (k0_h11 : k0_cond11 d0 v8 = 1#1), ∀ a, (k0_off19 d0 v8) a + S256x8x128.size a ≤ S4096x8x128.size a := fun d0 v8 k0_hw1 k0_h11 => k0_hw1.1.2.2.2.2.2.2.2.2.2.2.2.2.2.2.2.2.2.2.1 k0_h11
theorem k0_off20_inb : ∀ (d0 : Dev nD) (v8 : BitVec 32) (k0_hw1 : k0_chk1 d0 v8), ∀ (k0_h12 : k0_cond12 d0 v8 = 1#1), ∀ a, (k0_off20 d0 v8) a + S256x8x128.size a ≤ S4096x8x128.size a := fun d0 v8 k0_hw1 k0_h12 => k0_hw1.1.2.2.2.2.2.2.2.2.2.2.2.2.2.2.2.2.2.2.2.1 k0_h12
theorem k0_off21_inb : ∀ (d0 : Dev nD) (v8 : BitVec 32) (k0_hw1 : k0_chk1 d0 v8), ∀ (k0_h13 : k0_cond13 d0 v8 = 1#1), ∀ a, (k0_off21 d0 v8) a + S128x8x128.size a ≤ S4096x8x128.size a := fun d0 v8 k0_hw1 k0_h13 => k0_hw1.1.2.2.2.2.2.2.2.2.2.2.2.2.2.2.2.2.2.2.2.2.1 k0_h13
theorem k0_off22_inb : ∀ (d0 : Dev nD) (v8 : BitVec 32) (k0_hw1 : k0_chk1 d0 v8), ∀ (k0_h13 : k0_cond13 d0 v8 = 1#1), ∀ a, (k0_off22 d0 v8) a + S128x8x128.size a ≤ S2560x8x128.size a := fun d0 v8 k0_hw1 k0_h13 => k0_hw1.1.2.2.2.2.2.2.2.2.2.2.2.2.2.2.2.2.2.2.2.2.2.1 k0_h13
theorem k0_off23_inb : ∀ (d0 : Dev nD) (v8 : BitVec 32) (k0_hw1 : k0_chk1 d0 v8), ∀ (k0_h14 : k0_cond14 d0 v8 = 1#1), ∀ a, (k0_off23 d0 v8) a + S64x8x128.size a ≤ S4096x8x128.size a := fun d0 v8 k0_hw1 k0_h14 => k0_hw1.1.2.2.2.2.2.2.2.2.2.2.2.2.2.2.2.2.2.2.2.2.2.2.1 k0_h14
theorem k0_off24_inb : ∀ (d0 : Dev nD) (v8 : BitVec 32) (k0_hw1 : k0_chk1 d0 v8), ∀ (k0_h14 : k0_cond14 d0 v8 = 1#1), ∀ a, (k0_off24 d0 v8) a + S64x8x128.size a ≤ S2560x8x128.size a := fun d0 v8 k0_hw1 k0_h14 => k0_hw1.1.2.2.2.2.2.2.2.2.2.2.2.2.2.2.2.2.2.2.2.2.2.2.2.1 k0_h14
theorem k0_off25_inb : ∀ (d0 : Dev nD) (v8 : BitVec 32) (k0_hw1 : k0_chk1 d0 v8), ∀ (k0_h15 : k0_cond15 d0 v8 = 1#1), ∀ a, (k0_off25 d0 v8) a + S32x8x128.size a ≤ S4096x8x128.size a := fun d0 v8 k0_hw1 k0_h15 => k0_hw1.1.2.2.2.2.2.2.2.2.2.2.2.2.2.2.2.2.2.2.2.2.2.2.2.2.1 k0_h15
theorem k0_off26_inb : ∀ (d0 : Dev nD) (v8 : BitVec 32) (k0_hw1 : k0_chk1 d0 v8), ∀ (k0_h15 : k0_cond15 d0 v8 = 1#1), ∀ a, (k0_off26 d0 v8) a + S32x8x128.size a ≤ S2560x8x128.size a := fun d0 v8 k0_hw1 k0_h15 => k0_hw1.1.2.2.2.2.2.2.2.2.2.2.2.2.2.2.2.2.2.2.2.2.2.2.2.2.2.1 k0_h15
theorem k0_off27_inb : ∀ (d0 : Dev nD) (v8 : BitVec 32) (k0_hw1 : k0_chk1 d0 v8), ∀ (k0_h16 : k0_cond16 d0 v8 = 1#1), ∀ a, (k0_off27 d0 v8) a + S16x8x128.size a ≤ S4096x8x128.size a := fun d0 v8 k0_hw1 k0_h16 => k0_hw1.1.2.2.2.2.2.2.2.2.2.2.2.2.2.2.2.2.2.2.2.2.2.2.2.2.2.2.1 k0_h16
theorem k0_off28_inb : ∀ (d0 : Dev nD) (v8 : BitVec 32) (k0_hw1 : k0_chk1 d0 v8), ∀ (k0_h16 : k0_cond16 d0 v8 = 1#1), ∀ a, (k0_off28 d0 v8) a + S16x8x128.size a ≤ S2560x8x128.size a := fun d0 v8 k0_hw1 k0_h16 => k0_hw1.1.2.2.2.2.2.2.2.2.2.2.2.2.2.2.2.2.2.2.2.2.2.2.2.2.2.2.2.1 k0_h16
theorem k0_off29_inb : ∀ (d0 : Dev nD) (v8 : BitVec 32) (k0_hw1 : k0_chk1 d0 v8), ∀ (k0_h17 : k0_cond17 d0 v8 = 1#1), ∀ a, (k0_off29 d0 v8) a + S8x8x128.size a ≤ S4096x8x128.size a := fun d0 v8 k0_hw1 k0_h17 => k0_hw1.1.2.2.2.2.2.2.2.2.2.2.2.2.2.2.2.2.2.2.2.2.2.2.2.2.2.2.2.2.1 k0_h17
theorem k0_off30_inb : ∀ (d0 : Dev nD) (v8 : BitVec 32) (k0_hw1 : k0_chk1 d0 v8), ∀ (k0_h17 : k0_cond17 d0 v8 = 1#1), ∀ a, (k0_off30 d0 v8) a + S8x8x128.size a ≤ S2560x8x128.size a := fun d0 v8 k0_hw1 k0_h17 => k0_hw1.1.2.2.2.2.2.2.2.2.2.2.2.2.2.2.2.2.2.2.2.2.2.2.2.2.2.2.2.2.2.1 k0_h17
theorem k0_off31_inb : ∀ (d0 : Dev nD) (v8 : BitVec 32) (k0_hw1 : k0_chk1 d0 v8), ∀ (k0_h18 : k0_cond18 d0 v8 = 1#1), ∀ a, (k0_off31 d0 v8) a + S4x8x128.size a ≤ S4096x8x128.size a := fun d0 v8 k0_hw1 k0_h18 => k0_hw1.1.2.2.2.2.2.2.2.2.2.2.2.2.2.2.2.2.2.2.2.2.2.2.2.2.2.2.2.2.2.2.1 k0_h18
theorem k0_off32_inb : ∀ (d0 : Dev nD) (v8 : BitVec 32) (k0_hw1 : k0_chk1 d0 v8), ∀ (k0_h18 : k0_cond18 d0 v8 = 1#1), ∀ a, (k0_off32 d0 v8) a + S4x8x128.size a ≤ S2560x8x128.size a := fun d0 v8 k0_hw1 k0_h18 => k0_hw1.1.2.2.2.2.2.2.2.2.2.2.2.2.2.2.2.2.2.2.2.2.2.2.2.2.2.2.2.2.2.2.2 k0_h18
theorem k0_off33_inb : ∀ (d0 : Dev nD) (v8 : BitVec 32) (k0_hw1 : k0_chk1 d0 v8), ∀ (k0_h19 : k0_cond19 d0 v8 = 1#1), ∀ a, (k0_off33 d0 v8) a + S2x8x128.size a ≤ S4096x8x128.size a := fun d0 v8 k0_hw1 k0_h19 => k0_hw1.2.1.1 k0_h19
theorem k0_off34_inb : ∀ (d0 : Dev nD) (v8 : BitVec 32) (k0_hw1 : k0_chk1 d0 v8), ∀ (k0_h19 : k0_cond19 d0 v8 = 1#1), ∀ a, (k0_off34 d0 v8) a + S2x8x128.size a ≤ S2560x8x128.size a := fun d0 v8 k0_hw1 k0_h19 => k0_hw1.2.1.2.1 k0_h19
theorem k0_off35_inb : ∀ (d0 : Dev nD) (v8 : BitVec 32) (k0_hw1 : k0_chk1 d0 v8), ∀ (k0_h20 : k0_cond20 d0 v8 = 1#1), ∀ a, (k0_off35 d0 v8) a + S1x8x128.size a ≤ S4096x8x128.size a := fun d0 v8 k0_hw1 k0_h20 => k0_hw1.2.1.2.2.1 k0_h20
theorem k0_off36_inb : ∀ (d0 : Dev nD) (v8 : BitVec 32) (k0_hw1 : k0_chk1 d0 v8), ∀ (k0_h20 : k0_cond20 d0 v8 = 1#1), ∀ a, (k0_off36 d0 v8) a + S1x8x128.size a ≤ S2560x8x128.size a := fun d0 v8 k0_hw1 k0_h20 => k0_hw1.2.1.2.2.2.1 k0_h20
theorem k0_off37_inb : ∀ (d0 : Dev nD) (v8 : BitVec 32) (k0_hw1 : k0_chk1 d0 v8), ∀ (k0_h21 : k0_cond21 d0 v8 = 1#1), ∀ a, (k0_off37 d0 v8) a + S256x8x128.size a ≤ S4096x8x128.size a := fun d0 v8 k0_hw1 k0_h21 => k0_hw1.2.1.2.2.2.2.1 k0_h21
theorem k0_off38_inb : ∀ (d0 : Dev nD) (v8 : BitVec 32) (k0_hw1 : k0_chk1 d0 v8), ∀ (k0_h22 : k0_cond22 d0 v8 = 1#1), ∀ a, (k0_off38 d0 v8) a + S256x8x128.size a ≤ S4096x8x128.size a := fun d0 v8 k0_hw1 k0_h22 => k0_hw1.2.1.2.2.2.2.2.1 k0_h22
theorem k0_off39_inb : ∀ (d0 : Dev nD) (v8 : BitVec 32) (k0_hw1 : k0_chk1 d0 v8), ∀ (k0_h23 : k0_cond23 d0 v8 = 1#1), ∀ a, (k0_off39 d0 v8) a + S128x8x128.size a ≤ S4096x8x128.size a := fun d0 v8 k0_hw1 k0_h23 => k0_hw1.2.1.2.2.2.2.2.2.1 k0_h23
theorem k0_off40_inb : ∀ (d0 : Dev nD) (v8 : BitVec 32) (k0_hw1 : k0_chk1 d0 v8), ∀ (k0_h23 : k0_cond23 d0 v8 = 1#1), ∀ a, (k0_off40 d0 v8) a + S128x8x128.size a ≤ S2560x8x128.size a := fun d0 v8 k0_hw1 k0_h23 => k0_hw1.2.1.2.2.2.2.2.2.2.1 k0_h23
theorem k0_off41_inb : ∀ (d0 : Dev nD) (v8 : BitVec 32) (k0_hw1 : k0_chk1 d0 v8), ∀ (k0_h24 : k0_cond24 d0 v8 = 1#1), ∀ a, (k0_off41 d0 v8) a + S64x8x128.size a ≤ S4096x8x128.size a := fun d0 v8 k0_hw1 k0_h24 => k0_hw1.2.1.2.2.2.2.2.2.2.2.1 k0_h24
theorem k0_off42_inb : ∀ (d0 : Dev nD) (v8 : BitVec 32) (k0_hw1 : k0_chk1 d0 v8), ∀ (k0_h24 : k0_cond24 d0 v8 = 1#1), ∀ a, (k0_off42 d0 v8) a + S64x8x128.size a ≤ S2560x8x128.size a := fun d0 v8 k0_hw1 k0_h24 => k0_hw1.2.1.2.2.2.2.2.2.2.2.2.1 k0_h24
theorem k0_off43_inb : ∀ (d0 : Dev nD) (v8 : BitVec 32) (k0_hw1 : k0_chk1 d0 v8), ∀ (k0_h25 : k0_cond25 d0 v8 = 1#1), ∀ a, (k0_off43 d0 v8) a + S32x8x128.size a ≤ S4096x8x128.size a := fun d0 v8 k0_hw1 k0_h25 => k0_hw1.2.1.2.2.2.2.2.2.2.2.2.2.1 k0_h25
theorem k0_off44_inb : ∀ (d0 : Dev nD) (v8 : BitVec 32) (k0_hw1 : k0_chk1 d0 v8), ∀ (k0_h25 : k0_cond25 d0 v8 = 1#1), ∀ a, (k0_off44 d0 v8) a + S32x8x128.size a ≤ S2560x8x128.size a := fun d0 v8 k0_hw1 k0_h25 => k0_hw1.2.1.2.2.2.2.2.2.2.2.2.2.2.1 k0_h25
theorem k0_off45_inb : ∀ (d0 : Dev nD) (v8 : BitVec 32) (k0_hw1 : k0_chk1 d0 v8), ∀ (k0_h26 : k0_cond26 d0 v8 = 1#1), ∀ a, (k0_off45 d0 v8) a + S16x8x128.size a ≤ S4096x8x128.size a := fun d0 v8 k0_hw1 k0_h26 => k0_hw1.2.1.2.2.2.2.2.2.2.2.2.2.2.2.1 k0_h26
theorem k0_off46_inb : ∀ (d0 : Dev nD) (v8 : BitVec 32) (k0_hw1 : k0_chk1 d0 v8), ∀ (k0_h26 : k0_cond26 d0 v8 = 1#1), ∀ a, (k0_off46 d0 v8) a + S16x8x128.size a ≤ S2560x8x128.size a := fun d0 v8 k0_hw1 k0_h26 => k0_hw1.2.1.2.2.2.2.2.2.2.2.2.2.2.2.2.1 k0_h26
theorem k0_off47_inb : ∀ (d0 : Dev nD) (v8 : BitVec 32) (k0_hw1 : k0_chk1 d0 v8), ∀ (k0_h27 : k0_cond27 d0 v8 = 1#1), ∀ a, (k0_off47 d0 v8) a + S8x8x128.size a ≤ S4096x8x128.size a := fun d0 v8 k0_hw1 k0_h27 => k0_hw1.2.1.2.2.2.2.2.2.2.2.2.2.2.2.2.2.1 k0_h27
theorem k0_off48_inb : ∀ (d0 : Dev nD) (v8 : BitVec 32) (k0_hw1 : k0_chk1 d0 v8), ∀ (k0_h27 : k0_cond27 d0 v8 = 1#1), ∀ a, (k0_off48 d0 v8) a + S8x8x128.size a ≤ S2560x8x128.size a := fun d0 v8 k0_hw1 k0_h27 => k0_hw1.2.1.2.2.2.2.2.2.2.2.2.2.2.2.2.2.2.1 k0_h27
theorem k0_off49_inb : ∀ (d0 : Dev nD) (v8 : BitVec 32) (k0_hw1 : k0_chk1 d0 v8), ∀ (k0_h28 : k0_cond28 d0 v8 = 1#1), ∀ a, (k0_off49 d0 v8) a + S4x8x128.size a ≤ S4096x8x128.size a := fun d0 v8 k0_hw1 k0_h28 => k0_hw1.2.1.2.2.2.2.2.2.2.2.2.2.2.2.2.2.2.2.1 k0_h28
theorem k0_off50_inb : ∀ (d0 : Dev nD) (v8 : BitVec 32) (k0_hw1 : k0_chk1 d0 v8), ∀ (k0_h28 : k0_cond28 d0 v8 = 1#1), ∀ a, (k0_off50 d0 v8) a + S4x8x128.size a ≤ S2560x8x128.size a := fun d0 v8 k0_hw1 k0_h28 => k0_hw1.2.1.2.2.2.2.2.2.2.2.2.2.2.2.2.2.2.2.2.1 k0_h28
theorem k0_off51_inb : ∀ (d0 : Dev nD) (v8 : BitVec 32) (k0_hw1 : k0_chk1 d0 v8), ∀ (k0_h29 : k0_cond29 d0 v8 = 1#1), ∀ a, (k0_off51 d0 v8) a + S2x8x128.size a ≤ S4096x8x128.size a := fun d0 v8 k0_hw1 k0_h29 => k0_hw1.2.1.2.2.2.2.2.2.2.2.2.2.2.2.2.2.2.2.2.2.1 k0_h29
theorem k0_off52_inb : ∀ (d0 : Dev nD) (v8 : BitVec 32) (k0_hw1 : k0_chk1 d0 v8), ∀ (k0_h29 : k0_cond29 d0 v8 = 1#1), ∀ a, (k0_off52 d0 v8) a + S2x8x128.size a ≤ S2560x8x128.size a := fun d0 v8 k0_hw1 k0_h29 => k0_hw1.2.1.2.2.2.2.2.2.2.2.2.2.2.2.2.2.2.2.2.2.2.1 k0_h29
theorem k0_off53_inb : ∀ (d0 : Dev nD) (v8 : BitVec 32) (k0_hw1 : k0_chk1 d0 v8), ∀ (k0_h30 : k0_cond30 d0 v8 = 1#1), ∀ a, (k0_off53 d0 v8) a + S1x8x128.size a ≤ S4096x8x128.size a := fun d0 v8 k0_hw1 k0_h30 => k0_hw1.2.1.2.2.2.2.2.2.2.2.2.2.2.2.2.2.2.2.2.2.2.2.1 k0_h30
theorem k0_off54_inb : ∀ (d0 : Dev nD) (v8 : BitVec 32) (k0_hw1 : k0_chk1 d0 v8), ∀ (k0_h30 : k0_cond30 d0 v8 = 1#1), ∀ a, (k0_off54 d0 v8) a + S1x8x128.size a ≤ S2560x8x128.size a := fun d0 v8 k0_hw1 k0_h30 => k0_hw1.2.1.2.2.2.2.2.2.2.2.2.2.2.2.2.2.2.2.2.2.2.2.2.1 k0_h30
theorem k0_off55_inb : ∀ (d0 : Dev nD) (v8 : BitVec 32) (k0_hw1 : k0_chk1 d0 v8), ∀ (k0_h31 : k0_cond31 d0 v8 = 1#1), ∀ a, (k0_off55 d0 v8) a + S256x8x128.size a ≤ S4096x8x128.size a := fun d0 v8 k0_hw1 k0_h31 => k0_hw1.2.1.2.2.2.2.2.2.2.2.2.2.2.2.2.2.2.2.2.2.2.2.2.2.1 k0_h31
theorem k0_off56_inb : ∀ (d0 : Dev nD) (v8 : BitVec 32) (k0_hw1 : k0_chk1 d0 v8), ∀ (k0_h32 : k0_cond32 d0 v8 = 1#1), ∀ a, (k0_off56 d0 v8) a + S256x8x128.size a ≤ S4096x8x128.size a := fun d0 v8 k0_hw1 k0_h32 => k0_hw1.2.1.2.2.2.2.2.2.2.2.2.2.2.2.2.2.2.2.2.2.2.2.2.2.2.1 k0_h32
theorem k0_off57_inb : ∀ (d0 : Dev nD) (v8 : BitVec 32) (k0_hw1 : k0_chk1 d0 v8), ∀ (k0_h33 : k0_cond33 d0 v8 = 1#1), ∀ a, (k0_off57 d0 v8) a + S128x8x128.size a ≤ S4096x8x128.size a := fun d0 v8 k0_hw1 k0_h33 => k0_hw1.2.1.2.2.2.2.2.2.2.2.2.2.2.2.2.2.2.2.2.2.2.2.2.2.2.2.1 k0_h33
theorem k0_off58_inb : ∀ (d0 : Dev nD) (v8 : BitVec 32) (k0_hw1 : k0_chk1 d0 v8), ∀ (k0_h33 : k0_cond33 d0 v8 = 1#1), ∀ a, (k0_off58 d0 v8) a + S128x8x128.size a ≤ S2560x8x128.size a := fun d0 v8 k0_hw1 k0_h33 => k0_hw1.2.1.2.2.2.2.2.2.2.2.2.2.2.2.2.2.2.2.2.2.2.2.2.2.2.2.2.1 k0_h33
theorem k0_off59_inb : ∀ (d0 : Dev nD) (v8 : BitVec 32) (k0_hw1 : k0_chk1 d0 v8), ∀ (k0_h34 : k0_cond34 d0 v8 = 1#1), ∀ a, (k0_off59 d0 v8) a + S64x8x128.size a ≤ S4096x8x128.size a := fun d0 v8 k0_hw1 k0_h34 => k0_hw1.2.1.2.2.2.2.2.2.2.2.2.2.2.2.2.2.2.2.2.2.2.2.2.2.2.2.2.2.1 k0_h34
theorem k0_off60_inb : ∀ (d0 : Dev nD) (v8 : BitVec 32) (k0_hw1 : k0_chk1 d0 v8), ∀ (k0_h34 : k0_cond34 d0 v8 = 1#1), ∀ a, (k0_off60 d0 v8) a + S64x8x128.size a ≤ S2560x8x128.size a := fun d0 v8 k0_hw1 k0_h34 => k0_hw1.2.1.2.2.2.2.2.2.2.2.2.2.2.2.2.2.2.2.2.2.2.2.2.2.2.2.2.2.2.1 k0_h34
theorem k0_off61_inb : ∀ (d0 : Dev nD) (v8 : BitVec 32) (k0_hw1 : k0_chk1 d0 v8), ∀ (k0_h35 : k0_cond35 d0 v8 = 1#1), ∀ a, (k0_off61 d0 v8) a + S32x8x128.size a ≤ S4096x8x128.size a := fun d0 v8 k0_hw1 k0_h35 => k0_hw1.2.1.2.2.2.2.2.2.2.2.2.2.2.2.2.2.2.2.2.2.2.2.2.2.2.2.2.2.2.2.1 k0_h35
theorem k0_off62_inb : ∀ (d0 : Dev nD) (v8 : BitVec 32) (k0_hw1 : k0_chk1 d0 v8), ∀ (k0_h35 : k0_cond35 d0 v8 = 1#1), ∀ a, (k0_off62 d0 v8) a + S32x8x128.size a ≤ S2560x8x128.size a := fun d0 v8 k0_hw1 k0_h35 => k0_hw1.2.1.2.2.2.2.2.2.2.2.2.2.2.2.2.2.2.2.2.2.2.2.2.2.2.2.2.2.2.2.2.1 k0_h35
theorem k0_off63_inb : ∀ (d0 : Dev nD) (v8 : BitVec 32) (k0_hw1 : k0_chk1 d0 v8), ∀ (k0_h36 : k0_cond36 d0 v8 = 1#1), ∀ a, (k0_off63 d0 v8) a + S16x8x128.size a ≤ S4096x8x128.size a := fun d0 v8 k0_hw1 k0_h36 => k0_hw1.2.1.2.2.2.2.2.2.2.2.2.2.2.2.2.2.2.2.2.2.2.2.2.2.2.2.2.2.2.2.2.2.1 k0_h36
theorem k0_off64_inb : ∀ (d0 : Dev nD) (v8 : BitVec 32) (k0_hw1 : k0_chk1 d0 v8), ∀ (k0_h36 : k0_cond36 d0 v8 = 1#1), ∀ a, (k0_off64 d0 v8) a + S16x8x128.size a ≤ S2560x8x128.size a := fun d0 v8 k0_hw1 k0_h36 => k0_hw1.2.1.2.2.2.2.2.2.2.2.2.2.2.2.2.2.2.2.2.2.2.2.2.2.2.2.2.2.2.2.2.2.2 k0_h36
theorem k0_off65_inb : ∀ (d0 : Dev nD) (v8 : BitVec 32) (k0_hw1 : k0_chk1 d0 v8), ∀ (k0_h37 : k0_cond37 d0 v8 = 1#1), ∀ a, (k0_off65 d0 v8) a + S8x8x128.size a ≤ S4096x8x128.size a := fun d0 v8 k0_hw1 k0_h37 => k0_hw1.2.2.1.1 k0_h37
theorem k0_off66_inb : ∀ (d0 : Dev nD) (v8 : BitVec 32) (k0_hw1 : k0_chk1 d0 v8), ∀ (k0_h37 : k0_cond37 d0 v8 = 1#1), ∀ a, (k0_off66 d0 v8) a + S8x8x128.size a ≤ S2560x8x128.size a := fun d0 v8 k0_hw1 k0_h37 => k0_hw1.2.2.1.2.1 k0_h37
theorem k0_off67_inb : ∀ (d0 : Dev nD) (v8 : BitVec 32) (k0_hw1 : k0_chk1 d0 v8), ∀ (k0_h38 : k0_cond38 d0 v8 = 1#1), ∀ a, (k0_off67 d0 v8) a + S4x8x128.size a ≤ S4096x8x128.size a := fun d0 v8 k0_hw1 k0_h38 => k0_hw1.2.2.1.2.2.1 k0_h38
theorem k0_off68_inb : ∀ (d0 : Dev nD) (v8 : BitVec 32) (k0_hw1 : k0_chk1 d0 v8), ∀ (k0_h38 : k0_cond38 d0 v8 = 1#1), ∀ a, (k0_off68 d0 v8) a + S4x8x128.size a ≤ S2560x8x128.size a := fun d0 v8 k0_hw1 k0_h38 => k0_hw1.2.2.1.2.2.2.1 k0_h38
theorem k0_off69_inb : ∀ (d0 : Dev nD) (v8 : BitVec 32) (k0_hw1 : k0_chk1 d0 v8), ∀ (k0_h39 : k0_cond39 d0 v8 = 1#1), ∀ a, (k0_off69 d0 v8) a + S2x8x128.size a ≤ S4096x8x128.size a := fun d0 v8 k0_hw1 k0_h39 => k0_hw1.2.2.1.2.2.2.2.1 k0_h39
theorem k0_off70_inb : ∀ (d0 : Dev nD) (v8 : BitVec 32) (k0_hw1 : k0_chk1 d0 v8), ∀ (k0_h39 : k0_cond39 d0 v8 = 1#1), ∀ a, (k0_off70 d0 v8) a + S2x8x128.size a ≤ S2560x8x128.size a := fun d0 v8 k0_hw1 k0_h39 => k0_hw1.2.2.1.2.2.2.2.2.1 k0_h39
theorem k0_off71_inb : ∀ (d0 : Dev nD) (v8 : BitVec 32) (k0_hw1 : k0_chk1 d0 v8), ∀ (k0_h40 : k0_cond40 d0 v8 = 1#1), ∀ a, (k0_off71 d0 v8) a + S1x8x128.size a ≤ S4096x8x128.size a := fun d0 v8 k0_hw1 k0_h40 => k0_hw1.2.2.1.2.2.2.2.2.2.1 k0_h40
theorem k0_off72_inb : ∀ (d0 : Dev nD) (v8 : BitVec 32) (k0_hw1 : k0_chk1 d0 v8), ∀ (k0_h40 : k0_cond40 d0 v8 = 1#1), ∀ a, (k0_off72 d0 v8) a + S1x8x128.size a ≤ S2560x8x128.size a := fun d0 v8 k0_hw1 k0_h40 => k0_hw1.2.2.1.2.2.2.2.2.2.2.1 k0_h40
theorem k0_off73_inb : ∀ (d0 : Dev nD) (v8 : BitVec 32) (k0_hw1 : k0_chk1 d0 v8), ∀ (k0_h41 : k0_cond41 d0 v8 = 1#1), ∀ a, (k0_off73 d0 v8) a + S256x8x128.size a ≤ S4096x8x128.size a := fun d0 v8 k0_hw1 k0_h41 => k0_hw1.2.2.1.2.2.2.2.2.2.2.2.1 k0_h41
theorem k0_off74_inb : ∀ (d0 : Dev nD) (v8 : BitVec 32) (k0_hw1 : k0_chk1 d0 v8), ∀ (k0_h42 : k0_cond42 d0 v8 = 1#1), ∀ a, (k0_off74 d0 v8) a + S256x8x128.size a ≤ S4096x8x128.size a := fun d0 v8 k0_hw1 k0_h42 => k0_hw1.2.2.1.2.2.2.2.2.2.2.2.2.1 k0_h42
theorem k0_off75_inb : ∀ (d0 : Dev nD) (v8 : BitVec 32) (k0_hw1 : k0_chk1 d0 v8), ∀ (k0_h43 : k0_cond43 d0 v8 = 1#1), ∀ a, (k0_off75 d0 v8) a + S128x8x128.size a ≤ S4096x8x128.size a := fun d0 v8 k0_hw1 k0_h43 => k0_hw1.2.2.1.2.2.2.2.2.2.2.2.2.2.1 k0_h43
theorem k0_off76_inb : ∀ (d0 : Dev nD) (v8 : BitVec 32) (k0_hw1 : k0_chk1 d0 v8), ∀ (k0_h43 : k0_cond43 d0 v8 = 1#1), ∀ a, (k0_off76 d0 v8) a + S128x8x128.size a ≤ S2560x8x128.size a := fun d0 v8 k0_hw1 k0_h43 => k0_hw1.2.2.1.2.2.2.2.2.2.2.2.2.2.2.1 k0_h43
theorem k0_off77_inb : ∀ (d0 : Dev nD) (v8 : BitVec 32) (k0_hw1 : k0_chk1 d0 v8), ∀ (k0_h44 : k0_cond44 d0 v8 = 1#1), ∀ a, (k0_off77 d0 v8) a + S64x8x128.size a ≤ S4096x8x128.size a := fun d0 v8 k0_hw1 k0_h44 => k0_hw1.2.2.1.2.2.2.2.2.2.2.2.2.2.2.2.1 k0_h44
theorem k0_off78_inb : ∀ (d0 : Dev nD) (v8 : BitVec 32) (k0_hw1 : k0_chk1 d0 v8), ∀ (k0_h44 : k0_cond44 d0 v8 = 1#1), ∀ a, (k0_off78 d0 v8) a + S64x8x128.size a ≤ S2560x8x128.size a := fun d0 v8 k0_hw1 k0_h44 => k0_hw1.2.2.1.2.2.2.2.2.2.2.2.2.2.2.2.2.1 k0_h44
theorem k0_off79_inb : ∀ (d0 : Dev nD) (v8 : BitVec 32) (k0_hw1 : k0_chk1 d0 v8), ∀ (k0_h45 : k0_cond45 d0 v8 = 1#1), ∀ a, (k0_off79 d0 v8) a + S32x8x128.size a ≤ S4096x8x128.size a := fun d0 v8 k0_hw1 k0_h45 => k0_hw1.2.2.1.2.2.2.2.2.2.2.2.2.2.2.2.2.2.1 k0_h45
theorem k0_off80_inb : ∀ (d0 : Dev nD) (v8 : BitVec 32) (k0_hw1 : k0_chk1 d0 v8), ∀ (k0_h45 : k0_cond45 d0 v8 = 1#1), ∀ a, (k0_off80 d0 v8) a + S32x8x128.size a ≤ S2560x8x128.size a := fun d0 v8 k0_hw1 k0_h45 => k0_hw1.2.2.1.2.2.2.2.2.2.2.2.2.2.2.2.2.2.2.1 k0_h45
theorem k0_off81_inb : ∀ (d0 : Dev nD) (v8 : BitVec 32) (k0_hw1 : k0_chk1 d0 v8), ∀ (k0_h46 : k0_cond46 d0 v8 = 1#1), ∀ a, (k0_off81 d0 v8) a + S16x8x128.size a ≤ S4096x8x128.size a := fun d0 v8 k0_hw1 k0_h46 => k0_hw1.2.2.1.2.2.2.2.2.2.2.2.2.2.2.2.2.2.2.2.1 k0_h46
theorem k0_off82_inb : ∀ (d0 : Dev nD) (v8 : BitVec 32) (k0_hw1 : k0_chk1 d0 v8), ∀ (k0_h46 : k0_cond46 d0 v8 = 1#1), ∀ a, (k0_off82 d0 v8) a + S16x8x128.size a ≤ S2560x8x128.size a := fun d0 v8 k0_hw1 k0_h46 => k0_hw1.2.2.1.2.2.2.2.2.2.2.2.2.2.2.2.2.2.2.2.2.1 k0_h46
theorem k0_off83_inb : ∀ (d0 : Dev nD) (v8 : BitVec 32) (k0_hw1 : k0_chk1 d0 v8), ∀ (k0_h47 : k0_cond47 d0 v8 = 1#1), ∀ a, (k0_off83 d0 v8) a + S8x8x128.size a ≤ S4096x8x128.size a := fun d0 v8 k0_hw1 k0_h47 => k0_hw1.2.2.1.2.2.2.2.2.2.2.2.2.2.2.2.2.2.2.2.2.2.1 k0_h47
theorem k0_off84_inb : ∀ (d0 : Dev nD) (v8 : BitVec 32) (k0_hw1 : k0_chk1 d0 v8), ∀ (k0_h47 : k0_cond47 d0 v8 = 1#1), ∀ a, (k0_off84 d0 v8) a + S8x8x128.size a ≤ S2560x8x128.size a := fun d0 v8 k0_hw1 k0_h47 => k0_hw1.2.2.1.2.2.2.2.2.2.2.2.2.2.2.2.2.2.2.2.2.2.2.1 k0_h47
theorem k0_off85_inb : ∀ (d0 : Dev nD) (v8 : BitVec 32) (k0_hw1 : k0_chk1 d0 v8), ∀ (k0_h48 : k0_cond48 d0 v8 = 1#1), ∀ a, (k0_off85 d0 v8) a + S4x8x128.size a ≤ S4096x8x128.size a := fun d0 v8 k0_hw1 k0_h48 => k0_hw1.2.2.1.2.2.2.2.2.2.2.2.2.2.2.2.2.2.2.2.2.2.2.2.1 k0_h48
theorem k0_off86_inb : ∀ (d0 : Dev nD) (v8 : BitVec 32) (k0_hw1 : k0_chk1 d0 v8), ∀ (k0_h48 : k0_cond48 d0 v8 = 1#1), ∀ a, (k0_off86 d0 v8) a + S4x8x128.size a ≤ S2560x8x128.size a := fun d0 v8 k0_hw1 k0_h48 => k0_hw1.2.2.1.2.2.2.2.2.2.2.2.2.2.2.2.2.2.2.2.2.2.2.2.2.1 k0_h48
theorem k0_off87_inb : ∀ (d0 : Dev nD) (v8 : BitVec 32) (k0_hw1 : k0_chk1 d0 v8), ∀ (k0_h49 : k0_cond49 d0 v8 = 1#1), ∀ a, (k0_off87 d0 v8) a + S2x8x128.size a ≤ S4096x8x128.size a := fun d0 v8 k0_hw1 k0_h49 => k0_hw1.2.2.1.2.2.2.2.2.2.2.2.2.2.2.2.2.2.2.2.2.2.2.2.2.2.1 k0_h49
theorem k0_off88_inb : ∀ (d0 : Dev nD) (v8 : BitVec 32) (k0_hw1 : k0_chk1 d0 v8), ∀ (k0_h49 : k0_cond49 d0 v8 = 1#1), ∀ a, (k0_off88 d0 v8) a + S2x8x128.size a ≤ S2560x8x128.size a := fun d0 v8 k0_hw1 k0_h49 => k0_hw1.2.2.1.2.2.2.2.2.2.2.2.2.2.2.2.2.2.2.2.2.2.2.2.2.2.2.1 k0_h49
theorem k0_off89_inb : ∀ (d0 : Dev nD) (v8 : BitVec 32) (k0_hw1 : k0_chk1 d0 v8), ∀ (k0_h50 : k0_cond50 d0 v8 = 1#1), ∀ a, (k0_off89 d0 v8) a + S1x8x128.size a ≤ S4096x8x128.size a := fun d0 v8 k0_hw1 k0_h50 => k0_hw1.2.2.1.2.2.2.2.2.2.2.2.2.2.2.2.2.2.2.2.2.2.2.2.2.2.2.2.1 k0_h50
theorem k0_off90_inb : ∀ (d0 : Dev nD) (v8 : BitVec 32) (k0_hw1 : k0_chk1 d0 v8), ∀ (k0_h50 : k0_cond50 d0 v8 = 1#1), ∀ a, (k0_off90 d0 v8) a + S1x8x128.size a ≤ S2560x8x128.size a := fun d0 v8 k0_hw1 k0_h50 => k0_hw1.2.2.1.2.2.2.2.2.2.2.2.2.2.2.2.2.2.2.2.2.2.2.2.2.2.2.2.2.1 k0_h50
theorem k0_off91_inb : ∀ (d0 : Dev nD) (v8 : BitVec 32) (k0_hw1 : k0_chk1 d0 v8), ∀ (k0_h51 : k0_cond51 d0 v8 = 1#1), ∀ a, (k0_off91 d0 v8) a + S256x8x128.size a ≤ S4096x8x128.size a := fun d0 v8 k0_hw1 k0_h51 => k0_hw1.2.2.1.2.2.2.2.2.2.2.2.2.2.2.2.2.2.2.2.2.2.2.2.2.2.2.2.2.2.1 k0_h51
theorem k0_off92_inb : ∀ (d0 : Dev nD) (v8 : BitVec 32) (k0_hw1 : k0_chk1 d0 v8), ∀ (k0_h52 : k0_cond52 d0 v8 = 1#1), ∀ a, (k0_off92 d0 v8) a + S256x8x128.size a ≤ S4096x8x128.size a := fun d0 v8 k0_hw1 k0_h52 => k0_hw1.2.2.1.2.2.2.2.2.2.2.2.2.2.2.2.2.2.2.2.2.2.2.2.2.2.2.2.2.2.2.1 k0_h52
theorem k0_off93_inb : ∀ (d0 : Dev nD) (v8 : BitVec 32) (k0_hw1 : k0_chk1 d0 v8), ∀ (k0_h53 : k0_cond53 d0 v8 = 1#1), ∀ a, (k0_off93 d0 v8) a + S128x8x128.size a ≤ S4096x8x128.size a := fun d0 v8 k0_hw1 k0_h53 => k0_hw1.2.2.1.2.2.2.2.2.2.2.2.2.2.2.2.2.2.2.2.2.2.2.2.2.2.2.2.2.2.2.2.1 k0_h53
theorem k0_off94_inb : ∀ (d0 : Dev nD) (v8 : BitVec 32) (k0_hw1 : k0_chk1 d0 v8), ∀ (k0_h53 : k0_cond53 d0 v8 = 1#1), ∀ a, (k0_off94 d0 v8) a + S128x8x128.size a ≤ S2560x8x128.size a := fun d0 v8 k0_hw1 k0_h53 => k0_hw1.2.2.1.2.2.2.2.2.2.2.2.2.2.2.2.2.2.2.2.2.2.2.2.2.2.2.2.2.2.2.2.2.1 k0_h53
theorem k0_off95_inb : ∀ (d0 : Dev nD) (v8 : BitVec 32) (k0_hw1 : k0_chk1 d0 v8), ∀ (k0_h54 : k0_cond54 d0 v8 = 1#1), ∀ a, (k0_off95 d0 v8) a + S64x8x128.size a ≤ S4096x8x128.size a := fun d0 v8 k0_hw1 k0_h54 => k0_hw1.2.2.1.2.2.2.2.2.2.2.2.2.2.2.2.2.2.2.2.2.2.2.2.2.2.2.2.2.2.2.2.2.2.1 k0_h54
theorem k0_off96_inb : ∀ (d0 : Dev nD) (v8 : BitVec 32) (k0_hw1 : k0_chk1 d0 v8), ∀ (k0_h54 : k0_cond54 d0 v8 = 1#1), ∀ a, (k0_off96 d0 v8) a + S64x8x128.size a ≤ S2560x8x128.size a := fun d0 v8 k0_hw1 k0_h54 => k0_hw1.2.2.1.2.2.2.2.2.2.2.2.2.2.2.2.2.2.2.2.2.2.2.2.2.2.2.2.2.2.2.2.2.2.2 k0_h54
theorem k0_off97_inb : ∀ (d0 : Dev nD) (v8 : BitVec 32) (k0_hw1 : k0_chk1 d0 v8), ∀ (k0_h55 : k0_cond55 d0 v8 = 1#1), ∀ a, (k0_off97 d0 v8) a + S32x8x128.size a ≤ S4096x8x128.size a := fun d0 v8 k0_hw1 k0_h55 => k0_hw1.2.2.2.1.1 k0_h55
theorem k0_off98_inb : ∀ (d0 : Dev nD) (v8 : BitVec 32) (k0_hw1 : k0_chk1 d0 v8), ∀ (k0_h55 : k0_cond55 d0 v8 = 1#1), ∀ a, (k0_off98 d0 v8) a + S32x8x128.size a ≤ S2560x8x128.size a := fun d0 v8 k0_hw1 k0_h55 => k0_hw1.2.2.2.1.2.1 k0_h55
theorem k0_off99_inb : ∀ (d0 : Dev nD) (v8 : BitVec 32) (k0_hw1 : k0_chk1 d0 v8), ∀ (k0_h56 : k0_cond56 d0 v8 = 1#1), ∀ a, (k0_off99 d0 v8) a + S16x8x128.size a ≤ S4096x8x128.size a := fun d0 v8 k0_hw1 k0_h56 => k0_hw1.2.2.2.1.2.2.1 k0_h56
theorem k0_off100_inb : ∀ (d0 : Dev nD) (v8 : BitVec 32) (k0_hw1 : k0_chk1 d0 v8), ∀ (k0_h56 : k0_cond56 d0 v8 = 1#1), ∀ a, (k0_off100 d0 v8) a + S16x8x128.size a ≤ S2560x8x128.size a := fun d0 v8 k0_hw1 k0_h56 => k0_hw1.2.2.2.1.2.2.2.1 k0_h56
theorem k0_off101_inb : ∀ (d0 : Dev nD) (v8 : BitVec 32) (k0_hw1 : k0_chk1 d0 v8), ∀ (k0_h57 : k0_cond57 d0 v8 = 1#1), ∀ a, (k0_off101 d0 v8) a + S8x8x128.size a ≤ S4096x8x128.size a := fun d0 v8 k0_hw1 k0_h57 => k0_hw1.2.2.2.1.2.2.2.2.1 k0_h57
theorem k0_off102_inb : ∀ (d0 : Dev nD) (v8 : BitVec 32) (k0_hw1 : k0_chk1 d0 v8), ∀ (k0_h57 : k0_cond57 d0 v8 = 1#1), ∀ a, (k0_off102 d0 v8) a + S8x8x128.size a ≤ S2560x8x128.size a := fun d0 v8 k0_hw1 k0_h57 => k0_hw1.2.2.2.1.2.2.2.2.2.1 k0_h57
theorem k0_off103_inb : ∀ (d0 : Dev nD) (v8 : BitVec 32) (k0_hw1 : k0_chk1 d0 v8), ∀ (k0_h58 : k0_cond58 d0 v8 = 1#1), ∀ a, (k0_off103 d0 v8) a + S4x8x128.size a ≤ S4096x8x128.size a := fun d0 v8 k0_hw1 k0_h58 => k0_hw1.2.2.2.1.2.2.2.2.2.2.1 k0_h58
theorem k0_off104_inb : ∀ (d0 : Dev nD) (v8 : BitVec 32) (k0_hw1 : k0_chk1 d0 v8), ∀ (k0_h58 : k0_cond58 d0 v8 = 1#1), ∀ a, (k0_off104 d0 v8) a + S4x8x128.size a ≤ S2560x8x128.size a := fun d0 v8 k0_hw1 k0_h58 => k0_hw1.2.2.2.1.2.2.2.2.2.2.2.1 k0_h58
theorem k0_off105_inb : ∀ (d0 : Dev nD) (v8 : BitVec 32) (k0_hw1 : k0_chk1 d0 v8), ∀ (k0_h59 : k0_cond59 d0 v8 = 1#1), ∀ a, (k0_off105 d0 v8) a + S2x8x128.size a ≤ S4096x8x128.size a := fun d0 v8 k0_hw1 k0_h59 => k0_hw1.2.2.2.1.2.2.2.2.2.2.2.2.1 k0_h59
theorem k0_off106_inb : ∀ (d0 : Dev nD) (v8 : BitVec 32) (k0_hw1 : k0_chk1 d0 v8), ∀ (k0_h59 : k0_cond59 d0 v8 = 1#1), ∀ a, (k0_off106 d0 v8) a + S2x8x128.size a ≤ S2560x8x128.size a := fun d0 v8 k0_hw1 k0_h59 => k0_hw1.2.2.2.1.2.2.2.2.2.2.2.2.2.1 k0_h59
theorem k0_off107_inb : ∀ (d0 : Dev nD) (v8 : BitVec 32) (k0_hw1 : k0_chk1 d0 v8), ∀ (k0_h60 : k0_cond60 d0 v8 = 1#1), ∀ a, (k0_off107 d0 v8) a + S1x8x128.size a ≤ S4096x8x128.size a := fun d0 v8 k0_hw1 k0_h60 => k0_hw1.2.2.2.1.2.2.2.2.2.2.2.2.2.2.1 k0_h60
theorem k0_off108_inb : ∀ (d0 : Dev nD) (v8 : BitVec 32) (k0_hw1 : k0_chk1 d0 v8), ∀ (k0_h60 : k0_cond60 d0 v8 = 1#1), ∀ a, (k0_off108 d0 v8) a + S1x8x128.size a ≤ S2560x8x128.size a := fun d0 v8 k0_hw1 k0_h60 => k0_hw1.2.2.2.1.2.2.2.2.2.2.2.2.2.2.2.1 k0_h60
theorem k0_off109_inb : ∀ (d0 : Dev nD) (v8 : BitVec 32) (k0_hw1 : k0_chk1 d0 v8), ∀ (k0_h61 : k0_cond61 d0 v8 = 1#1), ∀ a, (k0_off109 d0 v8) a + S256x8x128.size a ≤ S4096x8x128.size a := fun d0 v8 k0_hw1 k0_h61 => k0_hw1.2.2.2.1.2.2.2.2.2.2.2.2.2.2.2.2.1 k0_h61
theorem k0_off110_inb : ∀ (d0 : Dev nD) (v8 : BitVec 32) (k0_hw1 : k0_chk1 d0 v8), ∀ (k0_h62 : k0_cond62 d0 v8 = 1#1), ∀ a, (k0_off110 d0 v8) a + S256x8x128.size a ≤ S4096x8x128.size a := fun d0 v8 k0_hw1 k0_h62 => k0_hw1.2.2.2.1.2.2.2.2.2.2.2.2.2.2.2.2.2.1 k0_h62
theorem k0_off111_inb : ∀ (d0 : Dev nD) (v8 : BitVec 32) (k0_hw1 : k0_chk1 d0 v8), ∀ (k0_h63 : k0_cond63 d0 v8 = 1#1), ∀ a, (k0_off111 d0 v8) a + S128x8x128.size a ≤ S4096x8x128.size a := fun d0 v8 k0_hw1 k0_h63 => k0_hw1.2.2.2.1.2.2.2.2.2.2.2.2.2.2.2.2.2.2.1 k0_h63
theorem k0_off112_inb : ∀ (d0 : Dev nD) (v8 : BitVec 32) (k0_hw1 : k0_chk1 d0 v8), ∀ (k0_h63 : k0_cond63 d0 v8 = 1#1), ∀ a, (k0_off112 d0 v8) a + S128x8x128.size a ≤ S2560x8x128.size a := fun d0 v8 k0_hw1 k0_h63 => k0_hw1.2.2.2.1.2.2.2.2.2.2.2.2.2.2.2.2.2.2.2.1 k0_h63
theorem k0_off113_inb : ∀ (d0 : Dev nD) (v8 : BitVec 32) (k0_hw1 : k0_chk1 d0 v8), ∀ (k0_h64 : k0_cond64 d0 v8 = 1#1), ∀ a, (k0_off113 d0 v8) a + S64x8x128.size a ≤ S4096x8x128.size a := fun d0 v8 k0_hw1 k0_h64 => k0_hw1.2.2.2.1.2.2.2.2.2.2.2.2.2.2.2.2.2.2.2.2.1 k0_h64
theorem k0_off114_inb : ∀ (d0 : Dev nD) (v8 : BitVec 32) (k0_hw1 : k0_chk1 d0 v8), ∀ (k0_h64 : k0_cond64 d0 v8 = 1#1), ∀ a, (k0_off114 d0 v8) a + S64x8x128.size a ≤ S2560x8x128.size a := fun d0 v8 k0_hw1 k0_h64 => k0_hw1.2.2.2.1.2.2.2.2.2.2.2.2.2.2.2.2.2.2.2.2.2.1 k0_h64
theorem k0_off115_inb : ∀ (d0 : Dev nD) (v8 : BitVec 32) (k0_hw1 : k0_chk1 d0 v8), ∀ (k0_h65 : k0_cond65 d0 v8 = 1#1), ∀ a, (k0_off115 d0 v8) a + S32x8x128.size a ≤ S4096x8x128.size a := fun d0 v8 k0_hw1 k0_h65 => k0_hw1.2.2.2.1.2.2.2.2.2.2.2.2.2.2.2.2.2.2.2.2.2.2.1 k0_h65
theorem k0_off116_inb : ∀ (d0 : Dev nD) (v8 : BitVec 32) (k0_hw1 : k0_chk1 d0 v8), ∀ (k0_h65 : k0_cond65 d0 v8 = 1#1), ∀ a, (k0_off116 d0 v8) a + S32x8x128.size a ≤ S2560x8x128.size a := fun d0 v8 k0_hw1 k0_h65 => k0_hw1.2.2.2.1.2.2.2.2.2.2.2.2.2.2.2.2.2.2.2.2.2.2.2.1 k0_h65
theorem k0_off117_inb : ∀ (d0 : Dev nD) (v8 : BitVec 32) (k0_hw1 : k0_chk1 d0 v8), ∀ (k0_h66 : k0_cond66 d0 v8 = 1#1), ∀ a, (k0_off117 d0 v8) a + S16x8x128.size a ≤ S4096x8x128.size a := fun d0 v8 k0_hw1 k0_h66 => k0_hw1.2.2.2.1.2.2.2.2.2.2.2.2.2.2.2.2.2.2.2.2.2.2.2.2.1 k0_h66
theorem k0_off118_inb : ∀ (d0 : Dev nD) (v8 : BitVec 32) (k0_hw1 : k0_chk1 d0 v8), ∀ (k0_h66 : k0_cond66 d0 v8 = 1#1), ∀ a, (k0_off118 d0 v8) a + S16x8x128.size a ≤ S2560x8x128.size a := fun d0 v8 k0_hw1 k0_h66 => k0_hw1.2.2.2.1.2.2.2.2.2.2.2.2.2.2.2.2.2.2.2.2.2.2.2.2.2.1 k0_h66
theorem k0_off119_inb : ∀ (d0 : Dev nD) (v8 : BitVec 32) (k0_hw1 : k0_chk1 d0 v8), ∀ (k0_h67 : k0_cond67 d0 v8 = 1#1), ∀ a, (k0_off119 d0 v8) a + S8x8x128.size a ≤ S4096x8x128.size a := fun d0 v8 k0_hw1 k0_h67 => k0_hw1.2.2.2.1.2.2.2.2.2.2.2.2.2.2.2.2.2.2.2.2.2.2.2.2.2.2.1 k0_h67
theorem k0_off120_inb : ∀ (d0 : Dev nD) (v8 : BitVec 32) (k0_hw1 : k0_chk1 d0 v8), ∀ (k0_h67 : k0_cond67 d0 v8 = 1#1), ∀ a, (k0_off120 d0 v8) a + S8x8x128.size a ≤ S2560x8x128.size a := fun d0 v8 k0_hw1 k0_h67 => k0_hw1.2.2.2.1.2.2.2.2.2.2.2.2.2.2.2.2.2.2.2.2.2.2.2.2.2.2.2.1 k0_h67
theorem k0_off121_inb : ∀ (d0 : Dev nD) (v8 : BitVec 32) (k0_hw1 : k0_chk1 d0 v8), ∀ (k0_h68 : k0_cond68 d0 v8 = 1#1), ∀ a, (k0_off121 d0 v8) a + S4x8x128.size a ≤ S4096x8x128.size a := fun d0 v8 k0_hw1 k0_h68 => k0_hw1.2.2.2.1.2.2.2.2.2.2.2.2.2.2.2.2.2.2.2.2.2.2.2.2.2.2.2.2.1 k0_h68
theorem k0_off122_inb : ∀ (d0 : Dev nD) (v8 : BitVec 32) (k0_hw1 : k0_chk1 d0 v8), ∀ (k0_h68 : k0_cond68 d0 v8 = 1#1), ∀ a, (k0_off122 d0 v8) a + S4x8x128.size a ≤ S2560x8x128.size a := fun d0 v8 k0_hw1 k0_h68 => k0_hw1.2.2.2.1.2.2.2.2.2.2.2.2.2.2.2.2.2.2.2.2.2.2.2.2.2.2.2.2.2.1 k0_h68
theorem k0_off123_inb : ∀ (d0 : Dev nD) (v8 : BitVec 32) (k0_hw1 : k0_chk1 d0 v8), ∀ (k0_h69 : k0_cond69 d0 v8 = 1#1), ∀ a, (k0_off123 d0 v8) a + S2x8x128.size a ≤ S4096x8x128.size a := fun d0 v8 k0_hw1 k0_h69 => k0_hw1.2.2.2.1.2.2.2.2.2.2.2.2.2.2.2.2.2.2.2.2.2.2.2.2.2.2.2.2.2.2.1 k0_h69
theorem k0_off124_inb : ∀ (d0 : Dev nD) (v8 : BitVec 32) (k0_hw1 : k0_chk1 d0 v8), ∀ (k0_h69 : k0_cond69 d0 v8 = 1#1), ∀ a, (k0_off124 d0 v8) a + S2x8x128.size a ≤ S2560x8x128.size a := fun d0 v8 k0_hw1 k0_h69 => k0_hw1.2.2.2.1.2.2.2.2.2.2.2.2.2.2.2.2.2.2.2.2.2.2.2.2.2.2.2.2.2.2.2.1 k0_h69
theorem k0_off125_inb : ∀ (d0 : Dev nD) (v8 : BitVec 32) (k0_hw1 : k0_chk1 d0 v8), ∀ (k0_h70 : k0_cond70 d0 v8 = 1#1), ∀ a, (k0_off125 d0 v8) a + S1x8x128.size a ≤ S4096x8x128.size a := fun d0 v8 k0_hw1 k0_h70 => k0_hw1.2.2.2.1.2.2.2.2.2.2.2.2.2.2.2.2.2.2.2.2.2.2.2.2.2.2.2.2.2.2.2.2.1 k0_h70
theorem k0_off126_inb : ∀ (d0 : Dev nD) (v8 : BitVec 32) (k0_hw1 : k0_chk1 d0 v8), ∀ (k0_h70 : k0_cond70 d0 v8 = 1#1), ∀ a, (k0_off126 d0 v8) a + S1x8x128.size a ≤ S2560x8x128.size a := fun d0 v8 k0_hw1 k0_h70 => k0_hw1.2.2.2.1.2.2.2.2.2.2.2.2.2.2.2.2.2.2.2.2.2.2.2.2.2.2.2.2.2.2.2.2.2.1 k0_h70
theorem k0_off127_inb : ∀ (d0 : Dev nD) (v8 : BitVec 32) (k0_hw1 : k0_chk1 d0 v8), ∀ (k0_h71 : k0_cond71 d0 v8 = 1#1), ∀ a, (k0_off127 d0 v8) a + S256x8x128.size a ≤ S4096x8x128.size a := fun d0 v8 k0_hw1 k0_h71 => k0_hw1.2.2.2.1.2.2.2.2.2.2.2.2.2.2.2.2.2.2.2.2.2.2.2.2.2.2.2.2.2.2.2.2.2.2.1 k0_h71
theorem k0_off128_inb : ∀ (d0 : Dev nD) (v8 : BitVec 32) (k0_hw1 : k0_chk1 d0 v8), ∀ (k0_h72 : k0_cond72 d0 v8 = 1#1), ∀ a, (k0_off128 d0 v8) a + S256x8x128.size a ≤ S4096x8x128.size a := fun d0 v8 k0_hw1 k0_h72 => k0_hw1.2.2.2.1.2.2.2.2.2.2.2.2.2.2.2.2.2.2.2.2.2.2.2.2.2.2.2.2.2.2.2.2.2.2.2 k0_h72
theorem k0_off129_inb : ∀ (d0 : Dev nD) (v8 : BitVec 32) (k0_hw1 : k0_chk1 d0 v8), ∀ (k0_h73 : k0_cond73 d0 v8 = 1#1), ∀ a, (k0_off129 d0 v8) a + S128x8x128.size a ≤ S4096x8x128.size a := fun d0 v8 k0_hw1 k0_h73 => k0_hw1.2.2.2.2.1.1 k0_h73
theorem k0_off130_inb : ∀ (d0 : Dev nD) (v8 : BitVec 32) (k0_hw1 : k0_chk1 d0 v8), ∀ (k0_h73 : k0_cond73 d0 v8 = 1#1), ∀ a, (k0_off130 d0 v8) a + S128x8x128.size a ≤ S2560x8x128.size a := fun d0 v8 k0_hw1 k0_h73 => k0_hw1.2.2.2.2.1.2.1 k0_h73
theorem k0_off131_inb : ∀ (d0 : Dev nD) (v8 : BitVec 32) (k0_hw1 : k0_chk1 d0 v8), ∀ (k0_h74 : k0_cond74 d0 v8 = 1#1), ∀ a, (k0_off131 d0 v8) a + S64x8x128.size a ≤ S4096x8x128.size a := fun d0 v8 k0_hw1 k0_h74 => k0_hw1.2.2.2.2.1.2.2.1 k0_h74
theorem k0_off132_inb : ∀ (d0 : Dev nD) (v8 : BitVec 32) (k0_hw1 : k0_chk1 d0 v8), ∀ (k0_h74 : k0_cond74 d0 v8 = 1#1), ∀ a, (k0_off132 d0 v8) a + S64x8x128.size a ≤ S2560x8x128.size a := fun d0 v8 k0_hw1 k0_h74 => k0_hw1.2.2.2.2.1.2.2.2.1 k0_h74
theorem k0_off133_inb : ∀ (d0 : Dev nD) (v8 : BitVec 32) (k0_hw1 : k0_chk1 d0 v8), ∀ (k0_h75 : k0_cond75 d0 v8 = 1#1), ∀ a, (k0_off133 d0 v8) a + S32x8x128.size a ≤ S4096x8x128.size a := fun d0 v8 k0_hw1 k0_h75 => k0_hw1.2.2.2.2.1.2.2.2.2.1 k0_h75
theorem k0_off134_inb : ∀ (d0 : Dev nD) (v8 : BitVec 32) (k0_hw1 : k0_chk1 d0 v8), ∀ (k0_h75 : k0_cond75 d0 v8 = 1#1), ∀ a, (k0_off134 d0 v8) a + S32x8x128.size a ≤ S2560x8x128.size a := fun d0 v8 k0_hw1 k0_h75 => k0_hw1.2.2.2.2.1.2.2.2.2.2.1 k0_h75
theorem k0_off135_inb : ∀ (d0 : Dev nD) (v8 : BitVec 32) (k0_hw1 : k0_chk1 d0 v8), ∀ (k0_h76 : k0_cond76 d0 v8 = 1#1), ∀ a, (k0_off135 d0 v8) a + S16x8x128.size a ≤ S4096x8x128.size a := fun d0 v8 k0_hw1 k0_h76 => k0_hw1.2.2.2.2.1.2.2.2.2.2.2.1 k0_h76
theorem k0_off136_inb : ∀ (d0 : Dev nD) (v8 : BitVec 32) (k0_hw1 : k0_chk1 d0 v8), ∀ (k0_h76 : k0_cond76 d0 v8 = 1#1), ∀ a, (k0_off136 d0 v8) a + S16x8x128.size a ≤ S2560x8x128.size a := fun d0 v8 k0_hw1 k0_h76 => k0_hw1.2.2.2.2.1.2.2.2.2.2.2.2.1 k0_h76
theorem k0_off137_inb : ∀ (d0 : Dev nD) (v8 : BitVec 32) (k0_hw1 : k0_chk1 d0 v8), ∀ (k0_h77 : k0_cond77 d0 v8 = 1#1), ∀ a, (k0_off137 d0 v8) a + S8x8x128.size a ≤ S4096x8x128.size a := fun d0 v8 k0_hw1 k0_h77 => k0_hw1.2.2.2.2.1.2.2.2.2.2.2.2.2.1 k0_h77
theorem k0_off138_inb : ∀ (d0 : Dev nD) (v8 : BitVec 32) (k0_hw1 : k0_chk1 d0 v8), ∀ (k0_h77 : k0_cond77 d0 v8 = 1#1), ∀ a, (k0_off138 d0 v8) a + S8x8x128.size a ≤ S2560x8x128.size a := fun d0 v8 k0_hw1 k0_h77 => k0_hw1.2.2.2.2.1.2.2.2.2.2.2.2.2.2.1 k0_h77
theorem k0_off139_inb : ∀ (d0 : Dev nD) (v8 : BitVec 32) (k0_hw1 : k0_chk1 d0 v8), ∀ (k0_h78 : k0_cond78 d0 v8 = 1#1), ∀ a, (k0_off139 d0 v8) a + S4x8x128.size a ≤ S4096x8x128.size a := fun d0 v8 k0_hw1 k0_h78 => k0_hw1.2.2.2.2.1.2.2.2.2.2.2.2.2.2.2.1 k0_h78
theorem k0_off140_inb : ∀ (d0 : Dev nD) (v8 : BitVec 32) (k0_hw1 : k0_chk1 d0 v8), ∀ (k0_h78 : k0_cond78 d0 v8 = 1#1), ∀ a, (k0_off140 d0 v8) a + S4x8x128.size a ≤ S2560x8x128.size a := fun d0 v8 k0_hw1 k0_h78 => k0_hw1.2.2.2.2.1.2.2.2.2.2.2.2.2.2.2.2.1 k0_h78
theorem k0_off141_inb : ∀ (d0 : Dev nD) (v8 : BitVec 32) (k0_hw1 : k0_chk1 d0 v8), ∀ (k0_h79 : k0_cond79 d0 v8 = 1#1), ∀ a, (k0_off141 d0 v8) a + S2x8x128.size a ≤ S4096x8x128.size a := fun d0 v8 k0_hw1 k0_h79 => k0_hw1.2.2.2.2.1.2.2.2.2.2.2.2.2.2.2.2.2.1 k0_h79
theorem k0_off142_inb : ∀ (d0 : Dev nD) (v8 : BitVec 32) (k0_hw1 : k0_chk1 d0 v8), ∀ (k0_h79 : k0_cond79 d0 v8 = 1#1), ∀ a, (k0_off142 d0 v8) a + S2x8x128.size a ≤ S2560x8x128.size a := fun d0 v8 k0_hw1 k0_h79 => k0_hw1.2.2.2.2.1.2.2.2.2.2.2.2.2.2.2.2.2.2.1 k0_h79
theorem k0_off143_inb : ∀ (d0 : Dev nD) (v8 : BitVec 32) (k0_hw1 : k0_chk1 d0 v8), ∀ (k0_h80 : k0_cond80 d0 v8 = 1#1), ∀ a, (k0_off143 d0 v8) a + S1x8x128.size a ≤ S4096x8x128.size a := fun d0 v8 k0_hw1 k0_h80 => k0_hw1.2.2.2.2.1.2.2.2.2.2.2.2.2.2.2.2.2.2.2.1 k0_h80
theorem k0_off144_inb : ∀ (d0 : Dev nD) (v8 : BitVec 32) (k0_hw1 : k0_chk1 d0 v8), ∀ (k0_h80 : k0_cond80 d0 v8 = 1#1), ∀ a, (k0_off144 d0 v8) a + S1x8x128.size a ≤ S2560x8x128.size a := fun d0 v8 k0_hw1 k0_h80 => k0_hw1.2.2.2.2.1.2.2.2.2.2.2.2.2.2.2.2.2.2.2.2.1 k0_h80
theorem k0_off145_inb : ∀ (d0 : Dev nD) (v8 : BitVec 32) (k0_hw1 : k0_chk1 d0 v8), ∀ (k0_h81 : k0_cond81 d0 v8 = 1#1), ∀ a, (k0_off145 d0 v8) a + S256x8x128.size a ≤ S4096x8x128.size a := fun d0 v8 k0_hw1 k0_h81 => k0_hw1.2.2.2.2.1.2.2.2.2.2.2.2.2.2.2.2.2.2.2.2.2.1 k0_h81
theorem k0_off146_inb : ∀ (d0 : Dev nD) (v8 : BitVec 32) (k0_hw1 : k0_chk1 d0 v8), ∀ (k0_h82 : k0_cond82 d0 v8 = 1#1), ∀ a, (k0_off146 d0 v8) a + S256x8x128.size a ≤ S4096x8x128.size a := fun d0 v8 k0_hw1 k0_h82 => k0_hw1.2.2.2.2.1.2.2.2.2.2.2.2.2.2.2.2.2.2.2.2.2.2.1 k0_h82
theorem k0_off147_inb : ∀ (d0 : Dev nD) (v8 : BitVec 32) (k0_hw1 : k0_chk1 d0 v8), ∀ (k0_h83 : k0_cond83 d0 v8 = 1#1), ∀ a, (k0_off147 d0 v8) a + S128x8x128.size a ≤ S4096x8x128.size a := fun d0 v8 k0_hw1 k0_h83 => k0_hw1.2.2.2.2.1.2.2.2.2.2.2.2.2.2.2.2.2.2.2.2.2.2.2.1 k0_h83
theorem k0_off148_inb : ∀ (d0 : Dev nD) (v8 : BitVec 32) (k0_hw1 : k0_chk1 d0 v8), ∀ (k0_h83 : k0_cond83 d0 v8 = 1#1), ∀ a, (k0_off148 d0 v8) a + S128x8x128.size a ≤ S2560x8x128.size a := fun d0 v8 k0_hw1 k0_h83 => k0_hw1.2.2.2.2.1.2.2.2.2.2.2.2.2.2.2.2.2.2.2.2.2.2.2.2.1 k0_h83
theorem k0_off149_inb : ∀ (d0 : Dev nD) (v8 : BitVec 32) (k0_hw1 : k0_chk1 d0 v8), ∀ (k0_h84 : k0_cond84 d0 v8 = 1#1), ∀ a, (k0_off149 d0 v8) a + S64x8x128.size a ≤ S4096x8x128.size a := fun d0 v8 k0_hw1 k0_h84 => k0_hw1.2.2.2.2.1.2.2.2.2.2.2.2.2.2.2.2.2.2.2.2.2.2.2.2.2.1 k0_h84
theorem k0_off150_inb : ∀ (d0 : Dev nD) (v8 : BitVec 32) (k0_hw1 : k0_chk1 d0 v8), ∀ (k0_h84 : k0_cond84 d0 v8 = 1#1), ∀ a, (k0_off150 d0 v8) a + S64x8x128.size a ≤ S2560x8x128.size a := fun d0 v8 k0_hw1 k0_h84 => k0_hw1.2.2.2.2.1.2.2.2.2.2.2.2.2.2.2.2.2.2.2.2.2.2.2.2.2.2.1 k0_h84
theorem k0_off151_inb : ∀ (d0 : Dev nD) (v8 : BitVec 32) (k0_hw1 : k0_chk1 d0 v8), ∀ (k0_h85 : k0_cond85 d0 v8 = 1#1), ∀ a, (k0_off151 d0 v8) a + S32x8x128.size a ≤ S4096x8x128.size a := fun d0 v8 k0_hw1 k0_h85 => k0_hw1.2.2.2.2.1.2.2.2.2.2.2.2.2.2.2.2.2.2.2.2.2.2.2.2.2.2.2.1 k0_h85
theorem k0_off152_inb : ∀ (d0 : Dev nD) (v8 : BitVec 32) (k0_hw1 : k0_chk1 d0 v8), ∀ (k0_h85 : k0_cond85 d0 v8 = 1#1), ∀ a, (k0_off152 d0 v8) a + S32x8x128.size a ≤ S2560x8x128.size a := fun d0 v8 k0_hw1 k0_h85 => k0_hw1.2.2.2.2.1.2.2.2.2.2.2.2.2.2.2.2.2.2.2.2.2.2.2.2.2.2.2.2.1 k0_h85
theorem k0_off153_inb : ∀ (d0 : Dev nD) (v8 : BitVec 32) (k0_hw1 : k0_chk1 d0 v8), ∀ (k0_h86 : k0_cond86 d0 v8 = 1#1), ∀ a, (k0_off153 d0 v8) a + S16x8x128.size a ≤ S4096x8x128.size a := fun d0 v8 k0_hw1 k0_h86 => k0_hw1.2.2.2.2.1.2.2.2.2.2.2.2.2.2.2.2.2.2.2.2.2.2.2.2.2.2.2.2.2.1 k0_h86
theorem k0_off154_inb : ∀ (d0 : Dev nD) (v8 : BitVec 32) (k0_hw1 : k0_chk1 d0 v8), ∀ (k0_h86 : k0_cond86 d0 v8 = 1#1), ∀ a, (k0_off154 d0 v8) a + S16x8x128.size a ≤ S2560x8x128.size a := fun d0 v8 k0_hw1 k0_h86 => k0_hw1.2.2.2.2.1.2.2.2.2.2.2.2.2.2.2.2.2.2.2.2.2.2.2.2.2.2.2.2.2.2.1 k0_h86
theorem k0_off155_inb : ∀ (d0 : Dev nD) (v8 : BitVec 32) (k0_hw1 : k0_chk1 d0 v8), ∀ (k0_h87 : k0_cond87 d0 v8 = 1#1), ∀ a, (k0_off155 d0 v8) a + S8x8x128.size a ≤ S4096x8x128.size a := fun d0 v8 k0_hw1 k0_h87 => k0_hw1.2.2.2.2.1.2.2.2.2.2.2.2.2.2.2.2.2.2.2.2.2.2.2.2.2.2.2.2.2.2.2.1 k0_h87
theorem k0_off156_inb : ∀ (d0 : Dev nD) (v8 : BitVec 32) (k0_hw1 : k0_chk1 d0 v8), ∀ (k0_h87 : k0_cond87 d0 v8 = 1#1), ∀ a, (k0_off156 d0 v8) a + S8x8x128.size a ≤ S2560x8x128.size a := fun d0 v8 k0_hw1 k0_h87 => k0_hw1.2.2.2.2.1.2.2.2.2.2.2.2.2.2.2.2.2.2.2.2.2.2.2.2.2.2.2.2.2.2.2.2.1 k0_h87
theorem k0_off157_inb : ∀ (d0 : Dev nD) (v8 : BitVec 32) (k0_hw1 : k0_chk1 d0 v8), ∀ (k0_h88 : k0_cond88 d0 v8 = 1#1), ∀ a, (k0_off157 d0 v8) a + S4x8x128.size a ≤ S4096x8x128.size a := fun d0 v8 k0_hw1 k0_h88 => k0_hw1.2.2.2.2.1.2.2.2.2.2.2.2.2.2.2.2.2.2.2.2.2.2.2.2.2.2.2.2.2.2.2.2.2.1 k0_h88
theorem k0_off158_inb : ∀ (d0 : Dev nD) (v8 : BitVec 32) (k0_hw1 : k0_chk1 d0 v8), ∀ (k0_h88 : k0_cond88 d0 v8 = 1#1), ∀ a, (k0_off158 d0 v8) a + S4x8x128.size a ≤ S2560x8x128.size a := fun d0 v8 k0_hw1 k0_h88 => k0_hw1.2.2.2.2.1.2.2.2.2.2.2.2.2.2.2.2.2.2.2.2.2.2.2.2.2.2.2.2.2.2.2.2.2.2.1 k0_h88
theorem k0_off159_inb : ∀ (d0 : Dev nD) (v8 : BitVec 32) (k0_hw1 : k0_chk1 d0 v8), ∀ (k0_h89 : k0_cond89 d0 v8 = 1#1), ∀ a, (k0_off159 d0 v8) a + S2x8x128.size a ≤ S4096x8x128.size a := fun d0 v8 k0_hw1 k0_h89 => k0_hw1.2.2.2.2.1.2.2.2.2.2.2.2.2.2.2.2.2.2.2.2.2.2.2.2.2.2.2.2.2.2.2.2.2.2.2.1 k0_h89
theorem k0_off160_inb : ∀ (d0 : Dev nD) (v8 : BitVec 32) (k0_hw1 : k0_chk1 d0 v8), ∀ (k0_h89 : k0_cond89 d0 v8 = 1#1), ∀ a, (k0_off160 d0 v8) a + S2x8x128.size a ≤ S2560x8x128.size a := fun d0 v8 k0_hw1 k0_h89 => k0_hw1.2.2.2.2.1.2.2.2.2.2.2.2.2.2.2.2.2.2.2.2.2.2.2.2.2.2.2.2.2.2.2.2.2.2.2.2 k0_h89
theorem k0_off161_inb : ∀ (d0 : Dev nD) (v8 : BitVec 32) (k0_hw1 : k0_chk1 d0 v8), ∀ (k0_h90 : k0_cond90 d0 v8 = 1#1), ∀ a, (k0_off161 d0 v8) a + S1x8x128.size a ≤ S4096x8x128.size a := fun d0 v8 k0_hw1 k0_h90 => k0_hw1.2.2.2.2.2.1.1 k0_h90
theorem k0_off162_inb : ∀ (d0 : Dev nD) (v8 : BitVec 32) (k0_hw1 : k0_chk1 d0 v8), ∀ (k0_h90 : k0_cond90 d0 v8 = 1#1), ∀ a, (k0_off162 d0 v8) a + S1x8x128.size a ≤ S2560x8x128.size a := fun d0 v8 k0_hw1 k0_h90 => k0_hw1.2.2.2.2.2.1.2.1 k0_h90
theorem k0_off163_inb : ∀ (d0 : Dev nD) (v8 : BitVec 32) (k0_hw1 : k0_chk1 d0 v8), ∀ (k0_h91 : k0_cond91 d0 v8 = 1#1), ∀ a, (k0_off163 d0 v8) a + S256x8x128.size a ≤ S4096x8x128.size a := fun d0 v8 k0_hw1 k0_h91 => k0_hw1.2.2.2.2.2.1.2.2.1 k0_h91
theorem k0_off164_inb : ∀ (d0 : Dev nD) (v8 : BitVec 32) (k0_hw1 : k0_chk1 d0 v8), ∀ (k0_h92 : k0_cond92 d0 v8 = 1#1), ∀ a, (k0_off164 d0 v8) a + S256x8x128.size a ≤ S4096x8x128.size a := fun d0 v8 k0_hw1 k0_h92 => k0_hw1.2.2.2.2.2.1.2.2.2.1 k0_h92
theorem k0_off165_inb : ∀ (d0 : Dev nD) (v8 : BitVec 32) (k0_hw1 : k0_chk1 d0 v8), ∀ (k0_h93 : k0_cond93 d0 v8 = 1#1), ∀ a, (k0_off165 d0 v8) a + S128x8x128.size a ≤ S4096x8x128.size a := fun d0 v8 k0_hw1 k0_h93 => k0_hw1.2.2.2.2.2.1.2.2.2.2.1 k0_h93
theorem k0_off166_inb : ∀ (d0 : Dev nD) (v8 : BitVec 32) (k0_hw1 : k0_chk1 d0 v8), ∀ (k0_h93 : k0_cond93 d0 v8 = 1#1), ∀ a, (k0_off166 d0 v8) a + S128x8x128.size a ≤ S2560x8x128.size a := fun d0 v8 k0_hw1 k0_h93 => k0_hw1.2.2.2.2.2.1.2.2.2.2.2.1 k0_h93
theorem k0_off167_inb : ∀ (d0 : Dev nD) (v8 : BitVec 32) (k0_hw1 : k0_chk1 d0 v8), ∀ (k0_h94 : k0_cond94 d0 v8 = 1#1), ∀ a, (k0_off167 d0 v8) a + S64x8x128.size a ≤ S4096x8x128.size a := fun d0 v8 k0_hw1 k0_h94 => k0_hw1.2.2.2.2.2.1.2.2.2.2.2.2.1 k0_h94
theorem k0_off168_inb : ∀ (d0 : Dev nD) (v8 : BitVec 32) (k0_hw1 : k0_chk1 d0 v8), ∀ (k0_h94 : k0_cond94 d0 v8 = 1#1), ∀ a, (k0_off168 d0 v8) a + S64x8x128.size a ≤ S2560x8x128.size a := fun d0 v8 k0_hw1 k0_h94 => k0_hw1.2.2.2.2.2.1.2.2.2.2.2.2.2.1 k0_h94
theorem k0_off169_inb : ∀ (d0 : Dev nD) (v8 : BitVec 32) (k0_hw1 : k0_chk1 d0 v8), ∀ (k0_h95 : k0_cond95 d0 v8 = 1#1), ∀ a, (k0_off169 d0 v8) a + S32x8x128.size a ≤ S4096x8x128.size a := fun d0 v8 k0_hw1 k0_h95 => k0_hw1.2.2.2.2.2.1.2.2.2.2.2.2.2.2.1 k0_h95
theorem k0_off170_inb : ∀ (d0 : Dev nD) (v8 : BitVec 32) (k0_hw1 : k0_chk1 d0 v8), ∀ (k0_h95 : k0_cond95 d0 v8 = 1#1), ∀ a, (k0_off170 d0 v8) a + S32x8x128.size a ≤ S2560x8x128.size a := fun d0 v8 k0_hw1 k0_h95 => k0_hw1.2.2.2.2.2.1.2.2.2.2.2.2.2.2.2.1 k0_h95
theorem k0_off171_inb : ∀ (d0 : Dev nD) (v8 : BitVec 32) (k0_hw1 : k0_chk1 d0 v8), ∀ (k0_h96 : k0_cond96 d0 v8 = 1#1), ∀ a, (k0_off171 d0 v8) a + S16x8x128.size a ≤ S4096x8x128.size a := fun d0 v8 k0_hw1 k0_h96 => k0_hw1.2.2.2.2.2.1.2.2.2.2.2.2.2.2.2.2.1 k0_h96
theorem k0_off172_inb : ∀ (d0 : Dev nD) (v8 : BitVec 32) (k0_hw1 : k0_chk1 d0 v8), ∀ (k0_h96 : k0_cond96 d0 v8 = 1#1), ∀ a, (k0_off172 d0 v8) a + S16x8x128.size a ≤ S2560x8x128.size a := fun d0 v8 k0_hw1 k0_h96 => k0_hw1.2.2.2.2.2.1.2.2.2.2.2.2.2.2.2.2.2.1 k0_h96
theorem k0_off173_inb : ∀ (d0 : Dev nD) (v8 : BitVec 32) (k0_hw1 : k0_chk1 d0 v8), ∀ (k0_h97 : k0_cond97 d0 v8 = 1#1), ∀ a, (k0_off173 d0 v8) a + S8x8x128.size a ≤ S4096x8x128.size a := fun d0 v8 k0_hw1 k0_h97 => k0_hw1.2.2.2.2.2.1.2.2.2.2.2.2.2.2.2.2.2.2.1 k0_h97
theorem k0_off174_inb : ∀ (d0 : Dev nD) (v8 : BitVec 32) (k0_hw1 : k0_chk1 d0 v8), ∀ (k0_h97 : k0_cond97 d0 v8 = 1#1), ∀ a, (k0_off174 d0 v8) a + S8x8x128.size a ≤ S2560x8x128.size a := fun d0 v8 k0_hw1 k0_h97 => k0_hw1.2.2.2.2.2.1.2.2.2.2.2.2.2.2.2.2.2.2.2.1 k0_h97
theorem k0_off175_inb : ∀ (d0 : Dev nD) (v8 : BitVec 32) (k0_hw1 : k0_chk1 d0 v8), ∀ (k0_h98 : k0_cond98 d0 v8 = 1#1), ∀ a, (k0_off175 d0 v8) a + S4x8x128.size a ≤ S4096x8x128.size a := fun d0 v8 k0_hw1 k0_h98 => k0_hw1.2.2.2.2.2.1.2.2.2.2.2.2.2.2.2.2.2.2.2.2.1 k0_h98
theorem k0_off176_inb : ∀ (d0 : Dev nD) (v8 : BitVec 32) (k0_hw1 : k0_chk1 d0 v8), ∀ (k0_h98 : k0_cond98 d0 v8 = 1#1), ∀ a, (k0_off176 d0 v8) a + S4x8x128.size a ≤ S2560x8x128.size a := fun d0 v8 k0_hw1 k0_h98 => k0_hw1.2.2.2.2.2.1.2.2.2.2.2.2.2.2.2.2.2.2.2.2.2.1 k0_h98
theorem k0_off177_inb : ∀ (d0 : Dev nD) (v8 : BitVec 32) (k0_hw1 : k0_chk1 d0 v8), ∀ (k0_h99 : k0_cond99 d0 v8 = 1#1), ∀ a, (k0_off177 d0 v8) a + S2x8x128.size a ≤ S4096x8x128.size a := fun d0 v8 k0_hw1 k0_h99 => k0_hw1.2.2.2.2.2.1.2.2.2.2.2.2.2.2.2.2.2.2.2.2.2.2.1 k0_h99
theorem k0_off178_inb : ∀ (d0 : Dev nD) (v8 : BitVec 32) (k0_hw1 : k0_chk1 d0 v8), ∀ (k0_h99 : k0_cond99 d0 v8 = 1#1), ∀ a, (k0_off178 d0 v8) a + S2x8x128.size a ≤ S2560x8x128.size a := fun d0 v8 k0_hw1 k0_h99 => k0_hw1.2.2.2.2.2.1.2.2.2.2.2.2.2.2.2.2.2.2.2.2.2.2.2.1 k0_h99
theorem k0_off179_inb : ∀ (d0 : Dev nD) (v8 : BitVec 32) (k0_hw1 : k0_chk1 d0 v8), ∀ (k0_h100 : k0_cond100 d0 v8 = 1#1), ∀ a, (k0_off179 d0 v8) a + S1x8x128.size a ≤ S4096x8x128.size a := fun d0 v8 k0_hw1 k0_h100 => k0_hw1.2.2.2.2.2.1.2.2.2.2.2.2.2.2.2.2.2.2.2.2.2.2.2.2.1 k0_h100
theorem k0_off180_inb : ∀ (d0 : Dev nD) (v8 : BitVec 32) (k0_hw1 : k0_chk1 d0 v8), ∀ (k0_h100 : k0_cond100 d0 v8 = 1#1), ∀ a, (k0_off180 d0 v8) a + S1x8x128.size a ≤ S2560x8x128.size a := fun d0 v8 k0_hw1 k0_h100 => k0_hw1.2.2.2.2.2.1.2.2.2.2.2.2.2.2.2.2.2.2.2.2.2.2.2.2.2.1 k0_h100
theorem k0_off181_inb : ∀ (d0 : Dev nD) (v8 : BitVec 32) (k0_hw1 : k0_chk1 d0 v8), ∀ (k0_h101 : k0_cond101 d0 v8 = 1#1), ∀ a, (k0_off181 d0 v8) a + S2048x8x128.size a ≤ S4096x8x128.size a := fun d0 v8 k0_hw1 k0_h101 => k0_hw1.2.2.2.2.2.1.2.2.2.2.2.2.2.2.2.2.2.2.2.2.2.2.2.2.2.2.1 k0_h101
theorem k0_off182_inb : ∀ (d0 : Dev nD) (v8 : BitVec 32) (k0_hw1 : k0_chk1 d0 v8), ∀ (k0_h102 : k0_cond102 d0 v8 = 1#1), ∀ a, (k0_off182 d0 v8) a + S1024x8x128.size a ≤ S4096x8x128.size a := fun d0 v8 k0_hw1 k0_h102 => k0_hw1.2.2.2.2.2.1.2.2.2.2.2.2.2.2.2.2.2.2.2.2.2.2.2.2.2.2.2.1 k0_h102
theorem k0_off183_inb : ∀ (d0 : Dev nD) (v8 : BitVec 32) (k0_hw1 : k0_chk1 d0 v8), ∀ (k0_h102 : k0_cond102 d0 v8 = 1#1), ∀ a, (k0_off183 d0 v8) a + S1024x8x128.size a ≤ S2560x8x128.size a := fun d0 v8 k0_hw1 k0_h102 => k0_hw1.2.2.2.2.2.1.2.2.2.2.2.2.2.2.2.2.2.2.2.2.2.2.2.2.2.2.2.2.1 k0_h102
theorem k0_off184_inb : ∀ (d0 : Dev nD) (v8 : BitVec 32) (k0_hw1 : k0_chk1 d0 v8), ∀ (k0_h103 : k0_cond103 d0 v8 = 1#1), ∀ a, (k0_off184 d0 v8) a + S512x8x128.size a ≤ S4096x8x128.size a := fun d0 v8 k0_hw1 k0_h103 => k0_hw1.2.2.2.2.2.1.2.2.2.2.2.2.2.2.2.2.2.2.2.2.2.2.2.2.2.2.2.2.2.1 k0_h103
theorem k0_off185_inb : ∀ (d0 : Dev nD) (v8 : BitVec 32) (k0_hw1 : k0_chk1 d0 v8), ∀ (k0_h103 : k0_cond103 d0 v8 = 1#1), ∀ a, (k0_off185 d0 v8) a + S512x8x128.size a ≤ S2560x8x128.size a := fun d0 v8 k0_hw1 k0_h103 => k0_hw1.2.2.2.2.2.1.2.2.2.2.2.2.2.2.2.2.2.2.2.2.2.2.2.2.2.2.2.2.2.2.1 k0_h103
theorem k0_off186_inb : ∀ (d0 : Dev nD) (v8 : BitVec 32) (k0_hw1 : k0_chk1 d0 v8), ∀ (k0_h104 : k0_cond104 d0 v8 = 1#1), ∀ a, (k0_off186 d0 v8) a + S256x8x128.size a ≤ S4096x8x128.size a := fun d0 v8 k0_hw1 k0_h104 => k0_hw1.2.2.2.2.2.1.2.2.2.2.2.2.2.2.2.2.2.2.2.2.2.2.2.2.2.2.2.2.2.2.2.1 k0_h104
theorem k0_off187_inb : ∀ (d0 : Dev nD) (v8 : BitVec 32) (k0_hw1 : k0_chk1 d0 v8), ∀ (k0_h104 : k0_cond104 d0 v8 = 1#1), ∀ a, (k0_off187 d0 v8) a + S256x8x128.size a ≤ S2560x8x128.size a := fun d0 v8 k0_hw1 k0_h104 => k0_hw1.2.2.2.2.2.1.2.2.2.2.2.2.2.2.2.2.2.2.2.2.2.2.2.2.2.2.2.2.2.2.2.2.1 k0_h104
theorem k0_off188_inb : ∀ (d0 : Dev nD) (v8 : BitVec 32) (k0_hw1 : k0_chk1 d0 v8), ∀ (k0_h105 : k0_cond105 d0 v8 = 1#1), ∀ a, (k0_off188 d0 v8) a + S128x8x128.size a ≤ S4096x8x128.size a := fun d0 v8 k0_hw1 k0_h105 => k0_hw1.2.2.2.2.2.1.2.2.2.2.2.2.2.2.2.2.2.2.2.2.2.2.2.2.2.2.2.2.2.2.2.2.2.1 k0_h105
theorem k0_off189_inb : ∀ (d0 : Dev nD) (v8 : BitVec 32) (k0_hw1 : k0_chk1 d0 v8), ∀ (k0_h105 : k0_cond105 d0 v8 = 1#1), ∀ a, (k0_off189 d0 v8) a + S128x8x128.size a ≤ S2560x8x128.size a := fun d0 v8 k0_hw1 k0_h105 => k0_hw1.2.2.2.2.2.1.2.2.2.2.2.2.2.2.2.2.2.2.2.2.2.2.2.2.2.2.2.2.2.2.2.2.2.2.1 k0_h105
theorem k0_off190_inb : ∀ (d0 : Dev nD) (v8 : BitVec 32) (k0_hw1 : k0_chk1 d0 v8), ∀ (k0_h106 : k0_cond106 d0 v8 = 1#1), ∀ a, (k0_off190 d0 v8) a + S64x8x128.size a ≤ S4096x8x128.size a := fun d0 v8 k0_hw1 k0_h106 => k0_hw1.2.2.2.2.2.1.2.2.2.2.2.2.2.2.2.2.2.2.2.2.2.2.2.2.2.2.2.2.2.2.2.2.2.2.2.1 k0_h106
theorem k0_off191_inb : ∀ (d0 : Dev nD) (v8 : BitVec 32) (k0_hw1 : k0_chk1 d0 v8), ∀ (k0_h106 : k0_cond106 d0 v8 = 1#1), ∀ a, (k0_off191 d0 v8) a + S64x8x128.size a ≤ S2560x8x128.size a := fun d0 v8 k0_hw1 k0_h106 => k0_hw1.2.2.2.2.2.1.2.2.2.2.2.2.2.2.2.2.2.2.2.2.2.2.2.2.2.2.2.2.2.2.2.2.2.2.2.2.1 k0_h106
theorem k0_off192_inb : ∀ (d0 : Dev nD) (v8 : BitVec 32) (k0_hw1 : k0_chk1 d0 v8), ∀ (k0_h107 : k0_cond107 d0 v8 = 1#1), ∀ a, (k0_off192 d0 v8) a + S32x8x128.size a ≤ S4096x8x128.size a := fun d0 v8 k0_hw1 k0_h107 => k0_hw1.2.2.2.2.2.1.2.2.2.2.2.2.2.2.2.2.2.2.2.2.2.2.2.2.2.2.2.2.2.2.2.2.2.2.2.2.2 k0_h107
theorem k0_off193_inb : ∀ (d0 : Dev nD) (v8 : BitVec 32) (k0_hw1 : k0_chk1 d0 v8), ∀ (k0_h107 : k0_cond107 d0 v8 = 1#1), ∀ a, (k0_off193 d0 v8) a + S32x8x128.size a ≤ S2560x8x128.size a := fun d0 v8 k0_hw1 k0_h107 => k0_hw1.2.2.2.2.2.2.1.1 k0_h107
theorem k0_off194_inb : ∀ (d0 : Dev nD) (v8 : BitVec 32) (k0_hw1 : k0_chk1 d0 v8), ∀ (k0_h108 : k0_cond108 d0 v8 = 1#1), ∀ a, (k0_off194 d0 v8) a + S16x8x128.size a ≤ S4096x8x128.size a := fun d0 v8 k0_hw1 k0_h108 => k0_hw1.2.2.2.2.2.2.1.2.1 k0_h108
theorem k0_off195_inb : ∀ (d0 : Dev nD) (v8 : BitVec 32) (k0_hw1 : k0_chk1 d0 v8), ∀ (k0_h108 : k0_cond108 d0 v8 = 1#1), ∀ a, (k0_off195 d0 v8) a + S16x8x128.size a ≤ S2560x8x128.size a := fun d0 v8 k0_hw1 k0_h108 => k0_hw1.2.2.2.2.2.2.1.2.2.1 k0_h108
theorem k0_off196_inb : ∀ (d0 : Dev nD) (v8 : BitVec 32) (k0_hw1 : k0_chk1 d0 v8), ∀ (k0_h109 : k0_cond109 d0 v8 = 1#1), ∀ a, (k0_off196 d0 v8) a + S8x8x128.size a ≤ S4096x8x128.size a := fun d0 v8 k0_hw1 k0_h109 => k0_hw1.2.2.2.2.2.2.1.2.2.2.1 k0_h109
theorem k0_off197_inb : ∀ (d0 : Dev nD) (v8 : BitVec 32) (k0_hw1 : k0_chk1 d0 v8), ∀ (k0_h109 : k0_cond109 d0 v8 = 1#1), ∀ a, (k0_off197 d0 v8) a + S8x8x128.size a ≤ S2560x8x128.size a := fun d0 v8 k0_hw1 k0_h109 => k0_hw1.2.2.2.2.2.2.1.2.2.2.2.1 k0_h109
theorem k0_off198_inb : ∀ (d0 : Dev nD) (v8 : BitVec 32) (k0_hw1 : k0_chk1 d0 v8), ∀ (k0_h110 : k0_cond110 d0 v8 = 1#1), ∀ a, (k0_off198 d0 v8) a + S4x8x128.size a ≤ S4096x8x128.size a := fun d0 v8 k0_hw1 k0_h110 => k0_hw1.2.2.2.2.2.2.1.2.2.2.2.2.1 k0_h110
theorem k0_off199_inb : ∀ (d0 : Dev nD) (v8 : BitVec 32) (k0_hw1 : k0_chk1 d0 v8), ∀ (k0_h110 : k0_cond110 d0 v8 = 1#1), ∀ a, (k0_off199 d0 v8) a + S4x8x128.size a ≤ S2560x8x128.size a := fun d0 v8 k0_hw1 k0_h110 => k0_hw1.2.2.2.2.2.2.1.2.2.2.2.2.2.1 k0_h110
theorem k0_off200_inb : ∀ (d0 : Dev nD) (v8 : BitVec 32) (k0_hw1 : k0_chk1 d0 v8), ∀ (k0_h111 : k0_cond111 d0 v8 = 1#1), ∀ a, (k0_off200 d0 v8) a + S2x8x128.size a ≤ S4096x8x128.size a := fun d0 v8 k0_hw1 k0_h111 => k0_hw1.2.2.2.2.2.2.1.2.2.2.2.2.2.2.1 k0_h111
theorem k0_off201_inb : ∀ (d0 : Dev nD) (v8 : BitVec 32) (k0_hw1 : k0_chk1 d0 v8), ∀ (k0_h111 : k0_cond111 d0 v8 = 1#1), ∀ a, (k0_off201 d0 v8) a + S2x8x128.size a ≤ S2560x8x128.size a := fun d0 v8 k0_hw1 k0_h111 => k0_hw1.2.2.2.2.2.2.1.2.2.2.2.2.2.2.2.1 k0_h111
theorem k0_off202_inb : ∀ (d0 : Dev nD) (v8 : BitVec 32) (k0_hw1 : k0_chk1 d0 v8), ∀ (k0_h112 : k0_cond112 d0 v8 = 1#1), ∀ a, (k0_off202 d0 v8) a + S1x8x128.size a ≤ S4096x8x128.size a := fun d0 v8 k0_hw1 k0_h112 => k0_hw1.2.2.2.2.2.2.1.2.2.2.2.2.2.2.2.2.1 k0_h112
theorem k0_off203_inb : ∀ (d0 : Dev nD) (v8 : BitVec 32) (k0_hw1 : k0_chk1 d0 v8), ∀ (k0_h112 : k0_cond112 d0 v8 = 1#1), ∀ a, (k0_off203 d0 v8) a + S1x8x128.size a ≤ S2560x8x128.size a := fun d0 v8 k0_hw1 k0_h112 => k0_hw1.2.2.2.2.2.2.1.2.2.2.2.2.2.2.2.2.2.1 k0_h112
theorem k0_off204_inb : ∀ (d0 : Dev nD) (v8 : BitVec 32) (k0_hw1 : k0_chk1 d0 v8), ∀ (k0_h113 : k0_cond113 d0 v8 = 1#1), ∀ a, (k0_off204 d0 v8) a + S2048x8x128.size a ≤ S4096x8x128.size a := fun d0 v8 k0_hw1 k0_h113 => k0_hw1.2.2.2.2.2.2.1.2.2.2.2.2.2.2.2.2.2.2.1 k0_h113
theorem k0_off205_inb : ∀ (d0 : Dev nD) (v8 : BitVec 32) (k0_hw1 : k0_chk1 d0 v8), ∀ (k0_h114 : k0_cond114 d0 v8 = 1#1), ∀ a, (k0_off205 d0 v8) a + S1024x8x128.size a ≤ S4096x8x128.size a := fun d0 v8 k0_hw1 k0_h114 => k0_hw1.2.2.2.2.2.2.1.2.2.2.2.2.2.2.2.2.2.2.2.1 k0_h114
theorem k0_off206_inb : ∀ (d0 : Dev nD) (v8 : BitVec 32) (k0_hw1 : k0_chk1 d0 v8), ∀ (k0_h114 : k0_cond114 d0 v8 = 1#1), ∀ a, (k0_off206 d0 v8) a + S1024x8x128.size a ≤ S2560x8x128.size a := fun d0 v8 k0_hw1 k0_h114 => k0_hw1.2.2.2.2.2.2.1.2.2.2.2.2.2.2.2.2.2.2.2.2.1 k0_h114
theorem k0_off207_inb : ∀ (d0 : Dev nD) (v8 : BitVec 32) (k0_hw1 : k0_chk1 d0 v8), ∀ (k0_h115 : k0_cond115 d0 v8 = 1#1), ∀ a, (k0_off207 d0 v8) a + S512x8x128.size a ≤ S4096x8x128.size a := fun d0 v8 k0_hw1 k0_h115 => k0_hw1.2.2.2.2.2.2.1.2.2.2.2.2.2.2.2.2.2.2.2.2.2.1 k0_h115
theorem k0_off208_inb : ∀ (d0 : Dev nD) (v8 : BitVec 32) (k0_hw1 : k0_chk1 d0 v8), ∀ (k0_h115 : k0_cond115 d0 v8 = 1#1), ∀ a, (k0_off208 d0 v8) a + S512x8x128.size a ≤ S2560x8x128.size a := fun d0 v8 k0_hw1 k0_h115 => k0_hw1.2.2.2.2.2.2.1.2.2.2.2.2.2.2.2.2.2.2.2.2.2.2.1 k0_h115
theorem k0_off209_inb : ∀ (d0 : Dev nD) (v8 : BitVec 32) (k0_hw1 : k0_chk1 d0 v8), ∀ (k0_h116 : k0_cond116 d0 v8 = 1#1), ∀ a, (k0_off209 d0 v8) a + S256x8x128.size a ≤ S4096x8x128.size a := fun d0 v8 k0_hw1 k0_h116 => k0_hw1.2.2.2.2.2.2.1.2.2.2.2.2.2.2.2.2.2.2.2.2.2.2.2.1 k0_h116
theorem k0_off210_inb : ∀ (d0 : Dev nD) (v8 : BitVec 32) (k0_hw1 : k0_chk1 d0 v8), ∀ (k0_h116 : k0_cond116 d0 v8 = 1#1), ∀ a, (k0_off210 d0 v8) a + S256x8x128.size a ≤ S2560x8x128.size a := fun d0 v8 k0_hw1 k0_h116 => k0_hw1.2.2.2.2.2.2.1.2.2.2.2.2.2.2.2.2.2.2.2.2.2.2.2.2.1 k0_h116
theorem k0_off211_inb : ∀ (d0 : Dev nD) (v8 : BitVec 32) (k0_hw1 : k0_chk1 d0 v8), ∀ (k0_h117 : k0_cond117 d0 v8 = 1#1), ∀ a, (k0_off211 d0 v8) a + S128x8x128.size a ≤ S4096x8x128.size a := fun d0 v8 k0_hw1 k0_h117 => k0_hw1.2.2.2.2.2.2.1.2.2.2.2.2.2.2.2.2.2.2.2.2.2.2.2.2.2.1 k0_h117
theorem k0_off212_inb : ∀ (d0 : Dev nD) (v8 : BitVec 32) (k0_hw1 : k0_chk1 d0 v8), ∀ (k0_h117 : k0_cond117 d0 v8 = 1#1), ∀ a, (k0_off212 d0 v8) a + S128x8x128.size a ≤ S2560x8x128.size a := fun d0 v8 k0_hw1 k0_h117 => k0_hw1.2.2.2.2.2.2.1.2.2.2.2.2.2.2.2.2.2.2.2.2.2.2.2.2.2.2.1 k0_h117
theorem k0_off213_inb : ∀ (d0 : Dev nD) (v8 : BitVec 32) (k0_hw1 : k0_chk1 d0 v8), ∀ (k0_h118 : k0_cond118 d0 v8 = 1#1), ∀ a, (k0_off213 d0 v8) a + S64x8x128.size a ≤ S4096x8x128.size a := fun d0 v8 k0_hw1 k0_h118 => k0_hw1.2.2.2.2.2.2.1.2.2.2.2.2.2.2.2.2.2.2.2.2.2.2.2.2.2.2.2.1 k0_h118
theorem k0_off214_inb : ∀ (d0 : Dev nD) (v8 : BitVec 32) (k0_hw1 : k0_chk1 d0 v8), ∀ (k0_h118 : k0_cond118 d0 v8 = 1#1), ∀ a, (k0_off214 d0 v8) a + S64x8x128.size a ≤ S2560x8x128.size a := fun d0 v8 k0_hw1 k0_h118 => k0_hw1.2.2.2.2.2.2.1.2.2.2.2.2.2.2.2.2.2.2.2.2.2.2.2.2.2.2.2.2.1 k0_h118
theorem k0_off215_inb : ∀ (d0 : Dev nD) (v8 : BitVec 32) (k0_hw1 : k0_chk1 d0 v8), ∀ (k0_h119 : k0_cond119 d0 v8 = 1#1), ∀ a, (k0_off215 d0 v8) a + S32x8x128.size a ≤ S4096x8x128.size a := fun d0 v8 k0_hw1 k0_h119 => k0_hw1.2.2.2.2.2.2.1.2.2.2.2.2.2.2.2.2.2.2.2.2.2.2.2.2.2.2.2.2.2.1 k0_h119
theorem k0_off216_inb : ∀ (d0 : Dev nD) (v8 : BitVec 32) (k0_hw1 : k0_chk1 d0 v8), ∀ (k0_h119 : k0_cond119 d0 v8 = 1#1), ∀ a, (k0_off216 d0 v8) a + S32x8x128.size a ≤ S2560x8x128.size a := fun d0 v8 k0_hw1 k0_h119 => k0_hw1.2.2.2.2.2.2.1.2.2.2.2.2.2.2.2.2.2.2.2.2.2.2.2.2.2.2.2.2.2.2.1 k0_h119
theorem k0_off217_inb : ∀ (d0 : Dev nD) (v8 : BitVec 32) (k0_hw1 : k0_chk1 d0 v8), ∀ (k0_h120 : k0_cond120 d0 v8 = 1#1), ∀ a, (k0_off217 d0 v8) a + S16x8x128.size a ≤ S4096x8x128.size a := fun d0 v8 k0_hw1 k0_h120 => k0_hw1.2.2.2.2.2.2.1.2.2.2.2.2.2.2.2.2.2.2.2.2.2.2.2.2.2.2.2.2.2.2.2.1 k0_h120
theorem k0_off218_inb : ∀ (d0 : Dev nD) (v8 : BitVec 32) (k0_hw1 : k0_chk1 d0 v8), ∀ (k0_h120 : k0_cond120 d0 v8 = 1#1), ∀ a, (k0_off218 d0 v8) a + S16x8x128.size a ≤ S2560x8x128.size a := fun d0 v8 k0_hw1 k0_h120 => k0_hw1.2.2.2.2.2.2.1.2.2.2.2.2.2.2.2.2.2.2.2.2.2.2.2.2.2.2.2.2.2.2.2.2.1 k0_h120
theorem k0_off219_inb : ∀ (d0 : Dev nD) (v8 : BitVec 32) (k0_hw1 : k0_chk1 d0 v8), ∀ (k0_h121 : k0_cond121 d0 v8 = 1#1), ∀ a, (k0_off219 d0 v8) a + S8x8x128.size a ≤ S4096x8x128.size a := fun d0 v8 k0_hw1 k0_h121 => k0_hw1.2.2.2.2.2.2.1.2.2.2.2.2.2.2.2.2.2.2.2.2.2.2.2.2.2.2.2.2.2.2.2.2.2.1 k0_h121
theorem k0_off220_inb : ∀ (d0 : Dev nD) (v8 : BitVec 32) (k0_hw1 : k0_chk1 d0 v8), ∀ (k0_h121 : k0_cond121 d0 v8 = 1#1), ∀ a, (k0_off220 d0 v8) a + S8x8x128.size a ≤ S2560x8x128.size a := fun d0 v8 k0_hw1 k0_h121 => k0_hw1.2.2.2.2.2.2.1.2.2.2.2.2.2.2.2.2.2.2.2.2.2.2.2.2.2.2.2.2.2.2.2.2.2.2.1 k0_h121
theorem k0_off221_inb : ∀ (d0 : Dev nD) (v8 : BitVec 32) (k0_hw1 : k0_chk1 d0 v8), ∀ (k0_h122 : k0_cond122 d0 v8 = 1#1), ∀ a, (k0_off221 d0 v8) a + S4x8x128.size a ≤ S4096x8x128.size a := fun d0 v8 k0_hw1 k0_h122 => k0_hw1.2.2.2.2.2.2.1.2.2.2.2.2.2.2.2.2.2.2.2.2.2.2.2.2.2.2.2.2.2.2.2.2.2.2.2.1 k0_h122
theorem k0_off222_inb : ∀ (d0 : Dev nD) (v8 : BitVec 32) (k0_hw1 : k0_chk1 d0 v8), ∀ (k0_h122 : k0_cond122 d0 v8 = 1#1), ∀ a, (k0_off222 d0 v8) a + S4x8x128.size a ≤ S2560x8x128.size a := fun d0 v8 k0_hw1 k0_h122 => k0_hw1.2.2.2.2.2.2.1.2.2.2.2.2.2.2.2.2.2.2.2.2.2.2.2.2.2.2.2.2.2.2.2.2.2.2.2.2.1 k0_h122
theorem k0_off223_inb : ∀ (d0 : Dev nD) (v8 : BitVec 32) (k0_hw1 : k0_chk1 d0 v8), ∀ (k0_h123 : k0_cond123 d0 v8 = 1#1), ∀ a, (k0_off223 d0 v8) a + S2x8x128.size a ≤ S4096x8x128.size a := fun d0 v8 k0_hw1 k0_h123 => k0_hw1.2.2.2.2.2.2.1.2.2.2.2.2.2.2.2.2.2.2.2.2.2.2.2.2.2.2.2.2.2.2.2.2.2.2.2.2.2.1 k0_h123
theorem k0_off224_inb : ∀ (d0 : Dev nD) (v8 : BitVec 32) (k0_hw1 : k0_chk1 d0 v8), ∀ (k0_h123 : k0_cond123 d0 v8 = 1#1), ∀ a, (k0_off224 d0 v8) a + S2x8x128.size a ≤ S2560x8x128.size a := fun d0 v8 k0_hw1 k0_h123 => k0_hw1.2.2.2.2.2.2.1.2.2.2.2.2.2.2.2.2.2.2.2.2.2.2.2.2.2.2.2.2.2.2.2.2.2.2.2.2.2.2 k0_h123
theorem k0_off225_inb : ∀ (d0 : Dev nD) (v8 : BitVec 32) (k0_hw1 : k0_chk1 d0 v8), ∀ (k0_h124 : k0_cond124 d0 v8 = 1#1), ∀ a, (k0_off225 d0 v8) a + S1x8x128.size a ≤ S4096x8x128.size a := fun d0 v8 k0_hw1 k0_h124 => k0_hw1.2.2.2.2.2.2.2.1.1 k0_h124
theorem k0_off226_inb : ∀ (d0 : Dev nD) (v8 : BitVec 32) (k0_hw1 : k0_chk1 d0 v8), ∀ (k0_h124 : k0_cond124 d0 v8 = 1#1), ∀ a, (k0_off226 d0 v8) a + S1x8x128.size a ≤ S2560x8x128.size a := fun d0 v8 k0_hw1 k0_h124 => k0_hw1.2.2.2.2.2.2.2.1.2.1 k0_h124
theorem k0_off227_inb : ∀ (d0 : Dev nD) (v8 : BitVec 32) (k0_hw1 : k0_chk1 d0 v8), ∀ (k0_h125 : k0_cond125 d0 v8 = 1#1), ∀ a, (k0_off227 d0 v8) a + S256x8x128.size a ≤ S4096x8x128.size a := fun d0 v8 k0_hw1 k0_h125 => k0_hw1.2.2.2.2.2.2.2.1.2.2.1 k0_h125
theorem k0_off228_inb : ∀ (d0 : Dev nD) (v8 : BitVec 32) (k0_hw1 : k0_chk1 d0 v8), ∀ (k0_h126 : k0_cond126 d0 v8 = 1#1), ∀ a, (k0_off228 d0 v8) a + S256x8x128.size a ≤ S4096x8x128.size a := fun d0 v8 k0_hw1 k0_h126 => k0_hw1.2.2.2.2.2.2.2.1.2.2.2.1 k0_h126
theorem k0_off229_inb : ∀ (d0 : Dev nD) (v8 : BitVec 32) (k0_hw1 : k0_chk1 d0 v8), ∀ (k0_h127 : k0_cond127 d0 v8 = 1#1), ∀ a, (k0_off229 d0 v8) a + S256x8x128.size a ≤ S4096x8x128.size a := fun d0 v8 k0_hw1 k0_h127 => k0_hw1.2.2.2.2.2.2.2.1.2.2.2.2.1 k0_h127
theorem k0_off230_inb : ∀ (d0 : Dev nD) (v8 : BitVec 32) (k0_hw1 : k0_chk1 d0 v8), ∀ (k0_h128 : k0_cond128 d0 v8 = 1#1), ∀ a, (k0_off230 d0 v8) a + S256x8x128.size a ≤ S4096x8x128.size a := fun d0 v8 k0_hw1 k0_h128 => k0_hw1.2.2.2.2.2.2.2.1.2.2.2.2.2.1 k0_h128
theorem k0_off231_inb : ∀ (d0 : Dev nD) (v8 : BitVec 32) (k0_hw1 : k0_chk1 d0 v8), ∀ (k0_h129 : k0_cond129 d0 v8 = 1#1), ∀ a, (k0_off231 d0 v8) a + S256x8x128.size a ≤ S4096x8x128.size a := fun d0 v8 k0_hw1 k0_h129 => k0_hw1.2.2.2.2.2.2.2.1.2.2.2.2.2.2.1 k0_h129
theorem k0_off232_inb : ∀ (d0 : Dev nD) (v8 : BitVec 32) (k0_hw1 : k0_chk1 d0 v8), ∀ (k0_h130 : k0_cond130 d0 v8 = 1#1), ∀ a, (k0_off232 d0 v8) a + S256x8x128.size a ≤ S4096x8x128.size a := fun d0 v8 k0_hw1 k0_h130 => k0_hw1.2.2.2.2.2.2.2.1.2.2.2.2.2.2.2.1 k0_h130
theorem k0_off233_inb : ∀ (d0 : Dev nD) (v8 : BitVec 32) (k0_hw1 : k0_chk1 d0 v8), ∀ (k0_h131 : k0_cond131 d0 v8 = 1#1), ∀ a, (k0_off233 d0 v8) a + S256x8x128.size a ≤ S4096x8x128.size a := fun d0 v8 k0_hw1 k0_h131 => k0_hw1.2.2.2.2.2.2.2.1.2.2.2.2.2.2.2.2.1 k0_h131
theorem k0_off234_inb : ∀ (d0 : Dev nD) (v8 : BitVec 32) (k0_hw1 : k0_chk1 d0 v8), ∀ (k0_h132 : k0_cond132 d0 v8 = 1#1), ∀ a, (k0_off234 d0 v8) a + S256x8x128.size a ≤ S4096x8x128.size a := fun d0 v8 k0_hw1 k0_h132 => k0_hw1.2.2.2.2.2.2.2.1.2.2.2.2.2.2.2.2.2.1 k0_h132
theorem k0_off235_inb : ∀ (d0 : Dev nD) (v8 : BitVec 32) (k0_hw1 : k0_chk1 d0 v8), ∀ (k0_h133 : k0_cond133 d0 v8 = 1#1), ∀ a, (k0_off235 d0 v8) a + S256x8x128.size a ≤ S4096x8x128.size a := fun d0 v8 k0_hw1 k0_h133 => k0_hw1.2.2.2.2.2.2.2.1.2.2.2.2.2.2.2.2.2.2.1 k0_h133
theorem k0_off236_inb : ∀ (d0 : Dev nD) (v8 : BitVec 32) (k0_hw1 : k0_chk1 d0 v8), ∀ (k0_h134 : k0_cond134 d0 v8 = 1#1), ∀ a, (k0_off236 d0 v8) a + S256x8x128.size a ≤ S4096x8x128.size a := fun d0 v8 k0_hw1 k0_h134 => k0_hw1.2.2.2.2.2.2.2.1.2.2.2.2.2.2.2.2.2.2.2.1 k0_h134
theorem k0_off237_inb : ∀ (d0 : Dev nD) (v8 : BitVec 32) (k0_hw1 : k0_chk1 d0 v8), ∀ (k0_h135 : k0_cond135 d0 v8 = 1#1), ∀ a, (k0_off237 d0 v8) a + S128x8x128.size a ≤ S4096x8x128.size a := fun d0 v8 k0_hw1 k0_h135 => k0_hw1.2.2.2.2.2.2.2.1.2.2.2.2.2.2.2.2.2.2.2.2.1 k0_h135
theorem k0_off238_inb : ∀ (d0 : Dev nD) (v8 : BitVec 32) (k0_hw1 : k0_chk1 d0 v8), ∀ (k0_h136 : k0_cond136 d0 v8 = 1#1), ∀ a, (k0_off238 d0 v8) a + S64x8x128.size a ≤ S4096x8x128.size a := fun d0 v8 k0_hw1 k0_h136 => k0_hw1.2.2.2.2.2.2.2.1.2.2.2.2.2.2.2.2.2.2.2.2.2.1 k0_h136
theorem k0_off239_inb : ∀ (d0 : Dev nD) (v8 : BitVec 32) (k0_hw1 : k0_chk1 d0 v8), ∀ (k0_h137 : k0_cond137 d0 v8 = 1#1), ∀ a, (k0_off239 d0 v8) a + S32x8x128.size a ≤ S4096x8x128.size a := fun d0 v8 k0_hw1 k0_h137 => k0_hw1.2.2.2.2.2.2.2.1.2.2.2.2.2.2.2.2.2.2.2.2.2.2.1 k0_h137
theorem k0_off240_inb : ∀ (d0 : Dev nD) (v8 : BitVec 32) (k0_hw1 : k0_chk1 d0 v8), ∀ (k0_h138 : k0_cond138 d0 v8 = 1#1), ∀ a, (k0_off240 d0 v8) a + S16x8x128.size a ≤ S4096x8x128.size a := fun d0 v8 k0_hw1 k0_h138 => k0_hw1.2.2.2.2.2.2.2.1.2.2.2.2.2.2.2.2.2.2.2.2.2.2.2.1 k0_h138
theorem k0_off241_inb : ∀ (d0 : Dev nD) (v8 : BitVec 32) (k0_hw1 : k0_chk1 d0 v8), ∀ (k0_h139 : k0_cond139 d0 v8 = 1#1), ∀ a, (k0_off241 d0 v8) a + S8x8x128.size a ≤ S4096x8x128.size a := fun d0 v8 k0_hw1 k0_h139 => k0_hw1.2.2.2.2.2.2.2.1.2.2.2.2.2.2.2.2.2.2.2.2.2.2.2.2.1 k0_h139
theorem k0_off242_inb : ∀ (d0 : Dev nD) (v8 : BitVec 32) (k0_hw1 : k0_chk1 d0 v8), ∀ (k0_h140 : k0_cond140 d0 v8 = 1#1), ∀ a, (k0_off242 d0 v8) a + S4x8x128.size a ≤ S4096x8x128.size a := fun d0 v8 k0_hw1 k0_h140 => k0_hw1.2.2.2.2.2.2.2.1.2.2.2.2.2.2.2.2.2.2.2.2.2.2.2.2.2.1 k0_h140
theorem k0_off243_inb : ∀ (d0 : Dev nD) (v8 : BitVec 32) (k0_hw1 : k0_chk1 d0 v8), ∀ (k0_h141 : k0_cond141 d0 v8 = 1#1), ∀ a, (k0_off243 d0 v8) a + S2x8x128.size a ≤ S4096x8x128.size a := fun d0 v8 k0_hw1 k0_h141 => k0_hw1.2.2.2.2.2.2.2.1.2.2.2.2.2.2.2.2.2.2.2.2.2.2.2.2.2.2.1 k0_h141
theorem k0_off244_inb : ∀ (d0 : Dev nD) (v8 : BitVec 32) (k0_hw1 : k0_chk1 d0 v8), ∀ (k0_h142 : k0_cond142 d0 v8 = 1#1), ∀ a, (k0_off244 d0 v8) a + S1x8x128.size a ≤ S4096x8x128.size a := fun d0 v8 k0_hw1 k0_h142 => k0_hw1.2.2.2.2.2.2.2.1.2.2.2.2.2.2.2.2.2.2.2.2.2.2.2.2.2.2.2.1 k0_h142
theorem k0_off245_inb : ∀ (d0 : Dev nD) (v8 : BitVec 32) (k0_hw1 : k0_chk1 d0 v8), ∀ (k0_h143 : k0_cond143 d0 v8 = 1#1), ∀ a, (k0_off245 d0 v8) a + S128x8x128.size a ≤ S4096x8x128.size a := fun d0 v8 k0_hw1 k0_h143 => k0_hw1.2.2.2.2.2.2.2.1.2.2.2.2.2.2.2.2.2.2.2.2.2.2.2.2.2.2.2.2.1 k0_h143
theorem k0_off246_inb : ∀ (d0 : Dev nD) (v8 : BitVec 32) (k0_hw1 : k0_chk1 d0 v8), ∀ (k0_h144 : k0_cond144 d0 v8 = 1#1), ∀ a, (k0_off246 d0 v8) a + S64x8x128.size a ≤ S4096x8x128.size a := fun d0 v8 k0_hw1 k0_h144 => k0_hw1.2.2.2.2.2.2.2.1.2.2.2.2.2.2.2.2.2.2.2.2.2.2.2.2.2.2.2.2.2.1 k0_h144
theorem k0_off247_inb : ∀ (d0 : Dev nD) (v8 : BitVec 32) (k0_hw1 : k0_chk1 d0 v8), ∀ (k0_h145 : k0_cond145 d0 v8 = 1#1), ∀ a, (k0_off247 d0 v8) a + S32x8x128.size a ≤ S4096x8x128.size a := fun d0 v8 k0_hw1 k0_h145 => k0_hw1.2.2.2.2.2.2.2.1.2.2.2.2.2.2.2.2.2.2.2.2.2.2.2.2.2.2.2.2.2.2.1 k0_h145
theorem k0_off248_inb : ∀ (d0 : Dev nD) (v8 : BitVec 32) (k0_hw1 : k0_chk1 d0 v8), ∀ (k0_h146 : k0_cond146 d0 v8 = 1#1), ∀ a, (k0_off248 d0 v8) a + S16x8x128.size a ≤ S4096x8x128.size a := fun d0 v8 k0_hw1 k0_h146 => k0_hw1.2.2.2.2.2.2.2.1.2.2.2.2.2.2.2.2.2.2.2.2.2.2.2.2.2.2.2.2.2.2.2.1 k0_h146
theorem k0_off249_inb : ∀ (d0 : Dev nD) (v8 : BitVec 32) (k0_hw1 : k0_chk1 d0 v8), ∀ (k0_h147 : k0_cond147 d0 v8 = 1#1), ∀ a, (k0_off249 d0 v8) a + S8x8x128.size a ≤ S4096x8x128.size a := fun d0 v8 k0_hw1 k0_h147 => k0_hw1.2.2.2.2.2.2.2.1.2.2.2.2.2.2.2.2.2.2.2.2.2.2.2.2.2.2.2.2.2.2.2.2.1 k0_h147
theorem k0_off250_inb : ∀ (d0 : Dev nD) (v8 : BitVec 32) (k0_hw1 : k0_chk1 d0 v8), ∀ (k0_h148 : k0_cond148 d0 v8 = 1#1), ∀ a, (k0_off250 d0 v8) a + S4x8x128.size a ≤ S4096x8x128.size a := fun d0 v8 k0_hw1 k0_h148 => k0_hw1.2.2.2.2.2.2.2.1.2.2.2.2.2.2.2.2.2.2.2.2.2.2.2.2.2.2.2.2.2.2.2.2.2.1 k0_h148
theorem k0_off251_inb : ∀ (d0 : Dev nD) (v8 : BitVec 32) (k0_hw1 : k0_chk1 d0 v8), ∀ (k0_h149 : k0_cond149 d0 v8 = 1#1), ∀ a, (k0_off251 d0 v8) a + S2x8x128.size a ≤ S4096x8x128.size a := fun d0 v8 k0_hw1 k0_h149 => k0_hw1.2.2.2.2.2.2.2.1.2.2.2.2.2.2.2.2.2.2.2.2.2.2.2.2.2.2.2.2.2.2.2.2.2.2.1 k0_h149
theorem k0_off252_inb : ∀ (d0 : Dev nD) (v8 : BitVec 32) (k0_hw1 : k0_chk1 d0 v8), ∀ (k0_h150 : k0_cond150 d0 v8 = 1#1), ∀ a, (k0_off252 d0 v8) a + S1x8x128.size a ≤ S4096x8x128.size a := fun d0 v8 k0_hw1 k0_h150 => k0_hw1.2.2.2.2.2.2.2.1.2.2.2.2.2.2.2.2.2.2.2.2.2.2.2.2.2.2.2.2.2.2.2.2.2.2.2.1 k0_h150
theorem k0_off253_inb : ∀ (d0 : Dev nD) (v8 : BitVec 32) (k0_hw1 : k0_chk1 d0 v8), ∀ (k0_h151 : k0_cond151 d0 v8 = 1#1), ∀ a, (k0_off253 d0 v8) a + S2048x8x128.size a ≤ S4096x8x128.size a := fun d0 v8 k0_hw1 k0_h151 => k0_hw1.2.2.2.2.2.2.2.1.2.2.2.2.2.2.2.2.2.2.2.2.2.2.2.2.2.2.2.2.2.2.2.2.2.2.2.2.1 k0_h151
theorem k0_off254_inb : ∀ (d0 : Dev nD) (v8 : BitVec 32) (k0_hw1 : k0_chk1 d0 v8), ∀ (k0_h152 : k0_cond152 d0 v8 = 1#1), ∀ a, (k0_off254 d0 v8) a + S1024x8x128.size a ≤ S4096x8x128.size a := fun d0 v8 k0_hw1 k0_h152 => k0_hw1.2.2.2.2.2.2.2.1.2.2.2.2.2.2.2.2.2.2.2.2.2.2.2.2.2.2.2.2.2.2.2.2.2.2.2.2.2.1 k0_h152
theorem k0_off255_inb : ∀ (d0 : Dev nD) (v8 : BitVec 32) (k0_hw1 : k0_chk1 d0 v8), ∀ (k0_h152 : k0_cond152 d0 v8 = 1#1), ∀ a, (k0_off255 d0 v8) a + S1024x8x128.size a ≤ S2560x8x128.size a := fun d0 v8 k0_hw1 k0_h152 => k0_hw1.2.2.2.2.2.2.2.1.2.2.2.2.2.2.2.2.2.2.2.2.2.2.2.2.2.2.2.2.2.2.2.2.2.2.2.2.2.2.1 k0_h152
theorem k0_off256_inb : ∀ (d0 : Dev nD) (v8 : BitVec 32) (k0_hw1 : k0_chk1 d0 v8), ∀ (k0_h153 : k0_cond153 d0 v8 = 1#1), ∀ a, (k0_off256 d0 v8) a + S512x8x128.size a ≤ S4096x8x128.size a := fun d0 v8 k0_hw1 k0_h153 => k0_hw1.2.2.2.2.2.2.2.1.2.2.2.2.2.2.2.2.2.2.2.2.2.2.2.2.2.2.2.2.2.2.2.2.2.2.2.2.2.2.2 k0_h153
theorem k0_off257_inb : ∀ (d0 : Dev nD) (v8 : BitVec 32) (k0_hw1 : k0_chk1 d0 v8), ∀ (k0_h153 : k0_cond153 d0 v8 = 1#1), ∀ a, (k0_off257 d0 v8) a + S512x8x128.size a ≤ S2560x8x128.size a := fun d0 v8 k0_hw1 k0_h153 => k0_hw1.2.2.2.2.2.2.2.2.1.1 k0_h153
theorem k0_off258_inb : ∀ (d0 : Dev nD) (v8 : BitVec 32) (k0_hw1 : k0_chk1 d0 v8), ∀ (k0_h154 : k0_cond154 d0 v8 = 1#1), ∀ a, (k0_off258 d0 v8) a + S256x8x128.size a ≤ S4096x8x128.size a := fun d0 v8 k0_hw1 k0_h154 => k0_hw1.2.2.2.2.2.2.2.2.1.2.1 k0_h154
theorem k0_off259_inb : ∀ (d0 : Dev nD) (v8 : BitVec 32) (k0_hw1 : k0_chk1 d0 v8), ∀ (k0_h154 : k0_cond154 d0 v8 = 1#1), ∀ a, (k0_off259 d0 v8) a + S256x8x128.size a ≤ S2560x8x128.size a := fun d0 v8 k0_hw1 k0_h154 => k0_hw1.2.2.2.2.2.2.2.2.1.2.2.1 k0_h154
theorem k0_off260_inb : ∀ (d0 : Dev nD) (v8 : BitVec 32) (k0_hw1 : k0_chk1 d0 v8), ∀ (k0_h155 : k0_cond155 d0 v8 = 1#1), ∀ a, (k0_off260 d0 v8) a + S128x8x128.size a ≤ S4096x8x128.size a := fun d0 v8 k0_hw1 k0_h155 => k0_hw1.2.2.2.2.2.2.2.2.1.2.2.2.1 k0_h155
theorem k0_off261_inb : ∀ (d0 : Dev nD) (v8 : BitVec 32) (k0_hw1 : k0_chk1 d0 v8), ∀ (k0_h155 : k0_cond155 d0 v8 = 1#1), ∀ a, (k0_off261 d0 v8) a + S128x8x128.size a ≤ S2560x8x128.size a := fun d0 v8 k0_hw1 k0_h155 => k0_hw1.2.2.2.2.2.2.2.2.1.2.2.2.2.1 k0_h155
theorem k0_off262_inb : ∀ (d0 : Dev nD) (v8 : BitVec 32) (k0_hw1 : k0_chk1 d0 v8), ∀ (k0_h156 : k0_cond156 d0 v8 = 1#1), ∀ a, (k0_off262 d0 v8) a + S64x8x128.size a ≤ S4096x8x128.size a := fun d0 v8 k0_hw1 k0_h156 => k0_hw1.2.2.2.2.2.2.2.2.1.2.2.2.2.2.1 k0_h156
theorem k0_off263_inb : ∀ (d0 : Dev nD) (v8 : BitVec 32) (k0_hw1 : k0_chk1 d0 v8), ∀ (k0_h156 : k0_cond156 d0 v8 = 1#1), ∀ a, (k0_off263 d0 v8) a + S64x8x128.size a ≤ S2560x8x128.size a := fun d0 v8 k0_hw1 k0_h156 => k0_hw1.2.2.2.2.2.2.2.2.1.2.2.2.2.2.2.1 k0_h156
theorem k0_off264_inb : ∀ (d0 : Dev nD) (v8 : BitVec 32) (k0_hw1 : k0_chk1 d0 v8), ∀ (k0_h157 : k0_cond157 d0 v8 = 1#1), ∀ a, (k0_off264 d0 v8) a + S32x8x128.size a ≤ S4096x8x128.size a := fun d0 v8 k0_hw1 k0_h157 => k0_hw1.2.2.2.2.2.2.2.2.1.2.2.2.2.2.2.2.1 k0_h157
theorem k0_off265_inb : ∀ (d0 : Dev nD) (v8 : BitVec 32) (k0_hw1 : k0_chk1 d0 v8), ∀ (k0_h157 : k0_cond157 d0 v8 = 1#1), ∀ a, (k0_off265 d0 v8) a + S32x8x128.size a ≤ S2560x8x128.size a := fun d0 v8 k0_hw1 k0_h157 => k0_hw1.2.2.2.2.2.2.2.2.1.2.2.2.2.2.2.2.2.1 k0_h157
theorem k0_off266_inb : ∀ (d0 : Dev nD) (v8 : BitVec 32) (k0_hw1 : k0_chk1 d0 v8), ∀ (k0_h158 : k0_cond158 d0 v8 = 1#1), ∀ a, (k0_off266 d0 v8) a + S16x8x128.size a ≤ S4096x8x128.size a := fun d0 v8 k0_hw1 k0_h158 => k0_hw1.2.2.2.2.2.2.2.2.1.2.2.2.2.2.2.2.2.2.1 k0_h158
theorem k0_off267_inb : ∀ (d0 : Dev nD) (v8 : BitVec 32) (k0_hw1 : k0_chk1 d0 v8), ∀ (k0_h158 : k0_cond158 d0 v8 = 1#1), ∀ a, (k0_off267 d0 v8) a + S16x8x128.size a ≤ S2560x8x128.size a := fun d0 v8 k0_hw1 k0_h158 => k0_hw1.2.2.2.2.2.2.2.2.1.2.2.2.2.2.2.2.2.2.2.1 k0_h158
theorem k0_off268_inb : ∀ (d0 : Dev nD) (v8 : BitVec 32) (k0_hw1 : k0_chk1 d0 v8), ∀ (k0_h159 : k0_cond159 d0 v8 = 1#1), ∀ a, (k0_off268 d0 v8) a + S8x8x128.size a ≤ S4096x8x128.size a := fun d0 v8 k0_hw1 k0_h159 => k0_hw1.2.2.2.2.2.2.2.2.1.2.2.2.2.2.2.2.2.2.2.2.1 k0_h159
theorem k0_off269_inb : ∀ (d0 : Dev nD) (v8 : BitVec 32) (k0_hw1 : k0_chk1 d0 v8), ∀ (k0_h159 : k0_cond159 d0 v8 = 1#1), ∀ a, (k0_off269 d0 v8) a + S8x8x128.size a ≤ S2560x8x128.size a := fun d0 v8 k0_hw1 k0_h159 => k0_hw1.2.2.2.2.2.2.2.2.1.2.2.2.2.2.2.2.2.2.2.2.2.1 k0_h159
theorem k0_off270_inb : ∀ (d0 : Dev nD) (v8 : BitVec 32) (k0_hw1 : k0_chk1 d0 v8), ∀ (k0_h160 : k0_cond160 d0 v8 = 1#1), ∀ a, (k0_off270 d0 v8) a + S4x8x128.size a ≤ S4096x8x128.size a := fun d0 v8 k0_hw1 k0_h160 => k0_hw1.2.2.2.2.2.2.2.2.1.2.2.2.2.2.2.2.2.2.2.2.2.2.1 k0_h160
theorem k0_off271_inb : ∀ (d0 : Dev nD) (v8 : BitVec 32) (k0_hw1 : k0_chk1 d0 v8), ∀ (k0_h160 : k0_cond160 d0 v8 = 1#1), ∀ a, (k0_off271 d0 v8) a + S4x8x128.size a ≤ S2560x8x128.size a := fun d0 v8 k0_hw1 k0_h160 => k0_hw1.2.2.2.2.2.2.2.2.1.2.2.2.2.2.2.2.2.2.2.2.2.2.2.1 k0_h160
theorem k0_off272_inb : ∀ (d0 : Dev nD) (v8 : BitVec 32) (k0_hw1 : k0_chk1 d0 v8), ∀ (k0_h161 : k0_cond161 d0 v8 = 1#1), ∀ a, (k0_off272 d0 v8) a + S2x8x128.size a ≤ S4096x8x128.size a := fun d0 v8 k0_hw1 k0_h161 => k0_hw1.2.2.2.2.2.2.2.2.1.2.2.2.2.2.2.2.2.2.2.2.2.2.2.2.1 k0_h161
theorem k0_off273_inb : ∀ (d0 : Dev nD) (v8 : BitVec 32) (k0_hw1 : k0_chk1 d0 v8), ∀ (k0_h161 : k0_cond161 d0 v8 = 1#1), ∀ a, (k0_off273 d0 v8) a + S2x8x128.size a ≤ S2560x8x128.size a := fun d0 v8 k0_hw1 k0_h161 => k0_hw1.2.2.2.2.2.2.2.2.1.2.2.2.2.2.2.2.2.2.2.2.2.2.2.2.2.1 k0_h161
theorem k0_off274_inb : ∀ (d0 : Dev nD) (v8 : BitVec 32) (k0_hw1 : k0_chk1 d0 v8), ∀ (k0_h162 : k0_cond162 d0 v8 = 1#1), ∀ a, (k0_off274 d0 v8) a + S1x8x128.size a ≤ S4096x8x128.size a := fun d0 v8 k0_hw1 k0_h162 => k0_hw1.2.2.2.2.2.2.2.2.1.2.2.2.2.2.2.2.2.2.2.2.2.2.2.2.2.2.1 k0_h162
theorem k0_off275_inb : ∀ (d0 : Dev nD) (v8 : BitVec 32) (k0_hw1 : k0_chk1 d0 v8), ∀ (k0_h162 : k0_cond162 d0 v8 = 1#1), ∀ a, (k0_off275 d0 v8) a + S1x8x128.size a ≤ S2560x8x128.size a := fun d0 v8 k0_hw1 k0_h162 => k0_hw1.2.2.2.2.2.2.2.2.1.2.2.2.2.2.2.2.2.2.2.2.2.2.2.2.2.2.2.1 k0_h162
theorem k0_off276_inb : ∀ (d0 : Dev nD) (v8 : BitVec 32) (k0_hw1 : k0_chk1 d0 v8), ∀ (k0_h163 : k0_cond163 d0 v8 = 1#1), ∀ a, (k0_off276 d0 v8) a + S2048x8x128.size a ≤ S4096x8x128.size a := fun d0 v8 k0_hw1 k0_h163 => k0_hw1.2.2.2.2.2.2.2.2.1.2.2.2.2.2.2.2.2.2.2.2.2.2.2.2.2.2.2.2.1 k0_h163
theorem k0_off277_inb : ∀ (d0 : Dev nD) (v8 : BitVec 32) (k0_hw1 : k0_chk1 d0 v8), ∀ (k0_h164 : k0_cond164 d0 v8 = 1#1), ∀ a, (k0_off277 d0 v8) a + S1024x8x128.size a ≤ S4096x8x128.size a := fun d0 v8 k0_hw1 k0_h164 => k0_hw1.2.2.2.2.2.2.2.2.1.2.2.2.2.2.2.2.2.2.2.2.2.2.2.2.2.2.2.2.2.1 k0_h164
theorem k0_off278_inb : ∀ (d0 : Dev nD) (v8 : BitVec 32) (k0_hw1 : k0_chk1 d0 v8), ∀ (k0_h164 : k0_cond164 d0 v8 = 1#1), ∀ a, (k0_off278 d0 v8) a + S1024x8x128.size a ≤ S2560x8x128.size a := fun d0 v8 k0_hw1 k0_h164 => k0_hw1.2.2.2.2.2.2.2.2.1.2.2.2.2.2.2.2.2.2.2.2.2.2.2.2.2.2.2.2.2.2.1 k0_h164
theorem k0_off279_inb : ∀ (d0 : Dev nD) (v8 : BitVec 32) (k0_hw1 : k0_chk1 d0 v8), ∀ (k0_h165 : k0_cond165 d0 v8 = 1#1), ∀ a, (k0_off279 d0 v8) a + S512x8x128.size a ≤ S4096x8x128.size a := fun d0 v8 k0_hw1 k0_h165 => k0_hw1.2.2.2.2.2.2.2.2.1.2.2.2.2.2.2.2.2.2.2.2.2.2.2.2.2.2.2.2.2.2.2.1 k0_h165
theorem k0_off280_inb : ∀ (d0 : Dev nD) (v8 : BitVec 32) (k0_hw1 : k0_chk1 d0 v8), ∀ (k0_h165 : k0_cond165 d0 v8 = 1#1), ∀ a, (k0_off280 d0 v8) a + S512x8x128.size a ≤ S2560x8x128.size a := fun d0 v8 k0_hw1 k0_h165 => k0_hw1.2.2.2.2.2.2.2.2.1.2.2.2.2.2.2.2.2.2.2.2.2.2.2.2.2.2.2.2.2.2.2.2.1 k0_h165
theorem k0_off281_inb : ∀ (d0 : Dev nD) (v8 : BitVec 32) (k0_hw1 : k0_chk1 d0 v8), ∀ (k0_h166 : k0_cond166 d0 v8 = 1#1), ∀ a, (k0_off281 d0 v8) a + S256x8x128.size a ≤ S4096x8x128.size a := fun d0 v8 k0_hw1 k0_h166 => k0_hw1.2.2.2.2.2.2.2.2.1.2.2.2.2.2.2.2.2.2.2.2.2.2.2.2.2.2.2.2.2.2.2.2.2.1 k0_h166
theorem k0_off282_inb : ∀ (d0 : Dev nD) (v8 : BitVec 32) (k0_hw1 : k0_chk1 d0 v8), ∀ (k0_h166 : k0_cond166 d0 v8 = 1#1), ∀ a, (k0_off282 d0 v8) a + S256x8x128.size a ≤ S2560x8x128.size a := fun d0 v8 k0_hw1 k0_h166 => k0_hw1.2.2.2.2.2.2.2.2.1.2.2.2.2.2.2.2.2.2.2.2.2.2.2.2.2.2.2.2.2.2.2.2.2.2.1 k0_h166
theorem k0_off283_inb : ∀ (d0 : Dev nD) (v8 : BitVec 32) (k0_hw1 : k0_chk1 d0 v8), ∀ (k0_h167 : k0_cond167 d0 v8 = 1#1), ∀ a, (k0_off283 d0 v8) a + S128x8x128.size a ≤ S4096x8x128.size a := fun d0 v8 k0_hw1 k0_h167 => k0_hw1.2.2.2.2.2.2.2.2.1.2.2.2.2.2.2.2.2.2.2.2.2.2.2.2.2.2.2.2.2.2.2.2.2.2.2.1 k0_h167
theorem k0_off284_inb : ∀ (d0 : Dev nD) (v8 : BitVec 32) (k0_hw1 : k0_chk1 d0 v8), ∀ (k0_h167 : k0_cond167 d0 v8 = 1#1), ∀ a, (k0_off284 d0 v8) a + S128x8x128.size a ≤ S2560x8x128.size a := fun d0 v8 k0_hw1 k0_h167 => k0_hw1.2.2.2.2.2.2.2.2.1.2.2.2.2.2.2.2.2.2.2.2.2.2.2.2.2.2.2.2.2.2.2.2.2.2.2.2.1 k0_h167
theorem k0_off285_inb : ∀ (d0 : Dev nD) (v8 : BitVec 32) (k0_hw1 : k0_chk1 d0 v8), ∀ (k0_h168 : k0_cond168 d0 v8 = 1#1), ∀ a, (k0_off285 d0 v8) a + S64x8x128.size a ≤ S4096x8x128.size a := fun d0 v8 k0_hw1 k0_h168 => k0_hw1.2.2.2.2.2.2.2.2.1.2.2.2.2.2.2.2.2.2.2.2.2.2.2.2.2.2.2.2.2.2.2.2.2.2.2.2.2.1 k0_h168
theorem k0_off286_inb : ∀ (d0 : Dev nD) (v8 : BitVec 32) (k0_hw1 : k0_chk1 d0 v8), ∀ (k0_h168 : k0_cond168 d0 v8 = 1#1), ∀ a, (k0_off286 d0 v8) a + S64x8x128.size a ≤ S2560x8x128.size a := fun d0 v8 k0_hw1 k0_h168 => k0_hw1.2.2.2.2.2.2.2.2.1.2.2.2.2.2.2.2.2.2.2.2.2.2.2.2.2.2.2.2.2.2.2.2.2.2.2.2.2.2.1 k0_h168
theorem k0_off287_inb : ∀ (d0 : Dev nD) (v8 : BitVec 32) (k0_hw1 : k0_chk1 d0 v8), ∀ (k0_h169 : k0_cond169 d0 v8 = 1#1), ∀ a, (k0_off287 d0 v8) a + S32x8x128.size a ≤ S4096x8x128.size a := fun d0 v8 k0_hw1 k0_h169 => k0_hw1.2.2.2.2.2.2.2.2.1.2.2.2.2.2.2.2.2.2.2.2.2.2.2.2.2.2.2.2.2.2.2.2.2.2.2.2.2.2.2.1 k0_h169
theorem k0_off288_inb : ∀ (d0 : Dev nD) (v8 : BitVec 32) (k0_hw1 : k0_chk1 d0 v8), ∀ (k0_h169 : k0_cond169 d0 v8 = 1#1), ∀ a, (k0_off288 d0 v8) a + S32x8x128.size a ≤ S2560x8x128.size a := fun d0 v8 k0_hw1 k0_h169 => k0_hw1.2.2.2.2.2.2.2.2.1.2.2.2.2.2.2.2.2.2.2.2.2.2.2.2.2.2.2.2.2.2.2.2.2.2.2.2.2.2.2.2 k0_h169
theorem k0_off289_inb : ∀ (d0 : Dev nD) (v8 : BitVec 32) (k0_hw1 : k0_chk1 d0 v8), ∀ (k0_h170 : k0_cond170 d0 v8 = 1#1), ∀ a, (k0_off289 d0 v8) a + S16x8x128.size a ≤ S4096x8x128.size a := fun d0 v8 k0_hw1 k0_h170 => k0_hw1.2.2.2.2.2.2.2.2.2.1.1 k0_h170
theorem k0_off290_inb : ∀ (d0 : Dev nD) (v8 : BitVec 32) (k0_hw1 : k0_chk1 d0 v8), ∀ (k0_h170 : k0_cond170 d0 v8 = 1#1), ∀ a, (k0_off290 d0 v8) a + S16x8x128.size a ≤ S2560x8x128.size a := fun d0 v8 k0_hw1 k0_h170 => k0_hw1.2.2.2.2.2.2.2.2.2.1.2.1 k0_h170
theorem k0_off291_inb : ∀ (d0 : Dev nD) (v8 : BitVec 32) (k0_hw1 : k0_chk1 d0 v8), ∀ (k0_h171 : k0_cond171 d0 v8 = 1#1), ∀ a, (k0_off291 d0 v8) a + S8x8x128.size a ≤ S4096x8x128.size a := fun d0 v8 k0_hw1 k0_h171 => k0_hw1.2.2.2.2.2.2.2.2.2.1.2.2.1 k0_h171
theorem k0_off292_inb : ∀ (d0 : Dev nD) (v8 : BitVec 32) (k0_hw1 : k0_chk1 d0 v8), ∀ (k0_h171 : k0_cond171 d0 v8 = 1#1), ∀ a, (k0_off292 d0 v8) a + S8x8x128.size a ≤ S2560x8x128.size a := fun d0 v8 k0_hw1 k0_h171 => k0_hw1.2.2.2.2.2.2.2.2.2.1.2.2.2.1 k0_h171
theorem k0_off293_inb : ∀ (d0 : Dev nD) (v8 : BitVec 32) (k0_hw1 : k0_chk1 d0 v8), ∀ (k0_h172 : k0_cond172 d0 v8 = 1#1), ∀ a, (k0_off293 d0 v8) a + S4x8x128.size a ≤ S4096x8x128.size a := fun d0 v8 k0_hw1 k0_h172 => k0_hw1.2.2.2.2.2.2.2.2.2.1.2.2.2.2.1 k0_h172
theorem k0_off294_inb : ∀ (d0 : Dev nD) (v8 : BitVec 32) (k0_hw1 : k0_chk1 d0 v8), ∀ (k0_h172 : k0_cond172 d0 v8 = 1#1), ∀ a, (k0_off294 d0 v8) a + S4x8x128.size a ≤ S2560x8x128.size a := fun d0 v8 k0_hw1 k0_h172 => k0_hw1.2.2.2.2.2.2.2.2.2.1.2.2.2.2.2.1 k0_h172
theorem k0_off295_inb : ∀ (d0 : Dev nD) (v8 : BitVec 32) (k0_hw1 : k0_chk1 d0 v8), ∀ (k0_h173 : k0_cond173 d0 v8 = 1#1), ∀ a, (k0_off295 d0 v8) a + S2x8x128.size a ≤ S4096x8x128.size a := fun d0 v8 k0_hw1 k0_h173 => k0_hw1.2.2.2.2.2.2.2.2.2.1.2.2.2.2.2.2.1 k0_h173
theorem k0_off296_inb : ∀ (d0 : Dev nD) (v8 : BitVec 32) (k0_hw1 : k0_chk1 d0 v8), ∀ (k0_h173 : k0_cond173 d0 v8 = 1#1), ∀ a, (k0_off296 d0 v8) a + S2x8x128.size a ≤ S2560x8x128.size a := fun d0 v8 k0_hw1 k0_h173 => k0_hw1.2.2.2.2.2.2.2.2.2.1.2.2.2.2.2.2.2.1 k0_h173
theorem k0_off297_inb : ∀ (d0 : Dev nD) (v8 : BitVec 32) (k0_hw1 : k0_chk1 d0 v8), ∀ (k0_h174 : k0_cond174 d0 v8 = 1#1), ∀ a, (k0_off297 d0 v8) a + S1x8x128.size a ≤ S4096x8x128.size a := fun d0 v8 k0_hw1 k0_h174 => k0_hw1.2.2.2.2.2.2.2.2.2.1.2.2.2.2.2.2.2.2.1 k0_h174
theorem k0_off298_inb : ∀ (d0 : Dev nD) (v8 : BitVec 32) (k0_hw1 : k0_chk1 d0 v8), ∀ (k0_h174 : k0_cond174 d0 v8 = 1#1), ∀ a, (k0_off298 d0 v8) a + S1x8x128.size a ≤ S2560x8x128.size a := fun d0 v8 k0_hw1 k0_h174 => k0_hw1.2.2.2.2.2.2.2.2.2.1.2.2.2.2.2.2.2.2.2.1 k0_h174
theorem k0_off299_inb : ∀ (d0 : Dev nD) (v8 : BitVec 32) (k0_hw1 : k0_chk1 d0 v8), ∀ (k0_h175 : k0_cond175 d0 v8 = 1#1), ∀ a, (k0_off299 d0 v8) a + S256x8x128.size a ≤ S4096x8x128.size a := fun d0 v8 k0_hw1 k0_h175 => k0_hw1.2.2.2.2.2.2.2.2.2.1.2.2.2.2.2.2.2.2.2.2.1 k0_h175
theorem k0_off300_inb : ∀ (d0 : Dev nD) (v8 : BitVec 32) (k0_hw1 : k0_chk1 d0 v8), ∀ (k0_h176 : k0_cond176 d0 v8 = 1#1), ∀ a, (k0_off300 d0 v8) a + S256x8x128.size a ≤ S4096x8x128.size a := fun d0 v8 k0_hw1 k0_h176 => k0_hw1.2.2.2.2.2.2.2.2.2.1.2.2.2.2.2.2.2.2.2.2.2.1 k0_h176
theorem k0_off301_inb : ∀ (d0 : Dev nD) (v8 : BitVec 32) (k0_hw1 : k0_chk1 d0 v8), ∀ (k0_h177 : k0_cond177 d0 v8 = 1#1), ∀ a, (k0_off301 d0 v8) a + S256x8x128.size a ≤ S4096x8x128.size a := fun d0 v8 k0_hw1 k0_h177 => k0_hw1.2.2.2.2.2.2.2.2.2.1.2.2.2.2.2.2.2.2.2.2.2.2.1 k0_h177
theorem k0_off302_inb : ∀ (d0 : Dev nD) (v8 : BitVec 32) (k0_hw1 : k0_chk1 d0 v8), ∀ (k0_h178 : k0_cond178 d0 v8 = 1#1), ∀ a, (k0_off302 d0 v8) a + S256x8x128.size a ≤ S4096x8x128.size a := fun d0 v8 k0_hw1 k0_h178 => k0_hw1.2.2.2.2.2.2.2.2.2.1.2.2.2.2.2.2.2.2.2.2.2.2.2.1 k0_h178
theorem k0_off303_inb : ∀ (d0 : Dev nD) (v8 : BitVec 32) (k0_hw1 : k0_chk1 d0 v8), ∀ (k0_h179 : k0_cond179 d0 v8 = 1#1), ∀ a, (k0_off303 d0 v8) a + S256x8x128.size a ≤ S4096x8x128.size a := fun d0 v8 k0_hw1 k0_h179 => k0_hw1.2.2.2.2.2.2.2.2.2.1.2.2.2.2.2.2.2.2.2.2.2.2.2.2.1 k0_h179
theorem k0_off304_inb : ∀ (d0 : Dev nD) (v8 : BitVec 32) (k0_hw1 : k0_chk1 d0 v8), ∀ (k0_h180 : k0_cond180 d0 v8 = 1#1), ∀ a, (k0_off304 d0 v8) a + S256x8x128.size a ≤ S4096x8x128.size a := fun d0 v8 k0_hw1 k0_h180 => k0_hw1.2.2.2.2.2.2.2.2.2.1.2.2.2.2.2.2.2.2.2.2.2.2.2.2.2.1 k0_h180
theorem k0_off305_inb : ∀ (d0 : Dev nD) (v8 : BitVec 32) (k0_hw1 : k0_chk1 d0 v8), ∀ (k0_h181 : k0_cond181 d0 v8 = 1#1), ∀ a, (k0_off305 d0 v8) a + S256x8x128.size a ≤ S4096x8x128.size a := fun d0 v8 k0_hw1 k0_h181 => k0_hw1.2.2.2.2.2.2.2.2.2.1.2.2.2.2.2.2.2.2.2.2.2.2.2.2.2.2.1 k0_h181
theorem k0_off306_inb : ∀ (d0 : Dev nD) (v8 : BitVec 32) (k0_hw1 : k0_chk1 d0 v8), ∀ (k0_h182 : k0_cond182 d0 v8 = 1#1), ∀ a, (k0_off306 d0 v8) a + S256x8x128.size a ≤ S4096x8x128.size a := fun d0 v8 k0_hw1 k0_h182 => k0_hw1.2.2.2.2.2.2.2.2.2.1.2.2.2.2.2.2.2.2.2.2.2.2.2.2.2.2.2.1 k0_h182
theorem k0_off307_inb : ∀ (d0 : Dev nD) (v8 : BitVec 32) (k0_hw1 : k0_chk1 d0 v8), ∀ (k0_h183 : k0_cond183 d0 v8 = 1#1), ∀ a, (k0_off307 d0 v8) a + S256x8x128.size a ≤ S4096x8x128.size a := fun d0 v8 k0_hw1 k0_h183 => k0_hw1.2.2.2.2.2.2.2.2.2.1.2.2.2.2.2.2.2.2.2.2.2.2.2.2.2.2.2.2.1 k0_h183
theorem k0_off308_inb : ∀ (d0 : Dev nD) (v8 : BitVec 32) (k0_hw1 : k0_chk1 d0 v8), ∀ (k0_h184 : k0_cond184 d0 v8 = 1#1), ∀ a, (k0_off308 d0 v8) a + S256x8x128.size a ≤ S4096x8x128.size a := fun d0 v8 k0_hw1 k0_h184 => k0_hw1.2.2.2.2.2.2.2.2.2.1.2.2.2.2.2.2.2.2.2.2.2.2.2.2.2.2.2.2.2.1 k0_h184
theorem k0_off309_inb : ∀ (d0 : Dev nD) (v8 : BitVec 32) (k0_hw1 : k0_chk1 d0 v8), ∀ (k0_h185 : k0_cond185 d0 v8 = 1#1), ∀ a, (k0_off309 d0 v8) a + S128x8x128.size a ≤ S2560x8x128.size a := fun d0 v8 k0_hw1 k0_h185 => k0_hw1.2.2.2.2.2.2.2.2.2.1.2.2.2.2.2.2.2.2.2.2.2.2.2.2.2.2.2.2.2.2.1 k0_h185
theorem k0_off310_inb : ∀ (d0 : Dev nD) (v8 : BitVec 32) (k0_hw1 : k0_chk1 d0 v8), ∀ (k0_h185 : k0_cond185 d0 v8 = 1#1), ∀ a, (k0_off310 d0 v8) a + S128x8x128.size a ≤ S4096x8x128.size a := fun d0 v8 k0_hw1 k0_h185 => k0_hw1.2.2.2.2.2.2.2.2.2.1.2.2.2.2.2.2.2.2.2.2.2.2.2.2.2.2.2.2.2.2.2.1 k0_h185
theorem k0_off311_inb : ∀ (d0 : Dev nD) (v8 : BitVec 32) (k0_hw1 : k0_chk1 d0 v8), ∀ (k0_h186 : k0_cond186 d0 v8 = 1#1), ∀ a, (k0_off311 d0 v8) a + S64x8x128.size a ≤ S2560x8x128.size a := fun d0 v8 k0_hw1 k0_h186 => k0_hw1.2.2.2.2.2.2.2.2.2.1.2.2.2.2.2.2.2.2.2.2.2.2.2.2.2.2.2.2.2.2.2.2.1 k0_h186
theorem k0_off312_inb : ∀ (d0 : Dev nD) (v8 : BitVec 32) (k0_hw1 : k0_chk1 d0 v8), ∀ (k0_h186 : k0_cond186 d0 v8 = 1#1), ∀ a, (k0_off312 d0 v8) a + S64x8x128.size a ≤ S4096x8x128.size a := fun d0 v8 k0_hw1 k0_h186 => k0_hw1.2.2.2.2.2.2.2.2.2.1.2.2.2.2.2.2.2.2.2.2.2.2.2.2.2.2.2.2.2.2.2.2.2.1 k0_h186
theorem k0_off313_inb : ∀ (d0 : Dev nD) (v8 : BitVec 32) (k0_hw1 : k0_chk1 d0 v8), ∀ (k0_h187 : k0_cond187 d0 v8 = 1#1), ∀ a, (k0_off313 d0 v8) a + S32x8x128.size a ≤ S2560x8x128.size a := fun d0 v8 k0_hw1 k0_h187 => k0_hw1.2.2.2.2.2.2.2.2.2.1.2.2.2.2.2.2.2.2.2.2.2.2.2.2.2.2.2.2.2.2.2.2.2.2.1 k0_h187
theorem k0_off314_inb : ∀ (d0 : Dev nD) (v8 : BitVec 32) (k0_hw1 : k0_chk1 d0 v8), ∀ (k0_h187 : k0_cond187 d0 v8 = 1#1), ∀ a, (k0_off314 d0 v8) a + S32x8x128.size a ≤ S4096x8x128.size a := fun d0 v8 k0_hw1 k0_h187 => k0_hw1.2.2.2.2.2.2.2.2.2.1.2.2.2.2.2.2.2.2.2.2.2.2.2.2.2.2.2.2.2.2.2.2.2.2.2.1 k0_h187
theorem k0_off315_inb : ∀ (d0 : Dev nD) (v8 : BitVec 32) (k0_hw1 : k0_chk1 d0 v8), ∀ (k0_h188 : k0_cond188 d0 v8 = 1#1), ∀ a, (k0_off315 d0 v8) a + S16x8x128.size a ≤ S2560x8x128.size a := fun d0 v8 k0_hw1 k0_h188 => k0_hw1.2.2.2.2.2.2.2.2.2.1.2.2.2.2.2.2.2.2.2.2.2.2.2.2.2.2.2.2.2.2.2.2.2.2.2.2.1 k0_h188
theorem k0_off316_inb : ∀ (d0 : Dev nD) (v8 : BitVec 32) (k0_hw1 : k0_chk1 d0 v8), ∀ (k0_h188 : k0_cond188 d0 v8 = 1#1), ∀ a, (k0_off316 d0 v8) a + S16x8x128.size a ≤ S4096x8x128.size a := fun d0 v8 k0_hw1 k0_h188 => k0_hw1.2.2.2.2.2.2.2.2.2.1.2.2.2.2.2.2.2.2.2.2.2.2.2.2.2.2.2.2.2.2.2.2.2.2.2.2.2.1 k0_h188
theorem k0_off317_inb : ∀ (d0 : Dev nD) (v8 : BitVec 32) (k0_hw1 : k0_chk1 d0 v8), ∀ (k0_h189 : k0_cond189 d0 v8 = 1#1), ∀ a, (k0_off317 d0 v8) a + S8x8x128.size a ≤ S2560x8x128.size a := fun d0 v8 k0_hw1 k0_h189 => k0_hw1.2.2.2.2.2.2.2.2.2.1.2.2.2.2.2.2.2.2.2.2.2.2.2.2.2.2.2.2.2.2.2.2.2.2.2.2.2.2.1 k0_h189
theorem k0_off318_inb : ∀ (d0 : Dev nD) (v8 : BitVec 32) (k0_hw1 : k0_chk1 d0 v8), ∀ (k0_h189 : k0_cond189 d0 v8 = 1#1), ∀ a, (k0_off318 d0 v8) a + S8x8x128.size a ≤ S4096x8x128.size a := fun d0 v8 k0_hw1 k0_h189 => k0_hw1.2.2.2.2.2.2.2.2.2.1.2.2.2.2.2.2.2.2.2.2.2.2.2.2.2.2.2.2.2.2.2.2.2.2.2.2.2.2.2.1 k0_h189
theorem k0_off319_inb : ∀ (d0 : Dev nD) (v8 : BitVec 32) (k0_hw1 : k0_chk1 d0 v8), ∀ (k0_h190 : k0_cond190 d0 v8 = 1#1), ∀ a, (k0_off319 d0 v8) a + S4x8x128.size a ≤ S2560x8x128.size a := fun d0 v8 k0_hw1 k0_h190 => k0_hw1.2.2.2.2.2.2.2.2.2.1.2.2.2.2.2.2.2.2.2.2.2.2.2.2.2.2.2.2.2.2.2.2.2.2.2.2.2.2.2.2.1 k0_h190
theorem k0_off320_inb : ∀ (d0 : Dev nD) (v8 : BitVec 32) (k0_hw1 : k0_chk1 d0 v8), ∀ (k0_h190 : k0_cond190 d0 v8 = 1#1), ∀ a, (k0_off320 d0 v8) a + S4x8x128.size a ≤ S4096x8x128.size a := fun d0 v8 k0_hw1 k0_h190 => k0_hw1.2.2.2.2.2.2.2.2.2.1.2.2.2.2.2.2.2.2.2.2.2.2.2.2.2.2.2.2.2.2.2.2.2.2.2.2.2.2.2.2.2 k0_h190
theorem k0_off321_inb : ∀ (d0 : Dev nD) (v8 : BitVec 32) (k0_hw1 : k0_chk1 d0 v8), ∀ (k0_h191 : k0_cond191 d0 v8 = 1#1), ∀ a, (k0_off321 d0 v8) a + S2x8x128.size a ≤ S2560x8x128.size a := fun d0 v8 k0_hw1 k0_h191 => k0_hw1.2.2.2.2.2.2.2.2.2.2.1.1 k0_h191
theorem k0_off322_inb : ∀ (d0 : Dev nD) (v8 : BitVec 32) (k0_hw1 : k0_chk1 d0 v8), ∀ (k0_h191 : k0_cond191 d0 v8 = 1#1), ∀ a, (k0_off322 d0 v8) a + S2x8x128.size a ≤ S4096x8x128.size a := fun d0 v8 k0_hw1 k0_h191 => k0_hw1.2.2.2.2.2.2.2.2.2.2.1.2.1 k0_h191
theorem k0_off323_inb : ∀ (d0 : Dev nD) (v8 : BitVec 32) (k0_hw1 : k0_chk1 d0 v8), ∀ (k0_h192 : k0_cond192 d0 v8 = 1#1), ∀ a, (k0_off323 d0 v8) a + S1x8x128.size a ≤ S2560x8x128.size a := fun d0 v8 k0_hw1 k0_h192 => k0_hw1.2.2.2.2.2.2.2.2.2.2.1.2.2.1 k0_h192
theorem k0_off324_inb : ∀ (d0 : Dev nD) (v8 : BitVec 32) (k0_hw1 : k0_chk1 d0 v8), ∀ (k0_h192 : k0_cond192 d0 v8 = 1#1), ∀ a, (k0_off324 d0 v8) a + S1x8x128.size a ≤ S4096x8x128.size a := fun d0 v8 k0_hw1 k0_h192 => k0_hw1.2.2.2.2.2.2.2.2.2.2.1.2.2.2.1 k0_h192
theorem k0_off325_inb : ∀ (d0 : Dev nD) (v8 : BitVec 32) (k0_hw1 : k0_chk1 d0 v8), ∀ (k0_h193 : k0_cond193 d0 v8 = 1#1), ∀ a, (k0_off325 d0 v8) a + S256x8x128.size a ≤ S4096x8x128.size a := fun d0 v8 k0_hw1 k0_h193 => k0_hw1.2.2.2.2.2.2.2.2.2.2.1.2.2.2.2.1 k0_h193
theorem k0_off326_inb : ∀ (d0 : Dev nD) (v8 : BitVec 32) (k0_hw1 : k0_chk1 d0 v8), ∀ (k0_h194 : k0_cond194 d0 v8 = 1#1), ∀ a, (k0_off326 d0 v8) a + S256x8x128.size a ≤ S4096x8x128.size a := fun d0 v8 k0_hw1 k0_h194 => k0_hw1.2.2.2.2.2.2.2.2.2.2.1.2.2.2.2.2.1 k0_h194
theorem k0_off327_inb : ∀ (d0 : Dev nD) (v8 : BitVec 32) (k0_hw1 : k0_chk1 d0 v8), ∀ (k0_h195 : k0_cond195 d0 v8 = 1#1), ∀ a, (k0_off327 d0 v8) a + S256x8x128.size a ≤ S4096x8x128.size a := fun d0 v8 k0_hw1 k0_h195 => k0_hw1.2.2.2.2.2.2.2.2.2.2.1.2.2.2.2.2.2.1 k0_h195
theorem k0_off328_inb : ∀ (d0 : Dev nD) (v8 : BitVec 32) (k0_hw1 : k0_chk1 d0 v8), ∀ (k0_h196 : k0_cond196 d0 v8 = 1#1), ∀ a, (k0_off328 d0 v8) a + S256x8x128.size a ≤ S4096x8x128.size a := fun d0 v8 k0_hw1 k0_h196 => k0_hw1.2.2.2.2.2.2.2.2.2.2.1.2.2.2.2.2.2.2.1 k0_h196
theorem k0_off329_inb : ∀ (d0 : Dev nD) (v8 : BitVec 32) (k0_hw1 : k0_chk1 d0 v8), ∀ (k0_h197 : k0_cond197 d0 v8 = 1#1), ∀ a, (k0_off329 d0 v8) a + S256x8x128.size a ≤ S4096x8x128.size a := fun d0 v8 k0_hw1 k0_h197 => k0_hw1.2.2.2.2.2.2.2.2.2.2.1.2.2.2.2.2.2.2.2.1 k0_h197
theorem k0_off330_inb : ∀ (d0 : Dev nD) (v8 : BitVec 32) (k0_hw1 : k0_chk1 d0 v8), ∀ (k0_h198 : k0_cond198 d0 v8 = 1#1), ∀ a, (k0_off330 d0 v8) a + S256x8x128.size a ≤ S4096x8x128.size a := fun d0 v8 k0_hw1 k0_h198 => k0_hw1.2.2.2.2.2.2.2.2.2.2.1.2.2.2.2.2.2.2.2.2.1 k0_h198
theorem k0_off331_inb : ∀ (d0 : Dev nD) (v8 : BitVec 32) (k0_hw1 : k0_chk1 d0 v8), ∀ (k0_h199 : k0_cond199 d0 v8 = 1#1), ∀ a, (k0_off331 d0 v8) a + S256x8x128.size a ≤ S4096x8x128.size a := fun d0 v8 k0_hw1 k0_h199 => k0_hw1.2.2.2.2.2.2.2.2.2.2.1.2.2.2.2.2.2.2.2.2.2.1 k0_h199
theorem k0_off332_inb : ∀ (d0 : Dev nD) (v8 : BitVec 32) (k0_hw1 : k0_chk1 d0 v8), ∀ (k0_h200 : k0_cond200 d0 v8 = 1#1), ∀ a, (k0_off332 d0 v8) a + S256x8x128.size a ≤ S4096x8x128.size a := fun d0 v8 k0_hw1 k0_h200 => k0_hw1.2.2.2.2.2.2.2.2.2.2.1.2.2.2.2.2.2.2.2.2.2.2.1 k0_h200
theorem k0_off333_inb : ∀ (d0 : Dev nD) (v8 : BitVec 32) (k0_hw1 : k0_chk1 d0 v8), ∀ (k0_h201 : k0_cond201 d0 v8 = 1#1), ∀ a, (k0_off333 d0 v8) a + S256x8x128.size a ≤ S4096x8x128.size a := fun d0 v8 k0_hw1 k0_h201 => k0_hw1.2.2.2.2.2.2.2.2.2.2.1.2.2.2.2.2.2.2.2.2.2.2.2.1 k0_h201
theorem k0_off334_inb : ∀ (d0 : Dev nD) (v8 : BitVec 32) (k0_hw1 : k0_chk1 d0 v8), ∀ (k0_h202 : k0_cond202 d0 v8 = 1#1), ∀ a, (k0_off334 d0 v8) a + S256x8x128.size a ≤ S4096x8x128.size a := fun d0 v8 k0_hw1 k0_h202 => k0_hw1.2.2.2.2.2.2.2.2.2.2.1.2.2.2.2.2.2.2.2.2.2.2.2.2.1 k0_h202
theorem k0_off335_inb : ∀ (d0 : Dev nD) (v8 : BitVec 32) (k0_hw1 : k0_chk1 d0 v8), ∀ (k0_h203 : k0_cond203 d0 v8 = 1#1), ∀ a, (k0_off335 d0 v8) a + S128x8x128.size a ≤ S2560x8x128.size a := fun d0 v8 k0_hw1 k0_h203 => k0_hw1.2.2.2.2.2.2.2.2.2.2.1.2.2.2.2.2.2.2.2.2.2.2.2.2.2.1 k0_h203
theorem k0_off336_inb : ∀ (d0 : Dev nD) (v8 : BitVec 32) (k0_hw1 : k0_chk1 d0 v8), ∀ (k0_h203 : k0_cond203 d0 v8 = 1#1), ∀ a, (k0_off336 d0 v8) a + S128x8x128.size a ≤ S4096x8x128.size a := fun d0 v8 k0_hw1 k0_h203 => k0_hw1.2.2.2.2.2.2.2.2.2.2.1.2.2.2.2.2.2.2.2.2.2.2.2.2.2.2.1 k0_h203
theorem k0_off337_inb : ∀ (d0 : Dev nD) (v8 : BitVec 32) (k0_hw1 : k0_chk1 d0 v8), ∀ (k0_h204 : k0_cond204 d0 v8 = 1#1), ∀ a, (k0_off337 d0 v8) a + S64x8x128.size a ≤ S2560x8x128.size a := fun d0 v8 k0_hw1 k0_h204 => k0_hw1.2.2.2.2.2.2.2.2.2.2.1.2.2.2.2.2.2.2.2.2.2.2.2.2.2.2.2.1 k0_h204
theorem k0_off338_inb : ∀ (d0 : Dev nD) (v8 : BitVec 32) (k0_hw1 : k0_chk1 d0 v8), ∀ (k0_h204 : k0_cond204 d0 v8 = 1#1), ∀ a, (k0_off338 d0 v8) a + S64x8x128.size a ≤ S4096x8x128.size a := fun d0 v8 k0_hw1 k0_h204 => k0_hw1.2.2.2.2.2.2.2.2.2.2.1.2.2.2.2.2.2.2.2.2.2.2.2.2.2.2.2.2.1 k0_h204
theorem k0_off339_inb : ∀ (d0 : Dev nD) (v8 : BitVec 32) (k0_hw1 : k0_chk1 d0 v8), ∀ (k0_h205 : k0_cond205 d0 v8 = 1#1), ∀ a, (k0_off339 d0 v8) a + S32x8x128.size a ≤ S2560x8x128.size a := fun d0 v8 k0_hw1 k0_h205 => k0_hw1.2.2.2.2.2.2.2.2.2.2.1.2.2.2.2.2.2.2.2.2.2.2.2.2.2.2.2.2.2.1 k0_h205
theorem k0_off340_inb : ∀ (d0 : Dev nD) (v8 : BitVec 32) (k0_hw1 : k0_chk1 d0 v8), ∀ (k0_h205 : k0_cond205 d0 v8 = 1#1), ∀ a, (k0_off340 d0 v8) a + S32x8x128.size a ≤ S4096x8x128.size a := fun d0 v8 k0_hw1 k0_h205 => k0_hw1.2.2.2.2.2.2.2.2.2.2.1.2.2.2.2.2.2.2.2.2.2.2.2.2.2.2.2.2.2.2.1 k0_h205
theorem k0_off341_inb : ∀ (d0 : Dev nD) (v8 : BitVec 32) (k0_hw1 : k0_chk1 d0 v8), ∀ (k0_h206 : k0_cond206 d0 v8 = 1#1), ∀ a, (k0_off341 d0 v8) a + S16x8x128.size a ≤ S2560x8x128.size a := fun d0 v8 k0_hw1 k0_h206 => k0_hw1.2.2.2.2.2.2.2.2.2.2.1.2.2.2.2.2.2.2.2.2.2.2.2.2.2.2.2.2.2.2.2.1 k0_h206
theorem k0_off342_inb : ∀ (d0 : Dev nD) (v8 : BitVec 32) (k0_hw1 : k0_chk1 d0 v8), ∀ (k0_h206 : k0_cond206 d0 v8 = 1#1), ∀ a, (k0_off342 d0 v8) a + S16x8x128.size a ≤ S4096x8x128.size a := fun d0 v8 k0_hw1 k0_h206 => k0_hw1.2.2.2.2.2.2.2.2.2.2.1.2.2.2.2.2.2.2.2.2.2.2.2.2.2.2.2.2.2.2.2.2.1 k0_h206
theorem k0_off343_inb : ∀ (d0 : Dev nD) (v8 : BitVec 32) (k0_hw1 : k0_chk1 d0 v8), ∀ (k0_h207 : k0_cond207 d0 v8 = 1#1), ∀ a, (k0_off343 d0 v8) a + S8x8x128.size a ≤ S2560x8x128.size a := fun d0 v8 k0_hw1 k0_h207 => k0_hw1.2.2.2.2.2.2.2.2.2.2.1.2.2.2.2.2.2.2.2.2.2.2.2.2.2.2.2.2.2.2.2.2.2.1 k0_h207
theorem k0_off344_inb : ∀ (d0 : Dev nD) (v8 : BitVec 32) (k0_hw1 : k0_chk1 d0 v8), ∀ (k0_h207 : k0_cond207 d0 v8 = 1#1), ∀ a, (k0_off344 d0 v8) a + S8x8x128.size a ≤ S4096x8x128.size a := fun d0 v8 k0_hw1 k0_h207 => k0_hw1.2.2.2.2.2.2.2.2.2.2.1.2.2.2.2.2.2.2.2.2.2.2.2.2.2.2.2.2.2.2.2.2.2.2.1 k0_h207
theorem k0_off345_inb : ∀ (d0 : Dev nD) (v8 : BitVec 32) (k0_hw1 : k0_chk1 d0 v8), ∀ (k0_h208 : k0_cond208 d0 v8 = 1#1), ∀ a, (k0_off345 d0 v8) a + S4x8x128.size a ≤ S2560x8x128.size a := fun d0 v8 k0_hw1 k0_h208 => k0_hw1.2.2.2.2.2.2.2.2.2.2.1.2.2.2.2.2.2.2.2.2.2.2.2.2.2.2.2.2.2.2.2.2.2.2.2.1 k0_h208
theorem k0_off346_inb : ∀ (d0 : Dev nD) (v8 : BitVec 32) (k0_hw1 : k0_chk1 d0 v8), ∀ (k0_h208 : k0_cond208 d0 v8 = 1#1), ∀ a, (k0_off346 d0 v8) a + S4x8x128.size a ≤ S4096x8x128.size a := fun d0 v8 k0_hw1 k0_h208 => k0_hw1.2.2.2.2.2.2.2.2.2.2.1.2.2.2.2.2.2.2.2.2.2.2.2.2.2.2.2.2.2.2.2.2.2.2.2.2.1 k0_h208
theorem k0_off347_inb : ∀ (d0 : Dev nD) (v8 : BitVec 32) (k0_hw1 : k0_chk1 d0 v8), ∀ (k0_h209 : k0_cond209 d0 v8 = 1#1), ∀ a, (k0_off347 d0 v8) a + S2x8x128.size a ≤ S2560x8x128.size a := fun d0 v8 k0_hw1 k0_h209 => k0_hw1.2.2.2.2.2.2.2.2.2.2.1.2.2.2.2.2.2.2.2.2.2.2.2.2.2.2.2.2.2.2.2.2.2.2.2.2.2.1 k0_h209
theorem k0_off348_inb : ∀ (d0 : Dev nD) (v8 : BitVec 32) (k0_hw1 : k0_chk1 d0 v8), ∀ (k0_h209 : k0_cond209 d0 v8 = 1#1), ∀ a, (k0_off348 d0 v8) a + S2x8x128.size a ≤ S4096x8x128.size a := fun d0 v8 k0_hw1 k0_h209 => k0_hw1.2.2.2.2.2.2.2.2.2.2.1.2.2.2.2.2.2.2.2.2.2.2.2.2.2.2.2.2.2.2.2.2.2.2.2.2.2.2.1 k0_h209
theorem k0_off349_inb : ∀ (d0 : Dev nD) (v8 : BitVec 32) (k0_hw1 : k0_chk1 d0 v8), ∀ (k0_h210 : k0_cond210 d0 v8 = 1#1), ∀ a, (k0_off349 d0 v8) a + S1x8x128.size a ≤ S2560x8x128.size a := fun d0 v8 k0_hw1 k0_h210 => k0_hw1.2.2.2.2.2.2.2.2.2.2.1.2.2.2.2.2.2.2.2.2.2.2.2.2.2.2.2.2.2.2.2.2.2.2.2.2.2.2.2.1 k0_h210
theorem k0_off350_inb : ∀ (d0 : Dev nD) (v8 : BitVec 32) (k0_hw1 : k0_chk1 d0 v8), ∀ (k0_h210 : k0_cond210 d0 v8 = 1#1), ∀ a, (k0_off350 d0 v8) a + S1x8x128.size a ≤ S4096x8x128.size a := fun d0 v8 k0_hw1 k0_h210 => k0_hw1.2.2.2.2.2.2.2.2.2.2.1.2.2.2.2.2.2.2.2.2.2.2.2.2.2.2.2.2.2.2.2.2.2.2.2.2.2.2.2.2.1 k0_h210
theorem k0_off351_inb : ∀ (d0 : Dev nD) (v8 : BitVec 32) (k0_hw1 : k0_chk1 d0 v8), ∀ (k0_h211 : k0_cond211 d0 v8 = 1#1), ∀ a, (k0_off351 d0 v8) a + S256x8x128.size a ≤ S4096x8x128.size a := fun d0 v8 k0_hw1 k0_h211 => k0_hw1.2.2.2.2.2.2.2.2.2.2.1.2.2.2.2.2.2.2.2.2.2.2.2.2.2.2.2.2.2.2.2.2.2.2.2.2.2.2.2.2.2.1 k0_h211
theorem k0_off352_inb : ∀ (d0 : Dev nD) (v8 : BitVec 32) (k0_hw1 : k0_chk1 d0 v8), ∀ (k0_h212 : k0_cond212 d0 v8 = 1#1), ∀ a, (k0_off352 d0 v8) a + S256x8x128.size a ≤ S4096x8x128.size a := fun d0 v8 k0_hw1 k0_h212 => k0_hw1.2.2.2.2.2.2.2.2.2.2.1.2.2.2.2.2.2.2.2.2.2.2.2.2.2.2.2.2.2.2.2.2.2.2.2.2.2.2.2.2.2.2 k0_h212
theorem k0_off353_inb : ∀ (d0 : Dev nD) (v8 : BitVec 32) (k0_hw1 : k0_chk1 d0 v8), ∀ (k0_h213 : k0_cond213 d0 v8 = 1#1), ∀ a, (k0_off353 d0 v8) a + S256x8x128.size a ≤ S4096x8x128.size a := fun d0 v8 k0_hw1 k0_h213 => k0_hw1.2.2.2.2.2.2.2.2.2.2.2.1.1 k0_h213
theorem k0_off354_inb : ∀ (d0 : Dev nD) (v8 : BitVec 32) (k0_hw1 : k0_chk1 d0 v8), ∀ (k0_h214 : k0_cond214 d0 v8 = 1#1), ∀ a, (k0_off354 d0 v8) a + S256x8x128.size a ≤ S4096x8x128.size a := fun d0 v8 k0_hw1 k0_h214 => k0_hw1.2.2.2.2.2.2.2.2.2.2.2.1.2.1 k0_h214
theorem k0_off355_inb : ∀ (d0 : Dev nD) (v8 : BitVec 32) (k0_hw1 : k0_chk1 d0 v8), ∀ (k0_h215 : k0_cond215 d0 v8 = 1#1), ∀ a, (k0_off355 d0 v8) a + S256x8x128.size a ≤ S4096x8x128.size a := fun d0 v8 k0_hw1 k0_h215 => k0_hw1.2.2.2.2.2.2.2.2.2.2.2.1.2.2.1 k0_h215
theorem k0_off356_inb : ∀ (d0 : Dev nD) (v8 : BitVec 32) (k0_hw1 : k0_chk1 d0 v8), ∀ (k0_h216 : k0_cond216 d0 v8 = 1#1), ∀ a, (k0_off356 d0 v8) a + S256x8x128.size a ≤ S4096x8x128.size a := fun d0 v8 k0_hw1 k0_h216 => k0_hw1.2.2.2.2.2.2.2.2.2.2.2.1.2.2.2.1 k0_h216
theorem k0_off357_inb : ∀ (d0 : Dev nD) (v8 : BitVec 32) (k0_hw1 : k0_chk1 d0 v8), ∀ (k0_h217 : k0_cond217 d0 v8 = 1#1), ∀ a, (k0_off357 d0 v8) a + S256x8x128.size a ≤ S4096x8x128.size a := fun d0 v8 k0_hw1 k0_h217 => k0_hw1.2.2.2.2.2.2.2.2.2.2.2.1.2.2.2.2.1 k0_h217
theorem k0_off358_inb : ∀ (d0 : Dev nD) (v8 : BitVec 32) (k0_hw1 : k0_chk1 d0 v8), ∀ (k0_h218 : k0_cond218 d0 v8 = 1#1), ∀ a, (k0_off358 d0 v8) a + S256x8x128.size a ≤ S4096x8x128.size a := fun d0 v8 k0_hw1 k0_h218 => k0_hw1.2.2.2.2.2.2.2.2.2.2.2.1.2.2.2.2.2.1 k0_h218
theorem k0_off359_inb : ∀ (d0 : Dev nD) (v8 : BitVec 32) (k0_hw1 : k0_chk1 d0 v8), ∀ (k0_h219 : k0_cond219 d0 v8 = 1#1), ∀ a, (k0_off359 d0 v8) a + S256x8x128.size a ≤ S4096x8x128.size a := fun d0 v8 k0_hw1 k0_h219 => k0_hw1.2.2.2.2.2.2.2.2.2.2.2.1.2.2.2.2.2.2.1 k0_h219
theorem k0_off360_inb : ∀ (d0 : Dev nD) (v8 : BitVec 32) (k0_hw1 : k0_chk1 d0 v8), ∀ (k0_h220 : k0_cond220 d0 v8 = 1#1), ∀ a, (k0_off360 d0 v8) a + S256x8x128.size a ≤ S4096x8x128.size a := fun d0 v8 k0_hw1 k0_h220 => k0_hw1.2.2.2.2.2.2.2.2.2.2.2.1.2.2.2.2.2.2.2.1 k0_h220
theorem k0_off361_inb : ∀ (d0 : Dev nD) (v8 : BitVec 32) (k0_hw1 : k0_chk1 d0 v8), ∀ (k0_h221 : k0_cond221 d0 v8 = 1#1), ∀ a, (k0_off361 d0 v8) a + S256x8x128.size a ≤ S4096x8x128.size a := fun d0 v8 k0_hw1 k0_h221 => k0_hw1.2.2.2.2.2.2.2.2.2.2.2.1.2.2.2.2.2.2.2.2.1 k0_h221
theorem k0_off362_inb : ∀ (d0 : Dev nD) (v8 : BitVec 32) (k0_hw1 : k0_chk1 d0 v8), ∀ (k0_h222 : k0_cond222 d0 v8 = 1#1), ∀ a, (k0_off362 d0 v8) a + S256x8x128.size a ≤ S4096x8x128.size a := fun d0 v8 k0_hw1 k0_h222 => k0_hw1.2.2.2.2.2.2.2.2.2.2.2.1.2.2.2.2.2.2.2.2.2.1 k0_h222
theorem k0_off363_inb : ∀ (d0 : Dev nD) (v8 : BitVec 32) (k0_hw1 : k0_chk1 d0 v8), ∀ (k0_h223 : k0_cond223 d0 v8 = 1#1), ∀ a, (k0_off363 d0 v8) a + S256x8x128.size a ≤ S4096x8x128.size a := fun d0 v8 k0_hw1 k0_h223 => k0_hw1.2.2.2.2.2.2.2.2.2.2.2.1.2.2.2.2.2.2.2.2.2.2.1 k0_h223
theorem k0_off364_inb : ∀ (d0 : Dev nD) (v8 : BitVec 32) (k0_hw1 : k0_chk1 d0 v8), ∀ (k0_h224 : k0_cond224 d0 v8 = 1#1), ∀ a, (k0_off364 d0 v8) a + S256x8x128.size a ≤ S4096x8x128.size a := fun d0 v8 k0_hw1 k0_h224 => k0_hw1.2.2.2.2.2.2.2.2.2.2.2.1.2.2.2.2.2.2.2.2.2.2.2.1 k0_h224
theorem k0_off365_inb : ∀ (d0 : Dev nD) (v8 : BitVec 32) (k0_hw1 : k0_chk1 d0 v8), ∀ (k0_h225 : k0_cond225 d0 v8 = 1#1), ∀ a, (k0_off365 d0 v8) a + S256x8x128.size a ≤ S4096x8x128.size a := fun d0 v8 k0_hw1 k0_h225 => k0_hw1.2.2.2.2.2.2.2.2.2.2.2.1.2.2.2.2.2.2.2.2.2.2.2.2.1 k0_h225
theorem k0_off366_inb : ∀ (d0 : Dev nD) (v8 : BitVec 32) (k0_hw1 : k0_chk1 d0 v8), ∀ (k0_h226 : k0_cond226 d0 v8 = 1#1), ∀ a, (k0_off366 d0 v8) a + S256x8x128.size a ≤ S4096x8x128.size a := fun d0 v8 k0_hw1 k0_h226 => k0_hw1.2.2.2.2.2.2.2.2.2.2.2.1.2.2.2.2.2.2.2.2.2.2.2.2.2.1 k0_h226
theorem k0_off367_inb : ∀ (d0 : Dev nD) (v8 : BitVec 32) (k0_hw1 : k0_chk1 d0 v8), ∀ (k0_h227 : k0_cond227 d0 v8 = 1#1), ∀ a, (k0_off367 d0 v8) a + S256x8x128.size a ≤ S4096x8x128.size a := fun d0 v8 k0_hw1 k0_h227 => k0_hw1.2.2.2.2.2.2.2.2.2.2.2.1.2.2.2.2.2.2.2.2.2.2.2.2.2.2.1 k0_h227
theorem k0_off368_inb : ∀ (d0 : Dev nD) (v8 : BitVec 32) (k0_hw1 : k0_chk1 d0 v8), ∀ (k0_h228 : k0_cond228 d0 v8 = 1#1), ∀ a, (k0_off368 d0 v8) a + S256x8x128.size a ≤ S4096x8x128.size a := fun d0 v8 k0_hw1 k0_h228 => k0_hw1.2.2.2.2.2.2.2.2.2.2.2.1.2.2.2.2.2.2.2.2.2.2.2.2.2.2.2.1 k0_h228
theorem k0_off369_inb : ∀ (d0 : Dev nD) (v8 : BitVec 32) (k0_hw1 : k0_chk1 d0 v8), ∀ (k0_h229 : k0_cond229 d0 v8 = 1#1), ∀ a, (k0_off369 d0 v8) a + S256x8x128.size a ≤ S4096x8x128.size a := fun d0 v8 k0_hw1 k0_h229 => k0_hw1.2.2.2.2.2.2.2.2.2.2.2.1.2.2.2.2.2.2.2.2.2.2.2.2.2.2.2.2.1 k0_h229
theorem k0_off370_inb : ∀ (d0 : Dev nD) (v8 : BitVec 32) (k0_hw1 : k0_chk1 d0 v8), ∀ (k0_h230 : k0_cond230 d0 v8 = 1#1), ∀ a, (k0_off370 d0 v8) a + S256x8x128.size a ≤ S4096x8x128.size a := fun d0 v8 k0_hw1 k0_h230 => k0_hw1.2.2.2.2.2.2.2.2.2.2.2.1.2.2.2.2.2.2.2.2.2.2.2.2.2.2.2.2.2.1 k0_h230
theorem k0_off371_inb : ∀ (d0 : Dev nD) (v8 : BitVec 32) (k0_hw1 : k0_chk1 d0 v8), ∀ (k0_h231 : k0_cond231 d0 v8 = 1#1), ∀ a, (k0_off371 d0 v8) a + S128x8x128.size a ≤ S4096x8x128.size a := fun d0 v8 k0_hw1 k0_h231 => k0_hw1.2.2.2.2.2.2.2.2.2.2.2.1.2.2.2.2.2.2.2.2.2.2.2.2.2.2.2.2.2.2.1 k0_h231
theorem k0_off372_inb : ∀ (d0 : Dev nD) (v8 : BitVec 32) (k0_hw1 : k0_chk1 d0 v8), ∀ (k0_h232 : k0_cond232 d0 v8 = 1#1), ∀ a, (k0_off372 d0 v8) a + S128x8x128.size a ≤ S4096x8x128.size a := fun d0 v8 k0_hw1 k0_h232 => k0_hw1.2.2.2.2.2.2.2.2.2.2.2.1.2.2.2.2.2.2.2.2.2.2.2.2.2.2.2.2.2.2.2.1 k0_h232
theorem k0_off373_inb : ∀ (d0 : Dev nD) (v8 : BitVec 32) (k0_hw1 : k0_chk1 d0 v8), ∀ (k0_h233 : k0_cond233 d0 v8 = 1#1), ∀ a, (k0_off373 d0 v8) a + S64x8x128.size a ≤ S4096x8x128.size a := fun d0 v8 k0_hw1 k0_h233 => k0_hw1.2.2.2.2.2.2.2.2.2.2.2.1.2.2.2.2.2.2.2.2.2.2.2.2.2.2.2.2.2.2.2.2.1 k0_h233
theorem k0_off374_inb : ∀ (d0 : Dev nD) (v8 : BitVec 32) (k0_hw1 : k0_chk1 d0 v8), ∀ (k0_h234 : k0_cond234 d0 v8 = 1#1), ∀ a, (k0_off374 d0 v8) a + S64x8x128.size a ≤ S4096x8x128.size a := fun d0 v8 k0_hw1 k0_h234 => k0_hw1.2.2.2.2.2.2.2.2.2.2.2.1.2.2.2.2.2.2.2.2.2.2.2.2.2.2.2.2.2.2.2.2.2.1 k0_h234
theorem k0_off375_inb : ∀ (d0 : Dev nD) (v8 : BitVec 32) (k0_hw1 : k0_chk1 d0 v8), ∀ (k0_h235 : k0_cond235 d0 v8 = 1#1), ∀ a, (k0_off375 d0 v8) a + S32x8x128.size a ≤ S4096x8x128.size a := fun d0 v8 k0_hw1 k0_h235 => k0_hw1.2.2.2.2.2.2.2.2.2.2.2.1.2.2.2.2.2.2.2.2.2.2.2.2.2.2.2.2.2.2.2.2.2.2.1 k0_h235
theorem k0_off376_inb : ∀ (d0 : Dev nD) (v8 : BitVec 32) (k0_hw1 : k0_chk1 d0 v8), ∀ (k0_h236 : k0_cond236 d0 v8 = 1#1), ∀ a, (k0_off376 d0 v8) a + S32x8x128.size a ≤ S4096x8x128.size a := fun d0 v8 k0_hw1 k0_h236 => k0_hw1.2.2.2.2.2.2.2.2.2.2.2.1.2.2.2.2.2.2.2.2.2.2.2.2.2.2.2.2.2.2.2.2.2.2.2.1 k0_h236
theorem k0_off377_inb : ∀ (d0 : Dev nD) (v8 : BitVec 32) (k0_hw1 : k0_chk1 d0 v8), ∀ (k0_h237 : k0_cond237 d0 v8 = 1#1), ∀ a, (k0_off377 d0 v8) a + S16x8x128.size a ≤ S4096x8x128.size a := fun d0 v8 k0_hw1 k0_h237 => k0_hw1.2.2.2.2.2.2.2.2.2.2.2.1.2.2.2.2.2.2.2.2.2.2.2.2.2.2.2.2.2.2.2.2.2.2.2.2.1 k0_h237
theorem k0_off378_inb : ∀ (d0 : Dev nD) (v8 : BitVec 32) (k0_hw1 : k0_chk1 d0 v8), ∀ (k0_h238 : k0_cond238 d0 v8 = 1#1), ∀ a, (k0_off378 d0 v8) a + S16x8x128.size a ≤ S4096x8x128.size a := fun d0 v8 k0_hw1 k0_h238 => k0_hw1.2.2.2.2.2.2.2.2.2.2.2.1.2.2.2.2.2.2.2.2.2.2.2.2.2.2.2.2.2.2.2.2.2.2.2.2.2.1 k0_h238
theorem k0_off379_inb : ∀ (d0 : Dev nD) (v8 : BitVec 32) (k0_hw1 : k0_chk1 d0 v8), ∀ (k0_h239 : k0_cond239 d0 v8 = 1#1), ∀ a, (k0_off379 d0 v8) a + S8x8x128.size a ≤ S4096x8x128.size a := fun d0 v8 k0_hw1 k0_h239 => k0_hw1.2.2.2.2.2.2.2.2.2.2.2.1.2.2.2.2.2.2.2.2.2.2.2.2.2.2.2.2.2.2.2.2.2.2.2.2.2.2.1 k0_h239
theorem k0_off380_inb : ∀ (d0 : Dev nD) (v8 : BitVec 32) (k0_hw1 : k0_chk1 d0 v8), ∀ (k0_h240 : k0_cond240 d0 v8 = 1#1), ∀ a, (k0_off380 d0 v8) a + S8x8x128.size a ≤ S4096x8x128.size a := fun d0 v8 k0_hw1 k0_h240 => k0_hw1.2.2.2.2.2.2.2.2.2.2.2.1.2.2.2.2.2.2.2.2.2.2.2.2.2.2.2.2.2.2.2.2.2.2.2.2.2.2.2.1 k0_h240
theorem k0_off381_inb : ∀ (d0 : Dev nD) (v8 : BitVec 32) (k0_hw1 : k0_chk1 d0 v8), ∀ (k0_h241 : k0_cond241 d0 v8 = 1#1), ∀ a, (k0_off381 d0 v8) a + S4x8x128.size a ≤ S4096x8x128.size a := fun d0 v8 k0_hw1 k0_h241 => k0_hw1.2.2.2.2.2.2.2.2.2.2.2.1.2.2.2.2.2.2.2.2.2.2.2.2.2.2.2.2.2.2.2.2.2.2.2.2.2.2.2.2.1 k0_h241
theorem k0_off382_inb : ∀ (d0 : Dev nD) (v8 : BitVec 32) (k0_hw1 : k0_chk1 d0 v8), ∀ (k0_h242 : k0_cond242 d0 v8 = 1#1), ∀ a, (k0_off382 d0 v8) a + S4x8x128.size a ≤ S4096x8x128.size a := fun d0 v8 k0_hw1 k0_h242 => k0_hw1.2.2.2.2.2.2.2.2.2.2.2.1.2.2.2.2.2.2.2.2.2.2.2.2.2.2.2.2.2.2.2.2.2.2.2.2.2.2.2.2.2.1 k0_h242
theorem k0_off383_inb : ∀ (d0 : Dev nD) (v8 : BitVec 32) (k0_hw1 : k0_chk1 d0 v8), ∀ (k0_h243 : k0_cond243 d0 v8 = 1#1), ∀ a, (k0_off383 d0 v8) a + S2x8x128.size a ≤ S4096x8x128.size a := fun d0 v8 k0_hw1 k0_h243 => k0_hw1.2.2.2.2.2.2.2.2.2.2.2.1.2.2.2.2.2.2.2.2.2.2.2.2.2.2.2.2.2.2.2.2.2.2.2.2.2.2.2.2.2.2.1 k0_h243
theorem k0_off384_inb : ∀ (d0 : Dev nD) (v8 : BitVec 32) (k0_hw1 : k0_chk1 d0 v8), ∀ (k0_h244 : k0_cond244 d0 v8 = 1#1), ∀ a, (k0_off384 d0 v8) a + S2x8x128.size a ≤ S4096x8x128.size a := fun d0 v8 k0_hw1 k0_h244 => k0_hw1.2.2.2.2.2.2.2.2.2.2.2.1.2.2.2.2.2.2.2.2.2.2.2.2.2.2.2.2.2.2.2.2.2.2.2.2.2.2.2.2.2.2.2 k0_h244
theorem k0_off385_inb : ∀ (d0 : Dev nD) (v8 : BitVec 32) (k0_hw1 : k0_chk1 d0 v8), ∀ (k0_h245 : k0_cond245 d0 v8 = 1#1), ∀ a, (k0_off385 d0 v8) a + S1x8x128.size a ≤ S4096x8x128.size a := fun d0 v8 k0_hw1 k0_h245 => k0_hw1.2.2.2.2.2.2.2.2.2.2.2.2.1 k0_h245
theorem k0_off386_inb : ∀ (d0 : Dev nD) (v8 : BitVec 32) (k0_hw1 : k0_chk1 d0 v8), ∀ (k0_h246 : k0_cond246 d0 v8 = 1#1), ∀ a, (k0_off386 d0 v8) a + S1x8x128.size a ≤ S4096x8x128.size a := fun d0 v8 k0_hw1 k0_h246 => k0_hw1.2.2.2.2.2.2.2.2.2.2.2.2.2 k0_h246

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Talk.lean ====
/- The devices' places, the semaphore cells the kernel's transfers use, and the schedule of what each
   cell's one round delivers, with contents. Everything is stated for any contents of the two scratch
   buffers (`Zf`, `Of`), which the run supplies. -/
module

public import proofs.«01_k».proof.Proof.Gen.KernelIdeal.Frame
public import proofs.«01_k».proof.Proof.Gen.KernelIdeal.Skeleton
public import Idealize.ShloMosaic.Lib.Rounds
public import Idealize.ShloMosaic.Lib.Pipeline.RegionTalk
public import Idealize.ShloMosaic.Lib.ValueIdxCore

@[expose] public section

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]

/-! ## The devices -/

/-- The first mesh coordinate of a device. -/
def xx (c : Dev nD) : ℕ := c.val / 2
/-- The second mesh coordinate of a device. -/
def yy (c : Dev nD) : ℕ := c.val % 2
/-- The neighbour along the second mesh axis. -/
def yp (c : Dev nD) : Dev nD := ⟨2 * (c.val / 2) + (1 - c.val % 2), by have : c.val < 4 := c.isLt; show _ < 4; omega⟩
/-- The neighbour along the first mesh axis. -/
def xp (c : Dev nD) : Dev nD := ⟨2 * (1 - c.val / 2) + c.val % 2, by have : c.val < 4 := c.isLt; show _ < 4; omega⟩

theorem yp_yp : ∀ c : Dev nD, yp (yp c) = c := by decide
theorem xp_xp : ∀ c : Dev nD, xp (xp c) = c := by decide
theorem yp_xp : ∀ c : Dev nD, yp (xp c) = xp (yp c) := by decide
theorem xx_lt (c : Dev nD) : xx c < 2 := by have : c.val < 4 := c.isLt; unfold xx; omega
theorem yy_lt (c : Dev nD) : yy c < 2 := by have : c.val < 4 := c.isLt; unfold yy; omega
theorem xx_yp : ∀ c : Dev nD, xx (yp c) = xx c := by decide
theorem yy_yp : ∀ c : Dev nD, yy (yp c) = 1 - yy c := by decide
theorem xx_xp : ∀ c : Dev nD, xx (xp c) = 1 - xx c := by decide
theorem yy_xp : ∀ c : Dev nD, yy (xp c) = yy c := by decide

/-! ## The resources -/

/-- The rounds of the transfers: a cell's duties are named by a Boolean (only the barrier cell has two). -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-- The three buffers the kernel's transfers touch, on a device. -/
abbrev zL (c : Dev nD) : Loc nD τ sig := (c : Thread nD τ).loc cc0_scratch0
abbrev oL (c : Dev nD) : Loc nD τ sig := (c : Thread nD τ).loc cc0_scratch1
abbrev uL (c : Dev nD) : Loc nD τ sig := (c : Thread nD τ).loc main_v10

/-- The elements of a scratch buffer whose row satisfies `p`. -/
def sSet (p : ℕ → Prop) [DecidablePred p] : Finset S2560x8x128.Idx := Finset.univ.filter fun i => p (i 0).val
/-- The elements of the output buffer whose row satisfies `p`. -/
def uSet (p : ℕ → Prop) [DecidablePred p] : Finset S4096x8x128.Idx := Finset.univ.filter fun i => p (i 0).val

theorem mem_sSet {p : ℕ → Prop} [DecidablePred p] {i : S2560x8x128.Idx} : i ∈ sSet p ↔ p (i 0).val := by
  unfold sSet; rw [Finset.mem_filter]; exact ⟨fun h => h.2, fun h => ⟨Finset.mem_univ _, h⟩⟩
theorem mem_uSet {p : ℕ → Prop} [DecidablePred p] {i : S4096x8x128.Idx} : i ∈ uSet p ↔ p (i 0).val := by
  unfold uSet; rw [Finset.mem_filter]; exact ⟨fun h => h.2, fun h => ⟨Finset.mem_univ _, h⟩⟩

/-- The rows `[a, a + n)`. -/
abbrev InR (a n : ℕ) (r : ℕ) : Prop := a ≤ r ∧ r < a + n

/-- The first row of the half of device `c`'s output that its neighbours fill. -/
def roff (c : Dev nD) : ℕ := 2048 * (1 - yy c)
/-- The first row of the half that device `c` fills itself. -/
def koff (c : Dev nD) : ℕ := 2048 * yy c

/-- Chunk `j` of the sent half that the second-axis transfers of a device with first coordinate `x` move. -/
abbrev cRow (x j : ℕ) : ℕ := 256 * (2 * j + x)

variable (Zf Of : Dev nD → Vec F S2560x8x128 .f32)

/-- What device `c` sends: the rows of its sent scratch buffer. -/
def SB (c : Dev nD) : Vec F S2560x8x128 .f32 := if yy c = 1 then Zf c else Of c
/-- What device `c` keeps. -/
def KB (c : Dev nD) : Vec F S2560x8x128 .f32 := if yy c = 1 then Of c else Zf c

/-- Row `r` of a scratch buffer's first 2048, as an index. -/
def sIx (i : S4096x8x128.Idx) : S2560x8x128.Idx :=
  ix3 (n0 := 2560) (n1 := 8) (n2 := 128) ⟨(i 0).val % 2048, by have : (i 0).val % 2048 < 2048 := Nat.mod_lt _ (by decide); omega⟩ (i 1) (i 2)

/-- The output of device `c`: the kept half from its own kept buffer; of the other half the chunks of its own
    parity from its second-axis neighbour, the others from the neighbour of its first-axis neighbour. -/
def Ofin (c : Dev nD) : Vec F S4096x8x128 .f32 := fun i =>
  if (i 0).val / 2048 = yy c then KB Zf Of c (sIx i)
  else if ((i 0).val % 2048) / 256 % 2 = xx c then SB Zf Of (yp c) (sIx i)
  else SB Zf Of (yp (xp c)) (sIx i)

/-! ## The cells -/

/-- The semaphore of kind `a` (0: second-axis source, 1: second-axis target, 2: first-axis source, 3: first-axis
    target) of transfer `j` on device `c`. -/
def usem (c : Dev nD) (a j : Fin 4) : DmaSem sig :=
  ⟨4 + 10 * a.val + 2 * j.val + (if a.val = 3 then 1 - xx c else xx c), by
    have := a.isLt; have := j.isLt; have := xx_lt c; show _ < 88; split <;> omega⟩
/-- The semaphore of the kept half's copy. -/
def ksem : DmaSem sig := ⟨76, by show 76 < 88; decide⟩
/-- The barrier semaphore. -/
abbrev barS : Sem sig := 0

abbrev uc (c : Dev nD) (a j : Fin 4) : GSem nD τ sig := ((c : Thread nD τ), .dma (usem c a j))
abbrev kc (c : Dev nD) : GSem nD τ sig := ((c : Thread nD τ), .dma ksem)
abbrev bc (c : Dev nD) : GSem nD τ sig := ((c : Thread nD τ), .reg barS)

/-- Which transfer a DMA semaphore of device `c` serves. -/
def dec (c : Dev nD) (s : DmaSem sig) : Option (Fin 4 × Fin 4) :=
  (List.finRange 4 ×ˢ List.finRange 4).find? fun p => decide (usem c p.1 p.2 = s)

theorem dec_usem : ∀ (c : Dev nD) (a j : Fin 4), dec c (usem c a j) = some (a, j) := by decide +kernel
theorem dec_ksem : ∀ c : Dev nD, dec c ksem = none := by decide +kernel
theorem usem_ne_ksem : ∀ (c : Dev nD) (a j : Fin 4), usem c a j ≠ ksem := by decide +kernel

/-- What one chunk's transfer credits its semaphores with. -/
abbrev NC : ℕ := 32768
/-- What the kept half's copy credits its semaphore with. -/
abbrev NK : ℕ := 262144

theorem amt_c {off : Fin 3 → ℕ} {inb h} (s : DmaSem sig) :
    ((Memref.whole main_v10).slice (Rect.unit (s := S4096x8x128) off S256x8x128.size inb) h).view.amount (.dma s) = NC := by
  show RefSig.tileCredit S256x8x128 .f32 = NC
  decide +kernel
theorem amt_k {off : Fin 3 → ℕ} {inb h} (s : DmaSem sig) :
    ((Memref.whole main_v10).slice (Rect.unit (s := S4096x8x128) off S2048x8x128.size inb) h).view.amount (.dma s) = NK := by
  show RefSig.tileCredit S2048x8x128 .f32 = NK
  decide +kernel

/-! ## The payloads -/

/-- Rows of the sent scratch buffer of device `c`, at the contents it sends. -/
def sentPt (c : Dev nD) (p : ℕ → Prop) [DecidablePred p] : sProp 𝕄 :=
  if yy c = 1 then (zL c ↦[sSet p]{fullShare} Zf c) else (oL c ↦[sSet p]{fullShare} Of c)
/-- Rows of the kept scratch buffer of device `c`, at the contents it keeps. -/
def keptPt (c : Dev nD) (p : ℕ → Prop) [DecidablePred p] : sProp 𝕄 :=
  if yy c = 1 then (oL c ↦[sSet p]{fullShare} Of c) else (zL c ↦[sSet p]{fullShare} Zf c)
/-- Rows of the output of device `c`, at their final contents. -/
def outPt (c : Dev nD) (p : ℕ → Prop) [DecidablePred p] : sProp 𝕄 := uL c ↦[uSet p]{fullShare} Ofin Zf Of c
/-- Rows of the output of device `c`, at contents not chosen. -/
def outAny (c : Dev nD) (p : ℕ → Prop) [DecidablePred p] : sProp 𝕄 :=
  iprop(∃ f : Buf (Elt F) (uL c), uL c ↦[uSet p]{fullShare} f)

/-- Chunk `j` that device `c` receives over the second axis. -/
abbrev RowR (c : Dev nD) (j : ℕ) (r : ℕ) : Prop := InR (roff c + cRow (xx c) j) 256 r
/-- Chunk `j` that device `c` receives over the first axis. -/
abbrev RowF (c : Dev nD) (j : ℕ) (r : ℕ) : Prop := InR (roff c + cRow (1 - xx c) j) 256 r
/-- The chunks from the `k`-th on that device `c` receives over the second axis. -/
abbrev RowsR (c : Dev nD) (k : ℕ) (r : ℕ) : Prop := InR (roff c) 2048 r ∧ (r % 2048) / 256 % 2 = xx c ∧ k ≤ (r % 2048) / 512
/-- The chunks from the `k`-th on that device `c` receives over the first axis. -/
abbrev RowsF (c : Dev nD) (k : ℕ) (r : ℕ) : Prop := InR (roff c) 2048 r ∧ (r % 2048) / 256 % 2 ≠ xx c ∧ k ≤ (r % 2048) / 512

/-- What the second-axis neighbour's signal brings: the rows that it receives over the second axis, its target
    cells' first round reached. -/
def barY (c : Dev nD) : sProp 𝕄 :=
  iprop(outAny (yp c) (RowsR (yp c) 0) ∗ bigSep Finset.univ fun j : Fin 4 => reached ER (uc (yp c) 1 j) 0)
/-- What the first-axis neighbour's signal brings. -/
def barX (c : Dev nD) : sProp 𝕄 :=
  iprop(outAny (xp c) (RowsF (xp c) 0) ∗ bigSep Finset.univ fun j : Fin 4 => reached ER (uc (xp c) 3 j) 0)

/-- What a transfer's cell delivers. -/
def upay (c : Dev nD) (a j : Fin 4) : sProp 𝕄 :=
  if a = 0 then sentPt Zf Of c (InR (cRow (xx c) j.val) 256)
  else if a = 3 then outPt Zf Of c (RowF c j.val)
  else outPt Zf Of c (RowR c j.val)

/-- What the kept half's copy delivers. -/
def kpay (c : Dev nD) : sProp 𝕄 :=
  iprop(outPt Zf Of c (InR (koff c) 2048) ∗ keptPt Zf Of c (InR 0 2048))

/-- What a DMA cell delivers. -/
def dpay (c : Dev nD) (s : DmaSem sig) : sProp 𝕄 :=
  if s = ksem then kpay Zf Of c
  else match dec c s with
    | some p => upay Zf Of c p.1 p.2
    | none => iprop(emp)

/-- The schedule: one round on every cell in use. -/
def Rd : Rounds.Schedule (GSem nD τ sig) Bool 𝕄 where
  duties g r := if r = 0 then (match g.2 with
    | .reg _ => {false, true}
    | .dma s => if s = ksem then {false} else if (dec g.1.1 s).isSome then {false} else ∅) else ∅
  unitless _ := False
  amount g _ _ := match g.2 with
    | .reg _ => 1
    | .dma s => if s = ksem then NK else NC
  payload g _ d := match g.2 with
    | .reg _ => if d then barX g.1.1 else barY g.1.1
    | .dma s => dpay Zf Of g.1.1 s
  amount_pos g r d h := by
    rcases g with ⟨th, s | s⟩
    · exact Nat.one_pos
    · show 0 < if s = ksem then NK else NC
      split <;> decide

instance outPt_storable (c : Dev nD) (p : ℕ → Prop) [DecidablePred p] :
    BI.Storable (upEmb : UEmb _ 𝕄) (outPt Zf Of c p) := by unfold outPt; infer_instance
instance sentPt_storable (c : Dev nD) (p : ℕ → Prop) [DecidablePred p] :
    BI.Storable (upEmb : UEmb _ 𝕄) (sentPt Zf Of c p) := by unfold sentPt; split <;> infer_instance
instance keptPt_storable (c : Dev nD) (p : ℕ → Prop) [DecidablePred p] :
    BI.Storable (upEmb : UEmb _ 𝕄) (keptPt Zf Of c p) := by unfold keptPt; split <;> infer_instance

instance Rd_payload_storable (g : GSem nD τ sig) (r : ℕ) (d : Bool) :
    BI.Storable (upEmb : UEmb _ 𝕄) ((Rd Zf Of).payload g r d) := by
  rcases g with ⟨th, s | s⟩
  · show BI.Storable upEmb (if d then barX th.1 else barY th.1)
    unfold barX barY outAny
    split <;> infer_instance
  · show BI.Storable upEmb (dpay Zf Of th.1 s)
    unfold dpay kpay
    split
    · infer_instance
    · split
      · unfold upay; (repeat' split) <;> infer_instance
      · infer_instance

section Sched

variable (c : Dev nD) (a j : Fin 4)

theorem duties_b : (Rd Zf Of).duties (bc c) 0 = {false, true} := rfl
theorem duties_u : (Rd Zf Of).duties (uc c a j) 0 = {false} := by
  show (if (0 : ℕ) = 0 then (if usem c a j = ksem then {false} else if (dec c (usem c a j)).isSome then {false} else ∅) else ∅) = ({false} : Finset Bool)
  rw [if_pos rfl, if_neg (usem_ne_ksem c a j), dec_usem]; rfl
theorem duties_k : (Rd Zf Of).duties (kc c) 0 = {false} := by
  show (if (0 : ℕ) = 0 then (if ksem = ksem then {false} else if (dec c ksem).isSome then {false} else ∅) else ∅) = ({false} : Finset Bool)
  rw [if_pos rfl, if_pos rfl]
theorem duties_later (g : GSem nD τ sig) : ∀ r, 1 ≤ r → (Rd Zf Of).duties g r = ∅ :=
  fun r hr => by dsimp only [Rd]; rw [if_neg (by omega)]

theorem amount_b (d : Bool) : (Rd Zf Of).amount (bc c) 0 d = 1 := rfl
theorem amount_u (d : Bool) : (Rd Zf Of).amount (uc c a j) 0 d = NC := if_neg (usem_ne_ksem c a j)
theorem amount_k (d : Bool) : (Rd Zf Of).amount (kc c) 0 d = NK := by
  show (if ksem = ksem then NK else NC) = NK
  exact if_pos rfl

theorem expect_b : (Rd Zf Of).expect (bc c) 0 = 2 := by
  unfold Schedule.expect Schedule.amountOf; rw [duties_b, Finset.sum_pair (by decide), amount_b, amount_b]
theorem expect_u : (Rd Zf Of).expect (uc c a j) 0 = NC := by
  unfold Schedule.expect Schedule.amountOf; rw [duties_u, Finset.sum_singleton, amount_u]
theorem expect_k : (Rd Zf Of).expect (kc c) 0 = NK := by
  unfold Schedule.expect Schedule.amountOf; rw [duties_k, Finset.sum_singleton, amount_k]

theorem payload_bY : (Rd Zf Of).payload (bc c) 0 false = barY c := rfl
theorem payload_bX : (Rd Zf Of).payload (bc c) 0 true = barX c := rfl
theorem payload_u (d : Bool) : (Rd Zf Of).payload (uc c a j) 0 d = upay Zf Of c a j := by
  show dpay Zf Of c (usem c a j) = _
  unfold dpay; rw [if_neg (usem_ne_ksem c a j), dec_usem]
theorem payload_k (d : Bool) : (Rd Zf Of).payload (kc c) 0 d = kpay Zf Of c := by
  show dpay Zf Of c ksem = _
  unfold dpay; rw [if_pos rfl]

theorem rest_b : bigSep ((Rd Zf Of).duties (bc c) 0 \ ∅) (fun d => (Rd Zf Of).payload (bc c) 0 d) = iprop(barY c ∗ barX c) := by
  rw [Finset.sdiff_empty, duties_b, bigSep_insert (by decide), bigSep_singleton, payload_bY, payload_bX]; rfl
theorem rest_u : bigSep ((Rd Zf Of).duties (uc c a j) 0 \ ∅) (fun d => (Rd Zf Of).payload (uc c a j) 0 d) = upay Zf Of c a j := by
  rw [Finset.sdiff_empty, duties_u, bigSep_singleton, payload_u]
theorem rest_k : bigSep ((Rd Zf Of).duties (kc c) 0 \ ∅) (fun d => (Rd Zf Of).payload (kc c) 0 d) = kpay Zf Of c := by
  rw [Finset.sdiff_empty, duties_k, bigSep_singleton, payload_k]

end Sched

/-! ## What is owed; the levels -/

/-- The numbers from `k` on, below four. -/
def ge (k : ℕ) : Finset (Fin 4) := Finset.univ.filter fun j => k ≤ j.val
/-- The numbers below `k` and below four. -/
def lt (k : ℕ) : Finset (Fin 4) := Finset.univ.filter fun j => j.val < k

/-- What device `c` owes once `k` of its second-axis and `l` of its first-axis transfers are started. -/
def Due (c : Dev nD) (k l : ℕ) : CellTallies nD τ sig Unit :=
  (∑ j ∈ ge k, tallyAt (uc (yp c) 1 j) () NC) + ∑ j ∈ ge l, tallyAt (uc (xp c) 3 j) () NC

/-- What device `c` owes at launch. -/
def O₀ (c : Dev nD) : CellTallies nD τ sig Unit := Due c 0 0 + tallyAt (bc (xp c)) () 1 + tallyAt (bc (yp c)) () 1

def L (g : GSem nD τ sig) : Finset Unit := if g.1.2 = .tc then {()} else ∅
/-- The barrier cells at 1, the second-axis target cells at 2, the first-axis target cells at 3, the rest at 0. -/
def lv (g : GSem nD τ sig) (_ : Unit) : ℕ := match g.2 with
  | .reg _ => 1
  | .dma s => if 14 ≤ s.val ∧ s.val < 24 then 2 else if 34 ≤ s.val ∧ s.val < 44 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_u1 : ∀ (c : Dev nD) (j : Fin 4), lv (uc c 1 j) () = 2 := by decide +kernel
theorem lv_u3 : ∀ (c : Dev nD) (j : Fin 4), lv (uc c 3 j) () = 3 := by decide +kernel

theorem ge_zero : ge 0 = Finset.univ := by decide
theorem ge_four : ge 4 = ∅ := by decide
theorem lt_zero : lt 0 = ∅ := by decide
theorem lt_four : lt 4 = Finset.univ := by decide
theorem ge_insert : ∀ k : Fin 4, ge k.val = insert k (ge (k.val + 1)) := by decide
theorem ge_notMem : ∀ k : Fin 4, k ∉ ge (k.val + 1) := by decide
theorem lt_insert : ∀ k : Fin 4, lt (k.val + 1) = insert k (lt k.val) := by decide
theorem lt_notMem : ∀ k : Fin 4, k ∉ lt k.val := by decide

theorem ge_pop (k : Fin 4) (Φ : Fin 4 → sProp 𝕄) : bigSep (ge k.val) Φ = iprop(Φ k ∗ bigSep (ge (k.val + 1)) Φ) := by
  rw [ge_insert, bigSep_insert (ge_notMem k)]; rfl
theorem lt_push (k : Fin 4) (Φ : Fin 4 → sProp 𝕄) : bigSep (lt (k.val + 1)) Φ = iprop(Φ k ∗ bigSep (lt k.val) Φ) := by
  rw [lt_insert, bigSep_insert (lt_notMem k)]; rfl

theorem Due_y (c : Dev nD) (k : Fin 4) (l : ℕ) : Due c k.val l = Due c (k.val + 1) l + tallyAt (uc (yp c) 1 k) () NC := by
  unfold Due; rw [ge_insert k, Finset.sum_insert (ge_notMem k), add_comm (tallyAt _ _ _), add_right_comm]
theorem Due_x (c : Dev nD) (k : ℕ) (l : Fin 4) : Due c k l.val = Due c k (l.val + 1) + tallyAt (uc (xp c) 3 l) () NC := by
  unfold Due; rw [ge_insert l, Finset.sum_insert (ge_notMem l), add_comm (tallyAt _ _ _), add_assoc]
theorem Due_four (c : Dev nD) : Due c 4 4 = 0 := by
  unfold Due; rw [ge_four, Finset.sum_empty, Finset.sum_empty, add_zero]

theorem sum_tally_pos {T : Finset (Fin 4)} {f : Fin 4 → GSem nD τ sig} {g : GSem nD τ sig} {u : Unit}
    (h : 0 < (∑ j ∈ T, (tallyAt (f j) () NC : CellTallies nD τ sig Unit)) g u) : ∃ j, g = f j := by
  rw [Finset.sum_apply, Finsupp.finset_sum_apply] at h
  obtain ⟨j, -, hj⟩ := Finset.exists_ne_zero_of_sum_ne_zero (Nat.pos_iff_ne_zero.mp h)
  refine ⟨j, ?_⟩
  rw [tallyAt_apply] at hj
  by_contra hne
  exact hj (if_neg fun hh => hne hh.1)

theorem Due_pos {c : Dev nD} {k l : ℕ} {g : GSem nD τ sig} {u : Unit} (h : 0 < Due c k l g u) :
    (k < 4 ∧ ∃ j, g = uc (yp c) 1 j) ∨ ∃ j, g = uc (xp c) 3 j := by
  unfold Due at h
  rw [Pi.add_apply, Finsupp.add_apply] at h
  rcases Nat.add_pos_iff_pos_or_pos.mp h with h | h
  · by_cases hk : k < 4
    · exact .inl ⟨hk, sum_tally_pos h⟩
    · have : ge k = ∅ := by
        unfold ge; rw [Finset.filter_eq_empty_iff]; intro j _; have := j.isLt; omega
      rw [this, Finset.sum_empty] at h
      exact absurd h (Nat.lt_irrefl 0)
  · exact .inr (sum_tally_pos h)

/-- A device that owes transfers only may wait on its barrier cell. -/
theorem mayWait_b (c : Dev nD) (k l : ℕ) : (levAts L lv : sProp 𝕄) ⊢ MayWait (c : Thread nD τ) (.reg barS) () (Due c k l) :=
  MayOwe.of_cut (L := L) (lev := lv) 1 (fun p hp => by rw [Finset.mem_singleton.mp hp, L_tc]; exact Finset.mem_singleton_self _)
    (fun g u hg => by
      rcases Due_pos hg with ⟨-, j, rfl⟩ | ⟨j, rfl⟩ <;> (rw [L_tc]; exact Finset.mem_singleton_self _))
    (fun p hp => by rw [Finset.mem_singleton.mp hp]; exact le_rfl)
    (fun g u hg => by
      rcases Due_pos hg with ⟨-, j, rfl⟩ | ⟨j, rfl⟩
      · exact (lv_u1 _ _).symm ▸ (by decide : 1 < 2)
      · exact (lv_u3 _ _).symm ▸ (by decide : 1 < 3))

/-- A device that owes first-axis transfers only may wait on its second-axis target cells. -/
theorem mayWait_y (c : Dev nD) (l : ℕ) (j : Fin 4) :
    (levAts L lv : sProp 𝕄) ⊢ MayWait (c : Thread nD τ) (.dma (usem c 1 j)) () (Due c 4 l) :=
  MayOwe.of_cut (L := L) (lev := lv) 2 (fun p hp => by rw [Finset.mem_singleton.mp hp, L_tc]; exact Finset.mem_singleton_self _)
    (fun g u hg => by
      rcases Due_pos hg with ⟨-, j, rfl⟩ | ⟨j, rfl⟩ <;> (rw [L_tc]; exact Finset.mem_singleton_self _))
    (fun p hp => by rw [Finset.mem_singleton.mp hp]; exact (lv_u1 c j).le)
    (fun g u hg => by
      rcases Due_pos hg with ⟨hk, -⟩ | ⟨j, rfl⟩
      · exact absurd hk (by decide)
      · exact (lv_u3 _ _).symm ▸ (by decide : 2 < 3))

end Cert.KernelIdeal.Talk
-- ==== Proof.Steps.lean ====
/- The rules the kernel's body is run by: how a body is composed, what the persistent context is, and the states of
   the first phase (packing the two scratch buffers and sending their chunks). -/
module

public import proofs.«01_k».proof.Proof.Talk
public import Idealize.ShloMosaic.Lib.Pipeline.ValueKit.Geometry

@[expose] public section

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

abbrev 𝒱₀ : Variants := Variants.none

/-- The weakest precondition of a program of the kernel's on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Compose

variable {c : Dev nD} {α β : Type}

/-- A program followed by another. -/
theorem wseq {P : sProp (MT nD τ sig Unit (Elt F) ℕ UU ℕ)} {Q : β → sProp (MT nD τ sig Unit (Elt F) ℕ UU ℕ)} {p : Prog (TpuEff nD τ sig (Elt F) Λ₀ .tc) α} {k : α → Prog (TpuEff nD τ sig (Elt F) Λ₀ .tc) β}
    {S : α → sProp 𝕄} (h1 : P ⊢ WP c p S) (h2 : ∀ a, S a ⊢ WP c (k a) Q) : P ⊢ WP c (p >>= k) Q := by
  unfold WP; rw [wp_bind]
  exact h1.trans (wp_mono _ _ _ h2)

/-- A program followed by another, what it returns known. -/
theorem wseqEq {P : sProp (MT nD τ sig Unit (Elt F) ℕ UU ℕ)} {Q : β → sProp (MT nD τ sig Unit (Elt F) ℕ UU ℕ)} {R : sProp (MT nD τ sig Unit (Elt F) ℕ UU ℕ)} {p : Prog (TpuEff nD τ sig (Elt F) Λ₀ .tc) α} {k : α → Prog (TpuEff nD τ sig (Elt F) Λ₀ .tc) β} (v : α)
    (h1 : P ⊢ WP c p (fun a => iprop(⌜a = v⌝ ∗ R))) (h2 : R ⊢ WP c (k v) Q) : P ⊢ WP c (p >>= k) Q :=
  wseq h1 fun a => by
    iintro ⟨%h, H⟩
    subst h
    iapply h2
    iexact H

/-- A program followed by another, a fact about what it returns known, a resource framed. -/
theorem wseqP {P : sProp (MT nD τ sig Unit (Elt F) ℕ UU ℕ)} {Q : β → sProp (MT nD τ sig Unit (Elt F) ℕ UU ℕ)} {R X : sProp (MT nD τ sig Unit (Elt F) ℕ UU ℕ)} {p : Prog (TpuEff nD τ sig (Elt F) Λ₀ .tc) α} {k : α → Prog (TpuEff nD τ sig (Elt F) Λ₀ .tc) β} {Φ : α → Prop}
    (h1 : P ⊢ WP c p (fun a => iprop(⌜Φ a⌝ ∗ R))) (h2 : ∀ a, Φ a → iprop(R ∗ X) ⊢ WP c (k a) Q) : iprop(P ∗ X) ⊢ WP c (p >>= k) Q := by
  refine wseq (S := fun a => iprop((⌜Φ a⌝ ∗ R) ∗ X)) ?_ fun a => ?_
  · exact (sep_mono_left h1).trans (wp_frame_r _ _ _)
  · iintro ⟨⟨%h, H⟩, HX⟩
    iapply (h2 a h)
    isplitl [H] <;> iassumption

/-- A program followed by another, a resource framed. -/
theorem wseqF {P : sProp (MT nD τ sig Unit (Elt F) ℕ UU ℕ)} {Q : β → sProp (MT nD τ sig Unit (Elt F) ℕ UU ℕ)} {R X : sProp (MT nD τ sig Unit (Elt F) ℕ UU ℕ)} {p : Prog (TpuEff nD τ sig (Elt F) Λ₀ .tc) α} {k : α → Prog (TpuEff nD τ sig (Elt F) Λ₀ .tc) β}
    (h1 : P ⊢ WP c p (fun _ => R)) (h2 : ∀ a, iprop(R ∗ X) ⊢ WP c (k a) Q) : iprop(P ∗ X) ⊢ WP c (p >>= k) Q :=
  wseq (S := fun _ => iprop(R ∗ X)) ((sep_mono_left h1).trans (wp_frame_r _ _ _)) h2

/-- A conditional whose one branch runs a program before the common rest, the other the rest at once. -/
theorem wif {P : sProp (MT nD τ sig Unit (Elt F) ℕ UU ℕ)} {Q : β → sProp (MT nD τ sig Unit (Elt F) ℕ UU ℕ)} {R : sProp (MT nD τ sig Unit (Elt F) ℕ UU ℕ)} {C : Prop} [Decidable C] {p : C → Prog (TpuEff nD τ sig (Elt F) Λ₀ .tc) PUnit}
    {k : PUnit → Prog (TpuEff nD τ sig (Elt F) Λ₀ .tc) β} {r : ¬ C → Prog (TpuEff nD τ sig (Elt F) Λ₀ .tc) β}
    (hr : r = fun _ => k ⟨⟩)
    (h1 : ∀ h : C, P ⊢ WP c (p h) (fun _ => R)) (h0 : ¬ C → P ⊢ R) (h2 : R ⊢ WP c (k ⟨⟩) Q) :
    P ⊢ WP c (if h : C then (p h >>= k) else r h) Q := by
  subst hr
  by_cases h : C
  · rw [dif_pos h]; exact wseq (h1 h) fun _ => h2
  · rw [dif_neg h]; exact (h0 h).trans h2

/-- A conditional that is not taken. -/
theorem wskip {P : sProp (MT nD τ sig Unit (Elt F) ℕ UU ℕ)} {Q : β → sProp (MT nD τ sig Unit (Elt F) ℕ UU ℕ)} {C : Prop} [Decidable C] {p : C → Prog (TpuEff nD τ sig (Elt F) Λ₀ .tc) β}
    {r : ¬ C → Prog (TpuEff nD τ sig (Elt F) Λ₀ .tc) β}
    (hC : ¬ C) (h2 : P ⊢ WP c (r hC) Q) : P ⊢ WP c (if h : C then p h else r h) Q := by
  rw [dif_neg hC]; exact h2

/-- The return of a program. -/
theorem wret {P : sProp (MT nD τ sig Unit (Elt F) ℕ UU ℕ)} {Q : β → sProp (MT nD τ sig Unit (Elt F) ℕ UU ℕ)} {v : β} (h : P ⊢ Q v) : P ⊢ WP c (Pure.pure v) Q := by
  unfold WP; rw [wp_pure]
  exact h.trans (by iintro H; imodintro; iexact H)

end Compose

/-! ## The persistent context -/

variable (Zf Of : Dev nD → Vec F S2560x8x128 .f32) (K : GSem nD τ sig → ℕ)

/-- The invariant of a cell. -/
abbrev Inv (g : GSem nD τ sig) : sProp 𝕄 := cellInv ER (Rd Zf Of) (K g) g

/-- The invariants of all cells in use. -/
def Invs : sProp 𝕄 :=
  iprop((bigSep (Finset.univ : Finset (Dev nD × (Fin 4 × Fin 4))) fun p => Inv Zf Of K (uc p.1 p.2.1 p.2.2))
    ∗ (bigSep (Finset.univ : Finset (Dev nD)) fun c => Inv Zf Of K (kc c))
    ∗ (bigSep (Finset.univ : Finset (Dev nD)) fun c => Inv Zf Of K (bc c)))

instance Invs_persistent : BI.Persistent (Invs Zf Of K) := by unfold Invs; infer_instance

theorem Invs_u (c : Dev nD) (a j : Fin 4) : Invs Zf Of K ⊢ Inv Zf Of K (uc c a j) := by
  have h : bigSep Finset.univ (fun p : Dev nD × (Fin 4 × Fin 4) => Inv Zf Of K (uc p.1 p.2.1 p.2.2)) ⊢ _ := BI.bigSep_elim (Finset.mem_univ (c, (a, j)))
  unfold Invs
  iintro ⟨H, -⟩
  iapply h
  iexact H
theorem Invs_k (c : Dev nD) : Invs Zf Of K ⊢ Inv Zf Of K (kc c) := by
  have h : bigSep Finset.univ (fun c : Dev nD => Inv Zf Of K (kc c)) ⊢ _ := BI.bigSep_elim (Finset.mem_univ c)
  unfold Invs
  iintro ⟨-, H, -⟩
  iapply h
  iexact H
theorem Invs_b (c : Dev nD) : Invs Zf Of K ⊢ Inv Zf Of K (bc c) := by
  have h : bigSep Finset.univ (fun c : Dev nD => Inv Zf Of K (bc c)) ⊢ _ := BI.bigSep_elim (Finset.mem_univ c)
  unfold Invs
  iintro ⟨-, -, H⟩
  iapply h
  iexact H

/-- What the body holds for good once its cells are open: the invariants, the levels, its cells' first round reached. -/
def Ctx (c : Dev nD) : sProp 𝕄 :=
  iprop(Invs Zf Of K ∗ levAts L lv
    ∗ (bigSep (Finset.univ : Finset (Fin 4 × Fin 4)) fun p => reached ER (uc c p.1 p.2) 0) ∗ reached ER (kc c) 0)
/-- What the barrier brings for good: the neighbours' target cells' first round reached. -/
def Nbr (c : Dev nD) : sProp 𝕄 :=
  iprop((bigSep (Finset.univ : Finset (Fin 4)) fun j => reached ER (uc (yp c) 1 j) 0)
    ∗ (bigSep (Finset.univ : Finset (Fin 4)) fun j => reached ER (uc (xp c) 3 j) 0))

instance Ctx_persistent (c : Dev nD) : BI.Persistent (Ctx Zf Of K c) := by unfold Ctx; infer_instance
instance Nbr_persistent (c : Dev nD) : BI.Persistent (Nbr (F := F) c) := by unfold Nbr; infer_instance

theorem Ctx_inv (c : Dev nD) : Ctx Zf Of K c ⊢ Invs Zf Of K := by
  unfold Ctx; iintro ⟨H, -⟩; iexact H
theorem Ctx_lev (c : Dev nD) : Ctx Zf Of K c ⊢ levAts L lv := by
  unfold Ctx; iintro ⟨-, H, -⟩; iexact H
theorem Ctx_u (c : Dev nD) (a j : Fin 4) : Ctx Zf Of K c ⊢ reached ER (uc c a j) 0 := by
  have h : bigSep Finset.univ (fun p : Fin 4 × Fin 4 => (reached ER (uc c p.1 p.2) 0 : sProp 𝕄)) ⊢ _ := BI.bigSep_elim (Finset.mem_univ (a, j))
  unfold Ctx
  iintro ⟨-, -, H, -⟩
  iapply h
  iexact H
theorem Ctx_k (c : Dev nD) : Ctx Zf Of K c ⊢ reached ER (kc c) 0 := by
  unfold Ctx; iintro ⟨-, -, -, H⟩; iexact H
theorem Nbr_y (c : Dev nD) (j : Fin 4) : Nbr c ⊢ (reached ER (uc (yp c) 1 j) 0 : sProp 𝕄) := by
  have h : bigSep Finset.univ (fun j : Fin 4 => (reached ER (uc (yp c) 1 j) 0 : sProp 𝕄)) ⊢ _ := BI.bigSep_elim (Finset.mem_univ j)
  unfold Nbr
  iintro ⟨H, -⟩
  iapply h
  iexact H
theorem Nbr_x (c : Dev nD) (j : Fin 4) : Nbr c ⊢ (reached ER (uc (xp c) 3 j) 0 : sProp 𝕄) := by
  have h : bigSep Finset.univ (fun j : Fin 4 => (reached ER (uc (xp c) 3 j) 0 : sProp 𝕄)) ⊢ _ := BI.bigSep_elim (Finset.mem_univ j)
  unfold Nbr
  iintro ⟨-, H⟩
  iapply h
  iexact H

/-! ## Regions of the buffers -/

/-- The rows `[o, o + n)` of the output, as the elements under a slice. -/
theorem uset_eq {off size : Fin 3 → ℕ} {inb} {o n : ℕ} (ho : off = ![o, 0, 0]) (hs : size = ![n, 8, 128]) :
    ((View.whole main_v10).slice (Rect.unit (s := S4096x8x128) off size inb)).set = uSet (InR o n) := by
  subst ho hs
  rw [View.set_slice_whole]
  ext i
  rw [Rect.mem_set_unit, mem_uSet]
  constructor
  · intro h; exact h 0
  · intro h a
    fin_cases a
    · exact h
    · exact ⟨Nat.zero_le _, by have := (i 1).isLt; show (i 1).val < 0 + 8; change _ < 8 at this; omega⟩
    · exact ⟨Nat.zero_le _, by have := (i 2).isLt; show (i 2).val < 0 + 128; change _ < 128 at this; omega⟩

theorem sset_z {off size : Fin 3 → ℕ} {inb} {o n : ℕ} (ho : off = ![o, 0, 0]) (hs : size = ![n, 8, 128]) :
    ((View.whole cc0_scratch0).slice (Rect.unit (s := S2560x8x128) off size inb)).set = sSet (InR o n) := by
  subst ho hs
  rw [View.set_slice_whole]
  ext i
  rw [Rect.mem_set_unit, mem_sSet]
  constructor
  · intro h; exact h 0
  · intro h a
    fin_cases a
    · exact h
    · exact ⟨Nat.zero_le _, by have := (i 1).isLt; show (i 1).val < 0 + 8; change _ < 8 at this; omega⟩
    · exact ⟨Nat.zero_le _, by have := (i 2).isLt; show (i 2).val < 0 + 128; change _ < 128 at this; omega⟩
theorem sset_o {off size : Fin 3 → ℕ} {inb} {o n : ℕ} (ho : off = ![o, 0, 0]) (hs : size = ![n, 8, 128]) :
    ((View.whole cc0_scratch1).slice (Rect.unit (s := S2560x8x128) off size inb)).set = sSet (InR o n) := by
  subst ho hs
  rw [View.set_slice_whole]
  ext i
  rw [Rect.mem_set_unit, mem_sSet]
  constructor
  · intro h; exact h 0
  · intro h a
    fin_cases a
    · exact h
    · exact ⟨Nat.zero_le _, by have := (i 1).isLt; show (i 1).val < 0 + 8; change _ < 8 at this; omega⟩
    · exact ⟨Nat.zero_le _, by have := (i 2).isLt; show (i 2).val < 0 + 128; change _ < 128 at this; omega⟩

/-! ## The first phase -/

/-- How many of device `c`'s own sends are started once `q` of the conditionals are passed. -/
def place (c : Dev nD) : ℕ := if c.val = 1 then 0 else if c.val = 3 then 1 else if c.val = 0 then 2 else 3
def ks (c : Dev nD) (q : ℕ) : ℕ := q / 4 + (if place c < q % 4 then 1 else 0)

/-- The rows of the sent scratch buffer still in hand after `k` sends. -/
abbrev Uns (c : Dev nD) (k r : ℕ) : Prop := ¬ (r < 2048 ∧ r / 256 % 2 = xx c ∧ r / 512 < k)

/-- The rows of the first scratch buffer in hand after `k` sends. -/
abbrev Zrow (c : Dev nD) (k r : ℕ) : Prop := yy c = 1 → Uns c k r
/-- The rows of the second scratch buffer in hand after `k` sends. -/
abbrev Orow (c : Dev nD) (k r : ℕ) : Prop := ¬ yy c = 1 → Uns c k r

/-- The first scratch buffer with its first `n` lane blocks packed. -/
def zSt (c : Dev nD) (n k : ℕ) : sProp 𝕄 :=
  iprop(∃ f : Buf (Elt F) (zL c), ⌜∀ i : S2560x8x128.Idx, 8 * ((i 0).val / 512) + (i 1).val < n → f i = Zf c i⌝
    ∗ (zL c ↦[sSet (Zrow c k)]{fullShare} f))
/-- The second scratch buffer with its first `n` lane blocks packed. -/
def oSt (c : Dev nD) (n k : ℕ) : sProp 𝕄 :=
  iprop(∃ f : Buf (Elt F) (oL c), ⌜∀ i : S2560x8x128.Idx, 8 * ((i 0).val / 512) + (i 1).val < n → f i = Of c i⌝
    ∗ (oL c ↦[sSet (Orow c k)]{fullShare} f))

/-- The sends' resources after `k` of them: the tokens left, the target rows left, the credits gained, what is owed. -/
def snd (c : Dev nD) (k : ℕ) : sProp 𝕄 :=
  iprop((bigSep (ge k) fun j => iprop(dutyTok ER (uc c 0 j) 0 false ∗ dutyTok ER (uc (yp c) 1 j) 0 false))
    ∗ outAny (yp c) (RowsR (yp c) k)
    ∗ (bigSep (lt k) fun j => cred (tallyAt (uc c 0 j) () NC))
    ∗ ∃ W, owes (c : Thread nD τ) (Due c k 0) W)

/-- What a load of a rectangle of the first operand reads. -/
abbrev rd1 {c : Dev nD} (M : Memref sig .tc .vmem S4096x1024 .f32) (f : Buf (Elt F) (M.view.loc (c : Thread nD τ))) (r : Rect S4096x1024) :
    Vec F r.shape .f32 := (M.access r).read (Elt F) f
/-- What a load of a rectangle of another operand reads. -/
abbrev rd2 {c : Dev nD} (M : Memref sig .tc .vmem S1x4096 .i32) (f : Buf (Elt F) (M.view.loc (c : Thread nD τ))) (r : Rect S1x4096) :
    Vec F r.shape .i32 := (M.access r).read (Elt F) f

section Phase1

variable (M1 : Memref sig .tc .vmem S4096x1024 .f32) (M2 M3 : Memref sig .tc .vmem S1x4096 .i32)
variable (c : Dev nD) (f1 : Buf (Elt F) (M1.view.loc (c : Thread nD τ))) (f2 : Buf (Elt F) (M2.view.loc (c : Thread nD τ)))
variable (f3 : Buf (Elt F) (M3.view.loc (c : Thread nD τ)))

/-- The three operands in VMEM. -/
def inp : sProp 𝕄 :=
  iprop((M1.view.loc (c : Thread nD τ) ↦{fullShare} f1) ∗ (M2.view.loc (c : Thread nD τ) ↦{fullShare} f2)
    ∗ (M3.view.loc (c : Thread nD τ) ↦{fullShare} f3))

/-- The first phase's state: `nz` and `no` lane blocks packed, `q` sends' conditionals passed. -/
def StA (nz no q : ℕ) : sProp 𝕄 :=
  iprop(Ctx Zf Of K c ∗ Nbr c ∗ inp M1 M2 M3 c f1 f2 f3 ∗ zSt Zf c nz (ks c q) ∗ oSt Of c no (ks c q) ∗ snd c (ks c q))

variable {Zf Of K M1 M2 M3 c f1 f2 f3}

/-- A load of the first operand. -/
theorem load1 {nz no q : ℕ} {r : Rect S4096x1024} {hl} :
    StA Zf Of K M1 M2 M3 c f1 f2 f3 nz no q ⊢ WP c (Prog.lift (.load M1 r.toLoadRect hl))
      (fun a => iprop(⌜a = (M1.access r).read (Elt F) f1⌝ ∗ StA Zf Of K M1 M2 M3 c f1 f2 f3 nz no q)) := by
  unfold StA inp
  iintro ⟨HC, HN, ⟨H1, H2, H3⟩, HR⟩
  iapply (wp_load_rect 𝒱₀ (c : Thread nD τ) none Set.univ (m := M1) (r := r) (Finset.subset_univ _)) $$ [H1]
  · iexact H1
  iintro H1
  rw [wp_ret]
  imodintro
  isplitr; · ipureintro; rfl
  isplitl [HC]; · iexact HC
  isplitl [HN]; · iexact HN
  isplitl [H1 H2 H3]
  · isplitl [H1]; · iexact H1
    isplitl [H2] <;> iassumption
  iexact HR

/-- A load of the second operand. -/
theorem load2 {nz no q : ℕ} {r : Rect S1x4096} {hl} :
    StA Zf Of K M1 M2 M3 c f1 f2 f3 nz no q ⊢ WP c (Prog.lift (.load M2 r.toLoadRect hl))
      (fun a => iprop(⌜a = (M2.access r).read (Elt F) f2⌝ ∗ StA Zf Of K M1 M2 M3 c f1 f2 f3 nz no q)) := by
  unfold StA inp
  iintro ⟨HC, HN, ⟨H1, H2, H3⟩, HR⟩
  iapply (wp_load_rect 𝒱₀ (c : Thread nD τ) none Set.univ (m := M2) (r := r) (Finset.subset_univ _)) $$ [H2]
  · iexact H2
  iintro H2
  rw [wp_ret]
  imodintro
  isplitr; · ipureintro; rfl
  isplitl [HC]; · iexact HC
  isplitl [HN]; · iexact HN
  isplitl [H1 H2 H3]
  · isplitl [H1]; · iexact H1
    isplitl [H2] <;> iassumption
  iexact HR

/-- A load of the third operand. -/
theorem load3 {nz no q : ℕ} {r : Rect S1x4096} {hl} :
    StA Zf Of K M1 M2 M3 c f1 f2 f3 nz no q ⊢ WP c (Prog.lift (.load M3 r.toLoadRect hl))
      (fun a => iprop(⌜a = (M3.access r).read (Elt F) f3⌝ ∗ StA Zf Of K M1 M2 M3 c f1 f2 f3 nz no q)) := by
  unfold StA inp
  iintro ⟨HC, HN, ⟨H1, H2, H3⟩, HR⟩
  iapply (wp_load_rect 𝒱₀ (c : Thread nD τ) none Set.univ (m := M3) (r := r) (Finset.subset_univ _)) $$ [H3]
  · iexact H3
  iintro H3
  rw [wp_ret]
  imodintro
  isplitr; · ipureintro; rfl
  isplitl [HC]; · iexact HC
  isplitl [HN]; · iexact HN
  isplitl [H1 H2 H3]
  · isplitl [H1]; · iexact H1
    isplitl [H2] <;> iassumption
  iexact HR

/-- The rectangle of a lane block: rows `[512 b, 512 b + 512)`, lane `l`. -/
theorem lane_mem {b l : ℕ} {inb} {i : S2560x8x128.Idx} :
    i ∈ (Rect.unit (s := S2560x8x128) ![512 * b, l, 0] ![512, 1, 128] inb).set ↔ (i 0).val / 512 = b ∧ (i 1).val = l := by
  rw [Rect.mem_set_unit]
  constructor
  · intro h
    have h0 : 512 * b ≤ (i 0).val ∧ (i 0).val < 512 * b + 512 := h 0
    have h1 : l ≤ (i 1).val ∧ (i 1).val < l + 1 := h 1
    omega
  · rintro ⟨h0, h1⟩ a
    fin_cases a
    · show 512 * b ≤ (i 0).val ∧ (i 0).val < 512 * b + 512; omega
    · show l ≤ (i 1).val ∧ (i 1).val < l + 1; omega
    · exact ⟨Nat.zero_le _, by have := (i 2).isLt; show (i 2).val < 0 + 128; change _ < 128 at this; omega⟩

theorem lane_sub_z {b l k : ℕ} {inb} (hk : yy c = 1 → k ≤ b) :
    (Rect.unit (s := S2560x8x128) ![512 * b, l, 0] ![512, 1, 128] inb).set ⊆ sSet (Zrow c k) := fun i hi => by
  rw [lane_mem] at hi
  rw [mem_sSet]
  intro hy hh
  have := hk hy
  omega
theorem lane_sub_o {b l k : ℕ} {inb} (hk : ¬ yy c = 1 → k ≤ b) :
    (Rect.unit (s := S2560x8x128) ![512 * b, l, 0] ![512, 1, 128] inb).set ⊆ sSet (Orow c k) := fun i hi => by
  rw [lane_mem] at hi
  rw [mem_sSet]
  intro hy hh
  have := hk hy
  omega

/-- The load of a lane block of the first scratch buffer: what it reads is not used. -/
theorem zload {nz no q b l : ℕ} {off : Fin 3 → ℕ} {inb} {hl} (hoff : off = ![512 * b, l, 0]) (hk : yy c = 1 → ks c q ≤ b) :
    StA Zf Of K M1 M2 M3 c f1 f2 f3 nz no q
      ⊢ WP c (Prog.lift (.load (Memref.whole cc0_scratch0) (Rect.unit (s := S2560x8x128) off S512x1x128.size inb).toLoadRect hl))
      (fun _ => StA Zf Of K M1 M2 M3 c f1 f2 f3 nz no q) := by
  subst hoff
  unfold StA zSt
  iintro ⟨HC, HN, HI, ⟨%f, %hf, Hz⟩, HR⟩
  iapply (wp_load_rect 𝒱₀ (c : Thread nD τ) none Set.univ (m := Memref.whole cc0_scratch0)
    (r := Rect.unit (s := S2560x8x128) ![512 * b, l, 0] S512x1x128.size inb) (S := sSet (Zrow c (ks c q))) (f := f) (by
      show ((View.whole cc0_scratch0).slice _).set ⊆ _
      rw [View.set_slice_whole]; exact lane_sub_z hk)) $$ [Hz]
  · iexact Hz
  iintro Hz
  rw [wp_ret]
  imodintro
  isplitl [HC]; · iexact HC
  isplitl [HN]; · iexact HN
  isplitl [HI]; · iexact HI
  isplitl [Hz]
  · iexists f
    isplitr; · ipureintro; exact hf
    iexact Hz
  iexact HR
theorem oload {nz no q b l : ℕ} {off : Fin 3 → ℕ} {inb} {hl} (hoff : off = ![512 * b, l, 0]) (hk : ¬ yy c = 1 → ks c q ≤ b) :
    StA Zf Of K M1 M2 M3 c f1 f2 f3 nz no q
      ⊢ WP c (Prog.lift (.load (Memref.whole cc0_scratch1) (Rect.unit (s := S2560x8x128) off S512x1x128.size inb).toLoadRect hl))
      (fun _ => StA Zf Of K M1 M2 M3 c f1 f2 f3 nz no q) := by
  subst hoff
  unfold StA oSt
  iintro ⟨HC, HN, HI, HZ, ⟨%f, %hf, Hz⟩, HR⟩
  iapply (wp_load_rect 𝒱₀ (c : Thread nD τ) none Set.univ (m := Memref.whole cc0_scratch1)
    (r := Rect.unit (s := S2560x8x128) ![512 * b, l, 0] S512x1x128.size inb) (S := sSet (Orow c (ks c q))) (f := f) (by
      show ((View.whole cc0_scratch1).slice _).set ⊆ _
      rw [View.set_slice_whole]; exact lane_sub_o hk)) $$ [Hz]
  · iexact Hz
  iintro Hz
  rw [wp_ret]
  imodintro
  isplitl [HC]; · iexact HC
  isplitl [HN]; · iexact HN
  isplitl [HI]; · iexact HI
  isplitl [HZ]; · iexact HZ
  isplitl [Hz]
  · iexists f
    isplitr; · ipureintro; exact hf
    iexact Hz
  iexact HR

/-- Rewriting a lane block: off it the contents stay, on it they are what is stored. -/
theorem lane_write {n b l : ℕ} {inb} {T f : Vec F S2560x8x128 .f32} {w : Vec F S512x1x128 .f32}
    (hn : n = 8 * b + l) (hl8 : l < 8)
    (hf : ∀ i : S2560x8x128.Idx, 8 * ((i 0).val / 512) + (i 1).val < n → f i = T i)
    (hw : ∀ x : S512x1x128.Idx, w x = T ((Rect.unit (s := S2560x8x128) ![512 * b, l, 0] S512x1x128.size inb).emb x)) :
    ∀ i : S2560x8x128.Idx, 8 * ((i 0).val / 512) + (i 1).val < n + 1 →
      ((View.whole cc0_scratch0).slice (Rect.unit (s := S2560x8x128) ![512 * b, l, 0] S512x1x128.size inb)).write (Elt F) f w Finset.univ i = T i := by
  intro i hi
  have hi1 : (i 1).val < 8 := (i 1).isLt
  by_cases hm : i ∈ ((View.whole cc0_scratch0).slice (Rect.unit (s := S2560x8x128) ![512 * b, l, 0] S512x1x128.size inb)).set
  · obtain ⟨x, -, rfl⟩ := Finset.mem_map.mp hm
    rw [View.write_emb_of_mem _ _ (h := Finset.mem_univ x)]
    exact hw x
  · rw [View.write_of_not_mem _ _ _ (h := hm)]
    apply hf
    rw [View.set_slice_whole] at hm
    have hm' : ¬ ((i 0).val / 512 = b ∧ (i 1).val = l) := fun h => hm (lane_mem.mpr h)
    omega
theorem lane_write_o {n b l : ℕ} {inb} {T f : Vec F S2560x8x128 .f32} {w : Vec F S512x1x128 .f32}
    (hn : n = 8 * b + l) (hl8 : l < 8)
    (hf : ∀ i : S2560x8x128.Idx, 8 * ((i 0).val / 512) + (i 1).val < n → f i = T i)
    (hw : ∀ x : S512x1x128.Idx, w x = T ((Rect.unit (s := S2560x8x128) ![512 * b, l, 0] S512x1x128.size inb).emb x)) :
    ∀ i : S2560x8x128.Idx, 8 * ((i 0).val / 512) + (i 1).val < n + 1 →
      ((View.whole cc0_scratch1).slice (Rect.unit (s := S2560x8x128) ![512 * b, l, 0] S512x1x128.size inb)).write (Elt F) f w Finset.univ i = T i := by
  intro i hi
  have hi1 : (i 1).val < 8 := (i 1).isLt
  by_cases hm : i ∈ ((View.whole cc0_scratch1).slice (Rect.unit (s := S2560x8x128) ![512 * b, l, 0] S512x1x128.size inb)).set
  · obtain ⟨x, -, rfl⟩ := Finset.mem_map.mp hm
    rw [View.write_emb_of_mem _ _ (h := Finset.mem_univ x)]
    exact hw x
  · rw [View.write_of_not_mem _ _ _ (h := hm)]
    apply hf
    rw [View.set_slice_whole] at hm
    have hm' : ¬ ((i 0).val / 512 = b ∧ (i 1).val = l) := fun h => hm (lane_mem.mpr h)
    omega

/-- The store of a lane block of the first scratch buffer. -/
theorem zstore {nz no q b l : ℕ} {off : Fin 3 → ℕ} {inb} {w : Vec F S512x1x128 .f32} {hx} {hm} (hoff : off = ![512 * b, l, 0])
    (hk : yy c = 1 → ks c q ≤ b) (hn : nz = 8 * b + l) (hl8 : l < 8)
    (hw : ∀ x : S512x1x128.Idx, w x = Zf c ((Rect.unit (s := S2560x8x128) off S512x1x128.size inb).emb x)) :
    StA Zf Of K M1 M2 M3 c f1 f2 f3 nz no q
      ⊢ WP c (Prog.lift (.store (Memref.whole cc0_scratch0) (Rect.unit (s := S2560x8x128) off S512x1x128.size inb) w Finset.univ hx hm))
      (fun _ => StA Zf Of K M1 M2 M3 c f1 f2 f3 (nz + 1) no q) := by
  subst hoff
  unfold StA zSt
  iintro ⟨HC, HN, HI, ⟨%f, %hf, Hz⟩, HR⟩
  iapply (wp_store 𝒱₀ (c : Thread nD τ) none Set.univ (m := Memref.whole cc0_scratch0)
    (r := Rect.unit (s := S2560x8x128) ![512 * b, l, 0] S512x1x128.size inb) (w := w) (Mk := Finset.univ) (S := sSet (Zrow c (ks c q))) (f := f) (by
      show ((View.whole cc0_scratch0).slice _).set ⊆ _
      rw [View.set_slice_whole]; exact lane_sub_z hk)) $$ [Hz]
  · iexact Hz
  iintro Hz
  rw [wp_ret]
  imodintro
  isplitl [HC]; · iexact HC
  isplitl [HN]; · iexact HN
  isplitl [HI]; · iexact HI
  isplitl [Hz]
  · iexists _
    isplitr; rotate_left; · iexact Hz
    ipureintro
    exact lane_write hn hl8 hf hw
  iexact HR
theorem ostore {nz no q b l : ℕ} {off : Fin 3 → ℕ} {inb} {w : Vec F S512x1x128 .f32} {hx} {hm} (hoff : off = ![512 * b, l, 0])
    (hk : ¬ yy c = 1 → ks c q ≤ b) (hn : no = 8 * b + l) (hl8 : l < 8)
    (hw : ∀ x : S512x1x128.Idx, w x = Of c ((Rect.unit (s := S2560x8x128) off S512x1x128.size inb).emb x)) :
    StA Zf Of K M1 M2 M3 c f1 f2 f3 nz no q
      ⊢ WP c (Prog.lift (.store (Memref.whole cc0_scratch1) (Rect.unit (s := S2560x8x128) off S512x1x128.size inb) w Finset.univ hx hm))
      (fun _ => StA Zf Of K M1 M2 M3 c f1 f2 f3 nz (no + 1) q) := by
  subst hoff
  unfold StA oSt
  iintro ⟨HC, HN, HI, HZ, ⟨%f, %hf, Hz⟩, HR⟩
  iapply (wp_store 𝒱₀ (c : Thread nD τ) none Set.univ (m := Memref.whole cc0_scratch1)
    (r := Rect.unit (s := S2560x8x128) ![512 * b, l, 0] S512x1x128.size inb) (w := w) (Mk := Finset.univ) (S := sSet (Orow c (ks c q))) (f := f) (by
      show ((View.whole cc0_scratch1).slice _).set ⊆ _
      rw [View.set_slice_whole]; exact lane_sub_o hk)) $$ [Hz]
  · iexact Hz
  iintro Hz
  rw [wp_ret]
  imodintro
  isplitl [HC]; · iexact HC
  isplitl [HN]; · iexact HN
  isplitl [HI]; · iexact HI
  isplitl [HZ]; · iexact HZ
  isplitl [Hz]
  · iexists _
    isplitr; rotate_left; · iexact Hz
    ipureintro
    exact lane_write_o hn hl8 hf hw
  iexact HR

/-- The rows of a chunk taken out of the rows in hand. -/
theorem uns_sdiff {k : ℕ} (hk : k < 4) (p : Prop) [Decidable p] (hp : p) :
    (sSet fun r => p → Uns c k r) \ sSet (InR (cRow (xx c) k) 256) = sSet fun r => p → Uns c (k + 1) r := by
  have hx := xx_lt c
  ext i
  rw [Finset.mem_sdiff, mem_sSet, mem_sSet, mem_sSet]
  generalize (i 0).val = r
  simp only [Uns, InR, cRow, forall_prop_of_true hp]
  omega
theorem uns_sub {k : ℕ} (hk : k < 4) (p : Prop) [Decidable p] :
    sSet (InR (cRow (xx c) k) 256) ⊆ sSet fun r => p → Uns c k r := fun i hi => by
  have hx := xx_lt c
  rw [mem_sSet] at hi ⊢
  revert hi
  generalize (i 0).val = r
  simp only [Uns, InR, cRow]
  omega
theorem rowsR_sdiff {k : ℕ} (hk : k < 4) : uSet (RowsR c k) \ uSet (RowR c k) = uSet (RowsR c (k + 1)) := by
  have hx := xx_lt c
  have hy := yy_lt c
  ext i
  rw [Finset.mem_sdiff, mem_uSet, mem_uSet, mem_uSet]
  generalize (i 0).val = r
  simp only [RowsR, RowR, InR, cRow, roff]
  omega
theorem rowsR_sub {k : ℕ} (hk : k < 4) : uSet (RowR c k) ⊆ uSet (RowsR c k) := fun i hi => by
  have hx := xx_lt c
  have hy := yy_lt c
  rw [mem_uSet] at hi ⊢
  revert hi
  generalize (i 0).val = r
  simp only [RowsR, RowR, InR, cRow, roff]
  omega
theorem rowsF_sdiff {k : ℕ} (hk : k < 4) : uSet (RowsF c k) \ uSet (RowF c k) = uSet (RowsF c (k + 1)) := by
  have hx := xx_lt c
  have hy := yy_lt c
  ext i
  rw [Finset.mem_sdiff, mem_uSet, mem_uSet, mem_uSet]
  generalize (i 0).val = r
  simp only [RowsF, RowF, InR, cRow, roff]
  omega
theorem rowsF_sub {k : ℕ} (hk : k < 4) : uSet (RowF c k) ⊆ uSet (RowsF c k) := fun i hi => by
  have hx := xx_lt c
  have hy := yy_lt c
  rw [mem_uSet] at hi ⊢
  revert hi
  generalize (i 0).val = r
  simp only [RowsF, RowF, InR, cRow, roff]
  omega

/-- The contents a chunk's transfer leaves in the neighbour's output are its final contents. -/
theorem landed_y {k : ℕ} (hk : k < 4) {i : S4096x8x128.Idx} {j : S2560x8x128.Idx}
    (h0 : (i 0).val = roff (yp c) + (j 0).val) (hj : InR (cRow (xx c) k) 256 (j 0).val) (h1 : i 1 = j 1) (h2 : i 2 = j 2) :
    Ofin Zf Of (yp c) i = SB Zf Of c j := by
  have hx := xx_lt c
  have hy := yy_lt c
  have hyp := yy_yp c
  have hxp := xx_yp c
  have hs : sIx i = j := by
    unfold sIx
    rw [ValueIdx.eq_ix3 j, h1, h2]
    congr 1
    apply Fin.ext
    show (i 0).val % 2048 = (j 0).val
    revert hj h0
    generalize (i 0).val = r
    generalize (j 0).val = s
    simp only [InR, cRow, roff]
    omega
  have e1 : ¬ (i 0).val / 2048 = yy (yp c) := by
    revert hj h0
    generalize (i 0).val = r
    generalize (j 0).val = s
    simp only [InR, cRow, roff]
    omega
  have e2 : ((i 0).val % 2048) / 256 % 2 = xx (yp c) := by
    revert hj h0
    generalize (i 0).val = r
    generalize (j 0).val = s
    simp only [InR, cRow, roff]
    omega
  unfold Ofin
  rw [if_neg e1, if_pos e2, yp_yp, hs]

/-- Starting the send of a chunk of the first scratch buffer. -/
theorem send_z {nz no q : ℕ} (k : Fin 4) {d : Dev nD} {offs offd : Fin 3 → ℕ} {s1 s2 : DmaSem sig}
    {inbs inbd h1 h2 hsc hw1 hw2 hty} (hy :  yy c = 1) (hd : d = yp c) (hoffs : offs = ![cRow (xx c) k.val, 0, 0])
    (hoffd : offd = ![roff (yp c) + cRow (xx c) k.val, 0, 0]) (hs1 : s1 = usem c 0 k) (hs2 : s2 = usem (yp c) 1 k)
    (hq : ks c q = k.val) (hq' : ks c (q + 1) = k.val + 1) (hn : 8 * (k.val + 1) ≤ nz) :
    StA Zf Of K M1 M2 M3 c f1 f2 f3 nz no q
      ⊢ WP c (Prog.lift (.enqueueDma ((Memref.whole cc0_scratch0).slice (Rect.unit (s := S2560x8x128) offs S256x8x128.size inbs) h1)
          (.remote (Dev.tc d) ((Memref.whole main_v10).slice (Rect.unit (s := S4096x8x128) offd S256x8x128.size inbd) h2) (.dma s1) hsc)
          (.dma s2) hw1 hw2 hty))
        (fun _ => StA Zf Of K M1 M2 M3 c f1 f2 f3 nz no (q + 1)) := by
  subst hd hs1 hs2 hoffs hoffd
  have hk := k.isLt
  have hx := xx_lt c
  have hset_s := sset_z (off := ![cRow (xx c) k.val, 0, 0]) (size := S256x8x128.size) (inb := inbs) rfl rfl
  have hset_d := uset_eq (off := ![roff (yp c) + cRow (xx c) k.val, 0, 0]) (size := S256x8x128.size) (inb := inbd) rfl rfl
  have hrow : (fun r => RowR (yp c) k.val r) = InR (roff (yp c) + cRow (xx c) k.val) 256 := by
    funext r; rw [RowR, xx_yp]
  have hrowset : uSet (InR (roff (yp c) + cRow (xx c) k.val) 256) = uSet (RowR (yp c) k.val) := by
    ext i; rw [mem_uSet, mem_uSet, RowR, xx_yp]
  unfold StA zSt snd outAny
  rw [hq, hq']
  iintro ⟨#HC, #HN, HI, ⟨%f, %hf, Hz⟩, HO, Htok, ⟨%g, Hu⟩, Hcr, ⟨%W, How⟩⟩
  ihave Hz := (pointsTo_split_subset (uns_sub hk _)).1 $$ Hz
  icases Hz with ⟨Hc, Hz⟩
  ihave Hu := (pointsTo_split_subset (rowsR_sub (c := yp c) hk)).1 $$ Hu
  icases Hu with ⟨Hd, Hu⟩
  ihave Htok := (Entails.of_eq (ge_pop k _)) $$ Htok
  icases Htok with ⟨⟨Ht1, Ht2⟩, Htok⟩
  have hI1 := (Ctx_inv Zf Of K c).trans (Invs_u Zf Of K c 0 k)
  have hI2 := (Ctx_inv Zf Of K c).trans (Invs_u Zf Of K (yp c) 1 k)
  have hR1 := Ctx_u Zf Of K c 0 k
  have hR2 := Nbr_y (F := F) c k
  iapply (Rounds.wp_send_pointsTo 𝒱₀ ER (Rd Zf Of) (c : Thread nD τ) none (c' := (yp c : Thread nD τ))
      (src := (Memref.whole cc0_scratch0).slice (Rect.unit (s := S2560x8x128) ![cRow (xx c) k.val, 0, 0] S256x8x128.size inbs) h1)
      (dst := (Memref.whole main_v10).slice (Rect.unit (s := S4096x8x128) ![roff (yp c) + cRow (xx c) k.val, 0, 0] S256x8x128.size inbd) h2)
      (sS := .dma (usem c 0 k)) (sem := .dma (usem (yp c) 1 k)) (q := fullShare) (fs := f) (fd := g)
      (κ₁ := K (uc c 0 k)) (κ₂ := K (uc (yp c) 1 k)) (r₁ := 0) (r₂ := 0) (d₁ := false) (d₂ := false)
      (by rw [duties_u]; exact Finset.mem_singleton_self _) (by rw [duties_u]; exact Finset.mem_singleton_self _)
      () () NC (amt_c _) (amount_u Zf Of c 0 k false) (amount_u Zf Of (yp c) 1 k false) (Due c (k.val + 1) 0) (Due_y c k 0) (W := W)
      (by
        rw [payload_u]
        unfold upay sentPt
        rw [if_pos rfl, if_pos hy]
        show (zL c ↦[((View.whole cc0_scratch0).slice (Rect.unit (s := S2560x8x128) ![cRow (xx c) k.val, 0, 0] S256x8x128.size inbs)).set]{fullShare} f) ⊢ _
        rw [hset_s]
        refine Entails.of_eq (pointsTo_congr fun i hi => hf i ?_)
        rw [mem_sSet] at hi
        have := (i 1).isLt
        change (i 1).val < 8 at this
        revert hi
        generalize (i 0).val = r
        simp only [InR, cRow]
        omega)
      (by
        rw [payload_u]
        unfold upay outPt
        rw [if_neg (by decide), if_neg (by decide)]
        show (uL (yp c) ↦[((View.whole main_v10).slice (Rect.unit (s := S4096x8x128) ![roff (yp c) + cRow (xx c) k.val, 0, 0] S256x8x128.size inbd)).set]{fullShare} _) ⊢ _
        rw [← hrowset, ← hset_d]
        refine Entails.of_eq (pointsTo_congr fun i hi => ?_)
        obtain ⟨x, -, rfl⟩ := Finset.mem_map.mp hi
        refine (View.write_emb_of_mem _ _ (h := Finset.mem_univ x)).trans ?_
        have hx0 : (x 0).val < 256 := (x 0).isLt
        have hj : ∀ a, (((View.whole cc0_scratch0).slice (Rect.unit (s := S2560x8x128) ![cRow (xx c) k.val, 0, 0] S256x8x128.size inbs)).emb x a).val
            = (![cRow (xx c) k.val, 0, 0] : Fin 3 → ℕ) a + (x a).val := fun a => ValueKit.view_emb_slice_whole_unit_val ..
        have hi' : ∀ a, (((View.whole main_v10).slice (Rect.unit (s := S4096x8x128) ![roff (yp c) + cRow (xx c) k.val, 0, 0] S256x8x128.size inbd)).emb x a).val
            = (![roff (yp c) + cRow (xx c) k.val, 0, 0] : Fin 3 → ℕ) a + (x a).val := fun a => ValueKit.view_emb_slice_whole_unit_val ..
        have hj0 : (((View.whole cc0_scratch0).slice (Rect.unit (s := S2560x8x128) ![cRow (xx c) k.val, 0, 0] S256x8x128.size inbs)).emb x 0).val = cRow (xx c) k.val + (x 0).val := hj 0
        have hi0 : (((View.whole main_v10).slice (Rect.unit (s := S4096x8x128) ![roff (yp c) + cRow (xx c) k.val, 0, 0] S256x8x128.size inbd)).emb x 0).val = roff (yp c) + cRow (xx c) k.val + (x 0).val := hi' 0
        refine Eq.trans ?_ (landed_y (Zf := Zf) (Of := Of) (c := c) hk (j := ((View.whole cc0_scratch0).slice (Rect.unit (s := S2560x8x128) ![cRow (xx c) k.val, 0, 0] S256x8x128.size inbs)).emb x) ?_ ?_ ?_ ?_).symm
        · have hlt : 8 * ((((View.whole cc0_scratch0).slice (Rect.unit (s := S2560x8x128) ![cRow (xx c) k.val, 0, 0] S256x8x128.size inbs)).emb x 0).val / 512)
              + (((View.whole cc0_scratch0).slice (Rect.unit (s := S2560x8x128) ![cRow (xx c) k.val, 0, 0] S256x8x128.size inbs)).emb x 1).val < nz := by
            have hx1 : (((View.whole cc0_scratch0).slice (Rect.unit (s := S2560x8x128) ![cRow (xx c) k.val, 0, 0] S256x8x128.size inbs)).emb x 1).val < 8 := (((View.whole cc0_scratch0).slice (Rect.unit (s := S2560x8x128) ![cRow (xx c) k.val, 0, 0] S256x8x128.size inbs)).emb x 1).isLt
            rw [hj0]
            clear hj hi' hj0 hi0
            revert hx1
            generalize (((View.whole cc0_scratch0).slice (Rect.unit (s := S2560x8x128) ![cRow (xx c) k.val, 0, 0] S256x8x128.size inbs)).emb x 1).val = t
            intro hx1
            revert hx0
            generalize (x 0).val = v
            intro hx0
            simp only [cRow]
            omega
          rw [SB, if_pos hy]
          exact hf _ hlt
        · rw [hi0, hj0, Nat.add_assoc]
        · rw [hj0]
          exact ⟨Nat.le_add_right _ _, by omega⟩
        · exact Fin.ext ((hi' 1).trans (hj 1).symm)
        · exact Fin.ext ((hi' 2).trans (hj 2).symm))) $$ [Hc Hd How Ht1 Ht2]
  · isplitr; · iapply hI1; iexact HC
    isplitr; · iapply hI2; iexact HC
    isplitl [Hc]
    · iapply (Entails.of_eq (show (zL c ↦[sSet (InR (cRow (xx c) k.val) 256)]{fullShare} f : sProp 𝕄)
        = (zL c ↦[((View.whole cc0_scratch0).slice (Rect.unit (s := S2560x8x128) ![cRow (xx c) k.val, 0, 0] S256x8x128.size inbs)).set]{fullShare} f) by rw [hset_s])) $$ Hc
    isplitl [Hd]
    · iapply (Entails.of_eq (show (uL (yp c) ↦[uSet (RowR (yp c) k.val)]{fullShare} g : sProp 𝕄)
        = (uL (yp c) ↦[((View.whole main_v10).slice (Rect.unit (s := S4096x8x128) ![roff (yp c) + cRow (xx c) k.val, 0, 0] S256x8x128.size inbd)).set]{fullShare} g) by rw [hset_d, hrowset])) $$ Hd
    isplitl [How]; · iexact How
    isplitl [Ht1]; · iexact Ht1
    isplitr; · iapply hR1; iexact HC
    isplitl [Ht2]; · iexact Ht2
    iapply hR2; iexact HN
  iintro ⟨Hcr1, How⟩
  rw [wp_ret]
  imodintro
  isplitr; · iexact HC
  isplitr; · iexact HN
  isplitl [HI]; · iexact HI
  isplitl [Hz]
  · iexists f
    isplitr; · ipureintro; exact hf
    iapply (Entails.of_eq (congrArg (fun S => (zL c ↦[S]{fullShare} f : sProp 𝕄)) (uns_sdiff (c := c) hk _ hy))) $$ Hz
  isplitl [HO]; · iapply (Entails.of_eq (show oSt Of c no k.val = oSt Of c no (k.val + 1) by unfold oSt Orow; rw [show (sSet fun r => ¬ yy c = 1 → Uns c k.val r) = sSet fun r => ¬ yy c = 1 → Uns c (k.val + 1) r from by ext i; rw [mem_sSet, mem_sSet]; exact ⟨fun _ h => absurd hy h, fun _ h => absurd hy h⟩])) $$ HO
  isplitl [Htok]; · iexact Htok
  isplitl [Hu]
  · iexists g
    iapply (Entails.of_eq (congrArg (fun S => (uL (yp c) ↦[S]{fullShare} g : sProp 𝕄)) (rowsR_sdiff (c := yp c) hk))) $$ Hu
  isplitl [Hcr Hcr1]
  · iapply (Entails.of_eq (lt_push k _).symm)
    isplitl [Hcr1] <;> iassumption
  iexists W
  iexact How

/-- Starting the send of a chunk of the second scratch buffer. -/
theorem send_o {nz no q : ℕ} (k : Fin 4) {d : Dev nD} {offs offd : Fin 3 → ℕ} {s1 s2 : DmaSem sig}
    {inbs inbd h1 h2 hsc hw1 hw2 hty} (hy : ¬ yy c = 1) (hd : d = yp c) (hoffs : offs = ![cRow (xx c) k.val, 0, 0])
    (hoffd : offd = ![roff (yp c) + cRow (xx c) k.val, 0, 0]) (hs1 : s1 = usem c 0 k) (hs2 : s2 = usem (yp c) 1 k)
    (hq : ks c q = k.val) (hq' : ks c (q + 1) = k.val + 1) (hn : 8 * (k.val + 1) ≤ no) :
    StA Zf Of K M1 M2 M3 c f1 f2 f3 nz no q
      ⊢ WP c (Prog.lift (.enqueueDma ((Memref.whole cc0_scratch1).slice (Rect.unit (s := S2560x8x128) offs S256x8x128.size inbs) h1)
          (.remote (Dev.tc d) ((Memref.whole main_v10).slice (Rect.unit (s := S4096x8x128) offd S256x8x128.size inbd) h2) (.dma s1) hsc)
          (.dma s2) hw1 hw2 hty))
        (fun _ => StA Zf Of K M1 M2 M3 c f1 f2 f3 nz no (q + 1)) := by
  subst hd hs1 hs2 hoffs hoffd
  have hk := k.isLt
  have hx := xx_lt c
  have hset_s := sset_o (off := ![cRow (xx c) k.val, 0, 0]) (size := S256x8x128.size) (inb := inbs) rfl rfl
  have hset_d := uset_eq (off := ![roff (yp c) + cRow (xx c) k.val, 0, 0]) (size := S256x8x128.size) (inb := inbd) rfl rfl
  have hrow : (fun r => RowR (yp c) k.val r) = InR (roff (yp c) + cRow (xx c) k.val) 256 := by
    funext r; rw [RowR, xx_yp]
  have hrowset : uSet (InR (roff (yp c) + cRow (xx c) k.val) 256) = uSet (RowR (yp c) k.val) := by
    ext i; rw [mem_uSet, mem_uSet, RowR, xx_yp]
  unfold StA oSt snd outAny
  rw [hq, hq']
  iintro ⟨#HC, #HN, HI, HO, ⟨%f, %hf, Hz⟩, Htok, ⟨%g, Hu⟩, Hcr, ⟨%W, How⟩⟩
  ihave Hz := (pointsTo_split_subset (uns_sub hk _)).1 $$ Hz
  icases Hz with ⟨Hc, Hz⟩
  ihave Hu := (pointsTo_split_subset (rowsR_sub (c := yp c) hk)).1 $$ Hu
  icases Hu with ⟨Hd, Hu⟩
  ihave Htok := (Entails.of_eq (ge_pop k _)) $$ Htok
  icases Htok with ⟨⟨Ht1, Ht2⟩, Htok⟩
  have hI1 := (Ctx_inv Zf Of K c).trans (Invs_u Zf Of K c 0 k)
  have hI2 := (Ctx_inv Zf Of K c).trans (Invs_u Zf Of K (yp c) 1 k)
  have hR1 := Ctx_u Zf Of K c 0 k
  have hR2 := Nbr_y (F := F) c k
  iapply (Rounds.wp_send_pointsTo 𝒱₀ ER (Rd Zf Of) (c : Thread nD τ) none (c' := (yp c : Thread nD τ))
      (src := (Memref.whole cc0_scratch1).slice (Rect.unit (s := S2560x8x128) ![cRow (xx c) k.val, 0, 0] S256x8x128.size inbs) h1)
      (dst := (Memref.whole main_v10).slice (Rect.unit (s := S4096x8x128) ![roff (yp c) + cRow (xx c) k.val, 0, 0] S256x8x128.size inbd) h2)
      (sS := .dma (usem c 0 k)) (sem := .dma (usem (yp c) 1 k)) (q := fullShare) (fs := f) (fd := g)
      (κ₁ := K (uc c 0 k)) (κ₂ := K (uc (yp c) 1 k)) (r₁ := 0) (r₂ := 0) (d₁ := false) (d₂ := false)
      (by rw [duties_u]; exact Finset.mem_singleton_self _) (by rw [duties_u]; exact Finset.mem_singleton_self _)
      () () NC (amt_c _) (amount_u Zf Of c 0 k false) (amount_u Zf Of (yp c) 1 k false) (Due c (k.val + 1) 0) (Due_y c k 0) (W := W)
      (by
        rw [payload_u]
        unfold upay sentPt
        rw [if_pos rfl, if_neg hy]
        show (oL c ↦[((View.whole cc0_scratch1).slice (Rect.unit (s := S2560x8x128) ![cRow (xx c) k.val, 0, 0] S256x8x128.size inbs)).set]{fullShare} f) ⊢ _
        rw [hset_s]
        refine Entails.of_eq (pointsTo_congr fun i hi => hf i ?_)
        rw [mem_sSet] at hi
        have := (i 1).isLt
        change (i 1).val < 8 at this
        revert hi
        generalize (i 0).val = r
        simp only [InR, cRow]
        omega)
      (by
        rw [payload_u]
        unfold upay outPt
        rw [if_neg (by decide), if_neg (by decide)]
        show (uL (yp c) ↦[((View.whole main_v10).slice (Rect.unit (s := S4096x8x128) ![roff (yp c) + cRow (xx c) k.val, 0, 0] S256x8x128.size inbd)).set]{fullShare} _) ⊢ _
        rw [← hrowset, ← hset_d]
        refine Entails.of_eq (pointsTo_congr fun i hi => ?_)
        obtain ⟨x, -, rfl⟩ := Finset.mem_map.mp hi
        refine (View.write_emb_of_mem _ _ (h := Finset.mem_univ x)).trans ?_
        have hx0 : (x 0).val < 256 := (x 0).isLt
        have hj : ∀ a, (((View.whole cc0_scratch1).slice (Rect.unit (s := S2560x8x128) ![cRow (xx c) k.val, 0, 0] S256x8x128.size inbs)).emb x a).val
            = (![cRow (xx c) k.val, 0, 0] : Fin 3 → ℕ) a + (x a).val := fun a => ValueKit.view_emb_slice_whole_unit_val ..
        have hi' : ∀ a, (((View.whole main_v10).slice (Rect.unit (s := S4096x8x128) ![roff (yp c) + cRow (xx c) k.val, 0, 0] S256x8x128.size inbd)).emb x a).val
            = (![roff (yp c) + cRow (xx c) k.val, 0, 0] : Fin 3 → ℕ) a + (x a).val := fun a => ValueKit.view_emb_slice_whole_unit_val ..
        have hj0 : (((View.whole cc0_scratch1).slice (Rect.unit (s := S2560x8x128) ![cRow (xx c) k.val, 0, 0] S256x8x128.size inbs)).emb x 0).val = cRow (xx c) k.val + (x 0).val := hj 0
        have hi0 : (((View.whole main_v10).slice (Rect.unit (s := S4096x8x128) ![roff (yp c) + cRow (xx c) k.val, 0, 0] S256x8x128.size inbd)).emb x 0).val = roff (yp c) + cRow (xx c) k.val + (x 0).val := hi' 0
        refine Eq.trans ?_ (landed_y (Zf := Zf) (Of := Of) (c := c) hk (j := ((View.whole cc0_scratch1).slice (Rect.unit (s := S2560x8x128) ![cRow (xx c) k.val, 0, 0] S256x8x128.size inbs)).emb x) ?_ ?_ ?_ ?_).symm
        · have hlt : 8 * ((((View.whole cc0_scratch1).slice (Rect.unit (s := S2560x8x128) ![cRow (xx c) k.val, 0, 0] S256x8x128.size inbs)).emb x 0).val / 512)
              + (((View.whole cc0_scratch1).slice (Rect.unit (s := S2560x8x128) ![cRow (xx c) k.val, 0, 0] S256x8x128.size inbs)).emb x 1).val < no := by
            have hx1 : (((View.whole cc0_scratch1).slice (Rect.unit (s := S2560x8x128) ![cRow (xx c) k.val, 0, 0] S256x8x128.size inbs)).emb x 1).val < 8 := (((View.whole cc0_scratch1).slice (Rect.unit (s := S2560x8x128) ![cRow (xx c) k.val, 0, 0] S256x8x128.size inbs)).emb x 1).isLt
            rw [hj0]
            clear hj hi' hj0 hi0
            revert hx1
            generalize (((View.whole cc0_scratch1).slice (Rect.unit (s := S2560x8x128) ![cRow (xx c) k.val, 0, 0] S256x8x128.size inbs)).emb x 1).val = t
            intro hx1
            revert hx0
            generalize (x 0).val = v
            intro hx0
            simp only [cRow]
            omega
          rw [SB, if_neg hy]
          exact hf _ hlt
        · rw [hi0, hj0, Nat.add_assoc]
        · rw [hj0]
          exact ⟨Nat.le_add_right _ _, by omega⟩
        · exact Fin.ext ((hi' 1).trans (hj 1).symm)
        · exact Fin.ext ((hi' 2).trans (hj 2).symm))) $$ [Hc Hd How Ht1 Ht2]
  · isplitr; · iapply hI1; iexact HC
    isplitr; · iapply hI2; iexact HC
    isplitl [Hc]
    · iapply (Entails.of_eq (show (oL c ↦[sSet (InR (cRow (xx c) k.val) 256)]{fullShare} f : sProp 𝕄)
        = (oL c ↦[((View.whole cc0_scratch1).slice (Rect.unit (s := S2560x8x128) ![cRow (xx c) k.val, 0, 0] S256x8x128.size inbs)).set]{fullShare} f) by rw [hset_s])) $$ Hc
    isplitl [Hd]
    · iapply (Entails.of_eq (show (uL (yp c) ↦[uSet (RowR (yp c) k.val)]{fullShare} g : sProp 𝕄)
        = (uL (yp c) ↦[((View.whole main_v10).slice (Rect.unit (s := S4096x8x128) ![roff (yp c) + cRow (xx c) k.val, 0, 0] S256x8x128.size inbd)).set]{fullShare} g) by rw [hset_d, hrowset])) $$ Hd
    isplitl [How]; · iexact How
    isplitl [Ht1]; · iexact Ht1
    isplitr; · iapply hR1; iexact HC
    isplitl [Ht2]; · iexact Ht2
    iapply hR2; iexact HN
  iintro ⟨Hcr1, How⟩
  rw [wp_ret]
  imodintro
  isplitr; · iexact HC
  isplitr; · iexact HN
  isplitl [HI]; · iexact HI
  isplitl [HO]; · iapply (Entails.of_eq (show zSt Zf c nz k.val = zSt Zf c nz (k.val + 1) by unfold zSt Zrow; rw [show (sSet fun r => yy c = 1 → Uns c k.val r) = sSet fun r => yy c = 1 → Uns c (k.val + 1) r from by ext i; rw [mem_sSet, mem_sSet]; exact ⟨fun _ h => absurd h hy, fun _ h => absurd h hy⟩])) $$ HO
  isplitl [Hz]
  · iexists f
    isplitr; · ipureintro; exact hf
    iapply (Entails.of_eq (congrArg (fun S => (oL c ↦[S]{fullShare} f : sProp 𝕄)) (uns_sdiff (c := c) hk _ hy))) $$ Hz
  isplitl [Htok]; · iexact Htok
  isplitl [Hu]
  · iexists g
    iapply (Entails.of_eq (congrArg (fun S => (uL (yp c) ↦[S]{fullShare} g : sProp 𝕄)) (rowsR_sdiff (c := yp c) hk))) $$ Hu
  isplitl [Hcr Hcr1]
  · iapply (Entails.of_eq (lt_push k _).symm)
    isplitl [Hcr1] <;> iassumption
  iexists W
  iexact How

/-- A conditional passed without a send. -/
theorem StA_skip {nz no q : ℕ} (h : ks c (q + 1) = ks c q) :
    StA Zf Of K M1 M2 M3 c f1 f2 f3 nz no q ⊢ StA Zf Of K M1 M2 M3 c f1 f2 f3 nz no (q + 1) := by
  unfold StA; rw [h]

end Phase1

/-- What is stored in lane `l` of block `b` of a scratch buffer agrees with the contents `T`. -/
def Lane (T : Vec F S2560x8x128 .f32) (b : Fin 5) (l : Fin 8) (w : Vec F S512x1x128 .f32) : Prop :=
  ∀ x : S512x1x128.Idx, w x = T (ix3 (n0 := 2560) (n1 := 8) (n2 := 128) ⟨512 * b.val + (x 0).val, by
    have : (x 0).val < 512 := (x 0).isLt
    have := b.isLt
    omega⟩ l (x 2))

theorem Lane.emb {T : Vec F S2560x8x128 .f32} {b : Fin 5} {l : Fin 8} {w : Vec F S512x1x128 .f32} (h : Lane T b l w)
    {off : Fin 3 → ℕ} (ho : off = ![512 * b.val, l.val, 0]) (inb) (x : S512x1x128.Idx) :
    w x = T ((Rect.unit (s := S2560x8x128) off S512x1x128.size inb).emb x) := by
  subst ho
  rw [h x]
  congr 1
  funext a
  apply Fin.ext
  rw [ValueKit.rect_emb_unit_val]
  have hx1 : (x 1).val < 1 := (x 1).isLt
  fin_cases a
  · rfl
  · show l.val = l.val + (x 1).val; omega
  · show (x 2).val = 0 + (x 2).val; omega

theorem kz : ∀ (b : Fin 4) (c : Dev nD), yy c = 1 → ks c (4 * b.val) ≤ b.val := by decide +kernel
theorem ko : ∀ (b : Fin 4) (c : Dev nD), ¬ yy c = 1 → ks c (4 * b.val + 2) ≤ b.val := by decide +kernel
theorem kz4 (c : Dev nD) : yy c = 1 → ks c 16 ≤ 4 := fun _ => by revert c; decide +kernel
theorem ko4 (c : Dev nD) : ¬ yy c = 1 → ks c 16 ≤ 4 := fun _ => by revert c; decide +kernel
theorem ksk : ∀ (b t : Fin 4) (c : Dev nD), place c ≠ t.val → ks c (4 * b.val + t.val + 1) = ks c (4 * b.val + t.val) := by decide +kernel
theorem pl0 : ∀ c : Dev nD, place c = 0 → c = 1 := by decide
theorem pl1 : ∀ c : Dev nD, place c = 1 → c = 3 := by decide
theorem pl2 : ∀ c : Dev nD, place c = 2 → c = 0 := by decide
theorem pl3 : ∀ c : Dev nD, place c = 3 → c = 2 := by decide
theorem k16 : ∀ c : Dev nD, ks c 16 = 4 := by decide +kernel

end Cert.KernelIdeal.Talk
-- ==== Proof.Steps2.lean ====
/- The states and rules of the later phases: the kept half's copy, the forwarding of the received chunks, the waits. -/
module

public import proofs.«01_k».proof.Proof.Steps

@[expose] public section

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

section Compose

variable {c : Dev nD} {α β : Type}

/-- A program run from a part of what is held. -/
theorem wframe {P A B X Q : sProp (MT nD τ sig Unit (Elt F) ℕ UU ℕ)} {p : Prog (TpuEff nD τ sig (Elt F) Λ₀ .tc) α}
    (hP : P ⊢ iprop(A ∗ X)) (h : A ⊢ WP c p (fun _ => B)) (hQ : iprop(B ∗ X) ⊢ Q) : P ⊢ WP c p (fun _ => Q) :=
  hP.trans ((sep_mono_left h).trans ((wp_frame_r _ _ _).trans (wp_mono _ _ _ fun _ => hQ)))

/-- A conditional whose one branch runs two programs before the common rest, the other the rest at once. -/
theorem wif2 {P : sProp (MT nD τ sig Unit (Elt F) ℕ UU ℕ)} {Q : β → sProp (MT nD τ sig Unit (Elt F) ℕ UU ℕ)} {M R : sProp (MT nD τ sig Unit (Elt F) ℕ UU ℕ)} {C : Prop} [Decidable C] {p p' : C → Prog (TpuEff nD τ sig (Elt F) Λ₀ .tc) PUnit}
    {k : PUnit → Prog (TpuEff nD τ sig (Elt F) Λ₀ .tc) β} {r : ¬ C → Prog (TpuEff nD τ sig (Elt F) Λ₀ .tc) β}
    (hr : r = fun _ => k ⟨⟩)
    (h1 : ∀ h : C, P ⊢ WP c (p h) (fun _ => M)) (h1' : ∀ h : C, M ⊢ WP c (p' h) (fun _ => R)) (h0 : ¬ C → P ⊢ R) (h2 : R ⊢ WP c (k ⟨⟩) Q) :
    P ⊢ WP c (if h : C then (p h >>= fun _ => p' h >>= k) else r h) Q := by
  subst hr
  by_cases h : C
  · rw [dif_pos h]; exact wseq (h1 h) fun _ => wseq (h1' h) fun _ => h2
  · rw [dif_neg h]; exact (h0 h).trans h2

end Compose

variable (Zf Of : Dev nD → Vec F S2560x8x128 .f32) (K : GSem nD τ sig → ℕ) (c : Dev nD)

/-- The kept half: 0 before its copy is started, 1 after, 2 once it is waited for. -/
def keepRes : ℕ → sProp 𝕄
  | 0 => iprop(outAny c (InR (koff c) 2048) ∗ dutyTok ER (kc c) 0 false ∗ atPos ER (kc c) 0 ∅ 0 ∗ keptPt Zf Of c (InR 0 2048))
  | 1 => iprop(cred (tallyAt (kc c) () NK) ∗ atPos ER (kc c) 0 ∅ 0)
  | _ => iprop(kpay Zf Of c ∗ atPos ER (kc c) 1 ∅ 0)

/-- What a forwarding to come holds. -/
def fwdTodo (j : Fin 4) : sProp 𝕄 :=
  iprop(atPos ER (uc c 1 j) 0 ∅ 0 ∗ cred (tallyAt (uc c 1 j) () NC) ∗ dutyTok ER (uc c 2 j) 0 false ∗ dutyTok ER (uc (xp c) 3 j) 0 false)
/-- What a forwarding done leaves. -/
def fwdDone (j : Fin 4) : sProp 𝕄 := iprop(atPos ER (uc c 1 j) 1 ∅ 0 ∗ cred (tallyAt (uc c 2 j) () NC))

/-- The forwardings' resources after `l` of them. -/
def fwd (l : ℕ) : sProp 𝕄 :=
  iprop((bigSep (ge l) (fwdTodo c)) ∗ outAny (xp c) (RowsF (xp c) l) ∗ (bigSep (lt l) (fwdDone c))
    ∗ ∃ W, owes (c : Thread nD τ) (Due c 4 l) W)
/-- The same between forwarding `l`'s wait and its send. -/
def fwdMid (l : Fin 4) : sProp 𝕄 :=
  iprop((bigSep (ge (l.val + 1)) (fwdTodo c)) ∗ (atPos ER (uc c 1 l) 1 ∅ 0 ∗ dutyTok ER (uc c 2 l) 0 false ∗ dutyTok ER (uc (xp c) 3 l) 0 false
      ∗ outPt Zf Of c (RowR c l.val)) ∗ outAny (xp c) (RowsF (xp c) l.val) ∗ (bigSep (lt l.val) (fwdDone c))
    ∗ ∃ W, owes (c : Thread nD τ) (Due c 4 l.val) W)

/-- The waits on the cells of kind `a`, `m` of them done. -/
def wRes (a : Fin 4) (m : ℕ) : sProp 𝕄 :=
  iprop((bigSep (ge m) fun j => iprop(atPos ER (uc c a j) 0 ∅ 0 ∗ cred (tallyAt (uc c a j) () NC)))
    ∗ (bigSep (lt m) fun j => iprop(atPos ER (uc c a j) 1 ∅ 0 ∗ upay Zf Of c a j)))

/-- The state while the kept half's copy is started and the received chunks are forwarded. -/
def StL (kn l : ℕ) : sProp 𝕄 := iprop(Ctx Zf Of K c ∗ Nbr c ∗ keepRes Zf Of c kn ∗ fwd c l)
/-- The state while the transfers are waited for. -/
def StM (kn m s r : ℕ) : sProp 𝕄 :=
  iprop(Ctx Zf Of K c ∗ keepRes Zf Of c kn ∗ wRes Zf Of c 0 m ∗ wRes Zf Of c 2 s ∗ wRes Zf Of c 3 r ∗ ∃ W, owes (c : Thread nD τ) 0 W)

variable {Zf Of K c}

/-- A wait on one of the device's transfer cells. -/
theorem wait_u {a j : Fin 4} {O : CellTallies nD τ sig Unit} {sp sp' : Space} {s s' : Shape} {e e' : EltTy} {sm : DmaSem sig}
    {src : Memref sig .tc sp s e} {dst : Memref sig .tc sp' s' e'} {h1 h2} (hs : sm = usem c a j) (hN : dst.view.dmaCredit = NC)
    (hO : (levAts L lv : sProp 𝕄) ⊢ MayWait (c : Thread nD τ) (.dma (usem c a j)) () O) :
    iprop(Ctx Zf Of K c ∗ cred (tallyAt (uc c a j) () NC) ∗ (∃ W, owes (c : Thread nD τ) O W) ∗ atPos ER (uc c a j) 0 ∅ 0)
      ⊢ WP c (Prog.lift (.waitDma2 sm src dst h1 h2))
        (fun _ => iprop((∃ W, owes (c : Thread nD τ) O W) ∗ atPos ER (uc c a j) 1 ∅ 0 ∗ upay Zf Of c a j)) := by
  subst hs
  have hI := (Ctx_inv Zf Of K c).trans (Invs_u Zf Of K c a j)
  have hL := (Ctx_lev Zf Of K c).trans hO
  iintro ⟨#HC, Hcr, ⟨%W, How⟩, Hat⟩
  iapply (Rounds.wp_wait_rest_token 𝒱₀ ER (Rd Zf Of) (c : Thread nD τ) none (κ := K (uc c a j))
    (Es := Set.univ) (wpE_waitDma2_eq 𝒱₀ (c : Thread nD τ) none Set.univ) (Set.mem_univ _) () (k' := dst.view.dmaCredit) (sm := .dma (usem c a j))
    (O := O) (W := W) (R := 0) (m := 0) (T := ∅) (by rw [expect_u, Nat.zero_add, hN])) $$ [Hcr How Hat]
  · isplitr; · iapply hI; iexact HC
    isplitl [Hcr]; · rw [hN]; iexact Hcr
    isplitl [How]; · iexact How
    isplitr; · iapply hL; iexact HC
    iexact Hat
  iintro ⟨How, Hat, -, Hp⟩
  rw [wp_ret]
  imodintro
  isplitl [How]; · iexists _; iexact How
  isplitl [Hat]; · iexact Hat
  iapply (Entails.of_eq (rest_u Zf Of c a j)) $$ Hp

/-- The wait on the kept half's copy. -/
theorem wait_k {s r m n n' : ℕ} {sp sp' : Space} {s1 s2 : Shape} {e e' : EltTy} {sm : DmaSem sig}
    {src : Memref sig .tc sp s1 e} {dst : Memref sig .tc sp' s2 e'} {h1 h2} (hs : sm = ksem) (hN : dst.view.dmaCredit = NK) (hn : n = 1) (hn' : n' = 2) :
    StM Zf Of K c n m s r ⊢ WP c (Prog.lift (.waitDma2 sm src dst h1 h2)) (fun _ => StM Zf Of K c n' m s r) := by
  subst hn hn' hs
  have hI := (Ctx_inv Zf Of K c).trans (Invs_k Zf Of K c)
  unfold StM
  iintro ⟨#HC, HK, H0, H2, H3, ⟨%W, How⟩⟩
  ihave HK := (Entails.of_eq (show keepRes Zf Of c 1 = iprop(cred (tallyAt (kc c) () NK) ∗ atPos ER (kc c) 0 ∅ 0) from rfl)) $$ HK
  icases HK with ⟨Hcr, Hat⟩
  iapply (Rounds.wp_wait_rest_token 𝒱₀ ER (Rd Zf Of) (c : Thread nD τ) none (κ := K (kc c))
    (Es := Set.univ) (wpE_waitDma2_eq 𝒱₀ (c : Thread nD τ) none Set.univ) (Set.mem_univ _) () (k' := dst.view.dmaCredit) (sm := .dma ksem)
    (O := 0) (W := W) (R := 0) (m := 0) (T := ∅) (by rw [expect_k, Nat.zero_add, hN])) $$ [Hcr How Hat]
  · isplitr; · iapply hI; iexact HC
    isplitl [Hcr]; · rw [hN]; iexact Hcr
    isplitl [How]; · iexact How
    isplitr; · rw [MayWait_zero]; iempintro
    iexact Hat
  iintro ⟨How, Hat, -, Hp⟩
  rw [wp_ret]
  imodintro
  isplitr; · iexact HC
  isplitl [Hat Hp]
  · iapply (Entails.of_eq (show iprop(kpay Zf Of c ∗ atPos ER (kc c) 1 ∅ 0) = keepRes Zf Of c 2 from rfl))
    isplitl [Hp]; · iapply (Entails.of_eq (rest_k Zf Of c)) $$ Hp
    iexact Hat
  isplitl [H0]; · iexact H0
  isplitl [H2]; · iexact H2
  isplitl [H3]; · iexact H3
  iexists _; iexact How

/-- One more wait on the cells of a kind. -/
theorem wait_res {a m : Fin 4} {sp sp' : Space} {s s' : Shape} {e e' : EltTy} {sm : DmaSem sig}
    {src : Memref sig .tc sp s e} {dst : Memref sig .tc sp' s' e'} {h1 h2} (hs : sm = usem c a m) (hN : dst.view.dmaCredit = NC) :
    iprop(Ctx Zf Of K c ∗ wRes Zf Of c a m.val ∗ (∃ W, owes (c : Thread nD τ) 0 W))
      ⊢ WP c (Prog.lift (.waitDma2 sm src dst h1 h2))
        (fun _ => iprop(wRes Zf Of c a (m.val + 1) ∗ (∃ W, owes (c : Thread nD τ) 0 W))) := by
  unfold wRes
  rw [ge_pop m, lt_push m]
  refine wframe (X := iprop((bigSep (ge (m.val + 1)) fun j => iprop(atPos ER (uc c a j) 0 ∅ 0 ∗ cred (tallyAt (uc c a j) () NC)))
    ∗ (bigSep (lt m.val) fun j => iprop(atPos ER (uc c a j) 1 ∅ 0 ∗ upay Zf Of c a j)))) ?_
    (wait_u (Zf := Zf) (Of := Of) (K := K) (c := c) (O := 0) hs hN (by rw [MayWait_zero]; iintro -; iempintro)) ?_
  · iintro ⟨HC, ⟨⟨⟨Hat, Hcr⟩, Hge⟩, Hlt⟩, How⟩
    isplitl [HC Hcr How Hat]
    · isplitl [HC]; · iexact HC
      isplitl [Hcr]; · iexact Hcr
      isplitl [How] <;> iassumption
    isplitl [Hge] <;> iassumption
  · iintro ⟨⟨How, Hat, Hp⟩, Hge, Hlt⟩
    isplitl [Hge Hat Hp Hlt]
    · isplitl [Hge]; · iexact Hge
      isplitl [Hat Hp]
      · isplitl [Hat] <;> iassumption
      iexact Hlt
    iexact How

section M
variable {kn m s r : ℕ} {sp sp' : Space} {s1 s2 : Shape} {e e' : EltTy} {sm : DmaSem sig}
    {src : Memref sig .tc sp s1 e} {dst : Memref sig .tc sp' s2 e'} {h1 : src.view.WordExact} {h2 : dst.view.WordExact}

/-- A wait on a sent chunk. -/
theorem wait_0 {m' : ℕ} (j : Fin 4) (hm : m = j.val) (hm' : m' = m + 1) (hs : sm = usem c 0 j) (hN : dst.view.dmaCredit = NC) :
    StM Zf Of K c kn m s r ⊢ WP c (Prog.lift (.waitDma2 sm src dst h1 h2)) (fun _ => StM Zf Of K c kn m' s r) := by
  subst hm' hm
  unfold StM
  refine wframe (X := iprop(Ctx Zf Of K c ∗ keepRes Zf Of c kn ∗ wRes Zf Of c 2 s ∗ wRes Zf Of c 3 r)) ?_ (wait_res (Zf := Zf) (Of := Of) (K := K) hs hN) ?_
  · iintro ⟨#HC, HK, H0, H2, H3, How⟩
    isplitl [H0 How]
    · isplitr; · iexact HC
      isplitl [H0] <;> iassumption
    isplitr; · iexact HC
    isplitl [HK]; · iexact HK
    isplitl [H2] <;> iassumption
  · iintro ⟨⟨H0, How⟩, HC, HK, H2, H3⟩
    isplitl [HC]; · iexact HC
    isplitl [HK]; · iexact HK
    isplitl [H0]; · iexact H0
    isplitl [H2]; · iexact H2
    isplitl [H3] <;> iassumption
/-- A wait on a forwarded chunk. -/
theorem wait_2 {s' : ℕ} (j : Fin 4) (hm : s = j.val) (hm' : s' = s + 1) (hs : sm = usem c 2 j) (hN : dst.view.dmaCredit = NC) :
    StM Zf Of K c kn m s r ⊢ WP c (Prog.lift (.waitDma2 sm src dst h1 h2)) (fun _ => StM Zf Of K c kn m s' r) := by
  subst hm' hm
  unfold StM
  refine wframe (X := iprop(Ctx Zf Of K c ∗ keepRes Zf Of c kn ∗ wRes Zf Of c 0 m ∗ wRes Zf Of c 3 r)) ?_ (wait_res (Zf := Zf) (Of := Of) (K := K) hs hN) ?_
  · iintro ⟨#HC, HK, H0, H2, H3, How⟩
    isplitl [H2 How]
    · isplitr; · iexact HC
      isplitl [H2] <;> iassumption
    isplitr; · iexact HC
    isplitl [HK]; · iexact HK
    isplitl [H0] <;> iassumption
  · iintro ⟨⟨H2, How⟩, HC, HK, H0, H3⟩
    isplitl [HC]; · iexact HC
    isplitl [HK]; · iexact HK
    isplitl [H0]; · iexact H0
    isplitl [H2]; · iexact H2
    isplitl [H3] <;> iassumption
/-- A wait on a chunk forwarded to the device. -/
theorem wait_3 {r' : ℕ} (j : Fin 4) (hm : r = j.val) (hm' : r' = r + 1) (hs : sm = usem c 3 j) (hN : dst.view.dmaCredit = NC) :
    StM Zf Of K c kn m s r ⊢ WP c (Prog.lift (.waitDma2 sm src dst h1 h2)) (fun _ => StM Zf Of K c kn m s r') := by
  subst hm' hm
  unfold StM
  refine wframe (X := iprop(Ctx Zf Of K c ∗ keepRes Zf Of c kn ∗ wRes Zf Of c 0 m ∗ wRes Zf Of c 2 s)) ?_ (wait_res (Zf := Zf) (Of := Of) (K := K) hs hN) ?_
  · iintro ⟨#HC, HK, H0, H2, H3, How⟩
    isplitl [H3 How]
    · isplitr; · iexact HC
      isplitl [H3] <;> iassumption
    isplitr; · iexact HC
    isplitl [HK]; · iexact HK
    isplitl [H0] <;> iassumption
  · iintro ⟨⟨H3, How⟩, HC, HK, H0, H2⟩
    isplitl [HC]; · iexact HC
    isplitl [HK]; · iexact HK
    isplitl [H0]; · iexact H0
    isplitl [H2]; · iexact H2
    isplitl [H3] <;> iassumption

/-- The wait on a received chunk, before it is forwarded. -/
theorem wait_1 {l : ℕ} (j : Fin 4) (hl : l = j.val) (hs : sm = usem c 1 j) (hN : dst.view.dmaCredit = NC) :
    StL Zf Of K c kn l ⊢ WP c (Prog.lift (.waitDma2 sm src dst h1 h2))
      (fun _ => iprop(Ctx Zf Of K c ∗ Nbr c ∗ keepRes Zf Of c kn ∗ fwdMid Zf Of c j)) := by
  subst hl
  unfold StL fwd fwdMid
  rw [ge_pop j]
  refine wframe (X := iprop(Ctx Zf Of K c ∗ Nbr c ∗ keepRes Zf Of c kn ∗ (bigSep (ge (j.val + 1)) (fwdTodo c))
    ∗ (dutyTok ER (uc c 2 j) 0 false ∗ dutyTok ER (uc (xp c) 3 j) 0 false) ∗ outAny (xp c) (RowsF (xp c) j.val) ∗ (bigSep (lt j.val) (fwdDone c)))) ?_
    (wait_u (Zf := Zf) (Of := Of) (K := K) (c := c) (O := Due c 4 j.val) hs hN (mayWait_y c j.val j)) ?_
  · unfold fwdTodo
    iintro ⟨#HC, HN, HK, ⟨⟨Hat, Hcr, Ht1, Ht2⟩, Hge⟩, Ho, Hlt, How⟩
    isplitl [Hat Hcr How]
    · isplitr; · iexact HC
      isplitl [Hcr]; · iexact Hcr
      isplitl [How] <;> iassumption
    isplitr; · iexact HC
    isplitl [HN]; · iexact HN
    isplitl [HK]; · iexact HK
    isplitl [Hge]; · iexact Hge
    isplitl [Ht1 Ht2]
    · isplitl [Ht1] <;> iassumption
    isplitl [Ho] <;> iassumption
  · iintro ⟨⟨How, Hat, Hp⟩, HC, HN, HK, Hge, ⟨Ht1, Ht2⟩, Ho, Hlt⟩
    isplitl [HC]; · iexact HC
    isplitl [HN]; · iexact HN
    isplitl [HK]; · iexact HK
    isplitl [Hge]; · iexact Hge
    isplitl [Hat Ht1 Ht2 Hp]
    · isplitl [Hat]; · iexact Hat
      isplitl [Ht1]; · iexact Ht1
      isplitl [Ht2]; · iexact Ht2
      iapply (Entails.of_eq (show upay Zf Of c 1 j = outPt Zf Of c (RowR c j.val) by unfold upay; rw [if_neg (by decide), if_neg (by decide)])) $$ Hp
    isplitl [Ho]; · iexact Ho
    isplitl [Hlt] <;> iassumption
end M

/-- A chunk received over the second axis has on the first-axis neighbour the same final contents. -/
theorem landed_x {k : ℕ} (hk : k < 4) {i : S4096x8x128.Idx} (h0 : RowR c k (i 0).val) : Ofin Zf Of (xp c) i = Ofin Zf Of c i := by
  have hx := xx_lt c
  have hy := yy_lt c
  have hyp := yy_xp c
  have hxp := xx_xp c
  unfold Ofin
  have e1 : ¬ (i 0).val / 2048 = yy c := by
    revert h0
    generalize (i 0).val = r
    simp only [RowR, InR, cRow, roff]
    omega
  have e2 : ((i 0).val % 2048) / 256 % 2 = xx c := by
    revert h0
    generalize (i 0).val = r
    simp only [RowR, InR, cRow, roff]
    omega
  rw [if_neg (by rw [hyp]; exact e1), if_neg (by rw [hxp, e2]; omega), if_neg e1, if_pos e2, xp_xp]

theorem rowF_xp {k : ℕ} : uSet (RowF (xp c) k) = uSet (InR (roff c + cRow (xx c) k) 256) := by
  have hx := xx_lt c
  have hyp := yy_xp c
  have hxp := xx_xp c
  ext i
  rw [mem_uSet, mem_uSet]
  generalize (i 0).val = r
  simp only [RowF, InR, cRow, roff]
  rw [hyp, hxp]
  have : 1 - (1 - xx c) = xx c := by omega
  rw [this]

/-- Forwarding a received chunk to the first-axis neighbour. -/
theorem send_x {kn l : ℕ} (k : Fin 4) (hl : l = k.val + 1) {d : Dev nD} {off : Fin 3 → ℕ} {s1 s2 : DmaSem sig}
    {inbs inbd h1 h2 hsc hw1 hw2 hty} (hd : d = xp c) (hoff : off = ![roff c + cRow (xx c) k.val, 0, 0])
    (hs1 : s1 = usem c 2 k) (hs2 : s2 = usem (xp c) 3 k) :
    iprop(Ctx Zf Of K c ∗ Nbr c ∗ keepRes Zf Of c kn ∗ fwdMid Zf Of c k)
      ⊢ WP c (Prog.lift (.enqueueDma ((Memref.whole main_v10).slice (Rect.unit (s := S4096x8x128) off S256x8x128.size inbs) h1)
          (.remote (Dev.tc d) ((Memref.whole main_v10).slice (Rect.unit (s := S4096x8x128) off S256x8x128.size inbd) h2) (.dma s1) hsc)
          (.dma s2) hw1 hw2 hty))
        (fun _ => StL Zf Of K c kn l) := by
  subst hl hd hs1 hs2 hoff
  have hk := k.isLt
  have hset := uset_eq (off := ![roff c + cRow (xx c) k.val, 0, 0]) (size := S256x8x128.size) (inb := inbs) rfl rfl
  have hI1 := (Ctx_inv Zf Of K c).trans (Invs_u Zf Of K c 2 k)
  have hI2 := (Ctx_inv Zf Of K c).trans (Invs_u Zf Of K (xp c) 3 k)
  have hR1 := Ctx_u Zf Of K c 2 k
  have hR2 := Nbr_x (F := F) c k
  unfold StL fwd fwdMid outAny
  iintro ⟨#HC, #HN, HK, Hge, ⟨Hat, Ht1, Ht2, Hs⟩, ⟨%g, Hu⟩, Hlt, ⟨%W, How⟩⟩
  ihave Hu := (pointsTo_split_subset (rowsF_sub (c := xp c) hk)).1 $$ Hu
  icases Hu with ⟨Hd, Hu⟩
  iapply (Rounds.wp_send_pointsTo 𝒱₀ ER (Rd Zf Of) (c : Thread nD τ) none (c' := (xp c : Thread nD τ))
      (src := (Memref.whole main_v10).slice (Rect.unit (s := S4096x8x128) ![roff c + cRow (xx c) k.val, 0, 0] S256x8x128.size inbs) h1)
      (dst := (Memref.whole main_v10).slice (Rect.unit (s := S4096x8x128) ![roff c + cRow (xx c) k.val, 0, 0] S256x8x128.size inbd) h2)
      (sS := .dma (usem c 2 k)) (sem := .dma (usem (xp c) 3 k)) (q := fullShare) (fs := Ofin Zf Of c) (fd := g)
      (κ₁ := K (uc c 2 k)) (κ₂ := K (uc (xp c) 3 k)) (r₁ := 0) (r₂ := 0) (d₁ := false) (d₂ := false)
      (by rw [duties_u]; exact Finset.mem_singleton_self _) (by rw [duties_u]; exact Finset.mem_singleton_self _)
      () () NC (amt_c _) (amount_u Zf Of c 2 k false) (amount_u Zf Of (xp c) 3 k false) (Due c 4 (k.val + 1)) (Due_x c 4 k) (W := W)
      (by
        rw [payload_u]
        unfold upay outPt
        rw [if_neg (by decide), if_neg (by decide)]
        show (uL c ↦[((View.whole main_v10).slice (Rect.unit (s := S4096x8x128) ![roff c + cRow (xx c) k.val, 0, 0] S256x8x128.size inbs)).set]{fullShare} _) ⊢ _
        rw [hset])
      (by
        rw [payload_u]
        unfold upay outPt
        rw [if_neg (by decide), if_pos rfl]
        show (uL (xp c) ↦[((View.whole main_v10).slice (Rect.unit (s := S4096x8x128) ![roff c + cRow (xx c) k.val, 0, 0] S256x8x128.size inbd)).set]{fullShare} _) ⊢ _
        rw [rowF_xp, ← hset]
        refine Entails.of_eq (pointsTo_congr fun i hi => ?_)
        have hm : i ∈ uSet (InR (roff c + cRow (xx c) k.val) 256) := hset ▸ hi
        refine Eq.trans ?_ (landed_x hk (mem_uSet.mp hm)).symm
        obtain ⟨x, -, rfl⟩ := Finset.mem_map.mp hi
        exact View.write_emb_of_mem _ _ (h := Finset.mem_univ x))) $$ [Hs Hd How Ht1 Ht2]
  · isplitr; · iapply hI1; iexact HC
    isplitr; · iapply hI2; iexact HC
    isplitl [Hs]
    · iapply (Entails.of_eq (show outPt Zf Of c (RowR c k.val)
        = (uL c ↦[((View.whole main_v10).slice (Rect.unit (s := S4096x8x128) ![roff c + cRow (xx c) k.val, 0, 0] S256x8x128.size inbs)).set]{fullShare} Ofin Zf Of c) by rw [hset]; rfl)) $$ Hs
    isplitl [Hd]
    · iapply (Entails.of_eq (show (uL (xp c) ↦[uSet (RowF (xp c) k.val)]{fullShare} g : sProp 𝕄)
        = (uL (xp c) ↦[((View.whole main_v10).slice (Rect.unit (s := S4096x8x128) ![roff c + cRow (xx c) k.val, 0, 0] S256x8x128.size inbd)).set]{fullShare} g) by rw [hset, rowF_xp])) $$ Hd
    isplitl [How]; · iexact How
    isplitl [Ht1]; · iexact Ht1
    isplitr; · iapply hR1; iexact HC
    isplitl [Ht2]; · iexact Ht2
    iapply hR2; iexact HN
  iintro ⟨Hcr1, How⟩
  rw [wp_ret]
  imodintro
  isplitr; · iexact HC
  isplitr; · iexact HN
  isplitl [HK]; · iexact HK
  isplitl [Hge]; · iexact Hge
  isplitl [Hu]
  · iexists g
    iapply (Entails.of_eq (congrArg (fun S => (uL (xp c) ↦[S]{fullShare} g : sProp 𝕄)) (rowsF_sdiff (c := xp c) hk))) $$ Hu
  isplitl [Hlt Hat Hcr1]
  · iapply (Entails.of_eq (lt_push k _).symm)
    isplitl [Hat Hcr1]
    · unfold fwdDone
      isplitl [Hat] <;> iassumption
    iexact Hlt
  iexists W
  iexact How

/-- The kept half's copy leaves the kept buffer's rows, which are its final contents. -/
theorem landed_k {i : S4096x8x128.Idx} {j : S2560x8x128.Idx}
    (h0 : (i 0).val = koff c + (j 0).val) (hj : (j 0).val < 2048) (h1 : i 1 = j 1) (h2 : i 2 = j 2) :
    Ofin Zf Of c i = KB Zf Of c j := by
  have hy := yy_lt c
  have hs : sIx i = j := by
    unfold sIx
    rw [ValueIdx.eq_ix3 j, h1, h2]
    congr 1
    apply Fin.ext
    show (i 0).val % 2048 = (j 0).val
    revert hj h0
    generalize (i 0).val = r
    generalize (j 0).val = s
    simp only [koff]
    omega
  have e1 : (i 0).val / 2048 = yy c := by
    revert hj h0
    generalize (i 0).val = r
    generalize (j 0).val = s
    simp only [koff]
    omega
  unfold Ofin
  rw [if_pos e1, hs]

/-- Starting the copy of the kept half from the first scratch buffer. -/
theorem keep_z {l n n' : ℕ} {off : Fin 3 → ℕ} {s1 : DmaSem sig} {inbs inbd h1 h2 hw1 hw2 hty} (hy : yy c = 0)
    (hoff : off = ![koff c, 0, 0]) (hs1 : s1 = ksem) (hn : n = 0) (hn' : n' = 1) :
    StL Zf Of K c n l
      ⊢ WP c (Prog.lift (.enqueueDma ((Memref.whole cc0_scratch0).slice (Rect.unit (s := S2560x8x128) ![0, 0, 0] S2048x8x128.size inbs) h1)
          (.here ((Memref.whole main_v10).slice (Rect.unit (s := S4096x8x128) off S2048x8x128.size inbd) h2)) (.dma s1) hw1 hw2 hty))
        (fun _ => StL Zf Of K c n' l) := by
  subst hn hn' hs1 hoff
  have hsets := sset_z (off := ![0, 0, 0]) (size := S2048x8x128.size) (inb := inbs) rfl rfl
  have hset := uset_eq (off := ![koff c, 0, 0]) (size := S2048x8x128.size) (inb := inbd) rfl rfl
  have hI := (Ctx_inv Zf Of K c).trans (Invs_k Zf Of K c)
  have hR := Ctx_k Zf Of K c
  unfold StL
  iintro ⟨#HC, HN, HK, Hf⟩
  ihave HK := (Entails.of_eq (show keepRes Zf Of c 0 = iprop(outAny c (InR (koff c) 2048) ∗ dutyTok ER (kc c) 0 false
    ∗ atPos ER (kc c) 0 ∅ 0 ∗ keptPt Zf Of c (InR 0 2048)) from rfl)) $$ HK
  unfold outAny
  icases HK with ⟨⟨%g, Hd⟩, Ht, Hat, Hs⟩
  iapply (Rounds.wp_copy_pointsTo 𝒱₀ ER (Rd Zf Of) (c : Thread nD τ) none
      (src := (Memref.whole cc0_scratch0).slice (Rect.unit (s := S2560x8x128) ![0, 0, 0] S2048x8x128.size inbs) h1)
      (dst := (Memref.whole main_v10).slice (Rect.unit (s := S4096x8x128) ![koff c, 0, 0] S2048x8x128.size inbd) h2)
      (sem := .dma ksem) (q := fullShare) (fs := Zf c) (fd := g) (κ := K (kc c)) (r := 0) (d := false)
      (by rw [duties_k]; exact Finset.mem_singleton_self _)
      () NK (amt_k _) (amount_k Zf Of c false)
      (by
        rw [payload_k]
        unfold kpay
        refine BIClass.sep_mono ?_ ?_
        · unfold outPt
          show (uL c ↦[((View.whole main_v10).slice (Rect.unit (s := S4096x8x128) ![koff c, 0, 0] S2048x8x128.size inbd)).set]{fullShare} _) ⊢ _
          rw [← hset]
          refine Entails.of_eq (pointsTo_congr fun i hi => ?_)
          obtain ⟨x, -, rfl⟩ := Finset.mem_map.mp hi
          refine (View.write_emb_of_mem _ _ (h := Finset.mem_univ x)).trans ?_
          have hj : ∀ a, (((View.whole cc0_scratch0).slice (Rect.unit (s := S2560x8x128) ![0, 0, 0] S2048x8x128.size inbs)).emb x a).val
              = (![0, 0, 0] : Fin 3 → ℕ) a + (x a).val := fun a => ValueKit.view_emb_slice_whole_unit_val ..
          have hi' : ∀ a, (((View.whole main_v10).slice (Rect.unit (s := S4096x8x128) ![koff c, 0, 0] S2048x8x128.size inbd)).emb x a).val
              = (![koff c, 0, 0] : Fin 3 → ℕ) a + (x a).val := fun a => ValueKit.view_emb_slice_whole_unit_val ..
          refine Eq.trans ?_ (landed_k (Zf := Zf) (Of := Of) (c := c) (j := ((View.whole cc0_scratch0).slice (Rect.unit (s := S2560x8x128) ![0, 0, 0] S2048x8x128.size inbs)).emb x)
            ?_ ?_ ?_ ?_).symm
          · rw [KB, if_neg (by rw [hy]; decide)]; rfl
          · refine (hi' 0).trans ?_
            rw [hj 0]
            show koff c + _ = koff c + (0 + _)
            omega
          · rw [hj 0]
            have hx0 : (x 0).val < 2048 := (x 0).isLt
            show 0 + _ < 2048
            omega
          · exact Fin.ext ((hi' 1).trans (hj 1).symm)
          · exact Fin.ext ((hi' 2).trans (hj 2).symm)
        · unfold keptPt
          rw [if_neg (by rw [hy]; decide)]
          show (zL c ↦[((View.whole cc0_scratch0).slice (Rect.unit (s := S2560x8x128) ![0, 0, 0] S2048x8x128.size inbs)).set]{fullShare} _) ⊢ _
          rw [hsets])) $$ [Hs Hd Ht]
  · isplitr; · iapply hI; iexact HC
    isplitl [Hs]
    · iapply (Entails.of_eq (show keptPt Zf Of c (InR 0 2048)
        = (zL c ↦[((View.whole cc0_scratch0).slice (Rect.unit (s := S2560x8x128) ![0, 0, 0] S2048x8x128.size inbs)).set]{fullShare} Zf c) by
          unfold keptPt; rw [if_neg (by rw [hy]; decide), hsets])) $$ Hs
    isplitl [Hd]
    · iapply (Entails.of_eq (show (uL c ↦[uSet (InR (koff c) 2048)]{fullShare} g : sProp 𝕄)
        = (uL c ↦[((View.whole main_v10).slice (Rect.unit (s := S4096x8x128) ![koff c, 0, 0] S2048x8x128.size inbd)).set]{fullShare} g) by rw [hset])) $$ Hd
    isplitl [Ht]; · iexact Ht
    iapply hR; iexact HC
  iintro Hcr
  rw [wp_ret]
  imodintro
  isplitr; · iexact HC
  isplitl [HN]; · iexact HN
  isplitl [Hcr Hat]
  · iapply (Entails.of_eq (show iprop(cred (tallyAt (kc c) () NK) ∗ atPos ER (kc c) 0 ∅ 0) = keepRes Zf Of c 1 from rfl))
    isplitl [Hcr] <;> iassumption
  iexact Hf

/-- Starting the copy of the kept half from the second scratch buffer. -/
theorem keep_o {l n n' : ℕ} {off : Fin 3 → ℕ} {s1 : DmaSem sig} {inbs inbd h1 h2 hw1 hw2 hty} (hy : yy c = 1)
    (hoff : off = ![koff c, 0, 0]) (hs1 : s1 = ksem) (hn : n = 0) (hn' : n' = 1) :
    StL Zf Of K c n l
      ⊢ WP c (Prog.lift (.enqueueDma ((Memref.whole cc0_scratch1).slice (Rect.unit (s := S2560x8x128) ![0, 0, 0] S2048x8x128.size inbs) h1)
          (.here ((Memref.whole main_v10).slice (Rect.unit (s := S4096x8x128) off S2048x8x128.size inbd) h2)) (.dma s1) hw1 hw2 hty))
        (fun _ => StL Zf Of K c n' l) := by
  subst hn hn' hs1 hoff
  have hsets := sset_o (off := ![0, 0, 0]) (size := S2048x8x128.size) (inb := inbs) rfl rfl
  have hset := uset_eq (off := ![koff c, 0, 0]) (size := S2048x8x128.size) (inb := inbd) rfl rfl
  have hI := (Ctx_inv Zf Of K c).trans (Invs_k Zf Of K c)
  have hR := Ctx_k Zf Of K c
  unfold StL
  iintro ⟨#HC, HN, HK, Hf⟩
  ihave HK := (Entails.of_eq (show keepRes Zf Of c 0 = iprop(outAny c (InR (koff c) 2048) ∗ dutyTok ER (kc c) 0 false
    ∗ atPos ER (kc c) 0 ∅ 0 ∗ keptPt Zf Of c (InR 0 2048)) from rfl)) $$ HK
  unfold outAny
  icases HK with ⟨⟨%g, Hd⟩, Ht, Hat, Hs⟩
  iapply (Rounds.wp_copy_pointsTo 𝒱₀ ER (Rd Zf Of) (c : Thread nD τ) none
      (src := (Memref.whole cc0_scratch1).slice (Rect.unit (s := S2560x8x128) ![0, 0, 0] S2048x8x128.size inbs) h1)
      (dst := (Memref.whole main_v10).slice (Rect.unit (s := S4096x8x128) ![koff c, 0, 0] S2048x8x128.size inbd) h2)
      (sem := .dma ksem) (q := fullShare) (fs := Of c) (fd := g) (κ := K (kc c)) (r := 0) (d := false)
      (by rw [duties_k]; exact Finset.mem_singleton_self _)
      () NK (amt_k _) (amount_k Zf Of c false)
      (by
        rw [payload_k]
        unfold kpay
        refine BIClass.sep_mono ?_ ?_
        · unfold outPt
          show (uL c ↦[((View.whole main_v10).slice (Rect.unit (s := S4096x8x128) ![koff c, 0, 0] S2048x8x128.size inbd)).set]{fullShare} _) ⊢ _
          rw [← hset]
          refine Entails.of_eq (pointsTo_congr fun i hi => ?_)
          obtain ⟨x, -, rfl⟩ := Finset.mem_map.mp hi
          refine (View.write_emb_of_mem _ _ (h := Finset.mem_univ x)).trans ?_
          have hj : ∀ a, (((View.whole cc0_scratch1).slice (Rect.unit (s := S2560x8x128) ![0, 0, 0] S2048x8x128.size inbs)).emb x a).val
              = (![0, 0, 0] : Fin 3 → ℕ) a + (x a).val := fun a => ValueKit.view_emb_slice_whole_unit_val ..
          have hi' : ∀ a, (((View.whole main_v10).slice (Rect.unit (s := S4096x8x128) ![koff c, 0, 0] S2048x8x128.size inbd)).emb x a).val
              = (![koff c, 0, 0] : Fin 3 → ℕ) a + (x a).val := fun a => ValueKit.view_emb_slice_whole_unit_val ..
          refine Eq.trans ?_ (landed_k (Zf := Zf) (Of := Of) (c := c) (j := ((View.whole cc0_scratch1).slice (Rect.unit (s := S2560x8x128) ![0, 0, 0] S2048x8x128.size inbs)).emb x)
            ?_ ?_ ?_ ?_).symm
          · rw [KB, if_pos hy]; rfl
          · refine (hi' 0).trans ?_
            rw [hj 0]
            show koff c + _ = koff c + (0 + _)
            omega
          · rw [hj 0]
            have hx0 : (x 0).val < 2048 := (x 0).isLt
            show 0 + _ < 2048
            omega
          · exact Fin.ext ((hi' 1).trans (hj 1).symm)
          · exact Fin.ext ((hi' 2).trans (hj 2).symm)
        · unfold keptPt
          rw [if_pos hy]
          show (oL c ↦[((View.whole cc0_scratch1).slice (Rect.unit (s := S2560x8x128) ![0, 0, 0] S2048x8x128.size inbs)).set]{fullShare} _) ⊢ _
          rw [hsets])) $$ [Hs Hd Ht]
  · isplitr; · iapply hI; iexact HC
    isplitl [Hs]
    · iapply (Entails.of_eq (show keptPt Zf Of c (InR 0 2048)
        = (oL c ↦[((View.whole cc0_scratch1).slice (Rect.unit (s := S2560x8x128) ![0, 0, 0] S2048x8x128.size inbs)).set]{fullShare} Of c) by
          unfold keptPt; rw [if_pos hy, hsets])) $$ Hs
    isplitl [Hd]
    · iapply (Entails.of_eq (show (uL c ↦[uSet (InR (koff c) 2048)]{fullShare} g : sProp 𝕄)
        = (uL c ↦[((View.whole main_v10).slice (Rect.unit (s := S4096x8x128) ![koff c, 0, 0] S2048x8x128.size inbd)).set]{fullShare} g) by rw [hset])) $$ Hd
    isplitl [Ht]; · iexact Ht
    iapply hR; iexact HC
  iintro Hcr
  rw [wp_ret]
  imodintro
  isplitr; · iexact HC
  isplitl [HN]; · iexact HN
  isplitl [Hcr Hat]
  · iapply (Entails.of_eq (show iprop(cred (tallyAt (kc c) () NK) ∗ atPos ER (kc c) 0 ∅ 0) = keepRes Zf Of c 1 from rfl))
    isplitl [Hcr] <;> iassumption
  iexact Hf

/-! ## The counters -/

/-- Whether the kept half's conditional `p` of the two is passed live. -/
def kA (c : Dev nD) (p : ℕ) : ℕ := if yy c < p then 1 else 0
/-- Chunks done of a device after `p` of eight conditionals. -/
def lf (c : Dev nD) (p : ℕ) : ℕ := p / 2 + if xx c < p % 2 then 1 else 0
/-- Waits on sent chunks done after `p` of sixteen conditionals. -/
def mq (c : Dev nD) (p : ℕ) : ℕ := if yy c = 0 then lf c (min p 8) else lf c (p - 8)
/-- Waits on forwarded chunks done after `p` of sixteen conditionals. -/
def sq (c : Dev nD) (p : ℕ) : ℕ := (p + 3 - 2 * xx c) / 4
/-- Waits on chunks forwarded to the device done after `p` of sixteen conditionals. -/
def rq (c : Dev nD) (p : ℕ) : ℕ := (p + 2 * xx c) / 4

theorem StL_skip {k k' l l' : ℕ} (hk : k = k') (hl : l = l') : StL Zf Of K c k l ⊢ StL Zf Of K c k' l' := by subst hk hl; exact .rfl
theorem StM_skip {k k' m m' s s' r r' : ℕ} (hk : k = k') (hm : m = m') (hs : s = s') (hr : r = r') :
    StM Zf Of K c k m s r ⊢ StM Zf Of K c k' m' s' r' := by subst hk hm hs hr; exact .rfl

theorem cr_c : RefSig.tileCredit S256x8x128 .f32 = NC := by decide +kernel
theorem cr_k : RefSig.tileCredit S2048x8x128 .f32 = NK := by decide +kernel

end Cert.KernelIdeal.Talk
-- ==== Proof.Pack.lean ====
/- The packed scratch buffers as values. -/
module

public import proofs.«01_k».proof.Proof.Steps2

@[expose] public section

set_option maxRecDepth 65536

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

/-- Where block `b`'s window of rows starts. -/
def winS : Fin 5 → ℕ := ![0, 768, 1792, 2560, 2560]
/-- The same as a word. -/
def winW : Fin 5 → BitVec 32 := ![0#32, 768#32, 1792#32, 2560#32, 2560#32]
/-- The first packed row of block `b`, as a word. -/
def rowW : Fin 5 → BitVec 32 := ![0#32, 512#32, 1024#32, 1536#32, 2048#32]

theorem winS_le (b : Fin 5) : winS b + 1536 ≤ 4096 := by revert b; decide

/-- The window of rows of block `b` of the first operand. -/
def rA (b : Fin 5) : Rect S4096x1024 := Rect.unit (s := S4096x1024) ![winS b, 0] S1536x1024.size (fun a => by
  have := winS_le b
  match a with
  | ⟨0, _⟩ => exact this
  | ⟨1, _⟩ => exact le_rfl)
/-- The window of block `b` of the second and third operands. -/
def rI (b : Fin 5) : Rect S1x4096 := Rect.unit (s := S1x4096) ![0, winS b] S1x1536.size (fun a => by
  have := winS_le b
  match a with
  | ⟨0, _⟩ => exact le_rfl
  | ⟨1, _⟩ => exact this)

/-- The rows of one block of the first scratch buffer: the one-hot rows of the window times the window. -/
def zBlk (base : BitVec 32) (a : Vec F S1536x1024 .f32) (z r : Vec F S1x1536 .i32) : FVec F S512x1024 .f32 :=
  k0_pay8 (k0_pay1 a) (k0_pay2 z) (k0_pay3 r) (iota .tc S512x1 32 [0] iota_S512x1_d0_w32) (broadcast S512x1 base)
/-- The rows of one block of the second scratch buffer. -/
def oBlk (base start : BitVec 32) (a : Vec F S1536x1024 .f32) (z r : Vec F S1x1536 .i32) : FVec F S512x1024 .f32 :=
  k0_pay17 (k0_pay1 a) (k0_pay7 (k0_pay2 z) (k0_pay3 r)
    (addi (iota .tc S1x1536 32 [1] iota_S1x1536_d1_w32) (broadcast S1x1536 start))
    (iota .tc S512x1 32 [0] iota_S512x1_d0_w32) (broadcast S512x1 base))

/-- Five blocks of 512 rows of 1024, as rows of eight lane blocks. -/
def packT (M : Fin 5 → FVec F S512x1024 .f32) : Vec F S2560x8x128 .f32 := fun i =>
  M ⟨(i 0).val / 512, by have : (i 0).val < 2560 := (i 0).isLt; omega⟩
    (ix2 (n0 := 512) (n1 := 1024) ⟨(i 0).val % 512, Nat.mod_lt _ (by decide)⟩
      ⟨128 * (i 1).val + (i 2).val, by
        have h1 : (i 1).val < 8 := (i 1).isLt
        have h2 : (i 2).val < 128 := (i 2).isLt
        omega⟩)

/-- A lane block of a block's rows is what the packed buffer holds there. -/
theorem lane_of (M : Fin 5 → FVec F S512x1024 .f32) (b : Fin 5) (l : Fin 8) {off : Fin 2 → ℕ} (ho : off = ![0, 128 * l.val])
    {h1 : S512x1024.Slices off S512x128} {h2 : S512x128.ShapeCasts S512x1x128} :
    Lane (packT M) b l (shapeCast S512x1x128 (extractStridedSlice S512x128 off (M b) h1) h2) := by
  intro x
  have hx0 : (x 0).val < 512 := (x 0).isLt
  have hx1 : (x 1).val < 1 := (x 1).isLt
  have hx2 : (x 2).val < 128 := (x 2).isLt
  have hl := l.isLt
  have hb := b.isLt
  subst ho
  rw [shapeCast_apply _ _ x (ix2 (n0 := 512) (n1 := 128) (x 0) (x 2)) (by
    rw [Shape.rowMajor_val_two, Shape.rowMajor_val_three]
    show (x 0).val * 128 + (x 2).val = ((x 0).val * 1 + (x 1).val) * 128 + (x 2).val
    omega)]
  rw [extractStridedSlice_apply _ _ _ _ (ix2 (n0 := 512) (n1 := 1024) (x 0) ⟨128 * l.val + (x 2).val, by omega⟩) (by
    intro a
    match a with
    | ⟨0, _⟩ => exact (Nat.zero_add _).symm
    | ⟨1, _⟩ => rfl)]
  unfold packT
  congr 1
  · congr 1
    apply Fin.ext
    show b.val = (512 * b.val + (x 0).val) / 512
    omega
  · refine congrArg (fun t => ix2 (n0 := 512) (n1 := 1024) t _) ?_
    apply Fin.ext
    show (x 0).val = (512 * b.val + (x 0).val) % 512
    omega

variable {M1 : Memref sig .tc .vmem S4096x1024 .f32} {M2 M3 : Memref sig .tc .vmem S1x4096 .i32} {c : Dev nD}

section
variable (f1 : Buf (Elt F) (M1.view.loc (c : Thread nD τ))) (f2 : Buf (Elt F) (M2.view.loc (c : Thread nD τ)))
  (f3 : Buf (Elt F) (M3.view.loc (c : Thread nD τ)))

/-- Block `b` of the first scratch buffer, from what the operands hold. -/
def zM (b : Fin 5) : FVec F S512x1024 .f32 := zBlk (rowW b) (rd1 M1 f1 (rA b)) (rd2 M2 f2 (rI b)) (rd2 M3 f3 (rI b))
/-- Block `b` of the second scratch buffer, from what the operands hold. -/
def oM (b : Fin 5) : FVec F S512x1024 .f32 := oBlk (rowW b) (winW b) (rd1 M1 f1 (rA b)) (rd2 M2 f2 (rI b)) (rd2 M3 f3 (rI b))
end

end Cert.KernelIdeal.Talk
-- ==== Proof.Conds.lean ====
/- Which of the body's conditionals are taken on which device, when half of a device's rows are routed to each
   destination. -/
module

public import proofs.«01_k».proof.Proof.Gen.KernelIdeal.Skeleton

@[expose] public section

namespace Cert.KernelIdeal.Talk

open Idealize.ShloMosaic Idealize.ShloMosaic.TcCoe Cert.KernelIdeal.Gen

theorem lv1 : ∀ c : Dev nD, k0_cond1 c 2048#32 = 1#1 ↔ c = 1 := by decide +kernel
theorem lv2 : ∀ c : Dev nD, k0_cond2 c 2048#32 = 1#1 ↔ c = 3 := by decide +kernel
theorem nc3 : ∀ c : Dev nD, ¬ k0_cond3 c 2048#32 = 1#1 := by decide +kernel
theorem nc4 : ∀ c : Dev nD, ¬ k0_cond4 c 2048#32 = 1#1 := by decide +kernel
theorem nc5 : ∀ c : Dev nD, ¬ k0_cond5 c 2048#32 = 1#1 := by decide +kernel
theorem nc6 : ∀ c : Dev nD, ¬ k0_cond6 c 2048#32 = 1#1 := by decide +kernel
theorem nc7 : ∀ c : Dev nD, ¬ k0_cond7 c 2048#32 = 1#1 := by decide +kernel
theorem nc8 : ∀ c : Dev nD, ¬ k0_cond8 c 2048#32 = 1#1 := by decide +kernel
theorem nc9 : ∀ c : Dev nD, ¬ k0_cond9 c 2048#32 = 1#1 := by decide +kernel
theorem nc10 : ∀ c : Dev nD, ¬ k0_cond10 c 2048#32 = 1#1 := by decide +kernel
theorem lv11 : ∀ c : Dev nD, k0_cond11 c 2048#32 = 1#1 ↔ c = 0 := by decide +kernel
theorem lv12 : ∀ c : Dev nD, k0_cond12 c 2048#32 = 1#1 ↔ c = 2 := by decide +kernel
theorem nc13 : ∀ c : Dev nD, ¬ k0_cond13 c 2048#32 = 1#1 := by decide +kernel
theorem nc14 : ∀ c : Dev nD, ¬ k0_cond14 c 2048#32 = 1#1 := by decide +kernel
theorem nc15 : ∀ c : Dev nD, ¬ k0_cond15 c 2048#32 = 1#1 := by decide +kernel
theorem nc16 : ∀ c : Dev nD, ¬ k0_cond16 c 2048#32 = 1#1 := by decide +kernel
theorem nc17 : ∀ c : Dev nD, ¬ k0_cond17 c 2048#32 = 1#1 := by decide +kernel
theorem nc18 : ∀ c : Dev nD, ¬ k0_cond18 c 2048#32 = 1#1 := by decide +kernel
theorem nc19 : ∀ c : Dev nD, ¬ k0_cond19 c 2048#32 = 1#1 := by decide +kernel
theorem nc20 : ∀ c : Dev nD, ¬ k0_cond20 c 2048#32 = 1#1 := by decide +kernel
theorem lv21 : ∀ c : Dev nD, k0_cond21 c 2048#32 = 1#1 ↔ c = 1 := by decide +kernel
theorem lv22 : ∀ c : Dev nD, k0_cond22 c 2048#32 = 1#1 ↔ c = 3 := by decide +kernel
theorem nc23 : ∀ c : Dev nD, ¬ k0_cond23 c 2048#32 = 1#1 := by decide +kernel
theorem nc24 : ∀ c : Dev nD, ¬ k0_cond24 c 2048#32 = 1#1 := by decide +kernel
theorem nc25 : ∀ c : Dev nD, ¬ k0_cond25 c 2048#32 = 1#1 := by decide +kernel
theorem nc26 : ∀ c : Dev nD, ¬ k0_cond26 c 2048#32 = 1#1 := by decide +kernel
theorem nc27 : ∀ c : Dev nD, ¬ k0_cond27 c 2048#32 = 1#1 := by decide +kernel
theorem nc28 : ∀ c : Dev nD, ¬ k0_cond28 c 2048#32 = 1#1 := by decide +kernel
theorem nc29 : ∀ c : Dev nD, ¬ k0_cond29 c 2048#32 = 1#1 := by decide +kernel
theorem nc30 : ∀ c : Dev nD, ¬ k0_cond30 c 2048#32 = 1#1 := by decide +kernel
theorem lv31 : ∀ c : Dev nD, k0_cond31 c 2048#32 = 1#1 ↔ c = 0 := by decide +kernel
theorem lv32 : ∀ c : Dev nD, k0_cond32 c 2048#32 = 1#1 ↔ c = 2 := by decide +kernel
theorem nc33 : ∀ c : Dev nD, ¬ k0_cond33 c 2048#32 = 1#1 := by decide +kernel
theorem nc34 : ∀ c : Dev nD, ¬ k0_cond34 c 2048#32 = 1#1 := by decide +kernel
theorem nc35 : ∀ c : Dev nD, ¬ k0_cond35 c 2048#32 = 1#1 := by decide +kernel
theorem nc36 : ∀ c : Dev nD, ¬ k0_cond36 c 2048#32 = 1#1 := by decide +kernel
theorem nc37 : ∀ c : Dev nD, ¬ k0_cond37 c 2048#32 = 1#1 := by decide +kernel
theorem nc38 : ∀ c : Dev nD, ¬ k0_cond38 c 2048#32 = 1#1 := by decide +kernel
theorem nc39 : ∀ c : Dev nD, ¬ k0_cond39 c 2048#32 = 1#1 := by decide +kernel
theorem nc40 : ∀ c : Dev nD, ¬ k0_cond40 c 2048#32 = 1#1 := by decide +kernel
theorem lv41 : ∀ c : Dev nD, k0_cond41 c 2048#32 = 1#1 ↔ c = 1 := by decide +kernel
theorem lv42 : ∀ c : Dev nD, k0_cond42 c 2048#32 = 1#1 ↔ c = 3 := by decide +kernel
theorem nc43 : ∀ c : Dev nD, ¬ k0_cond43 c 2048#32 = 1#1 := by decide +kernel
theorem nc44 : ∀ c : Dev nD, ¬ k0_cond44 c 2048#32 = 1#1 := by decide +kernel
theorem nc45 : ∀ c : Dev nD, ¬ k0_cond45 c 2048#32 = 1#1 := by decide +kernel
theorem nc46 : ∀ c : Dev nD, ¬ k0_cond46 c 2048#32 = 1#1 := by decide +kernel
theorem nc47 : ∀ c : Dev nD, ¬ k0_cond47 c 2048#32 = 1#1 := by decide +kernel
theorem nc48 : ∀ c : Dev nD, ¬ k0_cond48 c 2048#32 = 1#1 := by decide +kernel
theorem nc49 : ∀ c : Dev nD, ¬ k0_cond49 c 2048#32 = 1#1 := by decide +kernel
theorem nc50 : ∀ c : Dev nD, ¬ k0_cond50 c 2048#32 = 1#1 := by decide +kernel
theorem lv51 : ∀ c : Dev nD, k0_cond51 c 2048#32 = 1#1 ↔ c = 0 := by decide +kernel
theorem lv52 : ∀ c : Dev nD, k0_cond52 c 2048#32 = 1#1 ↔ c = 2 := by decide +kernel
theorem nc53 : ∀ c : Dev nD, ¬ k0_cond53 c 2048#32 = 1#1 := by decide +kernel
theorem nc54 : ∀ c : Dev nD, ¬ k0_cond54 c 2048#32 = 1#1 := by decide +kernel
theorem nc55 : ∀ c : Dev nD, ¬ k0_cond55 c 2048#32 = 1#1 := by decide +kernel
theorem nc56 : ∀ c : Dev nD, ¬ k0_cond56 c 2048#32 = 1#1 := by decide +kernel
theorem nc57 : ∀ c : Dev nD, ¬ k0_cond57 c 2048#32 = 1#1 := by decide +kernel
theorem nc58 : ∀ c : Dev nD, ¬ k0_cond58 c 2048#32 = 1#1 := by decide +kernel
theorem nc59 : ∀ c : Dev nD, ¬ k0_cond59 c 2048#32 = 1#1 := by decide +kernel
theorem nc60 : ∀ c : Dev nD, ¬ k0_cond60 c 2048#32 = 1#1 := by decide +kernel
theorem lv61 : ∀ c : Dev nD, k0_cond61 c 2048#32 = 1#1 ↔ c = 1 := by decide +kernel
theorem lv62 : ∀ c : Dev nD, k0_cond62 c 2048#32 = 1#1 ↔ c = 3 := by decide +kernel
theorem nc63 : ∀ c : Dev nD, ¬ k0_cond63 c 2048#32 = 1#1 := by decide +kernel
theorem nc64 : ∀ c : Dev nD, ¬ k0_cond64 c 2048#32 = 1#1 := by decide +kernel
theorem nc65 : ∀ c : Dev nD, ¬ k0_cond65 c 2048#32 = 1#1 := by decide +kernel
theorem nc66 : ∀ c : Dev nD, ¬ k0_cond66 c 2048#32 = 1#1 := by decide +kernel
theorem nc67 : ∀ c : Dev nD, ¬ k0_cond67 c 2048#32 = 1#1 := by decide +kernel
theorem nc68 : ∀ c : Dev nD, ¬ k0_cond68 c 2048#32 = 1#1 := by decide +kernel
theorem nc69 : ∀ c : Dev nD, ¬ k0_cond69 c 2048#32 = 1#1 := by decide +kernel
theorem nc70 : ∀ c : Dev nD, ¬ k0_cond70 c 2048#32 = 1#1 := by decide +kernel
theorem lv71 : ∀ c : Dev nD, k0_cond71 c 2048#32 = 1#1 ↔ c = 0 := by decide +kernel
theorem lv72 : ∀ c : Dev nD, k0_cond72 c 2048#32 = 1#1 ↔ c = 2 := by decide +kernel
theorem nc73 : ∀ c : Dev nD, ¬ k0_cond73 c 2048#32 = 1#1 := by decide +kernel
theorem nc74 : ∀ c : Dev nD, ¬ k0_cond74 c 2048#32 = 1#1 := by decide +kernel
theorem nc75 : ∀ c : Dev nD, ¬ k0_cond75 c 2048#32 = 1#1 := by decide +kernel
theorem nc76 : ∀ c : Dev nD, ¬ k0_cond76 c 2048#32 = 1#1 := by decide +kernel
theorem nc77 : ∀ c : Dev nD, ¬ k0_cond77 c 2048#32 = 1#1 := by decide +kernel
theorem nc78 : ∀ c : Dev nD, ¬ k0_cond78 c 2048#32 = 1#1 := by decide +kernel
theorem nc79 : ∀ c : Dev nD, ¬ k0_cond79 c 2048#32 = 1#1 := by decide +kernel
theorem nc80 : ∀ c : Dev nD, ¬ k0_cond80 c 2048#32 = 1#1 := by decide +kernel
theorem nc81 : ∀ c : Dev nD, ¬ k0_cond81 c 2048#32 = 1#1 := by decide +kernel
theorem nc82 : ∀ c : Dev nD, ¬ k0_cond82 c 2048#32 = 1#1 := by decide +kernel
theorem nc83 : ∀ c : Dev nD, ¬ k0_cond83 c 2048#32 = 1#1 := by decide +kernel
theorem nc84 : ∀ c : Dev nD, ¬ k0_cond84 c 2048#32 = 1#1 := by decide +kernel
theorem nc85 : ∀ c : Dev nD, ¬ k0_cond85 c 2048#32 = 1#1 := by decide +kernel
theorem nc86 : ∀ c : Dev nD, ¬ k0_cond86 c 2048#32 = 1#1 := by decide +kernel
theorem nc87 : ∀ c : Dev nD, ¬ k0_cond87 c 2048#32 = 1#1 := by decide +kernel
theorem nc88 : ∀ c : Dev nD, ¬ k0_cond88 c 2048#32 = 1#1 := by decide +kernel
theorem nc89 : ∀ c : Dev nD, ¬ k0_cond89 c 2048#32 = 1#1 := by decide +kernel
theorem nc90 : ∀ c : Dev nD, ¬ k0_cond90 c 2048#32 = 1#1 := by decide +kernel
theorem nc91 : ∀ c : Dev nD, ¬ k0_cond91 c 2048#32 = 1#1 := by decide +kernel
theorem nc92 : ∀ c : Dev nD, ¬ k0_cond92 c 2048#32 = 1#1 := by decide +kernel
theorem nc93 : ∀ c : Dev nD, ¬ k0_cond93 c 2048#32 = 1#1 := by decide +kernel
theorem nc94 : ∀ c : Dev nD, ¬ k0_cond94 c 2048#32 = 1#1 := by decide +kernel
theorem nc95 : ∀ c : Dev nD, ¬ k0_cond95 c 2048#32 = 1#1 := by decide +kernel
theorem nc96 : ∀ c : Dev nD, ¬ k0_cond96 c 2048#32 = 1#1 := by decide +kernel
theorem nc97 : ∀ c : Dev nD, ¬ k0_cond97 c 2048#32 = 1#1 := by decide +kernel
theorem nc98 : ∀ c : Dev nD, ¬ k0_cond98 c 2048#32 = 1#1 := by decide +kernel
theorem nc99 : ∀ c : Dev nD, ¬ k0_cond99 c 2048#32 = 1#1 := by decide +kernel
theorem nc100 : ∀ c : Dev nD, ¬ k0_cond100 c 2048#32 = 1#1 := by decide +kernel
theorem lv101 : ∀ c : Dev nD, k0_cond101 c 2048#32 = 1#1 ↔ c = 0 ∨ c = 2 := by decide +kernel
theorem nc102 : ∀ c : Dev nD, ¬ k0_cond102 c 2048#32 = 1#1 := by decide +kernel
theorem nc103 : ∀ c : Dev nD, ¬ k0_cond103 c 2048#32 = 1#1 := by decide +kernel
theorem nc104 : ∀ c : Dev nD, ¬ k0_cond104 c 2048#32 = 1#1 := by decide +kernel
theorem nc105 : ∀ c : Dev nD, ¬ k0_cond105 c 2048#32 = 1#1 := by decide +kernel
theorem nc106 : ∀ c : Dev nD, ¬ k0_cond106 c 2048#32 = 1#1 := by decide +kernel
theorem nc107 : ∀ c : Dev nD, ¬ k0_cond107 c 2048#32 = 1#1 := by decide +kernel
theorem nc108 : ∀ c : Dev nD, ¬ k0_cond108 c 2048#32 = 1#1 := by decide +kernel
theorem nc109 : ∀ c : Dev nD, ¬ k0_cond109 c 2048#32 = 1#1 := by decide +kernel
theorem nc110 : ∀ c : Dev nD, ¬ k0_cond110 c 2048#32 = 1#1 := by decide +kernel
theorem nc111 : ∀ c : Dev nD, ¬ k0_cond111 c 2048#32 = 1#1 := by decide +kernel
theorem nc112 : ∀ c : Dev nD, ¬ k0_cond112 c 2048#32 = 1#1 := by decide +kernel
theorem lv113 : ∀ c : Dev nD, k0_cond113 c 2048#32 = 1#1 ↔ c = 1 ∨ c = 3 := by decide +kernel
theorem nc114 : ∀ c : Dev nD, ¬ k0_cond114 c 2048#32 = 1#1 := by decide +kernel
theorem nc115 : ∀ c : Dev nD, ¬ k0_cond115 c 2048#32 = 1#1 := by decide +kernel
theorem nc116 : ∀ c : Dev nD, ¬ k0_cond116 c 2048#32 = 1#1 := by decide +kernel
theorem nc117 : ∀ c : Dev nD, ¬ k0_cond117 c 2048#32 = 1#1 := by decide +kernel
theorem nc118 : ∀ c : Dev nD, ¬ k0_cond118 c 2048#32 = 1#1 := by decide +kernel
theorem nc119 : ∀ c : Dev nD, ¬ k0_cond119 c 2048#32 = 1#1 := by decide +kernel
theorem nc120 : ∀ c : Dev nD, ¬ k0_cond120 c 2048#32 = 1#1 := by decide +kernel
theorem nc121 : ∀ c : Dev nD, ¬ k0_cond121 c 2048#32 = 1#1 := by decide +kernel
theorem nc122 : ∀ c : Dev nD, ¬ k0_cond122 c 2048#32 = 1#1 := by decide +kernel
theorem nc123 : ∀ c : Dev nD, ¬ k0_cond123 c 2048#32 = 1#1 := by decide +kernel
theorem nc124 : ∀ c : Dev nD, ¬ k0_cond124 c 2048#32 = 1#1 := by decide +kernel
theorem lv125 : ∀ c : Dev nD, k0_cond125 c 2048#32 = 1#1 ↔ c = 0 ∨ c = 1 := by decide +kernel
theorem lv126 : ∀ c : Dev nD, k0_cond126 c 2048#32 = 1#1 ↔ c = 2 ∨ c = 3 := by decide +kernel
theorem lv127 : ∀ c : Dev nD, k0_cond127 c 2048#32 = 1#1 ↔ c = 0 ∨ c = 1 := by decide +kernel
theorem lv128 : ∀ c : Dev nD, k0_cond128 c 2048#32 = 1#1 ↔ c = 2 ∨ c = 3 := by decide +kernel
theorem lv129 : ∀ c : Dev nD, k0_cond129 c 2048#32 = 1#1 ↔ c = 0 ∨ c = 1 := by decide +kernel
theorem lv130 : ∀ c : Dev nD, k0_cond130 c 2048#32 = 1#1 ↔ c = 2 ∨ c = 3 := by decide +kernel
theorem lv131 : ∀ c : Dev nD, k0_cond131 c 2048#32 = 1#1 ↔ c = 0 ∨ c = 1 := by decide +kernel
theorem lv132 : ∀ c : Dev nD, k0_cond132 c 2048#32 = 1#1 ↔ c = 2 ∨ c = 3 := by decide +kernel
theorem nc133 : ∀ c : Dev nD, ¬ k0_cond133 c 2048#32 = 1#1 := by decide +kernel
theorem nc134 : ∀ c : Dev nD, ¬ k0_cond134 c 2048#32 = 1#1 := by decide +kernel
theorem nc135 : ∀ c : Dev nD, ¬ k0_cond135 c 2048#32 = 1#1 := by decide +kernel
theorem nc136 : ∀ c : Dev nD, ¬ k0_cond136 c 2048#32 = 1#1 := by decide +kernel
theorem nc137 : ∀ c : Dev nD, ¬ k0_cond137 c 2048#32 = 1#1 := by decide +kernel
theorem nc138 : ∀ c : Dev nD, ¬ k0_cond138 c 2048#32 = 1#1 := by decide +kernel
theorem nc139 : ∀ c : Dev nD, ¬ k0_cond139 c 2048#32 = 1#1 := by decide +kernel
theorem nc140 : ∀ c : Dev nD, ¬ k0_cond140 c 2048#32 = 1#1 := by decide +kernel
theorem nc141 : ∀ c : Dev nD, ¬ k0_cond141 c 2048#32 = 1#1 := by decide +kernel
theorem nc142 : ∀ c : Dev nD, ¬ k0_cond142 c 2048#32 = 1#1 := by decide +kernel
theorem nc143 : ∀ c : Dev nD, ¬ k0_cond143 c 2048#32 = 1#1 := by decide +kernel
theorem nc144 : ∀ c : Dev nD, ¬ k0_cond144 c 2048#32 = 1#1 := by decide +kernel
theorem nc145 : ∀ c : Dev nD, ¬ k0_cond145 c 2048#32 = 1#1 := by decide +kernel
theorem nc146 : ∀ c : Dev nD, ¬ k0_cond146 c 2048#32 = 1#1 := by decide +kernel
theorem nc147 : ∀ c : Dev nD, ¬ k0_cond147 c 2048#32 = 1#1 := by decide +kernel
theorem nc148 : ∀ c : Dev nD, ¬ k0_cond148 c 2048#32 = 1#1 := by decide +kernel
theorem nc149 : ∀ c : Dev nD, ¬ k0_cond149 c 2048#32 = 1#1 := by decide +kernel
theorem nc150 : ∀ c : Dev nD, ¬ k0_cond150 c 2048#32 = 1#1 := by decide +kernel
theorem lv151 : ∀ c : Dev nD, k0_cond151 c 2048#32 = 1#1 ↔ c = 0 ∨ c = 2 := by decide +kernel
theorem nc152 : ∀ c : Dev nD, ¬ k0_cond152 c 2048#32 = 1#1 := by decide +kernel
theorem nc153 : ∀ c : Dev nD, ¬ k0_cond153 c 2048#32 = 1#1 := by decide +kernel
theorem nc154 : ∀ c : Dev nD, ¬ k0_cond154 c 2048#32 = 1#1 := by decide +kernel
theorem nc155 : ∀ c : Dev nD, ¬ k0_cond155 c 2048#32 = 1#1 := by decide +kernel
theorem nc156 : ∀ c : Dev nD, ¬ k0_cond156 c 2048#32 = 1#1 := by decide +kernel
theorem nc157 : ∀ c : Dev nD, ¬ k0_cond157 c 2048#32 = 1#1 := by decide +kernel
theorem nc158 : ∀ c : Dev nD, ¬ k0_cond158 c 2048#32 = 1#1 := by decide +kernel
theorem nc159 : ∀ c : Dev nD, ¬ k0_cond159 c 2048#32 = 1#1 := by decide +kernel
theorem nc160 : ∀ c : Dev nD, ¬ k0_cond160 c 2048#32 = 1#1 := by decide +kernel
theorem nc161 : ∀ c : Dev nD, ¬ k0_cond161 c 2048#32 = 1#1 := by decide +kernel
theorem nc162 : ∀ c : Dev nD, ¬ k0_cond162 c 2048#32 = 1#1 := by decide +kernel
theorem lv163 : ∀ c : Dev nD, k0_cond163 c 2048#32 = 1#1 ↔ c = 1 ∨ c = 3 := by decide +kernel
theorem nc164 : ∀ c : Dev nD, ¬ k0_cond164 c 2048#32 = 1#1 := by decide +kernel
theorem nc165 : ∀ c : Dev nD, ¬ k0_cond165 c 2048#32 = 1#1 := by decide +kernel
theorem nc166 : ∀ c : Dev nD, ¬ k0_cond166 c 2048#32 = 1#1 := by decide +kernel
theorem nc167 : ∀ c : Dev nD, ¬ k0_cond167 c 2048#32 = 1#1 := by decide +kernel
theorem nc168 : ∀ c : Dev nD, ¬ k0_cond168 c 2048#32 = 1#1 := by decide +kernel
theorem nc169 : ∀ c : Dev nD, ¬ k0_cond169 c 2048#32 = 1#1 := by decide +kernel
theorem nc170 : ∀ c : Dev nD, ¬ k0_cond170 c 2048#32 = 1#1 := by decide +kernel
theorem nc171 : ∀ c : Dev nD, ¬ k0_cond171 c 2048#32 = 1#1 := by decide +kernel
theorem nc172 : ∀ c : Dev nD, ¬ k0_cond172 c 2048#32 = 1#1 := by decide +kernel
theorem nc173 : ∀ c : Dev nD, ¬ k0_cond173 c 2048#32 = 1#1 := by decide +kernel
theorem nc174 : ∀ c : Dev nD, ¬ k0_cond174 c 2048#32 = 1#1 := by decide +kernel
theorem lv175 : ∀ c : Dev nD, k0_cond175 c 2048#32 = 1#1 ↔ c = 0 := by decide +kernel
theorem lv176 : ∀ c : Dev nD, k0_cond176 c 2048#32 = 1#1 ↔ c = 2 := by decide +kernel
theorem lv177 : ∀ c : Dev nD, k0_cond177 c 2048#32 = 1#1 ↔ c = 0 := by decide +kernel
theorem lv178 : ∀ c : Dev nD, k0_cond178 c 2048#32 = 1#1 ↔ c = 2 := by decide +kernel
theorem lv179 : ∀ c : Dev nD, k0_cond179 c 2048#32 = 1#1 ↔ c = 0 := by decide +kernel
theorem lv180 : ∀ c : Dev nD, k0_cond180 c 2048#32 = 1#1 ↔ c = 2 := by decide +kernel
theorem lv181 : ∀ c : Dev nD, k0_cond181 c 2048#32 = 1#1 ↔ c = 0 := by decide +kernel
theorem lv182 : ∀ c : Dev nD, k0_cond182 c 2048#32 = 1#1 ↔ c = 2 := by decide +kernel
theorem nc183 : ∀ c : Dev nD, ¬ k0_cond183 c 2048#32 = 1#1 := by decide +kernel
theorem nc184 : ∀ c : Dev nD, ¬ k0_cond184 c 2048#32 = 1#1 := by decide +kernel
theorem nc185 : ∀ c : Dev nD, ¬ k0_cond185 c 2048#32 = 1#1 := by decide +kernel
theorem nc186 : ∀ c : Dev nD, ¬ k0_cond186 c 2048#32 = 1#1 := by decide +kernel
theorem nc187 : ∀ c : Dev nD, ¬ k0_cond187 c 2048#32 = 1#1 := by decide +kernel
theorem nc188 : ∀ c : Dev nD, ¬ k0_cond188 c 2048#32 = 1#1 := by decide +kernel
theorem nc189 : ∀ c : Dev nD, ¬ k0_cond189 c 2048#32 = 1#1 := by decide +kernel
theorem nc190 : ∀ c : Dev nD, ¬ k0_cond190 c 2048#32 = 1#1 := by decide +kernel
theorem nc191 : ∀ c : Dev nD, ¬ k0_cond191 c 2048#32 = 1#1 := by decide +kernel
theorem nc192 : ∀ c : Dev nD, ¬ k0_cond192 c 2048#32 = 1#1 := by decide +kernel
theorem lv193 : ∀ c : Dev nD, k0_cond193 c 2048#32 = 1#1 ↔ c = 1 := by decide +kernel
theorem lv194 : ∀ c : Dev nD, k0_cond194 c 2048#32 = 1#1 ↔ c = 3 := by decide +kernel
theorem lv195 : ∀ c : Dev nD, k0_cond195 c 2048#32 = 1#1 ↔ c = 1 := by decide +kernel
theorem lv196 : ∀ c : Dev nD, k0_cond196 c 2048#32 = 1#1 ↔ c = 3 := by decide +kernel
theorem lv197 : ∀ c : Dev nD, k0_cond197 c 2048#32 = 1#1 ↔ c = 1 := by decide +kernel
theorem lv198 : ∀ c : Dev nD, k0_cond198 c 2048#32 = 1#1 ↔ c = 3 := by decide +kernel
theorem lv199 : ∀ c : Dev nD, k0_cond199 c 2048#32 = 1#1 ↔ c = 1 := by decide +kernel
theorem lv200 : ∀ c : Dev nD, k0_cond200 c 2048#32 = 1#1 ↔ c = 3 := by decide +kernel
theorem nc201 : ∀ c : Dev nD, ¬ k0_cond201 c 2048#32 = 1#1 := by decide +kernel
theorem nc202 : ∀ c : Dev nD, ¬ k0_cond202 c 2048#32 = 1#1 := by decide +kernel
theorem nc203 : ∀ c : Dev nD, ¬ k0_cond203 c 2048#32 = 1#1 := by decide +kernel
theorem nc204 : ∀ c : Dev nD, ¬ k0_cond204 c 2048#32 = 1#1 := by decide +kernel
theorem nc205 : ∀ c : Dev nD, ¬ k0_cond205 c 2048#32 = 1#1 := by decide +kernel
theorem nc206 : ∀ c : Dev nD, ¬ k0_cond206 c 2048#32 = 1#1 := by decide +kernel
theorem nc207 : ∀ c : Dev nD, ¬ k0_cond207 c 2048#32 = 1#1 := by decide +kernel
theorem nc208 : ∀ c : Dev nD, ¬ k0_cond208 c 2048#32 = 1#1 := by decide +kernel
theorem nc209 : ∀ c : Dev nD, ¬ k0_cond209 c 2048#32 = 1#1 := by decide +kernel
theorem nc210 : ∀ c : Dev nD, ¬ k0_cond210 c 2048#32 = 1#1 := by decide +kernel
theorem lv211 : ∀ c : Dev nD, k0_cond211 c 2048#32 = 1#1 ↔ c = 0 ∨ c = 1 := by decide +kernel
theorem lv212 : ∀ c : Dev nD, k0_cond212 c 2048#32 = 1#1 ↔ c = 2 ∨ c = 3 := by decide +kernel
theorem lv213 : ∀ c : Dev nD, k0_cond213 c 2048#32 = 1#1 ↔ c = 2 ∨ c = 3 := by decide +kernel
theorem lv214 : ∀ c : Dev nD, k0_cond214 c 2048#32 = 1#1 ↔ c = 0 ∨ c = 1 := by decide +kernel
theorem lv215 : ∀ c : Dev nD, k0_cond215 c 2048#32 = 1#1 ↔ c = 0 ∨ c = 1 := by decide +kernel
theorem lv216 : ∀ c : Dev nD, k0_cond216 c 2048#32 = 1#1 ↔ c = 2 ∨ c = 3 := by decide +kernel
theorem lv217 : ∀ c : Dev nD, k0_cond217 c 2048#32 = 1#1 ↔ c = 2 ∨ c = 3 := by decide +kernel
theorem lv218 : ∀ c : Dev nD, k0_cond218 c 2048#32 = 1#1 ↔ c = 0 ∨ c = 1 := by decide +kernel
theorem lv219 : ∀ c : Dev nD, k0_cond219 c 2048#32 = 1#1 ↔ c = 0 ∨ c = 1 := by decide +kernel
theorem lv220 : ∀ c : Dev nD, k0_cond220 c 2048#32 = 1#1 ↔ c = 2 ∨ c = 3 := by decide +kernel
theorem lv221 : ∀ c : Dev nD, k0_cond221 c 2048#32 = 1#1 ↔ c = 2 ∨ c = 3 := by decide +kernel
theorem lv222 : ∀ c : Dev nD, k0_cond222 c 2048#32 = 1#1 ↔ c = 0 ∨ c = 1 := by decide +kernel
theorem lv223 : ∀ c : Dev nD, k0_cond223 c 2048#32 = 1#1 ↔ c = 0 ∨ c = 1 := by decide +kernel
theorem lv224 : ∀ c : Dev nD, k0_cond224 c 2048#32 = 1#1 ↔ c = 2 ∨ c = 3 := by decide +kernel
theorem lv225 : ∀ c : Dev nD, k0_cond225 c 2048#32 = 1#1 ↔ c = 2 ∨ c = 3 := by decide +kernel
theorem lv226 : ∀ c : Dev nD, k0_cond226 c 2048#32 = 1#1 ↔ c = 0 ∨ c = 1 := by decide +kernel
theorem nc227 : ∀ c : Dev nD, ¬ k0_cond227 c 2048#32 = 1#1 := by decide +kernel
theorem nc228 : ∀ c : Dev nD, ¬ k0_cond228 c 2048#32 = 1#1 := by decide +kernel
theorem nc229 : ∀ c : Dev nD, ¬ k0_cond229 c 2048#32 = 1#1 := by decide +kernel
theorem nc230 : ∀ c : Dev nD, ¬ k0_cond230 c 2048#32 = 1#1 := by decide +kernel
theorem nc231 : ∀ c : Dev nD, ¬ k0_cond231 c 2048#32 = 1#1 := by decide +kernel
theorem nc232 : ∀ c : Dev nD, ¬ k0_cond232 c 2048#32 = 1#1 := by decide +kernel
theorem nc233 : ∀ c : Dev nD, ¬ k0_cond233 c 2048#32 = 1#1 := by decide +kernel
theorem nc234 : ∀ c : Dev nD, ¬ k0_cond234 c 2048#32 = 1#1 := by decide +kernel
theorem nc235 : ∀ c : Dev nD, ¬ k0_cond235 c 2048#32 = 1#1 := by decide +kernel
theorem nc236 : ∀ c : Dev nD, ¬ k0_cond236 c 2048#32 = 1#1 := by decide +kernel
theorem nc237 : ∀ c : Dev nD, ¬ k0_cond237 c 2048#32 = 1#1 := by decide +kernel
theorem nc238 : ∀ c : Dev nD, ¬ k0_cond238 c 2048#32 = 1#1 := by decide +kernel
theorem nc239 : ∀ c : Dev nD, ¬ k0_cond239 c 2048#32 = 1#1 := by decide +kernel
theorem nc240 : ∀ c : Dev nD, ¬ k0_cond240 c 2048#32 = 1#1 := by decide +kernel
theorem nc241 : ∀ c : Dev nD, ¬ k0_cond241 c 2048#32 = 1#1 := by decide +kernel
theorem nc242 : ∀ c : Dev nD, ¬ k0_cond242 c 2048#32 = 1#1 := by decide +kernel
theorem nc243 : ∀ c : Dev nD, ¬ k0_cond243 c 2048#32 = 1#1 := by decide +kernel
theorem nc244 : ∀ c : Dev nD, ¬ k0_cond244 c 2048#32 = 1#1 := by decide +kernel
theorem nc245 : ∀ c : Dev nD, ¬ k0_cond245 c 2048#32 = 1#1 := by decide +kernel
theorem nc246 : ∀ c : Dev nD, ¬ k0_cond246 c 2048#32 = 1#1 := by decide +kernel
theorem chk : ∀ c : Dev nD, k0_chk1 c 2048#32 := by decide +kernel

end Cert.KernelIdeal.Talk
-- ==== Proof.PartsA.lean ====
/- The parts of the body that pack the two scratch buffers and send their chunks. -/
module

public import proofs.«01_k».proof.Proof.Steps
public import proofs.«01_k».proof.Proof.Conds

@[expose] public section

set_option maxRecDepth 65536

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable {Zf Of : Dev nD → Vec F S2560x8x128 .f32} {K : GSem nD τ sig → ℕ}
variable {M0 : Memref sig .tc .smem S1 .i32} {h0 : M0.IsWhole}
variable {M1 : Memref sig .tc .vmem S4096x1024 .f32} {h1 : M1.IsWhole} {M2 : Memref sig .tc .vmem S1x4096 .i32} {h2 : M2.IsWhole}
variable {M3 : Memref sig .tc .vmem S1x4096 .i32} {h3 : M3.IsWhole}
variable {c : Dev nD} {f1 : Buf (Elt F) (M1.view.loc (c : Thread nD τ))} {f2 : Buf (Elt F) (M2.view.loc (c : Thread nD τ))}
variable {f3 : Buf (Elt F) (M3.view.loc (c : Thread nD τ))}

/-- Part 3 of the body. -/
theorem P3 (v9 : BitVec 1) (v58 : FVec F S1536x1024 .bf16) (v60 : IVec S1x1536 32) (v62 : IVec S1x1536 32) (v65 : IVec S1x1536 32) (v66 : IVec S512x1 32) (v67 : IVec S512x1 32) (hp9 : Lane (Zf c) 0 0 (k0_pay9 v58 v60 v62 v66 v67)) (hp10 : Lane (Zf c) 0 1 (k0_pay10 v58 v60 v62 v66 v67)) (hp11 : Lane (Zf c) 0 2 (k0_pay11 v58 v60 v62 v66 v67)) (hp12 : Lane (Zf c) 0 3 (k0_pay12 v58 v60 v62 v66 v67)) :
    StA Zf Of K M1 M2 M3 c f1 f2 f3 0 0 0
      ⊢ WP c (k0_part3 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 v9 v58 v60 v62 v65 v66 v67)
        (fun r => iprop(⌜∃ w0 : BitVec 1, r = ⟨w0, (k0_pay7 v60 v62 v65 v66 v67), (k0_pay8 v58 v60 v62 v66 v67)⟩⌝ ∗ StA Zf Of K M1 M2 M3 c f1 f2 f3 4 0 0)) := by
  rw [k0_part3_eq_skeleton]; unfold k0_part3_skel
  refine wseq (zload (b := 0) (l := 0) rfl (kz 0 c)) fun _ => ?_
  refine wseq (zstore (b := 0) (l := 0) rfl (kz 0 c) rfl (by decide) (hp9.emb rfl _)) fun _ => ?_
  refine wseq (zload (b := 0) (l := 1) rfl (kz 0 c)) fun _ => ?_
  refine wseq (zstore (b := 0) (l := 1) rfl (kz 0 c) rfl (by decide) (hp10.emb rfl _)) fun _ => ?_
  refine wseq (zload (b := 0) (l := 2) rfl (kz 0 c)) fun _ => ?_
  refine wseq (zstore (b := 0) (l := 2) rfl (kz 0 c) rfl (by decide) (hp11.emb rfl _)) fun _ => ?_
  refine wseq (zload (b := 0) (l := 3) rfl (kz 0 c)) fun _ => ?_
  refine wseq (zstore (b := 0) (l := 3) rfl (kz 0 c) rfl (by decide) (hp12.emb rfl _)) fun _ => ?_
  refine wret ?_
  iintro H
  isplitr; · ipureintro; exact ⟨_, rfl⟩
  iexact H

/-- Part 4 of the body. -/
theorem P4 (v2 : BitVec 32) (v6 : BitVec 32) (hw : k0_chk1 c 2048#32) (v11 : BitVec 32) (v14 : BitVec 32) (v46 : BitVec 32) (v76 : BitVec 1) (v89 : FVec F S512x1024 .f32) (hp13 : Lane (Zf c) 0 4 (k0_pay13 v89)) (hp14 : Lane (Zf c) 0 5 (k0_pay14 v89)) (hp15 : Lane (Zf c) 0 6 (k0_pay15 v89)) (hp16 : Lane (Zf c) 0 7 (k0_pay16 v89)) :
    StA Zf Of K M1 M2 M3 c f1 f2 f3 4 0 0
      ⊢ WP c (k0_part4 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v14 v46 v76 v89)
        (fun _ => StA Zf Of K M1 M2 M3 c f1 f2 f3 8 0 2) := by
  rw [k0_part4_eq_skeleton]; unfold k0_part4_skel
  refine wseq (zload (b := 0) (l := 4) rfl (kz 0 c)) fun _ => ?_
  refine wseq (zstore (b := 0) (l := 4) rfl (kz 0 c) rfl (by decide) (hp13.emb rfl _)) fun _ => ?_
  refine wseq (zload (b := 0) (l := 5) rfl (kz 0 c)) fun _ => ?_
  refine wseq (zstore (b := 0) (l := 5) rfl (kz 0 c) rfl (by decide) (hp14.emb rfl _)) fun _ => ?_
  refine wseq (zload (b := 0) (l := 6) rfl (kz 0 c)) fun _ => ?_
  refine wseq (zstore (b := 0) (l := 6) rfl (kz 0 c) rfl (by decide) (hp15.emb rfl _)) fun _ => ?_
  refine wseq (zload (b := 0) (l := 7) rfl (kz 0 c)) fun _ => ?_
  refine wseq (zstore (b := 0) (l := 7) rfl (kz 0 c) rfl (by decide) (hp16.emb rfl _)) fun _ => ?_
  refine wif (R := StA Zf Of K M1 M2 M3 c f1 f2 f3 8 0 1) rfl (fun h => ?_) (fun h => StA_skip (ksk 0 0 c (fun e => h ((lv1 c).mpr (pl0 c e))))) ?_
  · obtain rfl := (lv1 c).mp h
    exact send_z 0 (by decide) (by decide +kernel) (by decide +kernel) (by decide +kernel) rfl rfl (by decide) (by decide) (by decide)
  refine wif (R := StA Zf Of K M1 M2 M3 c f1 f2 f3 8 0 2) rfl (fun h => ?_) (fun h => StA_skip (ksk 0 1 c (fun e => h ((lv2 c).mpr (pl1 c e))))) ?_
  · obtain rfl := (lv2 c).mp h
    exact send_z 0 (by decide) (by decide +kernel) (by decide +kernel) (by decide +kernel) rfl rfl (by decide) (by decide) (by decide)
  exact wret .rfl

/-- Part 5 of the body. -/
theorem P5 (v2 : BitVec 32) (v6 : BitVec 32) (hw : k0_chk1 c 2048#32) (v11 : BitVec 32) (v14 : BitVec 32) (v35 : BitVec 32) (v46 : BitVec 32) (v76 : BitVec 1) (v136 : BitVec 1) (v138 : BitVec 32) :
    StA Zf Of K M1 M2 M3 c f1 f2 f3 8 0 2
      ⊢ WP c (k0_part5 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v14 v35 v46 v76 v136 v138)
        (fun _ => StA Zf Of K M1 M2 M3 c f1 f2 f3 8 0 2) := by
  rw [k0_part5_eq_skeleton]; unfold k0_part5_skel
  refine wskip (nc3 c) ?_
  refine wskip (nc4 c) ?_
  exact wret .rfl

/-- Part 6 of the body. -/
theorem P6 (v2 : BitVec 32) (v6 : BitVec 32) (hw : k0_chk1 c 2048#32) (v11 : BitVec 32) (v35 : BitVec 32) (v76 : BitVec 1) (v136 : BitVec 1) (v177 : BitVec 1) (v178 : BitVec 32) (c0_i32_81 : BitVec 32) :
    StA Zf Of K M1 M2 M3 c f1 f2 f3 8 0 2
      ⊢ WP c (k0_part6 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v35 v76 v136 v177 v178 c0_i32_81)
        (fun _ => StA Zf Of K M1 M2 M3 c f1 f2 f3 8 0 2) := by
  rw [k0_part6_eq_skeleton]; unfold k0_part6_skel
  refine wskip (nc5 c) ?_
  refine wskip (nc6 c) ?_
  refine wskip (nc7 c) ?_
  refine wskip (nc8 c) ?_
  exact wret .rfl

/-- Part 7 of the body. -/
theorem P7 (v2 : BitVec 32) (v6 : BitVec 32) (hw : k0_chk1 c 2048#32) (v11 : BitVec 32) (v35 : BitVec 32) (v58 : FVec F S1536x1024 .bf16) (v76 : BitVec 1) (v84 : IVec S512x1536 1) (v136 : BitVec 1) (v213 : BitVec 32) (hp18 : Lane (Of c) 0 0 (k0_pay18 v58 v84)) (hp19 : Lane (Of c) 0 1 (k0_pay19 v58 v84)) (hp20 : Lane (Of c) 0 2 (k0_pay20 v58 v84)) (hp21 : Lane (Of c) 0 3 (k0_pay21 v58 v84)) :
    StA Zf Of K M1 M2 M3 c f1 f2 f3 8 0 2
      ⊢ WP c (k0_part7 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v35 v58 v76 v84 v136 v213)
        (fun r => iprop(⌜r = ⟨(k0_pay17 v58 v84), (k0_pay22 v58 v84)⟩⌝ ∗ StA Zf Of K M1 M2 M3 c f1 f2 f3 8 4 2)) := by
  rw [k0_part7_eq_skeleton]; unfold k0_part7_skel
  refine wskip (nc9 c) ?_
  refine wskip (nc10 c) ?_
  refine wseq (oload (b := 0) (l := 0) rfl (ko 0 c)) fun _ => ?_
  refine wseq (ostore (b := 0) (l := 0) rfl (ko 0 c) rfl (by decide) (hp18.emb rfl _)) fun _ => ?_
  refine wseq (oload (b := 0) (l := 1) rfl (ko 0 c)) fun _ => ?_
  refine wseq (ostore (b := 0) (l := 1) rfl (ko 0 c) rfl (by decide) (hp19.emb rfl _)) fun _ => ?_
  refine wseq (oload (b := 0) (l := 2) rfl (ko 0 c)) fun _ => ?_
  refine wseq (ostore (b := 0) (l := 2) rfl (ko 0 c) rfl (by decide) (hp20.emb rfl _)) fun _ => ?_
  refine wseq (oload (b := 0) (l := 3) rfl (ko 0 c)) fun _ => ?_
  refine wseq (ostore (b := 0) (l := 3) rfl (ko 0 c) rfl (by decide) (hp21.emb rfl _)) fun _ => ?_
  refine wret ?_
  iintro H
  isplitr; · ipureintro; exact rfl
  iexact H

/-- Part 8 of the body. -/
theorem P8 (v2 : BitVec 32) (v6 : BitVec 32) (hw : k0_chk1 c 2048#32) (v9 : BitVec 1) (v11 : BitVec 32) (v14 : BitVec 32) (v46 : BitVec 32) (v227 : FVec F S512x1024 .f32) (v244 : FVec F S512x128 .f32) (hp23 : Lane (Of c) 0 4 (k0_pay23 v244)) (hp24 : Lane (Of c) 0 5 (k0_pay24 v227)) (hp25 : Lane (Of c) 0 6 (k0_pay25 v227)) (hp26 : Lane (Of c) 0 7 (k0_pay26 v227)) :
    StA Zf Of K M1 M2 M3 c f1 f2 f3 8 4 2
      ⊢ WP c (k0_part8 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v14 v46 v227 v244)
        (fun _ => StA Zf Of K M1 M2 M3 c f1 f2 f3 8 8 4) := by
  rw [k0_part8_eq_skeleton]; unfold k0_part8_skel
  refine wseq (oload (b := 0) (l := 4) rfl (ko 0 c)) fun _ => ?_
  refine wseq (ostore (b := 0) (l := 4) rfl (ko 0 c) rfl (by decide) (hp23.emb rfl _)) fun _ => ?_
  refine wseq (oload (b := 0) (l := 5) rfl (ko 0 c)) fun _ => ?_
  refine wseq (ostore (b := 0) (l := 5) rfl (ko 0 c) rfl (by decide) (hp24.emb rfl _)) fun _ => ?_
  refine wseq (oload (b := 0) (l := 6) rfl (ko 0 c)) fun _ => ?_
  refine wseq (ostore (b := 0) (l := 6) rfl (ko 0 c) rfl (by decide) (hp25.emb rfl _)) fun _ => ?_
  refine wseq (oload (b := 0) (l := 7) rfl (ko 0 c)) fun _ => ?_
  refine wseq (ostore (b := 0) (l := 7) rfl (ko 0 c) rfl (by decide) (hp26.emb rfl _)) fun _ => ?_
  refine wif (R := StA Zf Of K M1 M2 M3 c f1 f2 f3 8 8 3) rfl (fun h => ?_) (fun h => StA_skip (ksk 0 2 c (fun e => h ((lv11 c).mpr (pl2 c e))))) ?_
  · obtain rfl := (lv11 c).mp h
    exact send_o 0 (by decide) (by decide +kernel) (by decide +kernel) (by decide +kernel) rfl rfl (by decide) (by decide) (by decide)
  refine wif (R := StA Zf Of K M1 M2 M3 c f1 f2 f3 8 8 4) rfl (fun h => ?_) (fun h => StA_skip (ksk 0 3 c (fun e => h ((lv12 c).mpr (pl3 c e))))) ?_
  · obtain rfl := (lv12 c).mp h
    exact send_o 0 (by decide) (by decide +kernel) (by decide +kernel) (by decide +kernel) rfl rfl (by decide) (by decide) (by decide)
  exact wret .rfl

/-- Part 9 of the body. -/
theorem P9 (v2 : BitVec 32) (v6 : BitVec 32) (hw : k0_chk1 c 2048#32) (v9 : BitVec 1) (v11 : BitVec 32) (v14 : BitVec 32) (v35 : BitVec 32) (v274 : BitVec 1) (v277 : BitVec 32) :
    StA Zf Of K M1 M2 M3 c f1 f2 f3 8 8 4
      ⊢ WP c (k0_part9 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v14 v35 v274 v277)
        (fun _ => StA Zf Of K M1 M2 M3 c f1 f2 f3 8 8 4) := by
  rw [k0_part9_eq_skeleton]; unfold k0_part9_skel
  refine wskip (nc13 c) ?_
  refine wskip (nc14 c) ?_
  exact wret .rfl

/-- Part 10 of the body. -/
theorem P10 (v2 : BitVec 32) (v6 : BitVec 32) (hw : k0_chk1 c 2048#32) (v9 : BitVec 1) (v11 : BitVec 32) (v35 : BitVec 32) (v274 : BitVec 1) (v318 : BitVec 1) :
    StA Zf Of K M1 M2 M3 c f1 f2 f3 8 8 4
      ⊢ WP c (k0_part10 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v35 v274 v318)
        (fun _ => StA Zf Of K M1 M2 M3 c f1 f2 f3 8 8 4) := by
  rw [k0_part10_eq_skeleton]; unfold k0_part10_skel
  refine wskip (nc15 c) ?_
  refine wskip (nc16 c) ?_
  refine wskip (nc17 c) ?_
  refine wskip (nc18 c) ?_
  exact wret .rfl

/-- Part 11 of the body. -/
theorem P11 (v2 : BitVec 32) (v6 : BitVec 32) (hw : k0_chk1 c 2048#32) (v9 : BitVec 1) (v11 : BitVec 32) (v35 : BitVec 32) (v274 : BitVec 1) (v351 : BitVec 32) (c0_i32_182 : BitVec 32) :
    StA Zf Of K M1 M2 M3 c f1 f2 f3 8 8 4
      ⊢ WP c (k0_part11 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v35 v274 v351 c0_i32_182)
        (fun r => iprop(⌜∃ w0 : BitVec 1, r = ⟨(k0_pay27 (rd1 M1 f1 (Rect.unit (s := S4096x1024) ![768, 0] S1536x1024.size inb_S4096x1024_S1536x1024_768_0))), (k0_pay31 (rd2 M2 f2 (Rect.unit (s := S1x4096) ![0, 768] S1x1536.size inb_S1x4096_S1x1536_0_768)) (rd2 M3 f3 (Rect.unit (s := S1x4096) ![0, 768] S1x1536.size inb_S1x4096_S1x1536_0_768))), w0, (k0_pay32 (rd2 M2 f2 (Rect.unit (s := S1x4096) ![0, 768] S1x1536.size inb_S1x4096_S1x1536_0_768)) (rd2 M3 f3 (Rect.unit (s := S1x4096) ![0, 768] S1x1536.size inb_S1x4096_S1x1536_0_768))), (k0_pay33 (F := F)), (k0_pay34 (F := F))⟩⌝ ∗ StA Zf Of K M1 M2 M3 c f1 f2 f3 8 8 4)) := by
  rw [k0_part11_eq_skeleton]; unfold k0_part11_skel
  refine wskip (nc19 c) ?_
  refine wskip (nc20 c) ?_
  refine wseqEq _ load1 ?_
  refine wseqEq _ load2 ?_
  refine wseqEq _ load3 ?_
  refine wret ?_
  iintro H
  isplitr; · ipureintro; exact ⟨_, rfl⟩
  iexact H

/-- Part 12 of the body. -/
theorem P12 (v363 : FVec F S1536x1024 .bf16) (v380 : IVec S512x1536 1) (v390 : FVec F S512x1536 .f32) (v391 : FVec F S512x1536 .f32) (hp36 : Lane (Zf c) 1 0 (k0_pay36 v363 v380 v390 v391)) (hp37 : Lane (Zf c) 1 1 (k0_pay37 v363 v380 v390 v391)) (hp38 : Lane (Zf c) 1 2 (k0_pay38 v363 v380 v390 v391)) (hp39 : Lane (Zf c) 1 3 (k0_pay39 v363 v380 v390 v391)) (hp40 : Lane (Zf c) 1 4 (k0_pay40 v363 v380 v390 v391)) (hp41 : Lane (Zf c) 1 5 (k0_pay41 v363 v380 v390 v391)) (hp42 : Lane (Zf c) 1 6 (k0_pay42 v363 v380 v390 v391)) :
    StA Zf Of K M1 M2 M3 c f1 f2 f3 8 8 4
      ⊢ WP c (k0_part12 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 v363 v380 v390 v391)
        (fun r => iprop(⌜r = ((k0_pay35 v363 v380 v390 v391))⌝ ∗ StA Zf Of K M1 M2 M3 c f1 f2 f3 15 8 4)) := by
  rw [k0_part12_eq_skeleton]; unfold k0_part12_skel
  refine wseq (zload (b := 1) (l := 0) rfl (kz 1 c)) fun _ => ?_
  refine wseq (zstore (b := 1) (l := 0) rfl (kz 1 c) rfl (by decide) (hp36.emb rfl _)) fun _ => ?_
  refine wseq (zload (b := 1) (l := 1) rfl (kz 1 c)) fun _ => ?_
  refine wseq (zstore (b := 1) (l := 1) rfl (kz 1 c) rfl (by decide) (hp37.emb rfl _)) fun _ => ?_
  refine wseq (zload (b := 1) (l := 2) rfl (kz 1 c)) fun _ => ?_
  refine wseq (zstore (b := 1) (l := 2) rfl (kz 1 c) rfl (by decide) (hp38.emb rfl _)) fun _ => ?_
  refine wseq (zload (b := 1) (l := 3) rfl (kz 1 c)) fun _ => ?_
  refine wseq (zstore (b := 1) (l := 3) rfl (kz 1 c) rfl (by decide) (hp39.emb rfl _)) fun _ => ?_
  refine wseq (zload (b := 1) (l := 4) rfl (kz 1 c)) fun _ => ?_
  refine wseq (zstore (b := 1) (l := 4) rfl (kz 1 c) rfl (by decide) (hp40.emb rfl _)) fun _ => ?_
  refine wseq (zload (b := 1) (l := 5) rfl (kz 1 c)) fun _ => ?_
  refine wseq (zstore (b := 1) (l := 5) rfl (kz 1 c) rfl (by decide) (hp41.emb rfl _)) fun _ => ?_
  refine wseq (zload (b := 1) (l := 6) rfl (kz 1 c)) fun _ => ?_
  refine wseq (zstore (b := 1) (l := 6) rfl (kz 1 c) rfl (by decide) (hp42.emb rfl _)) fun _ => ?_
  refine wret ?_
  iintro H
  isplitr; · ipureintro; exact rfl
  iexact H

/-- Part 13 of the body. -/
theorem P13 (v2 : BitVec 32) (v6 : BitVec 32) (hw : k0_chk1 c 2048#32) (v11 : BitVec 32) (v14 : BitVec 32) (v46 : BitVec 32) (v381 : BitVec 1) (v394 : FVec F S512x1024 .f32) (hp43 : Lane (Zf c) 1 7 (k0_pay43 v394)) :
    StA Zf Of K M1 M2 M3 c f1 f2 f3 15 8 4
      ⊢ WP c (k0_part13 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v14 v46 v381 v394)
        (fun _ => StA Zf Of K M1 M2 M3 c f1 f2 f3 16 8 6) := by
  rw [k0_part13_eq_skeleton]; unfold k0_part13_skel
  refine wseq (zload (b := 1) (l := 7) rfl (kz 1 c)) fun _ => ?_
  refine wseq (zstore (b := 1) (l := 7) rfl (kz 1 c) rfl (by decide) (hp43.emb rfl _)) fun _ => ?_
  refine wif (R := StA Zf Of K M1 M2 M3 c f1 f2 f3 16 8 5) rfl (fun h => ?_) (fun h => StA_skip (ksk 1 0 c (fun e => h ((lv21 c).mpr (pl0 c e))))) ?_
  · obtain rfl := (lv21 c).mp h
    exact send_z 1 (by decide) (by decide +kernel) (by decide +kernel) (by decide +kernel) rfl rfl (by decide) (by decide) (by decide)
  refine wif (R := StA Zf Of K M1 M2 M3 c f1 f2 f3 16 8 6) rfl (fun h => ?_) (fun h => StA_skip (ksk 1 1 c (fun e => h ((lv22 c).mpr (pl1 c e))))) ?_
  · obtain rfl := (lv22 c).mp h
    exact send_z 1 (by decide) (by decide +kernel) (by decide +kernel) (by decide +kernel) rfl rfl (by decide) (by decide) (by decide)
  exact wret .rfl

/-- Part 14 of the body. -/
theorem P14 (v2 : BitVec 32) (v6 : BitVec 32) (hw : k0_chk1 c 2048#32) (v11 : BitVec 32) (v14 : BitVec 32) (v35 : BitVec 32) (v381 : BitVec 1) (v441 : BitVec 1) (v459 : BitVec 32) (v461 : BitVec 32) :
    StA Zf Of K M1 M2 M3 c f1 f2 f3 16 8 6
      ⊢ WP c (k0_part14 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v14 v35 v381 v441 v459 v461)
        (fun _ => StA Zf Of K M1 M2 M3 c f1 f2 f3 16 8 6) := by
  rw [k0_part14_eq_skeleton]; unfold k0_part14_skel
  refine wskip (nc23 c) ?_
  refine wskip (nc24 c) ?_
  refine wskip (nc25 c) ?_
  refine wskip (nc26 c) ?_
  exact wret .rfl

/-- Part 15 of the body. -/
theorem P15 (v2 : BitVec 32) (v6 : BitVec 32) (hw : k0_chk1 c 2048#32) (v11 : BitVec 32) (v35 : BitVec 32) (v381 : BitVec 1) (v389 : IVec S512x1536 1) (v441 : BitVec 1) (v496 : BitVec 1) (v497 : BitVec 1) :
    StA Zf Of K M1 M2 M3 c f1 f2 f3 16 8 6
      ⊢ WP c (k0_part15 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v35 v381 v389 v441 v496 v497)
        (fun r => iprop(⌜r = ((k0_pay44 (F := F) v389))⌝ ∗ StA Zf Of K M1 M2 M3 c f1 f2 f3 16 8 6)) := by
  rw [k0_part15_eq_skeleton]; unfold k0_part15_skel
  refine wskip (nc27 c) ?_
  refine wskip (nc28 c) ?_
  refine wskip (nc29 c) ?_
  refine wskip (nc30 c) ?_
  refine wret ?_
  iintro H
  isplitr; · ipureintro; exact rfl
  iexact H

/-- Part 16 of the body. -/
theorem P16 (v363 : FVec F S1536x1024 .bf16) (v531 : FVec F S512x1536 .bf16) (hp46 : Lane (Of c) 1 0 (k0_pay46 v363 v531)) (hp47 : Lane (Of c) 1 1 (k0_pay47 v363 v531)) (hp48 : Lane (Of c) 1 2 (k0_pay48 v363 v531)) (hp49 : Lane (Of c) 1 3 (k0_pay49 v363 v531)) (hp50 : Lane (Of c) 1 4 (k0_pay50 v363 v531)) (hp51 : Lane (Of c) 1 5 (k0_pay51 v363 v531)) (hp52 : Lane (Of c) 1 6 (k0_pay52 v363 v531)) :
    StA Zf Of K M1 M2 M3 c f1 f2 f3 16 8 6
      ⊢ WP c (k0_part16 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 v363 v531)
        (fun r => iprop(⌜r = ((k0_pay53 v363 v531))⌝ ∗ StA Zf Of K M1 M2 M3 c f1 f2 f3 16 15 6)) := by
  rw [k0_part16_eq_skeleton]; unfold k0_part16_skel
  refine wseq (oload (b := 1) (l := 0) rfl (ko 1 c)) fun _ => ?_
  refine wseq (ostore (b := 1) (l := 0) rfl (ko 1 c) rfl (by decide) (hp46.emb rfl _)) fun _ => ?_
  refine wseq (oload (b := 1) (l := 1) rfl (ko 1 c)) fun _ => ?_
  refine wseq (ostore (b := 1) (l := 1) rfl (ko 1 c) rfl (by decide) (hp47.emb rfl _)) fun _ => ?_
  refine wseq (oload (b := 1) (l := 2) rfl (ko 1 c)) fun _ => ?_
  refine wseq (ostore (b := 1) (l := 2) rfl (ko 1 c) rfl (by decide) (hp48.emb rfl _)) fun _ => ?_
  refine wseq (oload (b := 1) (l := 3) rfl (ko 1 c)) fun _ => ?_
  refine wseq (ostore (b := 1) (l := 3) rfl (ko 1 c) rfl (by decide) (hp49.emb rfl _)) fun _ => ?_
  refine wseq (oload (b := 1) (l := 4) rfl (ko 1 c)) fun _ => ?_
  refine wseq (ostore (b := 1) (l := 4) rfl (ko 1 c) rfl (by decide) (hp50.emb rfl _)) fun _ => ?_
  refine wseq (oload (b := 1) (l := 5) rfl (ko 1 c)) fun _ => ?_
  refine wseq (ostore (b := 1) (l := 5) rfl (ko 1 c) rfl (by decide) (hp51.emb rfl _)) fun _ => ?_
  refine wseq (oload (b := 1) (l := 6) rfl (ko 1 c)) fun _ => ?_
  refine wseq (ostore (b := 1) (l := 6) rfl (ko 1 c) rfl (by decide) (hp52.emb rfl _)) fun _ => ?_
  refine wret ?_
  iintro H
  isplitr; · ipureintro; exact rfl
  iexact H

/-- Part 17 of the body. -/
theorem P17 (v2 : BitVec 32) (v6 : BitVec 32) (hw : k0_chk1 c 2048#32) (v9 : BitVec 1) (v11 : BitVec 32) (v14 : BitVec 32) (v46 : BitVec 32) (v561 : FVec F S512x128 .f32) (hp54 : Lane (Of c) 1 7 (k0_pay54 v561)) :
    StA Zf Of K M1 M2 M3 c f1 f2 f3 16 15 6
      ⊢ WP c (k0_part17 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v14 v46 v561)
        (fun _ => StA Zf Of K M1 M2 M3 c f1 f2 f3 16 16 8) := by
  rw [k0_part17_eq_skeleton]; unfold k0_part17_skel
  refine wseq (oload (b := 1) (l := 7) rfl (ko 1 c)) fun _ => ?_
  refine wseq (ostore (b := 1) (l := 7) rfl (ko 1 c) rfl (by decide) (hp54.emb rfl _)) fun _ => ?_
  refine wif (R := StA Zf Of K M1 M2 M3 c f1 f2 f3 16 16 7) rfl (fun h => ?_) (fun h => StA_skip (ksk 1 2 c (fun e => h ((lv31 c).mpr (pl2 c e))))) ?_
  · obtain rfl := (lv31 c).mp h
    exact send_o 1 (by decide) (by decide +kernel) (by decide +kernel) (by decide +kernel) rfl rfl (by decide) (by decide) (by decide)
  refine wif (R := StA Zf Of K M1 M2 M3 c f1 f2 f3 16 16 8) rfl (fun h => ?_) (fun h => StA_skip (ksk 1 3 c (fun e => h ((lv32 c).mpr (pl3 c e))))) ?_
  · obtain rfl := (lv32 c).mp h
    exact send_o 1 (by decide) (by decide +kernel) (by decide +kernel) (by decide +kernel) rfl rfl (by decide) (by decide) (by decide)
  exact wret .rfl

/-- Part 18 of the body. -/
theorem P18 (v2 : BitVec 32) (v6 : BitVec 32) (hw : k0_chk1 c 2048#32) (v9 : BitVec 1) (v11 : BitVec 32) (v35 : BitVec 32) (v579 : BitVec 1) :
    StA Zf Of K M1 M2 M3 c f1 f2 f3 16 16 8
      ⊢ WP c (k0_part18 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v35 v579)
        (fun _ => StA Zf Of K M1 M2 M3 c f1 f2 f3 16 16 8) := by
  rw [k0_part18_eq_skeleton]; unfold k0_part18_skel
  refine wskip (nc33 c) ?_
  refine wskip (nc34 c) ?_
  refine wskip (nc35 c) ?_
  refine wskip (nc36 c) ?_
  exact wret .rfl

/-- Part 19 of the body. -/
theorem P19 (v2 : BitVec 32) (v6 : BitVec 32) (hw : k0_chk1 c 2048#32) (v9 : BitVec 1) (v11 : BitVec 32) (v35 : BitVec 32) (v579 : BitVec 1) (v636 : BitVec 1) (c8_i32_339 : BitVec 32) :
    StA Zf Of K M1 M2 M3 c f1 f2 f3 16 16 8
      ⊢ WP c (k0_part19 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v35 v579 v636 c8_i32_339)
        (fun r => iprop(⌜r = ⟨(k0_pay55 (rd1 M1 f1 (Rect.unit (s := S4096x1024) ![1792, 0] S1536x1024.size inb_S4096x1024_S1536x1024_1792_0))), ((rd2 M2 f2 (Rect.unit (s := S1x4096) ![0, 1792] S1x1536.size inb_S1x4096_S1x1536_0_1792)))⟩⌝ ∗ StA Zf Of K M1 M2 M3 c f1 f2 f3 16 16 8)) := by
  rw [k0_part19_eq_skeleton]; unfold k0_part19_skel
  refine wskip (nc37 c) ?_
  refine wskip (nc38 c) ?_
  refine wskip (nc39 c) ?_
  refine wskip (nc40 c) ?_
  refine wseqEq _ load1 ?_
  refine wseqEq _ load2 ?_
  refine wret ?_
  iintro H
  isplitr; · ipureintro; exact rfl
  iexact H

/-- Part 20 of the body. -/
theorem P20 (v9 : BitVec 1) (v668 : FVec F S1536x1024 .bf16) (v669 : Vec F S1x1536 .i32) (hp61 : Lane (Zf c) 2 0 (k0_pay61 v668 v669 (rd2 M3 f3 (Rect.unit (s := S1x4096) ![0, 1792] S1x1536.size inb_S1x4096_S1x1536_0_1792)))) (hp62 : Lane (Zf c) 2 1 (k0_pay62 v668 v669 (rd2 M3 f3 (Rect.unit (s := S1x4096) ![0, 1792] S1x1536.size inb_S1x4096_S1x1536_0_1792)))) :
    StA Zf Of K M1 M2 M3 c f1 f2 f3 16 16 8
      ⊢ WP c (k0_part20 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 v9 v668 v669)
        (fun r => iprop(⌜∃ w0 : BitVec 1, r = ⟨w0, (k0_pay59 v669 (rd2 M3 f3 (Rect.unit (s := S1x4096) ![0, 1792] S1x1536.size inb_S1x4096_S1x1536_0_1792))), (k0_pay60 v668 v669 (rd2 M3 f3 (Rect.unit (s := S1x4096) ![0, 1792] S1x1536.size inb_S1x4096_S1x1536_0_1792))), (k0_pay63 v668 v669 (rd2 M3 f3 (Rect.unit (s := S1x4096) ![0, 1792] S1x1536.size inb_S1x4096_S1x1536_0_1792)))⟩⌝ ∗ StA Zf Of K M1 M2 M3 c f1 f2 f3 18 16 8)) := by
  rw [k0_part20_eq_skeleton]; unfold k0_part20_skel
  refine wseqEq _ load3 ?_
  refine wseq (zload (b := 2) (l := 0) rfl (kz 2 c)) fun _ => ?_
  refine wseq (zstore (b := 2) (l := 0) rfl (kz 2 c) rfl (by decide) (hp61.emb rfl _)) fun _ => ?_
  refine wseq (zload (b := 2) (l := 1) rfl (kz 2 c)) fun _ => ?_
  refine wseq (zstore (b := 2) (l := 1) rfl (kz 2 c) rfl (by decide) (hp62.emb rfl _)) fun _ => ?_
  refine wret ?_
  iintro H
  isplitr; · ipureintro; exact ⟨_, rfl⟩
  iexact H

/-- Part 21 of the body. -/
theorem P21 (v2 : BitVec 32) (v6 : BitVec 32) (hw : k0_chk1 c 2048#32) (v11 : BitVec 32) (v14 : BitVec 32) (v686 : BitVec 1) (v699 : FVec F S512x1024 .f32) (v708 : FVec F S512x128 .f32) (hp64 : Lane (Zf c) 2 2 (k0_pay64 v708)) (hp65 : Lane (Zf c) 2 3 (k0_pay65 v699)) (hp66 : Lane (Zf c) 2 4 (k0_pay66 v699)) (hp67 : Lane (Zf c) 2 5 (k0_pay67 v699)) (hp68 : Lane (Zf c) 2 6 (k0_pay68 v699)) (hp69 : Lane (Zf c) 2 7 (k0_pay69 v699)) :
    StA Zf Of K M1 M2 M3 c f1 f2 f3 18 16 8
      ⊢ WP c (k0_part21 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v14 v686 v699 v708)
        (fun _ => StA Zf Of K M1 M2 M3 c f1 f2 f3 24 16 9) := by
  rw [k0_part21_eq_skeleton]; unfold k0_part21_skel
  refine wseq (zload (b := 2) (l := 2) rfl (kz 2 c)) fun _ => ?_
  refine wseq (zstore (b := 2) (l := 2) rfl (kz 2 c) rfl (by decide) (hp64.emb rfl _)) fun _ => ?_
  refine wseq (zload (b := 2) (l := 3) rfl (kz 2 c)) fun _ => ?_
  refine wseq (zstore (b := 2) (l := 3) rfl (kz 2 c) rfl (by decide) (hp65.emb rfl _)) fun _ => ?_
  refine wseq (zload (b := 2) (l := 4) rfl (kz 2 c)) fun _ => ?_
  refine wseq (zstore (b := 2) (l := 4) rfl (kz 2 c) rfl (by decide) (hp66.emb rfl _)) fun _ => ?_
  refine wseq (zload (b := 2) (l := 5) rfl (kz 2 c)) fun _ => ?_
  refine wseq (zstore (b := 2) (l := 5) rfl (kz 2 c) rfl (by decide) (hp67.emb rfl _)) fun _ => ?_
  refine wseq (zload (b := 2) (l := 6) rfl (kz 2 c)) fun _ => ?_
  refine wseq (zstore (b := 2) (l := 6) rfl (kz 2 c) rfl (by decide) (hp68.emb rfl _)) fun _ => ?_
  refine wseq (zload (b := 2) (l := 7) rfl (kz 2 c)) fun _ => ?_
  refine wseq (zstore (b := 2) (l := 7) rfl (kz 2 c) rfl (by decide) (hp69.emb rfl _)) fun _ => ?_
  refine wif (R := StA Zf Of K M1 M2 M3 c f1 f2 f3 24 16 9) rfl (fun h => ?_) (fun h => StA_skip (ksk 2 0 c (fun e => h ((lv41 c).mpr (pl0 c e))))) ?_
  · obtain rfl := (lv41 c).mp h
    exact send_z 2 (by decide) (by decide +kernel) (by decide +kernel) (by decide +kernel) rfl rfl (by decide) (by decide) (by decide)
  exact wret .rfl

/-- Part 22 of the body. -/
theorem P22 (v2 : BitVec 32) (v6 : BitVec 32) (hw : k0_chk1 c 2048#32) (v11 : BitVec 32) (v14 : BitVec 32) (v35 : BitVec 32) (v46 : BitVec 32) (v686 : BitVec 1) (v741 : BitVec 1) :
    StA Zf Of K M1 M2 M3 c f1 f2 f3 24 16 9
      ⊢ WP c (k0_part22 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v14 v35 v46 v686 v741)
        (fun _ => StA Zf Of K M1 M2 M3 c f1 f2 f3 24 16 10) := by
  rw [k0_part22_eq_skeleton]; unfold k0_part22_skel
  refine wif (R := StA Zf Of K M1 M2 M3 c f1 f2 f3 24 16 10) rfl (fun h => ?_) (fun h => StA_skip (ksk 2 1 c (fun e => h ((lv42 c).mpr (pl1 c e))))) ?_
  · obtain rfl := (lv42 c).mp h
    exact send_z 2 (by decide) (by decide +kernel) (by decide +kernel) (by decide +kernel) rfl rfl (by decide) (by decide) (by decide)
  refine wskip (nc43 c) ?_
  exact wret .rfl

/-- Part 23 of the body. -/
theorem P23 (v2 : BitVec 32) (v6 : BitVec 32) (hw : k0_chk1 c 2048#32) (v11 : BitVec 32) (v35 : BitVec 32) (v686 : BitVec 1) (v746 : BitVec 1) (v782 : BitVec 1) :
    StA Zf Of K M1 M2 M3 c f1 f2 f3 24 16 10
      ⊢ WP c (k0_part23 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v35 v686 v746 v782)
        (fun _ => StA Zf Of K M1 M2 M3 c f1 f2 f3 24 16 10) := by
  rw [k0_part23_eq_skeleton]; unfold k0_part23_skel
  refine wskip (nc44 c) ?_
  refine wskip (nc45 c) ?_
  refine wskip (nc46 c) ?_
  refine wskip (nc47 c) ?_
  exact wret .rfl

/-- Part 24 of the body. -/
theorem P24 (v2 : BitVec 32) (v6 : BitVec 32) (hw : k0_chk1 c 2048#32) (v11 : BitVec 32) (v35 : BitVec 32) (v668 : FVec F S1536x1024 .bf16) (v686 : BitVec 1) (v694 : IVec S512x1536 1) (v746 : BitVec 1) (v815 : BitVec 32) (c0_i32_436 : BitVec 32) (hp71 : Lane (Of c) 2 0 (k0_pay71 v668 v694)) (hp72 : Lane (Of c) 2 1 (k0_pay72 v668 v694)) :
    StA Zf Of K M1 M2 M3 c f1 f2 f3 24 16 10
      ⊢ WP c (k0_part24 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v35 v668 v686 v694 v746 v815 c0_i32_436)
        (fun r => iprop(⌜r = ⟨(k0_pay70 v668 v694), (k0_pay73 v668 v694)⟩⌝ ∗ StA Zf Of K M1 M2 M3 c f1 f2 f3 24 18 10)) := by
  rw [k0_part24_eq_skeleton]; unfold k0_part24_skel
  refine wskip (nc48 c) ?_
  refine wskip (nc49 c) ?_
  refine wskip (nc50 c) ?_
  refine wseq (oload (b := 2) (l := 0) rfl (ko 2 c)) fun _ => ?_
  refine wseq (ostore (b := 2) (l := 0) rfl (ko 2 c) rfl (by decide) (hp71.emb rfl _)) fun _ => ?_
  refine wseq (oload (b := 2) (l := 1) rfl (ko 2 c)) fun _ => ?_
  refine wseq (ostore (b := 2) (l := 1) rfl (ko 2 c) rfl (by decide) (hp72.emb rfl _)) fun _ => ?_
  refine wseq (oload (b := 2) (l := 2) rfl (ko 2 c)) fun _ => ?_
  refine wret ?_
  iintro H
  isplitr; · ipureintro; exact rfl
  iexact H

/-- Part 25 of the body. -/
theorem P25 (v2 : BitVec 32) (v6 : BitVec 32) (hw : k0_chk1 c 2048#32) (v9 : BitVec 1) (v11 : BitVec 32) (v14 : BitVec 32) (v837 : FVec F S512x1024 .f32) (v846 : FVec F S512x128 .f32) (hp74 : Lane (Of c) 2 2 (k0_pay74 v846)) (hp75 : Lane (Of c) 2 3 (k0_pay75 v837)) (hp76 : Lane (Of c) 2 4 (k0_pay76 v837)) (hp77 : Lane (Of c) 2 5 (k0_pay77 v837)) (hp78 : Lane (Of c) 2 6 (k0_pay78 v837)) (hp79 : Lane (Of c) 2 7 (k0_pay79 v837)) :
    StA Zf Of K M1 M2 M3 c f1 f2 f3 24 18 10
      ⊢ WP c (k0_part25 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v14 v837 v846)
        (fun _ => StA Zf Of K M1 M2 M3 c f1 f2 f3 24 24 11) := by
  rw [k0_part25_eq_skeleton]; unfold k0_part25_skel
  refine wseq (ostore (b := 2) (l := 2) rfl (ko 2 c) rfl (by decide) (hp74.emb rfl _)) fun _ => ?_
  refine wseq (oload (b := 2) (l := 3) rfl (ko 2 c)) fun _ => ?_
  refine wseq (ostore (b := 2) (l := 3) rfl (ko 2 c) rfl (by decide) (hp75.emb rfl _)) fun _ => ?_
  refine wseq (oload (b := 2) (l := 4) rfl (ko 2 c)) fun _ => ?_
  refine wseq (ostore (b := 2) (l := 4) rfl (ko 2 c) rfl (by decide) (hp76.emb rfl _)) fun _ => ?_
  refine wseq (oload (b := 2) (l := 5) rfl (ko 2 c)) fun _ => ?_
  refine wseq (ostore (b := 2) (l := 5) rfl (ko 2 c) rfl (by decide) (hp77.emb rfl _)) fun _ => ?_
  refine wseq (oload (b := 2) (l := 6) rfl (ko 2 c)) fun _ => ?_
  refine wseq (ostore (b := 2) (l := 6) rfl (ko 2 c) rfl (by decide) (hp78.emb rfl _)) fun _ => ?_
  refine wseq (oload (b := 2) (l := 7) rfl (ko 2 c)) fun _ => ?_
  refine wseq (ostore (b := 2) (l := 7) rfl (ko 2 c) rfl (by decide) (hp79.emb rfl _)) fun _ => ?_
  refine wif (R := StA Zf Of K M1 M2 M3 c f1 f2 f3 24 24 11) rfl (fun h => ?_) (fun h => StA_skip (ksk 2 2 c (fun e => h ((lv51 c).mpr (pl2 c e))))) ?_
  · obtain rfl := (lv51 c).mp h
    exact send_o 2 (by decide) (by decide +kernel) (by decide +kernel) (by decide +kernel) rfl rfl (by decide) (by decide) (by decide)
  exact wret .rfl

/-- Part 26 of the body. -/
theorem P26 (v2 : BitVec 32) (v6 : BitVec 32) (hw : k0_chk1 c 2048#32) (v9 : BitVec 1) (v11 : BitVec 32) (v14 : BitVec 32) (v35 : BitVec 32) (v46 : BitVec 32) (v880 : BitVec 32) (c0_i32_479 : BitVec 32) :
    StA Zf Of K M1 M2 M3 c f1 f2 f3 24 24 11
      ⊢ WP c (k0_part26 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v14 v35 v46 v880 c0_i32_479)
        (fun _ => StA Zf Of K M1 M2 M3 c f1 f2 f3 24 24 12) := by
  rw [k0_part26_eq_skeleton]; unfold k0_part26_skel
  refine wif (R := StA Zf Of K M1 M2 M3 c f1 f2 f3 24 24 12) rfl (fun h => ?_) (fun h => StA_skip (ksk 2 3 c (fun e => h ((lv52 c).mpr (pl3 c e))))) ?_
  · obtain rfl := (lv52 c).mp h
    exact send_o 2 (by decide) (by decide +kernel) (by decide +kernel) (by decide +kernel) rfl rfl (by decide) (by decide) (by decide)
  refine wskip (nc53 c) ?_
  exact wret .rfl

/-- Part 27 of the body. -/
theorem P27 (v2 : BitVec 32) (v6 : BitVec 32) (hw : k0_chk1 c 2048#32) (v9 : BitVec 1) (v11 : BitVec 32) (v35 : BitVec 32) (v884 : BitVec 1) (v921 : BitVec 32) :
    StA Zf Of K M1 M2 M3 c f1 f2 f3 24 24 12
      ⊢ WP c (k0_part27 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v35 v884 v921)
        (fun _ => StA Zf Of K M1 M2 M3 c f1 f2 f3 24 24 12) := by
  rw [k0_part27_eq_skeleton]; unfold k0_part27_skel
  refine wskip (nc54 c) ?_
  refine wskip (nc55 c) ?_
  refine wskip (nc56 c) ?_
  refine wskip (nc57 c) ?_
  refine wskip (nc58 c) ?_
  exact wret .rfl

/-- Part 28 of the body. -/
theorem P28 (v2 : BitVec 32) (v6 : BitVec 32) (hw : k0_chk1 c 2048#32) (v9 : BitVec 1) (v11 : BitVec 32) (v35 : BitVec 32) (v884 : BitVec 1) :
    StA Zf Of K M1 M2 M3 c f1 f2 f3 24 24 12
      ⊢ WP c (k0_part28 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v35 v884)
        (fun r => iprop(⌜∃ w0 : BitVec 1, r = ⟨(k0_pay80 (rd1 M1 f1 (Rect.unit (s := S4096x1024) ![2560, 0] S1536x1024.size inb_S4096x1024_S1536x1024_2560_0))), (k0_pay81 (rd2 M2 f2 (Rect.unit (s := S1x4096) ![0, 2560] S1x1536.size inb_S1x4096_S1x1536_0_2560))), (k0_pay82 (rd2 M3 f3 (Rect.unit (s := S1x4096) ![0, 2560] S1x1536.size inb_S1x4096_S1x1536_0_2560))), k0_pay83, k0_pay84, (k0_pay85 (rd2 M2 f2 (Rect.unit (s := S1x4096) ![0, 2560] S1x1536.size inb_S1x4096_S1x1536_0_2560)) (rd2 M3 f3 (Rect.unit (s := S1x4096) ![0, 2560] S1x1536.size inb_S1x4096_S1x1536_0_2560))), w0, 0#32⟩⌝ ∗ StA Zf Of K M1 M2 M3 c f1 f2 f3 24 24 12)) := by
  rw [k0_part28_eq_skeleton]; unfold k0_part28_skel
  refine wskip (nc59 c) ?_
  refine wskip (nc60 c) ?_
  refine wseqEq _ load1 ?_
  refine wseqEq _ load2 ?_
  refine wseqEq _ load3 ?_
  refine wret ?_
  iintro H
  isplitr; · ipureintro; exact ⟨_, rfl⟩
  iexact H

/-- Part 29 of the body. -/
theorem P29 (v973 : FVec F S1536x1024 .bf16) (v975 : IVec S1x1536 32) (v977 : IVec S1x1536 32) (v980 : IVec S1x1536 32) (v983 : IVec S512x1 32) (v990 : IVec S512x1536 1) (c0_i32_537 : BitVec 32) (hp88 : Lane (Zf c) 3 0 (k0_pay88 v973 v990)) (hp89 : Lane (Zf c) 3 1 (k0_pay89 v973 v990)) (hp90 : Lane (Zf c) 3 2 (k0_pay90 v973 v990)) (hp91 : Lane (Zf c) 3 3 (k0_pay91 v973 v990)) (hp92 : Lane (Zf c) 3 4 (k0_pay92 v973 v990)) :
    StA Zf Of K M1 M2 M3 c f1 f2 f3 24 24 12
      ⊢ WP c (k0_part29 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 v973 v975 v977 v980 v983 v990 c0_i32_537)
        (fun r => iprop(⌜r = ⟨(k0_pay86 v975 v977 v980 v983 c0_i32_537), (k0_pay87 v973 v990), (k0_pay93 v973 v990)⟩⌝ ∗ StA Zf Of K M1 M2 M3 c f1 f2 f3 29 24 12)) := by
  rw [k0_part29_eq_skeleton]; unfold k0_part29_skel
  refine wseq (zload (b := 3) (l := 0) rfl (kz 3 c)) fun _ => ?_
  refine wseq (zstore (b := 3) (l := 0) rfl (kz 3 c) rfl (by decide) (hp88.emb rfl _)) fun _ => ?_
  refine wseq (zload (b := 3) (l := 1) rfl (kz 3 c)) fun _ => ?_
  refine wseq (zstore (b := 3) (l := 1) rfl (kz 3 c) rfl (by decide) (hp89.emb rfl _)) fun _ => ?_
  refine wseq (zload (b := 3) (l := 2) rfl (kz 3 c)) fun _ => ?_
  refine wseq (zstore (b := 3) (l := 2) rfl (kz 3 c) rfl (by decide) (hp90.emb rfl _)) fun _ => ?_
  refine wseq (zload (b := 3) (l := 3) rfl (kz 3 c)) fun _ => ?_
  refine wseq (zstore (b := 3) (l := 3) rfl (kz 3 c) rfl (by decide) (hp91.emb rfl _)) fun _ => ?_
  refine wseq (zload (b := 3) (l := 4) rfl (kz 3 c)) fun _ => ?_
  refine wseq (zstore (b := 3) (l := 4) rfl (kz 3 c) rfl (by decide) (hp92.emb rfl _)) fun _ => ?_
  refine wret ?_
  iintro H
  isplitr; · ipureintro; exact rfl
  iexact H

/-- Part 30 of the body. -/
theorem P30 (v2 : BitVec 32) (v6 : BitVec 32) (hw : k0_chk1 c 2048#32) (v11 : BitVec 32) (v14 : BitVec 32) (v46 : BitVec 32) (v991 : BitVec 1) (v1004 : FVec F S512x1024 .f32) (v1025 : FVec F S512x128 .f32) (hp94 : Lane (Zf c) 3 5 (k0_pay94 v1025)) (hp95 : Lane (Zf c) 3 6 (k0_pay95 v1004)) (hp96 : Lane (Zf c) 3 7 (k0_pay96 v1004)) :
    StA Zf Of K M1 M2 M3 c f1 f2 f3 29 24 12
      ⊢ WP c (k0_part30 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v14 v46 v991 v1004 v1025)
        (fun _ => StA Zf Of K M1 M2 M3 c f1 f2 f3 32 24 14) := by
  rw [k0_part30_eq_skeleton]; unfold k0_part30_skel
  refine wseq (zload (b := 3) (l := 5) rfl (kz 3 c)) fun _ => ?_
  refine wseq (zstore (b := 3) (l := 5) rfl (kz 3 c) rfl (by decide) (hp94.emb rfl _)) fun _ => ?_
  refine wseq (zload (b := 3) (l := 6) rfl (kz 3 c)) fun _ => ?_
  refine wseq (zstore (b := 3) (l := 6) rfl (kz 3 c) rfl (by decide) (hp95.emb rfl _)) fun _ => ?_
  refine wseq (zload (b := 3) (l := 7) rfl (kz 3 c)) fun _ => ?_
  refine wseq (zstore (b := 3) (l := 7) rfl (kz 3 c) rfl (by decide) (hp96.emb rfl _)) fun _ => ?_
  refine wif (R := StA Zf Of K M1 M2 M3 c f1 f2 f3 32 24 13) rfl (fun h => ?_) (fun h => StA_skip (ksk 3 0 c (fun e => h ((lv61 c).mpr (pl0 c e))))) ?_
  · obtain rfl := (lv61 c).mp h
    exact send_z 3 (by decide) (by decide +kernel) (by decide +kernel) (by decide +kernel) rfl rfl (by decide) (by decide) (by decide)
  refine wif (R := StA Zf Of K M1 M2 M3 c f1 f2 f3 32 24 14) rfl (fun h => ?_) (fun h => StA_skip (ksk 3 1 c (fun e => h ((lv62 c).mpr (pl1 c e))))) ?_
  · obtain rfl := (lv62 c).mp h
    exact send_z 3 (by decide) (by decide +kernel) (by decide +kernel) (by decide +kernel) rfl rfl (by decide) (by decide) (by decide)
  exact wret .rfl

/-- Part 31 of the body. -/
theorem P31 (v2 : BitVec 32) (v6 : BitVec 32) (hw : k0_chk1 c 2048#32) (v11 : BitVec 32) (v14 : BitVec 32) (v35 : BitVec 32) (v991 : BitVec 1) (v1051 : BitVec 1) (v1060 : BitVec 32) (v1062 : BitVec 32) :
    StA Zf Of K M1 M2 M3 c f1 f2 f3 32 24 14
      ⊢ WP c (k0_part31 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v14 v35 v991 v1051 v1060 v1062)
        (fun _ => StA Zf Of K M1 M2 M3 c f1 f2 f3 32 24 14) := by
  rw [k0_part31_eq_skeleton]; unfold k0_part31_skel
  refine wskip (nc63 c) ?_
  refine wskip (nc64 c) ?_
  refine wskip (nc65 c) ?_
  exact wret .rfl

/-- Part 32 of the body. -/
theorem P32 (v2 : BitVec 32) (v6 : BitVec 32) (hw : k0_chk1 c 2048#32) (v11 : BitVec 32) (v35 : BitVec 32) (v991 : BitVec 1) (v1051 : BitVec 1) (v1100 : BitVec 1) (c16_i32_593 : BitVec 32) :
    StA Zf Of K M1 M2 M3 c f1 f2 f3 32 24 14
      ⊢ WP c (k0_part32 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v35 v991 v1051 v1100 c16_i32_593)
        (fun _ => StA Zf Of K M1 M2 M3 c f1 f2 f3 32 24 14) := by
  rw [k0_part32_eq_skeleton]; unfold k0_part32_skel
  refine wskip (nc66 c) ?_
  refine wskip (nc67 c) ?_
  refine wskip (nc68 c) ?_
  refine wskip (nc69 c) ?_
  exact wret .rfl

/-- Part 33 of the body. -/
theorem P33 (v2 : BitVec 32) (v6 : BitVec 32) (hw : k0_chk1 c 2048#32) (v973 : FVec F S1536x1024 .bf16) (v999 : IVec S512x1536 1) (v1135 : BitVec 1) (hp98 : Lane (Of c) 3 0 (k0_pay98 v973 v999)) (hp99 : Lane (Of c) 3 1 (k0_pay99 v973 v999)) (hp100 : Lane (Of c) 3 2 (k0_pay100 v973 v999)) (hp101 : Lane (Of c) 3 3 (k0_pay101 v973 v999)) (hp102 : Lane (Of c) 3 4 (k0_pay102 v973 v999)) :
    StA Zf Of K M1 M2 M3 c f1 f2 f3 32 24 14
      ⊢ WP c (k0_part33 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v973 v999 v1135)
        (fun r => iprop(⌜r = ⟨(k0_pay97 v973 v999), (k0_pay103 v973 v999)⟩⌝ ∗ StA Zf Of K M1 M2 M3 c f1 f2 f3 32 29 14)) := by
  rw [k0_part33_eq_skeleton]; unfold k0_part33_skel
  refine wskip (nc70 c) ?_
  refine wseq (oload (b := 3) (l := 0) rfl (ko 3 c)) fun _ => ?_
  refine wseq (ostore (b := 3) (l := 0) rfl (ko 3 c) rfl (by decide) (hp98.emb rfl _)) fun _ => ?_
  refine wseq (oload (b := 3) (l := 1) rfl (ko 3 c)) fun _ => ?_
  refine wseq (ostore (b := 3) (l := 1) rfl (ko 3 c) rfl (by decide) (hp99.emb rfl _)) fun _ => ?_
  refine wseq (oload (b := 3) (l := 2) rfl (ko 3 c)) fun _ => ?_
  refine wseq (ostore (b := 3) (l := 2) rfl (ko 3 c) rfl (by decide) (hp100.emb rfl _)) fun _ => ?_
  refine wseq (oload (b := 3) (l := 3) rfl (ko 3 c)) fun _ => ?_
  refine wseq (ostore (b := 3) (l := 3) rfl (ko 3 c) rfl (by decide) (hp101.emb rfl _)) fun _ => ?_
  refine wseq (oload (b := 3) (l := 4) rfl (ko 3 c)) fun _ => ?_
  refine wseq (ostore (b := 3) (l := 4) rfl (ko 3 c) rfl (by decide) (hp102.emb rfl _)) fun _ => ?_
  refine wseq (oload (b := 3) (l := 5) rfl (ko 3 c)) fun _ => ?_
  refine wret ?_
  iintro H
  isplitr; · ipureintro; exact rfl
  iexact H

/-- Part 34 of the body. -/
theorem P34 (v2 : BitVec 32) (v6 : BitVec 32) (hw : k0_chk1 c 2048#32) (v9 : BitVec 1) (v11 : BitVec 32) (v14 : BitVec 32) (v46 : BitVec 32) (v1142 : FVec F S512x1024 .f32) (v1163 : FVec F S512x128 .f32) (hp104 : Lane (Of c) 3 5 (k0_pay104 v1163)) (hp105 : Lane (Of c) 3 6 (k0_pay105 v1142)) (hp106 : Lane (Of c) 3 7 (k0_pay106 v1142)) :
    StA Zf Of K M1 M2 M3 c f1 f2 f3 32 29 14
      ⊢ WP c (k0_part34 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v14 v46 v1142 v1163)
        (fun _ => StA Zf Of K M1 M2 M3 c f1 f2 f3 32 32 16) := by
  rw [k0_part34_eq_skeleton]; unfold k0_part34_skel
  refine wseq (ostore (b := 3) (l := 5) rfl (ko 3 c) rfl (by decide) (hp104.emb rfl _)) fun _ => ?_
  refine wseq (oload (b := 3) (l := 6) rfl (ko 3 c)) fun _ => ?_
  refine wseq (ostore (b := 3) (l := 6) rfl (ko 3 c) rfl (by decide) (hp105.emb rfl _)) fun _ => ?_
  refine wseq (oload (b := 3) (l := 7) rfl (ko 3 c)) fun _ => ?_
  refine wseq (ostore (b := 3) (l := 7) rfl (ko 3 c) rfl (by decide) (hp106.emb rfl _)) fun _ => ?_
  refine wif (R := StA Zf Of K M1 M2 M3 c f1 f2 f3 32 32 15) rfl (fun h => ?_) (fun h => StA_skip (ksk 3 2 c (fun e => h ((lv71 c).mpr (pl2 c e))))) ?_
  · obtain rfl := (lv71 c).mp h
    exact send_o 3 (by decide) (by decide +kernel) (by decide +kernel) (by decide +kernel) rfl rfl (by decide) (by decide) (by decide)
  refine wif (R := StA Zf Of K M1 M2 M3 c f1 f2 f3 32 32 16) rfl (fun h => ?_) (fun h => StA_skip (ksk 3 3 c (fun e => h ((lv72 c).mpr (pl3 c e))))) ?_
  · obtain rfl := (lv72 c).mp h
    exact send_o 3 (by decide) (by decide +kernel) (by decide +kernel) (by decide +kernel) rfl rfl (by decide) (by decide) (by decide)
  exact wret .rfl

/-- Part 35 of the body. -/
theorem P35 (v2 : BitVec 32) (v6 : BitVec 32) (hw : k0_chk1 c 2048#32) (v9 : BitVec 1) (v11 : BitVec 32) (v14 : BitVec 32) (v35 : BitVec 32) (v1189 : BitVec 1) (v1201 : BitVec 32) :
    StA Zf Of K M1 M2 M3 c f1 f2 f3 32 32 16
      ⊢ WP c (k0_part35 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v14 v35 v1189 v1201)
        (fun _ => StA Zf Of K M1 M2 M3 c f1 f2 f3 32 32 16) := by
  rw [k0_part35_eq_skeleton]; unfold k0_part35_skel
  refine wskip (nc73 c) ?_
  refine wskip (nc74 c) ?_
  refine wskip (nc75 c) ?_
  exact wret .rfl

/-- Part 36 of the body. -/
theorem P36 (v2 : BitVec 32) (v6 : BitVec 32) (hw : k0_chk1 c 2048#32) (v9 : BitVec 1) (v11 : BitVec 32) (v35 : BitVec 32) (v1189 : BitVec 1) (v1238 : BitVec 1) (v1239 : BitVec 32) (c0_i32_676 : BitVec 32) :
    StA Zf Of K M1 M2 M3 c f1 f2 f3 32 32 16
      ⊢ WP c (k0_part36 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v35 v1189 v1238 v1239 c0_i32_676)
        (fun _ => StA Zf Of K M1 M2 M3 c f1 f2 f3 32 32 16) := by
  rw [k0_part36_eq_skeleton]; unfold k0_part36_skel
  refine wskip (nc76 c) ?_
  refine wskip (nc77 c) ?_
  refine wskip (nc78 c) ?_
  refine wskip (nc79 c) ?_
  exact wret .rfl

/-- Part 37 of the body. -/
theorem P37 (v2 : BitVec 32) (v6 : BitVec 32) (hw : k0_chk1 c 2048#32) (v9 : BitVec 1) (v1274 : BitVec 32) (hp113 : Lane (Zf c) 4 0 (k0_pay113 (rd1 M1 f1 (Rect.unit (s := S4096x1024) ![2560, 0] S1536x1024.size inb_S4096x1024_S1536x1024_2560_0)) (rd2 M2 f2 (Rect.unit (s := S1x4096) ![0, 2560] S1x1536.size inb_S1x4096_S1x1536_0_2560)) (rd2 M3 f3 (Rect.unit (s := S1x4096) ![0, 2560] S1x1536.size inb_S1x4096_S1x1536_0_2560)))) :
    StA Zf Of K M1 M2 M3 c f1 f2 f3 32 32 16
      ⊢ WP c (k0_part37 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v1274)
        (fun r => iprop(⌜∃ w0 : BitVec 1, r = ⟨(k0_pay107 (rd1 M1 f1 (Rect.unit (s := S4096x1024) ![2560, 0] S1536x1024.size inb_S4096x1024_S1536x1024_2560_0))), w0, (k0_pay111 (rd2 M2 f2 (Rect.unit (s := S1x4096) ![0, 2560] S1x1536.size inb_S1x4096_S1x1536_0_2560)) (rd2 M3 f3 (Rect.unit (s := S1x4096) ![0, 2560] S1x1536.size inb_S1x4096_S1x1536_0_2560))), (k0_pay112 (rd1 M1 f1 (Rect.unit (s := S4096x1024) ![2560, 0] S1536x1024.size inb_S4096x1024_S1536x1024_2560_0)) (rd2 M2 f2 (Rect.unit (s := S1x4096) ![0, 2560] S1x1536.size inb_S1x4096_S1x1536_0_2560)) (rd2 M3 f3 (Rect.unit (s := S1x4096) ![0, 2560] S1x1536.size inb_S1x4096_S1x1536_0_2560)))⟩⌝ ∗ StA Zf Of K M1 M2 M3 c f1 f2 f3 33 32 16)) := by
  rw [k0_part37_eq_skeleton]; unfold k0_part37_skel
  refine wskip (nc80 c) ?_
  refine wseqEq _ load1 ?_
  refine wseqEq _ load2 ?_
  refine wseqEq _ load3 ?_
  refine wseq (zload (b := 4) (l := 0) rfl (kz4 c)) fun _ => ?_
  refine wseq (zstore (b := 4) (l := 0) rfl (kz4 c) rfl (by decide) (hp113.emb rfl _)) fun _ => ?_
  refine wret ?_
  iintro H
  isplitr; · ipureintro; exact ⟨_, rfl⟩
  iexact H

/-- Part 38 of the body. -/
theorem P38 (v2 : BitVec 32) (v1296 : BitVec 1) (v1309 : FVec F S512x1024 .f32) (hp114 : Lane (Zf c) 4 1 (k0_pay114 v1309)) (hp115 : Lane (Zf c) 4 2 (k0_pay115 v1309)) (hp116 : Lane (Zf c) 4 3 (k0_pay116 v1309)) (hp117 : Lane (Zf c) 4 4 (k0_pay117 v1309)) (hp118 : Lane (Zf c) 4 5 (k0_pay118 v1309)) (hp119 : Lane (Zf c) 4 6 (k0_pay119 v1309)) (hp120 : Lane (Zf c) 4 7 (k0_pay120 v1309)) :
    StA Zf Of K M1 M2 M3 c f1 f2 f3 33 32 16
      ⊢ WP c (k0_part38 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 v2 v1296 v1309)
        (fun _ => StA Zf Of K M1 M2 M3 c f1 f2 f3 40 32 16) := by
  rw [k0_part38_eq_skeleton]; unfold k0_part38_skel
  refine wseq (zload (b := 4) (l := 1) rfl (kz4 c)) fun _ => ?_
  refine wseq (zstore (b := 4) (l := 1) rfl (kz4 c) rfl (by decide) (hp114.emb rfl _)) fun _ => ?_
  refine wseq (zload (b := 4) (l := 2) rfl (kz4 c)) fun _ => ?_
  refine wseq (zstore (b := 4) (l := 2) rfl (kz4 c) rfl (by decide) (hp115.emb rfl _)) fun _ => ?_
  refine wseq (zload (b := 4) (l := 3) rfl (kz4 c)) fun _ => ?_
  refine wseq (zstore (b := 4) (l := 3) rfl (kz4 c) rfl (by decide) (hp116.emb rfl _)) fun _ => ?_
  refine wseq (zload (b := 4) (l := 4) rfl (kz4 c)) fun _ => ?_
  refine wseq (zstore (b := 4) (l := 4) rfl (kz4 c) rfl (by decide) (hp117.emb rfl _)) fun _ => ?_
  refine wseq (zload (b := 4) (l := 5) rfl (kz4 c)) fun _ => ?_
  refine wseq (zstore (b := 4) (l := 5) rfl (kz4 c) rfl (by decide) (hp118.emb rfl _)) fun _ => ?_
  refine wseq (zload (b := 4) (l := 6) rfl (kz4 c)) fun _ => ?_
  refine wseq (zstore (b := 4) (l := 6) rfl (kz4 c) rfl (by decide) (hp119.emb rfl _)) fun _ => ?_
  refine wseq (zload (b := 4) (l := 7) rfl (kz4 c)) fun _ => ?_
  refine wseq (zstore (b := 4) (l := 7) rfl (kz4 c) rfl (by decide) (hp120.emb rfl _)) fun _ => ?_
  exact wret .rfl

/-- Part 39 of the body. -/
theorem P39 (v2 : BitVec 32) (v6 : BitVec 32) (hw : k0_chk1 c 2048#32) (v11 : BitVec 32) (v14 : BitVec 32) (v35 : BitVec 32) (v46 : BitVec 32) (v1296 : BitVec 1) (v1343 : BitVec 1) (c2304_i32 : BitVec 32) :
    StA Zf Of K M1 M2 M3 c f1 f2 f3 40 32 16
      ⊢ WP c (k0_part39 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v14 v35 v46 v1296 v1343 c2304_i32)
        (fun _ => StA Zf Of K M1 M2 M3 c f1 f2 f3 40 32 16) := by
  rw [k0_part39_eq_skeleton]; unfold k0_part39_skel
  refine wskip (nc81 c) ?_
  refine wskip (nc82 c) ?_
  exact wret .rfl

/-- Part 40 of the body. -/
theorem P40 (v2 : BitVec 32) (v6 : BitVec 32) (hw : k0_chk1 c 2048#32) (v11 : BitVec 32) (v35 : BitVec 32) (v1296 : BitVec 1) (v1356 : BitVec 1) (v1385 : BitVec 32) :
    StA Zf Of K M1 M2 M3 c f1 f2 f3 40 32 16
      ⊢ WP c (k0_part40 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v35 v1296 v1356 v1385)
        (fun _ => StA Zf Of K M1 M2 M3 c f1 f2 f3 40 32 16) := by
  rw [k0_part40_eq_skeleton]; unfold k0_part40_skel
  refine wskip (nc83 c) ?_
  refine wskip (nc84 c) ?_
  refine wskip (nc85 c) ?_
  refine wskip (nc86 c) ?_
  refine wskip (nc87 c) ?_
  exact wret .rfl

/-- Part 41 of the body. -/
theorem P41 (v2 : BitVec 32) (v6 : BitVec 32) (hw : k0_chk1 c 2048#32) (v11 : BitVec 32) (v35 : BitVec 32) (v1278 : FVec F S1536x1024 .bf16) (v1296 : BitVec 1) (v1304 : IVec S512x1536 1) (v1356 : BitVec 1) (hp122 : Lane (Of c) 4 0 (k0_pay122 v1278 v1304)) :
    StA Zf Of K M1 M2 M3 c f1 f2 f3 40 32 16
      ⊢ WP c (k0_part41 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v35 v1278 v1296 v1304 v1356)
        (fun r => iprop(⌜r = ⟨(k0_pay121 v1278 v1304), (k0_pay123 v1278 v1304)⟩⌝ ∗ StA Zf Of K M1 M2 M3 c f1 f2 f3 40 33 16)) := by
  rw [k0_part41_eq_skeleton]; unfold k0_part41_skel
  refine wskip (nc88 c) ?_
  refine wskip (nc89 c) ?_
  refine wskip (nc90 c) ?_
  refine wseq (oload (b := 4) (l := 0) rfl (ko4 c)) fun _ => ?_
  refine wseq (ostore (b := 4) (l := 0) rfl (ko4 c) rfl (by decide) (hp122.emb rfl _)) fun _ => ?_
  refine wret ?_
  iintro H
  isplitr; · ipureintro; exact rfl
  iexact H

/-- Part 42 of the body. -/
theorem P42 (v2 : BitVec 32) (v9 : BitVec 1) (v11 : BitVec 32) (v1447 : FVec F S512x1024 .f32) (v1452 : FVec F S512x128 .f32) (hp124 : Lane (Of c) 4 1 (k0_pay124 v1452)) (hp125 : Lane (Of c) 4 2 (k0_pay125 v1447)) (hp126 : Lane (Of c) 4 3 (k0_pay126 v1447)) (hp127 : Lane (Of c) 4 4 (k0_pay127 v1447)) (hp128 : Lane (Of c) 4 5 (k0_pay128 v1447)) (hp129 : Lane (Of c) 4 6 (k0_pay129 v1447)) (hp130 : Lane (Of c) 4 7 (k0_pay130 v1447)) :
    StA Zf Of K M1 M2 M3 c f1 f2 f3 40 33 16
      ⊢ WP c (k0_part42 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 v2 v9 v11 v1447 v1452)
        (fun _ => StA Zf Of K M1 M2 M3 c f1 f2 f3 40 40 16) := by
  rw [k0_part42_eq_skeleton]; unfold k0_part42_skel
  refine wseq (oload (b := 4) (l := 1) rfl (ko4 c)) fun _ => ?_
  refine wseq (ostore (b := 4) (l := 1) rfl (ko4 c) rfl (by decide) (hp124.emb rfl _)) fun _ => ?_
  refine wseq (oload (b := 4) (l := 2) rfl (ko4 c)) fun _ => ?_
  refine wseq (ostore (b := 4) (l := 2) rfl (ko4 c) rfl (by decide) (hp125.emb rfl _)) fun _ => ?_
  refine wseq (oload (b := 4) (l := 3) rfl (ko4 c)) fun _ => ?_
  refine wseq (ostore (b := 4) (l := 3) rfl (ko4 c) rfl (by decide) (hp126.emb rfl _)) fun _ => ?_
  refine wseq (oload (b := 4) (l := 4) rfl (ko4 c)) fun _ => ?_
  refine wseq (ostore (b := 4) (l := 4) rfl (ko4 c) rfl (by decide) (hp127.emb rfl _)) fun _ => ?_
  refine wseq (oload (b := 4) (l := 5) rfl (ko4 c)) fun _ => ?_
  refine wseq (ostore (b := 4) (l := 5) rfl (ko4 c) rfl (by decide) (hp128.emb rfl _)) fun _ => ?_
  refine wseq (oload (b := 4) (l := 6) rfl (ko4 c)) fun _ => ?_
  refine wseq (ostore (b := 4) (l := 6) rfl (ko4 c) rfl (by decide) (hp129.emb rfl _)) fun _ => ?_
  refine wseq (oload (b := 4) (l := 7) rfl (ko4 c)) fun _ => ?_
  refine wseq (ostore (b := 4) (l := 7) rfl (ko4 c) rfl (by decide) (hp130.emb rfl _)) fun _ => ?_
  exact wret .rfl

/-- Part 43 of the body. -/
theorem P43 (v2 : BitVec 32) (v6 : BitVec 32) (hw : k0_chk1 c 2048#32) (v9 : BitVec 1) (v11 : BitVec 32) (v14 : BitVec 32) (v35 : BitVec 32) (v46 : BitVec 32) (v1483 : BitVec 1) :
    StA Zf Of K M1 M2 M3 c f1 f2 f3 40 40 16
      ⊢ WP c (k0_part43 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v14 v35 v46 v1483)
        (fun _ => StA Zf Of K M1 M2 M3 c f1 f2 f3 40 40 16) := by
  rw [k0_part43_eq_skeleton]; unfold k0_part43_skel
  refine wskip (nc91 c) ?_
  refine wskip (nc92 c) ?_
  exact wret .rfl

/-- Part 44 of the body. -/
theorem P44 (v2 : BitVec 32) (v6 : BitVec 32) (hw : k0_chk1 c 2048#32) (v9 : BitVec 1) (v11 : BitVec 32) (v35 : BitVec 32) (v1494 : BitVec 1) (v1523 : BitVec 32) (c0_i32_837 : BitVec 32) :
    StA Zf Of K M1 M2 M3 c f1 f2 f3 40 40 16
      ⊢ WP c (k0_part44 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v35 v1494 v1523 c0_i32_837)
        (fun _ => StA Zf Of K M1 M2 M3 c f1 f2 f3 40 40 16) := by
  rw [k0_part44_eq_skeleton]; unfold k0_part44_skel
  refine wskip (nc93 c) ?_
  refine wskip (nc94 c) ?_
  refine wskip (nc95 c) ?_
  refine wskip (nc96 c) ?_
  refine wskip (nc97 c) ?_
  exact wret .rfl

end Cert.KernelIdeal.Talk
-- ==== Proof.PartsB.lean ====
/- The parts of the body that copy the kept half, forward the received chunks and wait for the transfers. -/
module

public import proofs.«01_k».proof.Proof.Steps2
public import proofs.«01_k».proof.Proof.Conds

@[expose] public section

set_option maxRecDepth 65536

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable {Zf Of : Dev nD → Vec F S2560x8x128 .f32} {K : GSem nD τ sig → ℕ}
variable {M0 : Memref sig .tc .smem S1 .i32} {h0 : M0.IsWhole}
variable {M1 : Memref sig .tc .vmem S4096x1024 .f32} {h1 : M1.IsWhole} {M2 : Memref sig .tc .vmem S1x4096 .i32} {h2 : M2.IsWhole}
variable {M3 : Memref sig .tc .vmem S1x4096 .i32} {h3 : M3.IsWhole}
variable {c : Dev nD} {f1 : Buf (Elt F) (M1.view.loc (c : Thread nD τ))} {f2 : Buf (Elt F) (M2.view.loc (c : Thread nD τ))}
variable {f3 : Buf (Elt F) (M3.view.loc (c : Thread nD τ))}

/-- Part 45 of the body. -/
theorem P45 (v2 : BitVec 32) (v6 : BitVec 32) (hw : k0_chk1 c 2048#32) (v9 : BitVec 1) (v11 : BitVec 32) (v12 : BitVec 32) (v17 : BitVec 32) (v35 : BitVec 32) (v1494 : BitVec 1) (v1557 : BitVec 1) (v1558 : BitVec 1) :
    StL Zf Of K c (kA c 0) (lf c 0)
      ⊢ WP c (k0_part45 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v9 v11 v12 v17 v35 v1494 v1557 v1558)
        (fun _ => StL Zf Of K c (kA c 1) (lf c 0)) := by
  rw [k0_part45_eq_skeleton]; unfold k0_part45_skel
  refine wskip (nc98 c) ?_
  refine wskip (nc99 c) ?_
  refine wskip (nc100 c) ?_
  refine wif (R := StL Zf Of K c (kA c 1) (lf c 0)) rfl (fun h => ?_) (fun h => StL_skip ((by decide : ∀ c : Dev nD, ¬ (c = 0 ∨ c = 2) → kA c 0 = kA c 1) c fun e => h ((lv101 c).mpr e)) rfl) ?_
  · rcases (lv101 c).mp h with rfl | rfl <;> exact keep_z (by decide) (by decide +kernel) rfl (by decide) (by decide)
  exact wret .rfl

/-- Part 46 of the body. -/
theorem P46 (hw : k0_chk1 c 2048#32) (v9 : BitVec 1) (v12 : BitVec 32) (v1588 : BitVec 32) (v1590 : BitVec 32) (c1024_i32_881 : BitVec 32) :
    StL Zf Of K c (kA c 1) (lf c 0)
      ⊢ WP c (k0_part46 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c 2048#32 hw v9 v12 v1588 v1590 c1024_i32_881)
        (fun _ => StL Zf Of K c (kA c 1) (lf c 0)) := by
  rw [k0_part46_eq_skeleton]; unfold k0_part46_skel
  refine wskip (nc102 c) ?_
  refine wskip (nc103 c) ?_
  refine wskip (nc104 c) ?_
  refine wskip (nc105 c) ?_
  exact wret .rfl

/-- Part 47 of the body. -/
theorem P47 (hw : k0_chk1 c 2048#32) (v9 : BitVec 1) (v12 : BitVec 32) (v1624 : BitVec 32) (v1626 : BitVec 32) (c64_i32_901 : BitVec 32) :
    StL Zf Of K c (kA c 1) (lf c 0)
      ⊢ WP c (k0_part47 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c 2048#32 hw v9 v12 v1624 v1626 c64_i32_901)
        (fun _ => StL Zf Of K c (kA c 1) (lf c 0)) := by
  rw [k0_part47_eq_skeleton]; unfold k0_part47_skel
  refine wskip (nc106 c) ?_
  refine wskip (nc107 c) ?_
  refine wskip (nc108 c) ?_
  refine wskip (nc109 c) ?_
  exact wret .rfl

/-- Part 48 of the body. -/
theorem P48 (hw : k0_chk1 c 2048#32) (v9 : BitVec 1) (v12 : BitVec 32) (v17 : BitVec 32) (v1581 : BitVec 1) (v1660 : BitVec 32) (v1662 : BitVec 32) (c4_i32_921 : BitVec 32) :
    StL Zf Of K c (kA c 1) (lf c 0)
      ⊢ WP c (k0_part48 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c 2048#32 hw v9 v12 v17 v1581 v1660 v1662 c4_i32_921)
        (fun _ => StL Zf Of K c (kA c 2) (lf c 0)) := by
  rw [k0_part48_eq_skeleton]; unfold k0_part48_skel
  refine wskip (nc110 c) ?_
  refine wskip (nc111 c) ?_
  refine wskip (nc112 c) ?_
  refine wif (R := StL Zf Of K c (kA c 2) (lf c 0)) rfl (fun h => ?_) (fun h => StL_skip ((by decide : ∀ c : Dev nD, ¬ (c = 1 ∨ c = 3) → kA c 1 = kA c 2) c fun e => h ((lv113 c).mpr e)) rfl) ?_
  · rcases (lv113 c).mp h with rfl | rfl <;> exact keep_o (by decide) (by decide +kernel) rfl (by decide) (by decide)
  exact wret .rfl

/-- Part 49 of the body. -/
theorem P49 (hw : k0_chk1 c 2048#32) (v12 : BitVec 32) (v1581 : BitVec 1) (v1692 : BitVec 32) (v1694 : BitVec 32) (v1697 : BitVec 1) :
    StL Zf Of K c (kA c 2) (lf c 0)
      ⊢ WP c (k0_part49 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c 2048#32 hw v12 v1581 v1692 v1694 v1697)
        (fun _ => StL Zf Of K c (kA c 2) (lf c 0)) := by
  rw [k0_part49_eq_skeleton]; unfold k0_part49_skel
  refine wskip (nc114 c) ?_
  refine wskip (nc115 c) ?_
  refine wskip (nc116 c) ?_
  refine wskip (nc117 c) ?_
  exact wret .rfl

/-- Part 50 of the body. -/
theorem P50 (hw : k0_chk1 c 2048#32) (v12 : BitVec 32) (v1581 : BitVec 1) (v1728 : BitVec 32) (v1730 : BitVec 32) (v1733 : BitVec 1) :
    StL Zf Of K c (kA c 2) (lf c 0)
      ⊢ WP c (k0_part50 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c 2048#32 hw v12 v1581 v1728 v1730 v1733)
        (fun _ => StL Zf Of K c (kA c 2) (lf c 0)) := by
  rw [k0_part50_eq_skeleton]; unfold k0_part50_skel
  refine wskip (nc118 c) ?_
  refine wskip (nc119 c) ?_
  refine wskip (nc120 c) ?_
  refine wskip (nc121 c) ?_
  exact wret .rfl

/-- Part 51 of the body. -/
theorem P51 (v2 : BitVec 32) (v5 : BitVec 32) (v6 : BitVec 32) (v7 : BitVec 32) (hw : k0_chk1 c 2048#32) (v11 : BitVec 32) (v12 : BitVec 32) (v16 : BitVec 32) (v1581 : BitVec 1) (v1764 : BitVec 32) (v1766 : BitVec 32) (v1769 : BitVec 1) :
    StL Zf Of K c (kA c 2) (lf c 0)
      ⊢ WP c (k0_part51 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v5 v6 v7 2048#32 hw v11 v12 v16 v1581 v1764 v1766 v1769)
        (fun _ => StL Zf Of K c (kA c 2) (lf c 2)) := by
  rw [k0_part51_eq_skeleton]; unfold k0_part51_skel
  refine wskip (nc122 c) ?_
  refine wskip (nc123 c) ?_
  refine wskip (nc124 c) ?_
  refine wif2 (M := iprop(Ctx Zf Of K c ∗ Nbr c ∗ keepRes Zf Of c (kA c 2) ∗ fwdMid Zf Of c 0)) (R := StL Zf Of K c (kA c 2) (lf c 1)) rfl (fun h => ?_) (fun h => ?_) (fun h => StL_skip rfl ((by decide : ∀ c : Dev nD, ¬ (c = 0 ∨ c = 1) → lf c 0 = lf c 1) c fun e => h ((lv125 c).mpr e))) ?_
  · rcases (lv125 c).mp h with rfl | rfl <;> exact wait_1 0 (by decide) rfl cr_c
  · rcases (lv125 c).mp h with rfl | rfl <;> exact send_x 0 (by decide) (by decide +kernel) (by decide +kernel) rfl rfl
  refine wif2 (M := iprop(Ctx Zf Of K c ∗ Nbr c ∗ keepRes Zf Of c (kA c 2) ∗ fwdMid Zf Of c 0)) (R := StL Zf Of K c (kA c 2) (lf c 2)) rfl (fun h => ?_) (fun h => ?_) (fun h => StL_skip rfl ((by decide : ∀ c : Dev nD, ¬ (c = 2 ∨ c = 3) → lf c 1 = lf c 2) c fun e => h ((lv126 c).mpr e))) ?_
  · rcases (lv126 c).mp h with rfl | rfl <;> exact wait_1 0 (by decide) rfl cr_c
  · rcases (lv126 c).mp h with rfl | rfl <;> exact send_x 0 (by decide) (by decide +kernel) (by decide +kernel) rfl rfl
  exact wret .rfl

/-- Part 52 of the body. -/
theorem P52 (v2 : BitVec 32) (v5 : BitVec 32) (v6 : BitVec 32) (v7 : BitVec 32) (hw : k0_chk1 c 2048#32) (v11 : BitVec 32) (v16 : BitVec 32) :
    StL Zf Of K c (kA c 2) (lf c 2)
      ⊢ WP c (k0_part52 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v5 v6 v7 2048#32 hw v11 v16)
        (fun _ => StL Zf Of K c (kA c 2) (lf c 8)) := by
  rw [k0_part52_eq_skeleton]; unfold k0_part52_skel
  refine wif2 (M := iprop(Ctx Zf Of K c ∗ Nbr c ∗ keepRes Zf Of c (kA c 2) ∗ fwdMid Zf Of c 1)) (R := StL Zf Of K c (kA c 2) (lf c 3)) rfl (fun h => ?_) (fun h => ?_) (fun h => StL_skip rfl ((by decide : ∀ c : Dev nD, ¬ (c = 0 ∨ c = 1) → lf c 2 = lf c 3) c fun e => h ((lv127 c).mpr e))) ?_
  · rcases (lv127 c).mp h with rfl | rfl <;> exact wait_1 1 (by decide) rfl cr_c
  · rcases (lv127 c).mp h with rfl | rfl <;> exact send_x 1 (by decide) (by decide +kernel) (by decide +kernel) rfl rfl
  refine wif2 (M := iprop(Ctx Zf Of K c ∗ Nbr c ∗ keepRes Zf Of c (kA c 2) ∗ fwdMid Zf Of c 1)) (R := StL Zf Of K c (kA c 2) (lf c 4)) rfl (fun h => ?_) (fun h => ?_) (fun h => StL_skip rfl ((by decide : ∀ c : Dev nD, ¬ (c = 2 ∨ c = 3) → lf c 3 = lf c 4) c fun e => h ((lv128 c).mpr e))) ?_
  · rcases (lv128 c).mp h with rfl | rfl <;> exact wait_1 1 (by decide) rfl cr_c
  · rcases (lv128 c).mp h with rfl | rfl <;> exact send_x 1 (by decide) (by decide +kernel) (by decide +kernel) rfl rfl
  refine wif2 (M := iprop(Ctx Zf Of K c ∗ Nbr c ∗ keepRes Zf Of c (kA c 2) ∗ fwdMid Zf Of c 2)) (R := StL Zf Of K c (kA c 2) (lf c 5)) rfl (fun h => ?_) (fun h => ?_) (fun h => StL_skip rfl ((by decide : ∀ c : Dev nD, ¬ (c = 0 ∨ c = 1) → lf c 4 = lf c 5) c fun e => h ((lv129 c).mpr e))) ?_
  · rcases (lv129 c).mp h with rfl | rfl <;> exact wait_1 2 (by decide) rfl cr_c
  · rcases (lv129 c).mp h with rfl | rfl <;> exact send_x 2 (by decide) (by decide +kernel) (by decide +kernel) rfl rfl
  refine wif2 (M := iprop(Ctx Zf Of K c ∗ Nbr c ∗ keepRes Zf Of c (kA c 2) ∗ fwdMid Zf Of c 2)) (R := StL Zf Of K c (kA c 2) (lf c 6)) rfl (fun h => ?_) (fun h => ?_) (fun h => StL_skip rfl ((by decide : ∀ c : Dev nD, ¬ (c = 2 ∨ c = 3) → lf c 5 = lf c 6) c fun e => h ((lv130 c).mpr e))) ?_
  · rcases (lv130 c).mp h with rfl | rfl <;> exact wait_1 2 (by decide) rfl cr_c
  · rcases (lv130 c).mp h with rfl | rfl <;> exact send_x 2 (by decide) (by decide +kernel) (by decide +kernel) rfl rfl
  refine wif2 (M := iprop(Ctx Zf Of K c ∗ Nbr c ∗ keepRes Zf Of c (kA c 2) ∗ fwdMid Zf Of c 3)) (R := StL Zf Of K c (kA c 2) (lf c 7)) rfl (fun h => ?_) (fun h => ?_) (fun h => StL_skip rfl ((by decide : ∀ c : Dev nD, ¬ (c = 0 ∨ c = 1) → lf c 6 = lf c 7) c fun e => h ((lv131 c).mpr e))) ?_
  · rcases (lv131 c).mp h with rfl | rfl <;> exact wait_1 3 (by decide) rfl cr_c
  · rcases (lv131 c).mp h with rfl | rfl <;> exact send_x 3 (by decide) (by decide +kernel) (by decide +kernel) rfl rfl
  refine wif2 (M := iprop(Ctx Zf Of K c ∗ Nbr c ∗ keepRes Zf Of c (kA c 2) ∗ fwdMid Zf Of c 3)) (R := StL Zf Of K c (kA c 2) (lf c 8)) rfl (fun h => ?_) (fun h => ?_) (fun h => StL_skip rfl ((by decide : ∀ c : Dev nD, ¬ (c = 2 ∨ c = 3) → lf c 7 = lf c 8) c fun e => h ((lv132 c).mpr e))) ?_
  · rcases (lv132 c).mp h with rfl | rfl <;> exact wait_1 3 (by decide) rfl cr_c
  · rcases (lv132 c).mp h with rfl | rfl <;> exact send_x 3 (by decide) (by decide +kernel) (by decide +kernel) rfl rfl
  refine wskip (nc133 c) ?_
  exact wret .rfl

/-- Part 53 of the body. -/
theorem P53 (v2 : BitVec 32) (v5 : BitVec 32) (v6 : BitVec 32) (v7 : BitVec 32) (hw : k0_chk1 c 2048#32) (v11 : BitVec 32) (v16 : BitVec 32) (v35 : BitVec 32) (v46 : BitVec 32) (v1837 : BitVec 1) :
    StM Zf Of K c (1 + kA c 0) (mq c 0) (sq c 0) (rq c 0)
      ⊢ WP c (k0_part53 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v5 v6 v7 2048#32 hw v11 v16 v35 v46 v1837)
        (fun _ => StM Zf Of K c (1 + kA c 0) (mq c 0) (sq c 0) (rq c 0)) := by
  rw [k0_part53_eq_skeleton]; unfold k0_part53_skel
  refine wskip (nc134 c) ?_
  refine wskip (nc135 c) ?_
  refine wskip (nc136 c) ?_
  exact wret .rfl

/-- Part 54 of the body. -/
theorem P54 (v2 : BitVec 32) (v6 : BitVec 32) (hw : k0_chk1 c 2048#32) (v11 : BitVec 32) (v35 : BitVec 32) (v1874 : BitVec 1) (v1875 : BitVec 32) :
    StM Zf Of K c (1 + kA c 0) (mq c 0) (sq c 0) (rq c 0)
      ⊢ WP c (k0_part54 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v6 2048#32 hw v11 v35 v1874 v1875)
        (fun _ => StM Zf Of K c (1 + kA c 0) (mq c 0) (sq c 0) (rq c 0)) := by
  rw [k0_part54_eq_skeleton]; unfold k0_part54_skel
  refine wskip (nc137 c) ?_
  refine wskip (nc138 c) ?_
  refine wskip (nc139 c) ?_
  refine wskip (nc140 c) ?_
  refine wskip (nc141 c) ?_
  exact wret .rfl

/-- Part 55 of the body. -/
theorem P55 (v2 : BitVec 32) (v5 : BitVec 32) (v6 : BitVec 32) (v7 : BitVec 32) (hw : k0_chk1 c 2048#32) (v11 : BitVec 32) (v16 : BitVec 32) (v35 : BitVec 32) (v46 : BitVec 32) (v1904 : BitVec 1) (v1905 : BitVec 32) :
    StM Zf Of K c (1 + kA c 0) (mq c 0) (sq c 0) (rq c 0)
      ⊢ WP c (k0_part55 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v5 v6 v7 2048#32 hw v11 v16 v35 v46 v1904 v1905)
        (fun _ => StM Zf Of K c (1 + kA c 0) (mq c 0) (sq c 0) (rq c 0)) := by
  rw [k0_part55_eq_skeleton]; unfold k0_part55_skel
  refine wskip (nc142 c) ?_
  refine wskip (nc143 c) ?_
  exact wret .rfl

/-- Part 56 of the body. -/
theorem P56 (v2 : BitVec 32) (v5 : BitVec 32) (v7 : BitVec 32) (hw : k0_chk1 c 2048#32) (v11 : BitVec 32) (v35 : BitVec 32) (v1946 : BitVec 1) (c64_i32_1083 : BitVec 32) :
    StM Zf Of K c (1 + kA c 0) (mq c 0) (sq c 0) (rq c 0)
      ⊢ WP c (k0_part56 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v5 v7 2048#32 hw v11 v35 v1946 c64_i32_1083)
        (fun _ => StM Zf Of K c (1 + kA c 0) (mq c 0) (sq c 0) (rq c 0)) := by
  rw [k0_part56_eq_skeleton]; unfold k0_part56_skel
  refine wskip (nc144 c) ?_
  refine wskip (nc145 c) ?_
  refine wskip (nc146 c) ?_
  refine wskip (nc147 c) ?_
  refine wskip (nc148 c) ?_
  exact wret .rfl

/-- Part 57 of the body. -/
theorem P57 (v2 : BitVec 32) (v5 : BitVec 32) (v7 : BitVec 32) (hw : k0_chk1 c 2048#32) (v9 : BitVec 1) (v11 : BitVec 32) (v12 : BitVec 32) (v17 : BitVec 32) (v35 : BitVec 32) (v1976 : BitVec 1) (c2_i32_1108 : BitVec 32) :
    StM Zf Of K c (1 + kA c 0) (mq c 0) (sq c 0) (rq c 0)
      ⊢ WP c (k0_part57 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v5 v7 2048#32 hw v9 v11 v12 v17 v35 v1976 c2_i32_1108)
        (fun _ => StM Zf Of K c (1 + kA c 1) (mq c 0) (sq c 0) (rq c 0)) := by
  rw [k0_part57_eq_skeleton]; unfold k0_part57_skel
  refine wskip (nc149 c) ?_
  refine wskip (nc150 c) ?_
  refine wif (R := StM Zf Of K c (1 + kA c 1) (mq c 0) (sq c 0) (rq c 0)) rfl (fun h => ?_) (fun h => StM_skip (congrArg (1 + ·) ((by decide : ∀ c : Dev nD, ¬ (c = 0 ∨ c = 2) → kA c 0 = kA c 1) c fun e => h ((lv151 c).mpr e))) rfl rfl rfl) ?_
  · rcases (lv151 c).mp h with rfl | rfl <;> exact wait_k rfl cr_k (by decide) (by decide)
  refine wskip (nc152 c) ?_
  exact wret .rfl

/-- Part 58 of the body. -/
theorem P58 (hw : k0_chk1 c 2048#32) (v9 : BitVec 1) (v12 : BitVec 32) (v2004 : BitVec 32) (v2006 : BitVec 32) (v2008 : BitVec 1) :
    StM Zf Of K c (1 + kA c 1) (mq c 0) (sq c 0) (rq c 0)
      ⊢ WP c (k0_part58 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c 2048#32 hw v9 v12 v2004 v2006 v2008)
        (fun _ => StM Zf Of K c (1 + kA c 1) (mq c 0) (sq c 0) (rq c 0)) := by
  rw [k0_part58_eq_skeleton]; unfold k0_part58_skel
  refine wskip (nc153 c) ?_
  refine wskip (nc154 c) ?_
  refine wskip (nc155 c) ?_
  refine wskip (nc156 c) ?_
  exact wret .rfl

/-- Part 59 of the body. -/
theorem P59 (hw : k0_chk1 c 2048#32) (v9 : BitVec 1) (v12 : BitVec 32) (v2040 : BitVec 32) (v2042 : BitVec 32) (v2044 : BitVec 1) :
    StM Zf Of K c (1 + kA c 1) (mq c 0) (sq c 0) (rq c 0)
      ⊢ WP c (k0_part59 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c 2048#32 hw v9 v12 v2040 v2042 v2044)
        (fun _ => StM Zf Of K c (1 + kA c 1) (mq c 0) (sq c 0) (rq c 0)) := by
  rw [k0_part59_eq_skeleton]; unfold k0_part59_skel
  refine wskip (nc157 c) ?_
  refine wskip (nc158 c) ?_
  refine wskip (nc159 c) ?_
  refine wskip (nc160 c) ?_
  exact wret .rfl

/-- Part 60 of the body. -/
theorem P60 (hw : k0_chk1 c 2048#32) (v9 : BitVec 1) (v12 : BitVec 32) (v17 : BitVec 32) (v1988 : BitVec 1) (v2076 : BitVec 32) (v2078 : BitVec 32) (v2080 : BitVec 1) :
    StM Zf Of K c (1 + kA c 1) (mq c 0) (sq c 0) (rq c 0)
      ⊢ WP c (k0_part60 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c 2048#32 hw v9 v12 v17 v1988 v2076 v2078 v2080)
        (fun _ => StM Zf Of K c (1 + kA c 2) (mq c 0) (sq c 0) (rq c 0)) := by
  rw [k0_part60_eq_skeleton]; unfold k0_part60_skel
  refine wskip (nc161 c) ?_
  refine wskip (nc162 c) ?_
  refine wif (R := StM Zf Of K c (1 + kA c 2) (mq c 0) (sq c 0) (rq c 0)) rfl (fun h => ?_) (fun h => StM_skip (congrArg (1 + ·) ((by decide : ∀ c : Dev nD, ¬ (c = 1 ∨ c = 3) → kA c 1 = kA c 2) c fun e => h ((lv163 c).mpr e))) rfl rfl rfl) ?_
  · rcases (lv163 c).mp h with rfl | rfl <;> exact wait_k rfl cr_k (by decide) (by decide)
  refine wskip (nc164 c) ?_
  exact wret .rfl

/-- Part 61 of the body. -/
theorem P61 (hw : k0_chk1 c 2048#32) (v12 : BitVec 32) (v1988 : BitVec 1) (v2108 : BitVec 32) (v2110 : BitVec 32) :
    StM Zf Of K c (1 + kA c 2) (mq c 0) (sq c 0) (rq c 0)
      ⊢ WP c (k0_part61 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c 2048#32 hw v12 v1988 v2108 v2110)
        (fun _ => StM Zf Of K c (1 + kA c 2) (mq c 0) (sq c 0) (rq c 0)) := by
  rw [k0_part61_eq_skeleton]; unfold k0_part61_skel
  refine wskip (nc165 c) ?_
  refine wskip (nc166 c) ?_
  refine wskip (nc167 c) ?_
  refine wskip (nc168 c) ?_
  exact wret .rfl

/-- Part 62 of the body. -/
theorem P62 (hw : k0_chk1 c 2048#32) (v12 : BitVec 32) (v1988 : BitVec 1) (v2144 : BitVec 32) (v2146 : BitVec 32) :
    StM Zf Of K c (1 + kA c 2) (mq c 0) (sq c 0) (rq c 0)
      ⊢ WP c (k0_part62 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c 2048#32 hw v12 v1988 v2144 v2146)
        (fun _ => StM Zf Of K c (1 + kA c 2) (mq c 0) (sq c 0) (rq c 0)) := by
  rw [k0_part62_eq_skeleton]; unfold k0_part62_skel
  refine wskip (nc169 c) ?_
  refine wskip (nc170 c) ?_
  refine wskip (nc171 c) ?_
  refine wskip (nc172 c) ?_
  exact wret .rfl

/-- Part 63 of the body. -/
theorem P63 (v2 : BitVec 32) (hw : k0_chk1 c 2048#32) (v9 : BitVec 1) (v11 : BitVec 32) (v12 : BitVec 32) (v14 : BitVec 32) (v1988 : BitVec 1) (v2180 : BitVec 32) (v2182 : BitVec 32) :
    StM Zf Of K c (1 + kA c 2) (mq c 0) (sq c 0) (rq c 0)
      ⊢ WP c (k0_part63 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 2048#32 hw v9 v11 v12 v14 v1988 v2180 v2182)
        (fun _ => StM Zf Of K c (1 + kA c 2) (mq c 4) (sq c 0) (rq c 0)) := by
  rw [k0_part63_eq_skeleton]; unfold k0_part63_skel
  refine wskip (nc173 c) ?_
  refine wskip (nc174 c) ?_
  refine wif (R := StM Zf Of K c (1 + kA c 2) (mq c 1) (sq c 0) (rq c 0)) rfl (fun h => ?_) (fun h => StM_skip rfl ((by decide : ∀ c : Dev nD, ¬ (c = 0) → mq c 0 = mq c 1) c fun e => h ((lv175 c).mpr e)) rfl rfl) ?_
  · rcases (lv175 c).mp h with rfl <;> exact wait_0 0 (by decide) (by decide) rfl cr_c
  refine wif (R := StM Zf Of K c (1 + kA c 2) (mq c 2) (sq c 0) (rq c 0)) rfl (fun h => ?_) (fun h => StM_skip rfl ((by decide : ∀ c : Dev nD, ¬ (c = 2) → mq c 1 = mq c 2) c fun e => h ((lv176 c).mpr e)) rfl rfl) ?_
  · rcases (lv176 c).mp h with rfl <;> exact wait_0 0 (by decide) (by decide) rfl cr_c
  refine wif (R := StM Zf Of K c (1 + kA c 2) (mq c 3) (sq c 0) (rq c 0)) rfl (fun h => ?_) (fun h => StM_skip rfl ((by decide : ∀ c : Dev nD, ¬ (c = 0) → mq c 2 = mq c 3) c fun e => h ((lv177 c).mpr e)) rfl rfl) ?_
  · rcases (lv177 c).mp h with rfl <;> exact wait_0 1 (by decide) (by decide) rfl cr_c
  refine wif (R := StM Zf Of K c (1 + kA c 2) (mq c 4) (sq c 0) (rq c 0)) rfl (fun h => ?_) (fun h => StM_skip rfl ((by decide : ∀ c : Dev nD, ¬ (c = 2) → mq c 3 = mq c 4) c fun e => h ((lv178 c).mpr e)) rfl rfl) ?_
  · rcases (lv178 c).mp h with rfl <;> exact wait_0 1 (by decide) (by decide) rfl cr_c
  exact wret .rfl

/-- Part 64 of the body. -/
theorem P64 (v2 : BitVec 32) (hw : k0_chk1 c 2048#32) (v9 : BitVec 1) (v11 : BitVec 32) (v14 : BitVec 32) (v46 : BitVec 32) (v2222 : BitVec 1) :
    StM Zf Of K c (1 + kA c 2) (mq c 4) (sq c 0) (rq c 0)
      ⊢ WP c (k0_part64 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 2048#32 hw v9 v11 v14 v46 v2222)
        (fun _ => StM Zf Of K c (1 + kA c 2) (mq c 8) (sq c 0) (rq c 0)) := by
  rw [k0_part64_eq_skeleton]; unfold k0_part64_skel
  refine wif (R := StM Zf Of K c (1 + kA c 2) (mq c 5) (sq c 0) (rq c 0)) rfl (fun h => ?_) (fun h => StM_skip rfl ((by decide : ∀ c : Dev nD, ¬ (c = 0) → mq c 4 = mq c 5) c fun e => h ((lv179 c).mpr e)) rfl rfl) ?_
  · rcases (lv179 c).mp h with rfl <;> exact wait_0 2 (by decide) (by decide) rfl cr_c
  refine wif (R := StM Zf Of K c (1 + kA c 2) (mq c 6) (sq c 0) (rq c 0)) rfl (fun h => ?_) (fun h => StM_skip rfl ((by decide : ∀ c : Dev nD, ¬ (c = 2) → mq c 5 = mq c 6) c fun e => h ((lv180 c).mpr e)) rfl rfl) ?_
  · rcases (lv180 c).mp h with rfl <;> exact wait_0 2 (by decide) (by decide) rfl cr_c
  refine wif (R := StM Zf Of K c (1 + kA c 2) (mq c 7) (sq c 0) (rq c 0)) rfl (fun h => ?_) (fun h => StM_skip rfl ((by decide : ∀ c : Dev nD, ¬ (c = 0) → mq c 6 = mq c 7) c fun e => h ((lv181 c).mpr e)) rfl rfl) ?_
  · rcases (lv181 c).mp h with rfl <;> exact wait_0 3 (by decide) (by decide) rfl cr_c
  refine wif (R := StM Zf Of K c (1 + kA c 2) (mq c 8) (sq c 0) (rq c 0)) rfl (fun h => ?_) (fun h => StM_skip rfl ((by decide : ∀ c : Dev nD, ¬ (c = 2) → mq c 7 = mq c 8) c fun e => h ((lv182 c).mpr e)) rfl rfl) ?_
  · rcases (lv182 c).mp h with rfl <;> exact wait_0 3 (by decide) (by decide) rfl cr_c
  refine wskip (nc183 c) ?_
  refine wskip (nc184 c) ?_
  exact wret .rfl

/-- Part 65 of the body. -/
theorem P65 (v2 : BitVec 32) (hw : k0_chk1 c 2048#32) (v9 : BitVec 1) (v11 : BitVec 32) (v14 : BitVec 32) (v35 : BitVec 32) (v46 : BitVec 32) (c128_i32_1270 : BitVec 32) :
    StM Zf Of K c (1 + kA c 2) (mq c 8) (sq c 0) (rq c 0)
      ⊢ WP c (k0_part65 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 2048#32 hw v9 v11 v14 v35 v46 c128_i32_1270)
        (fun _ => StM Zf Of K c (1 + kA c 2) (mq c 8) (sq c 0) (rq c 0)) := by
  rw [k0_part65_eq_skeleton]; unfold k0_part65_skel
  refine wskip (nc185 c) ?_
  refine wskip (nc186 c) ?_
  exact wret .rfl

/-- Part 66 of the body. -/
theorem P66 (v2 : BitVec 32) (hw : k0_chk1 c 2048#32) (v9 : BitVec 1) (v11 : BitVec 32) (v35 : BitVec 32) (v2298 : BitVec 1) :
    StM Zf Of K c (1 + kA c 2) (mq c 8) (sq c 0) (rq c 0)
      ⊢ WP c (k0_part66 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 2048#32 hw v9 v11 v35 v2298)
        (fun _ => StM Zf Of K c (1 + kA c 2) (mq c 8) (sq c 0) (rq c 0)) := by
  rw [k0_part66_eq_skeleton]; unfold k0_part66_skel
  refine wskip (nc187 c) ?_
  refine wskip (nc188 c) ?_
  refine wskip (nc189 c) ?_
  refine wskip (nc190 c) ?_
  refine wskip (nc191 c) ?_
  exact wret .rfl

/-- Part 67 of the body. -/
theorem P67 (v2 : BitVec 32) (hw : k0_chk1 c 2048#32) (v11 : BitVec 32) (v14 : BitVec 32) (v2197 : BitVec 1) (v2330 : BitVec 1) :
    StM Zf Of K c (1 + kA c 2) (mq c 8) (sq c 0) (rq c 0)
      ⊢ WP c (k0_part67 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 2048#32 hw v11 v14 v2197 v2330)
        (fun _ => StM Zf Of K c (1 + kA c 2) (mq c 12) (sq c 0) (rq c 0)) := by
  rw [k0_part67_eq_skeleton]; unfold k0_part67_skel
  refine wskip (nc192 c) ?_
  refine wif (R := StM Zf Of K c (1 + kA c 2) (mq c 9) (sq c 0) (rq c 0)) rfl (fun h => ?_) (fun h => StM_skip rfl ((by decide : ∀ c : Dev nD, ¬ (c = 1) → mq c 8 = mq c 9) c fun e => h ((lv193 c).mpr e)) rfl rfl) ?_
  · rcases (lv193 c).mp h with rfl <;> exact wait_0 0 (by decide) (by decide) rfl cr_c
  refine wif (R := StM Zf Of K c (1 + kA c 2) (mq c 10) (sq c 0) (rq c 0)) rfl (fun h => ?_) (fun h => StM_skip rfl ((by decide : ∀ c : Dev nD, ¬ (c = 3) → mq c 9 = mq c 10) c fun e => h ((lv194 c).mpr e)) rfl rfl) ?_
  · rcases (lv194 c).mp h with rfl <;> exact wait_0 0 (by decide) (by decide) rfl cr_c
  refine wif (R := StM Zf Of K c (1 + kA c 2) (mq c 11) (sq c 0) (rq c 0)) rfl (fun h => ?_) (fun h => StM_skip rfl ((by decide : ∀ c : Dev nD, ¬ (c = 1) → mq c 10 = mq c 11) c fun e => h ((lv195 c).mpr e)) rfl rfl) ?_
  · rcases (lv195 c).mp h with rfl <;> exact wait_0 1 (by decide) (by decide) rfl cr_c
  refine wif (R := StM Zf Of K c (1 + kA c 2) (mq c 12) (sq c 0) (rq c 0)) rfl (fun h => ?_) (fun h => StM_skip rfl ((by decide : ∀ c : Dev nD, ¬ (c = 3) → mq c 11 = mq c 12) c fun e => h ((lv196 c).mpr e)) rfl rfl) ?_
  · rcases (lv196 c).mp h with rfl <;> exact wait_0 1 (by decide) (by decide) rfl cr_c
  exact wret .rfl

/-- Part 68 of the body. -/
theorem P68 (v2 : BitVec 32) (hw : k0_chk1 c 2048#32) (v11 : BitVec 32) (v14 : BitVec 32) (v46 : BitVec 32) (v2197 : BitVec 1) :
    StM Zf Of K c (1 + kA c 2) (mq c 12) (sq c 0) (rq c 0)
      ⊢ WP c (k0_part68 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 2048#32 hw v11 v14 v46 v2197)
        (fun _ => StM Zf Of K c (1 + kA c 2) (mq c 16) (sq c 0) (rq c 0)) := by
  rw [k0_part68_eq_skeleton]; unfold k0_part68_skel
  refine wif (R := StM Zf Of K c (1 + kA c 2) (mq c 13) (sq c 0) (rq c 0)) rfl (fun h => ?_) (fun h => StM_skip rfl ((by decide : ∀ c : Dev nD, ¬ (c = 1) → mq c 12 = mq c 13) c fun e => h ((lv197 c).mpr e)) rfl rfl) ?_
  · rcases (lv197 c).mp h with rfl <;> exact wait_0 2 (by decide) (by decide) rfl cr_c
  refine wif (R := StM Zf Of K c (1 + kA c 2) (mq c 14) (sq c 0) (rq c 0)) rfl (fun h => ?_) (fun h => StM_skip rfl ((by decide : ∀ c : Dev nD, ¬ (c = 3) → mq c 13 = mq c 14) c fun e => h ((lv198 c).mpr e)) rfl rfl) ?_
  · rcases (lv198 c).mp h with rfl <;> exact wait_0 2 (by decide) (by decide) rfl cr_c
  refine wif (R := StM Zf Of K c (1 + kA c 2) (mq c 15) (sq c 0) (rq c 0)) rfl (fun h => ?_) (fun h => StM_skip rfl ((by decide : ∀ c : Dev nD, ¬ (c = 1) → mq c 14 = mq c 15) c fun e => h ((lv199 c).mpr e)) rfl rfl) ?_
  · rcases (lv199 c).mp h with rfl <;> exact wait_0 3 (by decide) (by decide) rfl cr_c
  refine wif (R := StM Zf Of K c (1 + kA c 2) (mq c 16) (sq c 0) (rq c 0)) rfl (fun h => ?_) (fun h => StM_skip rfl ((by decide : ∀ c : Dev nD, ¬ (c = 3) → mq c 15 = mq c 16) c fun e => h ((lv200 c).mpr e)) rfl rfl) ?_
  · rcases (lv200 c).mp h with rfl <;> exact wait_0 3 (by decide) (by decide) rfl cr_c
  refine wskip (nc201 c) ?_
  refine wskip (nc202 c) ?_
  exact wret .rfl

/-- Part 69 of the body. -/
theorem P69 (v2 : BitVec 32) (hw : k0_chk1 c 2048#32) (v11 : BitVec 32) (v14 : BitVec 32) (v35 : BitVec 32) (v2197 : BitVec 1) (v2401 : BitVec 32) :
    StM Zf Of K c (1 + kA c 2) (mq c 16) (sq c 0) (rq c 0)
      ⊢ WP c (k0_part69 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 2048#32 hw v11 v14 v35 v2197 v2401)
        (fun _ => StM Zf Of K c (1 + kA c 2) (mq c 16) (sq c 0) (rq c 0)) := by
  rw [k0_part69_eq_skeleton]; unfold k0_part69_skel
  refine wskip (nc203 c) ?_
  refine wskip (nc204 c) ?_
  refine wskip (nc205 c) ?_
  exact wret .rfl

/-- Part 70 of the body. -/
theorem P70 (v2 : BitVec 32) (hw : k0_chk1 c 2048#32) (v11 : BitVec 32) (v35 : BitVec 32) (v2197 : BitVec 1) (v2439 : BitVec 1) :
    StM Zf Of K c (1 + kA c 2) (mq c 16) (sq c 0) (rq c 0)
      ⊢ WP c (k0_part70 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 2048#32 hw v11 v35 v2197 v2439)
        (fun _ => StM Zf Of K c (1 + kA c 2) (mq c 16) (sq c 0) (rq c 0)) := by
  rw [k0_part70_eq_skeleton]; unfold k0_part70_skel
  refine wskip (nc206 c) ?_
  refine wskip (nc207 c) ?_
  refine wskip (nc208 c) ?_
  refine wskip (nc209 c) ?_
  exact wret .rfl

/-- Part 71 of the body. -/
theorem P71 (v2 : BitVec 32) (v5 : BitVec 32) (v7 : BitVec 32) (hw : k0_chk1 c 2048#32) (v11 : BitVec 32) (v16 : BitVec 32) (v2472 : BitVec 32) :
    StM Zf Of K c (1 + kA c 2) (mq c 16) (sq c 0) (rq c 0)
      ⊢ WP c (k0_part71 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v5 v7 2048#32 hw v11 v16 v2472)
        (fun _ => StM Zf Of K c (1 + kA c 2) (mq c 16) (sq c 6) (rq c 6)) := by
  rw [k0_part71_eq_skeleton]; unfold k0_part71_skel
  refine wskip (nc210 c) ?_
  refine wif (R := StM Zf Of K c (1 + kA c 2) (mq c 16) (sq c 1) (rq c 1)) rfl (fun h => ?_) (fun h => StM_skip rfl rfl ((by decide : ∀ c : Dev nD, ¬ (c = 0 ∨ c = 1) → sq c 0 = sq c 1) c fun e => h ((lv211 c).mpr e)) ((by decide : ∀ c : Dev nD, ¬ (c = 0 ∨ c = 1) → rq c 0 = rq c 1) c fun e => h ((lv211 c).mpr e))) ?_
  · rcases (lv211 c).mp h with rfl | rfl
    · exact (wait_2 0 (by decide) (s' := sq 0 1) (by decide) rfl cr_c).trans (wp_mono _ _ _ fun _ => StM_skip rfl rfl rfl (by decide))
    · exact (wait_2 0 (by decide) (s' := sq 1 1) (by decide) rfl cr_c).trans (wp_mono _ _ _ fun _ => StM_skip rfl rfl rfl (by decide))
  refine wif (R := StM Zf Of K c (1 + kA c 2) (mq c 16) (sq c 2) (rq c 2)) rfl (fun h => ?_) (fun h => StM_skip rfl rfl ((by decide : ∀ c : Dev nD, ¬ (c = 2 ∨ c = 3) → sq c 1 = sq c 2) c fun e => h ((lv212 c).mpr e)) ((by decide : ∀ c : Dev nD, ¬ (c = 2 ∨ c = 3) → rq c 1 = rq c 2) c fun e => h ((lv212 c).mpr e))) ?_
  · rcases (lv212 c).mp h with rfl | rfl
    · exact (wait_3 0 (by decide) (r' := rq 2 2) (by decide) rfl cr_c).trans (wp_mono _ _ _ fun _ => StM_skip rfl rfl (by decide) rfl)
    · exact (wait_3 0 (by decide) (r' := rq 3 2) (by decide) rfl cr_c).trans (wp_mono _ _ _ fun _ => StM_skip rfl rfl (by decide) rfl)
  refine wif (R := StM Zf Of K c (1 + kA c 2) (mq c 16) (sq c 3) (rq c 3)) rfl (fun h => ?_) (fun h => StM_skip rfl rfl ((by decide : ∀ c : Dev nD, ¬ (c = 2 ∨ c = 3) → sq c 2 = sq c 3) c fun e => h ((lv213 c).mpr e)) ((by decide : ∀ c : Dev nD, ¬ (c = 2 ∨ c = 3) → rq c 2 = rq c 3) c fun e => h ((lv213 c).mpr e))) ?_
  · rcases (lv213 c).mp h with rfl | rfl
    · exact (wait_2 0 (by decide) (s' := sq 2 3) (by decide) rfl cr_c).trans (wp_mono _ _ _ fun _ => StM_skip rfl rfl rfl (by decide))
    · exact (wait_2 0 (by decide) (s' := sq 3 3) (by decide) rfl cr_c).trans (wp_mono _ _ _ fun _ => StM_skip rfl rfl rfl (by decide))
  refine wif (R := StM Zf Of K c (1 + kA c 2) (mq c 16) (sq c 4) (rq c 4)) rfl (fun h => ?_) (fun h => StM_skip rfl rfl ((by decide : ∀ c : Dev nD, ¬ (c = 0 ∨ c = 1) → sq c 3 = sq c 4) c fun e => h ((lv214 c).mpr e)) ((by decide : ∀ c : Dev nD, ¬ (c = 0 ∨ c = 1) → rq c 3 = rq c 4) c fun e => h ((lv214 c).mpr e))) ?_
  · rcases (lv214 c).mp h with rfl | rfl
    · exact (wait_3 0 (by decide) (r' := rq 0 4) (by decide) rfl cr_c).trans (wp_mono _ _ _ fun _ => StM_skip rfl rfl (by decide) rfl)
    · exact (wait_3 0 (by decide) (r' := rq 1 4) (by decide) rfl cr_c).trans (wp_mono _ _ _ fun _ => StM_skip rfl rfl (by decide) rfl)
  refine wif (R := StM Zf Of K c (1 + kA c 2) (mq c 16) (sq c 5) (rq c 5)) rfl (fun h => ?_) (fun h => StM_skip rfl rfl ((by decide : ∀ c : Dev nD, ¬ (c = 0 ∨ c = 1) → sq c 4 = sq c 5) c fun e => h ((lv215 c).mpr e)) ((by decide : ∀ c : Dev nD, ¬ (c = 0 ∨ c = 1) → rq c 4 = rq c 5) c fun e => h ((lv215 c).mpr e))) ?_
  · rcases (lv215 c).mp h with rfl | rfl
    · exact (wait_2 1 (by decide) (s' := sq 0 5) (by decide) rfl cr_c).trans (wp_mono _ _ _ fun _ => StM_skip rfl rfl rfl (by decide))
    · exact (wait_2 1 (by decide) (s' := sq 1 5) (by decide) rfl cr_c).trans (wp_mono _ _ _ fun _ => StM_skip rfl rfl rfl (by decide))
  refine wif (R := StM Zf Of K c (1 + kA c 2) (mq c 16) (sq c 6) (rq c 6)) rfl (fun h => ?_) (fun h => StM_skip rfl rfl ((by decide : ∀ c : Dev nD, ¬ (c = 2 ∨ c = 3) → sq c 5 = sq c 6) c fun e => h ((lv216 c).mpr e)) ((by decide : ∀ c : Dev nD, ¬ (c = 2 ∨ c = 3) → rq c 5 = rq c 6) c fun e => h ((lv216 c).mpr e))) ?_
  · rcases (lv216 c).mp h with rfl | rfl
    · exact (wait_3 1 (by decide) (r' := rq 2 6) (by decide) rfl cr_c).trans (wp_mono _ _ _ fun _ => StM_skip rfl rfl (by decide) rfl)
    · exact (wait_3 1 (by decide) (r' := rq 3 6) (by decide) rfl cr_c).trans (wp_mono _ _ _ fun _ => StM_skip rfl rfl (by decide) rfl)
  exact wret .rfl

/-- Part 72 of the body. -/
theorem P72 (v2 : BitVec 32) (v5 : BitVec 32) (v7 : BitVec 32) (hw : k0_chk1 c 2048#32) (v11 : BitVec 32) (v16 : BitVec 32) (v2504 : BitVec 1) :
    StM Zf Of K c (1 + kA c 2) (mq c 16) (sq c 6) (rq c 6)
      ⊢ WP c (k0_part72 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v5 v7 2048#32 hw v11 v16 v2504)
        (fun _ => StM Zf Of K c (1 + kA c 2) (mq c 16) (sq c 12) (rq c 12)) := by
  rw [k0_part72_eq_skeleton]; unfold k0_part72_skel
  refine wif (R := StM Zf Of K c (1 + kA c 2) (mq c 16) (sq c 7) (rq c 7)) rfl (fun h => ?_) (fun h => StM_skip rfl rfl ((by decide : ∀ c : Dev nD, ¬ (c = 2 ∨ c = 3) → sq c 6 = sq c 7) c fun e => h ((lv217 c).mpr e)) ((by decide : ∀ c : Dev nD, ¬ (c = 2 ∨ c = 3) → rq c 6 = rq c 7) c fun e => h ((lv217 c).mpr e))) ?_
  · rcases (lv217 c).mp h with rfl | rfl
    · exact (wait_2 1 (by decide) (s' := sq 2 7) (by decide) rfl cr_c).trans (wp_mono _ _ _ fun _ => StM_skip rfl rfl rfl (by decide))
    · exact (wait_2 1 (by decide) (s' := sq 3 7) (by decide) rfl cr_c).trans (wp_mono _ _ _ fun _ => StM_skip rfl rfl rfl (by decide))
  refine wif (R := StM Zf Of K c (1 + kA c 2) (mq c 16) (sq c 8) (rq c 8)) rfl (fun h => ?_) (fun h => StM_skip rfl rfl ((by decide : ∀ c : Dev nD, ¬ (c = 0 ∨ c = 1) → sq c 7 = sq c 8) c fun e => h ((lv218 c).mpr e)) ((by decide : ∀ c : Dev nD, ¬ (c = 0 ∨ c = 1) → rq c 7 = rq c 8) c fun e => h ((lv218 c).mpr e))) ?_
  · rcases (lv218 c).mp h with rfl | rfl
    · exact (wait_3 1 (by decide) (r' := rq 0 8) (by decide) rfl cr_c).trans (wp_mono _ _ _ fun _ => StM_skip rfl rfl (by decide) rfl)
    · exact (wait_3 1 (by decide) (r' := rq 1 8) (by decide) rfl cr_c).trans (wp_mono _ _ _ fun _ => StM_skip rfl rfl (by decide) rfl)
  refine wif (R := StM Zf Of K c (1 + kA c 2) (mq c 16) (sq c 9) (rq c 9)) rfl (fun h => ?_) (fun h => StM_skip rfl rfl ((by decide : ∀ c : Dev nD, ¬ (c = 0 ∨ c = 1) → sq c 8 = sq c 9) c fun e => h ((lv219 c).mpr e)) ((by decide : ∀ c : Dev nD, ¬ (c = 0 ∨ c = 1) → rq c 8 = rq c 9) c fun e => h ((lv219 c).mpr e))) ?_
  · rcases (lv219 c).mp h with rfl | rfl
    · exact (wait_2 2 (by decide) (s' := sq 0 9) (by decide) rfl cr_c).trans (wp_mono _ _ _ fun _ => StM_skip rfl rfl rfl (by decide))
    · exact (wait_2 2 (by decide) (s' := sq 1 9) (by decide) rfl cr_c).trans (wp_mono _ _ _ fun _ => StM_skip rfl rfl rfl (by decide))
  refine wif (R := StM Zf Of K c (1 + kA c 2) (mq c 16) (sq c 10) (rq c 10)) rfl (fun h => ?_) (fun h => StM_skip rfl rfl ((by decide : ∀ c : Dev nD, ¬ (c = 2 ∨ c = 3) → sq c 9 = sq c 10) c fun e => h ((lv220 c).mpr e)) ((by decide : ∀ c : Dev nD, ¬ (c = 2 ∨ c = 3) → rq c 9 = rq c 10) c fun e => h ((lv220 c).mpr e))) ?_
  · rcases (lv220 c).mp h with rfl | rfl
    · exact (wait_3 2 (by decide) (r' := rq 2 10) (by decide) rfl cr_c).trans (wp_mono _ _ _ fun _ => StM_skip rfl rfl (by decide) rfl)
    · exact (wait_3 2 (by decide) (r' := rq 3 10) (by decide) rfl cr_c).trans (wp_mono _ _ _ fun _ => StM_skip rfl rfl (by decide) rfl)
  refine wif (R := StM Zf Of K c (1 + kA c 2) (mq c 16) (sq c 11) (rq c 11)) rfl (fun h => ?_) (fun h => StM_skip rfl rfl ((by decide : ∀ c : Dev nD, ¬ (c = 2 ∨ c = 3) → sq c 10 = sq c 11) c fun e => h ((lv221 c).mpr e)) ((by decide : ∀ c : Dev nD, ¬ (c = 2 ∨ c = 3) → rq c 10 = rq c 11) c fun e => h ((lv221 c).mpr e))) ?_
  · rcases (lv221 c).mp h with rfl | rfl
    · exact (wait_2 2 (by decide) (s' := sq 2 11) (by decide) rfl cr_c).trans (wp_mono _ _ _ fun _ => StM_skip rfl rfl rfl (by decide))
    · exact (wait_2 2 (by decide) (s' := sq 3 11) (by decide) rfl cr_c).trans (wp_mono _ _ _ fun _ => StM_skip rfl rfl rfl (by decide))
  refine wif (R := StM Zf Of K c (1 + kA c 2) (mq c 16) (sq c 12) (rq c 12)) rfl (fun h => ?_) (fun h => StM_skip rfl rfl ((by decide : ∀ c : Dev nD, ¬ (c = 0 ∨ c = 1) → sq c 11 = sq c 12) c fun e => h ((lv222 c).mpr e)) ((by decide : ∀ c : Dev nD, ¬ (c = 0 ∨ c = 1) → rq c 11 = rq c 12) c fun e => h ((lv222 c).mpr e))) ?_
  · rcases (lv222 c).mp h with rfl | rfl
    · exact (wait_3 2 (by decide) (r' := rq 0 12) (by decide) rfl cr_c).trans (wp_mono _ _ _ fun _ => StM_skip rfl rfl (by decide) rfl)
    · exact (wait_3 2 (by decide) (r' := rq 1 12) (by decide) rfl cr_c).trans (wp_mono _ _ _ fun _ => StM_skip rfl rfl (by decide) rfl)
  exact wret .rfl

/-- Part 73 of the body. -/
theorem P73 (v2 : BitVec 32) (v5 : BitVec 32) (v7 : BitVec 32) (hw : k0_chk1 c 2048#32) (v11 : BitVec 32) (v16 : BitVec 32) :
    StM Zf Of K c (1 + kA c 2) (mq c 16) (sq c 12) (rq c 12)
      ⊢ WP c (k0_part73 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v5 v7 2048#32 hw v11 v16)
        (fun _ => StM Zf Of K c (1 + kA c 2) (mq c 16) (sq c 16) (rq c 16)) := by
  rw [k0_part73_eq_skeleton]; unfold k0_part73_skel
  refine wif (R := StM Zf Of K c (1 + kA c 2) (mq c 16) (sq c 13) (rq c 13)) rfl (fun h => ?_) (fun h => StM_skip rfl rfl ((by decide : ∀ c : Dev nD, ¬ (c = 0 ∨ c = 1) → sq c 12 = sq c 13) c fun e => h ((lv223 c).mpr e)) ((by decide : ∀ c : Dev nD, ¬ (c = 0 ∨ c = 1) → rq c 12 = rq c 13) c fun e => h ((lv223 c).mpr e))) ?_
  · rcases (lv223 c).mp h with rfl | rfl
    · exact (wait_2 3 (by decide) (s' := sq 0 13) (by decide) rfl cr_c).trans (wp_mono _ _ _ fun _ => StM_skip rfl rfl rfl (by decide))
    · exact (wait_2 3 (by decide) (s' := sq 1 13) (by decide) rfl cr_c).trans (wp_mono _ _ _ fun _ => StM_skip rfl rfl rfl (by decide))
  refine wif (R := StM Zf Of K c (1 + kA c 2) (mq c 16) (sq c 14) (rq c 14)) rfl (fun h => ?_) (fun h => StM_skip rfl rfl ((by decide : ∀ c : Dev nD, ¬ (c = 2 ∨ c = 3) → sq c 13 = sq c 14) c fun e => h ((lv224 c).mpr e)) ((by decide : ∀ c : Dev nD, ¬ (c = 2 ∨ c = 3) → rq c 13 = rq c 14) c fun e => h ((lv224 c).mpr e))) ?_
  · rcases (lv224 c).mp h with rfl | rfl
    · exact (wait_3 3 (by decide) (r' := rq 2 14) (by decide) rfl cr_c).trans (wp_mono _ _ _ fun _ => StM_skip rfl rfl (by decide) rfl)
    · exact (wait_3 3 (by decide) (r' := rq 3 14) (by decide) rfl cr_c).trans (wp_mono _ _ _ fun _ => StM_skip rfl rfl (by decide) rfl)
  refine wif (R := StM Zf Of K c (1 + kA c 2) (mq c 16) (sq c 15) (rq c 15)) rfl (fun h => ?_) (fun h => StM_skip rfl rfl ((by decide : ∀ c : Dev nD, ¬ (c = 2 ∨ c = 3) → sq c 14 = sq c 15) c fun e => h ((lv225 c).mpr e)) ((by decide : ∀ c : Dev nD, ¬ (c = 2 ∨ c = 3) → rq c 14 = rq c 15) c fun e => h ((lv225 c).mpr e))) ?_
  · rcases (lv225 c).mp h with rfl | rfl
    · exact (wait_2 3 (by decide) (s' := sq 2 15) (by decide) rfl cr_c).trans (wp_mono _ _ _ fun _ => StM_skip rfl rfl rfl (by decide))
    · exact (wait_2 3 (by decide) (s' := sq 3 15) (by decide) rfl cr_c).trans (wp_mono _ _ _ fun _ => StM_skip rfl rfl rfl (by decide))
  refine wif (R := StM Zf Of K c (1 + kA c 2) (mq c 16) (sq c 16) (rq c 16)) rfl (fun h => ?_) (fun h => StM_skip rfl rfl ((by decide : ∀ c : Dev nD, ¬ (c = 0 ∨ c = 1) → sq c 15 = sq c 16) c fun e => h ((lv226 c).mpr e)) ((by decide : ∀ c : Dev nD, ¬ (c = 0 ∨ c = 1) → rq c 15 = rq c 16) c fun e => h ((lv226 c).mpr e))) ?_
  · rcases (lv226 c).mp h with rfl | rfl
    · exact (wait_3 3 (by decide) (r' := rq 0 16) (by decide) rfl cr_c).trans (wp_mono _ _ _ fun _ => StM_skip rfl rfl (by decide) rfl)
    · exact (wait_3 3 (by decide) (r' := rq 1 16) (by decide) rfl cr_c).trans (wp_mono _ _ _ fun _ => StM_skip rfl rfl (by decide) rfl)
  refine wskip (nc227 c) ?_
  refine wskip (nc228 c) ?_
  refine wskip (nc229 c) ?_
  exact wret .rfl

/-- Part 74 of the body. -/
theorem P74 (v2 : BitVec 32) (v5 : BitVec 32) (v7 : BitVec 32) (hw : k0_chk1 c 2048#32) (v11 : BitVec 32) (v16 : BitVec 32) (v35 : BitVec 32) (v46 : BitVec 32) (v2571 : BitVec 1) :
    StM Zf Of K c (1 + kA c 2) (mq c 16) (sq c 16) (rq c 16)
      ⊢ WP c (k0_part74 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v5 v7 2048#32 hw v11 v16 v35 v46 v2571)
        (fun _ => StM Zf Of K c (1 + kA c 2) (mq c 16) (sq c 16) (rq c 16)) := by
  rw [k0_part74_eq_skeleton]; unfold k0_part74_skel
  refine wskip (nc230 c) ?_
  refine wskip (nc231 c) ?_
  exact wret .rfl

/-- Part 75 of the body. -/
theorem P75 (v2 : BitVec 32) (v5 : BitVec 32) (v7 : BitVec 32) (hw : k0_chk1 c 2048#32) (v11 : BitVec 32) (v35 : BitVec 32) (v2614 : BitVec 32) :
    StM Zf Of K c (1 + kA c 2) (mq c 16) (sq c 16) (rq c 16)
      ⊢ WP c (k0_part75 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v5 v7 2048#32 hw v11 v35 v2614)
        (fun _ => StM Zf Of K c (1 + kA c 2) (mq c 16) (sq c 16) (rq c 16)) := by
  rw [k0_part75_eq_skeleton]; unfold k0_part75_skel
  refine wskip (nc232 c) ?_
  refine wskip (nc233 c) ?_
  refine wskip (nc234 c) ?_
  refine wskip (nc235 c) ?_
  refine wskip (nc236 c) ?_
  exact wret .rfl

/-- Part 76 of the body. -/
theorem P76 (v2 : BitVec 32) (v5 : BitVec 32) (v7 : BitVec 32) (hw : k0_chk1 c 2048#32) (v11 : BitVec 32) (v35 : BitVec 32) (v2644 : BitVec 32) :
    StM Zf Of K c (1 + kA c 2) (mq c 16) (sq c 16) (rq c 16)
      ⊢ WP c (k0_part76 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c v2 v5 v7 2048#32 hw v11 v35 v2644)
        (fun _ => StM Zf Of K c (1 + kA c 2) (mq c 16) (sq c 16) (rq c 16)) := by
  rw [k0_part76_eq_skeleton]; unfold k0_part76_skel
  refine wskip (nc237 c) ?_
  refine wskip (nc238 c) ?_
  refine wskip (nc239 c) ?_
  refine wskip (nc240 c) ?_
  refine wskip (nc241 c) ?_
  exact wret .rfl

end Cert.KernelIdeal.Talk
-- ==== Proof.PartsC.lean ====
/- The first two parts of the body: the count is read, the barrier crossed. -/
module

public import proofs.«01_k».proof.Proof.Steps2
public import proofs.«01_k».proof.Proof.Conds

@[expose] public section

set_option maxRecDepth 65536

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable {Zf Of : Dev nD → Vec F S2560x8x128 .f32} {K : GSem nD τ sig → ℕ}
variable {M0 : Memref sig .tc .smem S1 .i32} {h0 : M0.IsWhole}
variable {M1 : Memref sig .tc .vmem S4096x1024 .f32} {h1 : M1.IsWhole} {M2 : Memref sig .tc .vmem S1x4096 .i32} {h2 : M2.IsWhole}
variable {M3 : Memref sig .tc .vmem S1x4096 .i32} {h3 : M3.IsWhole}
variable {c : Dev nD} {f0 : Buf (Elt F) (M0.view.loc (c : Thread nD τ))} {f1 : Buf (Elt F) (M1.view.loc (c : Thread nD τ))} {f2 : Buf (Elt F) (M2.view.loc (c : Thread nD τ))}
variable {f3 : Buf (Elt F) (M3.view.loc (c : Thread nD τ))}

/-- The one word the first operand holds. -/
def word0 (M0 : Memref sig .tc .smem S1 .i32) (f0 : Buf (Elt F) (M0.view.loc (c : Thread nD τ))) : Elt F .i32 :=
  (M0.access (Rect.unit (s := S1) ![0] S1.size inb_S1_S1_0)).read (Elt F) f0 (Shape.Idx.first (numel1_S1.symm ▸ Nat.one_pos))

/-- Part 1 of the body: the device's place and the count. -/
theorem P1 (hv : word0 M0 f0 = 2048#32) :
    (M0.view.loc (c : Thread nD τ) ↦{fullShare} f0 : sProp 𝕄)
      ⊢ WP c (k0_part1 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10)
        (fun r => iprop(⌜∃ (w2 w5 w6 w7 : BitVec 32) (w9 : BitVec 1) (w11 w12 w14 w16 w17 w34 : BitVec 32),
            r = ⟨c, w2, w5, w6, w7, 2048#32, chk c, w9, w11, w12, w14, w16, w17, w34, 1#32⟩⌝ ∗ (M0.view.loc (c : Thread nD τ) ↦{fullShare} f0))) := by
  rw [k0_part1_eq_skeleton]; unfold k0_part1_skel
  refine wseqEq (R := iprop(M0.view.loc (c : Thread nD τ) ↦{fullShare} f0)) c ?_ ?_
  · show _ ⊢ wp frame (wpE (defs₀ (F := F)) 𝒱₀ (c : Thread nD τ) none) Set.univ (.op .deviceId .ret) _
    rw [wp_deviceId]
    refine wret (c := c) ?_
    iintro H
    isplitr; · ipureintro; rfl
    iexact H
  refine wseqEq (R := iprop(M0.view.loc (c : Thread nD τ) ↦{fullShare} f0)) (2048#32 : Elt F .i32) ?_ ?_
  · unfold smemLoad
    iintro H
    iapply (wp_smemLoadElt 𝒱₀ (c : Thread nD τ) none Set.univ (m := M0) (Finset.subset_univ _)) $$ [H]
    · iexact H
    iintro H
    rw [wp_ret]
    imodintro
    isplitr; · ipureintro; exact hv
    iexact H
  refine wseqEq (R := iprop(M0.view.loc (c : Thread nD τ) ↦{fullShare} f0)) (⟨chk c⟩ : PLift _) ?_ ?_
  · refine BIBase.Entails.trans ?_ (wp_assume 𝒱₀ (c : Thread nD τ) none Set.univ (chk c))
    refine wret (c := c) ?_
    iintro H
    isplitr; · ipureintro; rfl
    iexact H
  refine wret ?_
  iintro H
  isplitr; · ipureintro; exact ⟨_, _, _, _, _, _, _, _, _, _, _, rfl⟩
  iexact H

section Bar
variable (c)

/-- What a device holds for the barrier. -/
def barRes : sProp 𝕄 :=
  iprop((∃ W, owes (c : Thread nD τ) (O₀ c) W) ∗ dutyTok ER (bc (yp c)) 0 false ∗ dutyTok ER (bc (xp c)) 0 true
    ∗ outAny c (RowsR c 0) ∗ outAny c (RowsF c 0) ∗ atPos ER (bc c) 0 ∅ 0 ∗ cred (tallyAt (bc c) () 2)
    ∗ reached ER (bc (yp c)) 0 ∗ reached ER (bc (xp c)) 0)
/-- The same after the signal to the second-axis neighbour. -/
def barRes1 : sProp 𝕄 :=
  iprop((∃ W, owes (c : Thread nD τ) (Due c 0 0 + tallyAt (bc (xp c)) () 1) W) ∗ dutyTok ER (bc (xp c)) 0 true
    ∗ outAny c (RowsF c 0) ∗ atPos ER (bc c) 0 ∅ 0 ∗ cred (tallyAt (bc c) () 2) ∗ reached ER (bc (xp c)) 0)
/-- The same after both signals. -/
def barRes2 : sProp 𝕄 :=
  iprop((∃ W, owes (c : Thread nD τ) (Due c 0 0) W) ∗ atPos ER (bc c) 0 ∅ 0 ∗ cred (tallyAt (bc c) () 2))
/-- The same after the wait. -/
def barRes3 : sProp 𝕄 :=
  iprop((∃ W, owes (c : Thread nD τ) (Due c 0 0) W) ∗ atPos ER (bc c) 1 ∅ 0 ∗ Nbr c ∗ outAny (yp c) (RowsR (yp c) 0) ∗ outAny (xp c) (RowsF (xp c) 0))
end Bar

theorem bar_y {d : Dev nD} {sm : Sem sig} (hd : d = yp c) (hs : sm = barS) :
    iprop(Ctx Zf Of K c ∗ barRes c) ⊢ WP c (semSignalWord d sm 1#32) (fun _ => iprop(Ctx Zf Of K c ∗ barRes1 c)) := by
  subst hd hs
  have hI := (Ctx_inv Zf Of K c).trans (Invs_b Zf Of K (yp c))
  have hR := Ctx_u Zf Of K c 1
  unfold barRes barRes1 semSignalWord
  iintro ⟨#HC, ⟨%W, How⟩, Ht, Htx, Hy, Hx, Hat, Hcr, Hry, Hrx⟩
  iapply (Rounds.wp_signal 𝒱₀ ER (Rd Zf Of) (c : Thread nD τ) none (dst := (yp c : Thread nD τ)) (sem := barS) (r := 0) (d := false) (k' := 1)
    (κ := K (bc (yp c))) (by rw [duties_b]; decide) (amount_b Zf Of (yp c) false) () (Due c 0 0 + tallyAt (bc (xp c)) () 1) rfl (W := W)) $$ [How Ht Hy Hry]
  · isplitr; · iapply hI; iexact HC
    isplitl [How]; · iexact How
    isplitl [Ht]; · iexact Ht
    isplitl [Hy]
    · iapply (Entails.of_eq (show barY (yp c) = (Rd Zf Of).payload (bc (yp c)) 0 false from rfl))
      unfold barY
      rw [yp_yp]
      isplitl [Hy]; · iexact Hy
      iapply (BI.bigSep_intro_persistent (R := Ctx Zf Of K c) fun j _ => hR j)
      iexact HC
    iexact Hry
  iintro How
  rw [wp_ret]
  imodintro
  isplitr; · iexact HC
  isplitl [How]; · iexists W; iexact How
  isplitl [Htx]; · iexact Htx
  isplitl [Hx]; · iexact Hx
  isplitl [Hat]; · iexact Hat
  isplitl [Hcr] <;> iassumption

theorem bar_x {d : Dev nD} {sm : Sem sig} (hd : d = xp c) (hs : sm = barS) :
    iprop(Ctx Zf Of K c ∗ barRes1 c) ⊢ WP c (semSignalWord d sm 1#32) (fun _ => iprop(Ctx Zf Of K c ∗ barRes2 c)) := by
  subst hd hs
  have hI := (Ctx_inv Zf Of K c).trans (Invs_b Zf Of K (xp c))
  have hR := Ctx_u Zf Of K c 3
  unfold barRes1 barRes2 semSignalWord
  iintro ⟨#HC, ⟨%W, How⟩, Ht, Hx, Hat, Hcr, Hrx⟩
  iapply (Rounds.wp_signal 𝒱₀ ER (Rd Zf Of) (c : Thread nD τ) none (dst := (xp c : Thread nD τ)) (sem := barS) (r := 0) (d := true) (k' := 1)
    (κ := K (bc (xp c))) (by rw [duties_b]; decide) (amount_b Zf Of (xp c) true) () (Due c 0 0) rfl (W := W)) $$ [How Ht Hx Hrx]
  · isplitr; · iapply hI; iexact HC
    isplitl [How]; · iexact How
    isplitl [Ht]; · iexact Ht
    isplitl [Hx]
    · iapply (Entails.of_eq (show barX (xp c) = (Rd Zf Of).payload (bc (xp c)) 0 true from rfl))
      unfold barX
      rw [xp_xp]
      isplitl [Hx]; · iexact Hx
      iapply (BI.bigSep_intro_persistent (R := Ctx Zf Of K c) fun j _ => hR j)
      iexact HC
    iexact Hrx
  iintro How
  rw [wp_ret]
  imodintro
  isplitr; · iexact HC
  isplitl [How]; · iexists W; iexact How
  isplitl [Hat] <;> iassumption

theorem bar_w {sm : Sem sig} (hs : sm = barS) :
    iprop(Ctx Zf Of K c ∗ barRes2 c) ⊢ WP c (semWaitWord sm 2#32) (fun _ => iprop(Ctx Zf Of K c ∗ barRes3 c)) := by
  subst hs
  have hI := (Ctx_inv Zf Of K c).trans (Invs_b Zf Of K c)
  have hL := (Ctx_lev Zf Of K c).trans (mayWait_b c 0 0)
  unfold barRes2 barRes3 semWaitWord
  iintro ⟨#HC, ⟨%W, How⟩, Hat, Hcr⟩
  iapply (Rounds.wp_wait_rest_token 𝒱₀ ER (Rd Zf Of) (c : Thread nD τ) none (κ := K (bc c))
    (Es := Set.univ) (wpE_semWait_eq 𝒱₀ (c : Thread nD τ) none Set.univ) (Set.mem_univ _) () (k' := 2) (sm := .reg barS)
    (O := Due c 0 0) (W := W) (R := 0) (m := 0) (T := ∅) (by rw [expect_b])) $$ [Hcr How Hat]
  · isplitr; · iapply hI; iexact HC
    isplitl [Hcr]; · iexact Hcr
    isplitl [How]; · iexact How
    isplitr; · iapply hL; iexact HC
    iexact Hat
  iintro ⟨How, Hat, -, Hp⟩
  rw [wp_ret]
  imodintro
  ihave Hp := (Entails.of_eq (rest_b Zf Of c)) $$ Hp
  unfold barY barX Nbr
  icases Hp with ⟨⟨Hy, Hry⟩, Hx, Hrx⟩
  isplitr; · iexact HC
  isplitl [How]; · iexists _; iexact How
  isplitl [Hat]; · iexact Hat
  isplitl [Hry Hrx]
  · isplitl [Hry] <;> iassumption
  isplitl [Hy] <;> iassumption

theorem ks_0 : ∀ c : Dev nD, ks c 0 = 0 := by decide
theorem dev1_yp : ∀ c : Dev nD, (⟨k0_dev1 c, k0_dev1_lt c⟩ : Dev nD) = yp c := by decide +kernel
theorem dev2_xp : ∀ c : Dev nD, (⟨k0_dev2 c, k0_dev2_lt c⟩ : Dev nD) = xp c := by decide +kernel

/-- What the packing starts from. -/
def packRes (M1 : Memref sig .tc .vmem S4096x1024 .f32) (M2 M3 : Memref sig .tc .vmem S1x4096 .i32) (c : Dev nD) (f1 : Buf (Elt F) (M1.view.loc (c : Thread nD τ)))
    (f2 : Buf (Elt F) (M2.view.loc (c : Thread nD τ))) (f3 : Buf (Elt F) (M3.view.loc (c : Thread nD τ))) : sProp 𝕄 :=
  iprop(inp M1 M2 M3 c f1 f2 f3 ∗ (∃ f : Buf (Elt F) (zL c), zL c ↦{fullShare} f) ∗ (∃ f : Buf (Elt F) (oL c), oL c ↦{fullShare} f)
    ∗ bigSep Finset.univ fun j => iprop(dutyTok ER (uc c 0 j) 0 false ∗ dutyTok ER (uc (yp c) 1 j) 0 false))

theorem pack_start : iprop((Ctx Zf Of K c ∗ barRes3 c) ∗ packRes M1 M2 M3 c f1 f2 f3)
    ⊢ iprop(StA Zf Of K M1 M2 M3 c f1 f2 f3 0 0 0 ∗ (atPos ER (bc c) 1 ∅ 0 ∗ outAny (xp c) (RowsF (xp c) 0))) := by
  have hks : ks c 0 = 0 := ks_0 c
  have hge : ge 0 = Finset.univ := by decide
  have hlt : lt 0 = ∅ := by decide
  have hz : sSet (Zrow c 0) = Finset.univ := by
    ext i; rw [mem_sSet]; refine ⟨fun _ => Finset.mem_univ _, fun _ => ?_⟩
    generalize (i 0).val = r
    unfold Zrow Uns
    omega
  have ho : sSet (Orow c 0) = Finset.univ := by
    ext i; rw [mem_sSet]; refine ⟨fun _ => Finset.mem_univ _, fun _ => ?_⟩
    generalize (i 0).val = r
    unfold Orow Uns
    omega
  unfold barRes3 packRes StA zSt oSt snd
  rw [hks, hz, ho, hge, hlt, bigSep_empty]
  iintro ⟨⟨#HC, ⟨%W, How⟩, Hat, HN, Hy, Hx⟩, HI, ⟨%fz, Hz⟩, ⟨%fo, Ho⟩, Ht⟩
  isplitr [Hat Hx]
  · isplitr; · iexact HC
    isplitl [HN]; · iexact HN
    isplitl [HI]; · iexact HI
    isplitl [Hz]
    · iexists fz
      isplitr; · ipureintro; intro i h; omega
      iexact Hz
    isplitl [Ho]
    · iexists fo
      isplitr; · ipureintro; intro i h; omega
      iexact Ho
    isplitl [Ht]; · iexact Ht
    isplitl [Hy]; · iexact Hy
    isplitr; · iempintro
    iexists W; iexact How
  isplitl [Hat] <;> iassumption

/-- Part 2 of the body: the barrier, and the first block's window. -/
theorem P2 (w2 w5 w6 w7 w11 w34 w1 : BitVec 32) :
    iprop((Ctx Zf Of K c ∗ barRes c) ∗ packRes M1 M2 M3 c f1 f2 f3)
      ⊢ WP c (k0_part2 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c w2 w5 w6 w7 w11 w34 w1)
        (fun r => iprop(⌜∃ (w35 w46 : BitVec 32), r = ⟨w35, w46, k0_pay1 (rd1 M1 f1 (Rect.unit (s := S4096x1024) ![0, 0] S1536x1024.size inb_S4096x1024_S1536x1024_0_0)),
            k0_pay2 (rd2 M2 f2 (Rect.unit (s := S1x4096) ![0, 0] S1x1536.size inb_S1x4096_S1x1536_0_0)),
            k0_pay3 (rd2 M3 f3 (Rect.unit (s := S1x4096) ![0, 0] S1x1536.size inb_S1x4096_S1x1536_0_0)), k0_pay4,
            iota .tc S512x1 32 [0] iota_S512x1_d0_w32, k0_pay5⟩⌝
          ∗ StA Zf Of K M1 M2 M3 c f1 f2 f3 0 0 0 ∗ (atPos ER (bc c) 1 ∅ 0 ∗ outAny (xp c) (RowsF (xp c) 0)))) := by
  rw [k0_part2_eq_skeleton]; unfold k0_part2_skel
  refine wseqF (bar_y (dev1_yp c) rfl) fun _ => ?_
  refine wseqF (bar_x (dev2_xp c) rfl) fun _ => ?_
  refine wseqF (bar_w rfl) fun _ => ?_
  refine pack_start.trans ?_
  refine wseqP (Φ := fun a => a = _) load1 fun _ e => ?_
  subst e
  refine wseqP (Φ := fun a => a = _) load2 fun _ e => ?_
  subst e
  refine wseqP (Φ := fun a => a = _) load3 fun _ e => ?_
  subst e
  refine wret ?_
  iintro H
  isplitr; · ipureintro; exact ⟨_, _, rfl⟩
  iexact H

end Cert.KernelIdeal.Talk
-- ==== Proof.Body.lean ====
/- The body at a device: the parts put together. -/
module

public import proofs.«01_k».proof.Proof.Pack
public import proofs.«01_k».proof.Proof.PartsA
public import proofs.«01_k».proof.Proof.PartsB
public import proofs.«01_k».proof.Proof.PartsC

@[expose] public section

set_option maxRecDepth 65536

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable {Zf Of : Dev nD → Vec F S2560x8x128 .f32} {K : GSem nD τ sig → ℕ}
variable {M0 : Memref sig .tc .smem S1 .i32} {h0 : M0.IsWhole}
variable {M1 : Memref sig .tc .vmem S4096x1024 .f32} {h1 : M1.IsWhole} {M2 : Memref sig .tc .vmem S1x4096 .i32} {h2 : M2.IsWhole}
variable {M3 : Memref sig .tc .vmem S1x4096 .i32} {h3 : M3.IsWhole}
variable {c : Dev nD} {f0 : Buf (Elt F) (M0.view.loc (c : Thread nD τ))} {f1 : Buf (Elt F) (M1.view.loc (c : Thread nD τ))} {f2 : Buf (Elt F) (M2.view.loc (c : Thread nD τ))}
variable {f3 : Buf (Elt F) (M3.view.loc (c : Thread nD τ))}

section Defs
variable (Zf Of : Dev nD → Vec F S2560x8x128 .f32) (c : Dev nD)

/-- What the waits on the transfers hold beside the forwardings' resources. -/
def late : sProp 𝕄 :=
  iprop((bigSep Finset.univ fun j => atPos ER (uc c 0 j) 0 ∅ 0) ∗ (bigSep Finset.univ fun j => atPos ER (uc c 2 j) 0 ∅ 0)
    ∗ (bigSep Finset.univ fun j => iprop(atPos ER (uc c 3 j) 0 ∅ 0 ∗ cred (tallyAt (uc c 3 j) () NC))))
/-- What the body holds of its own for the later phases. -/
def own : sProp 𝕄 :=
  iprop(outAny c (InR (koff c) 2048) ∗ dutyTok ER (kc c) 0 false ∗ atPos ER (kc c) 0 ∅ 0
    ∗ (bigSep Finset.univ (fwdTodo c)) ∗ late c)
/-- The rows of the scratch buffers that no transfer moves. -/
def left : sProp 𝕄 :=
  if yy c = 1 then iprop((zL c ↦[sSet (Uns c 4)]{fullShare} Zf c) ∗ (oL c ↦[Finset.univ \ sSet (InR 0 2048)]{fullShare} Of c))
  else iprop((zL c ↦[Finset.univ \ sSet (InR 0 2048)]{fullShare} Zf c) ∗ (oL c ↦[sSet (Uns c 4)]{fullShare} Of c))
end Defs

theorem ks_16 : ∀ c : Dev nD, ks c 16 = 4 := k16
theorem kA_0 : ∀ c : Dev nD, kA c 0 = 0 := by decide
theorem kA_2 : ∀ c : Dev nD, kA c 2 = 1 := by decide
theorem lf_0 : ∀ c : Dev nD, lf c 0 = 0 := by decide
theorem lf_8 : ∀ c : Dev nD, lf c 8 = 4 := by decide
theorem mq_0 : ∀ c : Dev nD, mq c 0 = 0 := by decide
theorem mq_16 : ∀ c : Dev nD, mq c 16 = 4 := by decide
theorem sq_0 : ∀ c : Dev nD, sq c 0 = 0 := by decide
theorem sq_16 : ∀ c : Dev nD, sq c 16 = 4 := by decide
theorem rq_0 : ∀ c : Dev nD, rq c 0 = 0 := by decide
theorem rq_16 : ∀ c : Dev nD, rq c 16 = 4 := by decide

/-- The packed scratch buffers, split into the kept rows and the rest. -/
theorem packed_split : iprop(zSt Zf c 40 4 ∗ oSt Of c 40 4) ⊢ iprop(keptPt Zf Of c (InR 0 2048) ∗ left Zf Of c) := by
  have hall : ∀ i : S2560x8x128.Idx, 8 * ((i 0).val / 512) + (i 1).val < 40 := fun i => by
    have h0 : (i 0).val < 2560 := (i 0).isLt
    have h1 : (i 1).val < 8 := (i 1).isLt
    omega
  have hsub : sSet (InR 0 2048) ⊆ (Finset.univ : Finset S2560x8x128.Idx) := Finset.subset_univ _
  unfold zSt oSt keptPt left
  by_cases hy : yy c = 1
  · have hz : sSet (Zrow c 4) = sSet (Uns c 4) := by
      ext i; rw [mem_sSet, mem_sSet]; unfold Zrow; constructor
      · exact fun h => h hy
      · exact fun h _ => h
    have ho : sSet (Orow c 4) = Finset.univ := by
      ext i; rw [mem_sSet]; unfold Orow
      exact ⟨fun _ => Finset.mem_univ _, fun _ h => by omega⟩
    rw [hz, ho, if_pos hy, if_pos hy]
    iintro ⟨⟨%f, %hf, Hz⟩, %g, %hg, Ho⟩
    obtain rfl : f = Zf c := funext fun i => hf i (hall i)
    obtain rfl : g = Of c := funext fun i => hg i (hall i)
    ihave Ho := (pointsTo_split_subset hsub).1 $$ Ho
    icases Ho with ⟨Hk, Hr⟩
    isplitl [Hk]; · iexact Hk
    isplitl [Hz] <;> iassumption
  · have hz : sSet (Orow c 4) = sSet (Uns c 4) := by
      ext i; rw [mem_sSet, mem_sSet]; unfold Orow
      have := yy_lt c
      constructor
      · exact fun h => h (by omega)
      · exact fun h _ => h
    have ho : sSet (Zrow c 4) = Finset.univ := by
      ext i; rw [mem_sSet]; unfold Zrow
      exact ⟨fun _ => Finset.mem_univ _, fun _ h => absurd h hy⟩
    rw [hz, ho, if_neg hy, if_neg hy]
    iintro ⟨⟨%f, %hf, Hz⟩, %g, %hg, Ho⟩
    obtain rfl : f = Zf c := funext fun i => hf i (hall i)
    obtain rfl : g = Of c := funext fun i => hg i (hall i)
    ihave Hz := (pointsTo_split_subset hsub).1 $$ Hz
    icases Hz with ⟨Hk, Hr⟩
    isplitl [Hk]; · iexact Hk
    isplitl [Hr] <;> iassumption

/-- From the packing phase to the forwarding phase. -/
theorem to_L : iprop(StA Zf Of K M1 M2 M3 c f1 f2 f3 40 40 16 ∗ ((atPos ER (bc c) 1 ∅ 0 ∗ outAny (xp c) (RowsF (xp c) 0))
      ∗ ((M0.view.loc (c : Thread nD τ) ↦{fullShare} f0) ∗ own c)))
    ⊢ iprop(StL Zf Of K c (kA c 0) (lf c 0) ∗ ((late c ∗ bigSep Finset.univ fun j => cred (tallyAt (uc c 0 j) () NC))
      ∗ ((M0.view.loc (c : Thread nD τ) ↦{fullShare} f0) ∗ inp M1 M2 M3 c f1 f2 f3 ∗ left Zf Of c ∗ atPos ER (bc c) 1 ∅ 0))) := by
  have hsp := packed_split (Zf := Zf) (Of := Of) (c := c)
  unfold StA snd StL fwd own
  rw [ks_16, kA_0, lf_0, ge_zero, lt_zero, lt_four, bigSep_empty]
  iintro ⟨⟨HC, HN, HI, Hz, Ho, -, -, Hcr, How⟩, ⟨Hat, Hx⟩, H0, Hk, Htk, Hak, Hf, Hl⟩
  ihave Hs := hsp $$ [Hz Ho]
  · isplitl [Hz] <;> iassumption
  icases Hs with ⟨Hkp, Hlf⟩
  isplitl [HC HN Hk Htk Hak Hkp Hf Hx How]
  · isplitl [HC]; · iexact HC
    isplitl [HN]; · iexact HN
    isplitl [Hk Htk Hak Hkp]
    · iapply (Entails.of_eq (show iprop(outAny c (InR (koff c) 2048) ∗ dutyTok ER (kc c) 0 false
        ∗ atPos ER (kc c) 0 ∅ 0 ∗ keptPt Zf Of c (InR 0 2048)) = keepRes Zf Of c 0 from rfl))
      isplitl [Hk]; · iexact Hk
      isplitl [Htk]; · iexact Htk
      isplitl [Hak] <;> iassumption
    isplitl [Hf]; · iexact Hf
    isplitl [Hx]; · iexact Hx
    isplitr; · iempintro
    iexact How
  isplitl [Hl Hcr]
  · isplitl [Hl] <;> iassumption
  isplitl [H0]; · iexact H0
  isplitl [HI]; · iexact HI
  isplitl [Hlf] <;> iassumption

/-- From the forwarding phase to the waits. -/
theorem to_M {X : sProp (MT nD τ sig Unit (Elt F) ℕ UU ℕ)} : iprop(StL Zf Of K c (kA c 2) (lf c 8) ∗ ((late c ∗ bigSep Finset.univ fun j => cred (tallyAt (uc c 0 j) () NC)) ∗ X))
    ⊢ iprop(StM Zf Of K c (1 + kA c 0) (mq c 0) (sq c 0) (rq c 0) ∗ ((bigSep Finset.univ fun j => atPos ER (uc c 1 j) 1 ∅ 0) ∗ X)) := by
  have hsep : ∀ Φ Ψ : Fin 4 → sProp 𝕄, bigSep Finset.univ (fun j => iprop(Φ j ∗ Ψ j)) = iprop(bigSep Finset.univ Φ ∗ bigSep Finset.univ Ψ) :=
    fun Φ Ψ => BI.bigSep_sep _ _ _
  unfold StL fwd StM wRes fwdDone late
  rw [kA_2, lf_8, kA_0, mq_0, sq_0, rq_0, ge_zero, lt_zero, lt_four, Due_four, bigSep_empty, bigSep_empty, bigSep_empty, hsep, hsep, hsep, hsep]
  iintro ⟨⟨HC, -, Hk, -, -, ⟨Ha1, Hc2⟩, How⟩, ⟨⟨Ha0, Ha2, Ha3, Hc3⟩, Hc0⟩, HX⟩
  isplitl [HC Hk How Ha0 Ha2 Ha3 Hc3 Hc0 Hc2]
  · isplitl [HC]; · iexact HC
    isplitl [Hk]; · iexact Hk
    isplitl [Ha0 Hc0]
    · isplitl; · isplitl [Ha0] <;> iassumption
      iempintro
    isplitl [Ha2 Hc2]
    · isplitl; · isplitl [Ha2] <;> iassumption
      iempintro
    isplitl [Ha3 Hc3]
    · isplitl; · isplitl [Ha3] <;> iassumption
      iempintro
    iexact How
  isplitl [Ha1] <;> iassumption

/-- What the body leaves. -/
def bodyEnd (Zf Of : Dev nD → Vec F S2560x8x128 .f32) (c : Dev nD) (X : sProp 𝕄) : sProp 𝕄 :=
  iprop((bigSep Finset.univ fun j => atPos ER (uc c 1 j) 1 ∅ 0) ∗ X)

section Asm
variable (hv : word0 M0 f0 = 2048#32) (hZ : Zf c = packT (zM f1 f2 f3)) (hO : Of c = packT (oM f1 f2 f3))
include hv hZ hO

theorem P77 :
    iprop((M0.view.loc (c : Thread nD τ) ↦{fullShare} f0) ∗ ((Ctx Zf Of K c ∗ barRes c) ∗ packRes M1 M2 M3 c f1 f2 f3) ∗ own c)
      ⊢ WP c (k0_part77 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10)
        (fun r => iprop(⌜∃ (w2 w5 w7 : BitVec 32) (w9 : BitVec 1) (w11 w12 w14 w16 w35 w46 : BitVec 32) (w1988 : BitVec 1) (w2108 w2110 : BitVec 32),
            r = ⟨c, w2, w5, w7, 2048#32, chk c, w9, w11, w12, w14, w16, w35, w46, w1988, w2108, w2110⟩⌝
          ∗ (StM Zf Of K c (1 + kA c 2) (mq c 0) (sq c 0) (rq c 0) ∗ ((bigSep Finset.univ fun j => atPos ER (uc c 1 j) 1 ∅ 0)
            ∗ ((M0.view.loc (c : Thread nD τ) ↦{fullShare} f0) ∗ inp M1 M2 M3 c f1 f2 f3 ∗ left Zf Of c ∗ atPos ER (bc c) 1 ∅ 0))))) := by
  rw [k0_part77_eq_skeleton]; unfold k0_part77_skel
  refine wseqP (P1 hv) fun _ hr => ?_
  obtain ⟨_, _, _, _, _, _, _, _, _, _, _, rfl⟩ := hr
  refine (show iprop((M0.view.loc (c : Thread nD τ) ↦{fullShare} f0) ∗ ((Ctx Zf Of K c ∗ barRes c) ∗ packRes M1 M2 M3 c f1 f2 f3) ∗ own c) ⊢ iprop(((Ctx Zf Of K c ∗ barRes c) ∗ packRes M1 M2 M3 c f1 f2 f3) ∗ ((M0.view.loc (c : Thread nD τ) ↦{fullShare} f0) ∗ own c)) from sep_left_comm.1).trans ?_
  refine wseqP (P2 _ _ _ _ _ _ _) fun _ hr => ?_
  obtain ⟨_, _, rfl⟩ := hr
  refine sep_assoc.1.trans ?_
  refine wseqP (P3 _ _ _ _ _ _ _ (by rw [hZ]; exact lane_of (zM f1 f2 f3) 0 0 rfl) (by rw [hZ]; exact lane_of (zM f1 f2 f3) 0 1 rfl) (by rw [hZ]; exact lane_of (zM f1 f2 f3) 0 2 rfl) (by rw [hZ]; exact lane_of (zM f1 f2 f3) 0 3 rfl)) fun _ hr => ?_
  obtain ⟨_, rfl⟩ := hr
  refine wseqF (P4 _ _ (chk c) _ _ _ _ _ (by rw [hZ]; exact lane_of (zM f1 f2 f3) 0 4 rfl) (by rw [hZ]; exact lane_of (zM f1 f2 f3) 0 5 rfl) (by rw [hZ]; exact lane_of (zM f1 f2 f3) 0 6 rfl) (by rw [hZ]; exact lane_of (zM f1 f2 f3) 0 7 rfl)) ?_
  rintro ⟨_, _⟩
  refine wseqF (P5 _ _ (chk c) _ _ _ _ _ _ _) ?_
  rintro ⟨_, _, _⟩
  refine wseqF (P6 _ _ (chk c) _ _ _ _ _ _ _) ?_
  intro _
  refine wseqP (Φ := fun r => r = _) (P7 _ _ (chk c) _ _ _ _ _ _ _ (by rw [hO]; exact lane_of (oM f1 f2 f3) 0 0 rfl) (by rw [hO]; exact lane_of (oM f1 f2 f3) 0 1 rfl) (by rw [hO]; exact lane_of (oM f1 f2 f3) 0 2 rfl) (by rw [hO]; exact lane_of (oM f1 f2 f3) 0 3 rfl)) fun _ hr => ?_
  subst hr
  refine wseqF (P8 _ _ (chk c) _ _ _ _ _ _ (by rw [hO]; unfold k0_pay23 k0_pay22; exact lane_of (oM f1 f2 f3) 0 4 rfl) (by rw [hO]; exact lane_of (oM f1 f2 f3) 0 5 rfl) (by rw [hO]; exact lane_of (oM f1 f2 f3) 0 6 rfl) (by rw [hO]; exact lane_of (oM f1 f2 f3) 0 7 rfl)) ?_
  rintro ⟨_, _⟩
  refine wseqF (P9 _ _ (chk c) _ _ _ _ _ _) ?_
  intro _
  refine wseqF (P10 _ _ (chk c) _ _ _ _ _) ?_
  rintro ⟨_, _⟩
  refine wseqP (P11 _ _ (chk c) _ _ _ _ _ _) fun _ hr => ?_
  obtain ⟨_, rfl⟩ := hr
  refine wseqP (Φ := fun r => r = _) (P12 _ _ _ _ (by rw [hZ]; exact lane_of (zM f1 f2 f3) 1 0 rfl) (by rw [hZ]; exact lane_of (zM f1 f2 f3) 1 1 rfl) (by rw [hZ]; exact lane_of (zM f1 f2 f3) 1 2 rfl) (by rw [hZ]; exact lane_of (zM f1 f2 f3) 1 3 rfl) (by rw [hZ]; exact lane_of (zM f1 f2 f3) 1 4 rfl) (by rw [hZ]; exact lane_of (zM f1 f2 f3) 1 5 rfl) (by rw [hZ]; exact lane_of (zM f1 f2 f3) 1 6 rfl)) fun _ hr => ?_
  subst hr
  refine wseqF (P13 _ _ (chk c) _ _ _ _ _ (by rw [hZ]; exact lane_of (zM f1 f2 f3) 1 7 rfl)) ?_
  rintro ⟨_, _, _⟩
  refine wseqF (P14 _ _ (chk c) _ _ _ _ _ _ _) ?_
  rintro ⟨_, _⟩
  refine wseqP (Φ := fun r => r = _) (P15 _ _ (chk c) _ _ _ _ _ _ _) fun _ hr => ?_
  subst hr
  refine wseqP (Φ := fun r => r = _) (P16 _ _ (by rw [hO]; exact lane_of (oM f1 f2 f3) 1 0 rfl) (by rw [hO]; exact lane_of (oM f1 f2 f3) 1 1 rfl) (by rw [hO]; exact lane_of (oM f1 f2 f3) 1 2 rfl) (by rw [hO]; exact lane_of (oM f1 f2 f3) 1 3 rfl) (by rw [hO]; exact lane_of (oM f1 f2 f3) 1 4 rfl) (by rw [hO]; exact lane_of (oM f1 f2 f3) 1 5 rfl) (by rw [hO]; exact lane_of (oM f1 f2 f3) 1 6 rfl)) fun _ hr => ?_
  subst hr
  refine wseqF (P17 _ _ (chk c) _ _ _ _ _ (by rw [hO]; unfold k0_pay54 k0_pay53; exact lane_of (oM f1 f2 f3) 1 7 rfl)) ?_
  intro _
  refine wseqF (P18 _ _ (chk c) _ _ _ _) ?_
  rintro ⟨_, _⟩
  refine wseqP (Φ := fun r => r = _) (P19 _ _ (chk c) _ _ _ _ _ _) fun _ hr => ?_
  subst hr
  refine wseqP (P20 _ _ _ (by rw [hZ]; exact lane_of (zM f1 f2 f3) 2 0 rfl) (by rw [hZ]; exact lane_of (zM f1 f2 f3) 2 1 rfl)) fun _ hr => ?_
  obtain ⟨_, rfl⟩ := hr
  refine wseqF (P21 _ _ (chk c) _ _ _ _ _ (by rw [hZ]; unfold k0_pay64 k0_pay63; exact lane_of (zM f1 f2 f3) 2 2 rfl) (by rw [hZ]; exact lane_of (zM f1 f2 f3) 2 3 rfl) (by rw [hZ]; exact lane_of (zM f1 f2 f3) 2 4 rfl) (by rw [hZ]; exact lane_of (zM f1 f2 f3) 2 5 rfl) (by rw [hZ]; exact lane_of (zM f1 f2 f3) 2 6 rfl) (by rw [hZ]; exact lane_of (zM f1 f2 f3) 2 7 rfl)) ?_
  intro _
  refine wseqF (P22 _ _ (chk c) _ _ _ _ _ _) ?_
  rintro ⟨_, _⟩
  refine wseqF (P23 _ _ (chk c) _ _ _ _ _) ?_
  rintro ⟨_, _⟩
  refine wseqP (Φ := fun r => r = _) (P24 _ _ (chk c) _ _ _ _ _ _ _ _ (by rw [hO]; exact lane_of (oM f1 f2 f3) 2 0 rfl) (by rw [hO]; exact lane_of (oM f1 f2 f3) 2 1 rfl)) fun _ hr => ?_
  subst hr
  refine wseqF (P25 _ _ (chk c) _ _ _ _ _ (by rw [hO]; unfold k0_pay74 k0_pay73; exact lane_of (oM f1 f2 f3) 2 2 rfl) (by rw [hO]; exact lane_of (oM f1 f2 f3) 2 3 rfl) (by rw [hO]; exact lane_of (oM f1 f2 f3) 2 4 rfl) (by rw [hO]; exact lane_of (oM f1 f2 f3) 2 5 rfl) (by rw [hO]; exact lane_of (oM f1 f2 f3) 2 6 rfl) (by rw [hO]; exact lane_of (oM f1 f2 f3) 2 7 rfl)) ?_
  rintro ⟨_, _⟩
  refine wseqF (P26 _ _ (chk c) _ _ _ _ _ _ _) ?_
  rintro ⟨_, _⟩
  refine wseqF (P27 _ _ (chk c) _ _ _ _ _) ?_
  intro _
  refine wseqP (P28 _ _ (chk c) _ _ _ _) fun _ hr => ?_
  obtain ⟨_, rfl⟩ := hr
  refine wseqP (Φ := fun r => r = _) (P29 _ _ _ _ _ _ _ (by rw [hZ]; exact lane_of (zM f1 f2 f3) 3 0 rfl) (by rw [hZ]; exact lane_of (zM f1 f2 f3) 3 1 rfl) (by rw [hZ]; exact lane_of (zM f1 f2 f3) 3 2 rfl) (by rw [hZ]; exact lane_of (zM f1 f2 f3) 3 3 rfl) (by rw [hZ]; exact lane_of (zM f1 f2 f3) 3 4 rfl)) fun _ hr => ?_
  subst hr
  refine wseqF (P30 _ _ (chk c) _ _ _ _ _ _ (by rw [hZ]; unfold k0_pay94 k0_pay93; exact lane_of (zM f1 f2 f3) 3 5 rfl) (by rw [hZ]; exact lane_of (zM f1 f2 f3) 3 6 rfl) (by rw [hZ]; exact lane_of (zM f1 f2 f3) 3 7 rfl)) ?_
  rintro ⟨_, _, _⟩
  refine wseqF (P31 _ _ (chk c) _ _ _ _ _ _ _) ?_
  rintro ⟨_, _⟩
  refine wseqF (P32 _ _ (chk c) _ _ _ _ _ _) ?_
  intro _
  refine wseqP (Φ := fun r => r = _) (P33 _ _ (chk c) _ _ _ (by rw [hO]; exact lane_of (oM f1 f2 f3) 3 0 rfl) (by rw [hO]; exact lane_of (oM f1 f2 f3) 3 1 rfl) (by rw [hO]; exact lane_of (oM f1 f2 f3) 3 2 rfl) (by rw [hO]; exact lane_of (oM f1 f2 f3) 3 3 rfl) (by rw [hO]; exact lane_of (oM f1 f2 f3) 3 4 rfl)) fun _ hr => ?_
  subst hr
  refine wseqF (P34 _ _ (chk c) _ _ _ _ _ _ (by rw [hO]; unfold k0_pay104 k0_pay103; exact lane_of (oM f1 f2 f3) 3 5 rfl) (by rw [hO]; exact lane_of (oM f1 f2 f3) 3 6 rfl) (by rw [hO]; exact lane_of (oM f1 f2 f3) 3 7 rfl)) ?_
  rintro ⟨_, _⟩
  refine wseqF (P35 _ _ (chk c) _ _ _ _ _ _) ?_
  rintro ⟨_, _, _⟩
  refine wseqF (P36 _ _ (chk c) _ _ _ _ _ _ _) ?_
  intro _
  refine wseqP (P37 _ _ (chk c) _ _ (by rw [hZ]; exact lane_of (zM f1 f2 f3) 4 0 rfl)) fun _ hr => ?_
  obtain ⟨_, rfl⟩ := hr
  refine wseqF (P38 _ _ _ (by rw [hZ]; exact lane_of (zM f1 f2 f3) 4 1 rfl) (by rw [hZ]; exact lane_of (zM f1 f2 f3) 4 2 rfl) (by rw [hZ]; exact lane_of (zM f1 f2 f3) 4 3 rfl) (by rw [hZ]; exact lane_of (zM f1 f2 f3) 4 4 rfl) (by rw [hZ]; exact lane_of (zM f1 f2 f3) 4 5 rfl) (by rw [hZ]; exact lane_of (zM f1 f2 f3) 4 6 rfl) (by rw [hZ]; exact lane_of (zM f1 f2 f3) 4 7 rfl)) ?_
  rintro ⟨_, _⟩
  refine wseqF (P39 _ _ (chk c) _ _ _ _ _ _ _) ?_
  rintro ⟨_, _⟩
  refine wseqF (P40 _ _ (chk c) _ _ _ _ _) ?_
  intro _
  refine wseqP (Φ := fun r => r = _) (P41 _ _ (chk c) _ _ _ _ _ _ (by rw [hO]; exact lane_of (oM f1 f2 f3) 4 0 rfl)) fun _ hr => ?_
  subst hr
  refine wseqF (P42 _ _ _ _ _ (by rw [hO]; unfold k0_pay124 k0_pay123; exact lane_of (oM f1 f2 f3) 4 1 rfl) (by rw [hO]; exact lane_of (oM f1 f2 f3) 4 2 rfl) (by rw [hO]; exact lane_of (oM f1 f2 f3) 4 3 rfl) (by rw [hO]; exact lane_of (oM f1 f2 f3) 4 4 rfl) (by rw [hO]; exact lane_of (oM f1 f2 f3) 4 5 rfl) (by rw [hO]; exact lane_of (oM f1 f2 f3) 4 6 rfl) (by rw [hO]; exact lane_of (oM f1 f2 f3) 4 7 rfl)) ?_
  intro _
  refine wseqF (P43 _ _ (chk c) _ _ _ _ _ _) ?_
  rintro ⟨_, _, _⟩
  refine wseqF (P44 _ _ (chk c) _ _ _ _ _ _) ?_
  rintro ⟨_, _⟩
  refine to_L.trans ?_
  refine wseqF (P45 _ _ (chk c) _ _ _ _ _ _ _ _) ?_
  rintro ⟨_, _, _, _⟩
  refine wseqF (P46 (chk c) _ _ _ _ _) ?_
  rintro ⟨_, _, _⟩
  refine wseqF (P47 (chk c) _ _ _ _ _) ?_
  rintro ⟨_, _, _⟩
  refine wseqF (P48 (chk c) _ _ _ _ _ _ _) ?_
  rintro ⟨_, _, _⟩
  refine wseqF (P49 (chk c) _ _ _ _ _) ?_
  rintro ⟨_, _, _⟩
  refine wseqF (P50 (chk c) _ _ _ _ _) ?_
  rintro ⟨_, _, _⟩
  refine wseqF (P51 _ _ _ _ (chk c) _ _ _ _ _ _ _) ?_
  intro _
  refine wseqF (P52 _ _ _ _ (chk c) _ _) ?_
  intro _
  refine to_M.trans ?_
  refine wseqF (P53 _ _ _ _ (chk c) _ _ _ _ _) ?_
  rintro ⟨_, _⟩
  refine wseqF (P54 _ _ (chk c) _ _ _ _) ?_
  rintro ⟨_, _⟩
  refine wseqF (P55 _ _ _ _ (chk c) _ _ _ _ _ _) ?_
  rintro ⟨_, _⟩
  refine wseqF (P56 _ _ _ (chk c) _ _ _ _) ?_
  rintro ⟨_, _⟩
  refine wseqF (P57 _ _ _ (chk c) _ _ _ _ _ _ _) ?_
  rintro ⟨_, _, _, _⟩
  refine wseqF (P58 (chk c) _ _ _ _ _) ?_
  rintro ⟨_, _, _⟩
  refine wseqF (P59 (chk c) _ _ _ _ _) ?_
  rintro ⟨_, _, _⟩
  refine wseqF (P60 (chk c) _ _ _ _ _ _ _) ?_
  rintro ⟨_, _⟩
  refine wret ?_
  iintro H
  isplitr; · ipureintro; exact ⟨_, _, _, _, _, _, _, _, _, _, _, _, _, rfl⟩
  iexact H

theorem P78 (w2 w5 w7 : BitVec 32) (w9 : BitVec 1) (w11 w12 w14 w16 w35 w46 : BitVec 32) (w1988 : BitVec 1) (w2108 w2110 : BitVec 32) {X : sProp 𝕄} :
    iprop(StM Zf Of K c (1 + kA c 2) (mq c 0) (sq c 0) (rq c 0) ∗ X)
      ⊢ WP c (k0_part78 (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 c w2 w5 w7 2048#32 (chk c) w9 w11 w12 w14 w16 w35 w46 w1988 w2108 w2110)
        (fun _ => iprop(StM Zf Of K c (1 + kA c 2) (mq c 16) (sq c 16) (rq c 16) ∗ X)) := by
  rw [k0_part78_eq_skeleton]; unfold k0_part78_skel
  refine wseqF (P61 (chk c) _ _ _ _) ?_
  rintro ⟨_, _⟩
  refine wseqF (P62 (chk c) _ _ _ _) ?_
  rintro ⟨_, _⟩
  refine wseqF (P63 _ (chk c) _ _ _ _ _ _ _) ?_
  rintro ⟨_, _⟩
  refine wseqF (P64 _ (chk c) _ _ _ _ _) ?_
  intro _
  refine wseqF (P65 _ (chk c) _ _ _ _ _ _) ?_
  intro _
  refine wseqF (P66 _ (chk c) _ _ _ _) ?_
  intro _
  refine wseqF (P67 _ (chk c) _ _ _ _) ?_
  intro _
  refine wseqF (P68 _ (chk c) _ _ _ _) ?_
  intro _
  refine wseqF (P69 _ (chk c) _ _ _ _ _) ?_
  intro _
  refine wseqF (P70 _ (chk c) _ _ _ _) ?_
  intro _
  refine wseqF (P71 _ _ _ (chk c) _ _ _) ?_
  intro _
  refine wseqF (P72 _ _ _ (chk c) _ _ _) ?_
  intro _
  refine wseqF (P73 _ _ _ (chk c) _ _) ?_
  intro _
  refine wseqF (P74 _ _ _ (chk c) _ _ _ _ _) ?_
  intro _
  refine wseqF (P75 _ _ _ (chk c) _ _ _) ?_
  intro _
  refine wseqF (P76 _ _ _ (chk c) _ _ _) ?_
  intro _
  refine wskip (nc242 c) ?_
  refine wskip (nc243 c) ?_
  refine wskip (nc244 c) ?_
  refine wskip (nc245 c) ?_
  exact wret .rfl

/-- The whole body at a device. -/
theorem body_run :
    iprop((M0.view.loc (c : Thread nD τ) ↦{fullShare} f0) ∗ ((Ctx Zf Of K c ∗ barRes c) ∗ packRes M1 M2 M3 c f1 f2 f3) ∗ own c)
      ⊢ WP c (cc0_body (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10)
        (fun _ => iprop(StM Zf Of K c 2 4 4 4 ∗ ((bigSep Finset.univ fun j => atPos ER (uc c 1 j) 1 ∅ 0)
            ∗ ((M0.view.loc (c : Thread nD τ) ↦{fullShare} f0) ∗ inp M1 M2 M3 c f1 f2 f3 ∗ left Zf Of c ∗ atPos ER (bc c) 1 ∅ 0)))) := by
  rw [cc0_body_eq_skeleton]; unfold cc0_body_skel
  refine wseq (P77 hv hZ hO) fun _ => ?_
  iintro ⟨%hr, H⟩
  obtain ⟨_, _, _, _, _, _, _, _, _, _, _, _, _, rfl⟩ := hr
  istop
  refine wseq (P78 hv hZ hO _ _ _ _ _ _ _ _ _ _ _ _ _) fun a => ?_
  obtain ⟨_, _⟩ := a
  refine wskip (nc246 c) ?_
  refine wret ?_
  rw [kA_2, mq_16, sq_16, rq_16]

end Asm

end Cert.KernelIdeal.Talk
-- ==== Proof.Close.lean ====
/- The end of the body: the cells closed, the buffers whole again. -/
module

public import proofs.«01_k».proof.Proof.Body

@[expose] public section

set_option maxRecDepth 65536

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable {Zf Of : Dev nD → Vec F S2560x8x128 .f32} {K : GSem nD τ sig → ℕ} {c : Dev nD}

/-! ## The cells closed -/

/-- A cell past its one round is closed: its counter is back, at zero. -/
theorem close1 (g : GSem nD τ sig) : iprop(Inv Zf Of K g ∗ atPos ER g 1 ∅ 0) ⊢ (|={Set.univ}=> semVal g 0 : sProp 𝕄) :=
  Rounds.cell_close ER (Rd Zf Of) (Set.mem_univ (K g)) id (duties_later Zf Of g)

/-- All cells of one kind of a device closed. -/
theorem close_kind (c : Dev nD) (a : Fin 4) :
    iprop(Invs Zf Of K ∗ bigSep (Finset.univ : Finset (Fin 4)) fun j => atPos ER (uc c a j) 1 ∅ 0)
      ⊢ (|={Set.univ}=> bigSep (Finset.univ : Finset (Fin 4)) fun j => semVal (uc c a j) 0 : sProp 𝕄) := by
  refine BIBase.Entails.trans ?_ (bigSep_fupd _ _)
  refine bigSep_with_persistent (R := Invs Zf Of K) fun j _ => ?_
  have hI := Invs_u Zf Of K c a j
  have hc := close1 (Zf := Zf) (Of := Of) (K := K) (uc c a j)
  iintro ⟨#HI, H⟩
  iapply hc
  isplitr; · iapply hI; iexact HI
  iexact H

/-! ## The buffers whole again -/

theorem sent_cover (c : Dev nD) :
    ((Finset.univ : Finset (Fin 4)).biUnion fun j => sSet (InR (cRow (xx c) j.val) 256)) ∪ sSet (Uns c 4) = Finset.univ := by
  ext i
  simp only [Finset.mem_union, Finset.mem_biUnion, Finset.mem_univ, true_and, iff_true, mem_sSet]
  have h0 : (i 0).val < 2560 := (i 0).isLt
  have hx := xx_lt c
  by_cases h : Uns c 4 (i 0).val
  · exact .inr h
  · refine .inl ?_
    simp only [Uns, not_not] at h
    refine ⟨⟨(i 0).val / 512, h.2.2⟩, ?_⟩
    obtain ⟨h1, h2, h3⟩ := h
    generalize (i 0).val = r at *
    simp only [InR, cRow]
    omega
theorem sent_disj (c : Dev nD) (j j' : Fin 4) (h : j ≠ j') :
    Disjoint (sSet (InR (cRow (xx c) j.val) 256)) (sSet (InR (cRow (xx c) j'.val) 256)) := by
  have hj : j.val ≠ j'.val := fun e => h (Fin.ext e)
  rw [Finset.disjoint_left]
  intro i h1 h2
  rw [mem_sSet] at h1 h2
  simp only [InR, cRow] at h1 h2
  omega
theorem sent_disj' (c : Dev nD) :
    Disjoint ((Finset.univ : Finset (Fin 4)).biUnion fun j => sSet (InR (cRow (xx c) j.val) 256)) (sSet (Uns c 4)) := by
  rw [Finset.disjoint_left]
  intro i h1 h2
  simp only [Finset.mem_biUnion, Finset.mem_univ, true_and, mem_sSet] at h1 h2
  obtain ⟨j, h1⟩ := h1
  have hj := j.isLt
  have hx := xx_lt c
  simp only [InR, cRow, Uns] at h1 h2
  omega

theorem sent_joinZ (f : Buf (Elt F) (zL c)) :
    iprop((bigSep (Finset.univ : Finset (Fin 4)) fun j => zL c ↦[sSet (InR (cRow (xx c) j.val) 256)]{fullShare} f)
      ∗ (zL c ↦[sSet (Uns c 4)]{fullShare} f)) ⊢ (zL c ↦{fullShare} f : sProp 𝕄) := by
  rw [← pointsTo_biUnion (ℓ := zL c) Finset.univ (fun j : Fin 4 => sSet (InR (cRow (xx c) j.val) 256)) (fun j _ j' _ h => sent_disj c j j' h)]
  exact (pointsTo_union (sent_disj' c)).2.trans (Entails.of_eq (by rw [sent_cover]))
theorem sent_joinO (f : Buf (Elt F) (oL c)) :
    iprop((bigSep (Finset.univ : Finset (Fin 4)) fun j => oL c ↦[sSet (InR (cRow (xx c) j.val) 256)]{fullShare} f)
      ∗ (oL c ↦[sSet (Uns c 4)]{fullShare} f)) ⊢ (oL c ↦{fullShare} f : sProp 𝕄) := by
  rw [← pointsTo_biUnion (ℓ := oL c) Finset.univ (fun j : Fin 4 => sSet (InR (cRow (xx c) j.val) 256)) (fun j _ j' _ h => sent_disj c j j' h)]
  exact (pointsTo_union (sent_disj' c)).2.trans (Entails.of_eq (by rw [sent_cover]))

/-- Both scratch buffers whole again. -/
theorem scratch_join (c : Dev nD) :
    iprop((bigSep (Finset.univ : Finset (Fin 4)) fun j => upay Zf Of c 0 j) ∗ keptPt Zf Of c (InR 0 2048) ∗ left Zf Of c)
      ⊢ iprop((zL c ↦{fullShare} Zf c) ∗ (oL c ↦{fullShare} Of c)) := by
  have e : (fun j : Fin 4 => upay Zf Of c 0 j) = fun j => sentPt Zf Of c (InR (cRow (xx c) j.val) 256) := by
    funext j; unfold upay; rw [if_pos rfl]
  rw [e]
  unfold sentPt keptPt left
  by_cases hy : yy c = 1
  · simp only [if_pos hy]
    iintro ⟨HS, HK, HZ, HO⟩
    isplitl [HS HZ]
    · iapply (sent_joinZ (F := F) (c := c) (Zf c)); isplitl [HS] <;> iassumption
    · iapply (pointsTo_split_subset (ℓ := oL c) (Finset.subset_univ (sSet (InR 0 2048)))).2
      isplitl [HK] <;> iassumption
  · simp only [if_neg hy]
    iintro ⟨HS, HK, HZ, HO⟩
    isplitr [HS HO]
    · iapply (pointsTo_split_subset (ℓ := zL c) (Finset.subset_univ (sSet (InR 0 2048)))).2
      isplitl [HK] <;> iassumption
    · iapply (sent_joinO (F := F) (c := c) (Of c)); isplitl [HS] <;> iassumption

theorem out_disj (c : Dev nD) (x : ℕ) (j j' : Fin 4) (h : j ≠ j') :
    Disjoint (uSet (InR (roff c + cRow x j.val) 256)) (uSet (InR (roff c + cRow x j'.val) 256)) := by
  have hj : j.val ≠ j'.val := fun e => h (Fin.ext e)
  rw [Finset.disjoint_left]
  intro i h1 h2
  rw [mem_uSet] at h1 h2
  simp only [InR, cRow] at h1 h2
  omega

theorem row_cover (c : Dev nD) (r : ℕ) (h : r < 4096) :
    (∃ j : Fin 4, InR (roff c + cRow (xx c) j.val) 256 r) ∨ (∃ j : Fin 4, InR (roff c + cRow (1 - xx c) j.val) 256 r) ∨ InR (koff c) 2048 r := by
  have hx := xx_lt c
  have hy := yy_lt c
  by_cases hk : InR (koff c) 2048 r
  · exact .inr (.inr hk)
  have hj : r % 2048 / 512 < 4 := by omega
  by_cases hp : r % 2048 / 256 % 2 = xx c
  · refine .inl ⟨⟨_, hj⟩, ?_⟩
    simp only [InR, cRow, roff, koff] at hk ⊢
    omega
  · refine .inr (.inl ⟨⟨_, hj⟩, ?_⟩)
    simp only [InR, cRow, roff, koff] at hk ⊢
    omega
theorem out_cover (c : Dev nD) :
    ((Finset.univ : Finset (Fin 4)).biUnion fun j => uSet (InR (roff c + cRow (xx c) j.val) 256))
      ∪ (((Finset.univ : Finset (Fin 4)).biUnion fun j => uSet (InR (roff c + cRow (1 - xx c) j.val) 256)) ∪ uSet (InR (koff c) 2048)) = Finset.univ := by
  ext i
  simp only [Finset.mem_union, Finset.mem_biUnion, Finset.mem_univ, true_and, iff_true, mem_uSet]
  exact row_cover c _ (i 0).isLt

/-- The output whole at its final contents. -/
theorem out_join (c : Dev nD) :
    iprop((bigSep (Finset.univ : Finset (Fin 4)) fun j => upay Zf Of c 2 j) ∗ (bigSep (Finset.univ : Finset (Fin 4)) fun j => upay Zf Of c 3 j)
      ∗ outPt Zf Of c (InR (koff c) 2048)) ⊢ (uL c ↦{fullShare} Ofin Zf Of c : sProp 𝕄) := by
  have e2 : (fun j : Fin 4 => upay Zf Of c 2 j) = fun j => (uL c ↦[uSet (InR (roff c + cRow (xx c) j.val) 256)]{fullShare} Ofin Zf Of c : sProp 𝕄) := by
    funext j; unfold upay outPt; rw [if_neg (by decide), if_neg (by decide)]
  have e3 : (fun j : Fin 4 => upay Zf Of c 3 j) = fun j => (uL c ↦[uSet (InR (roff c + cRow (1 - xx c) j.val) 256)]{fullShare} Ofin Zf Of c : sProp 𝕄) := by
    funext j; unfold upay outPt; rw [if_neg (by decide), if_pos rfl]
  rw [e2, e3]
  unfold outPt
  rw [← pointsTo_biUnion (ℓ := uL c) Finset.univ (fun j : Fin 4 => uSet (InR (roff c + cRow (xx c) j.val) 256)) (fun j _ j' _ h => out_disj c _ j j' h),
    ← pointsTo_biUnion (ℓ := uL c) Finset.univ (fun j : Fin 4 => uSet (InR (roff c + cRow (1 - xx c) j.val) 256)) (fun j _ j' _ h => out_disj c _ j j' h)]
  have hx := xx_lt c
  have hy := yy_lt c
  have d1 : Disjoint ((Finset.univ : Finset (Fin 4)).biUnion fun j => uSet (InR (roff c + cRow (1 - xx c) j.val) 256)) (uSet (InR (koff c) 2048)) := by
    rw [Finset.disjoint_left]
    intro i h1 h2
    simp only [Finset.mem_biUnion, Finset.mem_univ, true_and, mem_uSet] at h1 h2
    obtain ⟨j, h1⟩ := h1
    have hj := j.isLt
    simp only [InR, cRow, roff, koff] at h1 h2
    omega
  have d2 : Disjoint ((Finset.univ : Finset (Fin 4)).biUnion fun j => uSet (InR (roff c + cRow (xx c) j.val) 256))
      (((Finset.univ : Finset (Fin 4)).biUnion fun j => uSet (InR (roff c + cRow (1 - xx c) j.val) 256)) ∪ uSet (InR (koff c) 2048)) := by
    rw [Finset.disjoint_left]
    intro i h1 h2
    simp only [Finset.mem_union, Finset.mem_biUnion, Finset.mem_univ, true_and, mem_uSet] at h1 h2
    obtain ⟨j, h1⟩ := h1
    have hj := j.isLt
    rcases h2 with ⟨j', h2⟩ | h2
    · have hj' := j'.isLt
      simp only [InR, cRow, roff] at h1 h2
      omega
    · simp only [InR, cRow, roff, koff] at h1 h2
      omega
  refine (BIClass.sep_mono .rfl (pointsTo_union d1).2).trans ((pointsTo_union d2).2.trans (Entails.of_eq ?_))
  exact congrArg (fun S => (uL c ↦[S]{fullShare} Ofin Zf Of c : sProp 𝕄)) (out_cover c)

/-- The output buffer cut for the run: what the neighbours fill, and the half the device fills itself. -/
theorem out_cut (c : Dev nD) (f : Buf (Elt F) (uL c)) :
    (uL c ↦{fullShare} f : sProp 𝕄) ⊢ iprop(outAny c (RowsR c 0) ∗ outAny c (RowsF c 0) ∗ outAny c (InR (koff c) 2048)) := by
  have hx := xx_lt c
  have hy := yy_lt c
  have h1 : (Finset.univ : Finset S4096x8x128.Idx) \ uSet (RowsR c 0) = uSet (fun r => ¬ RowsR c 0 r) := by
    ext i; simp only [Finset.mem_sdiff, Finset.mem_univ, true_and, mem_uSet]
  have h2 : uSet (RowsF c 0) ⊆ uSet (fun r => ¬ RowsR c 0 r) := fun i hi => by
    rw [mem_uSet] at hi ⊢
    exact fun h => hi.2.1 h.2.1
  have h3 : uSet (InR (koff c) 2048) ⊆ uSet (fun r => ¬ RowsR c 0 r) \ uSet (RowsF c 0) := fun i hi => by
    rw [Finset.mem_sdiff, mem_uSet, mem_uSet]
    rw [mem_uSet] at hi
    simp only [InR, koff, roff, RowsR, RowsF] at hi ⊢
    omega
  have e1 : (uL c ↦{fullShare} f : sProp 𝕄) ⊢ _ := (pointsTo_split_subset (ℓ := uL c) (q := fullShare) (f := f) (Finset.subset_univ (uSet (RowsR c 0)))).1
  have e2 : (uL c ↦[uSet (fun r => ¬ RowsR c 0 r)]{fullShare} f : sProp 𝕄) ⊢ _ := (pointsTo_split_subset (ℓ := uL c) (q := fullShare) (f := f) h2).1
  have e3 : (uL c ↦[uSet (fun r => ¬ RowsR c 0 r) \ uSet (RowsF c 0)]{fullShare} f : sProp 𝕄) ⊢ _ := (pointsTo_split_subset (ℓ := uL c) (q := fullShare) (f := f) h3).1
  unfold outAny
  iintro H
  ihave H := e1 $$ H
  icases H with ⟨HR, H⟩
  ihave H := (Entails.of_eq (congrArg (fun S => (uL c ↦[S]{fullShare} f : sProp 𝕄)) h1)) $$ H
  ihave H := e2 $$ H
  icases H with ⟨HF, H⟩
  ihave H := e3 $$ H
  icases H with ⟨HK, -⟩
  isplitl [HR]; · iexists f; iexact HR
  isplitl [HF]; · iexists f; iexact HF
  iexists f; iexact HK

end Cert.KernelIdeal.Talk
-- ==== Proof.Open.lean ====
/- The kernel's entry and exit: the scratch cells opened, the body's holdings dealt, the cells closed. -/
module

public import proofs.«01_k».proof.Proof.Close

@[expose] public section

set_option maxRecDepth 65536

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable {Zf Of : Dev nD → Vec F S2560x8x128 .f32} {K : GSem nD τ sig → ℕ} {c : Dev nD}

/-! ## The kernel's own semaphores -/

/-- The semaphores the kernel holds as scratch: all but the windows' four. -/
def osem0 : Fin 84 → SemLoc sig := fun k => .dma ⟨4 + k.val, by have := k.isLt; show _ < 88; omega⟩
theorem own_facts : Pipeline.OwnSemFacts spec0 osem0 := by decide +kernel

theorem usem_ge : ∀ (c : Dev nD) (a j : Fin 4), 4 ≤ (usem c a j).val := by decide +kernel
theorem usem_inj : ∀ (c : Dev nD) (p q : Fin 4 × Fin 4), usem c p.1 p.2 = usem c q.1 q.2 → p = q := fun c p q h => by
  have hp := dec_usem c p.1 p.2
  have hq := dec_usem c q.1 q.2
  rw [h] at hp
  exact Option.some.inj (hp.symm.trans hq)

/-- Where a transfer's semaphore stands among them. -/
def usedEmb (c : Dev nD) : (Fin 4 × Fin 4) ↪ Fin 84 :=
  ⟨fun p => ⟨(usem c p.1 p.2).val - 4, by have := (usem c p.1 p.2).isLt; have : (88 : ℕ) = sig.nDmaSem := rfl; omega⟩, fun p q h => by
    have h1 := congrArg Fin.val h
    have h2 := usem_ge c p.1 p.2
    have h3 := usem_ge c q.1 q.2
    dsimp only at h1
    exact usem_inj c p q (Fin.ext (by omega))⟩
/-- Where the kept half's semaphore stands. -/
def keptIx : Fin 84 := ⟨72, by decide⟩

theorem osem_used (c : Dev nD) (p : Fin 4 × Fin 4) : osem0 (usedEmb c p) = .dma (usem c p.1 p.2) := by
  have h := usem_ge c p.1 p.2
  refine congrArg SemLoc.dma (Fin.ext ?_)
  show 4 + ((usem c p.1 p.2).val - 4) = _
  omega
theorem osem_kept : osem0 keptIx = .dma ksem := rfl
theorem kept_notin (c : Dev nD) : keptIx ∉ Finset.univ.map (usedEmb c) := fun h => by
  obtain ⟨p, -, hp⟩ := Finset.mem_map.mp h
  have h1 := osem_used c p
  rw [hp, osem_kept] at h1
  exact usem_ne_ksem c p.1 p.2 (SemLoc.dma.inj h1).symm

/-- The semaphores of the kernel that this device never touches. -/
def idleIx (c : Dev nD) : Finset (Fin 84) := Finset.univ \ insert keptIx (Finset.univ.map (usedEmb c))
/-- Their counters, at zero. -/
def idleSems (c : Dev nD) : sProp 𝕄 := bigSep (idleIx c) fun k => semVal ((c : Thread nD τ), osem0 k) 0

/-- The kernel's own counters at zero: the transfers', the kept half's, the untouched ones. -/
theorem own_split (c : Dev nD) : (Pipeline.ownSems0 osem0 c : sProp 𝕄)
    = iprop(semVal (kc c) 0 ∗ (bigSep (Finset.univ : Finset (Fin 4 × Fin 4)) fun p => semVal (uc c p.1 p.2) 0) ∗ idleSems c) := by
  unfold Pipeline.ownSems0
  have h1 := BI.bigSep_sdiff_split (Finset.subset_univ (insert keptIx (Finset.univ.map (usedEmb c))))
    (Φ := fun k : Fin 84 => (semVal ((c : Thread nD τ), osem0 k) 0 : sProp 𝕄))
  have h2 := BI.bigSep_insert (kept_notin c) (Φ := fun k : Fin 84 => (semVal ((c : Thread nD τ), osem0 k) 0 : sProp 𝕄))
  have h3 := BI.bigSep_map (s := Finset.univ) (usedEmb c) (Φ := fun k : Fin 84 => (semVal ((c : Thread nD τ), osem0 k) 0 : sProp 𝕄))
  have h4 : (fun p : Fin 4 × Fin 4 => (semVal ((c : Thread nD τ), osem0 (usedEmb c p)) 0 : sProp 𝕄)) = fun p => semVal (uc c p.1 p.2) 0 :=
    funext fun p => by rw [osem_used]
  rw [h1, h2, h3, h4, osem_kept]
  exact BI.equiv_iff.mp ⟨BI.sep_assoc, BI.sep_assoc'⟩

/-- Two families as one of pairs. -/
theorem fam_pair {I : Type} [Fintype I] {Φ Ψ : I → sProp (MT nD τ sig Unit (Elt F) ℕ UU ℕ)} :
    iprop(bigSep Finset.univ Φ ∗ bigSep Finset.univ Ψ) ⊢ bigSep Finset.univ (fun i => iprop(Φ i ∗ Ψ i)) :=
  (BIBase.Entails.of_eq (BI.bigSep_sep _ _ _).symm)
/-- One family of pairs as two. -/
theorem fam_unpair {I : Type} [Fintype I] {Φ Ψ : I → sProp (MT nD τ sig Unit (Elt F) ℕ UU ℕ)} :
    bigSep Finset.univ (fun i => iprop(Φ i ∗ Ψ i)) ⊢ iprop(bigSep Finset.univ Φ ∗ bigSep Finset.univ Ψ) :=
  BIBase.Entails.of_eq (BI.bigSep_sep _ _ _)
/-- A family over the four kinds, kind by kind. -/
theorem big4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
/-- A family over the sixteen transfers, kind by kind. -/
theorem big16 (Φ : Fin 4 × Fin 4 → sProp 𝕄) : bigSep Finset.univ Φ
    = iprop((bigSep Finset.univ fun j => Φ (0, j)) ∗ (bigSep Finset.univ fun j => Φ (1, j)) ∗ (bigSep Finset.univ fun j => Φ (2, j))
      ∗ bigSep Finset.univ fun j => Φ (3, j)) := by
  rw [bigSep_univ_prod, big4]

/-! ## What a device is given at the launch, and what it holds once its cells are open -/

/-- The tokens of the duties device `c` pays. -/
def payT (c : Dev nD) : sProp 𝕄 :=
  iprop(dutyTok ER (bc (yp c)) 0 false ∗ dutyTok ER (bc (xp c)) 0 true ∗ dutyTok ER (kc c) 0 false
    ∗ (bigSep (Finset.univ : Finset (Fin 4)) fun j => dutyTok ER (uc c 0 j) 0 false)
    ∗ (bigSep (Finset.univ : Finset (Fin 4)) fun j => dutyTok ER (uc (yp c) 1 j) 0 false)
    ∗ (bigSep (Finset.univ : Finset (Fin 4)) fun j => dutyTok ER (uc c 2 j) 0 false)
    ∗ (bigSep (Finset.univ : Finset (Fin 4)) fun j => dutyTok ER (uc (xp c) 3 j) 0 false))
/-- The credit for what the neighbours owe device `c`. -/
def credT (c : Dev nD) : sProp 𝕄 :=
  iprop(cred (tallyAt (bc c) () 2) ∗ (bigSep (Finset.univ : Finset (Fin 4)) fun j => cred (tallyAt (uc c 1 j) () NC))
    ∗ (bigSep (Finset.univ : Finset (Fin 4)) fun j => cred (tallyAt (uc c 3 j) () NC)))
/-- The rights to open the device's scratch cells. -/
def openT (c : Dev nD) : sProp 𝕄 :=
  iprop((bigSep (Finset.univ : Finset (Fin 4 × Fin 4)) fun p => openTok ER (uc c p.1 p.2)) ∗ openTok ER (kc c))
/-- Every barrier cell's first round is reached. -/
def barR : sProp 𝕄 := bigSep (Finset.univ : Finset (Dev nD)) fun c => reached ER (bc c) 0
instance barR_persistent : BI.Persistent (barR (F := F)) := by unfold barR; infer_instance
theorem barR_at (c : Dev nD) : (barR : sProp 𝕄) ⊢ reached ER (bc c) 0 := by
  have h : bigSep Finset.univ (fun c : Dev nD => (reached ER (bc c) 0 : sProp 𝕄)) ⊢ _ := BI.bigSep_elim (Finset.mem_univ c)
  exact h

section
variable (Zf Of : Dev nD → Vec F S2560x8x128 .f32)
/-- What the launch leaves device `c` for the kernel. -/
def Tk (c : Dev nD) : sProp 𝕄 :=
  iprop((∃ K, Invs Zf Of K ∗ barR ∗ openT c ∗ payT c ∗ atPos ER (bc c) 0 ∅ 0) ∗ credT c)
/-- The same with the cells open. -/
def XkAt (K : GSem nD τ sig → ℕ) (c : Dev nD) : sProp 𝕄 :=
  iprop(Ctx Zf Of K c ∗ barR ∗ payT c ∗ atPos ER (bc c) 0 ∅ 0
    ∗ (bigSep (Finset.univ : Finset (Fin 4 × Fin 4)) fun p => atPos ER (uc c p.1 p.2) 0 ∅ 0) ∗ atPos ER (kc c) 0 ∅ 0 ∗ credT c ∗ idleSems c)
def Xk (c : Dev nD) : sProp 𝕄 := iprop(∃ K, XkAt Zf Of K c)

theorem hopen0 (c : Dev nD) : iprop(Tk Zf Of c ∗ Pipeline.ownSems0 osem0 c ∗ levAts L lv) ⊢ (|={Set.univ}=> Xk Zf Of c : sProp 𝕄) := by
  rw [own_split]
  unfold Tk Xk
  iintro ⟨⟨⟨%K, #HI, #HB, HoT, HpT, HaB⟩, HcT⟩, ⟨HkV, HuV, Hid⟩, #Hlev⟩
  unfold openT
  icases HoT with ⟨Hou, Hok⟩
  have hk := Rounds.cell_open ER (Rd Zf Of) (g := kc c) (Set.mem_univ (K (kc c)))
  have hIk := Invs_k Zf Of K c
  have hu : iprop(Invs Zf Of K ∗ bigSep (Finset.univ : Finset (Fin 4 × Fin 4)) fun p => iprop(openTok ER (uc c p.1 p.2) ∗ semVal (uc c p.1 p.2) 0))
      ⊢ (|={Set.univ}=> bigSep (Finset.univ : Finset (Fin 4 × Fin 4)) fun p => iprop(atPos ER (uc c p.1 p.2) 0 ∅ 0 ∗ reached ER (uc c p.1 p.2) 0) : sProp 𝕄) := by
    refine BIBase.Entails.trans ?_ (bigSep_fupd _ _)
    refine bigSep_with_persistent (R := Invs Zf Of K) fun p _ => ?_
    have hI := Invs_u Zf Of K c p.1 p.2
    have ho := Rounds.cell_open ER (Rd Zf Of) (g := uc c p.1 p.2) (Set.mem_univ (K (uc c p.1 p.2)))
    iintro ⟨#HI, H⟩
    iapply ho
    isplitr; · iapply hI; iexact HI
    iexact H
  imod hk $$ [Hok HkV] with ⟨HaK, #HrK⟩
  · isplitr; · iapply hIk; iexact HI
    isplitl [Hok] <;> iassumption
  imod hu $$ [Hou HuV] with Hus
  · isplitr; · iexact HI
    iapply fam_pair
    isplitl [Hou] <;> iassumption
  ihave Hus' := fam_unpair $$ Hus
  icases Hus' with ⟨Hau, #Hru⟩
  imodintro
  iexists K
  unfold XkAt Ctx
  isplitr
  · isplitr; · iexact HI
    isplitr; · iexact Hlev
    isplitr; · iexact Hru
    iexact HrK
  isplitr; · iexact HB
  isplitl [HpT]; · iexact HpT
  isplitl [HaB]; · iexact HaB
  isplitl [Hau]; · iexact Hau
  isplitl [HaK]; · iexact HaK
  isplitl [HcT] <;> iassumption
end

/-! ## Into the body, and out of it -/

section
variable {M0 : Memref sig .tc .smem S1 .i32} {M1 : Memref sig .tc .vmem S4096x1024 .f32} {M2 M3 : Memref sig .tc .vmem S1x4096 .i32}
variable {f0 : Buf (Elt F) (M0.view.loc (c : Thread nD τ))} {f1 : Buf (Elt F) (M1.view.loc (c : Thread nD τ))}
variable {f2 : Buf (Elt F) (M2.view.loc (c : Thread nD τ))} {f3 : Buf (Elt F) (M3.view.loc (c : Thread nD τ))}

/-- What a device holds at the kernel's one point, as the body takes it; the untouched counters stay aside. -/
theorem into_body : iprop(XkAt Zf Of K c ∗ (∃ W, owes (c : Thread nD τ) (O₀ c) W) ∗ (∃ f : Buf (Elt F) (uL c), uL c ↦{fullShare} f)
      ∗ (∃ f : Buf (Elt F) (zL c), zL c ↦{fullShare} f) ∗ (∃ f : Buf (Elt F) (oL c), oL c ↦{fullShare} f)
      ∗ (M0.view.loc (c : Thread nD τ) ↦{fullShare} f0) ∗ inp M1 M2 M3 c f1 f2 f3)
    ⊢ iprop(((M0.view.loc (c : Thread nD τ) ↦{fullShare} f0) ∗ ((Ctx Zf Of K c ∗ barRes c) ∗ packRes M1 M2 M3 c f1 f2 f3) ∗ own c) ∗ idleSems c) := by
  have hby := barR_at (F := F) (yp c)
  have hbx := barR_at (F := F) (xp c)
  have hcut := fun f => out_cut (F := F) c f
  unfold XkAt payT credT barRes packRes own late fwdTodo
  rw [big16]
  iintro ⟨⟨#HC, #HB, ⟨Hty, Htx, Htk, Ht0, Ht1, Ht2, Ht3⟩, HaB, ⟨Ha0, Ha1, Ha2, Ha3⟩, HaK, ⟨HcB, Hc1, Hc3⟩, Hid⟩, HO, ⟨%f, Hu⟩, Hz, Ho, Hm0, Hin⟩
  ihave Hu' := (hcut f) $$ Hu
  icases Hu' with ⟨HuR, HuF, HuK⟩
  isplitr [Hid]
  · isplitl [Hm0]; · iexact Hm0
    isplitl [Hty Htx Ht0 Ht1 HaB HcB HO HuR HuF Hz Ho Hin]
    · isplitl [Hty Htx HaB HcB HO HuR HuF]
      · isplitr; · iexact HC
        isplitl [HO]; · iexact HO
        isplitl [Hty]; · iexact Hty
        isplitl [Htx]; · iexact Htx
        isplitl [HuR]; · iexact HuR
        isplitl [HuF]; · iexact HuF
        isplitl [HaB]; · iexact HaB
        isplitl [HcB]; · iexact HcB
        isplitr; · iapply hby; iexact HB
        iapply hbx; iexact HB
      isplitl [Hin]; · iexact Hin
      isplitl [Hz]; · iexact Hz
      isplitl [Ho]; · iexact Ho
      iapply fam_pair
      isplitl [Ht0] <;> iassumption
    isplitl [HuK]; · iexact HuK
    isplitl [Htk]; · iexact Htk
    isplitl [HaK]; · iexact HaK
    isplitl [Ha1 Hc1 Ht2 Ht3]
    · iapply fam_pair; isplitl [Ha1]; · iexact Ha1
      iapply fam_pair; isplitl [Hc1]; · iexact Hc1
      iapply fam_pair; isplitl [Ht2] <;> iassumption
    isplitl [Ha0]; · iexact Ha0
    isplitl [Ha2]; · iexact Ha2
    iapply fam_pair
    isplitl [Ha3] <;> iassumption
  iexact Hid

/-- What the body leaves, its cells closed and its buffers whole. -/
theorem out_of_body : iprop((StM Zf Of K c 2 4 4 4 ∗ ((bigSep Finset.univ fun j => atPos ER (uc c 1 j) 1 ∅ 0)
      ∗ ((M0.view.loc (c : Thread nD τ) ↦{fullShare} f0) ∗ inp M1 M2 M3 c f1 f2 f3 ∗ left Zf Of c ∗ atPos ER (bc c) 1 ∅ 0))) ∗ idleSems c)
    ⊢ (|={Set.univ}=> iprop((semVal (bc c) 0 ∗ Pipeline.ownSems0 osem0 c ∗ (zL c ↦{fullShare} Zf c) ∗ (oL c ↦{fullShare} Of c)
        ∗ (uL c ↦{fullShare} Ofin Zf Of c)) ∗ (∃ W, owes (c : Thread nD τ) 0 W)
        ∗ (M0.view.loc (c : Thread nD τ) ↦{fullShare} f0) ∗ inp M1 M2 M3 c f1 f2 f3) : sProp 𝕄) := by
  have hIv := Ctx_inv Zf Of K c
  have hIk := (Ctx_inv Zf Of K c).trans (Invs_k Zf Of K c)
  have hIb := (Ctx_inv Zf Of K c).trans (Invs_b Zf Of K c)
  have hcK := close1 (Zf := Zf) (Of := Of) (K := K) (kc c)
  have hcB := close1 (Zf := Zf) (Of := Of) (K := K) (bc c)
  have hc0 := close_kind (Zf := Zf) (Of := Of) (K := K) c 0
  have hc1 := close_kind (Zf := Zf) (Of := Of) (K := K) c 1
  have hc2 := close_kind (Zf := Zf) (Of := Of) (K := K) c 2
  have hc3 := close_kind (Zf := Zf) (Of := Of) (K := K) c 3
  have hs := scratch_join (Zf := Zf) (Of := Of) c
  have hj := out_join (Zf := Zf) (Of := Of) c
  rw [own_split, big16]
  rw [show StM Zf Of K c 2 4 4 4 = iprop(Ctx Zf Of K c ∗ ((outPt Zf Of c (InR (koff c) 2048) ∗ keptPt Zf Of c (InR 0 2048)) ∗ atPos ER (kc c) 1 ∅ 0)
    ∗ wRes Zf Of c 0 4 ∗ wRes Zf Of c 2 4 ∗ wRes Zf Of c 3 4 ∗ ∃ W, owes (c : Thread nD τ) 0 W) from rfl]
  unfold wRes
  rw [lt_four]
  iintro ⟨⟨⟨#HC, ⟨Hkp, HaK⟩, ⟨-, Hw0⟩, ⟨-, Hw2⟩, ⟨-, Hw3⟩, HO⟩, Ha1, Hm0, Hin, Hlf, HaB⟩, Hid⟩
  ihave Hw0' := fam_unpair $$ Hw0; icases Hw0' with ⟨Ha0, Hp0⟩
  ihave Hw2' := fam_unpair $$ Hw2; icases Hw2' with ⟨Ha2, Hp2⟩
  ihave Hw3' := fam_unpair $$ Hw3; icases Hw3' with ⟨Ha3, Hp3⟩
  icases Hkp with ⟨HkB, HkA⟩
  imod hcK $$ [HaK] with HvK
  · isplitr; · iapply hIk; iexact HC
    iexact HaK
  imod hcB $$ [HaB] with HvB
  · isplitr; · iapply hIb; iexact HC
    iexact HaB
  imod hc0 $$ [Ha0] with Hv0
  · isplitr; · iapply hIv; iexact HC
    iexact Ha0
  imod hc1 $$ [Ha1] with Hv1
  · isplitr; · iapply hIv; iexact HC
    iexact Ha1
  imod hc2 $$ [Ha2] with Hv2
  · isplitr; · iapply hIv; iexact HC
    iexact Ha2
  imod hc3 $$ [Ha3] with Hv3
  · isplitr; · iapply hIv; iexact HC
    iexact Ha3
  imodintro
  ihave Hs := hs $$ [Hp0 HkA Hlf]
  · isplitl [Hp0]; · iexact Hp0
    isplitl [HkA] <;> iassumption
  icases Hs with ⟨Hz, Ho⟩
  ihave Hu := hj $$ [Hp2 Hp3 HkB]
  · isplitl [Hp2]; · iexact Hp2
    isplitl [Hp3] <;> iassumption
  isplitl [HvB HvK Hv0 Hv1 Hv2 Hv3 Hid Hz Ho Hu]
  · isplitl [HvB]; · iexact HvB
    isplitl [HvK Hv0 Hv1 Hv2 Hv3 Hid]
    · isplitl [HvK]; · iexact HvK
      isplitr [Hid]
      · isplitl [Hv0]; · iexact Hv0
        isplitl [Hv1]; · iexact Hv1
        isplitl [Hv2] <;> iassumption
      iexact Hid
    isplitl [Hz]; · iexact Hz
    isplitl [Ho]; · iexact Ho
    iexact Hu
  isplitl [HO]; · iexact HO
  isplitl [Hm0]; · iexact Hm0
  iexact Hin
end

end Cert.KernelIdeal.Talk
-- ==== Proof.Region.lean ====
/- The kernel's region: proof data, body obligation and the region as a segment of the program. -/
module

public import proofs.«01_k».proof.Proof.Open

@[expose] public section

set_option maxRecDepth 65536

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## What the windows bring -/

theorem sw0 : (st0_0 t0_0).IsWhole := hstage0_0 0
theorem sw1 : (st0_1 t0_0).IsWhole := hstage0_1 0
theorem sw2 : (st0_2 t0_0).IsWhole := hstage0_2 0
theorem sw3 : (st0_3 t0_0).IsWhole := hstage0_3 0
/-- The contents of the four staging buffers at the kernel's point. -/
def w0 (c : Dev nD) : Buf (Elt F) ((st0_0 t0_0).view.loc (c : Thread nD τ)) := sw0.unread (iblk m c 0 t0_0)
def w1 (c : Dev nD) : Buf (Elt F) ((st0_1 t0_0).view.loc (c : Thread nD τ)) := sw1.unread (iblk m c 1 t0_0)
def w2 (c : Dev nD) : Buf (Elt F) ((st0_2 t0_0).view.loc (c : Thread nD τ)) := sw2.unread (iblk m c 2 t0_0)
def w3 (c : Dev nD) : Buf (Elt F) ((st0_3 t0_0).view.loc (c : Thread nD τ)) := sw3.unread (iblk m c 3 t0_0)

/-- The packed scratch buffers of device `c`. -/
def Z (c : Dev nD) : Vec F S2560x8x128 .f32 := packT (zM (M1 := st0_1 t0_0) (M2 := st0_2 t0_0) (M3 := st0_3 t0_0) (w1 m c) (w2 m c) (w3 m c))
def O (c : Dev nD) : Vec F S2560x8x128 .f32 := packT (oM (M1 := st0_1 t0_0) (M2 := st0_2 t0_0) (M3 := st0_3 t0_0) (w1 m c) (w2 m c) (w3 m c))

/-- Every device holds as many rows for each destination: the count it loads is 2048. -/
def Half : Prop := ∀ c : Dev nD, word0 (c := c) (st0_0 t0_0) (w0 m c) = 2048#32

/-! ## The proof data -/

/-- After the kernel: the barrier's counter, the scratch buffers and the output. -/
def done (c : Dev nD) : sProp 𝕄 :=
  iprop(semVal (bc c) 0 ∗ Pipeline.ownSems0 osem0 c ∗ (zL c ↦{fullShare} Z m c) ∗ (oL c ↦{fullShare} O m c) ∗ (uL c ↦{fullShare} Ofin (Z m) (O m) c))

def dat0 (c : Dev nD) : Dat τ (Elt F) Unit ℕ UU ℕ cfg0 c where
  A w := V m c (Pipeline.arrRef spec0 w)
  after := fun | 0 => fun t => iblk m c 0 t | 1 => fun t => iblk m c 1 t | 2 => fun t => iblk m c 2 t | 3 => fun t => iblk m c 3 t | ⟨n + 4, h⟩ => absurd (show n + 4 < 4 from h) (by omega)
  Φ t := if t.val = 0 then iprop((Xk (Z m) (O m) c ∗ (∃ f : Buf (Elt F) (uL c), uL c ↦{fullShare} f)
      ∗ (∃ f : Buf (Elt F) (zL c), zL c ↦{fullShare} f) ∗ (∃ f : Buf (Elt F) (oL c), oL c ↦{fullShare} f)) ∗ ∃ r, prngReg c r)
    else iprop(done m c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_zero (c : Dev nD) : (pdats m 0 c).owed 0 = O₀ c := by
  show (if ((0 : Fin (cfg0.N + 1)).val = 0) then O₀ c else 0) = O₀ c; exact if_pos rfl
theorem owed_first (c : Dev nD) : (dat0 m c).owed (t0_0 : Fin cfg0.N).castSucc = O₀ c := by
  show (if ((t0_0 : Fin cfg0.N).castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

/-- What the core owes, as the pipeline states it at a point, and back. -/
theorem owesAt_in (c : Dev nD) (t : Fin (cfg0.N + 1)) (O' : CellTallies nD τ sig Unit) (h : (dat0 m c).owed t = O') :
    iprop(∃ W, owes (c : Thread nD τ) O' W) ⊢ ((dat0 m c).owesAt () t : sProp 𝕄) := by
  unfold Dat.owesAt Pipeline.owesWithin Dat.bound
  rw [h]
  iintro ⟨%W, H⟩
  iexists W
  isplitr; · ipureintro; exact fun _ _ => Or.inl trivial
  iexact H
theorem owesAt_out (c : Dev nD) (t : Fin (cfg0.N + 1)) (O' : CellTallies nD τ sig Unit) (h : (dat0 m c).owed t = O') :
    ((dat0 m c).owesAt () t : sProp 𝕄) ⊢ iprop(∃ W, owes (c : Thread nD τ) O' W) := by
  unfold Dat.owesAt Pipeline.owesWithin
  rw [h]
  iintro ⟨%W, -, H⟩
  iexists W
  iexact H

theorem A_eq (c : Dev nD) (w : Fin cfg0.W) : (dat0 m c).A w = V m c (Pipeline.arrRef spec0 w) := rfl
/-- Each window's staging buffer holds its block when the body starts. -/
theorem beforeOf0 {c : Dev nD} (dat : Dat τ (Elt F) Unit ℕ UU ℕ cfg0 c) (hA : dat.A 0 = V m c (Pipeline.arrRef spec0 0))
    (hk : ∀ t, dat.after 0 t = iblk m c 0 t) (t : Fin cfg0.N) (d) : dat.before 0 t d = iblk m c 0 t :=
  (dat.before_in_eq_fetched 0 rfl (fun _ => rfl) (fun _ _ _ => rfl) (fun t => by rw [hk]; unfold Dat.blockOf iblk; rw [hA]; try rfl) t d).trans
    (by unfold Dat.fetched Dat.blockOf iblk; rw [hA]; try rfl)
theorem beforeOf1 {c : Dev nD} (dat : Dat τ (Elt F) Unit ℕ UU ℕ cfg0 c) (hA : dat.A 1 = V m c (Pipeline.arrRef spec0 1))
    (hk : ∀ t, dat.after 1 t = iblk m c 1 t) (t : Fin cfg0.N) (d) : dat.before 1 t d = iblk m c 1 t :=
  (dat.before_in_eq_fetched 1 rfl (fun _ => rfl) (fun _ _ _ => rfl) (fun t => by rw [hk]; unfold Dat.blockOf iblk; rw [hA]; try rfl) t d).trans
    (by unfold Dat.fetched Dat.blockOf iblk; rw [hA]; try rfl)
theorem beforeOf2 {c : Dev nD} (dat : Dat τ (Elt F) Unit ℕ UU ℕ cfg0 c) (hA : dat.A 2 = V m c (Pipeline.arrRef spec0 2))
    (hk : ∀ t, dat.after 2 t = iblk m c 2 t) (t : Fin cfg0.N) (d) : dat.before 2 t d = iblk m c 2 t :=
  (dat.before_in_eq_fetched 2 rfl (fun _ => rfl) (fun _ _ _ => rfl) (fun t => by rw [hk]; unfold Dat.blockOf iblk; rw [hA]; try rfl) t d).trans
    (by unfold Dat.fetched Dat.blockOf iblk; rw [hA]; try rfl)
theorem beforeOf3 {c : Dev nD} (dat : Dat τ (Elt F) Unit ℕ UU ℕ cfg0 c) (hA : dat.A 3 = V m c (Pipeline.arrRef spec0 3))
    (hk : ∀ t, dat.after 3 t = iblk m c 3 t) (t : Fin cfg0.N) (d) : dat.before 3 t d = iblk m c 3 t :=
  (dat.before_in_eq_fetched 3 rfl (fun _ => rfl) (fun _ _ _ => rfl) (fun t => by rw [hk]; unfold Dat.blockOf iblk; rw [hA]; try rfl) t d).trans
    (by unfold Dat.fetched Dat.blockOf iblk; rw [hA]; try rfl)
theorem after0 (c : Dev nD) (t : Fin cfg0.N) : (dat0 m c).after 0 t = iblk m c 0 t := by
  unfold dat0; rfl
theorem after1 (c : Dev nD) (t : Fin cfg0.N) : (dat0 m c).after 1 t = iblk m c 1 t := by
  unfold dat0; rfl
theorem after2 (c : Dev nD) (t : Fin cfg0.N) : (dat0 m c).after 2 t = iblk m c 2 t := by
  unfold dat0; rfl
theorem after3 (c : Dev nD) (t : Fin cfg0.N) : (dat0 m c).after 3 t = iblk m c 3 t := by
  unfold dat0; rfl
theorem before0 (c : Dev nD) (t : Fin cfg0.N) (d) : (dat0 m c).before 0 t d = iblk m c 0 t :=
  beforeOf0 m (dat0 m c) (A_eq m c 0) (after0 m c) t d
theorem before1 (c : Dev nD) (t : Fin cfg0.N) (d) : (dat0 m c).before 1 t d = iblk m c 1 t :=
  beforeOf1 m (dat0 m c) (A_eq m c 1) (after1 m c) t d
theorem before2 (c : Dev nD) (t : Fin cfg0.N) (d) : (dat0 m c).before 2 t d = iblk m c 2 t :=
  beforeOf2 m (dat0 m c) (A_eq m c 2) (after2 m c) t d
theorem before3 (c : Dev nD) (t : Fin cfg0.N) (d) : (dat0 m c).before 3 t d = iblk m c 3 t :=
  beforeOf3 m (dat0 m c) (A_eq m c 3) (after3 m c) t d

/-- A whole memref owned at known contents, as its whole buffer, and back. -/
theorem owns_buf {sp : Space} {sh : Shape} {e : EltTy} (c : Dev nD) (M : Memref sig .tc sp sh e) (h : M.IsWhole) (x : sh.Idx → Elt F e) :
    (owns (c : Thread nD τ) M fullShare x : sProp 𝕄) ⊢ (M.view.loc (c : Thread nD τ) ↦{fullShare} h.unread x) := by
  unfold owns
  iintro ⟨%f, %hf, H⟩
  obtain rfl := h.eq_unread hf
  rw [h.set_eq_univ]
  iexact H
theorem buf_owns {sp : Space} {sh : Shape} {e : EltTy} (c : Dev nD) (M : Memref sig .tc sp sh e) (h : M.IsWhole) (x : sh.Idx → Elt F e) :
    (M.view.loc (c : Thread nD τ) ↦{fullShare} h.unread x : sProp 𝕄) ⊢ owns (c : Thread nD τ) M fullShare x := by
  unfold owns
  rw [h.set_eq_univ]
  iintro H
  iexists h.unread x
  isplitr; · ipureintro; exact h.read_unread x
  iexact H

/-- The body's triple at any windows, the kernel's entry and exit included. -/
theorem body_full {c : Dev nD} {Zf : (c : Dev nD) → Buf (Elt F) (zL c)} {Of : (c : Dev nD) → Buf (Elt F) (oL c)}
    {M0 : Memref sig .tc .smem S1 .i32} {h0 : M0.IsWhole} {f0 : Buf (Elt F) (M0.view.loc (c : Thread nD τ))}
    {M1 : Memref sig .tc .vmem S4096x1024 .f32} {h1 : M1.IsWhole} {M2 : Memref sig .tc .vmem S1x4096 .i32} {h2 : M2.IsWhole}
    {M3 : Memref sig .tc .vmem S1x4096 .i32} {h3 : M3.IsWhole} {f1 : Buf (Elt F) (M1.view.loc (c : Thread nD τ))}
    {f2 : Buf (Elt F) (M2.view.loc (c : Thread nD τ))} {f3 : Buf (Elt F) (M3.view.loc (c : Thread nD τ))}
    (hv : word0 M0 f0 = 2048#32) (hZ : Zf c = packT (zM f1 f2 f3)) (hO : Of c = packT (oM f1 f2 f3)) :
    iprop((Xk Zf Of c ∗ (∃ f : Buf (Elt F) (uL c), uL c ↦{fullShare} f)
        ∗ (∃ f : Buf (Elt F) (zL c), zL c ↦{fullShare} f) ∗ (∃ f : Buf (Elt F) (oL c), oL c ↦{fullShare} f))
      ∗ (∃ W, owes (c : Thread nD τ) (O₀ c) W) ∗ (M0.view.loc (c : Thread nD τ) ↦{fullShare} f0) ∗ inp M1 M2 M3 c f1 f2 f3)
    ⊢ WP c (cc0_body (F := F) M0 h0 M1 h1 M2 h2 M3 h3 (Memref.whole main_v10) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10)
      (fun _ => iprop((semVal (bc c) 0 ∗ Pipeline.ownSems0 osem0 c ∗ (zL c ↦{fullShare} Zf c) ∗ (oL c ↦{fullShare} Of c) ∗ (uL c ↦{fullShare} Ofin Zf Of c)) ∗ (∃ W, owes (c : Thread nD τ) 0 W)
      ∗ (M0.view.loc (c : Thread nD τ) ↦{fullShare} f0) ∗ inp M1 M2 M3 c f1 f2 f3)) := by
  unfold Xk
  iintro ⟨⟨⟨%K, HX⟩, Hu, Hz, Ho⟩, HO, H0, Hin⟩
  have hi := into_body (Zf := Zf) (Of := Of) (K := K) (c := c) (M0 := M0) (f0 := f0) (M1 := M1) (M2 := M2) (M3 := M3)
    (f1 := f1) (f2 := f2) (f3 := f3)
  have ho := out_of_body (Zf := Zf) (Of := Of) (K := K) (c := c) (M0 := M0) (f0 := f0) (M1 := M1) (M2 := M2) (M3 := M3)
    (f1 := f1) (f2 := f2) (f3 := f3)
  have hb := body_run (K := K) (c := c) (M0 := M0) (h0 := h0) (M1 := M1) (h1 := h1) (M2 := M2) (h2 := h2) (M3 := M3) (h3 := h3) hv hZ hO
  ihave H := hi $$ [HX Hu Hz Ho HO H0 Hin]
  · isplitl [HX]; · iexact HX
    isplitl [HO]; · iexact HO
    isplitl [Hu]; · iexact Hu
    isplitl [Hz]; · iexact Hz
    isplitl [Ho]; · iexact Ho
    isplitl [H0] <;> iassumption
  istop
  unfold WP at hb ⊢
  exact (sep_mono_left hb).trans ((wp_frame_r _ _ _).trans ((wp_mono _ _ _ fun _ => ho).trans (wp_fupd _ _ _ _ _)))

/-- At the kernel's one point. -/
theorem point_run (hh : Half m) (c : Dev nD) :
    iprop((Xk (Z m) (O m) c ∗ (∃ f : Buf (Elt F) (uL c), uL c ↦{fullShare} f)
        ∗ (∃ f : Buf (Elt F) (zL c), zL c ↦{fullShare} f) ∗ (∃ f : Buf (Elt F) (oL c), oL c ↦{fullShare} f))
      ∗ (∃ W, owes (c : Thread nD τ) (O₀ c) W) ∗ ((st0_0 t0_0).view.loc (c : Thread nD τ) ↦{fullShare} w0 m c)
      ∗ inp (st0_1 t0_0) (st0_2 t0_0) (st0_3 t0_0) c (w1 m c) (w2 m c) (w3 m c))
    ⊢ WP c (bodyAt0 (F := F) t0_0) (fun _ => iprop(done m c ∗ (∃ W, owes (c : Thread nD τ) 0 W)
      ∗ ((st0_0 t0_0).view.loc (c : Thread nD τ) ↦{fullShare} w0 m c) ∗ inp (st0_1 t0_0) (st0_2 t0_0) (st0_3 t0_0) c (w1 m c) (w2 m c) (w3 m c))) :=
  body_full (h0 := sw0) (h1 := sw1) (h2 := sw2) (h3 := sw3) (hh c) rfl rfl

theorem Phi_at (c : Dev nD) (t : Fin (cfg0.N + 1)) : (dat0 m c).Φ t = if t.val = 0 then iprop((Xk (Z m) (O m) c ∗ (∃ f : Buf (Elt F) (uL c), uL c ↦{fullShare} f)
      ∗ (∃ f : Buf (Elt F) (zL c), zL c ↦{fullShare} f) ∗ (∃ f : Buf (Elt F) (oL c), oL c ↦{fullShare} f)) ∗ ∃ r, prngReg c r)
    else iprop(done m c ∗ ∃ r, prngReg c r) := rfl
theorem Phi_first (c : Dev nD) (t : Fin (cfg0.N + 1)) (h : t.val = 0) : (dat0 m c).Φ t = iprop((Xk (Z m) (O m) c ∗ (∃ f : Buf (Elt F) (uL c), uL c ↦{fullShare} f)
      ∗ (∃ f : Buf (Elt F) (zL c), zL c ↦{fullShare} f) ∗ (∃ f : Buf (Elt F) (oL c), oL c ↦{fullShare} f)) ∗ ∃ r, prngReg c r) := by
  rw [Phi_at, if_pos h]
theorem Phi_last (c : Dev nD) (t : Fin (cfg0.N + 1)) (h : t.val ≠ 0) : (dat0 m c).Φ t = iprop(done m c ∗ ∃ r, prngReg c r) := by
  rw [Phi_at, if_neg h]

/-- The body's triple with the windows as the pipeline hands them over. -/
theorem body_core (hh : Half m) (c : Dev nD) :
    iprop((dat0 m c).Φ (t0_0 : Fin cfg0.N).castSucc ∗ (dat0 m c).owesAt () (t0_0 : Fin cfg0.N).castSucc
      ∗ (∃ d, owns (c : Thread nD τ) (st0_0 t0_0) fullShare ((dat0 m c).before 0 t0_0 d)) ∗ (∃ d, owns (c : Thread nD τ) (st0_1 t0_0) fullShare ((dat0 m c).before 1 t0_0 d))
      ∗ (∃ d, owns (c : Thread nD τ) (st0_2 t0_0) fullShare ((dat0 m c).before 2 t0_0 d)) ∗ (∃ d, owns (c : Thread nD τ) (st0_3 t0_0) fullShare ((dat0 m c).before 3 t0_0 d)))
    ⊢ WP c (bodyAt0 (F := F) t0_0) (fun _ => iprop((dat0 m c).Φ (t0_0 : Fin cfg0.N).succ ∗ (dat0 m c).owesAt () (t0_0 : Fin cfg0.N).succ
      ∗ owns (c : Thread nD τ) (st0_0 t0_0) fullShare ((dat0 m c).after 0 t0_0) ∗ owns (c : Thread nD τ) (st0_1 t0_0) fullShare ((dat0 m c).after 1 t0_0)
      ∗ owns (c : Thread nD τ) (st0_2 t0_0) fullShare ((dat0 m c).after 2 t0_0) ∗ owns (c : Thread nD τ) (st0_3 t0_0) fullShare ((dat0 m c).after 3 t0_0))) := by
  rw [Phi_first m c _ rfl, Phi_last m c _ (Nat.succ_ne_zero _), after0, after1, after2, after3]
  have h := (sep_mono_left (point_run m hh c)).trans (wp_frame_r (R := iprop(∃ r, prngReg c r)) _ _ _)
  refine BIBase.Entails.trans ?_ (h.trans (wp_mono _ _ _ fun _ => ?_))
  · iintro ⟨⟨HX, Hp⟩, HO, ⟨%d0, H0⟩, ⟨%d1, H1⟩, ⟨%d2, H2⟩, ⟨%d3, H3⟩⟩
    rw [before0, before1, before2, before3]
    ihave HO' := (owesAt_out m c _ (O₀ c) (owed_first m c)) $$ HO
    ihave H0' := (owns_buf c (st0_0 t0_0) sw0 (iblk m c 0 t0_0)) $$ H0
    ihave H1' := (owns_buf c (st0_1 t0_0) sw1 (iblk m c 1 t0_0)) $$ H1
    ihave H2' := (owns_buf c (st0_2 t0_0) sw2 (iblk m c 2 t0_0)) $$ H2
    ihave H3' := (owns_buf c (st0_3 t0_0) sw3 (iblk m c 3 t0_0)) $$ H3
    isplitr [Hp]
    · isplitl [HX]; · iexact HX
      isplitl [HO']; · iexact HO'
      isplitl [H0']; · iexact H0'
      unfold inp
      isplitl [H1']; · iexact H1'
      isplitl [H2']; · iexact H2'
      iexact H3'
    iexact Hp
  · unfold inp
    iintro ⟨⟨HX, HO, H0, H1, H2, H3⟩, Hp⟩
    isplitl [HX Hp]
    · isplitl [HX]; · iexact HX
      iexact Hp
    isplitl [HO]; · iapply (owesAt_in m c _ 0 (owed_last m c)); iexact HO
    isplitl [H0]; · iapply (buf_owns c (st0_0 t0_0) sw0 (iblk m c 0 t0_0)); iexact H0
    isplitl [H1]; · iapply (buf_owns c (st0_1 t0_0) sw1 (iblk m c 1 t0_0)); iexact H1
    isplitl [H2]; · iapply (buf_owns c (st0_2 t0_0) sw2 (iblk m c 2 t0_0)); iexact H2
    iapply (buf_owns c (st0_3 t0_0) sw3 (iblk m c 3 t0_0)); iexact H3

/-- The body's obligation. -/
theorem body0 (hh : Half m) (c : Dev nD) : BodyObligation (dat0 m c) (defs₀ (F := F)) 𝒱₀ () Set.univ := fun t => by
  obtain rfl := fin_N0 t
  rw [bigSep_W0, bigSep_W0]
  exact body_core m hh c

/-! ## The region as a segment -/

/-- The output array, which the kernel addresses itself, and the host's other buffers. -/
abbrev Hs : Finset (DevRef τ sig) := {Proc.devRef .tc main_v10}
abbrev Sr : Finset (DevRef τ sig) := Pipeline.ucRefs τ sig \ Pipeline.arrRefs (τ := τ) spec0

/-- The buffers' contents when the kernel starts and when it has ended. -/
abbrev Wa (c : Dev nD) : Valuation τ sig (Elt F) := V0 m c
abbrev Wb (c : Dev nD) : Valuation τ sig (Elt F) := Function.update (V0 m c) (Proc.devRef .tc main_v10) (Ofin (Z m) (O m) c)

theorem heldHs (c : Dev nD) (W : Valuation τ sig (Elt F)) :
    (StableHlo.held (c.tc : Thread nD τ) Hs W : sProp 𝕄) = (uL c ↦{fullShare} W (Proc.devRef .tc main_v10)) := by
  unfold StableHlo.held Hs
  rw [bigSep_singleton]

abbrev Yk (c : Dev nD) : sProp 𝕄 := semVal (bc c) 0

theorem hin0 (c : Dev nD) : iprop(Pipeline.scopedRest (Pipeline.pin (pcfgs (F := F)) adm 0).spec c ∗ (∃ r, prngReg c r) ∗ StableHlo.held (c.tc : Thread nD τ) Hs (Wa m c) ∗ Xk (Z m) (O m) c)
    ⊢ (pdats m 0 c).Φ 0 := by
  rw [show (pdats m 0 c).Φ 0 = _ from Phi_first m c 0 rfl,
    show Pipeline.scopedRest (Pipeline.pin (pcfgs (F := F)) adm 0).spec c = _ from scopedRest0_eq c, heldHs]
  iintro ⟨⟨Hz, Ho⟩, Hp, Hu, HX⟩
  isplitr [Hp]
  · isplitl [HX]; · iexact HX
    isplitl [Hu]; · iexists _; iexact Hu
    isplitl [Hz]; · iexact Hz
    iexact Ho
  iexact Hp

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (Wb m c) ∗ Pipeline.ownSems0 osem0 c ∗ Yk c) := by
  rw [show (pdats m 0 c).Φ (Fin.last (Pipeline.pin (pcfgs (F := F)) adm 0).N) = _ from Phi_last m c (Fin.last cfg0.N) (by rw [Fin.val_last, show cfg0.N = 1 from N_0]; decide),
    show Pipeline.scopedRest (Pipeline.pin (pcfgs (F := F)) adm 0).spec c = _ from scopedRest0_eq c, heldHs, show Wb m c (Proc.devRef .tc main_v10) = Ofin (Z m) (O m) c from Function.update_self ..]
  unfold done
  iintro ⟨⟨Hb, Hs, Hz, Ho, Hu⟩, Hp⟩
  isplitl [Hz Ho]
  · isplitl [Hz]; · iexists _; iexact Hz
    iexists _; iexact Ho
  isplitl [Hp]; · iexact Hp
  isplitl [Hu]; · iexact Hu
  isplitl [Hs]; · iexact Hs
  iexact Hb

/-- Every credit owed is at a level above the windows'. -/
theorem O₀_lev (c : Dev nD) (g : GSem nD τ sig) (i : Unit) (h : 0 < O₀ c g i) : i ∈ L g ∧ (0 : ℕ) < lv g i := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · rcases Due_pos h with ⟨-, j, rfl⟩ | ⟨j, rfl⟩
      · exact ⟨by rw [L_tc]; exact Finset.mem_singleton_self _, by rw [lv_u1]; decide⟩
      · exact ⟨by rw [L_tc]; exact Finset.mem_singleton_self _, by rw [lv_u3]; decide⟩
    · rw [tallyAt_apply] at h
      split at h
      · next hg => rw [hg.1]; exact ⟨by rw [L_tc]; exact Finset.mem_singleton_self _, Nat.one_pos⟩
      · exact absurd h (Nat.lt_irrefl 0)
  · rw [tallyAt_apply] at h
    split at h
    · next hg => rw [hg.1]; exact ⟨by rw [L_tc]; exact Finset.mem_singleton_self _, Nat.one_pos⟩
    · exact absurd h (Nat.lt_irrefl 0)

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact O₀_lev c g i h
  · exact absurd h (Nat.lt_irrefl 0)

theorem isIn : ∀ w : Fin cfg0.W, (cfg0.win w).isOut = false := by decide
theorem arr_ne : ∀ w : Fin cfg0.W, Proc.devRef (τ := τ) .tc (Pipeline.arrRef spec0 w) ≠ Proc.devRef .tc main_v10 := by decide
theorem hWa (c : Dev nD) (w : Fin cfg0.W) : (dat0 m c).arrAt w 0 = Wa m c (Proc.devRef .tc (Pipeline.arrRef spec0 w)) :=
  ((dat0 m c).arrAt_in w (isIn w) _).trans (A_eq m c w)
theorem hWb (c : Dev nD) (w : Fin cfg0.W) : (dat0 m c).arrAt w (Pipeline.pin (pcfgs (F := F)) adm 0).N = Wb m c (Proc.devRef .tc (Pipeline.arrRef spec0 w)) :=
  (((dat0 m c).arrAt_in w (isIn w) _).trans (A_eq m c w)).trans (Function.update_of_ne (arr_ne w) _ _).symm
theorem win_lev (c : Dev nD) : ∀ (w : Fin cfg0.W) (s : Fin (cfg0.win w).nbuf), lv ((c : Thread nD τ), SemLoc.dma ((cfg0.win w).sem s)) () = 0 :=
  (by decide : ∀ (w : Fin cfg0.W) (s : Fin (cfg0.win w).nbuf), lv (((0 : Dev nD) : Thread nD τ), SemLoc.dma ((cfg0.win w).sem s)) () = 0)
theorem Hs_sub : Hs ⊆ Pipeline.ucRefs τ sig \ Pipeline.arrRefs (τ := τ) spec0 := by decide

set_option backward.isDefEq.respectTransparency.types false in
/-- The kernel as one region. -/
def reg0 (hh : Half m) : Pipeline.RegionSeg (pcfgs (F := F)) adm (pdats m) () defs₀ 𝒱₀ L lv 0 :=
  Pipeline.RegionSeg.ofTalk (pcfgs (F := F)) adm (pdats m) () defs₀ 𝒱₀ L lv 0 osem0 own_facts
    Hs Sr Hs_sub launch0.toP rfl (fun c => (body0 m hh c).loose)
    (fun _ => 0) O₀ (fun c => (owed_zero m c).trans (zero_add _).symm) (owed_last m) (fun _ => rfl) (fun _ w => by fin_cases w <;> rfl)
    (Wa m) (Wb m) (fun _ b hb => Function.update_of_ne (fun h => (Finset.mem_sdiff.mp hb).2 (Finset.mem_singleton.mpr h)) _ _)
    (Tk (Z m) (O m)) Yk (Xk (Z m) (O m)) Yk (hopen0 (Z m) (O m)) (hin0 m) (hout0 m)
    (fun c => by iintro H; imodintro; iexact H)
    (fun _ => 0)
    ⟨fun c w s => by rw [L_tc]; exact Finset.mem_singleton_self _, fun c w s => le_of_eq (win_lev c w s), fun c t g i h => cutD m c t g i h⟩
    (fun _ => iprop(emp))
    (hWa m) (hWb m)

end Cert.KernelIdeal.Talk
-- ==== Proof.Launch.lean ====
/- The launch: what every device is given for the kernel. -/
module

public import proofs.«01_k».proof.Proof.Region

@[expose] public section

set_option maxRecDepth 65536

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (m : (ℓ : Loc nD τ sig) → Buf (Elt F) ℓ) (ρ : Dev nD → PrngReg)

/-- A family over a disjoint union. -/
theorem cup {I : Type} [DecidableEq I] {s t : Finset I} (h : Disjoint s t) {Φ : I → sProp (MT nD τ sig Unit (Elt F) ℕ UU ℕ)} :
    bigSep (s ∪ t) Φ = iprop(bigSep s Φ ∗ bigSep t Φ) := BI.bigSep_union h

/-! ## The cells and the tokens -/

theorem reg_dma {a : Sem sig} {b : DmaSem sig} {c d : Dev nD} (h : (((c : Thread nD τ), SemLoc.reg a) : GSem nD τ sig) = ((d : Thread nD τ), SemLoc.dma b)) : False := by
  have h' : SemLoc.reg a = SemLoc.dma b := congrArg (fun g : GSem nD τ sig => g.2) h
  cases h'
def barEmb : Dev nD ↪ GSem nD τ sig := ⟨fun c => bc c, fun _ _ h => congrArg (fun g : GSem nD τ sig => g.1.1) h⟩
def keptEmb : Dev nD ↪ GSem nD τ sig := ⟨fun c => kc c, fun _ _ h => congrArg (fun g : GSem nD τ sig => g.1.1) h⟩
theorem uc_inj {c d : Dev nD} {p q : Fin 4 × Fin 4} (h : uc c p.1 p.2 = uc d q.1 q.2) : c = d ∧ p = q := by
  have h1 : c = d := congrArg (fun g : GSem nD τ sig => g.1.1) h
  subst h1
  exact ⟨rfl, usem_inj c p q (SemLoc.dma.inj (congrArg Prod.snd h))⟩
def usedCells : Dev nD × (Fin 4 × Fin 4) ↪ GSem nD τ sig :=
  ⟨fun p => uc p.1 p.2.1 p.2.2, fun _ _ h => Prod.ext (uc_inj h).1 (uc_inj h).2⟩

/-- The barrier cells, the kept half's cells and the transfers' cells. -/
abbrev barCells : Finset (GSem nD τ sig) := Finset.univ.map barEmb
abbrev keptCells : Finset (GSem nD τ sig) := Finset.univ.map keptEmb
abbrev dmaCells : Finset (GSem nD τ sig) := Finset.univ.map usedCells
abbrev scCells : Finset (GSem nD τ sig) := dmaCells ∪ keptCells

theorem disj_dk : Disjoint (dmaCells : Finset (GSem nD τ sig)) keptCells := by
  rw [Finset.disjoint_left]
  rintro g h₁ h₂
  obtain ⟨p, -, rfl⟩ := Finset.mem_map.mp h₁
  obtain ⟨c, -, h⟩ := Finset.mem_map.mp h₂
  exact usem_ne_ksem _ _ _ (SemLoc.dma.inj (congrArg Prod.snd h).symm)
theorem disj_bs : Disjoint (barCells : Finset (GSem nD τ sig)) scCells := by
  rw [Finset.disjoint_left]
  rintro g h₁ h₂
  obtain ⟨c, -, rfl⟩ := Finset.mem_map.mp h₁
  rcases Finset.mem_union.mp h₂ with h | h
  · obtain ⟨p, -, h⟩ := Finset.mem_map.mp h
    exact reg_dma (h.symm : bc c = uc p.1 p.2.1 p.2.2)
  · obtain ⟨p, -, h⟩ := Finset.mem_map.mp h
    exact reg_dma (h.symm : bc c = kc p)

/-- The tokens of every duty: two at a barrier cell, one at each other cell. -/
def barTok : Dev nD × Bool ↪ GSem nD τ sig × ℕ × Bool :=
  ⟨fun p => (bc p.1, 0, p.2), fun _ _ h => Prod.ext (congrArg (fun t : GSem nD τ sig × ℕ × Bool => t.1.1.1) h) (congrArg (fun t : GSem nD τ sig × ℕ × Bool => t.2.2) h)⟩
def cellTok : GSem nD τ sig ↪ GSem nD τ sig × ℕ × Bool := ⟨fun g => (g, 0, false), fun _ _ h => congrArg Prod.fst h⟩
def talkToks : Finset (GSem nD τ sig × ℕ × Bool) := (Finset.univ.map barTok) ∪ (scCells.map cellTok)

theorem disj_tok : Disjoint ((Finset.univ : Finset (Dev nD × Bool)).map barTok) (scCells.map cellTok) := by
  rw [Finset.disjoint_left]
  rintro t h₁ h₂
  obtain ⟨p, -, rfl⟩ := Finset.mem_map.mp h₁
  obtain ⟨g, hg, h⟩ := Finset.mem_map.mp h₂
  have hg' : g = bc p.1 := congrArg Prod.fst h
  subst hg'
  exact Finset.disjoint_left.mp disj_bs (Finset.mem_map_of_mem barEmb (Finset.mem_univ p.1)) hg

def ypE : Dev nD ≃ Dev nD := ⟨yp, yp, yp_yp, yp_yp⟩
def xpE : Dev nD ≃ Dev nD := ⟨xp, xp, xp_xp, xp_xp⟩

/-- The launch element of the ghost state. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- A resource placed on one device. -/
def atDev (c₀ : Dev nD) (X : sProp (MT nD τ sig Unit (Elt F) ℕ UU ℕ)) (c : Dev nD) : sProp 𝕄 := if c = c₀ then X else iprop(emp)
theorem atDev_all (c₀ : Dev nD) (X : sProp (MT nD τ sig Unit (Elt F) ℕ UU ℕ)) : bigSep Finset.univ (atDev c₀ X) = X := by
  rw [bigSep_univ_at _ c₀, bigSep_congr (s := Finset.univ.erase c₀) (Ψ := fun _ => (BI.emp : sProp 𝕄))
      fun c hc => by unfold atDev; rw [if_neg (Finset.ne_of_mem_erase hc)]; rfl, BI.bigSep_emp_const]
  unfold atDev; rw [if_pos rfl]
  exact BI.equiv_iff.mp sep_emp

/-- The protocol's share of it, kept at the first device until the devices divide it. -/
def G : Dev nD → sProp 𝕄 := atDev 0 (BI.own (ER (launchOf barCells scCells talkToks)))

section
variable (Zf Of : Dev nD → Vec F S2560x8x128 .f32)

/-- The invariants of all cells, read off the launch's. -/
theorem inv_of (κ : GSem nD τ sig → ℕ) : (bigSep (barCells ∪ scCells) fun g => (cellInv ER (Rd Zf Of) (κ g) g : sProp 𝕄)) ⊢ Invs Zf Of κ := by
  rw [cup disj_bs, cup disj_dk, BI.bigSep_map, BI.bigSep_map, BI.bigSep_map]
  unfold Invs
  iintro ⟨Hb, Hu, Hk⟩
  isplitl [Hu]; · iexact Hu
  isplitl [Hk]; · iexact Hk
  iexact Hb

theorem barR_of : (bigSep barCells fun g => (reached ER g 0 : sProp 𝕄)) ⊢ barR := by
  rw [BI.bigSep_map]; exact BIBase.Entails.of_eq rfl
end

theorem open_of : (bigSep scCells fun g => (openTok ER g : sProp 𝕄)) ⊢ bigSep Finset.univ fun c : Dev nD => openT c := by
  rw [cup disj_dk, BI.bigSep_map, BI.bigSep_map, bigSep_univ_prod]
  unfold openT
  iintro ⟨Hu, Hk⟩
  iapply fam_pair
  isplitl [Hu]; · iexact Hu
  iexact Hk

theorem bigBool (Φ : Bool → sProp (MT nD τ sig Unit (Elt F) ℕ UU ℕ)) : bigSep Finset.univ Φ = iprop(Φ false ∗ Φ true) :=
  bigSep_univ_eq_bigSepL [false, true] (by decide) (by decide) Φ

/-- The tokens, kind by kind. -/
theorem toks_eq : (bigSep talkToks fun x => (dutyTok ER x.1 x.2.1 x.2.2 : sProp 𝕄))
    = iprop((bigSep Finset.univ fun c : Dev nD => bigSep Finset.univ fun b : Bool => dutyTok ER (bc c) 0 b)
      ∗ (bigSep Finset.univ fun c : Dev nD => bigSep Finset.univ fun p : Fin 4 × Fin 4 => dutyTok ER (uc c p.1 p.2) 0 false)
      ∗ bigSep Finset.univ fun c : Dev nD => dutyTok ER (kc c) 0 false) := by
  unfold talkToks
  rw [cup disj_tok, BI.bigSep_map, BI.bigSep_map, cup disj_dk, BI.bigSep_map, BI.bigSep_map, bigSep_univ_prod, bigSep_univ_prod]
  rfl
/-- The tokens, each with the device that pays the duty. -/
theorem toks_of : (bigSep talkToks fun x => (dutyTok ER x.1 x.2.1 x.2.2 : sProp 𝕄)) ⊢ bigSep Finset.univ fun c : Dev nD => payT c := by
  rw [toks_eq, BI.bigSep_congr (fun (c : Dev nD) _ => big16 (F := F) fun p => dutyTok ER (uc c p.1 p.2) 0 false),
    BI.bigSep_congr (fun (c : Dev nD) _ => bigBool (F := F) fun b => dutyTok ER (bc c) 0 b)]
  unfold payT
  iintro ⟨Hb, Hu, Hk⟩
  ihave Hb' := fam_unpair $$ Hb; icases Hb' with ⟨Hf, Ht⟩
  ihave Hu' := fam_unpair $$ Hu; icases Hu' with ⟨H0, Hu⟩
  ihave Hu' := fam_unpair $$ Hu; icases Hu' with ⟨H1, Hu⟩
  ihave Hu' := fam_unpair $$ Hu; icases Hu' with ⟨H2, H3⟩
  iapply fam_pair; isplitl [Hf]
  · iapply (BIBase.Entails.of_eq (bigSep_univ_equiv ypE (fun c : Dev nD => (dutyTok ER (bc c) 0 false : sProp 𝕄)))); iexact Hf
  iapply fam_pair; isplitl [Ht]
  · iapply (BIBase.Entails.of_eq (bigSep_univ_equiv xpE (fun c : Dev nD => (dutyTok ER (bc c) 0 true : sProp 𝕄)))); iexact Ht
  iapply fam_pair; isplitl [Hk]; · iexact Hk
  iapply fam_pair; isplitl [H0]; · iexact H0
  iapply fam_pair; isplitl [H1]
  · iapply (BIBase.Entails.of_eq (bigSep_univ_equiv ypE (fun c : Dev nD => bigSep (Finset.univ : Finset (Fin 4)) fun j => (dutyTok ER (uc c 1 j) 0 false : sProp 𝕄)))); iexact H1
  iapply fam_pair; isplitl [H2]; · iexact H2
  iapply (BIBase.Entails.of_eq (bigSep_univ_equiv xpE (fun c : Dev nD => bigSep (Finset.univ : Finset (Fin 4)) fun j => (dutyTok ER (uc c 3 j) 0 false : sProp 𝕄)))); iexact H3

/-! ## The launch credit -/

theorem dev_eq {a b : Dev nD} {s t : SemLoc sig} (h : (((a : Thread nD τ), s) : GSem nD τ sig) = ((b : Thread nD τ), t)) : a = b :=
  congrArg (fun g : GSem nD τ sig => g.1.1) h

/-- What a family of four transfers into device `e` owes at a transfer's cell. -/
theorem fam_owed (e c : Dev nD) (a b j : Fin 4) :
    (∑ i ∈ ge 0, tallyAt (uc e a i) () NC : CellTallies nD τ sig Unit) (uc c b j) () = if c = e ∧ b = a then NC else 0 := by
  rw [ge_zero, Finset.sum_apply, Finsupp.finset_sum_apply]
  rw [Finset.sum_congr rfl fun i _ => tallyAt_apply (uc e a i) () NC (uc c b j) ()]
  by_cases h : c = e ∧ b = a
  · obtain ⟨rfl, rfl⟩ := h
    rw [if_pos ⟨rfl, rfl⟩, Finset.sum_eq_single j]
    · rw [if_pos ⟨rfl, rfl⟩]
    · intro i _ hi
      rw [if_neg]
      rintro ⟨h, -⟩
      exact hi (congrArg Prod.snd (uc_inj (p := (b, j)) (q := (b, i)) h).2).symm
    · intro h; exact absurd (Finset.mem_univ _) h
  · rw [if_neg h]
    refine Finset.sum_eq_zero fun i _ => if_neg ?_
    rintro ⟨h', -⟩
    have := uc_inj (p := (b, j)) (q := (a, i)) h'
    exact h ⟨this.1, congrArg Prod.fst this.2⟩

theorem owed_u (d c : Dev nD) (b j : Fin 4) :
    O₀ d (uc c b j) () = (if c = yp d ∧ b = 1 then NC else 0) + (if c = xp d ∧ b = 3 then NC else 0) := by
  unfold O₀ Due
  simp only [Pi.add_apply, Finsupp.add_apply, fam_owed]
  rw [tallyAt_ne_cell (fun h => reg_dma h.symm), tallyAt_ne_cell (fun h => reg_dma h.symm)]
  rfl

theorem Due_reg (d c : Dev nD) (k l : ℕ) : Due d k l (bc c) () = 0 := by
  by_contra h
  rcases Due_pos (Nat.pos_of_ne_zero h) with ⟨-, j, h⟩ | ⟨j, h⟩
  · exact reg_dma h
  · exact reg_dma h

theorem bc_iff (a b : Dev nD) : (bc a = bc b ∧ () = ()) ↔ a = b := ⟨fun h => dev_eq h.1, fun h => ⟨congrArg bc h, rfl⟩⟩

theorem owed_b (d c : Dev nD) : O₀ d (bc c) () = (if c = xp d then 1 else 0) + (if c = yp d then 1 else 0) := by
  unfold O₀
  rw [Pi.add_apply, Finsupp.add_apply, Pi.add_apply, Finsupp.add_apply, Due_reg, Nat.zero_add, tallyAt_apply, tallyAt_apply]
  exact congrArg₂ (· + ·) (if_congr (bc_iff c (xp d)) rfl rfl) (if_congr (bc_iff c (yp d)) rfl rfl)

theorem sum_b : ∀ c : Dev nD, ∑ d : Dev nD, ((if c = xp d then 1 else 0) + (if c = yp d then 1 else 0)) = 2 := by decide
theorem one_y : ∀ c : Dev nD, ∀ d : Dev nD, (c = yp d) ↔ (d = yp c) := by decide
theorem one_x : ∀ c : Dev nD, ∀ d : Dev nD, (c = xp d) ↔ (d = xp c) := by decide

theorem credit_b (c : Dev nD) : tallyOn (bc c) (launchCredit (Pipeline.owing O₀) 0 (bc c)) = (tallyAt (bc c) () 2 : CellTallies nD τ sig Unit) := by
  unfold tallyAt; refine congrArg _ (Finsupp.ext fun u => ?_); cases u
  rw [Pipeline.launchCredit_owing, Finsupp.single_eq_same, Finset.sum_congr rfl fun d _ => owed_b d c, sum_b]

theorem credit_1 (c : Dev nD) (j : Fin 4) : tallyOn (uc c 1 j) (launchCredit (Pipeline.owing O₀) 0 (uc c 1 j)) = (tallyAt (uc c 1 j) () NC : CellTallies nD τ sig Unit) := by
  unfold tallyAt; refine congrArg _ (Finsupp.ext fun u => ?_); cases u
  rw [Pipeline.launchCredit_owing, Finsupp.single_eq_same, Finset.sum_congr rfl fun d _ => owed_u d c 1 j,
    Finset.sum_congr rfl fun d _ => show _ = if d = yp c then NC else 0 by
      rw [if_neg (fun h : c = xp d ∧ (1 : Fin 4) = 3 => absurd h.2 (by decide)), Nat.add_zero]
      exact if_congr ((and_iff_left rfl).trans (one_y c d)) rfl rfl,
    Finset.sum_ite_eq' Finset.univ (yp c) fun _ => NC, if_pos (Finset.mem_univ _)]

theorem credit_3 (c : Dev nD) (j : Fin 4) : tallyOn (uc c 3 j) (launchCredit (Pipeline.owing O₀) 0 (uc c 3 j)) = (tallyAt (uc c 3 j) () NC : CellTallies nD τ sig Unit) := by
  unfold tallyAt; refine congrArg _ (Finsupp.ext fun u => ?_); cases u
  rw [Pipeline.launchCredit_owing, Finsupp.single_eq_same, Finset.sum_congr rfl fun d _ => owed_u d c 3 j,
    Finset.sum_congr rfl fun d _ => show _ = if d = xp c then NC else 0 by
      rw [if_neg (fun h : c = yp d ∧ (3 : Fin 4) = 1 => absurd h.2 (by decide)), Nat.zero_add]
      exact if_congr ((and_iff_left rfl).trans (one_x c d)) rfl rfl,
    Finset.sum_ite_eq' Finset.univ (xp c) fun _ => NC, if_pos (Finset.mem_univ _)]

/-- The semaphores of one kind of transfer. -/
def kindEmb (c : Dev nD) (a : Fin 4) : Fin 4 ↪ SemLoc sig :=
  ⟨fun j => .dma (usem c a j), fun i j h => congrArg Prod.snd (usem_inj c (a, i) (a, j) (SemLoc.dma.inj h))⟩

theorem creds (c : Dev nD) : (Pipeline.launchCred O₀ c : sProp 𝕄) ⊢ credT c := by
  have hd : Disjoint ((Finset.univ : Finset (Fin 4)).map (kindEmb c 1)) (Finset.univ.map (kindEmb c 3)) := by
    rw [Finset.disjoint_left]
    rintro s h₁ h₂
    obtain ⟨i, -, rfl⟩ := Finset.mem_map.mp h₁
    obtain ⟨j, -, h⟩ := Finset.mem_map.mp h₂
    exact absurd (congrArg Prod.fst (usem_inj c (3, j) (1, i) (SemLoc.dma.inj h))) (by decide : ¬ (3 : Fin 4) = 1)
  have hs : (Finset.univ : Finset (Fin 4)).map (kindEmb c 1) ∪ Finset.univ.map (kindEmb c 3) ⊆ Finset.univ.erase (SemLoc.reg barS) := by
    intro s hs
    refine Finset.mem_erase.mpr ⟨?_, Finset.mem_univ _⟩
    rcases Finset.mem_union.mp hs with h | h <;>
    · obtain ⟨i, -, rfl⟩ := Finset.mem_map.mp h
      exact fun h => reg_dma (congrArg (Prod.mk (c : Thread nD τ)) h).symm
  unfold Pipeline.launchCred credT
  rw [bigSep_univ_at _ (SemLoc.reg barS), credit_b]
  refine sep_mono_right ((BI.bigSep_subset hs).trans ?_)
  rw [cup hd, BI.bigSep_map, BI.bigSep_map,
    BI.bigSep_congr (fun (j : Fin 4) _ => congrArg cred (credit_1 c j).symm),
    BI.bigSep_congr (fun (j : Fin 4) _ => congrArg cred (credit_3 c j).symm)]
  exact BI.Entails.refl _

end Cert.KernelIdeal.Talk
-- ==== Proof.Run.lean ====
/- The run of the whole program. -/
module

public import proofs.«01_k».proof.Proof.Launch

@[expose] public section

set_option maxRecDepth 65536

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## The segments of the program -/

/-- What rides along the host's operations before the kernel, and after it. -/
abbrev R₀ (c : Dev nD) : sProp 𝕄 := iprop(Tk (Z m) (O m) c ∗ (∃ r, prngReg c r) ∗ ∃ W, owes (c : Thread nD τ) (O₀ c) W)
abbrev R₁ (c : Dev nD) : sProp 𝕄 := iprop(Yk c ∗ (∃ r, prngReg c r) ∗ ∃ W, owes (c : Thread nD τ) (0 : CellTallies nD τ sig Unit) W)

/-- The buffers' contents along the program. -/
abbrev A0 (c : Dev nD) : Valuation τ sig (Elt F) := fun b => m (c, b)
abbrev A1 (c : Dev nD) : Valuation τ sig (Elt F) := StableHlo.after hostOps0 (A0 m c)
abbrev A2 (c : Dev nD) : Valuation τ sig (Elt F) := StableHlo.after hostOps0_1 (A1 m c)
abbrev Wc (c : Dev nD) : Valuation τ sig (Elt F) := StableHlo.after hostOps1 (Wb m c)

theorem V0_eq (c : Dev nD) : V0 m c = StableHlo.after hostOps0_2 (A2 m c) := by
  unfold V0
  simp only [List.flatten_cons, List.flatten_nil, List.append_nil, StableHlo.after_append]

theorem in_uc {ops : List (HloOp τ sig (Elt F))} (h : ops.Forall fun op => op.bufs ⊆ StableHlo.tcRefs τ sig) : ∀ op ∈ ops, op.bufs ⊆ Pipeline.ucRefs τ sig :=
  fun op ho => Pipeline.sub_ucRefs op (List.forall_iff_forall_mem.mp h op ho)

local notation "ℍ" => Pipeline.HostSeg (Name := ℕ) (U := UU) (pcfgs (F := F)) defs₀ 𝒱₀ L lv

def seg0 : ℍ := Pipeline.HostSeg.ofOps (pcfgs (F := F)) defs₀ 𝒱₀ L lv (Pipeline.ucRefs τ sig) hostOps0 (in_uc hostOps0_sub) (List.forall_iff_forall_mem.mp hostOps0_fresh) (A0 m) (R₀ m)
def seg1 : ℍ := Pipeline.HostSeg.ofOps (pcfgs (F := F)) defs₀ 𝒱₀ L lv (Pipeline.ucRefs τ sig) hostOps0_1 (in_uc hostOps0_1_sub) (List.forall_iff_forall_mem.mp hostOps0_1_fresh) (A1 m) (R₀ m)
def seg2 : ℍ := Pipeline.HostSeg.ofOps (pcfgs (F := F)) defs₀ 𝒱₀ L lv (Pipeline.ucRefs τ sig) hostOps0_2 (in_uc hostOps0_2_sub) (List.forall_iff_forall_mem.mp hostOps0_2_fresh) (A2 m) (R₀ m)
def seg3 : ℍ := Pipeline.HostSeg.ofOps (pcfgs (F := F)) defs₀ 𝒱₀ L lv (Pipeline.ucRefs τ sig) hostOps1 (in_uc hostOps1_sub) (List.forall_iff_forall_mem.mp hostOps1_fresh) (Wb m) R₁

/-- The program as its segments. -/
def segs (hh : Half m) : List (Pipeline.Seg (pcfgs (F := F)) adm (pdats m) () defs₀ 𝒱₀ L lv) :=
  [.host (seg0 m), .host (seg1 m), .host (seg2 m), .region (reg0 m hh), .host (seg3 m)]

theorem main_eq (hh : Half m) (c : Dev nD) : main (F := F) c = Pipeline.Seg.run (segs m hh) := by
  rw [main_chain, Pipeline.Seg.run_eq_chain]; rfl

theorem held_cut (c : Dev nD) (W : Valuation τ sig (Elt F)) : (StableHlo.held (c.tc : Thread nD τ) (Pipeline.ucRefs τ sig) W : sProp 𝕄)
    = iprop(StableHlo.held (c.tc : Thread nD τ) (Pipeline.arrRefs (τ := τ) spec0) W ∗ StableHlo.held (c.tc : Thread nD τ) Sr W) :=
  StableHlo.held_sub_split (c.tc : Thread nD τ) (by decide : Pipeline.arrRefs (τ := τ) spec0 ⊆ Pipeline.ucRefs τ sig) W

theorem reg_pre (hh : Half m) (c : Dev nD) : iprop(StableHlo.held (c.tc : Thread nD τ) (Pipeline.ucRefs τ sig) (StableHlo.after hostOps0_2 (A2 m c)) ∗ R₀ m c) ⊢ (reg0 m hh).pre c := by
  show _ ⊢ iprop(StableHlo.held (c.tc : Thread nD τ) (Pipeline.arrRefs (τ := τ) spec0) (V0 m c) ∗ (∃ r, prngReg c r)
    ∗ (StableHlo.held (c.tc : Thread nD τ) Sr (V0 m c) ∗ emp) ∗ Tk (Z m) (O m) c ∗ ∃ Wd, owes (c : Thread nD τ) (0 + O₀ c) Wd)
  rw [← V0_eq, held_cut, zero_add]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (hh : Half m) (c : Dev nD) : (reg0 m hh).post c ⊢ iprop(StableHlo.held (c.tc : Thread nD τ) (Pipeline.ucRefs τ sig) (Wb m c) ∗ R₁ c) := by
  show iprop(StableHlo.held (c.tc : Thread nD τ) (Pipeline.arrRefs (τ := τ) spec0) (Wb m c) ∗ (∃ r, prngReg c r)
    ∗ (StableHlo.held (c.tc : Thread nD τ) Sr (Wb m c) ∗ emp) ∗ Yk c ∗ ∃ Wd, owes (c : Thread nD τ) (0 : CellTallies nD τ sig Unit) Wd) ⊢ _
  rw [held_cut]
  iintro ⟨Ha, Hp, ⟨Hr, -⟩, HY, HO⟩
  isplitl [Ha Hr]; · isplitl [Ha] <;> iassumption
  isplitl [HY]; · iexact HY
  isplitl [Hp]; · iexact Hp
  iexact HO

/-! ## The start -/

abbrev T₀ (c : Dev nD) : sProp 𝕄 := iprop(StableHlo.held (c.tc : Thread nD τ) (Pipeline.ucRefs τ sig) (A0 m c) ∗ R₀ m c)
abbrev Tₙ (c : Dev nD) : sProp 𝕄 := iprop(StableHlo.held (c.tc : Thread nD τ) (Pipeline.ucRefs τ sig) (Wc m c) ∗ semVal (bc c) 0)

theorem sems_eq (c : Dev nD) : (unscopedSems0 c : sProp 𝕄) = semVal (bc c) 0 := by
  unfold unscopedSems0
  rw [show (Finset.univ.filter fun sm : SemLoc sig => ¬ sm.isScoped .tc) = {SemLoc.reg barS} from by decide, BI.bigSep_singleton]

/-- What of a core's launch holdings is not the protocol's ghost state. -/
def bundle (c : Dev nD) : sProp 𝕄 :=
  iprop(StableHlo.held (c.tc : Thread nD τ) (Pipeline.ucRefs τ sig) (A0 m c) ∗ credT c ∗ owes (c : Thread nD τ) (O₀ c) ∅ ∗ ∃ r, prngReg c r)

def records (κ : GSem nD τ sig → ℕ) : sProp 𝕄 := iprop(Invs (Z m) (O m) κ ∗ barR)
instance records_persistent (κ : GSem nD τ sig → ℕ) : BI.Persistent (records m κ) := by unfold records; infer_instance

theorem T₀_of (κ : GSem nD τ sig → ℕ) (c : Dev nD) : iprop(records m κ ∗ ((atPos ER (bc c) 0 ∅ 0 ∗ openT c ∗ payT c) ∗ bundle m c)) ⊢ T₀ m c := by
  unfold bundle records T₀ R₀ Tk
  iintro ⟨⟨#HI, #HR⟩, ⟨Hat, Ho, Ht⟩, Hh, Hc, HO, Hp⟩
  isplitl [Hh]; · iexact Hh
  isplitl [Hat Ho Ht Hc]
  · isplitr [Hc]
    · iexists κ
      isplitr; · iexact HI
      isplitr; · iexact HR
      isplitl [Ho]; · iexact Ho
      isplitl [Ht]; · iexact Ht
      iexact Hat
    iexact Hc
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (bc c) 0 ∗ G c)) : sProp 𝕄) := by
    have hc := creds (F := F) c
    rw [show unscopedBufs c (fun b => m ((c : Thread nD τ).loc b)) = StableHlo.held (c.tc : Thread nD τ) (Pipeline.ucRefs τ sig) (A0 m c) from Pipeline.unscopedBufs_held c (A0 m c),
      sems_eq]
    unfold bundle
    iintro ⟨Hh, Hus, HO, Hcr, Hp, HG⟩
    ihave Hc := hc $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (bc c) 0 : sProp 𝕄)) ⊢ bigSep barCells (fun g => (semVal g 0 : sProp 𝕄)) :=
    BIBase.Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bc c) 0 ∅ 0 : sProp 𝕄)) :=
    BIBase.Entails.of_eq (BI.bigSep_map (s := Finset.univ) barEmb (Φ := fun g : GSem nD τ sig => (atPos ER g 0 ∅ 0 : sProp 𝕄)))
  have hall := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (bc c) 0 ∗ G c)) : sProp 𝕄) from BI.bigSep_mono fun c _ => hcore c)
  have hG : bigSep Finset.univ (G (F := F)) ⊢ BI.own (ER (launchOf barCells scCells talkToks)) :=
    BIBase.Entails.of_eq (atDev_all (F := F) 0 (BI.own (ER (launchOf barCells scCells talkToks))))
  have hI := fun κ => inv_of (Z m) (O m) κ
  have hR := barR_of (F := F)
  have hO := open_of (F := F)
  have hT := toks_of (F := F)
  iintro ⟨H, -⟩
  ihave H' := hall $$ H
  ihave H2 := fam_unpair $$ H'; icases H2 with ⟨HB, H3⟩
  ihave H4 := fam_unpair $$ H3; icases H4 with ⟨Hv, HG⟩
  ihave Hu := hG $$ HG
  imod (Rounds.fund_launch ER (Rd (Z m) (O m)) disj_bs (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop((atPos ER (bc c) 0 ∅ 0 ∗ openT c ∗ payT c) ∗ bundle m c)) fun c _ => T₀_of m κ c)
  isplitr
  · unfold records
    isplitr; · iapply (hI κ); iexact Hinv
    iapply hR; iexact Hr
  iapply fam_pair
  isplitr [HB]
  · iapply fam_pair; isplitl [Hat]; · iapply hat $$ Hat
    iapply fam_pair; isplitl [Hopen]; · iapply hO $$ Hopen
    iapply hT $$ Htok
  · iexact HB

theorem unscoped_eq : ∀ sm : SemLoc sig, sm.isScoped .tc = false → sm = .reg barS := by decide

/-- The three buffers read at the end. -/
abbrev Rs : Finset (DevRef τ sig) := {Proc.devRef .tc main_arg0, Proc.devRef .tc main_arg1, Proc.devRef .tc main_v11}
theorem Rs_sub : Rs ⊆ Pipeline.ucRefs τ sig := by decide
theorem heldRs (c : Dev nD) (W : Valuation τ sig (Elt F)) : (StableHlo.held (c.tc : Thread nD τ) Rs W : sProp 𝕄)
    = iprop(((c : Thread nD τ).loc main_arg0 ↦{fullShare} W (Proc.devRef .tc main_arg0)) ∗ ((c : Thread nD τ).loc main_arg1 ↦{fullShare} W (Proc.devRef .tc main_arg1))
      ∗ ((c : Thread nD τ).loc main_v11 ↦{fullShare} W (Proc.devRef .tc main_v11))) := by
  unfold StableHlo.held
  rw [bigSep_eq_bigSepL_of_eq [Proc.devRef .tc main_arg0, Proc.devRef .tc main_arg1, Proc.devRef .tc main_v11] (by decide) (by decide)]
  rfl

theorem keep (c : Dev nD) (b : Ref sig .tc) (h1 : b ≠ main_v11) (h0 : b ≠ main_v10) : Wc m c (Proc.devRef .tc b) = V m c b := by
  show StableHlo.after hostOps1 (Wb m c) (Proc.devRef .tc b) = _
  rw [StableHlo.after_of_forall_not_mem (b := Proc.devRef .tc b) _ _ (List.forall_iff_forall_mem.mp (by
    simp only [hostOps1, List.Forall, StableHlo.reshape_writes, Finset.mem_singleton]
    exact StableHlo.devRef_ne_of_ne h1))]
  exact Function.update_of_ne (StableHlo.devRef_ne_of_ne h0) _ _
theorem keep0 (c : Dev nD) : Wc m c (Proc.devRef .tc main_arg0) = m ((c : Thread nD τ).loc main_arg0) :=
  (keep m c main_arg0 (by decide) (by decide)).trans (V_main_arg0 m c)
theorem keep1 (c : Dev nD) : Wc m c (Proc.devRef .tc main_arg1) = m ((c : Thread nD τ).loc main_arg1) :=
  (keep m c main_arg1 (by decide) (by decide)).trans (V_main_arg1 m c)

set_option backward.isDefEq.respectTransparency.types false in
/-- The run: every weakly fair execution terminates, the arguments as they were, the result as the last host operation leaves it, every semaphore at zero. -/
theorem run_main (hh : Half m) [∀ e, Nonempty (Elt F e)] : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v11) = Wc m c (Proc.devRef .tc main_v11)) ∧ r.2.sem = fun _ => 0) :=
  Pipeline.θ_run_regions_kit_sems (pcfgs (F := F)) adm (pdats m) () cellOf_inj EP defs₀ 𝒱₀ L lv m ρ main (segs m hh)
    (fun c Q => by rw [main_eq m hh c])
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [atDev_all]; iexact HX)
    (T₀ := T₀ m) (Tₙ := Tₙ m)
    (hch := by
      refine ⟨fun c => BIBase.Entails.rfl, fun c => BIBase.Entails.rfl, fun c => BIBase.Entails.rfl, fun c => reg_pre m hh c, fun c => reg_post m hh c, fun c => ?_⟩
      show iprop(StableHlo.held (c.tc : Thread nD τ) (Pipeline.ucRefs τ sig) (Wc m c) ∗ R₁ c)
        ⊢ iprop(Tₙ m c ∗ ∃ W, owes (c : Thread nD τ) (0 : CellTallies nD τ sig Unit) W)
      iintro ⟨Hh, Hb0, -, HO⟩
      isplitr [HO]
      · isplitl [Hh] <;> iassumption
      · iexact HO)
    (hinit := init m ρ)
    (QY := fun c s => (s.mem ((c : Thread nD τ).loc main_arg0) = Wc m c (Proc.devRef .tc main_arg0) ∧ s.mem ((c : Thread nD τ).loc main_arg1) = Wc m c (Proc.devRef .tc main_arg1)
      ∧ s.mem ((c : Thread nD τ).loc main_v11) = Wc m c (Proc.devRef .tc main_v11)) ∧ s.sem (bc c) = 0)
    (hfin := fun c s' => by
      dsimp only [Tₙ]; rw [StableHlo.held_sub_split (c.tc : Thread nD τ) Rs_sub (Wc m c), heldRs]
      iintro ⟨⟨⟨⟨Hx, Hy, Hz⟩, -⟩, Hb0⟩, HSI⟩
      icombine HSI Hx gives %hx
      icombine HSI Hy gives %hy
      icombine HSI Hz gives %hz
      icombine HSI Hb0 gives %hb
      imodintro
      isplitr
      · ipureintro
        exact ⟨⟨Buf.eq_of_forall_mem_univ hx, Buf.eq_of_forall_mem_univ hy, Buf.eq_of_forall_mem_univ hz⟩, by simpa using hb⟩
      iexact HSI)
    (hQ := fun s h hs => ⟨fun c => by
        obtain ⟨⟨hx, hy, hz⟩, -⟩ := h c
        exact ⟨hx.trans (keep0 m c), hy.trans (keep1 m c), hz⟩,
      sem_eq_zero hs fun c sm hsm => by
        obtain rfl := unscoped_eq sm hsm
        exact (h c).2⟩)

end Cert.KernelIdeal.Talk
-- ==== Proof.Vals.lean ====
/- What the host's lines leave in the kernel's operands, read off the destinations. -/
module

public import proofs.«01_k».proof.Proof.Run
public import Idealize.ShloMosaic.Lib.StableHlo.RunRead
public import Idealize.ShloMosaic.Lib.Pipeline.ValueKit

@[expose] public section

set_option maxRecDepth 65536

noncomputable section

namespace Cert.KernelIdeal.Talk

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (m : (ℓ : Loc nD τ sig) → Buf (Elt F) ℓ)

/-- A device's destinations: one where a row goes to the first shard, zero elsewhere. -/
def ind (d : IVec S4096 32) : IVec S4096 32 :=
  extui 32 (cmpi .eq d (broadcastInDim S4096 ![] bcast_S_S4096 (constantI S_ 32 0#32))) natLt_1_32

/-- How many rows go to the first shard. -/
def cnt (d : IVec S4096 32) : IVec S_ 32 := Host.reduce IntOp.addi (ind d) (constantI S_ 32 0#32) reducesTo_S4096_S_d0 h_S_

/-- How many rows go to the first shard, up to each row. -/
def cum (d : IVec S4096 32) : IVec S4096 32 :=
  Host.reduceWindow IntOp.addi ![4096] ![1] ![4095] ![0] (ind d) (broadcastInDim S_ ![] bcast_S_S_ (constantI S_ 32 0#32)) reduceWindows_S4096_S4096_w4096s1p4095_0 h_S_

/-- A device's destinations as launched. -/
abbrev dst (c : Dev nD) : IVec S4096 32 := m ((c : Thread nD τ).loc main_arg1)

theorem V_v5 (c : Dev nD) : V m c main_v5 = (shapeCast S1 (cnt (dst m c)) shapeCasts_S_S1 : IVec S1 32) := by
  unfold V V0
  simp only [List.flatten_cons, List.flatten_nil, List.append_nil]
  after_reads_simp
  rfl

theorem V_v9 (c : Dev nD) : V m c main_v9 = (shapeCast S1x4096 (ind (dst m c)) shapeCasts_S4096_S1x4096 : IVec S1x4096 32) := by
  unfold V V0
  simp only [List.flatten_cons, List.flatten_nil, List.append_nil]
  after_reads_simp
  rfl

theorem V_v8 (c : Dev nD) : V m c main_v8 = (shapeCast S1x4096 (subi (cum (dst m c)) (ind (dst m c))) shapeCasts_S4096_S1x4096 : IVec S1x4096 32) := by
  unfold V V0
  simp only [List.flatten_cons, List.flatten_nil, List.append_nil, StableHlo.TRef.nullary, StableHlo.TRef.unary, StableHlo.TRef.binary, StableHlo.TRef.toBuf, StableHlo.TRef.ofBuf, cast_eq]
  after_reads_simp
  unfold cum ind
  simp only [StableHlo.TRef.toBuf, StableHlo.TRef.ofBuf, cast_eq]
  rfl

/-- Reading a rectangle of a buffer that holds `x`. -/
theorem acc_unread {sp : Space} {sh : Shape} {e : EltTy} {M : Memref sig .tc sp sh e} (h : M.IsWhole) (x : sh.Idx → Elt F e) (r : Rect sh) (j : r.shape.Idx) :
    (M.access r).read (Elt F) (h.unread x) j = x (r.emb j) :=
  congrFun (h.read_unread x) (r.emb j)

theorem idx0 : win0_0.index t0_0 = ![0] := by decide
theorem idx1 : win0_1.index t0_0 = ![0, 0] := by decide
theorem idx2 : win0_2.index t0_0 = ![0, 0] := by decide
theorem idx3 : win0_3.index t0_0 = ![0, 0] := by decide

theorem blk_0 (c : Dev nD) (j : S1.Idx) : iblk m c 0 t0_0 j = V m c main_v5 j := by
  unfold iblk
  show V m c main_v5 (((cfg0.win 0).blk t0_0).view.emb j) = _
  refine congrArg _ ?_
  blk_ext [idx0]

theorem blk_1 (c : Dev nD) (j : S4096x1024.Idx) : iblk m c 1 t0_0 j = V m c main_arg0 j := by
  unfold iblk
  show V m c main_arg0 (((cfg0.win 1).blk t0_0).view.emb j) = _
  refine congrArg _ ?_
  blk_ext [idx1]

theorem blk_2 (c : Dev nD) (j : S1x4096.Idx) : iblk m c 2 t0_0 j = V m c main_v9 j := by
  unfold iblk
  show V m c main_v9 (((cfg0.win 2).blk t0_0).view.emb j) = _
  refine congrArg _ ?_
  blk_ext [idx2]

theorem blk_3 (c : Dev nD) (j : S1x4096.Idx) : iblk m c 3 t0_0 j = V m c main_v8 j := by
  unfold iblk
  show V m c main_v8 (((cfg0.win 3).blk t0_0).view.emb j) = _
  refine congrArg _ ?_
  blk_ext [idx3]

theorem word_eq (c : Dev nD) : ∃ j, word0 (c := c) (st0_0 t0_0) (w0 m c) = V m c main_v5 j := by
  unfold word0
  exact ⟨_, (acc_unread sw0 _ _ _).trans (blk_0 m c _)⟩

/-- The count the kernel reads is the count of the destinations. -/
theorem half_of (h : ∀ c, cnt (dst m c) = fun _ => 2048#32) : Half m := fun c => by
  obtain ⟨j, hj⟩ := word_eq m c
  rw [hj, V_v5, h c]; rfl

/-- A rectangle of the rows the kernel reads is that rectangle of the rows as launched. -/
theorem rd1_eq (c : Dev nD) (r : Rect S4096x1024) (j : r.shape.Idx) :
    rd1 (c := c) (st0_1 t0_0) (w1 m c) r j = m ((c : Thread nD τ).loc main_arg0) (r.emb j) :=
  (acc_unread sw1 _ _ _).trans ((blk_1 m c _).trans (congrFun (V_main_arg0 m c) _))

theorem rd2_eq (c : Dev nD) (r : Rect S1x4096) (j : r.shape.Idx) :
    rd2 (c := c) (st0_2 t0_0) (w2 m c) r j = (shapeCast S1x4096 (ind (dst m c)) shapeCasts_S4096_S1x4096 : IVec S1x4096 32) (r.emb j) :=
  (acc_unread sw2 _ _ _).trans ((blk_2 m c _).trans (congrFun (V_v9 m c) _))

theorem rd3_eq (c : Dev nD) (r : Rect S1x4096) (j : r.shape.Idx) :
    rd2 (c := c) (st0_3 t0_0) (w3 m c) r j = (shapeCast S1x4096 (subi (cum (dst m c)) (ind (dst m c))) shapeCasts_S4096_S1x4096 : IVec S1x4096 32) (r.emb j) :=
  (acc_unread sw3 _ _ _).trans ((blk_3 m c _).trans (congrFun (V_v8 m c) _))

end Cert.KernelIdeal.Talk
-- ==== Proof.Frames.lean ====
/- The frames of the three programs, from the kernel's run. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Vals

@[expose] public section

set_option maxRecDepth 65536
set_option maxHeartbeats 2000000

noncomputable section

namespace Cert.Frames

open Idealize.ShloMosaic Idealize.ShloMosaic.TcCoe Idealize.SL.Sem
open Cert.KernelIdeal (nD τ sig main_arg0 main_arg1 S_ S4096)
open Cert.KernelIdeal.Talk (cnt dst run_main half_of)

/-- The facts `half` states. -/
instance half_facts : Cert.Pre_half.Facts where
  bcast_S_S4096 := by decide
  natLt_1_32 := by decide
  reducesTo_S4096_S_d0 := by decide
  h_S_ := by decide

variable {F : FTy → Type} [FloatOps F]

/-- `half` says that 2048 rows go to the first shard. -/
theorem cnt_of_half (x : FVec F Cert.Pre_half.S4096x1024 .f32) (d : IVec S4096 32) (h : Cert.Pre_half.fn (F := F) x d = fun _ => 1#1) :
    cnt d = fun _ => 2048#32 := by
  funext i
  have h' := congrFun h i
  change cmpi .eq (cnt d) (constantI S_ 32 2048#32) i = 1#1 at h'
  by_contra hn
  have : cmpi .eq (cnt d) (constantI S_ 32 2048#32) i = 0#1 := by
    unfold cmpi IntOp.cmpi constantI
    rw [beq_eq_false_iff_ne.mpr hn]; rfl
  rw [this] at h'
  exact absurd h' (by decide)

/-- The run of the kernel under the count, at any floats: the arguments end unchanged and every counter at zero. -/
theorem frame_any [∀ e, Nonempty (Elt F e)] (m : (ℓ : Loc nD τ sig) → Buf (Elt F) ℓ) (ρ : Dev nD → PrngReg) (h : ∀ c, cnt (dst m c) = fun _ => 2048#32) :
    θ_run (Cert.KernelIdeal.defs (F := F)) (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun _ h => ⟨fun c => ⟨(h.1 c).1, (h.1 c).2.1⟩, h.2⟩) (run_main m ρ (half_of m h))

/-- The kernel's body table and its idealization's are one, at the bits. -/
theorem bodies_same : Cert.Kernel.defs₀ (F := Bits) = Cert.KernelIdeal.defs₀ (F := Bits) := by
  funext p l a
  match p, l, a with
  | .tc, ⟨0, _⟩, (t, s) => exact rfl
  | .tc, ⟨n + 1, h⟩, _ => exact absurd h (by omega)
  | .scScalar _, _, _ => exact rfl
  | .scVector _ _, _, _ => exact rfl

theorem defs_same : Cert.Kernel.defs (F := Bits) = Cert.KernelIdeal.defs (F := Bits) := by
  unfold Cert.Kernel.defs Cert.KernelIdeal.defs
  rw [bodies_same]
  rfl

theorem main_same : Cert.Kernel.main (F := Bits) = Cert.KernelIdeal.main (F := Bits) := rfl

theorem frame_kernel : Cert.quiescent_Kernel := fun m ρ hp => by
  have h := frame_any (F := Bits) m ρ fun c => cnt_of_half _ _ (hp c)
  rw [← defs_same, ← main_same] at h
  exact h

theorem frame_kernelIdeal : Cert.quiescent_KernelIdeal := fun m ρ hp => frame_any (F := Ideal) m ρ fun c => cnt_of_half _ _ (hp c)

theorem frame_referenceIdeal : Cert.quiescent_ReferenceIdeal := fun m ρ _ =>
  (θ_run Cert.ReferenceIdeal.defs _ _).mono (fun r h => ⟨fun c => (h c).2, funext fun s => nomatch s.2⟩)
    (Cert.ReferenceIdeal.Value.run (F := Ideal) m ρ)

end Cert.Frames
-- ==== Proof.Count.lean ====
/- The destinations of a block, counted. -/
module

public import proofs.«01_k».proof.Proof.Vals
public import Idealize.ShloMosaic.Lib.Routing.Ops
public import Idealize.ShloMosaic.Lib.Routing.Count
public import Idealize.ShloMosaic.Lib.Affine

@[expose] public section

set_option maxRecDepth 65536

noncomputable section

namespace Cert.KernelIdeal.Talk

open Idealize.ShloMosaic hiding ix1
open Idealize.ShloMosaic.TcCoe Cert.KernelIdeal.Gen Idealize.ShloMosaic.Routing
open Idealize.ShloMosaic.ValueIdx

/-- Row `k` of a block has the destination `v`. -/
def goes (v : BitVec 32) (d : IVec S4096 32) (k : ℕ) : Bool := if h : k < 4096 then decide (d (ix1 ⟨k, h⟩) = v) else false

/-- How many of a block's first `n` rows have the destination `v`. -/
def upto (v : BitVec 32) (d : IVec S4096 32) (n : ℕ) : ℕ := Nat.count (fun k => goes v d k = true) n

theorem goes_iff (v : BitVec 32) (d : IVec S4096 32) (k : Fin 4096) : goes v d k.val = true ↔ d (ix1 k) = v := by
  unfold goes; rw [dif_pos k.isLt, decide_eq_true_eq]

theorem upto_le (v : BitVec 32) (d : IVec S4096 32) (n : ℕ) : upto v d n ≤ n := Nat.count_le _

theorem upto_succ (v : BitVec 32) (d : IVec S4096 32) (n : ℕ) : upto v d (n + 1) = upto v d n + if goes v d n = true then 1 else 0 := Nat.count_succ _ _

theorem ind_at (d : IVec S4096 32) (k : Fin 4096) : ind d (ix1 k) = BitVec.ofNat 32 (if goes 0#32 d k.val = true then 1 else 0) := by
  show (IntOp.cmpi .eq (d (ix1 k)) 0#32).setWidth 32 = _
  by_cases h : goes 0#32 d k.val = true
  · rw [if_pos h, IntOp.cmpi_eq.mpr ((goes_iff _ _ _).mp h)]; rfl
  · rw [if_neg h]
    have hn : IntOp.cmpi .eq (d (ix1 k)) 0#32 = 0#1 := by
      unfold IntOp.cmpi; rw [beq_eq_false_iff_ne.mpr fun e => h ((goes_iff _ _ _).mpr e)]; rfl
    rw [hn]; rfl

theorem sum_goes (v : BitVec 32) (d : IVec S4096 32) (n : ℕ) : ((List.range n).map fun k => if goes v d k = true then 1 else 0).sum = upto v d n := sum_map_ite _ n

/-- The count a block's host lines take is the number of its rows for the first shard. -/
theorem cnt_at (d : IVec S4096 32) (i : S_.Idx) : cnt d i = BitVec.ofNat 32 (upto 0#32 d 4096) := by
  rw [eq_ix0 i]
  unfold cnt
  rw [reduce_sum (N := 4096) (ind d) (fun k => if goes 0#32 d k = true then 1 else 0) (fun k => ind_at d k), sum_goes]

theorem cum_at (d : IVec S4096 32) (k : Fin 4096) : cum d (ix1 k) = BitVec.ofNat 32 (upto 0#32 d (k.val + 1)) := by
  unfold cum
  rw [cumsum1 (N := 4096) (Nm1 := 4095) rfl (ind d) (fun k => if goes 0#32 d k = true then 1 else 0) (fun k => ind_at d k) _ rfl, sum_goes]

/-- The running count less the row's own indicator: the rows before it for the first shard. -/
theorem before_at (d : IVec S4096 32) (k : Fin 4096) : subi (cum d) (ind d) (ix1 k) = BitVec.ofNat 32 (upto 0#32 d k.val) := by
  show cum d (ix1 k) - ind d (ix1 k) = _
  rw [cum_at, ind_at, upto_succ]
  apply BitVec.eq_of_toNat_eq
  have := upto_le 0#32 d k.val
  have := k.isLt
  split <;> simp only [BitVec.toNat_sub, BitVec.toNat_ofNat] <;> omega

/-- The first row of the window the block of 512 with rank `r` reads. -/
def lo (r : ℕ) : ℕ := if r < 512 then 0 else if r < 1024 then 768 else if r < 1536 then 1792 else 2560

/-- A block whose rows go to two shards, 2048 rows each, every row inside the window of its rank. -/
structure Routed (d : IVec S4096 32) : Prop where
  bin : ∀ k : Fin 4096, d (ix1 k) = 0#32 ∨ d (ix1 k) = 1#32
  half : upto 0#32 d 4096 = 2048
  low : ∀ k : Fin 4096, lo (if goes 0#32 d k.val = true then upto 0#32 d k.val else k.val - upto 0#32 d k.val) ≤ k.val
  high : ∀ k : Fin 4096, k.val < lo (if goes 0#32 d k.val = true then upto 0#32 d k.val else k.val - upto 0#32 d k.val) + 1536

theorem goes_xor {d : IVec S4096 32} (h : Routed d) {k : ℕ} (hk : k < 4096) : goes 1#32 d k = true ↔ ¬ goes 0#32 d k = true := by
  have h0 := goes_iff 0#32 d ⟨k, hk⟩
  have h1 := goes_iff 1#32 d ⟨k, hk⟩
  rw [show goes 1#32 d k = true ↔ _ from h1, show goes 0#32 d k = true ↔ _ from h0]
  rcases h.bin ⟨k, hk⟩ with e | e <;> rw [e] <;> decide

theorem upto_add {d : IVec S4096 32} (h : Routed d) : ∀ n, n ≤ 4096 → upto 0#32 d n + upto 1#32 d n = n
  | 0, _ => by unfold upto; simp
  | n + 1, hn => by
    have ih := upto_add h n (by omega)
    have hx := goes_xor h (k := n) (by omega)
    rw [upto_succ, upto_succ]
    by_cases h0 : goes 0#32 d n = true
    · rw [if_pos h0, if_neg (fun h1 => hx.mp h1 h0)]; omega
    · rw [if_neg h0, if_pos (hx.mpr h0)]; omega

/-- Every row lies inside the window of its rank among the rows of its own destination. -/
theorem window {d : IVec S4096 32} (h : Routed d) {v : BitVec 32} (hv : v = 0#32 ∨ v = 1#32) {k : ℕ} (hk : k < 4096) (hg : goes v d k = true) :
    lo (upto v d k) ≤ k ∧ k < lo (upto v d k) + 1536 := by
  have hl := h.low ⟨k, hk⟩
  have hh := h.high ⟨k, hk⟩
  simp only at hl hh
  rcases hv with rfl | rfl
  · rw [if_pos hg] at hl hh; exact ⟨hl, hh⟩
  · have := upto_add h k (by omega)
    rw [if_neg ((goes_xor h hk).mp hg), show k - upto 0#32 d k = upto 1#32 d k by omega] at hl hh
    exact ⟨hl, hh⟩

theorem upto_all {d : IVec S4096 32} (h : Routed d) {v : BitVec 32} (hv : v = 0#32 ∨ v = 1#32) : upto v d 4096 = 2048 := by
  have := h.half
  rcases hv with rfl | rfl
  · exact this
  · have := upto_add h 4096 le_rfl; omega

/-- A count above `r` has a member with `r` members before it. -/
theorem exists_below (v : BitVec 32) (d : IVec S4096 32) {r : ℕ} : ∀ n, r < upto v d n → ∃ k, k < n ∧ goes v d k = true ∧ upto v d k = r
  | 0, h => by unfold upto at h; simp at h
  | n + 1, h => by
    by_cases hr : r < upto v d n
    · obtain ⟨k, hk, hg⟩ := exists_below v d n hr
      exact ⟨k, by omega, hg⟩
    · rw [upto_succ] at h
      by_cases hg : goes v d n = true
      · rw [if_pos hg] at h; exact ⟨n, by omega, hg, by omega⟩
      · rw [if_neg hg] at h; omega

/-- The row of rank `r` among those with the destination `v`. -/
theorem exists_row {d : IVec S4096 32} (h : Routed d) {v : BitVec 32} (hv : v = 0#32 ∨ v = 1#32) {r : ℕ} (hr : r < 2048) :
    ∃ k, k < 4096 ∧ goes v d k = true ∧ upto v d k = r := exists_below v d 4096 (by rw [upto_all h hv]; exact hr)

/-- No two rows of one destination have one rank. -/
theorem row_unique {v : BitVec 32} {d : IVec S4096 32} {j k : ℕ} (hj : goes v d j = true) (hk : goes v d k = true) (e : upto v d j = upto v d k) : j = k :=
  Nat.count_injective hj hk e

end Cert.KernelIdeal.Talk
-- ==== Proof.Decode.lean ====
/- The second precondition, read over the natural numbers. -/
module

public import proofs.«01_k».proof.Proof.Count
public import proofs.«01_k».proof.Pre_routed_KernelIdeal

@[expose] public section

set_option maxRecDepth 65536

noncomputable section

namespace Cert.KernelIdeal.Talk

open Idealize.ShloMosaic hiding ix1
open Idealize.ShloMosaic.TcCoe Cert.KernelIdeal.Gen Idealize.ShloMosaic.Routing
open Idealize.ShloMosaic.ValueIdx

/-- The facts `routed` states. -/
instance routed_facts : Cert.Pre_routed_KernelIdeal.Facts where
  bcast_S_S4096 := by decide
  natLt_1_32 := by decide
  bcast_S_S_ := by decide
  reduceWindows_S4096_S4096_w4096s1p4095_0 := reduceWindows_S4096_S4096_w4096s1p4095_0
  h_S_ := by decide
  reducesTo_S4096_S_d0 := by decide

/-- A row's rank among the rows of its destination, as a word. -/
def rankW (d : IVec S4096 32) (i : S4096.Idx) : BitVec 32 :=
  Scalar.select (IntOp.cmpi .eq (d i) 0#32) (subi (cum d) (ind d) i) (iotaInDim S4096 32 0 i - subi (cum d) (ind d) i)

/-- The first row of the window of a rank, as a word. -/
def loW (r : BitVec 32) : BitVec 32 :=
  Scalar.select (IntOp.cmpi .slt r 512#32) 0#32 (Scalar.select (IntOp.cmpi .slt r 1024#32) 768#32 (Scalar.select (IntOp.cmpi .slt r 1536#32) 1792#32 2560#32))

/-- Whether half of a block's rows go to the first shard, at every row. -/
def halfW (d : IVec S4096 32) : IVec S4096 1 := broadcastInDim S4096 ![] bcast_S_S4096 (cmpi .eq (cnt d) (constantI S_ 32 2048#32))

theorem scalar_at {α : Type} (x : S_.Idx → α) (i : S4096.Idx) : ∃ j : S_.Idx, broadcastInDim S4096 ![] bcast_S_S4096 x i = x j := ⟨_, rfl⟩

theorem halfW_at (d : IVec S4096 32) (i : S4096.Idx) : ∃ j : S_.Idx, halfW d i = IntOp.cmpi .eq (cnt d j) 2048#32 :=
  scalar_at (cmpi .eq (cnt d) (constantI S_ 32 2048#32)) i

/-- The precondition at one row. -/
theorem routed_at {F : FTy → Type} [FloatOps F] (x : FVec F Cert.Pre_routed_KernelIdeal.S4096x1024 .f32) (d : IVec S4096 32) (i : S4096.Idx) :
    Cert.Pre_routed_KernelIdeal.fn (F := F) x d i
      = IntOp.andi (IntOp.andi (IntOp.andi (IntOp.ori (IntOp.cmpi .eq (d i) 0#32) (IntOp.cmpi .eq (d i) 1#32)) (halfW d i))
          (IntOp.cmpi .sle (loW (rankW d i)) (iotaInDim S4096 32 0 i)))
        (IntOp.cmpi .slt (iotaInDim S4096 32 0 i) (loW (rankW d i) + 1536#32)) := by
  unfold Cert.Pre_routed_KernelIdeal.fn Cert.Pre_routed_KernelIdeal.fn_part1 Cert.Pre_routed_KernelIdeal.fn_part2
    Cert.Pre_routed_KernelIdeal.fn_where_2 Cert.Pre_routed_KernelIdeal.fn_where_1 Cert.Pre_routed_KernelIdeal.fn_where
    Cert.Pre_routed_KernelIdeal.fn_cumsum Cert.Pre_routed_KernelIdeal.fn_cumsum_0
  unfold loW rankW halfW cum cnt ind
  rfl

theorem select_one {α : Type} {b : BitVec 1} (h : b = 1#1) (x y : α) : Scalar.select b x y = x := by subst h; rfl

theorem select_not {α : Type} {b : BitVec 1} (h : ¬ b = 1#1) (x y : α) : Scalar.select b x y = y := by
  have : b = 0#1 := by revert h; revert b; decide
  subst this; rfl

theorem ori_one {a b : BitVec 1} : IntOp.ori a b = 1#1 ↔ a = 1#1 ∨ b = 1#1 := by revert a b; decide

theorem toInt_small {n : ℕ} (h : n < 2 ^ 31) : (BitVec.ofNat 32 n).toInt = (n : ℤ) := StableHlo.Predicate.toInt_ofNat_small _ h

theorem slt_small {a b : ℕ} (ha : a < 2 ^ 31) (hb : b < 2 ^ 31) : IntOp.cmpi .slt (BitVec.ofNat 32 a) (BitVec.ofNat 32 b) = 1#1 ↔ a < b := by
  rw [IntOp.cmpi_slt, toInt_small ha, toInt_small hb]; omega

theorem sle_small {a b : ℕ} (ha : a < 2 ^ 31) (hb : b < 2 ^ 31) : IntOp.cmpi .sle (BitVec.ofNat 32 a) (BitVec.ofNat 32 b) = 1#1 ↔ a ≤ b := by
  rw [IntOp.cmpi_sle, toInt_small ha, toInt_small hb]; omega

theorem loW_small {r : ℕ} (h : r < 2 ^ 31) : loW (BitVec.ofNat 32 r) = BitVec.ofNat 32 (lo r) := by
  unfold loW lo
  have h1 := slt_small h (b := 512) (by decide)
  have h2 := slt_small h (b := 1024) (by decide)
  have h3 := slt_small h (b := 1536) (by decide)
  by_cases c1 : r < 512
  · rw [select_one (h1.mpr c1), if_pos c1]
  · rw [select_not (fun e => c1 (h1.mp e)), if_neg c1]
    by_cases c2 : r < 1024
    · rw [select_one (h2.mpr c2), if_pos c2]
    · rw [select_not (fun e => c2 (h2.mp e)), if_neg c2]
      by_cases c3 : r < 1536
      · rw [select_one (h3.mpr c3), if_pos c3]
      · rw [select_not (fun e => c3 (h3.mp e)), if_neg c3]

theorem lo_le (r : ℕ) : lo r ≤ 2560 := by unfold lo; split_ifs <;> omega

theorem rankW_at (d : IVec S4096 32) (k : Fin 4096) :
    rankW d (ix1 k) = BitVec.ofNat 32 (if goes 0#32 d k.val = true then upto 0#32 d k.val else k.val - upto 0#32 d k.val) := by
  unfold rankW
  rw [before_at]
  have hg := goes_iff 0#32 d k
  by_cases h : goes 0#32 d k.val = true
  · rw [if_pos h, select_one (IntOp.cmpi_eq.mpr (hg.mp h))]
  · rw [if_neg h, select_not (fun e => h (hg.mpr (IntOp.cmpi_eq.mp e)))]
    show BitVec.ofNat 32 k.val - _ = _
    have := upto_le 0#32 d k.val
    have := k.isLt
    apply BitVec.eq_of_toNat_eq
    simp only [BitVec.toNat_sub, BitVec.toNat_ofNat]
    omega

/-- What `routed` says of a block, over the natural numbers. -/
theorem routed_of {F : FTy → Type} [FloatOps F] (x : FVec F Cert.Pre_routed_KernelIdeal.S4096x1024 .f32) (d : IVec S4096 32)
    (h : Cert.Pre_routed_KernelIdeal.fn (F := F) x d = fun _ => 1#1) : Routed d := by
  have hk : ∀ k : Fin 4096, (d (ix1 k) = 0#32 ∨ d (ix1 k) = 1#32) ∧ BitVec.ofNat 32 (upto 0#32 d 4096) = 2048#32
      ∧ lo (if goes 0#32 d k.val = true then upto 0#32 d k.val else k.val - upto 0#32 d k.val) ≤ k.val
      ∧ k.val < lo (if goes 0#32 d k.val = true then upto 0#32 d k.val else k.val - upto 0#32 d k.val) + 1536 := by
    intro k
    have hj := routed_at (F := F) x d (ix1 k)
    obtain ⟨j, he⟩ := halfW_at d (ix1 k)
    rw [h, he] at hj
    have hj := hj.symm
    rw [IntOp.andi_eq_one, IntOp.andi_eq_one, IntOp.andi_eq_one, ori_one, IntOp.cmpi_eq, IntOp.cmpi_eq, IntOp.cmpi_eq, cnt_at, rankW_at] at hj
    have hb : (if goes 0#32 d k.val = true then upto 0#32 d k.val else k.val - upto 0#32 d k.val) < 2 ^ 31 := by
      have := upto_le 0#32 d k.val
      have := k.isLt
      split_ifs <;> omega
    have hl := lo_le (if goes 0#32 d k.val = true then upto 0#32 d k.val else k.val - upto 0#32 d k.val)
    have hk := k.isLt
    rw [loW_small hb, show iotaInDim S4096 32 0 (ix1 k) = BitVec.ofNat 32 k.val from rfl, sle_small (by omega) (by omega),
      show (1536#32 : BitVec 32) = BitVec.ofNat 32 1536 from rfl, ← BitVec.ofNat_add, slt_small (by omega) (by omega)] at hj
    exact ⟨hj.1.1.1, hj.1.1.2, hj.1.2, hj.2⟩
  have hc := (hk ⟨0, by decide⟩).2.1
  have hle := upto_le 0#32 d 4096
  have hc' := congrArg BitVec.toNat hc
  rw [BitVec.toNat_ofNat, Nat.mod_eq_of_lt (by omega)] at hc'
  exact ⟨fun k => (hk k).1, hc', fun k => (hk k).2.2.1, fun k => (hk k).2.2.2⟩

/-- A routed block sends half of its rows to the first shard. -/
theorem cnt_of_routed {d : IVec S4096 32} (h : Routed d) : cnt d = fun _ => 2048#32 := by
  funext i
  rw [cnt_at, h.half]

end Cert.KernelIdeal.Talk
-- ==== Proof.OneHot.lean ====
/- A block of a scratch buffer at an element: a one-hot row times the window. -/
module

public import proofs.«01_k».proof.Proof.Decode
public import proofs.«01_k».proof.Proof.Pack
public import Idealize.ShloMosaic.Lib.MatmulPlain
public import Idealize.ShloMosaic.Lib.IdealHost

@[expose] public section

set_option maxRecDepth 65536

noncomputable section

namespace Cert.KernelIdeal.Talk

open Idealize.ShloMosaic hiding ix1 ix2
open Idealize.ShloMosaic.TcCoe Cert.KernelIdeal.Gen Idealize.ShloMosaic.Routing
open Idealize.ShloMosaic.ValueIdx

/-- A row of a product with a one-hot left factor: the row the one lies at. -/
theorem dot_oneHot (B : IVec S512x1536 1) (a : FVec Ideal S1536x1024 .f32) (i : Fin 512) (j : Fin 1024) (k : Fin 1536)
    (hk : B (ix2 i k) = 1#1) (hn : ∀ q : Fin 1536, q ≠ k → ¬ B (ix2 i q) = 1#1) :
    k0_pay17 (F := Ideal) (k0_pay1 a) B (ix2 i j) = a (ix2 k j) := by
  unfold k0_pay17 k0_pay1
  rw [shapeCast_self]
  simp only [matmul]
  rw [show dot_S512x1536_S1536x1024_S512x1024_1_0_0_1_n_n = DotDims.plain 512 1536 1024 from rfl]
  refine (Ideal.matmul_plain_apply none _ _ _ i j).trans ?_
  rw [show (constant (F := Ideal) S512x1024 .f32 0x00000000#32 : FVec Ideal S512x1024 .f32) (ix2 i j) = Ideal.ofBits .f32 0x00000000#32 from rfl,
    Ideal.ofBits_zero_f32, zero_add, Finset.sum_eq_single k]
  · show (Scalar.select (B (ix2 i k)) (Ideal.ofBits .f32 0x3F800000#32) (Ideal.ofBits .f32 0x00000000#32) : EReal) * (a (ix2 k j) : EReal) = _
    rw [select_one hk, Ideal.ofBits_one_f32, one_mul]
  · intro q _ hq
    show (Scalar.select (B (ix2 i q)) (Ideal.ofBits .f32 0x3F800000#32) (Ideal.ofBits .f32 0x00000000#32) : EReal) * (a (ix2 q j) : EReal) = _
    rw [select_not (hn q hq), Ideal.ofBits_zero_f32, zero_mul]
  · intro h; exact absurd (Finset.mem_univ k) h

theorem row_at {α : Type} (x : S1x1536.Idx → α) (i : Fin 512) (k : Fin 1536) : broadcastTo S512x1536 x broadcasts_S1x1536_S512x1536 (ix2 i k) = x (ix2 0 k) :=
  broadcastTo_apply _ _ _ _ (fun a => match a with | ⟨0, _⟩ => rfl | ⟨1, _⟩ => rfl)

theorem col_at {α : Type} (x : S512x1.Idx → α) (i : Fin 512) (k : Fin 1536) : broadcastTo S512x1536 x broadcasts_S512x1_S512x1536 (ix2 i k) = x (ix2 i 0) :=
  broadcastTo_apply _ _ _ _ (fun a => match a with | ⟨0, _⟩ => rfl | ⟨1, _⟩ => rfl)

/-- The mask a block of the first scratch buffer is built from. -/
def zMask (base : BitVec 32) (z r : IVec S1x1536 32) : IVec S512x1536 1 :=
  andi (broadcastTo S512x1536 (cmpi .eq (k0_pay2 (F := Ideal) z) (broadcast S1x1536 1#32)) broadcasts_S1x1536_S512x1536)
    (cmpi .eq (broadcastTo S512x1536 (k0_pay3 (F := Ideal) r) broadcasts_S1x1536_S512x1536)
      (broadcastTo S512x1536 (k0_pay6 (iota .tc S512x1 32 [0] iota_S512x1_d0_w32) (broadcast S512x1 base)) broadcasts_S512x1_S512x1536))

theorem zMask_at (base : BitVec 32) (z r : IVec S1x1536 32) (i : Fin 512) (k : Fin 1536) :
    zMask base z r (ix2 i k) = 1#1 ↔ z (ix2 0 k) = 1#32 ∧ r (ix2 0 k) = BitVec.ofNat 32 i.val + base := by
  unfold zMask k0_pay2 k0_pay3 k0_pay6
  rw [shapeCast_self, shapeCast_self]
  show IntOp.andi (broadcastTo S512x1536 _ _ (ix2 i k)) (IntOp.cmpi .eq (broadcastTo S512x1536 _ _ (ix2 i k)) (broadcastTo S512x1536 _ _ (ix2 i k))) = 1#1 ↔ _
  rw [row_at, row_at, col_at, IntOp.andi_eq_one, IntOp.cmpi_eq]
  show IntOp.cmpi .eq (z (ix2 0 k)) 1#32 = 1#1 ∧ _ ↔ _
  rw [IntOp.cmpi_eq]
  show _ ∧ r (ix2 0 k) = iota .tc S512x1 32 [0] iota_S512x1_d0_w32 (ix2 i 0) + base ↔ _
  rw [iota_single_apply]

theorem zBlk_mask (base : BitVec 32) (a : FVec Ideal S1536x1024 .f32) (z r : IVec S1x1536 32) :
    zBlk (F := Ideal) base a z r = k0_pay17 (F := Ideal) (k0_pay1 a) (zMask base z r) := by
  unfold zBlk zMask k0_pay8 k0_pay17; rfl

/-- The mask a block of the second scratch buffer is built from. -/
def oMask (base start : BitVec 32) (z r : IVec S1x1536 32) : IVec S512x1536 1 :=
  k0_pay7 (k0_pay2 (F := Ideal) z) (k0_pay3 (F := Ideal) r) (addi (iota .tc S1x1536 32 [1] iota_S1x1536_d1_w32) (broadcast S1x1536 start))
    (iota .tc S512x1 32 [0] iota_S512x1_d0_w32) (broadcast S512x1 base)

theorem oMask_at (base start : BitVec 32) (z r : IVec S1x1536 32) (i : Fin 512) (k : Fin 1536) :
    oMask base start z r (ix2 i k) = 1#1 ↔ z (ix2 0 k) = 0#32 ∧ BitVec.ofNat 32 k.val + start - r (ix2 0 k) = BitVec.ofNat 32 i.val + base := by
  unfold oMask k0_pay7 k0_pay2 k0_pay3 k0_pay6
  rw [shapeCast_self, shapeCast_self]
  show IntOp.andi (broadcastTo S512x1536 _ _ (ix2 i k)) (IntOp.cmpi .eq (broadcastTo S512x1536 _ _ (ix2 i k)) (broadcastTo S512x1536 _ _ (ix2 i k))) = 1#1 ↔ _
  rw [row_at, row_at, col_at, IntOp.andi_eq_one, IntOp.cmpi_eq]
  show IntOp.cmpi .eq (z (ix2 0 k)) 0#32 = 1#1 ∧ _ ↔ _
  rw [IntOp.cmpi_eq]
  show _ ∧ iota .tc S1x1536 32 [1] iota_S1x1536_d1_w32 (ix2 0 k) + start - r (ix2 0 k) = iota .tc S512x1 32 [0] iota_S512x1_d0_w32 (ix2 i 0) + base ↔ _
  rw [iota_single_apply, iota_single_apply]

theorem oBlk_mask (base start : BitVec 32) (a : FVec Ideal S1536x1024 .f32) (z r : IVec S1x1536 32) :
    oBlk (F := Ideal) base start a z r = k0_pay17 (F := Ideal) (k0_pay1 a) (oMask base start z r) := by
  unfold oBlk oMask; rfl

end Cert.KernelIdeal.Talk
-- ==== Proof.Rows.lean ====
/- The rows the two scratch buffers hold. -/
module

public import proofs.«01_k».proof.Proof.OneHot

@[expose] public section

set_option maxRecDepth 65536

noncomputable section

namespace Cert.KernelIdeal.Talk

open Idealize.ShloMosaic hiding ix1 ix2 ix3
open Idealize.ShloMosaic.TcCoe Cert.KernelIdeal.Gen Idealize.ShloMosaic.Routing
open Idealize.ShloMosaic.ValueIdx

variable (m : (ℓ : Loc nD τ sig) → Buf (Elt Ideal) ℓ)

theorem winS_lt (b : Fin 5) (q : Fin 1536) : winS b + q.val < 4096 := by
  have := winS_le b; have := q.isLt; omega

theorem emb_I (b : Fin 5) (q : Fin 1536) : (rI b).emb (ix2 (0 : Fin 1) q : S1x1536.Idx) = (ix2 (0 : Fin 1) ⟨winS b + q.val, winS_lt b q⟩ : S1x4096.Idx) := by
  funext a
  apply Fin.ext
  match a with
  | ⟨0, _⟩ => rfl
  | ⟨1, _⟩ => show winS b + 1 * q.val = winS b + q.val; rw [Nat.one_mul]

theorem emb_A (b : Fin 5) (q : Fin 1536) (l : Fin 1024) : (rA b).emb (ix2 q l : S1536x1024.Idx) = (ix2 ⟨winS b + q.val, winS_lt b q⟩ l : S4096x1024.Idx) := by
  funext a
  apply Fin.ext
  match a with
  | ⟨0, _⟩ => show winS b + 1 * q.val = winS b + q.val; rw [Nat.one_mul]
  | ⟨1, _⟩ => show 0 + 1 * l.val = l.val; rw [Nat.one_mul, Nat.zero_add]

theorem flat_at {α : Type} (x : S4096.Idx → α) (k : Fin 4096) : shapeCast S1x4096 x shapeCasts_S4096_S1x4096 (ix2 (0 : Fin 1) k) = x (ix1 k) :=
  shapeCast_apply _ _ _ _ (by
    rw [Shape.rowMajor_val_one, Shape.rowMajor_val_two]
    show k.val = 0 * 4096 + k.val
    omega)

/-- The window of rows block `b` reads. -/
def wA (c : Dev nD) (b : Fin 5) : FVec Ideal S1536x1024 .f32 := rd1 (F := Ideal) (c := c) (st0_1 t0_0) (w1 m c) (rA b)
/-- The window of the indicator block `b` reads. -/
def wI (c : Dev nD) (b : Fin 5) : IVec S1x1536 32 := rd2 (F := Ideal) (c := c) (st0_2 t0_0) (w2 m c) (rI b)
/-- The window of the ranks block `b` reads. -/
def wR (c : Dev nD) (b : Fin 5) : IVec S1x1536 32 := rd2 (F := Ideal) (c := c) (st0_3 t0_0) (w3 m c) (rI b)

/-- The window of the indicator the kernel reads. -/
theorem rdI_at (c : Dev nD) (b : Fin 5) (q : Fin 1536) :
    wI m c b (ix2 (0 : Fin 1) q) = BitVec.ofNat 32 (if goes 0#32 (dst m c) (winS b + q.val) = true then 1 else 0) := by
  refine (rd2_eq m c (rI b) _).trans ?_
  rw [emb_I, flat_at, ind_at]

/-- The window of the ranks the kernel reads. -/
theorem rdR_at (c : Dev nD) (b : Fin 5) (q : Fin 1536) :
    wR m c b (ix2 (0 : Fin 1) q) = BitVec.ofNat 32 (upto 0#32 (dst m c) (winS b + q.val)) := by
  refine (rd3_eq m c (rI b) _).trans ?_
  rw [emb_I, flat_at, before_at]

/-- The window of the rows the kernel reads. -/
theorem rdA_at (c : Dev nD) (b : Fin 5) (q : Fin 1536) (l : Fin 1024) :
    (wA m c b : S1536x1024.Idx → EReal) (ix2 q l)
      = (m ((c : Thread nD τ).loc main_arg0) : S4096x1024.Idx → EReal) (ix2 ⟨winS b + q.val, winS_lt b q⟩ l) := by
  refine (rd1_eq m c (rA b) _).trans ?_
  rw [emb_A]

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem rowW_eq : ∀ b : Fin 5, rowW b = BitVec.ofNat 32 (512 * b.val) := by decide
theorem winW_eq : ∀ b : Fin 5, winW b = BitVec.ofNat 32 (winS b) := by decide
theorem winS_if : ∀ q : Fin 4, winS ⟨q.val, lt_trans q.isLt (by decide)⟩ = if q.val = 0 then 0 else if q.val = 1 then 768 else if q.val = 2 then 1792 else 2560 := by decide
theorem winS_lo {r : ℕ} (hr : r < 2048) : winS ⟨r / 512, by omega⟩ = lo r := by
  have := winS_if ⟨r / 512, by omega⟩
  simp only at this
  rw [this]
  unfold lo
  have : r / 512 < 4 := by omega
  split_ifs <;> omega

/-- The first scratch buffer's row of rank `r` is the row of that rank going to the first shard. -/
theorem Z_row (c : Dev nD) (hd : Routed (dst m c)) {k : ℕ} (hk : k < 4096) (hg : goes 0#32 (dst m c) k = true) (hr : upto 0#32 (dst m c) k < 2048)
    (i : S2560x8x128.Idx) (hi : (i 0).val = upto 0#32 (dst m c) k) (l : Fin 1024) (hl : l.val = 128 * (i 1).val + (i 2).val) :
    (Z m c : S2560x8x128.Idx → EReal) i = (m ((c : Thread nD τ).loc main_arg0) : S4096x1024.Idx → EReal) (ix2 ⟨k, hk⟩ l) := by
  have hw := window hd (Or.inl rfl) hk hg
  obtain ⟨b, hb⟩ : ∃ b : Fin 5, b = ⟨upto 0#32 (dst m c) k / 512, by omega⟩ := ⟨_, rfl⟩
  have hs : winS b = lo (upto 0#32 (dst m c) k) := by rw [hb]; exact winS_lo hr
  have hbv : b.val = upto 0#32 (dst m c) k / 512 := by rw [hb]
  have hq : k - winS b < 1536 := by omega
  have hZ : (Z m c : S2560x8x128.Idx → EReal) i
      = zM (F := Ideal) (c := c) (M1 := st0_1 t0_0) (M2 := st0_2 t0_0) (M3 := st0_3 t0_0) (w1 m c) (w2 m c) (w3 m c) b (ix2 ⟨upto 0#32 (dst m c) k % 512, Nat.mod_lt _ (by decide)⟩ l) := by
    unfold Z packT
    congr 1
    · congr 1; rw [hb]; show (i 0).val / 512 = _; rw [hi]
    · congr 1
      · apply Fin.ext; show (i 0).val % 512 = _; rw [hi]
      · apply Fin.ext; exact hl.symm
  rw [hZ]
  refine (congrFun (zBlk_mask (rowW b) (wA m c b) (wI m c b) (wR m c b)) _).trans ?_
  have hmask : ∀ q : Fin 1536, zMask (rowW b) (wI m c b) (wR m c b)
        (ix2 ⟨upto 0#32 (dst m c) k % 512, Nat.mod_lt _ (by decide)⟩ q) = 1#1
      ↔ goes 0#32 (dst m c) (winS b + q.val) = true ∧ upto 0#32 (dst m c) (winS b + q.val) = upto 0#32 (dst m c) k := by
    intro q
    have h1 := upto_le 0#32 (dst m c) (winS b + q.val)
    have h2 := winS_lt b q
    rw [zMask_at, rdI_at, rdR_at, rowW_eq, ← BitVec.ofNat_add]
    refine and_congr ?_ ((ofNat_inj (by omega) (by simp only; omega)).trans (by simp only; constructor <;> intro h <;> omega))
    split_ifs with h
    · simp [h]
    · simp only [h]; decide
  refine (dot_oneHot _ _ _ l ⟨k - winS b, hq⟩ ((hmask _).mpr ?_) fun q hne he => ?_).trans ?_
  · rw [show winS b + (⟨k - winS b, hq⟩ : Fin 1536).val = k by simp only; omega]; exact ⟨hg, rfl⟩
  · have := (hmask q).mp he
    have := row_unique this.1 hg this.2
    exact hne (Fin.ext (by show q.val = k - winS b; omega))
  · refine (rdA_at m c b _ l).trans (congrArg _ ?_)
    congr 1
    apply Fin.ext
    show winS b + (k - winS b) = k
    omega

/-- The second scratch buffer's row of rank `r` is the row of that rank going to the second shard. -/
theorem O_row (c : Dev nD) (hd : Routed (dst m c)) {k : ℕ} (hk : k < 4096) (hg : goes 1#32 (dst m c) k = true) (hr : upto 1#32 (dst m c) k < 2048)
    (i : S2560x8x128.Idx) (hi : (i 0).val = upto 1#32 (dst m c) k) (l : Fin 1024) (hl : l.val = 128 * (i 1).val + (i 2).val) :
    (O m c : S2560x8x128.Idx → EReal) i = (m ((c : Thread nD τ).loc main_arg0) : S4096x1024.Idx → EReal) (ix2 ⟨k, hk⟩ l) := by
  have hw := window hd (Or.inr rfl) hk hg
  obtain ⟨b, hb⟩ : ∃ b : Fin 5, b = ⟨upto 1#32 (dst m c) k / 512, by omega⟩ := ⟨_, rfl⟩
  have hs : winS b = lo (upto 1#32 (dst m c) k) := by rw [hb]; exact winS_lo hr
  have hbv : b.val = upto 1#32 (dst m c) k / 512 := by rw [hb]
  have hq : k - winS b < 1536 := by omega
  have hO : (O m c : S2560x8x128.Idx → EReal) i
      = oM (F := Ideal) (c := c) (M1 := st0_1 t0_0) (M2 := st0_2 t0_0) (M3 := st0_3 t0_0) (w1 m c) (w2 m c) (w3 m c) b (ix2 ⟨upto 1#32 (dst m c) k % 512, Nat.mod_lt _ (by decide)⟩ l) := by
    unfold O packT
    congr 1
    · congr 1; rw [hb]; show (i 0).val / 512 = _; rw [hi]
    · congr 1
      · apply Fin.ext; show (i 0).val % 512 = _; rw [hi]
      · apply Fin.ext; exact hl.symm
  rw [hO]
  refine (congrFun (oBlk_mask (rowW b) (winW b) (wA m c b) (wI m c b) (wR m c b)) _).trans ?_
  have hmask : ∀ q : Fin 1536, oMask (rowW b) (winW b) (wI m c b) (wR m c b)
        (ix2 ⟨upto 1#32 (dst m c) k % 512, Nat.mod_lt _ (by decide)⟩ q) = 1#1
      ↔ goes 1#32 (dst m c) (winS b + q.val) = true ∧ upto 1#32 (dst m c) (winS b + q.val) = upto 1#32 (dst m c) k := by
    intro q
    have h1 := upto_le 0#32 (dst m c) (winS b + q.val)
    have h2 := winS_lt b q
    have h3 := upto_add hd (winS b + q.val) (by omega)
    have hsub : BitVec.ofNat 32 q.val + BitVec.ofNat 32 (winS b) - BitVec.ofNat 32 (upto 0#32 (dst m c) (winS b + q.val))
        = BitVec.ofNat 32 (upto 1#32 (dst m c) (winS b + q.val)) := by
      apply BitVec.eq_of_toNat_eq
      simp only [BitVec.toNat_sub, BitVec.toNat_add, BitVec.toNat_ofNat]
      omega
    rw [oMask_at, rdI_at, rdR_at, rowW_eq, winW_eq, hsub, ← BitVec.ofNat_add]
    refine and_congr ?_ ((ofNat_inj (by omega) (by simp only; omega)).trans (by simp only; constructor <;> intro h <;> omega))
    rw [goes_xor hd h2]
    split_ifs with h
    · simp only [h]; decide
    · simp [h]
  refine (dot_oneHot _ _ _ l ⟨k - winS b, hq⟩ ((hmask _).mpr ?_) fun q hne he => ?_).trans ?_
  · rw [show winS b + (⟨k - winS b, hq⟩ : Fin 1536).val = k by simp only; omega]; exact ⟨hg, rfl⟩
  · have := (hmask q).mp he
    have := row_unique this.1 hg this.2
    exact hne (Fin.ext (by show q.val = k - winS b; omega))
  · refine (rdA_at m c b _ l).trans (congrArg _ ?_)
    congr 1
    apply Fin.ext
    show winS b + (k - winS b) = k
    omega

end Cert.KernelIdeal.Talk
-- ==== Proof.RefSort.lean ====
/- A stable sort of two destinations, read at a place. -/
module

public import proofs.«01_k».proof.Proof.Decode
public import proofs.«01_k».proof.Proof.Gen.ReferenceIdeal.Run
public import Idealize.ShloMosaic.Lib.PlanTiles.StableSort
public import Idealize.ShloMosaic.Lib.SortFacts
public import Mathlib.Order.Interval.Finset.Fin

@[expose] public section

set_option maxRecDepth 65536

noncomputable section

namespace Cert.KernelIdeal.Talk

open Idealize.ShloMosaic hiding ix1 ix2 ix3
open Idealize.ShloMosaic.TcCoe Cert.KernelIdeal.Gen Idealize.ShloMosaic.Routing
open Idealize.ShloMosaic.ValueIdx

open Cert.ReferenceIdeal (S8192 S8192x1 S8192x1024 comparator_i32_i32_d0)

section Sorted
variable {n : ℕ} (G : Fin n → ℕ)

/-- The order a stable sort by descending `G` leaves: greater `G` first, then the operand's order. -/
def earlier (a b : Fin n) : Prop := G b < G a ∨ (G a = G b ∧ a < b)

instance : DecidableRel (earlier G) := fun a b => by unfold earlier; infer_instance

theorem earlier_lt_iff {i j : Fin n} :
    earlier G (sortedFrom (fun x y => decide (G y < G x)) i) (sortedFrom (fun x y => decide (G y < G x)) j) ↔ i < j := by
  have hp : (sortPositions n fun x y => decide (G y < G x)).Pairwise (earlier G) :=
    PlanTiles.pairwise_stableSort_lex G (· < ·) (List.finRange n) (List.pairwise_lt_finRange n)
  have hm : ∀ i j : Fin n, i < j → earlier G (sortedFrom (fun x y => decide (G y < G x)) i) (sortedFrom (fun x y => decide (G y < G x)) j) := fun i j h =>
    List.pairwise_iff_get.mp hp _ _ (by exact h)
  refine ⟨fun h => ?_, hm i j⟩
  by_contra hn
  rcases Nat.lt_or_eq_of_le (Nat.le_of_not_lt hn) with hl | he
  · have h' := hm j i hl
    rcases h with h | ⟨h1, h2⟩ <;> rcases h' with h' | ⟨h3, h4⟩
    · omega
    · omega
    · omega
    · exact absurd (lt_trans h2 h4) (lt_irrefl _)
  · have : i = j := Fin.ext he.symm
    subst this
    rcases h with h | ⟨_, h⟩
    · omega
    · exact lt_irrefl _ h

/-- The element a stable sort puts at `r` has `r` elements earlier. -/
theorem card_earlier (r : Fin n) :
    (Finset.univ.filter fun k => earlier G k (sortedFrom (fun x y => decide (G y < G x)) r)).card = r.val := by
  have hb : Function.Bijective (sortedFrom (n := n) fun x y => decide (G y < G x)) := ⟨sortedFrom_injective _, sortedFrom_surjective _⟩
  rw [← Fin.card_Iio r]
  symm
  refine Finset.card_bij (fun i _ => sortedFrom (fun x y => decide (G y < G x)) i) (fun i hi => ?_) (fun i _ j _ h => hb.1 h) (fun k hk => ?_)
  · rw [Finset.mem_filter]
    exact ⟨Finset.mem_univ _, (earlier_lt_iff G).mpr (Finset.mem_Iio.mp hi)⟩
  · obtain ⟨i, rfl⟩ := hb.2 k
    exact ⟨i, Finset.mem_Iio.mpr ((earlier_lt_iff G).mp (Finset.mem_filter.mp hk).2), rfl⟩

/-- A stable sort puts an element where as many elements are earlier. -/
theorem sortedFrom_of_card {g r : Fin n} (h : (Finset.univ.filter fun k => earlier G k g).card = r.val) :
    sortedFrom (fun x y => decide (G y < G x)) r = g := by
  obtain ⟨i, rfl⟩ := sortedFrom_surjective (fun x y => decide (G y < G x)) g
  rw [card_earlier] at h
  rw [Fin.ext h]
end Sorted

variable {D : IVec S8192 32} {z : ℕ → Bool}

/-- Numbers counted by "zero, or before `g`". -/
theorem count_or (z : ℕ → Bool) (g t : ℕ) :
    Nat.count (fun k => z k = true ∨ k < g) (g + t) + Nat.count (fun k => z k = true) g = g + Nat.count (fun k => z k = true) (g + t) := by
  rw [Nat.count_add, Nat.count_add (fun k => z k = true)]
  have h1 : Nat.count (fun k => z k = true ∨ k < g) g = g := Nat.count_iff_forall.mpr fun k hk => Or.inr hk
  have h2 : Nat.count (fun k => z (g + k) = true ∨ g + k < g) t = Nat.count (fun k => z (g + k) = true) t :=
    count_congr_of_lt t fun k _ => ⟨fun h => h.elim id fun h => absurd h (by omega), Or.inl⟩
  rw [h1, h2]; omega

theorem count_and (z : ℕ → Bool) (g t : ℕ) :
    Nat.count (fun k => z k = true ∧ k < g) (g + t) = Nat.count (fun k => z k = true) g := by
  rw [Nat.count_add]
  have h1 : Nat.count (fun k => z k = true ∧ k < g) g = Nat.count (fun k => z k = true) g :=
    count_congr_of_lt g fun k hk => ⟨And.left, fun h => ⟨h, hk⟩⟩
  have h2 : Nat.count (fun k => z (g + k) = true ∧ g + k < g) t = 0 := Nat.count_iff_forall_not.mpr fun k _ h => absurd h.2 (by omega)
  rw [h1, h2]; rfl

/-- One key per destination: the first shard's rows sort first. -/
def key (D : IVec S8192 32) (k : Fin 8192) : ℕ := if D (ix1 k) = 0#32 then 1 else 0

theorem before_key (hbin : ∀ k : Fin 8192, D (ix1 k) = 0#32 ∨ D (ix1 k) = 1#32) (a b : Fin 8192) :
    (IntOp.cmpi .slt (D (ix1 a)) (D (ix1 b)) == 1#1) = decide (key D b < key D a) := by
  unfold key
  rcases hbin a with ha | ha <;> rcases hbin b with hb | hb <;> rw [ha, hb] <;> decide

theorem along_ix1 {n : ℕ} (p k : Fin n) : (ix1 p : (shape1 n).Idx).along 0 k = ix1 k := by
  funext a
  match a with
  | ⟨0, _⟩ => rfl

/-- The second operand of a sort of two vectors, read at a place. -/
theorem sort2_second {n : ℕ} {β : Type} (cmp : BitVec 32 × β → BitVec 32 × β → BitVec 1) (x : IVec (shape1 n) 32) (y : (shape1 n).Idx → β) (p : Fin n) :
    (Host.sort2 (shape1 n) 0 cmp x y).2 (ix1 p)
      = y (ix1 (sortedFrom (fun a b : Fin n => cmp (x (ix1 a), y (ix1 a)) (x (ix1 b), y (ix1 b)) == 1#1) p)) := by
  have hd : 0 < (shape1 n).rank := Nat.zero_lt_one
  unfold Host.sort2
  rw [dif_pos hd]
  show y ((ix1 p : (shape1 n).Idx).along 0 (sortedFrom (fun a b : Fin n => cmp (x ((ix1 p : (shape1 n).Idx).along 0 a), y ((ix1 p : (shape1 n).Idx).along 0 a))
    (x ((ix1 p : (shape1 n).Idx).along 0 b), y ((ix1 p : (shape1 n).Idx).along 0 b)) == 1#1) p)) = _
  simp only [along_ix1]
  exact congrArg y (along_ix1 p _)

theorem iota_at1 {n : ℕ} (p : Fin n) : iotaInDim (shape1 n) 32 0 (ix1 p) = BitVec.ofNat 32 p.val := rfl

/-- The sorted positions of the destinations, at an element. -/
theorem argsort_at (hbin : ∀ k : Fin 8192, D (ix1 k) = 0#32 ∨ D (ix1 k) = 1#32) (p : Fin 8192) :
    (Host.sort2 S8192 0 comparator_i32_i32_d0 D (iotaInDim S8192 32 0)).2 (ix1 p) = BitVec.ofNat 32 (sortedFrom (fun x y => decide (key D y < key D x)) p).val := by
  have hb : (fun x y : Fin 8192 => decide (key D y < key D x)) = fun x y => (IntOp.cmpi .slt (D (ix1 x)) (D (ix1 y)) == 1#1) := by
    funext x y; exact (before_key hbin x y).symm
  rw [hb]
  exact (sort2_second comparator_i32_i32_d0 D (iotaInDim S8192 32 0) p).trans (iota_at1 _)

/-- The place of row `g` in the sort: for the first shard, the zeros before it; for the second, the zeros after it as well as all rows before it. -/
theorem place_zero (hz : ∀ k : Fin 8192, D (ix1 k) = 0#32 ↔ z k.val = true) {g p : Fin 8192} (hg : z g.val = true)
    (h : Nat.count (fun k => z k = true) g.val = p.val) : sortedFrom (fun x y => decide (key D y < key D x)) p = g := by
  refine sortedFrom_of_card (key D) ?_
  have e : (Finset.univ.filter fun k : Fin 8192 => earlier (key D) k g) = Finset.univ.filter fun k : Fin 8192 => (fun k : ℕ => z k = true ∧ k < g.val) k.val := by
    refine Finset.filter_congr fun k _ => ?_
    unfold earlier key
    rw [if_pos ((hz g).mpr hg)]
    by_cases hk : D (ix1 k) = 0#32
    · rw [if_pos hk]; have := (hz k).mp hk; simp [this]
    · rw [if_neg hk]; have := mt (hz k).mpr hk; simp [this]
  rw [e, card_filter_fin 8192 (fun k : ℕ => z k = true ∧ k < g.val), ← h]
  have := g.isLt
  have hc := count_and z g.val (8192 - g.val)
  rw [show g.val + (8192 - g.val) = 8192 by omega] at hc
  exact hc

theorem place_one (hz : ∀ k : Fin 8192, D (ix1 k) = 0#32 ↔ z k.val = true) {g p : Fin 8192} (hg : ¬ z g.val = true)
    (h : p.val + Nat.count (fun k => z k = true) g.val = g.val + Nat.count (fun k => z k = true) 8192) : sortedFrom (fun x y => decide (key D y < key D x)) p = g := by
  refine sortedFrom_of_card (key D) ?_
  have e : (Finset.univ.filter fun k : Fin 8192 => earlier (key D) k g) = Finset.univ.filter fun k : Fin 8192 => (fun k : ℕ => z k = true ∨ k < g.val) k.val := by
    refine Finset.filter_congr fun k _ => ?_
    unfold earlier key
    rw [if_neg (mt (hz g).mp hg)]
    by_cases hk : D (ix1 k) = 0#32
    · rw [if_pos hk]; have := (hz k).mp hk; simp [this]
    · rw [if_neg hk]; have := mt (hz k).mpr hk; simp [this]
  rw [e, card_filter_fin 8192 (fun k : ℕ => z k = true ∨ k < g.val)]
  have := g.isLt
  have hc := count_or z g.val (8192 - g.val)
  rw [show g.val + (8192 - g.val) = 8192 by omega] at hc
  omega

end Cert.KernelIdeal.Talk
-- ==== Proof.Place.lean ====
/- Where the reference takes each row of its result from. -/
module

public import proofs.«01_k».proof.Proof.RefSort
public import Idealize.ShloMosaic.Lib.Routing.Ops

@[expose] public section

set_option maxRecDepth 65536

noncomputable section

namespace Cert.KernelIdeal.Talk

open Idealize.ShloMosaic hiding ix1 ix2 ix3
open Idealize.ShloMosaic.TcCoe Cert.KernelIdeal.Gen Idealize.ShloMosaic.Routing
open Idealize.ShloMosaic.ValueIdx

open Cert.ReferenceIdeal (S8192 S8192x1 S8192x1024 comparator_i32_i32_d0)

section Place

variable {blk : ℕ → IVec S4096 32}

/-- Whether row `n` of the whole array goes to the first shard, by its block. -/
def zeros (blk : ℕ → IVec S4096 32) (n : ℕ) : Bool := goes 0#32 (blk (n / 4096)) (n % 4096)

theorem zeros_at (p : ℕ) {k : ℕ} (hk : k < 4096) : zeros blk (4096 * p + k) = goes 0#32 (blk p) k := by
  unfold zeros
  rw [show (4096 * p + k) / 4096 = p by omega, show (4096 * p + k) % 4096 = k by omega]

/-- The rows of one block going to the first shard, counted in the whole array. -/
theorem zeros_block (p : ℕ) : ∀ j, j ≤ 4096 → Nat.count (fun k => zeros blk (4096 * p + k) = true) j = upto 0#32 (blk p) j
  | 0, _ => by unfold upto; rw [Nat.count_zero, Nat.count_zero]
  | j + 1, hj => by
    rw [Nat.count_succ, upto_succ, zeros_block p j (by omega), zeros_at p (by omega : j < 4096)]

theorem zeros_first {j : ℕ} (hj : j ≤ 4096) : Nat.count (fun k => zeros blk k = true) j = upto 0#32 (blk 0) j := by
  have h := zeros_block (blk := blk) 0 j hj
  simpa only [Nat.mul_zero, Nat.zero_add] using h

theorem zeros_second (h0 : Routed (blk 0)) {j : ℕ} (hj : j ≤ 4096) : Nat.count (fun k => zeros blk k = true) (4096 + j) = 2048 + upto 0#32 (blk 1) j := by
  rw [Nat.count_add, zeros_first le_rfl, h0.half]
  have h := zeros_block (blk := blk) 1 j hj
  rw [← h]

/-- Where the stable sort takes its row from: place `4096 v + 2048 p + r` holds the row of block `p` whose rank among the rows going to shard `v` is `r`. -/
theorem sorted_row {D : IVec S8192 32} (hD : ∀ p (hp : p < 2) (k : Fin 4096), D (ix1 ⟨4096 * p + k.val, by have := k.isLt; omega⟩) = blk p (ix1 k))
    (hR : ∀ p, p < 2 → Routed (blk p)) {p v k r : ℕ} (hp : p < 2) (hv : v < 2) (hk : k < 4096) (hg : goes (BitVec.ofNat 32 v) (blk p) k = true)
    (hr : upto (BitVec.ofNat 32 v) (blk p) k = r) (g P : Fin 8192) (hgv : g.val = 4096 * p + k) (hP : P.val = 4096 * v + 2048 * p + r) :
    sortedFrom (fun x y => decide (key D y < key D x)) P = g := by
  have hz : ∀ k : Fin 8192, D (ix1 k) = 0#32 ↔ zeros blk k.val = true := fun n => by
    have hn : n.val < 8192 := n.isLt
    have e := hD (n.val / 4096) (by omega) ⟨n.val % 4096, Nat.mod_lt _ (by decide)⟩
    have en : (⟨4096 * (n.val / 4096) + n.val % 4096, by omega⟩ : Fin 8192) = n := Fin.ext (by show 4096 * (n.val / 4096) + n.val % 4096 = n.val; omega)
    rw [en] at e
    rw [e]
    exact (goes_iff 0#32 (blk (n.val / 4096)) ⟨n.val % 4096, Nat.mod_lt _ (by decide)⟩).symm
  have h0 := hR 0 (by decide)
  have h1 := hR 1 (by decide)
  have hzg : zeros blk g.val = goes 0#32 (blk p) k := by rw [hgv]; exact zeros_at p hk
  have hall : Nat.count (fun k => zeros blk k = true) 8192 = 4096 := by
    have := zeros_second h0 (le_refl 4096)
    rw [h1.half] at this
    exact this
  have hadd := upto_add (hR p hp) k hk.le
  have hcnt : Nat.count (fun k => zeros blk k = true) g.val = 2048 * p + upto 0#32 (blk p) k := by
    rw [hgv]
    rcases (by omega : p = 0 ∨ p = 1) with rfl | rfl
    · have := zeros_first (blk := blk) hk.le
      simpa only [Nat.mul_zero, Nat.zero_add] using this
    · exact zeros_second h0 hk.le
  rcases (by omega : v = 0 ∨ v = 1) with rfl | rfl
  · refine place_zero hz (hzg.trans hg) (hcnt.trans ?_)
    have hr' : upto 0#32 (blk p) k = r := hr
    omega
  · refine place_one hz ?_ ?_
    · rw [hzg]; exact (goes_xor (hR p hp) hk).mp hg
    · have hr' : upto 1#32 (blk p) k = r := hr
      rw [hcnt, hall]
      omega

end Place

/-- The reference's result as its run states it. -/
def refOut (X : S8192x1024.Idx → EReal) (D : IVec S8192 32) : S8192x1024.Idx → EReal :=
  Host.gather Cert.ReferenceIdeal.gather_S8192x1024_S8192x1_S8192x1024_1_0_n_n_0_1_11024 X
    (broadcastInDim S8192x1 ![0] Cert.ReferenceIdeal.Gen.bcast_S8192_S8192x1_0
      (select (cmpi .slt ((Host.sort2 S8192 0 comparator_i32_i32_d0 D (iotaInDim S8192 32 0)).2) (broadcastInDim S8192 ![] Cert.ReferenceIdeal.Gen.bcast_S_S8192 (constantI S_ 32 0#32)))
        (addi ((Host.sort2 S8192 0 comparator_i32_i32_d0 D (iotaInDim S8192 32 0)).2) (broadcastInDim S8192 ![] Cert.ReferenceIdeal.Gen.bcast_S_S8192 (constantI S_ 32 8192#32)))
        ((Host.sort2 S8192 0 comparator_i32_i32_d0 D (iotaInDim S8192 32 0)).2)))

theorem wrap_at {n : ℕ} (h : S_.BroadcastsInDim (shape1 n) (![] : Fin 0 → Fin (shape1 n).rank)) (s : IVec (shape1 n) 32) (z w : BitVec 32) (p : Fin n) :
    select (cmpi .slt s (broadcastInDim (shape1 n) ![] h (constantI S_ 32 z))) (addi s (broadcastInDim (shape1 n) ![] h (constantI S_ 32 w))) s (ix1 p)
      = Scalar.select (IntOp.cmpi .slt (s (ix1 p)) z) (IntOp.addi (s (ix1 p)) w) (s (ix1 p)) := rfl

/-- The reference's result at an element: the row the sort puts there. -/
theorem refOut_at (X : S8192x1024.Idx → EReal) (D : IVec S8192 32) (hbin : ∀ k : Fin 8192, D (ix1 k) = 0#32 ∨ D (ix1 k) = 1#32) (P : Fin 8192) (l : Fin 1024) :
    refOut X D (ix2 P l) = X (ix2 (sortedFrom (fun x y => decide (key D y < key D x)) P) l) := by
  unfold refOut
  refine gather_row _ rfl rfl rfl rfl rfl X _ P l _ ?_ (by norm_num)
  refine (bcCol _ _ P).trans ((wrap_at _ _ _ _ P).trans ?_)
  rw [argsort_at hbin P]
  refine select_not (fun h => ?_) _ _
  have hb := (sortedFrom (fun x y => decide (key D y < key D x)) P).isLt
  have := (slt_small (b := 0) (by omega) (by norm_num)).mp h
  omega

end Cert.KernelIdeal.Talk
-- ==== Proof.Value.lean ====
/- The kernel's result is the reference's, block by block. -/
module

public import proofs.«01_k».proof.Proof.Rows
public import proofs.«01_k».proof.Proof.Place
public import proofs.«01_k».proof.Proof.Run

@[expose] public section

set_option maxRecDepth 65536

noncomputable section

namespace Cert.KernelIdeal.Talk

open Idealize.ShloMosaic hiding ix1 ix2 ix3
open Idealize.ShloMosaic.TcCoe Cert.KernelIdeal.Gen Idealize.ShloMosaic.Routing
open Idealize.ShloMosaic.ValueIdx

open Cert.ReferenceIdeal (S8192 S8192x1024)

section Any
variable {F : FTy → Type} [FloatOps F]
variable (m : (ℓ : Loc nD τ sig) → Buf (Elt F) ℓ)

/-- The result is the launch's output, reshaped to rows. -/
theorem Wc_v11 (c : Dev nD) :
    Wc m c (Proc.devRef .tc main_v11) = (shapeCast S4096x1024 (Ofin (Z m) (O m) c : Vec F S4096x8x128 .f32) shapeCasts_S4096x8x128_S4096x1024 : Vec F S4096x1024 .f32) := by
  unfold Wc Wb hostOps1
  after_reads_simp
  rfl

/-- Every output row is a row of the buffer of the reader's shard on a device whose block is the row's half. -/
theorem Ofin_at (Zf Of : Dev nD → Vec F S2560x8x128 .f32) (c : Dev nD) (i : S4096x8x128.Idx) :
    ∃ s : Dev nD, yy s = (i 0).val / 2048 ∧ Ofin Zf Of c i = (if yy c = 0 then Zf s else Of s) (sIx i) := by
  have hi : (i 0).val < 4096 := (i 0).isLt
  have hs : ∀ c : Dev nD, yy c < 2 := by decide
  have hyp : ∀ c : Dev nD, yy (yp c) = 1 - yy c := by decide
  have hxp : ∀ c : Dev nD, yy (xp c) = yy c := by decide
  have hc := hs c
  have hSB : ∀ s : Dev nD, yy s = 1 - yy c → SB Zf Of s = if yy c = 0 then Zf s else Of s := fun s h => by
    unfold SB
    split_ifs <;> first | rfl | omega
  unfold Ofin
  by_cases h1 : (i 0).val / 2048 = yy c
  · refine ⟨c, h1.symm, ?_⟩
    rw [if_pos h1]
    refine congrFun ?_ (sIx i)
    unfold KB
    split_ifs <;> first | rfl | omega
  · rw [if_neg h1]
    by_cases h2 : (i 0).val % 2048 / 256 % 2 = xx c
    · rw [if_pos h2]
      refine ⟨yp c, by rw [hyp]; omega, congrFun (hSB _ (hyp c)) _⟩
    · rw [if_neg h2]
      refine ⟨yp (xp c), by rw [hyp, hxp]; omega, congrFun (hSB _ (by rw [hyp, hxp])) _⟩

end Any

variable (m : (ℓ : Loc nD τ sig) → Buf (Elt Ideal) ℓ)

theorem bit_cases {y : ℕ} (hy : y < 2) : (BitVec.ofNat 32 y = 0#32 ∨ BitVec.ofNat 32 y = 1#32) := by
  rcases (by omega : y = 0 ∨ y = 1) with rfl | rfl
  · exact Or.inl rfl
  · exact Or.inr rfl

/-- The result of device `c` at a row: the row whose rank is the row's place in its half, of a device whose block is that half. -/
theorem Wc_at (hd : ∀ c, Routed (dst m c)) (c : Dev nD) (R : Fin 4096) (l : Fin 1024) :
    ∃ (s : Dev nD) (k : ℕ) (hk : k < 4096), yy s = R.val / 2048 ∧ goes (BitVec.ofNat 32 (yy c)) (dst m s) k = true
      ∧ upto (BitVec.ofNat 32 (yy c)) (dst m s) k = R.val % 2048
      ∧ (Wc m c (Proc.devRef .tc main_v11) : S4096x1024.Idx → EReal) (ix2 R l) = (m ((s : Thread nD τ).loc main_arg0) : S4096x1024.Idx → EReal) (ix2 ⟨k, hk⟩ l) := by
  have hR := R.isLt
  have hl := l.isLt
  have hy2 : yy c < 2 := Nat.mod_lt _ (by decide)
  obtain ⟨i, hi⟩ : ∃ i : S4096x8x128.Idx, i = ix3 (n0 := 4096) (n1 := 8) (n2 := 128) R ⟨l.val / 128, by omega⟩ ⟨l.val % 128, by omega⟩ := ⟨_, rfl⟩
  have i0 : (i 0).val = R.val := by rw [hi]
  have i1 : (i 1).val = l.val / 128 := by rw [hi]
  have i2 : (i 2).val = l.val % 128 := by rw [hi]
  have e : (Wc m c (Proc.devRef .tc main_v11) : S4096x1024.Idx → EReal) (ix2 R l) = Ofin (Z m) (O m) c i :=
    (congrFun (Wc_v11 m c) (ix2 R l)).trans (shapeCast_apply _ _ _ _ (by
      rw [Shape.rowMajor_val_two, Shape.rowMajor_val_three, hi]
      show (R.val * 8 + l.val / 128) * 128 + l.val % 128 = R.val * 1024 + l.val
      omega))
  obtain ⟨s, hs, ho⟩ := Ofin_at (Z m) (O m) c i
  obtain ⟨k, hk, hg, hr⟩ := exists_row (hd s) (bit_cases hy2) (Nat.mod_lt R.val (by decide : 0 < 2048))
  have hr2 : upto (BitVec.ofNat 32 (yy c)) (dst m s) k < 2048 := by rw [hr]; exact Nat.mod_lt _ (by decide)
  have hx0 : (sIx i 0).val = upto (BitVec.ofNat 32 (yy c)) (dst m s) k := by
    rw [hr, ← i0]; rfl
  have hx1 : l.val = 128 * (sIx i 1).val + (sIx i 2).val := by
    show l.val = 128 * (i 1).val + (i 2).val
    rw [i1, i2]; omega
  refine ⟨s, k, hk, by rw [hs, i0], hg, hr, e.trans (ho.trans ?_)⟩
  rcases (by omega : yy c = 0 ∨ yy c = 1) with hy | hy
  · rw [hy] at hg hr2 hx0
    rw [if_pos hy]
    exact Z_row m s (hd s) hk hg hr2 (sIx i) hx0 l hx1
  · rw [hy] at hg hr2 hx0
    rw [if_neg (by omega)]
    exact O_row m s (hd s) hk hg hr2 (sIx i) hx0 l hx1

/-- The blocks of the result: device `c` ends with the rows its shard of the sorted array has. -/
theorem Wc_ref (X : S8192x1024.Idx → EReal) (D : IVec S8192 32) (hd : ∀ c, Routed (dst m c))
    (hX : ∀ (c : Dev nD) (k : Fin 4096) (l : Fin 1024) (g : Fin 8192), g.val = 4096 * yy c + k.val →
      (m ((c : Thread nD τ).loc main_arg0) : S4096x1024.Idx → EReal) (ix2 k l) = X (ix2 g l))
    (hD : ∀ (c : Dev nD) (k : Fin 4096) (g : Fin 8192), g.val = 4096 * yy c + k.val → dst m c (ix1 k) = D (ix1 g))
    (c : Dev nD) (R : Fin 4096) (l : Fin 1024) (P : Fin 8192) (hP : P.val = 4096 * yy c + R.val) :
    (Wc m c (Proc.devRef .tc main_v11) : S4096x1024.Idx → EReal) (ix2 R l) = refOut X D (ix2 P l) := by
  have hR := R.isLt
  have hy2 : yy c < 2 := Nat.mod_lt _ (by decide)
  obtain ⟨s, k, hk, hs, hg, hr, e⟩ := Wc_at m hd c R l
  have hs2 : yy s < 2 := Nat.mod_lt _ (by decide)
  -- the two blocks of the destinations, by their number
  obtain ⟨dev, hdev⟩ : ∃ dev : ℕ → Dev nD, ∀ p, p < 2 → yy (dev p) = p :=
    ⟨fun p => if p = 0 then ⟨0, by decide⟩ else ⟨1, by decide⟩, fun p hp => by
      rcases (by omega : p = 0 ∨ p = 1) with rfl | rfl <;> rfl⟩
  have hblk : dst m (dev (yy s)) = dst m s := by
    funext i
    have hi : i = ix1 (n := 4096) (i 0) := by
      funext a
      match a with
      | ⟨0, _⟩ => rfl
    have hi0 : (i 0).val < 4096 := (i 0).isLt
    rw [hi]
    exact (hD (dev (yy s)) (i 0) ⟨4096 * yy s + (i 0).val, by omega⟩ (by rw [hdev _ hs2])).trans
      (hD s (i 0) ⟨4096 * yy s + (i 0).val, by omega⟩ rfl).symm
  have hbin : ∀ n : Fin 8192, D (ix1 n) = 0#32 ∨ D (ix1 n) = 1#32 := fun n => by
    have hn := n.isLt
    rw [← hD (dev (n.val / 4096)) ⟨n.val % 4096, Nat.mod_lt _ (by decide)⟩ n (by rw [hdev _ (by omega)]; exact (Nat.div_add_mod n.val 4096).symm)]
    exact (hd _).bin _
  rw [e, refOut_at X D hbin P l, hX s ⟨k, hk⟩ l ⟨4096 * yy s + k, by omega⟩ rfl]
  rw [sorted_row (blk := fun p => dst m (dev p)) (D := D)
    (fun p hp k => (hD (dev p) k _ (by rw [hdev p hp])).symm) (fun p _ => hd (dev p)) (r := R.val % 2048) hs2 hy2 hk
    (by show goes _ (dst m (dev (yy s))) k = true; rw [hblk]; exact hg)
    (by show upto _ (dst m (dev (yy s))) k = _; rw [hblk]; exact hr)
    ⟨4096 * yy s + k, by omega⟩ P rfl (by rw [hP, hs]; omega)]

end Cert.KernelIdeal.Talk
-- ==== Proof.Algebra.lean ====
/- The value claim: over the extended reals each device ends with its block of the reference's result. -/
module

public import proofs.«01_k».proof.Proof.Frames
public import proofs.«01_k».proof.Proof.Value
public import Idealize.ShloMosaic.Lib.Layout

@[expose] public section

set_option maxRecDepth 65536
set_option maxHeartbeats 2000000

noncomputable section

namespace Cert.Values

open Idealize.ShloMosaic hiding ix1 ix2 ix3
open Idealize.ShloMosaic.TcCoe Idealize.SL.Sem Idealize.ShloMosaic.ValueIdx
open Cert.KernelIdeal (nD τ sig main_arg0 main_arg1 main_v11 S4096 S4096x1024)
open Cert.ReferenceIdeal (S8192 S8192x1024)
open Cert.KernelIdeal.Talk (cnt dst run_main half_of yy Routed routed_of cnt_of_routed refOut Wc Wc_ref)

/-- The facts `routed` states of the whole arrays. -/
instance routed_whole_facts : Cert.Pre_routed_ReferenceIdeal.Facts where
  bcast_S_S8192 := by decide
  natLt_1_32 := by decide
  bcast_S_S_ := by decide
  reduceWindows_S8192_S8192_w8192s1p8191_0 := by decide
  h_S_ := by decide
  reducesTo_S8192_S_d0 := by decide

/-- A device's block along the rows is the one its second coordinate names. -/
theorem lin_rows : ∀ c : Dev nD, Layout.meshLin [2, 2] c.val [1] = yy c := by decide

/-- An entry of a device's block of a table, in the whole table. -/
theorem block_table {α : Type} (c : Dev nD) (X : S8192x1024.Idx → α) (k : Fin 4096) (l : Fin 1024) (g : Fin 8192) (hg : g.val = 4096 * yy c + k.val) :
    (Layout.blockN ⟨2, ![4096, 1024]⟩ ⟨2, ![8192, 1024]⟩ (Layout.meshBlock [2, 2] ![[1], []] c) X : S4096x1024.Idx → α) (ix2 k l) = X (ix2 g l) := by
  unfold Layout.blockN
  refine congrArg X (funext fun a => Fin.ext ?_)
  match a with
  | ⟨0, _⟩ =>
    show Layout.meshLin [2, 2] c.val [1] * 4096 + k.val = g.val
    rw [lin_rows, hg]; omega
  | ⟨1, _⟩ =>
    show 0 * 1024 + l.val = l.val
    omega

/-- An entry of a device's block of a vector, in the whole vector. -/
theorem block_vector {α : Type} (c : Dev nD) (D : S8192.Idx → α) (k : Fin 4096) (g : Fin 8192) (hg : g.val = 4096 * yy c + k.val) :
    (Layout.blockN ⟨1, ![4096]⟩ ⟨1, ![8192]⟩ (Layout.meshBlock [2, 2] ![[1]] c) D : S4096.Idx → α) (ix1 k) = D (ix1 g) := by
  unfold Layout.blockN
  refine congrArg D (funext fun a => Fin.ext ?_)
  match a with
  | ⟨0, _⟩ =>
    show Layout.meshLin [2, 2] c.val [1] * 4096 + k.val = g.val
    rw [lin_rows, hg]; omega

/-- From blocks of one array and one vector of destinations, a device's result is its block of the reference's result. -/
theorem result_block (m : (ℓ : Loc nD τ sig) → Buf (Elt Ideal) ℓ) (X : S8192x1024.Idx → EReal) (D : IVec S8192 32) (hd : ∀ c, Routed (dst m c))
    (hX : ∀ c : Dev nD, m ((c.tc : Thread nD τ).loc main_arg0) = Layout.blockN ⟨2, ![4096, 1024]⟩ ⟨2, ![8192, 1024]⟩ (Layout.meshBlock [2, 2] ![[1], []] c) X)
    (hD : ∀ c : Dev nD, m ((c.tc : Thread nD τ).loc main_arg1) = Layout.blockN ⟨1, ![4096]⟩ ⟨1, ![8192]⟩ (Layout.meshBlock [2, 2] ![[1]] c) D) (c : Dev nD) :
    (Wc m c (Proc.devRef .tc main_v11) : S4096x1024.Idx → EReal)
      = Layout.blockN ⟨2, ![4096, 1024]⟩ ⟨2, ![8192, 1024]⟩ (Layout.meshBlock [2, 2] ![[1], []] c) (refOut X D) := by
  funext i
  have hi : i = ix2 (n0 := 4096) (n1 := 1024) (i 0) (i 1) := by
    funext a
    match a with
    | ⟨0, _⟩ => rfl
    | ⟨1, _⟩ => rfl
  have hi0 : (i 0).val < 4096 := (i 0).isLt
  have hy2 : yy c < 2 := Nat.mod_lt _ (by decide)
  rw [hi]
  exact (Wc_ref m X D hd (fun c k l g hg => (congrFun (hX c) (ix2 k l)).trans (block_table c X k l g hg))
    (fun c k g hg => (congrFun (hD c) (ix1 k)).trans (block_vector c D k g hg)) c (i 0) (i 1) ⟨4096 * yy c + (i 0).val, by omega⟩ rfl).trans
    (block_table c (refOut X D) (i 0) (i 1) ⟨4096 * yy c + (i 0).val, by omega⟩ rfl).symm

/-- Under `routed`, both programs run and each device's result is its block of the reference's. -/
theorem algebraic : Cert.algebraic_KernelIdeal_ReferenceIdeal_pre_routed_KernelIdeal := fun m g m' g' hp hm => by
  have hd : ∀ c, Routed (dst m c) := fun c => routed_of _ _ (hp c)
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ⟨(h.1 c).2.2.trans (result_block m _ _ hd (fun c => (hm c).1) (fun c => (hm c).2) c), (h.1 c).1, (h.1 c).2.1⟩)
      (run_main m g (half_of m fun c => cnt_of_routed (hd c)))
  · exact (θ_run Cert.ReferenceIdeal.defs _ _).mono (fun r h => h 0) (Cert.ReferenceIdeal.Value.run (F := Ideal) m' g')

/-- The idealization's frame under `routed`. -/
theorem frame_routed : Cert.quiescent_KernelIdeal_pre_routed_KernelIdeal := fun m ρ hp =>
  Cert.Frames.frame_any (F := Ideal) m ρ fun c => cnt_of_routed (routed_of _ _ (hp c))

/-- The reference's frame, whatever is asked of its arguments. -/
theorem frame_reference_routed : Cert.quiescent_ReferenceIdeal_pre_routed_ReferenceIdeal := fun m ρ _ =>
  Cert.Frames.frame_referenceIdeal m ρ trivial

end Cert.Values
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The frames of the three programs, that the idealization is the kernel's own text, and that its result is the reference's. -/
theorem claim : Cert.Claim := ⟨Cert.Kernel.Gen.facts, Cert.KernelIdeal.Gen.facts, Cert.ReferenceIdeal.Gen.facts, Cert.Frames.half_facts,
  Cert.KernelIdeal.Talk.routed_facts, Cert.Values.routed_whole_facts,
  Cert.Frames.frame_kernel, Cert.Frames.frame_kernelIdeal, Cert.Values.frame_routed, Cert.Frames.frame_referenceIdeal,
  Cert.Values.frame_reference_routed, trivial, Cert.Values.algebraic⟩

end Cert.Proof

end
